-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S32768x1024 : Shape := ⟨2, ![32768, 1024]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .bf16) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  main_v4
-- ==== Kernel.lean ====
abbrev S32768x1024 : Shape := ⟨2, ![32768, 1024]⟩
abbrev S_ : Shape := ⟨0, ![]⟩
abbrev S64x64 : Shape := ⟨2, ![64, 64]⟩
abbrev S128x64 : Shape := ⟨2, ![128, 64]⟩
abbrev S128x128 : Shape := ⟨2, ![128, 128]⟩
abbrev S128x1x64 : Shape := ⟨3, ![128, 1, 64]⟩
abbrev S128x2x64 : Shape := ⟨3, ![128, 2, 64]⟩
abbrev S2x128x2x64x2 : Shape := ⟨5, ![2, 128, 2, 64, 2]⟩
abbrev S1x128x2x64x1 : Shape := ⟨5, ![1, 128, 2, 64, 1]⟩
abbrev S256x256 : Shape := ⟨2, ![256, 256]⟩
abbrev S128x1x128 : Shape := ⟨3, ![128, 1, 128]⟩
abbrev S128x2x128 : Shape := ⟨3, ![128, 2, 128]⟩
abbrev S2x128x2x128x2 : Shape := ⟨5, ![2, 128, 2, 128, 2]⟩
abbrev S1x128x2x128x1 : Shape := ⟨5, ![1, 128, 2, 128, 1]⟩
abbrev S256x512 : Shape := ⟨2, ![256, 512]⟩
abbrev S128x64x1 : Shape := ⟨3, ![128, 64, 1]⟩
abbrev S128x64x128 : Shape := ⟨3, ![128, 64, 128]⟩
abbrev S4x64x64x2x1024 : Shape := ⟨5, ![4, 64, 64, 2, 1024]⟩
abbrev S4x128x32x2x1024 : Shape := ⟨5, ![4, 128, 32, 2, 1024]⟩
abbrev S3x1x64x16x2x1024 : Shape := ⟨6, ![3, 1, 64, 16, 2, 1024]⟩
abbrev S3 : Shape := ⟨1, ![3]⟩
abbrev S2x32x64x128 : Shape := ⟨4, ![2, 32, 64, 128]⟩
abbrev S2 : Shape := ⟨1, ![2]⟩
abbrev S2x1x32x32x2x1024 : Shape := ⟨6, ![2, 1, 32, 32, 2, 1024]⟩
abbrev S1 : Shape := ⟨1, ![1]⟩
abbrev S1x1x64x16x2x1024 : Shape := ⟨6, ![1, 1, 64, 16, 2, 1024]⟩
abbrev S1x64x16x2x1024 : Shape := ⟨5, ![1, 64, 16, 2, 1024]⟩
abbrev S1x32x64x128 : Shape := ⟨4, ![1, 32, 64, 128]⟩
abbrev S32x64x128 : Shape := ⟨3, ![32, 64, 128]⟩
abbrev S64x16x2x1024 : Shape := ⟨4, ![64, 16, 2, 1024]⟩
abbrev S64x1x2x1024 : Shape := ⟨4, ![64, 1, 2, 1024]⟩
abbrev S64x2x1024 : Shape := ⟨3, ![64, 2, 1024]⟩
abbrev S128x1024 : Shape := ⟨2, ![128, 1024]⟩
abbrev S256x128 : Shape := ⟨2, ![256, 128]⟩
abbrev S128x512 : Shape := ⟨2, ![128, 512]⟩
abbrev S64x512 : Shape := ⟨2, ![64, 512]⟩
abbrev S1x64x128 : Shape := ⟨3, ![1, 64, 128]⟩
abbrev S64x128 : Shape := ⟨2, ![64, 128]⟩
abbrev S64x1024 : Shape := ⟨2, ![64, 1024]⟩
abbrev S32x2x1024 : Shape := ⟨3, ![32, 2, 1024]⟩
abbrev S1x1x32x32x2x1024 : Shape := ⟨6, ![1, 1, 32, 32, 2, 1024]⟩
abbrev S1x32x32x2x1024 : Shape := ⟨5, ![1, 32, 32, 2, 1024]⟩
abbrev S32x32x2x1024 : Shape := ⟨4, ![32, 32, 2, 1024]⟩
abbrev S1x32x2x1024 : Shape := ⟨4, ![1, 32, 2, 1024]⟩
abbrev S1x1x1x32x2x1024 : Shape := ⟨6, ![1, 1, 1, 32, 2, 1024]⟩
abbrev S4x64x128x512 : Shape := ⟨4, ![4, 64, 128, 512]⟩
abbrev S3x1x128x16x2x1024 : Shape := ⟨6, ![3, 1, 128, 16, 2, 1024]⟩
abbrev S2x1x32x128x512 : Shape := ⟨5, ![2, 1, 32, 128, 512]⟩
abbrev S1x1x128x16x2x1024 : Shape := ⟨6, ![1, 1, 128, 16, 2, 1024]⟩
abbrev S1x128x16x2x1024 : Shape := ⟨5, ![1, 128, 16, 2, 1024]⟩
abbrev S128x16x2x1024 : Shape := ⟨4, ![128, 16, 2, 1024]⟩
abbrev S128x1x2x1024 : Shape := ⟨4, ![128, 1, 2, 1024]⟩
abbrev S128x2x1024 : Shape := ⟨3, ![128, 2, 1024]⟩
abbrev S256x1024 : Shape := ⟨2, ![256, 1024]⟩
abbrev S1x1x32x128x512 : Shape := ⟨5, ![1, 1, 32, 128, 512]⟩
abbrev S1x32x128x512 : Shape := ⟨4, ![1, 32, 128, 512]⟩
abbrev S32x128x512 : Shape := ⟨3, ![32, 128, 512]⟩
abbrev S1x128x512 : Shape := ⟨3, ![1, 128, 512]⟩

abbrev nBuf : Space → Nat
  | .hbm => 91
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S64x64, .i32⟩
  | .hbm, ⟨6, _⟩ => ⟨S64x64, .i32⟩
  | .hbm, ⟨7, _⟩ => ⟨S64x64, .i32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S_, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S128x64, .i32⟩
  | .hbm, ⟨21, _⟩ => ⟨S128x64, .i32⟩
  | .hbm, ⟨22, _⟩ => ⟨S128x64, .i32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S_, .f32⟩
  | .hbm, ⟨27, _⟩ => ⟨S128x64, .f32⟩
  | .hbm, ⟨28, _⟩ => ⟨S128x64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S128x128, .i32⟩
  | .hbm, ⟨34, _⟩ => ⟨S128x128, .i32⟩
  | .hbm, ⟨35, _⟩ => ⟨S128x128, .i32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S_, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S128x64, .f32⟩
  | .hbm, ⟨51, _⟩ => ⟨S64x64, .f32⟩
  | .hbm, ⟨52, _⟩ => ⟨S128x64, .f32⟩
  | .hbm, ⟨53, _⟩ => ⟨S128x1x64, .f32⟩
  | .hbm, ⟨54, _⟩ => ⟨S128x1x64, .f32⟩
  | .hbm, ⟨55, _⟩ => ⟨S128x2x64, .f32⟩
  | .hbm, ⟨56, _⟩ => ⟨S2x128x2x64x2, .i32⟩
  | .hbm, ⟨57, _⟩ => ⟨S2x128x2x64x2, .i32⟩
  | .hbm, ⟨58, _⟩ => ⟨S2x128x2x64x2, .i1⟩
  | .hbm, ⟨59, _⟩ => ⟨S1x128x2x64x1, .f32⟩
  | .hbm, ⟨60, _⟩ => ⟨S_, .f32⟩
  | .hbm, ⟨61, _⟩ => ⟨S_, .f32⟩
  | .hbm, ⟨62, _⟩ => ⟨S2x128x2x64x2, .f32⟩
  | .hbm, ⟨63, _⟩ => ⟨S2x128x2x64x2, .f32⟩
  | .hbm, ⟨64, _⟩ => ⟨S2x128x2x64x2, .f32⟩
  | .hbm, ⟨65, _⟩ => ⟨S256x256, .f32⟩
  | .hbm, ⟨66, _⟩ => ⟨S128x128, .f32⟩
  | .hbm, ⟨67, _⟩ => ⟨S128x1x128, .f32⟩
  | .hbm, ⟨68, _⟩ => ⟨S128x1x128, .f32⟩
  | .hbm, ⟨69, _⟩ => ⟨S128x2x128, .f32⟩
  | .hbm, ⟨70, _⟩ => ⟨S2x128x2x128x2, .i32⟩
  | .hbm, ⟨71, _⟩ => ⟨S2x128x2x128x2, .i32⟩
  | .hbm, ⟨72, _⟩ => ⟨S2x128x2x128x2, .i1⟩
  | .hbm, ⟨73, _⟩ => ⟨S1x128x2x128x1, .f32⟩
  | .hbm, ⟨74, _⟩ => ⟨S_, .f32⟩
  | .hbm, ⟨75, _⟩ => ⟨S_, .f32⟩
  | .hbm, ⟨76, _⟩ => ⟨S2x128x2x128x2, .f32⟩
  | .hbm, ⟨77, _⟩ => ⟨S2x128x2x128x2, .f32⟩
  | .hbm, ⟨78, _⟩ => ⟨S2x128x2x128x2, .f32⟩
  | .hbm, ⟨79, _⟩ => ⟨S256x512, .f32⟩
  | .hbm, ⟨80, _⟩ => ⟨S128x64, .f32⟩
  | .hbm, ⟨81, _⟩ => ⟨S128x64x1, .f32⟩
  | .hbm, ⟨82, _⟩ => ⟨S128x64x128, .f32⟩
  | .hbm, ⟨83, _⟩ => ⟨S128x64, .f32⟩
  | .hbm, ⟨84, _⟩ => ⟨S128x64x1, .f32⟩
  | .hbm, ⟨85, _⟩ => ⟨S128x64x128, .f32⟩
  | .hbm, ⟨86, _⟩ => ⟨S256x256, .bf16⟩
  | .hbm, ⟨87, _⟩ => ⟨S256x512, .bf16⟩
  | .hbm, ⟨88, _⟩ => ⟨S4x64x64x2x1024, .bf16⟩
  | .hbm, ⟨89, _⟩ => ⟨S4x128x32x2x1024, .bf16⟩
  | .hbm, ⟨90, _⟩ => ⟨S4x64x128x512, .f32⟩
  | .local _ .vmem, ⟨0, _⟩ => ⟨S256x256, .bf16⟩
  | .local _ .vmem, ⟨1, _⟩ => ⟨S3x1x64x16x2x1024, .bf16⟩
  | .local _ .vmem, ⟨2, _⟩ => ⟨S2x32x64x128, .f32⟩
  | .local _ .vmem, ⟨3, _⟩ => ⟨S2x32x64x128, .f32⟩
  | .local _ .vmem, ⟨4, _⟩ => ⟨S2x1x32x32x2x1024, .bf16⟩
  | .local _ .vmem, ⟨5, _⟩ => ⟨S256x512, .bf16⟩
  | .local _ .vmem, ⟨6, _⟩ => ⟨S3x1x128x16x2x1024, .bf16⟩
  | .local _ .vmem, ⟨7, _⟩ => ⟨S2x1x32x128x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_7 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_8 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_9 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_10 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev cc0_stg0_0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩
abbrev cc0_scoped6 : Ref sig .tc := ⟨.vmem, 4, rfl⟩
abbrev cc1_stg0_0 : Ref sig .tc := ⟨.vmem, 5, rfl⟩
abbrev cc1_scoped0 : Ref sig .tc := ⟨.vmem, 6, rfl⟩
abbrev cc1_scoped2 : Ref sig .tc := ⟨.vmem, 7, rfl⟩
abbrev cc0_sem0_0 : DmaSem sig := 0
abbrev cc1_sem0_0 : DmaSem sig := 10

abbrev nD : Nat := 1
abbrev τ : Topo := Topo.v7x

variable {F : FTy → Type} [FloatOps F]

abbrev grid0 : Pipeline.Grid := .none

def k0_off1 : Fin 1 → Nat :=
  let c0_i32_37_r0 : BitVec 32 := 0#32
  let c3_i32_38_r0 : BitVec 32 := 3#32
  let v40_r0 : BitVec 32 := Scalar.remui c0_i32_37_r0 c3_i32_38_r0
  ![v40_r0.toNat]
def k0_off2 : Fin 6 → Nat :=
  let c0_i32_37_r0 : BitVec 32 := 0#32
  let c3_i32_38_r0 : BitVec 32 := 3#32
  let v40_r0 : BitVec 32 := Scalar.remui c0_i32_37_r0 c3_i32_38_r0
  let c0_i32_39_r0 : BitVec 32 := 0#32
  let c0_i32_40_r0 : BitVec 32 := 0#32
  let c0_i32_41_r0 : BitVec 32 := 0#32
  let c0_i32_42_r0 : BitVec 32 := 0#32
  let c0_i32_43_r0 : BitVec 32 := 0#32
  ![v40_r0.toNat, 0, 0, 0, 0, 0]
def k0_off3 : Fin 1 → Nat :=
  let c0_i32_51_r0 : BitVec 32 := 0#32
  let c2_i32_r0 : BitVec 32 := 2#32
  let v47_r0 : BitVec 32 := Scalar.remui c0_i32_51_r0 c2_i32_r0
  ![v47_r0.toNat]
def k0_off4 : Fin 4 → Nat :=
  let c0_i32_51_r0 : BitVec 32 := 0#32
  let c2_i32_r0 : BitVec 32 := 2#32
  let v47_r0 : BitVec 32 := Scalar.remui c0_i32_51_r0 c2_i32_r0
  let c0_i32_52_r0 : BitVec 32 := 0#32
  let c0_i32_53_r0 : BitVec 32 := 0#32
  let c0_i32_54_r0 : BitVec 32 := 0#32
  ![v47_r0.toNat, 0, 0, 0]
def k0_cond1 : BitVec 1 :=
  let true_72_r0 : BitVec 1 := 1#1
  let true_10_r0 : BitVec 1 := 1#1
  let c1_i32_r0 : BitVec 32 := 1#32
  let c0_i32_11_r0 : BitVec 32 := 0#32
  let v12_r0 : BitVec 32 := Scalar.select true_10_r0 c1_i32_r0 c0_i32_11_r0
  let c4_i32_r0 : BitVec 32 := 4#32
  let v13_r0 : BitVec 1 := Scalar.cmpi .eq v12_r0 c4_i32_r0
  let c1_i32_14_r0 : BitVec 32 := 1#32
  let c0_i32_13_r0 : BitVec 32 := 0#32
  let v15_r0 : BitVec 32 := Scalar.select v13_r0 c1_i32_14_r0 c0_i32_13_r0
  let c4_i32_15_r0 : BitVec 32 := 4#32
  let v16_r0 : BitVec 1 := Scalar.cmpi .eq v15_r0 c4_i32_15_r0
  let c0_i32_16_r0 : BitVec 32 := 0#32
  let v17_r0 : BitVec 32 := Scalar.select v16_r0 c0_i32_16_r0 v15_r0
  let c0_i32_17_r0 : BitVec 32 := 0#32
  let v18_r0 : BitVec 32 := Scalar.addi v17_r0 c0_i32_17_r0
  let c0_i32_70_r0 : BitVec 32 := 0#32
  let v61_r0 : BitVec 1 := Scalar.cmpi .ne v18_r0 c0_i32_70_r0
  let c0_i32_12_r0 : BitVec 32 := 0#32
  let v14_r0 : BitVec 32 := Scalar.select v13_r0 c0_i32_12_r0 v12_r0
  let c0_i32_18_r0 : BitVec 32 := 0#32
  let v19_r0 : BitVec 32 := Scalar.addi v14_r0 c0_i32_18_r0
  let c0_i32_71_r0 : BitVec 32 := 0#32
  let v62_r0 : BitVec 1 := Scalar.cmpi .ne v19_r0 c0_i32_71_r0
  let v63_r0 : BitVec 1 := Scalar.ori v61_r0 v62_r0
  let v64_r0 : BitVec 1 := Scalar.andi true_72_r0 v63_r0
  let true_73_r0 : BitVec 1 := 1#1
  let v65_r0 : BitVec 1 := Scalar.andi v64_r0 true_73_r0
  let v66_r0 : BitVec 32 := Scalar.extui v65_r0
  let c0_i32_74_r0 : BitVec 32 := 0#32
  let v67_r0 : BitVec 1 := Scalar.cmpi .ne v66_r0 c0_i32_74_r0
  v67_r0

def k0_off5 : Fin 1 → Nat :=
  let c0_i32_49_r0 : BitVec 32 := 0#32
  let c1_i32_50_r0 : BitVec 32 := 1#32
  let v46_r0 : BitVec 32 := Scalar.addi c0_i32_49_r0 c1_i32_50_r0
  let c3_i32_141_r0 : BitVec 32 := 3#32
  let v130_r0 : BitVec 32 := Scalar.remui v46_r0 c3_i32_141_r0
  ![v130_r0.toNat]
def k0_off6 : Fin 6 → Nat :=
  let c0_i32_49_r0 : BitVec 32 := 0#32
  let c1_i32_50_r0 : BitVec 32 := 1#32
  let v46_r0 : BitVec 32 := Scalar.addi c0_i32_49_r0 c1_i32_50_r0
  let c3_i32_141_r0 : BitVec 32 := 3#32
  let v130_r0 : BitVec 32 := Scalar.remui v46_r0 c3_i32_141_r0
  let c0_i32_144_r0 : BitVec 32 := 0#32
  let c0_i32_145_r0 : BitVec 32 := 0#32
  let c0_i32_146_r0 : BitVec 32 := 0#32
  let c0_i32_147_r0 : BitVec 32 := 0#32
  let c0_i32_148_r0 : BitVec 32 := 0#32
  ![v130_r0.toNat, 0, 0, 0, 0, 0]
def k0_off7 : Fin 5 → Nat :=
  let c1_i32_142_r0 : BitVec 32 := 1#32
  let true_10_r0 : BitVec 1 := 1#1
  let c1_i32_r0 : BitVec 32 := 1#32
  let c0_i32_11_r0 : BitVec 32 := 0#32
  let v12_r0 : BitVec 32 := Scalar.select true_10_r0 c1_i32_r0 c0_i32_11_r0
  let c4_i32_r0 : BitVec 32 := 4#32
  let v13_r0 : BitVec 1 := Scalar.cmpi .eq v12_r0 c4_i32_r0
  let c1_i32_14_r0 : BitVec 32 := 1#32
  let c0_i32_13_r0 : BitVec 32 := 0#32
  let v15_r0 : BitVec 32 := Scalar.select v13_r0 c1_i32_14_r0 c0_i32_13_r0
  let c4_i32_15_r0 : BitVec 32 := 4#32
  let v16_r0 : BitVec 1 := Scalar.cmpi .eq v15_r0 c4_i32_15_r0
  let c0_i32_16_r0 : BitVec 32 := 0#32
  let v17_r0 : BitVec 32 := Scalar.select v16_r0 c0_i32_16_r0 v15_r0
  let c0_i32_17_r0 : BitVec 32 := 0#32
  let v18_r0 : BitVec 32 := Scalar.addi v17_r0 c0_i32_17_r0
  let v131_r0 : BitVec 32 := Scalar.muli c1_i32_142_r0 v18_r0
  let c0_i32_149_r0 : BitVec 32 := 0#32
  let c16_i32_143_r0 : BitVec 32 := 16#32
  let c0_i32_12_r0 : BitVec 32 := 0#32
  let v14_r0 : BitVec 32 := Scalar.select v13_r0 c0_i32_12_r0 v12_r0
  let c0_i32_18_r0 : BitVec 32 := 0#32
  let v19_r0 : BitVec 32 := Scalar.addi v14_r0 c0_i32_18_r0
  let v132_r0 : BitVec 32 := Scalar.muli c16_i32_143_r0 v19_r0
  let c0_i32_150_r0 : BitVec 32 := 0#32
  let c0_i32_151_r0 : BitVec 32 := 0#32
  ![v131_r0.toNat, 0, v132_r0.toNat, 0, 0]
@[reducible] def k0_t1_loop : Scf.Loop 32 :=
  let c0_i32_83_r0 : BitVec 32 := 0#32
  let c16_i32_r0 : BitVec 32 := 16#32
  let v70_r0 : BitVec 32 := Scalar.addi c0_i32_83_r0 c16_i32_r0
  let c1_i32_84_r0 : BitVec 32 := 1#32
  ⟨c0_i32_83_r0, v70_r0, c1_i32_84_r0⟩
def k0_off8 (arg6_r0 : BitVec 32) : Fin 1 → Nat :=
  let c3_i32_1299_r0 : BitVec 32 := 3#32
  let v1444_r0 : BitVec 32 := Scalar.remui arg6_r0 c3_i32_1299_r0
  ![v1444_r0.toNat]
def k0_cond2 (k0_t1 : Fin k0_t1_loop.trips) (arg14_r0 : BitVec 32) (arg15_r0 : BitVec 32) : BitVec 1 :=
  let true_154_r0 : BitVec 1 := 1#1
  let c1_i32_153_r0 : BitVec 32 := 1#32
  let v144_r0 : BitVec 32 := Scalar.addi arg15_r0 c1_i32_153_r0
  let v145_r0 : BitVec 32 := Scalar.select true_154_r0 v144_r0 arg15_r0
  let c4_i32_155_r0 : BitVec 32 := 4#32
  let v146_r0 : BitVec 1 := Scalar.cmpi .eq v145_r0 c4_i32_155_r0
  let c1_i32_157_r0 : BitVec 32 := 1#32
  let v148_r0 : BitVec 32 := Scalar.addi arg14_r0 c1_i32_157_r0
  let v149_r0 : BitVec 32 := Scalar.select v146_r0 v148_r0 arg14_r0
  let c4_i32_158_r0 : BitVec 32 := 4#32
  let v150_r0 : BitVec 1 := Scalar.cmpi .eq v149_r0 c4_i32_158_r0
  let c0_i32_159_r0 : BitVec 32 := 0#32
  let v151_r0 : BitVec 32 := Scalar.select v150_r0 c0_i32_159_r0 v149_r0
  let c0_i32_160_r0 : BitVec 32 := 0#32
  let v152_r0 : BitVec 32 := Scalar.addi v151_r0 c0_i32_160_r0
  let true_163_r0 : BitVec 1 := 1#1
  let c0_i32_156_r0 : BitVec 32 := 0#32
  let v147_r0 : BitVec 32 := Scalar.select v146_r0 c0_i32_156_r0 v145_r0
  let c1_i32_162_r0 : BitVec 32 := 1#32
  let v154_r0 : BitVec 32 := Scalar.addi v147_r0 c1_i32_162_r0
  let v155_r0 : BitVec 32 := Scalar.select true_163_r0 v154_r0 v147_r0
  let c4_i32_164_r0 : BitVec 32 := 4#32
  let v156_r0 : BitVec 1 := Scalar.cmpi .eq v155_r0 c4_i32_164_r0
  let c1_i32_166_r0 : BitVec 32 := 1#32
  let v158_r0 : BitVec 32 := Scalar.addi v151_r0 c1_i32_166_r0
  let v159_r0 : BitVec 32 := Scalar.select v156_r0 v158_r0 v151_r0
  let c4_i32_167_r0 : BitVec 32 := 4#32
  let v160_r0 : BitVec 1 := Scalar.cmpi .eq v159_r0 c4_i32_167_r0
  let c0_i32_168_r0 : BitVec 32 := 0#32
  let v161_r0 : BitVec 32 := Scalar.select v160_r0 c0_i32_168_r0 v159_r0
  let c0_i32_169_r0 : BitVec 32 := 0#32
  let v162_r0 : BitVec 32 := Scalar.addi v161_r0 c0_i32_169_r0
  let v174_r0 : BitVec 1 := Scalar.cmpi .ne v152_r0 v162_r0
  let c0_i32_161_r0 : BitVec 32 := 0#32
  let v153_r0 : BitVec 32 := Scalar.addi v147_r0 c0_i32_161_r0
  let c0_i32_165_r0 : BitVec 32 := 0#32
  let v157_r0 : BitVec 32 := Scalar.select v156_r0 c0_i32_165_r0 v155_r0
  let c0_i32_170_r0 : BitVec 32 := 0#32
  let v163_r0 : BitVec 32 := Scalar.addi v157_r0 c0_i32_170_r0
  let v175_r0 : BitVec 1 := Scalar.cmpi .ne v153_r0 v163_r0
  let v176_r0 : BitVec 1 := Scalar.ori v174_r0 v175_r0
  let c0_i32_83_r0 : BitVec 32 := 0#32
  let c1_i32_84_r0 : BitVec 32 := 1#32
  let arg5_r0 : BitVec 32 := Scf.iv c0_i32_83_r0 c1_i32_84_r0 k0_t1
  let c14_i32_r0 : BitVec 32 := 14#32
  let v177_r0 : BitVec 1 := Scalar.cmpi .sge arg5_r0 c14_i32_r0
  let true_180_r0 : BitVec 1 := 1#1
  let v178_r0 : BitVec 1 := Scalar.xori v177_r0 true_180_r0
  let v179_r0 : BitVec 1 := Scalar.andi v176_r0 v178_r0
  let true_181_r0 : BitVec 1 := 1#1
  let v180_r0 : BitVec 1 := Scalar.andi v179_r0 true_181_r0
  let v181_r0 : BitVec 32 := Scalar.extui v180_r0
  let c0_i32_182_r0 : BitVec 32 := 0#32
  let v182_r0 : BitVec 1 := Scalar.cmpi .ne v181_r0 c0_i32_182_r0
  v182_r0

def k0_off9 (arg6_r0 : BitVec 32) : Fin 6 → Nat :=
  let c3_i32_1299_r0 : BitVec 32 := 3#32
  let v1444_r0 : BitVec 32 := Scalar.remui arg6_r0 c3_i32_1299_r0
  let c0_i32_1302_r0 : BitVec 32 := 0#32
  let c0_i32_1303_r0 : BitVec 32 := 0#32
  let c0_i32_1304_r0 : BitVec 32 := 0#32
  let c0_i32_1305_r0 : BitVec 32 := 0#32
  let c0_i32_1306_r0 : BitVec 32 := 0#32
  ![v1444_r0.toNat, 0, 0, 0, 0, 0]
def k0_off10 (arg14_r0 : BitVec 32) (arg15_r0 : BitVec 32) : Fin 5 → Nat :=
  let c1_i32_1300_r0 : BitVec 32 := 1#32
  let true_163_r0 : BitVec 1 := 1#1
  let true_154_r0 : BitVec 1 := 1#1
  let c1_i32_153_r0 : BitVec 32 := 1#32
  let v144_r0 : BitVec 32 := Scalar.addi arg15_r0 c1_i32_153_r0
  let v145_r0 : BitVec 32 := Scalar.select true_154_r0 v144_r0 arg15_r0
  let c4_i32_155_r0 : BitVec 32 := 4#32
  let v146_r0 : BitVec 1 := Scalar.cmpi .eq v145_r0 c4_i32_155_r0
  let c0_i32_156_r0 : BitVec 32 := 0#32
  let v147_r0 : BitVec 32 := Scalar.select v146_r0 c0_i32_156_r0 v145_r0
  let c1_i32_162_r0 : BitVec 32 := 1#32
  let v154_r0 : BitVec 32 := Scalar.addi v147_r0 c1_i32_162_r0
  let v155_r0 : BitVec 32 := Scalar.select true_163_r0 v154_r0 v147_r0
  let c4_i32_164_r0 : BitVec 32 := 4#32
  let v156_r0 : BitVec 1 := Scalar.cmpi .eq v155_r0 c4_i32_164_r0
  let c1_i32_157_r0 : BitVec 32 := 1#32
  let v148_r0 : BitVec 32 := Scalar.addi arg14_r0 c1_i32_157_r0
  let v149_r0 : BitVec 32 := Scalar.select v146_r0 v148_r0 arg14_r0
  let c4_i32_158_r0 : BitVec 32 := 4#32
  let v150_r0 : BitVec 1 := Scalar.cmpi .eq v149_r0 c4_i32_158_r0
  let c0_i32_159_r0 : BitVec 32 := 0#32
  let v151_r0 : BitVec 32 := Scalar.select v150_r0 c0_i32_159_r0 v149_r0
  let c1_i32_166_r0 : BitVec 32 := 1#32
  let v158_r0 : BitVec 32 := Scalar.addi v151_r0 c1_i32_166_r0
  let v159_r0 : BitVec 32 := Scalar.select v156_r0 v158_r0 v151_r0
  let c4_i32_167_r0 : BitVec 32 := 4#32
  let v160_r0 : BitVec 1 := Scalar.cmpi .eq v159_r0 c4_i32_167_r0
  let c0_i32_168_r0 : BitVec 32 := 0#32
  let v161_r0 : BitVec 32 := Scalar.select v160_r0 c0_i32_168_r0 v159_r0
  let c0_i32_169_r0 : BitVec 32 := 0#32
  let v162_r0 : BitVec 32 := Scalar.addi v161_r0 c0_i32_169_r0
  let v1445_r0 : BitVec 32 := Scalar.muli c1_i32_1300_r0 v162_r0
  let c0_i32_1307_r0 : BitVec 32 := 0#32
  let c16_i32_1301_r0 : BitVec 32 := 16#32
  let c0_i32_165_r0 : BitVec 32 := 0#32
  let v157_r0 : BitVec 32 := Scalar.select v156_r0 c0_i32_165_r0 v155_r0
  let c0_i32_170_r0 : BitVec 32 := 0#32
  let v163_r0 : BitVec 32 := Scalar.addi v157_r0 c0_i32_170_r0
  let v1446_r0 : BitVec 32 := Scalar.muli c16_i32_1301_r0 v163_r0
  let c0_i32_1308_r0 : BitVec 32 := 0#32
  let c0_i32_1309_r0 : BitVec 32 := 0#32
  ![v1445_r0.toNat, 0, v1446_r0.toNat, 0, 0]
def k0_off11 (arg8_r0 : BitVec 32) : Fin 1 → Nat :=
  let c2_i32_1299_r0 : BitVec 32 := 2#32
  let v1444_r0 : BitVec 32 := Scalar.remui arg8_r0 c2_i32_1299_r0
  ![v1444_r0.toNat]
def k0_cond3 (k0_t1 : Fin k0_t1_loop.trips) (arg15_r0 : BitVec 32) : BitVec 1 :=
  let c0_i32_143_r0 : BitVec 32 := 0#32
  let v133_r0 : BitVec 32 := Scalar.addi arg15_r0 c0_i32_143_r0
  let true_154_r0 : BitVec 1 := 1#1
  let c1_i32_153_r0 : BitVec 32 := 1#32
  let v144_r0 : BitVec 32 := Scalar.addi arg15_r0 c1_i32_153_r0
  let v145_r0 : BitVec 32 := Scalar.select true_154_r0 v144_r0 arg15_r0
  let c4_i32_155_r0 : BitVec 32 := 4#32
  let v146_r0 : BitVec 1 := Scalar.cmpi .eq v145_r0 c4_i32_155_r0
  let c0_i32_156_r0 : BitVec 32 := 0#32
  let v147_r0 : BitVec 32 := Scalar.select v146_r0 c0_i32_156_r0 v145_r0
  let c0_i32_161_r0 : BitVec 32 := 0#32
  let v153_r0 : BitVec 32 := Scalar.addi v147_r0 c0_i32_161_r0
  let v186_r0 : BitVec 1 := Scalar.cmpi .ne v133_r0 v153_r0
  let c0_i32_83_r0 : BitVec 32 := 0#32
  let c1_i32_84_r0 : BitVec 32 := 1#32
  let arg5_r0 : BitVec 32 := Scf.iv c0_i32_83_r0 c1_i32_84_r0 k0_t1
  let c15_i32_185_r0 : BitVec 32 := 15#32
  let v187_r0 : BitVec 1 := Scalar.cmpi .sge arg5_r0 c15_i32_185_r0
  let true_186_r0 : BitVec 1 := 1#1
  let v188_r0 : BitVec 1 := Scalar.xori v187_r0 true_186_r0
  let v189_r0 : BitVec 1 := Scalar.andi v186_r0 v188_r0
  let true_187_r0 : BitVec 1 := 1#1
  let v190_r0 : BitVec 1 := Scalar.andi v189_r0 true_187_r0
  let v191_r0 : BitVec 32 := Scalar.extui v190_r0
  let c0_i32_188_r0 : BitVec 32 := 0#32
  let v192_r0 : BitVec 1 := Scalar.cmpi .ne v191_r0 c0_i32_188_r0
  v192_r0

def k0_off12 (arg8_r0 : BitVec 32) : Fin 4 → Nat :=
  let c2_i32_1299_r0 : BitVec 32 := 2#32
  let v1444_r0 : BitVec 32 := Scalar.remui arg8_r0 c2_i32_1299_r0
  let c0_i32_1301_r0 : BitVec 32 := 0#32
  let c0_i32_1302_r0 : BitVec 32 := 0#32
  let c0_i32_1303_r0 : BitVec 32 := 0#32
  ![v1444_r0.toNat, 0, 0, 0]
def k0_off13 (arg15_r0 : BitVec 32) : Fin 3 → Nat :=
  let c32_i32_1300_r0 : BitVec 32 := 32#32
  let true_154_r0 : BitVec 1 := 1#1
  let c1_i32_153_r0 : BitVec 32 := 1#32
  let v144_r0 : BitVec 32 := Scalar.addi arg15_r0 c1_i32_153_r0
  let v145_r0 : BitVec 32 := Scalar.select true_154_r0 v144_r0 arg15_r0
  let c4_i32_155_r0 : BitVec 32 := 4#32
  let v146_r0 : BitVec 1 := Scalar.cmpi .eq v145_r0 c4_i32_155_r0
  let c0_i32_156_r0 : BitVec 32 := 0#32
  let v147_r0 : BitVec 32 := Scalar.select v146_r0 c0_i32_156_r0 v145_r0
  let c0_i32_161_r0 : BitVec 32 := 0#32
  let v153_r0 : BitVec 32 := Scalar.addi v147_r0 c0_i32_161_r0
  let v1445_r0 : BitVec 32 := Scalar.muli c32_i32_1300_r0 v153_r0
  let c0_i32_1304_r0 : BitVec 32 := 0#32
  let c0_i32_1305_r0 : BitVec 32 := 0#32
  ![v1445_r0.toNat, 0, 0]
def k0_off14 (arg10_r0 : BitVec 32) : Fin 1 → Nat :=
  let c2_i32_1299_r0 : BitVec 32 := 2#32
  let v1444_r0 : BitVec 32 := Scalar.remui arg10_r0 c2_i32_1299_r0
  ![v1444_r0.toNat]
def k0_cond4 (k0_t1 : Fin k0_t1_loop.trips) (arg15_r0 : BitVec 32) : BitVec 1 :=
  let c0_i32_143_r0 : BitVec 32 := 0#32
  let v133_r0 : BitVec 32 := Scalar.addi arg15_r0 c0_i32_143_r0
  let true_154_r0 : BitVec 1 := 1#1
  let c1_i32_153_r0 : BitVec 32 := 1#32
  let v144_r0 : BitVec 32 := Scalar.addi arg15_r0 c1_i32_153_r0
  let v145_r0 : BitVec 32 := Scalar.select true_154_r0 v144_r0 arg15_r0
  let c4_i32_155_r0 : BitVec 32 := 4#32
  let v146_r0 : BitVec 1 := Scalar.cmpi .eq v145_r0 c4_i32_155_r0
  let c0_i32_156_r0 : BitVec 32 := 0#32
  let v147_r0 : BitVec 32 := Scalar.select v146_r0 c0_i32_156_r0 v145_r0
  let c0_i32_161_r0 : BitVec 32 := 0#32
  let v153_r0 : BitVec 32 := Scalar.addi v147_r0 c0_i32_161_r0
  let v196_r0 : BitVec 1 := Scalar.cmpi .ne v133_r0 v153_r0
  let c0_i32_83_r0 : BitVec 32 := 0#32
  let c1_i32_84_r0 : BitVec 32 := 1#32
  let arg5_r0 : BitVec 32 := Scf.iv c0_i32_83_r0 c1_i32_84_r0 k0_t1
  let c15_i32_191_r0 : BitVec 32 := 15#32
  let v197_r0 : BitVec 1 := Scalar.cmpi .sge arg5_r0 c15_i32_191_r0
  let true_192_r0 : BitVec 1 := 1#1
  let v198_r0 : BitVec 1 := Scalar.xori v197_r0 true_192_r0
  let v199_r0 : BitVec 1 := Scalar.andi v196_r0 v198_r0
  let true_193_r0 : BitVec 1 := 1#1
  let v200_r0 : BitVec 1 := Scalar.andi v199_r0 true_193_r0
  let v201_r0 : BitVec 32 := Scalar.extui v200_r0
  let c0_i32_194_r0 : BitVec 32 := 0#32
  let v202_r0 : BitVec 1 := Scalar.cmpi .ne v201_r0 c0_i32_194_r0
  v202_r0

def k0_off15 (arg10_r0 : BitVec 32) : Fin 4 → Nat :=
  let c2_i32_1299_r0 : BitVec 32 := 2#32
  let v1444_r0 : BitVec 32 := Scalar.remui arg10_r0 c2_i32_1299_r0
  let c0_i32_1301_r0 : BitVec 32 := 0#32
  let c0_i32_1302_r0 : BitVec 32 := 0#32
  let c0_i32_1303_r0 : BitVec 32 := 0#32
  ![v1444_r0.toNat, 0, 0, 0]
def k0_off16 (arg15_r0 : BitVec 32) : Fin 3 → Nat :=
  let c32_i32_1300_r0 : BitVec 32 := 32#32
  let true_154_r0 : BitVec 1 := 1#1
  let c1_i32_153_r0 : BitVec 32 := 1#32
  let v144_r0 : BitVec 32 := Scalar.addi arg15_r0 c1_i32_153_r0
  let v145_r0 : BitVec 32 := Scalar.select true_154_r0 v144_r0 arg15_r0
  let c4_i32_155_r0 : BitVec 32 := 4#32
  let v146_r0 : BitVec 1 := Scalar.cmpi .eq v145_r0 c4_i32_155_r0
  let c0_i32_156_r0 : BitVec 32 := 0#32
  let v147_r0 : BitVec 32 := Scalar.select v146_r0 c0_i32_156_r0 v145_r0
  let c0_i32_161_r0 : BitVec 32 := 0#32
  let v153_r0 : BitVec 32 := Scalar.addi v147_r0 c0_i32_161_r0
  let v1445_r0 : BitVec 32 := Scalar.muli c32_i32_1300_r0 v153_r0
  let c0_i32_1304_r0 : BitVec 32 := 0#32
  let c0_i32_1305_r0 : BitVec 32 := 0#32
  ![v1445_r0.toNat, 0, 0]
def k0_off17 (arg7_r0 : BitVec 32) : Fin 1 → Nat :=
  let c3_i32_1301_r0 : BitVec 32 := 3#32
  let v1446_r0 : BitVec 32 := Scalar.remui arg7_r0 c3_i32_1301_r0
  ![v1446_r0.toNat]
def k0_cond5 (k0_t1 : Fin k0_t1_loop.trips) (arg14_r0 : BitVec 32) (arg15_r0 : BitVec 32) : BitVec 1 :=
  let c0_i32_142_r0 : BitVec 32 := 0#32
  let v132_r0 : BitVec 32 := Scalar.addi arg14_r0 c0_i32_142_r0
  let true_145_r0 : BitVec 1 := 1#1
  let c1_i32_144_r0 : BitVec 32 := 1#32
  let v134_r0 : BitVec 32 := Scalar.subi arg15_r0 c1_i32_144_r0
  let v135_r0 : BitVec 32 := Scalar.select true_145_r0 v134_r0 arg15_r0
  let c_m1_i32_146_r0 : BitVec 32 := 4294967295#32
  let v136_r0 : BitVec 1 := Scalar.cmpi .eq v135_r0 c_m1_i32_146_r0
  let c1_i32_148_r0 : BitVec 32 := 1#32
  let v138_r0 : BitVec 32 := Scalar.subi arg14_r0 c1_i32_148_r0
  let v139_r0 : BitVec 32 := Scalar.select v136_r0 v138_r0 arg14_r0
  let c_m1_i32_149_r0 : BitVec 32 := 4294967295#32
  let v140_r0 : BitVec 1 := Scalar.cmpi .eq v139_r0 c_m1_i32_149_r0
  let c3_i32_150_r0 : BitVec 32 := 3#32
  let v141_r0 : BitVec 32 := Scalar.select v140_r0 c3_i32_150_r0 v139_r0
  let c0_i32_151_r0 : BitVec 32 := 0#32
  let v142_r0 : BitVec 32 := Scalar.addi v141_r0 c0_i32_151_r0
  let v212_r0 : BitVec 1 := Scalar.cmpi .ne v132_r0 v142_r0
  let c0_i32_143_r0 : BitVec 32 := 0#32
  let v133_r0 : BitVec 32 := Scalar.addi arg15_r0 c0_i32_143_r0
  let c3_i32_147_r0 : BitVec 32 := 3#32
  let v137_r0 : BitVec 32 := Scalar.select v136_r0 c3_i32_147_r0 v135_r0
  let c0_i32_152_r0 : BitVec 32 := 0#32
  let v143_r0 : BitVec 32 := Scalar.addi v137_r0 c0_i32_152_r0
  let v213_r0 : BitVec 1 := Scalar.cmpi .ne v133_r0 v143_r0
  let v214_r0 : BitVec 1 := Scalar.ori v212_r0 v213_r0
  let c0_i32_83_r0 : BitVec 32 := 0#32
  let c1_i32_84_r0 : BitVec 32 := 1#32
  let arg5_r0 : BitVec 32 := Scf.iv c0_i32_83_r0 c1_i32_84_r0 k0_t1
  let c0_i32_141_r0 : BitVec 32 := 0#32
  let v130_r0 : BitVec 1 := Scalar.cmpi .eq arg5_r0 c0_i32_141_r0
  let v215_r0 : BitVec 1 := Scalar.ori v214_r0 v130_r0
  let c0_i32_199_r0 : BitVec 32 := 0#32
  let v216_r0 : BitVec 1 := Scalar.cmpi .sge arg5_r0 c0_i32_199_r0
  let v217_r0 : BitVec 1 := Scalar.andi v215_r0 v216_r0
  let v218_r0 : BitVec 32 := Scalar.extui v217_r0
  let c0_i32_200_r0 : BitVec 32 := 0#32
  let v219_r0 : BitVec 1 := Scalar.cmpi .ne v218_r0 c0_i32_200_r0
  v219_r0

def k0_off18 (arg7_r0 : BitVec 32) : Fin 6 → Nat :=
  let c3_i32_1301_r0 : BitVec 32 := 3#32
  let v1446_r0 : BitVec 32 := Scalar.remui arg7_r0 c3_i32_1301_r0
  let c0_i32_1302_r0 : BitVec 32 := 0#32
  let c0_i32_1303_r0 : BitVec 32 := 0#32
  let c0_i32_1304_r0 : BitVec 32 := 0#32
  let c0_i32_1305_r0 : BitVec 32 := 0#32
  let c0_i32_1306_r0 : BitVec 32 := 0#32
  ![v1446_r0.toNat, 0, 0, 0, 0, 0]
def k0_off19 (arg14_r0 : BitVec 32) (arg15_r0 : BitVec 32) : Fin 5 → Nat :=
  let c1_i32_1299_r0 : BitVec 32 := 1#32
  let c0_i32_142_r0 : BitVec 32 := 0#32
  let v132_r0 : BitVec 32 := Scalar.addi arg14_r0 c0_i32_142_r0
  let v1444_r0 : BitVec 32 := Scalar.muli c1_i32_1299_r0 v132_r0
  let c0_i32_1307_r0 : BitVec 32 := 0#32
  let c16_i32_1300_r0 : BitVec 32 := 16#32
  let c0_i32_143_r0 : BitVec 32 := 0#32
  let v133_r0 : BitVec 32 := Scalar.addi arg15_r0 c0_i32_143_r0
  let v1445_r0 : BitVec 32 := Scalar.muli c16_i32_1300_r0 v133_r0
  let c0_i32_1308_r0 : BitVec 32 := 0#32
  let c0_i32_1309_r0 : BitVec 32 := 0#32
  ![v1444_r0.toNat, 0, v1445_r0.toNat, 0, 0]
def k0_off20 (arg9_r0 : BitVec 32) : Fin 1 → Nat :=
  let c2_i32_1300_r0 : BitVec 32 := 2#32
  let v1445_r0 : BitVec 32 := Scalar.remui arg9_r0 c2_i32_1300_r0
  ![v1445_r0.toNat]
def k0_cond6 (k0_t1 : Fin k0_t1_loop.trips) (arg15_r0 : BitVec 32) : BitVec 1 :=
  let c0_i32_143_r0 : BitVec 32 := 0#32
  let v133_r0 : BitVec 32 := Scalar.addi arg15_r0 c0_i32_143_r0
  let true_145_r0 : BitVec 1 := 1#1
  let c1_i32_144_r0 : BitVec 32 := 1#32
  let v134_r0 : BitVec 32 := Scalar.subi arg15_r0 c1_i32_144_r0
  let v135_r0 : BitVec 32 := Scalar.select true_145_r0 v134_r0 arg15_r0
  let c_m1_i32_146_r0 : BitVec 32 := 4294967295#32
  let v136_r0 : BitVec 1 := Scalar.cmpi .eq v135_r0 c_m1_i32_146_r0
  let c3_i32_147_r0 : BitVec 32 := 3#32
  let v137_r0 : BitVec 32 := Scalar.select v136_r0 c3_i32_147_r0 v135_r0
  let c0_i32_152_r0 : BitVec 32 := 0#32
  let v143_r0 : BitVec 32 := Scalar.addi v137_r0 c0_i32_152_r0
  let v220_r0 : BitVec 1 := Scalar.cmpi .ne v133_r0 v143_r0
  let c0_i32_83_r0 : BitVec 32 := 0#32
  let c1_i32_84_r0 : BitVec 32 := 1#32
  let arg5_r0 : BitVec 32 := Scf.iv c0_i32_83_r0 c1_i32_84_r0 k0_t1
  let c0_i32_141_r0 : BitVec 32 := 0#32
  let v130_r0 : BitVec 1 := Scalar.cmpi .eq arg5_r0 c0_i32_141_r0
  let v221_r0 : BitVec 1 := Scalar.ori v220_r0 v130_r0
  let c0_i32_201_r0 : BitVec 32 := 0#32
  let v222_r0 : BitVec 1 := Scalar.cmpi .sge arg5_r0 c0_i32_201_r0
  let v223_r0 : BitVec 1 := Scalar.andi v221_r0 v222_r0
  let v224_r0 : BitVec 32 := Scalar.extui v223_r0
  let c0_i32_202_r0 : BitVec 32 := 0#32
  let v225_r0 : BitVec 1 := Scalar.cmpi .ne v224_r0 c0_i32_202_r0
  v225_r0

def k0_off21 (arg9_r0 : BitVec 32) : Fin 4 → Nat :=
  let c2_i32_1300_r0 : BitVec 32 := 2#32
  let v1445_r0 : BitVec 32 := Scalar.remui arg9_r0 c2_i32_1300_r0
  let c0_i32_1301_r0 : BitVec 32 := 0#32
  let c0_i32_1302_r0 : BitVec 32 := 0#32
  let c0_i32_1303_r0 : BitVec 32 := 0#32
  ![v1445_r0.toNat, 0, 0, 0]
def k0_off22 (arg15_r0 : BitVec 32) : Fin 3 → Nat :=
  let c32_i32_1299_r0 : BitVec 32 := 32#32
  let c0_i32_143_r0 : BitVec 32 := 0#32
  let v133_r0 : BitVec 32 := Scalar.addi arg15_r0 c0_i32_143_r0
  let v1444_r0 : BitVec 32 := Scalar.muli c32_i32_1299_r0 v133_r0
  let c0_i32_1304_r0 : BitVec 32 := 0#32
  let c0_i32_1305_r0 : BitVec 32 := 0#32
  ![v1444_r0.toNat, 0, 0]
def k0_off23 (arg11_r0 : BitVec 32) : Fin 1 → Nat :=
  let c2_i32_1300_r0 : BitVec 32 := 2#32
  let v1445_r0 : BitVec 32 := Scalar.remui arg11_r0 c2_i32_1300_r0
  ![v1445_r0.toNat]
def k0_cond7 (k0_t1 : Fin k0_t1_loop.trips) (arg15_r0 : BitVec 32) : BitVec 1 :=
  let c0_i32_143_r0 : BitVec 32 := 0#32
  let v133_r0 : BitVec 32 := Scalar.addi arg15_r0 c0_i32_143_r0
  let true_145_r0 : BitVec 1 := 1#1
  let c1_i32_144_r0 : BitVec 32 := 1#32
  let v134_r0 : BitVec 32 := Scalar.subi arg15_r0 c1_i32_144_r0
  let v135_r0 : BitVec 32 := Scalar.select true_145_r0 v134_r0 arg15_r0
  let c_m1_i32_146_r0 : BitVec 32 := 4294967295#32
  let v136_r0 : BitVec 1 := Scalar.cmpi .eq v135_r0 c_m1_i32_146_r0
  let c3_i32_147_r0 : BitVec 32 := 3#32
  let v137_r0 : BitVec 32 := Scalar.select v136_r0 c3_i32_147_r0 v135_r0
  let c0_i32_152_r0 : BitVec 32 := 0#32
  let v143_r0 : BitVec 32 := Scalar.addi v137_r0 c0_i32_152_r0
  let v226_r0 : BitVec 1 := Scalar.cmpi .ne v133_r0 v143_r0
  let c0_i32_83_r0 : BitVec 32 := 0#32
  let c1_i32_84_r0 : BitVec 32 := 1#32
  let arg5_r0 : BitVec 32 := Scf.iv c0_i32_83_r0 c1_i32_84_r0 k0_t1
  let c0_i32_141_r0 : BitVec 32 := 0#32
  let v130_r0 : BitVec 1 := Scalar.cmpi .eq arg5_r0 c0_i32_141_r0
  let v227_r0 : BitVec 1 := Scalar.ori v226_r0 v130_r0
  let c0_i32_203_r0 : BitVec 32 := 0#32
  let v228_r0 : BitVec 1 := Scalar.cmpi .sge arg5_r0 c0_i32_203_r0
  let v229_r0 : BitVec 1 := Scalar.andi v227_r0 v228_r0
  let v230_r0 : BitVec 32 := Scalar.extui v229_r0
  let c0_i32_204_r0 : BitVec 32 := 0#32
  let v231_r0 : BitVec 1 := Scalar.cmpi .ne v230_r0 c0_i32_204_r0
  v231_r0

def k0_off24 (arg11_r0 : BitVec 32) : Fin 4 → Nat :=
  let c2_i32_1300_r0 : BitVec 32 := 2#32
  let v1445_r0 : BitVec 32 := Scalar.remui arg11_r0 c2_i32_1300_r0
  let c0_i32_1301_r0 : BitVec 32 := 0#32
  let c0_i32_1302_r0 : BitVec 32 := 0#32
  let c0_i32_1303_r0 : BitVec 32 := 0#32
  ![v1445_r0.toNat, 0, 0, 0]
def k0_off25 (arg15_r0 : BitVec 32) : Fin 3 → Nat :=
  let c32_i32_1299_r0 : BitVec 32 := 32#32
  let c0_i32_143_r0 : BitVec 32 := 0#32
  let v133_r0 : BitVec 32 := Scalar.addi arg15_r0 c0_i32_143_r0
  let v1444_r0 : BitVec 32 := Scalar.muli c32_i32_1299_r0 v133_r0
  let c0_i32_1304_r0 : BitVec 32 := 0#32
  let c0_i32_1305_r0 : BitVec 32 := 0#32
  ![v1444_r0.toNat, 0, 0]
def k0_off26 (arg7_r0 : BitVec 32) : Fin 6 → Nat :=
  let c3_i32_207_r0 : BitVec 32 := 3#32
  let v240_r0 : BitVec 32 := Scalar.remui arg7_r0 c3_i32_207_r0
  let c0_i32_212_r0 : BitVec 32 := 0#32
  let c0_i32_213_r0 : BitVec 32 := 0#32
  let c0_i32_214_r0 : BitVec 32 := 0#32
  let c0_i32_215_r0 : BitVec 32 := 0#32
  let c0_i32_216_r0 : BitVec 32 := 0#32
  ![v240_r0.toNat, 0, 0, 0, 0, 0]

def k0_off27 (arg9_r0 : BitVec 32) : Fin 4 → Nat :=
  let c2_i32_208_r0 : BitVec 32 := 2#32
  let v241_r0 : BitVec 32 := Scalar.remui arg9_r0 c2_i32_208_r0
  let c0_i32_227_r0 : BitVec 32 := 0#32
  let c0_i32_228_r0 : BitVec 32 := 0#32
  let c0_i32_229_r0 : BitVec 32 := 0#32
  ![v241_r0.toNat, 0, 0, 0]

def k0_off28 (arg11_r0 : BitVec 32) : Fin 4 → Nat :=
  let c2_i32_209_r0 : BitVec 32 := 2#32
  let v242_r0 : BitVec 32 := Scalar.remui arg11_r0 c2_i32_209_r0
  let c0_i32_233_r0 : BitVec 32 := 0#32
  let c0_i32_234_r0 : BitVec 32 := 0#32
  let c0_i32_235_r0 : BitVec 32 := 0#32
  ![v242_r0.toNat, 0, 0, 0]

def k0_off29 (arg12_r0 : BitVec 32) : Fin 6 → Nat :=
  let c2_i32_210_r0 : BitVec 32 := 2#32
  let v243_r0 : BitVec 32 := Scalar.remui arg12_r0 c2_i32_210_r0
  let c0_i32_239_r0 : BitVec 32 := 0#32
  let c0_i32_240_r0 : BitVec 32 := 0#32
  let c0_i32_241_r0 : BitVec 32 := 0#32
  let c0_i32_242_r0 : BitVec 32 := 0#32
  let c0_i32_243_r0 : BitVec 32 := 0#32
  ![v243_r0.toNat, 0, 0, 0, 0, 0]

def k0_off30 (arg12_r0 : BitVec 32) : Fin 6 → Nat :=
  let c2_i32_210_r0 : BitVec 32 := 2#32
  let v243_r0 : BitVec 32 := Scalar.remui arg12_r0 c2_i32_210_r0
  let c0_i32_239_r0 : BitVec 32 := 0#32
  let c0_i32_240_r0 : BitVec 32 := 0#32
  let c0_i32_241_r0 : BitVec 32 := 0#32
  let c0_i32_242_r0 : BitVec 32 := 0#32
  let c0_i32_243_r0 : BitVec 32 := 0#32
  ![v243_r0.toNat, 0, 0, 0, 0, 0]
def k0_off31 (arg9_r0 : BitVec 32) : Fin 4 → Nat :=
  let c2_i32_208_r0 : BitVec 32 := 2#32
  let v241_r0 : BitVec 32 := Scalar.remui arg9_r0 c2_i32_208_r0
  let c0_i32_253_r0 : BitVec 32 := 0#32
  let c0_i32_254_r0 : BitVec 32 := 0#32
  let c0_i32_255_r0 : BitVec 32 := 0#32
  ![v241_r0.toNat, 0, 0, 0]

def k0_chk3 (arg9_r0 : BitVec 32) : Prop :=
  (∀ a, (k0_off27 arg9_r0) a + S1x32x64x128.size a ≤ S2x32x64x128.size a) ∧
  (∀ a, (k0_off31 arg9_r0) a + S1x32x64x128.size a ≤ S2x32x64x128.size a)
theorem k0_off27_inb : ∀ (arg9_r0 : BitVec 32) (k0_hw3 : k0_chk3 arg9_r0), ∀ a, (k0_off27 arg9_r0) a + S1x32x64x128.size a ≤ S2x32x64x128.size a := fun arg9_r0 k0_hw3 => k0_hw3.1
theorem k0_off31_inb : ∀ (arg9_r0 : BitVec 32) (k0_hw3 : k0_chk3 arg9_r0), ∀ a, (k0_off31 arg9_r0) a + S1x32x64x128.size a ≤ S2x32x64x128.size a := fun arg9_r0 k0_hw3 => k0_hw3.2

def k0_off32 (arg11_r0 : BitVec 32) : Fin 4 → Nat :=
  let c2_i32_209_r0 : BitVec 32 := 2#32
  let v242_r0 : BitVec 32 := Scalar.remui arg11_r0 c2_i32_209_r0
  let c0_i32_258_r0 : BitVec 32 := 0#32
  let c0_i32_259_r0 : BitVec 32 := 0#32
  let c0_i32_260_r0 : BitVec 32 := 0#32
  ![v242_r0.toNat, 0, 0, 0]

def k0_chk4 (arg11_r0 : BitVec 32) : Prop :=
  (∀ a, (k0_off28 arg11_r0) a + S1x32x64x128.size a ≤ S2x32x64x128.size a) ∧
  (∀ a, (k0_off32 arg11_r0) a + S1x32x64x128.size a ≤ S2x32x64x128.size a)
theorem k0_off28_inb : ∀ (arg11_r0 : BitVec 32) (k0_hw4 : k0_chk4 arg11_r0), ∀ a, (k0_off28 arg11_r0) a + S1x32x64x128.size a ≤ S2x32x64x128.size a := fun arg11_r0 k0_hw4 => k0_hw4.1
theorem k0_off32_inb : ∀ (arg11_r0 : BitVec 32) (k0_hw4 : k0_chk4 arg11_r0), ∀ a, (k0_off32 arg11_r0) a + S1x32x64x128.size a ≤ S2x32x64x128.size a := fun arg11_r0 k0_hw4 => k0_hw4.2

def k0_off33 (arg12_r0 : BitVec 32) : Fin 6 → Nat :=
  let c2_i32_210_r0 : BitVec 32 := 2#32
  let v243_r0 : BitVec 32 := Scalar.remui arg12_r0 c2_i32_210_r0
  let c0_i32_264_r0 : BitVec 32 := 0#32
  let c0_i32_266_r0 : BitVec 32 := 0#32
  let c0_i32_267_r0 : BitVec 32 := 0#32
  let c0_i32_268_r0 : BitVec 32 := 0#32
  ![v243_r0.toNat, 0, 1, 0, 0, 0]
def k0_off34 (arg7_r0 : BitVec 32) : Fin 6 → Nat :=
  let c3_i32_207_r0 : BitVec 32 := 3#32
  let v240_r0 : BitVec 32 := Scalar.remui arg7_r0 c3_i32_207_r0
  let c0_i32_278_r0 : BitVec 32 := 0#32
  let c0_i32_279_r0 : BitVec 32 := 0#32
  let c0_i32_280_r0 : BitVec 32 := 0#32
  let c0_i32_281_r0 : BitVec 32 := 0#32
  let c0_i32_282_r0 : BitVec 32 := 0#32
  ![v240_r0.toNat, 0, 0, 0, 0, 0]

def k0_chk2 (arg7_r0 : BitVec 32) : Prop :=
  (∀ a, (k0_off26 arg7_r0) a + S1x1x64x16x2x1024.size a ≤ S3x1x64x16x2x1024.size a) ∧
  (∀ a, (k0_off34 arg7_r0) a + S1x1x64x16x2x1024.size a ≤ S3x1x64x16x2x1024.size a)
theorem k0_off26_inb : ∀ (arg7_r0 : BitVec 32) (k0_hw2 : k0_chk2 arg7_r0), ∀ a, (k0_off26 arg7_r0) a + S1x1x64x16x2x1024.size a ≤ S3x1x64x16x2x1024.size a := fun arg7_r0 k0_hw2 => k0_hw2.1
theorem k0_off34_inb : ∀ (arg7_r0 : BitVec 32) (k0_hw2 : k0_chk2 arg7_r0), ∀ a, (k0_off34 arg7_r0) a + S1x1x64x16x2x1024.size a ≤ S3x1x64x16x2x1024.size a := fun arg7_r0 k0_hw2 => k0_hw2.2

def k0_off35 (arg12_r0 : BitVec 32) : Fin 6 → Nat :=
  let c2_i32_210_r0 : BitVec 32 := 2#32
  let v243_r0 : BitVec 32 := Scalar.remui arg12_r0 c2_i32_210_r0
  let c0_i32_305_r0 : BitVec 32 := 0#32
  let c0_i32_307_r0 : BitVec 32 := 0#32
  let c0_i32_308_r0 : BitVec 32 := 0#32
  let c0_i32_309_r0 : BitVec 32 := 0#32
  ![v243_r0.toNat, 0, 2, 0, 0, 0]
def k0_off36 (arg12_r0 : BitVec 32) : Fin 6 → Nat :=
  let c2_i32_210_r0 : BitVec 32 := 2#32
  let v243_r0 : BitVec 32 := Scalar.remui arg12_r0 c2_i32_210_r0
  let c0_i32_330_r0 : BitVec 32 := 0#32
  let c0_i32_332_r0 : BitVec 32 := 0#32
  let c0_i32_333_r0 : BitVec 32 := 0#32
  let c0_i32_334_r0 : BitVec 32 := 0#32
  ![v243_r0.toNat, 0, 3, 0, 0, 0]
def k0_off37 (arg12_r0 : BitVec 32) : Fin 6 → Nat :=
  let c2_i32_210_r0 : BitVec 32 := 2#32
  let v243_r0 : BitVec 32 := Scalar.remui arg12_r0 c2_i32_210_r0
  let c0_i32_371_r0 : BitVec 32 := 0#32
  let c0_i32_373_r0 : BitVec 32 := 0#32
  let c0_i32_374_r0 : BitVec 32 := 0#32
  let c0_i32_375_r0 : BitVec 32 := 0#32
  ![v243_r0.toNat, 0, 4, 0, 0, 0]
def k0_off38 (arg12_r0 : BitVec 32) : Fin 6 → Nat :=
  let c2_i32_210_r0 : BitVec 32 := 2#32
  let v243_r0 : BitVec 32 := Scalar.remui arg12_r0 c2_i32_210_r0
  let c0_i32_396_r0 : BitVec 32 := 0#32
  let c0_i32_398_r0 : BitVec 32 := 0#32
  let c0_i32_399_r0 : BitVec 32 := 0#32
  let c0_i32_400_r0 : BitVec 32 := 0#32
  ![v243_r0.toNat, 0, 5, 0, 0, 0]
def k0_off39 (arg12_r0 : BitVec 32) : Fin 6 → Nat :=
  let c2_i32_210_r0 : BitVec 32 := 2#32
  let v243_r0 : BitVec 32 := Scalar.remui arg12_r0 c2_i32_210_r0
  let c0_i32_437_r0 : BitVec 32 := 0#32
  let c0_i32_439_r0 : BitVec 32 := 0#32
  let c0_i32_440_r0 : BitVec 32 := 0#32
  let c0_i32_441_r0 : BitVec 32 := 0#32
  ![v243_r0.toNat, 0, 6, 0, 0, 0]
def k0_off40 (arg12_r0 : BitVec 32) : Fin 6 → Nat :=
  let c2_i32_210_r0 : BitVec 32 := 2#32
  let v243_r0 : BitVec 32 := Scalar.remui arg12_r0 c2_i32_210_r0
  let c0_i32_462_r0 : BitVec 32 := 0#32
  let c0_i32_464_r0 : BitVec 32 := 0#32
  let c0_i32_465_r0 : BitVec 32 := 0#32
  let c0_i32_466_r0 : BitVec 32 := 0#32
  ![v243_r0.toNat, 0, 7, 0, 0, 0]
def k0_off41 (arg12_r0 : BitVec 32) : Fin 6 → Nat :=
  let c2_i32_210_r0 : BitVec 32 := 2#32
  let v243_r0 : BitVec 32 := Scalar.remui arg12_r0 c2_i32_210_r0
  let c0_i32_503_r0 : BitVec 32 := 0#32
  let c0_i32_505_r0 : BitVec 32 := 0#32
  let c0_i32_506_r0 : BitVec 32 := 0#32
  let c0_i32_507_r0 : BitVec 32 := 0#32
  ![v243_r0.toNat, 0, 8, 0, 0, 0]
def k0_off42 (arg12_r0 : BitVec 32) : Fin 6 → Nat :=
  let c2_i32_210_r0 : BitVec 32 := 2#32
  let v243_r0 : BitVec 32 := Scalar.remui arg12_r0 c2_i32_210_r0
  let c0_i32_528_r0 : BitVec 32 := 0#32
  let c0_i32_530_r0 : BitVec 32 := 0#32
  let c0_i32_531_r0 : BitVec 32 := 0#32
  let c0_i32_532_r0 : BitVec 32 := 0#32
  ![v243_r0.toNat, 0, 9, 0, 0, 0]
def k0_off43 (arg12_r0 : BitVec 32) : Fin 6 → Nat :=
  let c2_i32_210_r0 : BitVec 32 := 2#32
  let v243_r0 : BitVec 32 := Scalar.remui arg12_r0 c2_i32_210_r0
  let c0_i32_569_r0 : BitVec 32 := 0#32
  let c0_i32_571_r0 : BitVec 32 := 0#32
  let c0_i32_572_r0 : BitVec 32 := 0#32
  let c0_i32_573_r0 : BitVec 32 := 0#32
  ![v243_r0.toNat, 0, 10, 0, 0, 0]
def k0_off44 (arg12_r0 : BitVec 32) : Fin 6 → Nat :=
  let c2_i32_210_r0 : BitVec 32 := 2#32
  let v243_r0 : BitVec 32 := Scalar.remui arg12_r0 c2_i32_210_r0
  let c0_i32_594_r0 : BitVec 32 := 0#32
  let c0_i32_596_r0 : BitVec 32 := 0#32
  let c0_i32_597_r0 : BitVec 32 := 0#32
  let c0_i32_598_r0 : BitVec 32 := 0#32
  ![v243_r0.toNat, 0, 11, 0, 0, 0]
def k0_off45 (arg12_r0 : BitVec 32) : Fin 6 → Nat :=
  let c2_i32_210_r0 : BitVec 32 := 2#32
  let v243_r0 : BitVec 32 := Scalar.remui arg12_r0 c2_i32_210_r0
  let c0_i32_635_r0 : BitVec 32 := 0#32
  let c0_i32_637_r0 : BitVec 32 := 0#32
  let c0_i32_638_r0 : BitVec 32 := 0#32
  let c0_i32_639_r0 : BitVec 32 := 0#32
  ![v243_r0.toNat, 0, 12, 0, 0, 0]
def k0_off46 (arg12_r0 : BitVec 32) : Fin 6 → Nat :=
  let c2_i32_210_r0 : BitVec 32 := 2#32
  let v243_r0 : BitVec 32 := Scalar.remui arg12_r0 c2_i32_210_r0
  let c0_i32_660_r0 : BitVec 32 := 0#32
  let c0_i32_662_r0 : BitVec 32 := 0#32
  let c0_i32_663_r0 : BitVec 32 := 0#32
  let c0_i32_664_r0 : BitVec 32 := 0#32
  ![v243_r0.toNat, 0, 13, 0, 0, 0]
def k0_off47 (arg12_r0 : BitVec 32) : Fin 6 → Nat :=
  let c2_i32_210_r0 : BitVec 32 := 2#32
  let v243_r0 : BitVec 32 := Scalar.remui arg12_r0 c2_i32_210_r0
  let c0_i32_701_r0 : BitVec 32 := 0#32
  let c0_i32_703_r0 : BitVec 32 := 0#32
  let c0_i32_704_r0 : BitVec 32 := 0#32
  let c0_i32_705_r0 : BitVec 32 := 0#32
  ![v243_r0.toNat, 0, 14, 0, 0, 0]
def k0_off48 (arg12_r0 : BitVec 32) : Fin 6 → Nat :=
  let c2_i32_210_r0 : BitVec 32 := 2#32
  let v243_r0 : BitVec 32 := Scalar.remui arg12_r0 c2_i32_210_r0
  let c0_i32_726_r0 : BitVec 32 := 0#32
  let c0_i32_728_r0 : BitVec 32 := 0#32
  let c0_i32_729_r0 : BitVec 32 := 0#32
  let c0_i32_730_r0 : BitVec 32 := 0#32
  ![v243_r0.toNat, 0, 15, 0, 0, 0]
def k0_off49 (arg12_r0 : BitVec 32) : Fin 6 → Nat :=
  let c2_i32_210_r0 : BitVec 32 := 2#32
  let v243_r0 : BitVec 32 := Scalar.remui arg12_r0 c2_i32_210_r0
  let c0_i32_767_r0 : BitVec 32 := 0#32
  let c0_i32_769_r0 : BitVec 32 := 0#32
  let c0_i32_770_r0 : BitVec 32 := 0#32
  let c0_i32_771_r0 : BitVec 32 := 0#32
  ![v243_r0.toNat, 0, 16, 0, 0, 0]
def k0_off50 (arg12_r0 : BitVec 32) : Fin 6 → Nat :=
  let c2_i32_210_r0 : BitVec 32 := 2#32
  let v243_r0 : BitVec 32 := Scalar.remui arg12_r0 c2_i32_210_r0
  let c0_i32_792_r0 : BitVec 32 := 0#32
  let c0_i32_794_r0 : BitVec 32 := 0#32
  let c0_i32_795_r0 : BitVec 32 := 0#32
  let c0_i32_796_r0 : BitVec 32 := 0#32
  ![v243_r0.toNat, 0, 17, 0, 0, 0]
def k0_off51 (arg12_r0 : BitVec 32) : Fin 6 → Nat :=
  let c2_i32_210_r0 : BitVec 32 := 2#32
  let v243_r0 : BitVec 32 := Scalar.remui arg12_r0 c2_i32_210_r0
  let c0_i32_833_r0 : BitVec 32 := 0#32
  let c0_i32_835_r0 : BitVec 32 := 0#32
  let c0_i32_836_r0 : BitVec 32 := 0#32
  let c0_i32_837_r0 : BitVec 32 := 0#32
  ![v243_r0.toNat, 0, 18, 0, 0, 0]
def k0_off52 (arg12_r0 : BitVec 32) : Fin 6 → Nat :=
  let c2_i32_210_r0 : BitVec 32 := 2#32
  let v243_r0 : BitVec 32 := Scalar.remui arg12_r0 c2_i32_210_r0
  let c0_i32_858_r0 : BitVec 32 := 0#32
  let c0_i32_860_r0 : BitVec 32 := 0#32
  let c0_i32_861_r0 : BitVec 32 := 0#32
  let c0_i32_862_r0 : BitVec 32 := 0#32
  ![v243_r0.toNat, 0, 19, 0, 0, 0]
def k0_off53 (arg12_r0 : BitVec 32) : Fin 6 → Nat :=
  let c2_i32_210_r0 : BitVec 32 := 2#32
  let v243_r0 : BitVec 32 := Scalar.remui arg12_r0 c2_i32_210_r0
  let c0_i32_899_r0 : BitVec 32 := 0#32
  let c0_i32_901_r0 : BitVec 32 := 0#32
  let c0_i32_902_r0 : BitVec 32 := 0#32
  let c0_i32_903_r0 : BitVec 32 := 0#32
  ![v243_r0.toNat, 0, 20, 0, 0, 0]
def k0_off54 (arg12_r0 : BitVec 32) : Fin 6 → Nat :=
  let c2_i32_210_r0 : BitVec 32 := 2#32
  let v243_r0 : BitVec 32 := Scalar.remui arg12_r0 c2_i32_210_r0
  let c0_i32_924_r0 : BitVec 32 := 0#32
  let c0_i32_926_r0 : BitVec 32 := 0#32
  let c0_i32_927_r0 : BitVec 32 := 0#32
  let c0_i32_928_r0 : BitVec 32 := 0#32
  ![v243_r0.toNat, 0, 21, 0, 0, 0]
def k0_off55 (arg12_r0 : BitVec 32) : Fin 6 → Nat :=
  let c2_i32_210_r0 : BitVec 32 := 2#32
  let v243_r0 : BitVec 32 := Scalar.remui arg12_r0 c2_i32_210_r0
  let c0_i32_965_r0 : BitVec 32 := 0#32
  let c0_i32_967_r0 : BitVec 32 := 0#32
  let c0_i32_968_r0 : BitVec 32 := 0#32
  let c0_i32_969_r0 : BitVec 32 := 0#32
  ![v243_r0.toNat, 0, 22, 0, 0, 0]
def k0_off56 (arg12_r0 : BitVec 32) : Fin 6 → Nat :=
  let c2_i32_210_r0 : BitVec 32 := 2#32
  let v243_r0 : BitVec 32 := Scalar.remui arg12_r0 c2_i32_210_r0
  let c0_i32_990_r0 : BitVec 32 := 0#32
  let c0_i32_992_r0 : BitVec 32 := 0#32
  let c0_i32_993_r0 : BitVec 32 := 0#32
  let c0_i32_994_r0 : BitVec 32 := 0#32
  ![v243_r0.toNat, 0, 23, 0, 0, 0]
def k0_off57 (arg12_r0 : BitVec 32) : Fin 6 → Nat :=
  let c2_i32_210_r0 : BitVec 32 := 2#32
  let v243_r0 : BitVec 32 := Scalar.remui arg12_r0 c2_i32_210_r0
  let c0_i32_1031_r0 : BitVec 32 := 0#32
  let c0_i32_1033_r0 : BitVec 32 := 0#32
  let c0_i32_1034_r0 : BitVec 32 := 0#32
  let c0_i32_1035_r0 : BitVec 32 := 0#32
  ![v243_r0.toNat, 0, 24, 0, 0, 0]
def k0_off58 (arg12_r0 : BitVec 32) : Fin 6 → Nat :=
  let c2_i32_210_r0 : BitVec 32 := 2#32
  let v243_r0 : BitVec 32 := Scalar.remui arg12_r0 c2_i32_210_r0
  let c0_i32_1056_r0 : BitVec 32 := 0#32
  let c0_i32_1058_r0 : BitVec 32 := 0#32
  let c0_i32_1059_r0 : BitVec 32 := 0#32
  let c0_i32_1060_r0 : BitVec 32 := 0#32
  ![v243_r0.toNat, 0, 25, 0, 0, 0]
def k0_off59 (arg12_r0 : BitVec 32) : Fin 6 → Nat :=
  let c2_i32_210_r0 : BitVec 32 := 2#32
  let v243_r0 : BitVec 32 := Scalar.remui arg12_r0 c2_i32_210_r0
  let c0_i32_1097_r0 : BitVec 32 := 0#32
  let c0_i32_1099_r0 : BitVec 32 := 0#32
  let c0_i32_1100_r0 : BitVec 32 := 0#32
  let c0_i32_1101_r0 : BitVec 32 := 0#32
  ![v243_r0.toNat, 0, 26, 0, 0, 0]
def k0_off60 (arg12_r0 : BitVec 32) : Fin 6 → Nat :=
  let c2_i32_210_r0 : BitVec 32 := 2#32
  let v243_r0 : BitVec 32 := Scalar.remui arg12_r0 c2_i32_210_r0
  let c0_i32_1122_r0 : BitVec 32 := 0#32
  let c0_i32_1124_r0 : BitVec 32 := 0#32
  let c0_i32_1125_r0 : BitVec 32 := 0#32
  let c0_i32_1126_r0 : BitVec 32 := 0#32
  ![v243_r0.toNat, 0, 27, 0, 0, 0]
def k0_off61 (arg12_r0 : BitVec 32) : Fin 6 → Nat :=
  let c2_i32_210_r0 : BitVec 32 := 2#32
  let v243_r0 : BitVec 32 := Scalar.remui arg12_r0 c2_i32_210_r0
  let c0_i32_1163_r0 : BitVec 32 := 0#32
  let c0_i32_1165_r0 : BitVec 32 := 0#32
  let c0_i32_1166_r0 : BitVec 32 := 0#32
  let c0_i32_1167_r0 : BitVec 32 := 0#32
  ![v243_r0.toNat, 0, 28, 0, 0, 0]
def k0_off62 (arg12_r0 : BitVec 32) : Fin 6 → Nat :=
  let c2_i32_210_r0 : BitVec 32 := 2#32
  let v243_r0 : BitVec 32 := Scalar.remui arg12_r0 c2_i32_210_r0
  let c0_i32_1188_r0 : BitVec 32 := 0#32
  let c0_i32_1190_r0 : BitVec 32 := 0#32
  let c0_i32_1191_r0 : BitVec 32 := 0#32
  let c0_i32_1192_r0 : BitVec 32 := 0#32
  ![v243_r0.toNat, 0, 29, 0, 0, 0]
def k0_off63 (arg12_r0 : BitVec 32) : Fin 6 → Nat :=
  let c2_i32_210_r0 : BitVec 32 := 2#32
  let v243_r0 : BitVec 32 := Scalar.remui arg12_r0 c2_i32_210_r0
  let c0_i32_1229_r0 : BitVec 32 := 0#32
  let c0_i32_1231_r0 : BitVec 32 := 0#32
  let c0_i32_1232_r0 : BitVec 32 := 0#32
  let c0_i32_1233_r0 : BitVec 32 := 0#32
  ![v243_r0.toNat, 0, 30, 0, 0, 0]
def k0_off64 (arg12_r0 : BitVec 32) : Fin 6 → Nat :=
  let c2_i32_210_r0 : BitVec 32 := 2#32
  let v243_r0 : BitVec 32 := Scalar.remui arg12_r0 c2_i32_210_r0
  let c0_i32_1254_r0 : BitVec 32 := 0#32
  let c0_i32_1256_r0 : BitVec 32 := 0#32
  let c0_i32_1257_r0 : BitVec 32 := 0#32
  let c0_i32_1258_r0 : BitVec 32 := 0#32
  ![v243_r0.toNat, 0, 31, 0, 0, 0]

def k0_chk5_0 (arg12_r0 : BitVec 32) : Prop :=
  (∀ a, (k0_off29 arg12_r0) a + S1x1x32x32x2x1024.size a ≤ S2x1x32x32x2x1024.size a) ∧
  (∀ a, (k0_off30 arg12_r0) a + S1x1x1x32x2x1024.size a ≤ S2x1x32x32x2x1024.size a) ∧
  (∀ (hinb : ∀ a, (k0_off30 arg12_r0) a + S1x1x1x32x2x1024.size a ≤ S2x1x32x32x2x1024.size a), (Rect.unit (s := S2x1x32x32x2x1024) (k0_off30 arg12_r0) S1x1x1x32x2x1024.size hinb).PackedRows (EltTy.packing .bf16)) ∧
  (∀ a, (k0_off33 arg12_r0) a + S1x1x1x32x2x1024.size a ≤ S2x1x32x32x2x1024.size a) ∧
  (∀ (hinb : ∀ a, (k0_off33 arg12_r0) a + S1x1x1x32x2x1024.size a ≤ S2x1x32x32x2x1024.size a), (Rect.unit (s := S2x1x32x32x2x1024) (k0_off33 arg12_r0) S1x1x1x32x2x1024.size hinb).PackedRows (EltTy.packing .bf16)) ∧
  (∀ a, (k0_off35 arg12_r0) a + S1x1x1x32x2x1024.size a ≤ S2x1x32x32x2x1024.size a) ∧
  (∀ (hinb : ∀ a, (k0_off35 arg12_r0) a + S1x1x1x32x2x1024.size a ≤ S2x1x32x32x2x1024.size a), (Rect.unit (s := S2x1x32x32x2x1024) (k0_off35 arg12_r0) S1x1x1x32x2x1024.size hinb).PackedRows (EltTy.packing .bf16)) ∧
  (∀ a, (k0_off36 arg12_r0) a + S1x1x1x32x2x1024.size a ≤ S2x1x32x32x2x1024.size a) ∧
  (∀ (hinb : ∀ a, (k0_off36 arg12_r0) a + S1x1x1x32x2x1024.size a ≤ S2x1x32x32x2x1024.size a), (Rect.unit (s := S2x1x32x32x2x1024) (k0_off36 arg12_r0) S1x1x1x32x2x1024.size hinb).PackedRows (EltTy.packing .bf16)) ∧
  (∀ a, (k0_off37 arg12_r0) a + S1x1x1x32x2x1024.size a ≤ S2x1x32x32x2x1024.size a) ∧
  (∀ (hinb : ∀ a, (k0_off37 arg12_r0) a + S1x1x1x32x2x1024.size a ≤ S2x1x32x32x2x1024.size a), (Rect.unit (s := S2x1x32x32x2x1024) (k0_off37 arg12_r0) S1x1x1x32x2x1024.size hinb).PackedRows (EltTy.packing .bf16)) ∧
  (∀ a, (k0_off38 arg12_r0) a + S1x1x1x32x2x1024.size a ≤ S2x1x32x32x2x1024.size a) ∧
  (∀ (hinb : ∀ a, (k0_off38 arg12_r0) a + S1x1x1x32x2x1024.size a ≤ S2x1x32x32x2x1024.size a), (Rect.unit (s := S2x1x32x32x2x1024) (k0_off38 arg12_r0) S1x1x1x32x2x1024.size hinb).PackedRows (EltTy.packing .bf16)) ∧
  (∀ a, (k0_off39 arg12_r0) a + S1x1x1x32x2x1024.size a ≤ S2x1x32x32x2x1024.size a) ∧
  (∀ (hinb : ∀ a, (k0_off39 arg12_r0) a + S1x1x1x32x2x1024.size a ≤ S2x1x32x32x2x1024.size a), (Rect.unit (s := S2x1x32x32x2x1024) (k0_off39 arg12_r0) S1x1x1x32x2x1024.size hinb).PackedRows (EltTy.packing .bf16)) ∧
  (∀ a, (k0_off40 arg12_r0) a + S1x1x1x32x2x1024.size a ≤ S2x1x32x32x2x1024.size a) ∧
  (∀ (hinb : ∀ a, (k0_off40 arg12_r0) a + S1x1x1x32x2x1024.size a ≤ S2x1x32x32x2x1024.size a), (Rect.unit (s := S2x1x32x32x2x1024) (k0_off40 arg12_r0) S1x1x1x32x2x1024.size hinb).PackedRows (EltTy.packing .bf16)) ∧
  (∀ a, (k0_off41 arg12_r0) a + S1x1x1x32x2x1024.size a ≤ S2x1x32x32x2x1024.size a) ∧
  (∀ (hinb : ∀ a, (k0_off41 arg12_r0) a + S1x1x1x32x2x1024.size a ≤ S2x1x32x32x2x1024.size a), (Rect.unit (s := S2x1x32x32x2x1024) (k0_off41 arg12_r0) S1x1x1x32x2x1024.size hinb).PackedRows (EltTy.packing .bf16)) ∧
  (∀ a, (k0_off42 arg12_r0) a + S1x1x1x32x2x1024.size a ≤ S2x1x32x32x2x1024.size a) ∧
  (∀ (hinb : ∀ a, (k0_off42 arg12_r0) a + S1x1x1x32x2x1024.size a ≤ S2x1x32x32x2x1024.size a), (Rect.unit (s := S2x1x32x32x2x1024) (k0_off42 arg12_r0) S1x1x1x32x2x1024.size hinb).PackedRows (EltTy.packing .bf16)) ∧
  (∀ a, (k0_off43 arg12_r0) a + S1x1x1x32x2x1024.size a ≤ S2x1x32x32x2x1024.size a) ∧
  (∀ (hinb : ∀ a, (k0_off43 arg12_r0) a + S1x1x1x32x2x1024.size a ≤ S2x1x32x32x2x1024.size a), (Rect.unit (s := S2x1x32x32x2x1024) (k0_off43 arg12_r0) S1x1x1x32x2x1024.size hinb).PackedRows (EltTy.packing .bf16)) ∧
  (∀ a, (k0_off44 arg12_r0) a + S1x1x1x32x2x1024.size a ≤ S2x1x32x32x2x1024.size a) ∧
  (∀ (hinb : ∀ a, (k0_off44 arg12_r0) a + S1x1x1x32x2x1024.size a ≤ S2x1x32x32x2x1024.size a), (Rect.unit (s := S2x1x32x32x2x1024) (k0_off44 arg12_r0) S1x1x1x32x2x1024.size hinb).PackedRows (EltTy.packing .bf16)) ∧
  (∀ a, (k0_off45 arg12_r0) a + S1x1x1x32x2x1024.size a ≤ S2x1x32x32x2x1024.size a) ∧
  (∀ (hinb : ∀ a, (k0_off45 arg12_r0) a + S1x1x1x32x2x1024.size a ≤ S2x1x32x32x2x1024.size a), (Rect.unit (s := S2x1x32x32x2x1024) (k0_off45 arg12_r0) S1x1x1x32x2x1024.size hinb).PackedRows (EltTy.packing .bf16)) ∧
  (∀ a, (k0_off46 arg12_r0) a + S1x1x1x32x2x1024.size a ≤ S2x1x32x32x2x1024.size a) ∧
  (∀ (hinb : ∀ a, (k0_off46 arg12_r0) a + S1x1x1x32x2x1024.size a ≤ S2x1x32x32x2x1024.size a), (Rect.unit (s := S2x1x32x32x2x1024) (k0_off46 arg12_r0) S1x1x1x32x2x1024.size hinb).PackedRows (EltTy.packing .bf16)) ∧
  (∀ a, (k0_off47 arg12_r0) a + S1x1x1x32x2x1024.size a ≤ S2x1x32x32x2x1024.size a) ∧
  (∀ (hinb : ∀ a, (k0_off47 arg12_r0) a + S1x1x1x32x2x1024.size a ≤ S2x1x32x32x2x1024.size a), (Rect.unit (s := S2x1x32x32x2x1024) (k0_off47 arg12_r0) S1x1x1x32x2x1024.size hinb).PackedRows (EltTy.packing .bf16)) ∧
  (∀ a, (k0_off48 arg12_r0) a + S1x1x1x32x2x1024.size a ≤ S2x1x32x32x2x1024.size a)
def k0_chk5_1 (arg12_r0 : BitVec 32) : Prop :=
  (∀ (hinb : ∀ a, (k0_off48 arg12_r0) a + S1x1x1x32x2x1024.size a ≤ S2x1x32x32x2x1024.size a), (Rect.unit (s := S2x1x32x32x2x1024) (k0_off48 arg12_r0) S1x1x1x32x2x1024.size hinb).PackedRows (EltTy.packing .bf16)) ∧
  (∀ a, (k0_off49 arg12_r0) a + S1x1x1x32x2x1024.size a ≤ S2x1x32x32x2x1024.size a) ∧
  (∀ (hinb : ∀ a, (k0_off49 arg12_r0) a + S1x1x1x32x2x1024.size a ≤ S2x1x32x32x2x1024.size a), (Rect.unit (s := S2x1x32x32x2x1024) (k0_off49 arg12_r0) S1x1x1x32x2x1024.size hinb).PackedRows (EltTy.packing .bf16)) ∧
  (∀ a, (k0_off50 arg12_r0) a + S1x1x1x32x2x1024.size a ≤ S2x1x32x32x2x1024.size a) ∧
  (∀ (hinb : ∀ a, (k0_off50 arg12_r0) a + S1x1x1x32x2x1024.size a ≤ S2x1x32x32x2x1024.size a), (Rect.unit (s := S2x1x32x32x2x1024) (k0_off50 arg12_r0) S1x1x1x32x2x1024.size hinb).PackedRows (EltTy.packing .bf16)) ∧
  (∀ a, (k0_off51 arg12_r0) a + S1x1x1x32x2x1024.size a ≤ S2x1x32x32x2x1024.size a) ∧
  (∀ (hinb : ∀ a, (k0_off51 arg12_r0) a + S1x1x1x32x2x1024.size a ≤ S2x1x32x32x2x1024.size a), (Rect.unit (s := S2x1x32x32x2x1024) (k0_off51 arg12_r0) S1x1x1x32x2x1024.size hinb).PackedRows (EltTy.packing .bf16)) ∧
  (∀ a, (k0_off52 arg12_r0) a + S1x1x1x32x2x1024.size a ≤ S2x1x32x32x2x1024.size a) ∧
  (∀ (hinb : ∀ a, (k0_off52 arg12_r0) a + S1x1x1x32x2x1024.size a ≤ S2x1x32x32x2x1024.size a), (Rect.unit (s := S2x1x32x32x2x1024) (k0_off52 arg12_r0) S1x1x1x32x2x1024.size hinb).PackedRows (EltTy.packing .bf16)) ∧
  (∀ a, (k0_off53 arg12_r0) a + S1x1x1x32x2x1024.size a ≤ S2x1x32x32x2x1024.size a) ∧
  (∀ (hinb : ∀ a, (k0_off53 arg12_r0) a + S1x1x1x32x2x1024.size a ≤ S2x1x32x32x2x1024.size a), (Rect.unit (s := S2x1x32x32x2x1024) (k0_off53 arg12_r0) S1x1x1x32x2x1024.size hinb).PackedRows (EltTy.packing .bf16)) ∧
  (∀ a, (k0_off54 arg12_r0) a + S1x1x1x32x2x1024.size a ≤ S2x1x32x32x2x1024.size a) ∧
  (∀ (hinb : ∀ a, (k0_off54 arg12_r0) a + S1x1x1x32x2x1024.size a ≤ S2x1x32x32x2x1024.size a), (Rect.unit (s := S2x1x32x32x2x1024) (k0_off54 arg12_r0) S1x1x1x32x2x1024.size hinb).PackedRows (EltTy.packing .bf16)) ∧
  (∀ a, (k0_off55 arg12_r0) a + S1x1x1x32x2x1024.size a ≤ S2x1x32x32x2x1024.size a) ∧
  (∀ (hinb : ∀ a, (k0_off55 arg12_r0) a + S1x1x1x32x2x1024.size a ≤ S2x1x32x32x2x1024.size a), (Rect.unit (s := S2x1x32x32x2x1024) (k0_off55 arg12_r0) S1x1x1x32x2x1024.size hinb).PackedRows (EltTy.packing .bf16)) ∧
  (∀ a, (k0_off56 arg12_r0) a + S1x1x1x32x2x1024.size a ≤ S2x1x32x32x2x1024.size a) ∧
  (∀ (hinb : ∀ a, (k0_off56 arg12_r0) a + S1x1x1x32x2x1024.size a ≤ S2x1x32x32x2x1024.size a), (Rect.unit (s := S2x1x32x32x2x1024) (k0_off56 arg12_r0) S1x1x1x32x2x1024.size hinb).PackedRows (EltTy.packing .bf16)) ∧
  (∀ a, (k0_off57 arg12_r0) a + S1x1x1x32x2x1024.size a ≤ S2x1x32x32x2x1024.size a) ∧
  (∀ (hinb : ∀ a, (k0_off57 arg12_r0) a + S1x1x1x32x2x1024.size a ≤ S2x1x32x32x2x1024.size a), (Rect.unit (s := S2x1x32x32x2x1024) (k0_off57 arg12_r0) S1x1x1x32x2x1024.size hinb).PackedRows (EltTy.packing .bf16)) ∧
  (∀ a, (k0_off58 arg12_r0) a + S1x1x1x32x2x1024.size a ≤ S2x1x32x32x2x1024.size a) ∧
  (∀ (hinb : ∀ a, (k0_off58 arg12_r0) a + S1x1x1x32x2x1024.size a ≤ S2x1x32x32x2x1024.size a), (Rect.unit (s := S2x1x32x32x2x1024) (k0_off58 arg12_r0) S1x1x1x32x2x1024.size hinb).PackedRows (EltTy.packing .bf16)) ∧
  (∀ a, (k0_off59 arg12_r0) a + S1x1x1x32x2x1024.size a ≤ S2x1x32x32x2x1024.size a) ∧
  (∀ (hinb : ∀ a, (k0_off59 arg12_r0) a + S1x1x1x32x2x1024.size a ≤ S2x1x32x32x2x1024.size a), (Rect.unit (s := S2x1x32x32x2x1024) (k0_off59 arg12_r0) S1x1x1x32x2x1024.size hinb).PackedRows (EltTy.packing .bf16)) ∧
  (∀ a, (k0_off60 arg12_r0) a + S1x1x1x32x2x1024.size a ≤ S2x1x32x32x2x1024.size a) ∧
  (∀ (hinb : ∀ a, (k0_off60 arg12_r0) a + S1x1x1x32x2x1024.size a ≤ S2x1x32x32x2x1024.size a), (Rect.unit (s := S2x1x32x32x2x1024) (k0_off60 arg12_r0) S1x1x1x32x2x1024.size hinb).PackedRows (EltTy.packing .bf16)) ∧
  (∀ a, (k0_off61 arg12_r0) a + S1x1x1x32x2x1024.size a ≤ S2x1x32x32x2x1024.size a) ∧
  (∀ (hinb : ∀ a, (k0_off61 arg12_r0) a + S1x1x1x32x2x1024.size a ≤ S2x1x32x32x2x1024.size a), (Rect.unit (s := S2x1x32x32x2x1024) (k0_off61 arg12_r0) S1x1x1x32x2x1024.size hinb).PackedRows (EltTy.packing .bf16)) ∧
  (∀ a, (k0_off62 arg12_r0) a + S1x1x1x32x2x1024.size a ≤ S2x1x32x32x2x1024.size a) ∧
  (∀ (hinb : ∀ a, (k0_off62 arg12_r0) a + S1x1x1x32x2x1024.size a ≤ S2x1x32x32x2x1024.size a), (Rect.unit (s := S2x1x32x32x2x1024) (k0_off62 arg12_r0) S1x1x1x32x2x1024.size hinb).PackedRows (EltTy.packing .bf16)) ∧
  (∀ a, (k0_off63 arg12_r0) a + S1x1x1x32x2x1024.size a ≤ S2x1x32x32x2x1024.size a) ∧
  (∀ (hinb : ∀ a, (k0_off63 arg12_r0) a + S1x1x1x32x2x1024.size a ≤ S2x1x32x32x2x1024.size a), (Rect.unit (s := S2x1x32x32x2x1024) (k0_off63 arg12_r0) S1x1x1x32x2x1024.size hinb).PackedRows (EltTy.packing .bf16)) ∧
  (∀ a, (k0_off64 arg12_r0) a + S1x1x1x32x2x1024.size a ≤ S2x1x32x32x2x1024.size a)
def k0_chk5_2 (arg12_r0 : BitVec 32) : Prop :=
  (∀ (hinb : ∀ a, (k0_off64 arg12_r0) a + S1x1x1x32x2x1024.size a ≤ S2x1x32x32x2x1024.size a), (Rect.unit (s := S2x1x32x32x2x1024) (k0_off64 arg12_r0) S1x1x1x32x2x1024.size hinb).PackedRows (EltTy.packing .bf16))
def k0_chk5 (arg12_r0 : BitVec 32) : Prop :=
  k0_chk5_0 arg12_r0 ∧
  k0_chk5_1 arg12_r0 ∧
  k0_chk5_2 arg12_r0
theorem k0_off29_inb : ∀ (arg12_r0 : BitVec 32) (k0_hw5 : k0_chk5 arg12_r0), ∀ a, (k0_off29 arg12_r0) a + S1x1x32x32x2x1024.size a ≤ S2x1x32x32x2x1024.size a := fun arg12_r0 k0_hw5 => k0_hw5.1.1
theorem k0_off30_inb : ∀ (arg12_r0 : BitVec 32) (k0_hw5 : k0_chk5 arg12_r0), ∀ a, (k0_off30 arg12_r0) a + S1x1x1x32x2x1024.size a ≤ S2x1x32x32x2x1024.size a := fun arg12_r0 k0_hw5 => k0_hw5.1.2.1
theorem k0_off30_packedbf16 : ∀ (arg12_r0 : BitVec 32) (k0_hw5 : k0_chk5 arg12_r0), (Rect.unit (s := S2x1x32x32x2x1024) (k0_off30 arg12_r0) S1x1x1x32x2x1024.size (k0_off30_inb arg12_r0 k0_hw5)).PackedRows (EltTy.packing .bf16) := fun arg12_r0 k0_hw5 => k0_hw5.1.2.2.1 (k0_off30_inb arg12_r0 k0_hw5)
theorem k0_off33_inb : ∀ (arg12_r0 : BitVec 32) (k0_hw5 : k0_chk5 arg12_r0), ∀ a, (k0_off33 arg12_r0) a + S1x1x1x32x2x1024.size a ≤ S2x1x32x32x2x1024.size a := fun arg12_r0 k0_hw5 => k0_hw5.1.2.2.2.1
theorem k0_off33_packedbf16 : ∀ (arg12_r0 : BitVec 32) (k0_hw5 : k0_chk5 arg12_r0), (Rect.unit (s := S2x1x32x32x2x1024) (k0_off33 arg12_r0) S1x1x1x32x2x1024.size (k0_off33_inb arg12_r0 k0_hw5)).PackedRows (EltTy.packing .bf16) := fun arg12_r0 k0_hw5 => k0_hw5.1.2.2.2.2.1 (k0_off33_inb arg12_r0 k0_hw5)
theorem k0_off35_inb : ∀ (arg12_r0 : BitVec 32) (k0_hw5 : k0_chk5 arg12_r0), ∀ a, (k0_off35 arg12_r0) a + S1x1x1x32x2x1024.size a ≤ S2x1x32x32x2x1024.size a := fun arg12_r0 k0_hw5 => k0_hw5.1.2.2.2.2.2.1
theorem k0_off35_packedbf16 : ∀ (arg12_r0 : BitVec 32) (k0_hw5 : k0_chk5 arg12_r0), (Rect.unit (s := S2x1x32x32x2x1024) (k0_off35 arg12_r0) S1x1x1x32x2x1024.size (k0_off35_inb arg12_r0 k0_hw5)).PackedRows (EltTy.packing .bf16) := fun arg12_r0 k0_hw5 => k0_hw5.1.2.2.2.2.2.2.1 (k0_off35_inb arg12_r0 k0_hw5)
theorem k0_off36_inb : ∀ (arg12_r0 : BitVec 32) (k0_hw5 : k0_chk5 arg12_r0), ∀ a, (k0_off36 arg12_r0) a + S1x1x1x32x2x1024.size a ≤ S2x1x32x32x2x1024.size a := fun arg12_r0 k0_hw5 => k0_hw5.1.2.2.2.2.2.2.2.1
theorem k0_off36_packedbf16 : ∀ (arg12_r0 : BitVec 32) (k0_hw5 : k0_chk5 arg12_r0), (Rect.unit (s := S2x1x32x32x2x1024) (k0_off36 arg12_r0) S1x1x1x32x2x1024.size (k0_off36_inb arg12_r0 k0_hw5)).PackedRows (EltTy.packing .bf16) := fun arg12_r0 k0_hw5 => k0_hw5.1.2.2.2.2.2.2.2.2.1 (k0_off36_inb arg12_r0 k0_hw5)
theorem k0_off37_inb : ∀ (arg12_r0 : BitVec 32) (k0_hw5 : k0_chk5 arg12_r0), ∀ a, (k0_off37 arg12_r0) a + S1x1x1x32x2x1024.size a ≤ S2x1x32x32x2x1024.size a := fun arg12_r0 k0_hw5 => k0_hw5.1.2.2.2.2.2.2.2.2.2.1
theorem k0_off37_packedbf16 : ∀ (arg12_r0 : BitVec 32) (k0_hw5 : k0_chk5 arg12_r0), (Rect.unit (s := S2x1x32x32x2x1024) (k0_off37 arg12_r0) S1x1x1x32x2x1024.size (k0_off37_inb arg12_r0 k0_hw5)).PackedRows (EltTy.packing .bf16) := fun arg12_r0 k0_hw5 => k0_hw5.1.2.2.2.2.2.2.2.2.2.2.1 (k0_off37_inb arg12_r0 k0_hw5)
theorem k0_off38_inb : ∀ (arg12_r0 : BitVec 32) (k0_hw5 : k0_chk5 arg12_r0), ∀ a, (k0_off38 arg12_r0) a + S1x1x1x32x2x1024.size a ≤ S2x1x32x32x2x1024.size a := fun arg12_r0 k0_hw5 => k0_hw5.1.2.2.2.2.2.2.2.2.2.2.2.1
theorem k0_off38_packedbf16 : ∀ (arg12_r0 : BitVec 32) (k0_hw5 : k0_chk5 arg12_r0), (Rect.unit (s := S2x1x32x32x2x1024) (k0_off38 arg12_r0) S1x1x1x32x2x1024.size (k0_off38_inb arg12_r0 k0_hw5)).PackedRows (EltTy.packing .bf16) := fun arg12_r0 k0_hw5 => k0_hw5.1.2.2.2.2.2.2.2.2.2.2.2.2.1 (k0_off38_inb arg12_r0 k0_hw5)
theorem k0_off39_inb : ∀ (arg12_r0 : BitVec 32) (k0_hw5 : k0_chk5 arg12_r0), ∀ a, (k0_off39 arg12_r0) a + S1x1x1x32x2x1024.size a ≤ S2x1x32x32x2x1024.size a := fun arg12_r0 k0_hw5 => k0_hw5.1.2.2.2.2.2.2.2.2.2.2.2.2.2.1
theorem k0_off39_packedbf16 : ∀ (arg12_r0 : BitVec 32) (k0_hw5 : k0_chk5 arg12_r0), (Rect.unit (s := S2x1x32x32x2x1024) (k0_off39 arg12_r0) S1x1x1x32x2x1024.size (k0_off39_inb arg12_r0 k0_hw5)).PackedRows (EltTy.packing .bf16) := fun arg12_r0 k0_hw5 => k0_hw5.1.2.2.2.2.2.2.2.2.2.2.2.2.2.2.1 (k0_off39_inb arg12_r0 k0_hw5)
theorem k0_off40_inb : ∀ (arg12_r0 : BitVec 32) (k0_hw5 : k0_chk5 arg12_r0), ∀ a, (k0_off40 arg12_r0) a + S1x1x1x32x2x1024.size a ≤ S2x1x32x32x2x1024.size a := fun arg12_r0 k0_hw5 => k0_hw5.1.2.2.2.2.2.2.2.2.2.2.2.2.2.2.2.1
theorem k0_off40_packedbf16 : ∀ (arg12_r0 : BitVec 32) (k0_hw5 : k0_chk5 arg12_r0), (Rect.unit (s := S2x1x32x32x2x1024) (k0_off40 arg12_r0) S1x1x1x32x2x1024.size (k0_off40_inb arg12_r0 k0_hw5)).PackedRows (EltTy.packing .bf16) := fun arg12_r0 k0_hw5 => k0_hw5.1.2.2.2.2.2.2.2.2.2.2.2.2.2.2.2.2.1 (k0_off40_inb arg12_r0 k0_hw5)
theorem k0_off41_inb : ∀ (arg12_r0 : BitVec 32) (k0_hw5 : k0_chk5 arg12_r0), ∀ a, (k0_off41 arg12_r0) a + S1x1x1x32x2x1024.size a ≤ S2x1x32x32x2x1024.size a := fun arg12_r0 k0_hw5 => k0_hw5.1.2.2.2.2.2.2.2.2.2.2.2.2.2.2.2.2.2.1
theorem k0_off41_packedbf16 : ∀ (arg12_r0 : BitVec 32) (k0_hw5 : k0_chk5 arg12_r0), (Rect.unit (s := S2x1x32x32x2x1024) (k0_off41 arg12_r0) S1x1x1x32x2x1024.size (k0_off41_inb arg12_r0 k0_hw5)).PackedRows (EltTy.packing .bf16) := fun arg12_r0 k0_hw5 => k0_hw5.1.2.2.2.2.2.2.2.2.2.2.2.2.2.2.2.2.2.2.1 (k0_off41_inb arg12_r0 k0_hw5)
theorem k0_off42_inb : ∀ (arg12_r0 : BitVec 32) (k0_hw5 : k0_chk5 arg12_r0), ∀ a, (k0_off42 arg12_r0) a + S1x1x1x32x2x1024.size a ≤ S2x1x32x32x2x1024.size a := fun arg12_r0 k0_hw5 => k0_hw5.1.2.2.2.2.2.2.2.2.2.2.2.2.2.2.2.2.2.2.2.1
theorem k0_off42_packedbf16 : ∀ (arg12_r0 : BitVec 32) (k0_hw5 : k0_chk5 arg12_r0), (Rect.unit (s := S2x1x32x32x2x1024) (k0_off42 arg12_r0) S1x1x1x32x2x1024.size (k0_off42_inb arg12_r0 k0_hw5)).PackedRows (EltTy.packing .bf16) := fun arg12_r0 k0_hw5 => k0_hw5.1.2.2.2.2.2.2.2.2.2.2.2.2.2.2.2.2.2.2.2.2.1 (k0_off42_inb arg12_r0 k0_hw5)
theorem k0_off43_inb : ∀ (arg12_r0 : BitVec 32) (k0_hw5 : k0_chk5 arg12_r0), ∀ a, (k0_off43 arg12_r0) a + S1x1x1x32x2x1024.size a ≤ S2x1x32x32x2x1024.size a := fun arg12_r0 k0_hw5 => k0_hw5.1.2.2.2.2.2.2.2.2.2.2.2.2.2.2.2.2.2.2.2.2.2.1
theorem k0_off43_packedbf16 : ∀ (arg12_r0 : BitVec 32) (k0_hw5 : k0_chk5 arg12_r0), (Rect.unit (s := S2x1x32x32x2x1024) (k0_off43 arg12_r0) S1x1x1x32x2x1024.size (k0_off43_inb arg12_r0 k0_hw5)).PackedRows (EltTy.packing .bf16) := fun arg12_r0 k0_hw5 => k0_hw5.1.2.2.2.2.2.2.2.2.2.2.2.2.2.2.2.2.2.2.2.2.2.2.1 (k0_off43_inb arg12_r0 k0_hw5)
theorem k0_off44_inb : ∀ (arg12_r0 : BitVec 32) (k0_hw5 : k0_chk5 arg12_r0), ∀ a, (k0_off44 arg12_r0) a + S1x1x1x32x2x1024.size a ≤ S2x1x32x32x2x1024.size a := fun arg12_r0 k0_hw5 => k0_hw5.1.2.2.2.2.2.2.2.2.2.2.2.2.2.2.2.2.2.2.2.2.2.2.2.1
theorem k0_off44_packedbf16 : ∀ (arg12_r0 : BitVec 32) (k0_hw5 : k0_chk5 arg12_r0), (Rect.unit (s := S2x1x32x32x2x1024) (k0_off44 arg12_r0) S1x1x1x32x2x1024.size (k0_off44_inb arg12_r0 k0_hw5)).PackedRows (EltTy.packing .bf16) := fun arg12_r0 k0_hw5 => k0_hw5.1.2.2.2.2.2.2.2.2.2.2.2.2.2.2.2.2.2.2.2.2.2.2.2.2.1 (k0_off44_inb arg12_r0 k0_hw5)
theorem k0_off45_inb : ∀ (arg12_r0 : BitVec 32) (k0_hw5 : k0_chk5 arg12_r0), ∀ a, (k0_off45 arg12_r0) a + S1x1x1x32x2x1024.size a ≤ S2x1x32x32x2x1024.size a := fun arg12_r0 k0_hw5 => k0_hw5.1.2.2.2.2.2.2.2.2.2.2.2.2.2.2.2.2.2.2.2.2.2.2.2.2.2.1
theorem k0_off45_packedbf16 : ∀ (arg12_r0 : BitVec 32) (k0_hw5 : k0_chk5 arg12_r0), (Rect.unit (s := S2x1x32x32x2x1024) (k0_off45 arg12_r0) S1x1x1x32x2x1024.size (k0_off45_inb arg12_r0 k0_hw5)).PackedRows (EltTy.packing .bf16) := fun arg12_r0 k0_hw5 => k0_hw5.1.2.2.2.2.2.2.2.2.2.2.2.2.2.2.2.2.2.2.2.2.2.2.2.2.2.2.1 (k0_off45_inb arg12_r0 k0_hw5)
theorem k0_off46_inb : ∀ (arg12_r0 : BitVec 32) (k0_hw5 : k0_chk5 arg12_r0), ∀ a, (k0_off46 arg12_r0) a + S1x1x1x32x2x1024.size a ≤ S2x1x32x32x2x1024.size a := fun arg12_r0 k0_hw5 => k0_hw5.1.2.2.2.2.2.2.2.2.2.2.2.2.2.2.2.2.2.2.2.2.2.2.2.2.2.2.2.1
theorem k0_off46_packedbf16 : ∀ (arg12_r0 : BitVec 32) (k0_hw5 : k0_chk5 arg12_r0), (Rect.unit (s := S2x1x32x32x2x1024) (k0_off46 arg12_r0) S1x1x1x32x2x1024.size (k0_off46_inb arg12_r0 k0_hw5)).PackedRows (EltTy.packing .bf16) := fun arg12_r0 k0_hw5 => k0_hw5.1.2.2.2.2.2.2.2.2.2.2.2.2.2.2.2.2.2.2.2.2.2.2.2.2.2.2.2.2.1 (k0_off46_inb arg12_r0 k0_hw5)
theorem k0_off47_inb : ∀ (arg12_r0 : BitVec 32) (k0_hw5 : k0_chk5 arg12_r0), ∀ a, (k0_off47 arg12_r0) a + S1x1x1x32x2x1024.size a ≤ S2x1x32x32x2x1024.size a := fun arg12_r0 k0_hw5 => k0_hw5.1.2.2.2.2.2.2.2.2.2.2.2.2.2.2.2.2.2.2.2.2.2.2.2.2.2.2.2.2.2.1
theorem k0_off47_packedbf16 : ∀ (arg12_r0 : BitVec 32) (k0_hw5 : k0_chk5 arg12_r0), (Rect.unit (s := S2x1x32x32x2x1024) (k0_off47 arg12_r0) S1x1x1x32x2x1024.size (k0_off47_inb arg12_r0 k0_hw5)).PackedRows (EltTy.packing .bf16) := fun arg12_r0 k0_hw5 => k0_hw5.1.2.2.2.2.2.2.2.2.2.2.2.2.2.2.2.2.2.2.2.2.2.2.2.2.2.2.2.2.2.2.1 (k0_off47_inb arg12_r0 k0_hw5)
theorem k0_off48_inb : ∀ (arg12_r0 : BitVec 32) (k0_hw5 : k0_chk5 arg12_r0), ∀ a, (k0_off48 arg12_r0) a + S1x1x1x32x2x1024.size a ≤ S2x1x32x32x2x1024.size a := fun arg12_r0 k0_hw5 => k0_hw5.1.2.2.2.2.2.2.2.2.2.2.2.2.2.2.2.2.2.2.2.2.2.2.2.2.2.2.2.2.2.2.2
theorem k0_off48_packedbf16 : ∀ (arg12_r0 : BitVec 32) (k0_hw5 : k0_chk5 arg12_r0), (Rect.unit (s := S2x1x32x32x2x1024) (k0_off48 arg12_r0) S1x1x1x32x2x1024.size (k0_off48_inb arg12_r0 k0_hw5)).PackedRows (EltTy.packing .bf16) := fun arg12_r0 k0_hw5 => k0_hw5.2.1.1 (k0_off48_inb arg12_r0 k0_hw5)
theorem k0_off49_inb : ∀ (arg12_r0 : BitVec 32) (k0_hw5 : k0_chk5 arg12_r0), ∀ a, (k0_off49 arg12_r0) a + S1x1x1x32x2x1024.size a ≤ S2x1x32x32x2x1024.size a := fun arg12_r0 k0_hw5 => k0_hw5.2.1.2.1
theorem k0_off49_packedbf16 : ∀ (arg12_r0 : BitVec 32) (k0_hw5 : k0_chk5 arg12_r0), (Rect.unit (s := S2x1x32x32x2x1024) (k0_off49 arg12_r0) S1x1x1x32x2x1024.size (k0_off49_inb arg12_r0 k0_hw5)).PackedRows (EltTy.packing .bf16) := fun arg12_r0 k0_hw5 => k0_hw5.2.1.2.2.1 (k0_off49_inb arg12_r0 k0_hw5)
theorem k0_off50_inb : ∀ (arg12_r0 : BitVec 32) (k0_hw5 : k0_chk5 arg12_r0), ∀ a, (k0_off50 arg12_r0) a + S1x1x1x32x2x1024.size a ≤ S2x1x32x32x2x1024.size a := fun arg12_r0 k0_hw5 => k0_hw5.2.1.2.2.2.1
theorem k0_off50_packedbf16 : ∀ (arg12_r0 : BitVec 32) (k0_hw5 : k0_chk5 arg12_r0), (Rect.unit (s := S2x1x32x32x2x1024) (k0_off50 arg12_r0) S1x1x1x32x2x1024.size (k0_off50_inb arg12_r0 k0_hw5)).PackedRows (EltTy.packing .bf16) := fun arg12_r0 k0_hw5 => k0_hw5.2.1.2.2.2.2.1 (k0_off50_inb arg12_r0 k0_hw5)
theorem k0_off51_inb : ∀ (arg12_r0 : BitVec 32) (k0_hw5 : k0_chk5 arg12_r0), ∀ a, (k0_off51 arg12_r0) a + S1x1x1x32x2x1024.size a ≤ S2x1x32x32x2x1024.size a := fun arg12_r0 k0_hw5 => k0_hw5.2.1.2.2.2.2.2.1
theorem k0_off51_packedbf16 : ∀ (arg12_r0 : BitVec 32) (k0_hw5 : k0_chk5 arg12_r0), (Rect.unit (s := S2x1x32x32x2x1024) (k0_off51 arg12_r0) S1x1x1x32x2x1024.size (k0_off51_inb arg12_r0 k0_hw5)).PackedRows (EltTy.packing .bf16) := fun arg12_r0 k0_hw5 => k0_hw5.2.1.2.2.2.2.2.2.1 (k0_off51_inb arg12_r0 k0_hw5)
theorem k0_off52_inb : ∀ (arg12_r0 : BitVec 32) (k0_hw5 : k0_chk5 arg12_r0), ∀ a, (k0_off52 arg12_r0) a + S1x1x1x32x2x1024.size a ≤ S2x1x32x32x2x1024.size a := fun arg12_r0 k0_hw5 => k0_hw5.2.1.2.2.2.2.2.2.2.1
theorem k0_off52_packedbf16 : ∀ (arg12_r0 : BitVec 32) (k0_hw5 : k0_chk5 arg12_r0), (Rect.unit (s := S2x1x32x32x2x1024) (k0_off52 arg12_r0) S1x1x1x32x2x1024.size (k0_off52_inb arg12_r0 k0_hw5)).PackedRows (EltTy.packing .bf16) := fun arg12_r0 k0_hw5 => k0_hw5.2.1.2.2.2.2.2.2.2.2.1 (k0_off52_inb arg12_r0 k0_hw5)
theorem k0_off53_inb : ∀ (arg12_r0 : BitVec 32) (k0_hw5 : k0_chk5 arg12_r0), ∀ a, (k0_off53 arg12_r0) a + S1x1x1x32x2x1024.size a ≤ S2x1x32x32x2x1024.size a := fun arg12_r0 k0_hw5 => k0_hw5.2.1.2.2.2.2.2.2.2.2.2.1
theorem k0_off53_packedbf16 : ∀ (arg12_r0 : BitVec 32) (k0_hw5 : k0_chk5 arg12_r0), (Rect.unit (s := S2x1x32x32x2x1024) (k0_off53 arg12_r0) S1x1x1x32x2x1024.size (k0_off53_inb arg12_r0 k0_hw5)).PackedRows (EltTy.packing .bf16) := fun arg12_r0 k0_hw5 => k0_hw5.2.1.2.2.2.2.2.2.2.2.2.2.1 (k0_off53_inb arg12_r0 k0_hw5)
theorem k0_off54_inb : ∀ (arg12_r0 : BitVec 32) (k0_hw5 : k0_chk5 arg12_r0), ∀ a, (k0_off54 arg12_r0) a + S1x1x1x32x2x1024.size a ≤ S2x1x32x32x2x1024.size a := fun arg12_r0 k0_hw5 => k0_hw5.2.1.2.2.2.2.2.2.2.2.2.2.2.1
theorem k0_off54_packedbf16 : ∀ (arg12_r0 : BitVec 32) (k0_hw5 : k0_chk5 arg12_r0), (Rect.unit (s := S2x1x32x32x2x1024) (k0_off54 arg12_r0) S1x1x1x32x2x1024.size (k0_off54_inb arg12_r0 k0_hw5)).PackedRows (EltTy.packing .bf16) := fun arg12_r0 k0_hw5 => k0_hw5.2.1.2.2.2.2.2.2.2.2.2.2.2.2.1 (k0_off54_inb arg12_r0 k0_hw5)
theorem k0_off55_inb : ∀ (arg12_r0 : BitVec 32) (k0_hw5 : k0_chk5 arg12_r0), ∀ a, (k0_off55 arg12_r0) a + S1x1x1x32x2x1024.size a ≤ S2x1x32x32x2x1024.size a := fun arg12_r0 k0_hw5 => k0_hw5.2.1.2.2.2.2.2.2.2.2.2.2.2.2.2.1
theorem k0_off55_packedbf16 : ∀ (arg12_r0 : BitVec 32) (k0_hw5 : k0_chk5 arg12_r0), (Rect.unit (s := S2x1x32x32x2x1024) (k0_off55 arg12_r0) S1x1x1x32x2x1024.size (k0_off55_inb arg12_r0 k0_hw5)).PackedRows (EltTy.packing .bf16) := fun arg12_r0 k0_hw5 => k0_hw5.2.1.2.2.2.2.2.2.2.2.2.2.2.2.2.2.1 (k0_off55_inb arg12_r0 k0_hw5)
theorem k0_off56_inb : ∀ (arg12_r0 : BitVec 32) (k0_hw5 : k0_chk5 arg12_r0), ∀ a, (k0_off56 arg12_r0) a + S1x1x1x32x2x1024.size a ≤ S2x1x32x32x2x1024.size a := fun arg12_r0 k0_hw5 => k0_hw5.2.1.2.2.2.2.2.2.2.2.2.2.2.2.2.2.2.1
theorem k0_off56_packedbf16 : ∀ (arg12_r0 : BitVec 32) (k0_hw5 : k0_chk5 arg12_r0), (Rect.unit (s := S2x1x32x32x2x1024) (k0_off56 arg12_r0) S1x1x1x32x2x1024.size (k0_off56_inb arg12_r0 k0_hw5)).PackedRows (EltTy.packing .bf16) := fun arg12_r0 k0_hw5 => k0_hw5.2.1.2.2.2.2.2.2.2.2.2.2.2.2.2.2.2.2.1 (k0_off56_inb arg12_r0 k0_hw5)
theorem k0_off57_inb : ∀ (arg12_r0 : BitVec 32) (k0_hw5 : k0_chk5 arg12_r0), ∀ a, (k0_off57 arg12_r0) a + S1x1x1x32x2x1024.size a ≤ S2x1x32x32x2x1024.size a := fun arg12_r0 k0_hw5 => k0_hw5.2.1.2.2.2.2.2.2.2.2.2.2.2.2.2.2.2.2.2.1
theorem k0_off57_packedbf16 : ∀ (arg12_r0 : BitVec 32) (k0_hw5 : k0_chk5 arg12_r0), (Rect.unit (s := S2x1x32x32x2x1024) (k0_off57 arg12_r0) S1x1x1x32x2x1024.size (k0_off57_inb arg12_r0 k0_hw5)).PackedRows (EltTy.packing .bf16) := fun arg12_r0 k0_hw5 => k0_hw5.2.1.2.2.2.2.2.2.2.2.2.2.2.2.2.2.2.2.2.2.1 (k0_off57_inb arg12_r0 k0_hw5)
theorem k0_off58_inb : ∀ (arg12_r0 : BitVec 32) (k0_hw5 : k0_chk5 arg12_r0), ∀ a, (k0_off58 arg12_r0) a + S1x1x1x32x2x1024.size a ≤ S2x1x32x32x2x1024.size a := fun arg12_r0 k0_hw5 => k0_hw5.2.1.2.2.2.2.2.2.2.2.2.2.2.2.2.2.2.2.2.2.2.1
theorem k0_off58_packedbf16 : ∀ (arg12_r0 : BitVec 32) (k0_hw5 : k0_chk5 arg12_r0), (Rect.unit (s := S2x1x32x32x2x1024) (k0_off58 arg12_r0) S1x1x1x32x2x1024.size (k0_off58_inb arg12_r0 k0_hw5)).PackedRows (EltTy.packing .bf16) := fun arg12_r0 k0_hw5 => k0_hw5.2.1.2.2.2.2.2.2.2.2.2.2.2.2.2.2.2.2.2.2.2.2.1 (k0_off58_inb arg12_r0 k0_hw5)
theorem k0_off59_inb : ∀ (arg12_r0 : BitVec 32) (k0_hw5 : k0_chk5 arg12_r0), ∀ a, (k0_off59 arg12_r0) a + S1x1x1x32x2x1024.size a ≤ S2x1x32x32x2x1024.size a := fun arg12_r0 k0_hw5 => k0_hw5.2.1.2.2.2.2.2.2.2.2.2.2.2.2.2.2.2.2.2.2.2.2.2.1
theorem k0_off59_packedbf16 : ∀ (arg12_r0 : BitVec 32) (k0_hw5 : k0_chk5 arg12_r0), (Rect.unit (s := S2x1x32x32x2x1024) (k0_off59 arg12_r0) S1x1x1x32x2x1024.size (k0_off59_inb arg12_r0 k0_hw5)).PackedRows (EltTy.packing .bf16) := fun arg12_r0 k0_hw5 => k0_hw5.2.1.2.2.2.2.2.2.2.2.2.2.2.2.2.2.2.2.2.2.2.2.2.2.1 (k0_off59_inb arg12_r0 k0_hw5)
theorem k0_off60_inb : ∀ (arg12_r0 : BitVec 32) (k0_hw5 : k0_chk5 arg12_r0), ∀ a, (k0_off60 arg12_r0) a + S1x1x1x32x2x1024.size a ≤ S2x1x32x32x2x1024.size a := fun arg12_r0 k0_hw5 => k0_hw5.2.1.2.2.2.2.2.2.2.2.2.2.2.2.2.2.2.2.2.2.2.2.2.2.2.1
theorem k0_off60_packedbf16 : ∀ (arg12_r0 : BitVec 32) (k0_hw5 : k0_chk5 arg12_r0), (Rect.unit (s := S2x1x32x32x2x1024) (k0_off60 arg12_r0) S1x1x1x32x2x1024.size (k0_off60_inb arg12_r0 k0_hw5)).PackedRows (EltTy.packing .bf16) := fun arg12_r0 k0_hw5 => k0_hw5.2.1.2.2.2.2.2.2.2.2.2.2.2.2.2.2.2.2.2.2.2.2.2.2.2.2.1 (k0_off60_inb arg12_r0 k0_hw5)
theorem k0_off61_inb : ∀ (arg12_r0 : BitVec 32) (k0_hw5 : k0_chk5 arg12_r0), ∀ a, (k0_off61 arg12_r0) a + S1x1x1x32x2x1024.size a ≤ S2x1x32x32x2x1024.size a := fun arg12_r0 k0_hw5 => k0_hw5.2.1.2.2.2.2.2.2.2.2.2.2.2.2.2.2.2.2.2.2.2.2.2.2.2.2.2.1
theorem k0_off61_packedbf16 : ∀ (arg12_r0 : BitVec 32) (k0_hw5 : k0_chk5 arg12_r0), (Rect.unit (s := S2x1x32x32x2x1024) (k0_off61 arg12_r0) S1x1x1x32x2x1024.size (k0_off61_inb arg12_r0 k0_hw5)).PackedRows (EltTy.packing .bf16) := fun arg12_r0 k0_hw5 => k0_hw5.2.1.2.2.2.2.2.2.2.2.2.2.2.2.2.2.2.2.2.2.2.2.2.2.2.2.2.2.1 (k0_off61_inb arg12_r0 k0_hw5)
theorem k0_off62_inb : ∀ (arg12_r0 : BitVec 32) (k0_hw5 : k0_chk5 arg12_r0), ∀ a, (k0_off62 arg12_r0) a + S1x1x1x32x2x1024.size a ≤ S2x1x32x32x2x1024.size a := fun arg12_r0 k0_hw5 => k0_hw5.2.1.2.2.2.2.2.2.2.2.2.2.2.2.2.2.2.2.2.2.2.2.2.2.2.2.2.2.2.1
theorem k0_off62_packedbf16 : ∀ (arg12_r0 : BitVec 32) (k0_hw5 : k0_chk5 arg12_r0), (Rect.unit (s := S2x1x32x32x2x1024) (k0_off62 arg12_r0) S1x1x1x32x2x1024.size (k0_off62_inb arg12_r0 k0_hw5)).PackedRows (EltTy.packing .bf16) := fun arg12_r0 k0_hw5 => k0_hw5.2.1.2.2.2.2.2.2.2.2.2.2.2.2.2.2.2.2.2.2.2.2.2.2.2.2.2.2.2.2.1 (k0_off62_inb arg12_r0 k0_hw5)
theorem k0_off63_inb : ∀ (arg12_r0 : BitVec 32) (k0_hw5 : k0_chk5 arg12_r0), ∀ a, (k0_off63 arg12_r0) a + S1x1x1x32x2x1024.size a ≤ S2x1x32x32x2x1024.size a := fun arg12_r0 k0_hw5 => k0_hw5.2.1.2.2.2.2.2.2.2.2.2.2.2.2.2.2.2.2.2.2.2.2.2.2.2.2.2.2.2.2.2.1
theorem k0_off63_packedbf16 : ∀ (arg12_r0 : BitVec 32) (k0_hw5 : k0_chk5 arg12_r0), (Rect.unit (s := S2x1x32x32x2x1024) (k0_off63 arg12_r0) S1x1x1x32x2x1024.size (k0_off63_inb arg12_r0 k0_hw5)).PackedRows (EltTy.packing .bf16) := fun arg12_r0 k0_hw5 => k0_hw5.2.1.2.2.2.2.2.2.2.2.2.2.2.2.2.2.2.2.2.2.2.2.2.2.2.2.2.2.2.2.2.2.1 (k0_off63_inb arg12_r0 k0_hw5)
theorem k0_off64_inb : ∀ (arg12_r0 : BitVec 32) (k0_hw5 : k0_chk5 arg12_r0), ∀ a, (k0_off64 arg12_r0) a + S1x1x1x32x2x1024.size a ≤ S2x1x32x32x2x1024.size a := fun arg12_r0 k0_hw5 => k0_hw5.2.1.2.2.2.2.2.2.2.2.2.2.2.2.2.2.2.2.2.2.2.2.2.2.2.2.2.2.2.2.2.2.2
theorem k0_off64_packedbf16 : ∀ (arg12_r0 : BitVec 32) (k0_hw5 : k0_chk5 arg12_r0), (Rect.unit (s := S2x1x32x32x2x1024) (k0_off64 arg12_r0) S1x1x1x32x2x1024.size (k0_off64_inb arg12_r0 k0_hw5)).PackedRows (EltTy.packing .bf16) := fun arg12_r0 k0_hw5 => k0_hw5.2.2 (k0_off64_inb arg12_r0 k0_hw5)

def k0_off65 (arg12_r0 : BitVec 32) : Fin 1 → Nat :=
  let c2_i32_1299_r0 : BitVec 32 := 2#32
  let v1444_r0 : BitVec 32 := Scalar.remui arg12_r0 c2_i32_1299_r0
  ![v1444_r0.toNat]
def k0_cond12 (k0_t1 : Fin k0_t1_loop.trips) (arg14_r0 : BitVec 32) (arg15_r0 : BitVec 32) : BitVec 1 :=
  let c0_i32_142_r0 : BitVec 32 := 0#32
  let v132_r0 : BitVec 32 := Scalar.addi arg14_r0 c0_i32_142_r0
  let true_154_r0 : BitVec 1 := 1#1
  let c1_i32_153_r0 : BitVec 32 := 1#32
  let v144_r0 : BitVec 32 := Scalar.addi arg15_r0 c1_i32_153_r0
  let v145_r0 : BitVec 32 := Scalar.select true_154_r0 v144_r0 arg15_r0
  let c4_i32_155_r0 : BitVec 32 := 4#32
  let v146_r0 : BitVec 1 := Scalar.cmpi .eq v145_r0 c4_i32_155_r0
  let c1_i32_157_r0 : BitVec 32 := 1#32
  let v148_r0 : BitVec 32 := Scalar.addi arg14_r0 c1_i32_157_r0
  let v149_r0 : BitVec 32 := Scalar.select v146_r0 v148_r0 arg14_r0
  let c4_i32_158_r0 : BitVec 32 := 4#32
  let v150_r0 : BitVec 1 := Scalar.cmpi .eq v149_r0 c4_i32_158_r0
  let c0_i32_159_r0 : BitVec 32 := 0#32
  let v151_r0 : BitVec 32 := Scalar.select v150_r0 c0_i32_159_r0 v149_r0
  let c0_i32_160_r0 : BitVec 32 := 0#32
  let v152_r0 : BitVec 32 := Scalar.addi v151_r0 c0_i32_160_r0
  let v1383_r0 : BitVec 1 := Scalar.cmpi .ne v132_r0 v152_r0
  let c0_i32_143_r0 : BitVec 32 := 0#32
  let v133_r0 : BitVec 32 := Scalar.addi arg15_r0 c0_i32_143_r0
  let c0_i32_156_r0 : BitVec 32 := 0#32
  let v147_r0 : BitVec 32 := Scalar.select v146_r0 c0_i32_156_r0 v145_r0
  let c0_i32_161_r0 : BitVec 32 := 0#32
  let v153_r0 : BitVec 32 := Scalar.addi v147_r0 c0_i32_161_r0
  let v1384_r0 : BitVec 1 := Scalar.cmpi .ne v133_r0 v153_r0
  let v1385_r0 : BitVec 1 := Scalar.ori v1383_r0 v1384_r0
  let c0_i32_83_r0 : BitVec 32 := 0#32
  let c1_i32_84_r0 : BitVec 32 := 1#32
  let arg5_r0 : BitVec 32 := Scf.iv c0_i32_83_r0 c1_i32_84_r0 k0_t1
  let c15_i32_r0 : BitVec 32 := 15#32
  let v131_r0 : BitVec 1 := Scalar.cmpi .eq arg5_r0 c15_i32_r0
  let v1386_r0 : BitVec 1 := Scalar.ori v1385_r0 v131_r0
  let v1387_r0 : BitVec 32 := Scalar.extui v1386_r0
  let c0_i32_1273_r0 : BitVec 32 := 0#32
  let v1388_r0 : BitVec 1 := Scalar.cmpi .ne v1387_r0 c0_i32_1273_r0
  v1388_r0

def k0_off66 (arg14_r0 : BitVec 32) (arg15_r0 : BitVec 32) : Fin 5 → Nat :=
  let c1_i32_1300_r0 : BitVec 32 := 1#32
  let c0_i32_142_r0 : BitVec 32 := 0#32
  let v132_r0 : BitVec 32 := Scalar.addi arg14_r0 c0_i32_142_r0
  let v1445_r0 : BitVec 32 := Scalar.muli c1_i32_1300_r0 v132_r0
  let c32_i32_1301_r0 : BitVec 32 := 32#32
  let c0_i32_143_r0 : BitVec 32 := 0#32
  let v133_r0 : BitVec 32 := Scalar.addi arg15_r0 c0_i32_143_r0
  let v1446_r0 : BitVec 32 := Scalar.muli c32_i32_1301_r0 v133_r0
  let c0_i32_1302_r0 : BitVec 32 := 0#32
  let c0_i32_1303_r0 : BitVec 32 := 0#32
  let c0_i32_1304_r0 : BitVec 32 := 0#32
  ![v1445_r0.toNat, v1446_r0.toNat, 0, 0, 0]
def k0_off67 (arg12_r0 : BitVec 32) : Fin 6 → Nat :=
  let c2_i32_1299_r0 : BitVec 32 := 2#32
  let v1444_r0 : BitVec 32 := Scalar.remui arg12_r0 c2_i32_1299_r0
  let c0_i32_1305_r0 : BitVec 32 := 0#32
  let c0_i32_1306_r0 : BitVec 32 := 0#32
  let c0_i32_1307_r0 : BitVec 32 := 0#32
  let c0_i32_1308_r0 : BitVec 32 := 0#32
  let c0_i32_1309_r0 : BitVec 32 := 0#32
  ![v1444_r0.toNat, 0, 0, 0, 0, 0]
def k0_off68 (arg13_r0 : BitVec 32) : Fin 1 → Nat :=
  let c2_i32_1299_r0 : BitVec 32 := 2#32
  let v1444_r0 : BitVec 32 := Scalar.remui arg13_r0 c2_i32_1299_r0
  ![v1444_r0.toNat]
def k0_cond16 (k0_t1 : Fin k0_t1_loop.trips) (arg14_r0 : BitVec 32) (arg15_r0 : BitVec 32) : BitVec 1 :=
  let c0_i32_142_r0 : BitVec 32 := 0#32
  let v132_r0 : BitVec 32 := Scalar.addi arg14_r0 c0_i32_142_r0
  let true_145_r0 : BitVec 1 := 1#1
  let c1_i32_144_r0 : BitVec 32 := 1#32
  let v134_r0 : BitVec 32 := Scalar.subi arg15_r0 c1_i32_144_r0
  let v135_r0 : BitVec 32 := Scalar.select true_145_r0 v134_r0 arg15_r0
  let c_m1_i32_146_r0 : BitVec 32 := 4294967295#32
  let v136_r0 : BitVec 1 := Scalar.cmpi .eq v135_r0 c_m1_i32_146_r0
  let c1_i32_148_r0 : BitVec 32 := 1#32
  let v138_r0 : BitVec 32 := Scalar.subi arg14_r0 c1_i32_148_r0
  let v139_r0 : BitVec 32 := Scalar.select v136_r0 v138_r0 arg14_r0
  let c_m1_i32_149_r0 : BitVec 32 := 4294967295#32
  let v140_r0 : BitVec 1 := Scalar.cmpi .eq v139_r0 c_m1_i32_149_r0
  let c3_i32_150_r0 : BitVec 32 := 3#32
  let v141_r0 : BitVec 32 := Scalar.select v140_r0 c3_i32_150_r0 v139_r0
  let c0_i32_151_r0 : BitVec 32 := 0#32
  let v142_r0 : BitVec 32 := Scalar.addi v141_r0 c0_i32_151_r0
  let v1412_r0 : BitVec 1 := Scalar.cmpi .ne v132_r0 v142_r0
  let c0_i32_143_r0 : BitVec 32 := 0#32
  let v133_r0 : BitVec 32 := Scalar.addi arg15_r0 c0_i32_143_r0
  let c3_i32_147_r0 : BitVec 32 := 3#32
  let v137_r0 : BitVec 32 := Scalar.select v136_r0 c3_i32_147_r0 v135_r0
  let c0_i32_152_r0 : BitVec 32 := 0#32
  let v143_r0 : BitVec 32 := Scalar.addi v137_r0 c0_i32_152_r0
  let v1413_r0 : BitVec 1 := Scalar.cmpi .ne v133_r0 v143_r0
  let v1414_r0 : BitVec 1 := Scalar.ori v1412_r0 v1413_r0
  let c0_i32_83_r0 : BitVec 32 := 0#32
  let c1_i32_84_r0 : BitVec 32 := 1#32
  let arg5_r0 : BitVec 32 := Scf.iv c0_i32_83_r0 c1_i32_84_r0 k0_t1
  let c0_i32_141_r0 : BitVec 32 := 0#32
  let v130_r0 : BitVec 1 := Scalar.cmpi .eq arg5_r0 c0_i32_141_r0
  let true_1285_r0 : BitVec 1 := 1#1
  let v1415_r0 : BitVec 1 := Scalar.xori v130_r0 true_1285_r0
  let v1416_r0 : BitVec 1 := Scalar.andi v1414_r0 v1415_r0
  let v1417_r0 : BitVec 32 := Scalar.extui v1416_r0
  let c0_i32_1286_r0 : BitVec 32 := 0#32
  let v1418_r0 : BitVec 1 := Scalar.cmpi .ne v1417_r0 c0_i32_1286_r0
  v1418_r0

def k0_off69 (arg14_r0 : BitVec 32) (arg15_r0 : BitVec 32) : Fin 5 → Nat :=
  let c1_i32_1300_r0 : BitVec 32 := 1#32
  let true_145_r0 : BitVec 1 := 1#1
  let c1_i32_144_r0 : BitVec 32 := 1#32
  let v134_r0 : BitVec 32 := Scalar.subi arg15_r0 c1_i32_144_r0
  let v135_r0 : BitVec 32 := Scalar.select true_145_r0 v134_r0 arg15_r0
  let c_m1_i32_146_r0 : BitVec 32 := 4294967295#32
  let v136_r0 : BitVec 1 := Scalar.cmpi .eq v135_r0 c_m1_i32_146_r0
  let c1_i32_148_r0 : BitVec 32 := 1#32
  let v138_r0 : BitVec 32 := Scalar.subi arg14_r0 c1_i32_148_r0
  let v139_r0 : BitVec 32 := Scalar.select v136_r0 v138_r0 arg14_r0
  let c_m1_i32_149_r0 : BitVec 32 := 4294967295#32
  let v140_r0 : BitVec 1 := Scalar.cmpi .eq v139_r0 c_m1_i32_149_r0
  let c3_i32_150_r0 : BitVec 32 := 3#32
  let v141_r0 : BitVec 32 := Scalar.select v140_r0 c3_i32_150_r0 v139_r0
  let c0_i32_151_r0 : BitVec 32 := 0#32
  let v142_r0 : BitVec 32 := Scalar.addi v141_r0 c0_i32_151_r0
  let v1445_r0 : BitVec 32 := Scalar.muli c1_i32_1300_r0 v142_r0
  let c32_i32_1301_r0 : BitVec 32 := 32#32
  let c3_i32_147_r0 : BitVec 32 := 3#32
  let v137_r0 : BitVec 32 := Scalar.select v136_r0 c3_i32_147_r0 v135_r0
  let c0_i32_152_r0 : BitVec 32 := 0#32
  let v143_r0 : BitVec 32 := Scalar.addi v137_r0 c0_i32_152_r0
  let v1446_r0 : BitVec 32 := Scalar.muli c32_i32_1301_r0 v143_r0
  let c0_i32_1302_r0 : BitVec 32 := 0#32
  let c0_i32_1303_r0 : BitVec 32 := 0#32
  let c0_i32_1304_r0 : BitVec 32 := 0#32
  ![v1445_r0.toNat, v1446_r0.toNat, 0, 0, 0]
def k0_off70 (arg13_r0 : BitVec 32) : Fin 6 → Nat :=
  let c2_i32_1299_r0 : BitVec 32 := 2#32
  let v1444_r0 : BitVec 32 := Scalar.remui arg13_r0 c2_i32_1299_r0
  let c0_i32_1305_r0 : BitVec 32 := 0#32
  let c0_i32_1306_r0 : BitVec 32 := 0#32
  let c0_i32_1307_r0 : BitVec 32 := 0#32
  let c0_i32_1308_r0 : BitVec 32 := 0#32
  let c0_i32_1309_r0 : BitVec 32 := 0#32
  ![v1444_r0.toNat, 0, 0, 0, 0, 0]

def k0_chk1 (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) : Prop :=
  (∀ (k0_h2 : k0_cond2 k0_t1 arg14_r0 arg15_r0 = 1#1), ∀ a, (k0_off8 arg6_r0) a + S1.size a ≤ S3.size a) ∧
  (∀ (k0_h2 : k0_cond2 k0_t1 arg14_r0 arg15_r0 = 1#1), ∀ a, (k0_off9 arg6_r0) a + S1x1x64x16x2x1024.size a ≤ S3x1x64x16x2x1024.size a) ∧
  (∀ (k0_h2 : k0_cond2 k0_t1 arg14_r0 arg15_r0 = 1#1), ∀ a, (k0_off10 arg14_r0 arg15_r0) a + S1x64x16x2x1024.size a ≤ S4x64x64x2x1024.size a) ∧
  (∀ (k0_h2 : k0_cond2 k0_t1 arg14_r0 arg15_r0 = 1#1), ∀ (hinb : ∀ a, (k0_off10 arg14_r0 arg15_r0) a + S1x64x16x2x1024.size a ≤ S4x64x64x2x1024.size a), (Rect.unit (s := S4x64x64x2x1024) (k0_off10 arg14_r0 arg15_r0) S1x64x16x2x1024.size hinb).WholeWords (EltTy.packing .bf16)) ∧
  (∀ (k0_h2 : k0_cond2 k0_t1 arg14_r0 arg15_r0 = 1#1), ∀ (hinb : ∀ a, (k0_off9 arg6_r0) a + S1x1x64x16x2x1024.size a ≤ S3x1x64x16x2x1024.size a), (Rect.unit (s := S3x1x64x16x2x1024) (k0_off9 arg6_r0) S1x1x64x16x2x1024.size hinb).WholeWords (EltTy.packing .bf16)) ∧
  (∀ (k0_h3 : k0_cond3 k0_t1 arg15_r0 = 1#1), ∀ a, (k0_off11 arg8_r0) a + S1.size a ≤ S2.size a) ∧
  (∀ (k0_h3 : k0_cond3 k0_t1 arg15_r0 = 1#1), ∀ a, (k0_off12 arg8_r0) a + S1x32x64x128.size a ≤ S2x32x64x128.size a) ∧
  (∀ (k0_h3 : k0_cond3 k0_t1 arg15_r0 = 1#1), ∀ a, (k0_off13 arg15_r0) a + S32x64x128.size a ≤ S128x64x128.size a) ∧
  (∀ (k0_h4 : k0_cond4 k0_t1 arg15_r0 = 1#1), ∀ a, (k0_off14 arg10_r0) a + S1.size a ≤ S2.size a) ∧
  (∀ (k0_h4 : k0_cond4 k0_t1 arg15_r0 = 1#1), ∀ a, (k0_off15 arg10_r0) a + S1x32x64x128.size a ≤ S2x32x64x128.size a) ∧
  (∀ (k0_h4 : k0_cond4 k0_t1 arg15_r0 = 1#1), ∀ a, (k0_off16 arg15_r0) a + S32x64x128.size a ≤ S128x64x128.size a) ∧
  (∀ (k0_h5 : k0_cond5 k0_t1 arg14_r0 arg15_r0 = 1#1), ∀ a, (k0_off17 arg7_r0) a + S1.size a ≤ S3.size a) ∧
  (∀ (k0_h5 : k0_cond5 k0_t1 arg14_r0 arg15_r0 = 1#1), ∀ a, (k0_off18 arg7_r0) a + S1x1x64x16x2x1024.size a ≤ S3x1x64x16x2x1024.size a) ∧
  (∀ (k0_h5 : k0_cond5 k0_t1 arg14_r0 arg15_r0 = 1#1), ∀ a, (k0_off19 arg14_r0 arg15_r0) a + S1x64x16x2x1024.size a ≤ S4x64x64x2x1024.size a) ∧
  (∀ (k0_h5 : k0_cond5 k0_t1 arg14_r0 arg15_r0 = 1#1), ∀ (hinb : ∀ a, (k0_off19 arg14_r0 arg15_r0) a + S1x64x16x2x1024.size a ≤ S4x64x64x2x1024.size a), (Rect.unit (s := S4x64x64x2x1024) (k0_off19 arg14_r0 arg15_r0) S1x64x16x2x1024.size hinb).WholeWords (EltTy.packing .bf16)) ∧
  (∀ (k0_h5 : k0_cond5 k0_t1 arg14_r0 arg15_r0 = 1#1), ∀ (hinb : ∀ a, (k0_off18 arg7_r0) a + S1x1x64x16x2x1024.size a ≤ S3x1x64x16x2x1024.size a), (Rect.unit (s := S3x1x64x16x2x1024) (k0_off18 arg7_r0) S1x1x64x16x2x1024.size hinb).WholeWords (EltTy.packing .bf16)) ∧
  (∀ (k0_h6 : k0_cond6 k0_t1 arg15_r0 = 1#1), ∀ a, (k0_off20 arg9_r0) a + S1.size a ≤ S2.size a) ∧
  (∀ (k0_h6 : k0_cond6 k0_t1 arg15_r0 = 1#1), ∀ a, (k0_off21 arg9_r0) a + S1x32x64x128.size a ≤ S2x32x64x128.size a) ∧
  (∀ (k0_h6 : k0_cond6 k0_t1 arg15_r0 = 1#1), ∀ a, (k0_off22 arg15_r0) a + S32x64x128.size a ≤ S128x64x128.size a) ∧
  (∀ (k0_h7 : k0_cond7 k0_t1 arg15_r0 = 1#1), ∀ a, (k0_off23 arg11_r0) a + S1.size a ≤ S2.size a) ∧
  (∀ (k0_h7 : k0_cond7 k0_t1 arg15_r0 = 1#1), ∀ a, (k0_off24 arg11_r0) a + S1x32x64x128.size a ≤ S2x32x64x128.size a) ∧
  (∀ (k0_h7 : k0_cond7 k0_t1 arg15_r0 = 1#1), ∀ a, (k0_off25 arg15_r0) a + S32x64x128.size a ≤ S128x64x128.size a) ∧
  (∀ (k0_h12 : k0_cond12 k0_t1 arg14_r0 arg15_r0 = 1#1), ∀ a, (k0_off65 arg12_r0) a + S1.size a ≤ S2.size a) ∧
  (∀ (k0_h12 : k0_cond12 k0_t1 arg14_r0 arg15_r0 = 1#1), ∀ a, (k0_off66 arg14_r0 arg15_r0) a + S1x32x32x2x1024.size a ≤ S4x128x32x2x1024.size a) ∧
  (∀ (k0_h12 : k0_cond12 k0_t1 arg14_r0 arg15_r0 = 1#1), ∀ a, (k0_off67 arg12_r0) a + S1x1x32x32x2x1024.size a ≤ S2x1x32x32x2x1024.size a) ∧
  (∀ (k0_h12 : k0_cond12 k0_t1 arg14_r0 arg15_r0 = 1#1), ∀ (hinb : ∀ a, (k0_off67 arg12_r0) a + S1x1x32x32x2x1024.size a ≤ S2x1x32x32x2x1024.size a), (Rect.unit (s := S2x1x32x32x2x1024) (k0_off67 arg12_r0) S1x1x32x32x2x1024.size hinb).WholeWords (EltTy.packing .bf16)) ∧
  (∀ (k0_h12 : k0_cond12 k0_t1 arg14_r0 arg15_r0 = 1#1), ∀ (hinb : ∀ a, (k0_off66 arg14_r0 arg15_r0) a + S1x32x32x2x1024.size a ≤ S4x128x32x2x1024.size a), (Rect.unit (s := S4x128x32x2x1024) (k0_off66 arg14_r0 arg15_r0) S1x32x32x2x1024.size hinb).WholeWords (EltTy.packing .bf16)) ∧
  (∀ (k0_h16 : k0_cond16 k0_t1 arg14_r0 arg15_r0 = 1#1), ∀ a, (k0_off68 arg13_r0) a + S1.size a ≤ S2.size a) ∧
  (∀ (k0_h16 : k0_cond16 k0_t1 arg14_r0 arg15_r0 = 1#1), ∀ a, (k0_off69 arg14_r0 arg15_r0) a + S1x32x32x2x1024.size a ≤ S4x128x32x2x1024.size a) ∧
  (∀ (k0_h16 : k0_cond16 k0_t1 arg14_r0 arg15_r0 = 1#1), ∀ a, (k0_off70 arg13_r0) a + S1x1x32x32x2x1024.size a ≤ S2x1x32x32x2x1024.size a) ∧
  (∀ (k0_h16 : k0_cond16 k0_t1 arg14_r0 arg15_r0 = 1#1), ∀ (hinb : ∀ a, (k0_off70 arg13_r0) a + S1x1x32x32x2x1024.size a ≤ S2x1x32x32x2x1024.size a), (Rect.unit (s := S2x1x32x32x2x1024) (k0_off70 arg13_r0) S1x1x32x32x2x1024.size hinb).WholeWords (EltTy.packing .bf16)) ∧
  (∀ (k0_h16 : k0_cond16 k0_t1 arg14_r0 arg15_r0 = 1#1), ∀ (hinb : ∀ a, (k0_off69 arg14_r0 arg15_r0) a + S1x32x32x2x1024.size a ≤ S4x128x32x2x1024.size a), (Rect.unit (s := S4x128x32x2x1024) (k0_off69 arg14_r0 arg15_r0) S1x32x32x2x1024.size hinb).WholeWords (EltTy.packing .bf16))
theorem k0_off8_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h2 : k0_cond2 k0_t1 arg14_r0 arg15_r0 = 1#1), ∀ a, (k0_off8 arg6_r0) a + S1.size a ≤ S3.size a := fun k0_t1 arg6_r0 arg7_r0 arg8_r0 arg9_r0 arg10_r0 arg11_r0 arg12_r0 arg13_r0 arg14_r0 arg15_r0 k0_hw1 k0_h2 => k0_hw1.1 k0_h2
theorem k0_off9_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h2 : k0_cond2 k0_t1 arg14_r0 arg15_r0 = 1#1), ∀ a, (k0_off9 arg6_r0) a + S1x1x64x16x2x1024.size a ≤ S3x1x64x16x2x1024.size a := fun k0_t1 arg6_r0 arg7_r0 arg8_r0 arg9_r0 arg10_r0 arg11_r0 arg12_r0 arg13_r0 arg14_r0 arg15_r0 k0_hw1 k0_h2 => k0_hw1.2.1 k0_h2
theorem k0_off10_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h2 : k0_cond2 k0_t1 arg14_r0 arg15_r0 = 1#1), ∀ a, (k0_off10 arg14_r0 arg15_r0) a + S1x64x16x2x1024.size a ≤ S4x64x64x2x1024.size a := fun k0_t1 arg6_r0 arg7_r0 arg8_r0 arg9_r0 arg10_r0 arg11_r0 arg12_r0 arg13_r0 arg14_r0 arg15_r0 k0_hw1 k0_h2 => k0_hw1.2.2.1 k0_h2
theorem k0_off10_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h2 : k0_cond2 k0_t1 arg14_r0 arg15_r0 = 1#1), (Rect.unit (s := S4x64x64x2x1024) (k0_off10 arg14_r0 arg15_r0) S1x64x16x2x1024.size (k0_off10_inb k0_t1 arg6_r0 arg7_r0 arg8_r0 arg9_r0 arg10_r0 arg11_r0 arg12_r0 arg13_r0 arg14_r0 arg15_r0 k0_hw1 k0_h2)).WholeWords (EltTy.packing .bf16) := fun k0_t1 arg6_r0 arg7_r0 arg8_r0 arg9_r0 arg10_r0 arg11_r0 arg12_r0 arg13_r0 arg14_r0 arg15_r0 k0_hw1 k0_h2 => k0_hw1.2.2.2.1 k0_h2 (k0_off10_inb k0_t1 arg6_r0 arg7_r0 arg8_r0 arg9_r0 arg10_r0 arg11_r0 arg12_r0 arg13_r0 arg14_r0 arg15_r0 k0_hw1 k0_h2)
theorem k0_off9_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h2 : k0_cond2 k0_t1 arg14_r0 arg15_r0 = 1#1), (Rect.unit (s := S3x1x64x16x2x1024) (k0_off9 arg6_r0) S1x1x64x16x2x1024.size (k0_off9_inb k0_t1 arg6_r0 arg7_r0 arg8_r0 arg9_r0 arg10_r0 arg11_r0 arg12_r0 arg13_r0 arg14_r0 arg15_r0 k0_hw1 k0_h2)).WholeWords (EltTy.packing .bf16) := fun k0_t1 arg6_r0 arg7_r0 arg8_r0 arg9_r0 arg10_r0 arg11_r0 arg12_r0 arg13_r0 arg14_r0 arg15_r0 k0_hw1 k0_h2 => k0_hw1.2.2.2.2.1 k0_h2 (k0_off9_inb k0_t1 arg6_r0 arg7_r0 arg8_r0 arg9_r0 arg10_r0 arg11_r0 arg12_r0 arg13_r0 arg14_r0 arg15_r0 k0_hw1 k0_h2)
theorem k0_off11_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h3 : k0_cond3 k0_t1 arg15_r0 = 1#1), ∀ a, (k0_off11 arg8_r0) a + S1.size a ≤ S2.size a := fun k0_t1 arg6_r0 arg7_r0 arg8_r0 arg9_r0 arg10_r0 arg11_r0 arg12_r0 arg13_r0 arg14_r0 arg15_r0 k0_hw1 k0_h3 => k0_hw1.2.2.2.2.2.1 k0_h3
theorem k0_off12_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h3 : k0_cond3 k0_t1 arg15_r0 = 1#1), ∀ a, (k0_off12 arg8_r0) a + S1x32x64x128.size a ≤ S2x32x64x128.size a := fun k0_t1 arg6_r0 arg7_r0 arg8_r0 arg9_r0 arg10_r0 arg11_r0 arg12_r0 arg13_r0 arg14_r0 arg15_r0 k0_hw1 k0_h3 => k0_hw1.2.2.2.2.2.2.1 k0_h3
theorem k0_off13_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h3 : k0_cond3 k0_t1 arg15_r0 = 1#1), ∀ a, (k0_off13 arg15_r0) a + S32x64x128.size a ≤ S128x64x128.size a := fun k0_t1 arg6_r0 arg7_r0 arg8_r0 arg9_r0 arg10_r0 arg11_r0 arg12_r0 arg13_r0 arg14_r0 arg15_r0 k0_hw1 k0_h3 => k0_hw1.2.2.2.2.2.2.2.1 k0_h3
theorem k0_off14_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h4 : k0_cond4 k0_t1 arg15_r0 = 1#1), ∀ a, (k0_off14 arg10_r0) a + S1.size a ≤ S2.size a := fun k0_t1 arg6_r0 arg7_r0 arg8_r0 arg9_r0 arg10_r0 arg11_r0 arg12_r0 arg13_r0 arg14_r0 arg15_r0 k0_hw1 k0_h4 => k0_hw1.2.2.2.2.2.2.2.2.1 k0_h4
theorem k0_off15_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h4 : k0_cond4 k0_t1 arg15_r0 = 1#1), ∀ a, (k0_off15 arg10_r0) a + S1x32x64x128.size a ≤ S2x32x64x128.size a := fun k0_t1 arg6_r0 arg7_r0 arg8_r0 arg9_r0 arg10_r0 arg11_r0 arg12_r0 arg13_r0 arg14_r0 arg15_r0 k0_hw1 k0_h4 => k0_hw1.2.2.2.2.2.2.2.2.2.1 k0_h4
theorem k0_off16_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h4 : k0_cond4 k0_t1 arg15_r0 = 1#1), ∀ a, (k0_off16 arg15_r0) a + S32x64x128.size a ≤ S128x64x128.size a := fun k0_t1 arg6_r0 arg7_r0 arg8_r0 arg9_r0 arg10_r0 arg11_r0 arg12_r0 arg13_r0 arg14_r0 arg15_r0 k0_hw1 k0_h4 => k0_hw1.2.2.2.2.2.2.2.2.2.2.1 k0_h4
theorem k0_off17_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h5 : k0_cond5 k0_t1 arg14_r0 arg15_r0 = 1#1), ∀ a, (k0_off17 arg7_r0) a + S1.size a ≤ S3.size a := fun k0_t1 arg6_r0 arg7_r0 arg8_r0 arg9_r0 arg10_r0 arg11_r0 arg12_r0 arg13_r0 arg14_r0 arg15_r0 k0_hw1 k0_h5 => k0_hw1.2.2.2.2.2.2.2.2.2.2.2.1 k0_h5
theorem k0_off18_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h5 : k0_cond5 k0_t1 arg14_r0 arg15_r0 = 1#1), ∀ a, (k0_off18 arg7_r0) a + S1x1x64x16x2x1024.size a ≤ S3x1x64x16x2x1024.size a := fun k0_t1 arg6_r0 arg7_r0 arg8_r0 arg9_r0 arg10_r0 arg11_r0 arg12_r0 arg13_r0 arg14_r0 arg15_r0 k0_hw1 k0_h5 => k0_hw1.2.2.2.2.2.2.2.2.2.2.2.2.1 k0_h5
theorem k0_off19_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h5 : k0_cond5 k0_t1 arg14_r0 arg15_r0 = 1#1), ∀ a, (k0_off19 arg14_r0 arg15_r0) a + S1x64x16x2x1024.size a ≤ S4x64x64x2x1024.size a := fun k0_t1 arg6_r0 arg7_r0 arg8_r0 arg9_r0 arg10_r0 arg11_r0 arg12_r0 arg13_r0 arg14_r0 arg15_r0 k0_hw1 k0_h5 => k0_hw1.2.2.2.2.2.2.2.2.2.2.2.2.2.1 k0_h5
theorem k0_off19_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h5 : k0_cond5 k0_t1 arg14_r0 arg15_r0 = 1#1), (Rect.unit (s := S4x64x64x2x1024) (k0_off19 arg14_r0 arg15_r0) S1x64x16x2x1024.size (k0_off19_inb k0_t1 arg6_r0 arg7_r0 arg8_r0 arg9_r0 arg10_r0 arg11_r0 arg12_r0 arg13_r0 arg14_r0 arg15_r0 k0_hw1 k0_h5)).WholeWords (EltTy.packing .bf16) := fun k0_t1 arg6_r0 arg7_r0 arg8_r0 arg9_r0 arg10_r0 arg11_r0 arg12_r0 arg13_r0 arg14_r0 arg15_r0 k0_hw1 k0_h5 => k0_hw1.2.2.2.2.2.2.2.2.2.2.2.2.2.2.1 k0_h5 (k0_off19_inb k0_t1 arg6_r0 arg7_r0 arg8_r0 arg9_r0 arg10_r0 arg11_r0 arg12_r0 arg13_r0 arg14_r0 arg15_r0 k0_hw1 k0_h5)
theorem k0_off18_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h5 : k0_cond5 k0_t1 arg14_r0 arg15_r0 = 1#1), (Rect.unit (s := S3x1x64x16x2x1024) (k0_off18 arg7_r0) S1x1x64x16x2x1024.size (k0_off18_inb k0_t1 arg6_r0 arg7_r0 arg8_r0 arg9_r0 arg10_r0 arg11_r0 arg12_r0 arg13_r0 arg14_r0 arg15_r0 k0_hw1 k0_h5)).WholeWords (EltTy.packing .bf16) := fun k0_t1 arg6_r0 arg7_r0 arg8_r0 arg9_r0 arg10_r0 arg11_r0 arg12_r0 arg13_r0 arg14_r0 arg15_r0 k0_hw1 k0_h5 => k0_hw1.2.2.2.2.2.2.2.2.2.2.2.2.2.2.2.1 k0_h5 (k0_off18_inb k0_t1 arg6_r0 arg7_r0 arg8_r0 arg9_r0 arg10_r0 arg11_r0 arg12_r0 arg13_r0 arg14_r0 arg15_r0 k0_hw1 k0_h5)
theorem k0_off20_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h6 : k0_cond6 k0_t1 arg15_r0 = 1#1), ∀ a, (k0_off20 arg9_r0) a + S1.size a ≤ S2.size a := fun k0_t1 arg6_r0 arg7_r0 arg8_r0 arg9_r0 arg10_r0 arg11_r0 arg12_r0 arg13_r0 arg14_r0 arg15_r0 k0_hw1 k0_h6 => k0_hw1.2.2.2.2.2.2.2.2.2.2.2.2.2.2.2.2.1 k0_h6
theorem k0_off21_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h6 : k0_cond6 k0_t1 arg15_r0 = 1#1), ∀ a, (k0_off21 arg9_r0) a + S1x32x64x128.size a ≤ S2x32x64x128.size a := fun k0_t1 arg6_r0 arg7_r0 arg8_r0 arg9_r0 arg10_r0 arg11_r0 arg12_r0 arg13_r0 arg14_r0 arg15_r0 k0_hw1 k0_h6 => k0_hw1.2.2.2.2.2.2.2.2.2.2.2.2.2.2.2.2.2.1 k0_h6
theorem k0_off22_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h6 : k0_cond6 k0_t1 arg15_r0 = 1#1), ∀ a, (k0_off22 arg15_r0) a + S32x64x128.size a ≤ S128x64x128.size a := fun k0_t1 arg6_r0 arg7_r0 arg8_r0 arg9_r0 arg10_r0 arg11_r0 arg12_r0 arg13_r0 arg14_r0 arg15_r0 k0_hw1 k0_h6 => k0_hw1.2.2.2.2.2.2.2.2.2.2.2.2.2.2.2.2.2.2.1 k0_h6
theorem k0_off23_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h7 : k0_cond7 k0_t1 arg15_r0 = 1#1), ∀ a, (k0_off23 arg11_r0) a + S1.size a ≤ S2.size a := fun k0_t1 arg6_r0 arg7_r0 arg8_r0 arg9_r0 arg10_r0 arg11_r0 arg12_r0 arg13_r0 arg14_r0 arg15_r0 k0_hw1 k0_h7 => k0_hw1.2.2.2.2.2.2.2.2.2.2.2.2.2.2.2.2.2.2.2.1 k0_h7
theorem k0_off24_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h7 : k0_cond7 k0_t1 arg15_r0 = 1#1), ∀ a, (k0_off24 arg11_r0) a + S1x32x64x128.size a ≤ S2x32x64x128.size a := fun k0_t1 arg6_r0 arg7_r0 arg8_r0 arg9_r0 arg10_r0 arg11_r0 arg12_r0 arg13_r0 arg14_r0 arg15_r0 k0_hw1 k0_h7 => k0_hw1.2.2.2.2.2.2.2.2.2.2.2.2.2.2.2.2.2.2.2.2.1 k0_h7
theorem k0_off25_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h7 : k0_cond7 k0_t1 arg15_r0 = 1#1), ∀ a, (k0_off25 arg15_r0) a + S32x64x128.size a ≤ S128x64x128.size a := fun k0_t1 arg6_r0 arg7_r0 arg8_r0 arg9_r0 arg10_r0 arg11_r0 arg12_r0 arg13_r0 arg14_r0 arg15_r0 k0_hw1 k0_h7 => k0_hw1.2.2.2.2.2.2.2.2.2.2.2.2.2.2.2.2.2.2.2.2.2.1 k0_h7
theorem k0_off65_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h12 : k0_cond12 k0_t1 arg14_r0 arg15_r0 = 1#1), ∀ a, (k0_off65 arg12_r0) a + S1.size a ≤ S2.size a := fun k0_t1 arg6_r0 arg7_r0 arg8_r0 arg9_r0 arg10_r0 arg11_r0 arg12_r0 arg13_r0 arg14_r0 arg15_r0 k0_hw1 k0_h12 => k0_hw1.2.2.2.2.2.2.2.2.2.2.2.2.2.2.2.2.2.2.2.2.2.2.1 k0_h12
theorem k0_off66_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h12 : k0_cond12 k0_t1 arg14_r0 arg15_r0 = 1#1), ∀ a, (k0_off66 arg14_r0 arg15_r0) a + S1x32x32x2x1024.size a ≤ S4x128x32x2x1024.size a := fun k0_t1 arg6_r0 arg7_r0 arg8_r0 arg9_r0 arg10_r0 arg11_r0 arg12_r0 arg13_r0 arg14_r0 arg15_r0 k0_hw1 k0_h12 => k0_hw1.2.2.2.2.2.2.2.2.2.2.2.2.2.2.2.2.2.2.2.2.2.2.2.1 k0_h12
theorem k0_off67_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h12 : k0_cond12 k0_t1 arg14_r0 arg15_r0 = 1#1), ∀ a, (k0_off67 arg12_r0) a + S1x1x32x32x2x1024.size a ≤ S2x1x32x32x2x1024.size a := fun k0_t1 arg6_r0 arg7_r0 arg8_r0 arg9_r0 arg10_r0 arg11_r0 arg12_r0 arg13_r0 arg14_r0 arg15_r0 k0_hw1 k0_h12 => k0_hw1.2.2.2.2.2.2.2.2.2.2.2.2.2.2.2.2.2.2.2.2.2.2.2.2.1 k0_h12
theorem k0_off67_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h12 : k0_cond12 k0_t1 arg14_r0 arg15_r0 = 1#1), (Rect.unit (s := S2x1x32x32x2x1024) (k0_off67 arg12_r0) S1x1x32x32x2x1024.size (k0_off67_inb k0_t1 arg6_r0 arg7_r0 arg8_r0 arg9_r0 arg10_r0 arg11_r0 arg12_r0 arg13_r0 arg14_r0 arg15_r0 k0_hw1 k0_h12)).WholeWords (EltTy.packing .bf16) := fun k0_t1 arg6_r0 arg7_r0 arg8_r0 arg9_r0 arg10_r0 arg11_r0 arg12_r0 arg13_r0 arg14_r0 arg15_r0 k0_hw1 k0_h12 => k0_hw1.2.2.2.2.2.2.2.2.2.2.2.2.2.2.2.2.2.2.2.2.2.2.2.2.2.1 k0_h12 (k0_off67_inb k0_t1 arg6_r0 arg7_r0 arg8_r0 arg9_r0 arg10_r0 arg11_r0 arg12_r0 arg13_r0 arg14_r0 arg15_r0 k0_hw1 k0_h12)
theorem k0_off66_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h12 : k0_cond12 k0_t1 arg14_r0 arg15_r0 = 1#1), (Rect.unit (s := S4x128x32x2x1024) (k0_off66 arg14_r0 arg15_r0) S1x32x32x2x1024.size (k0_off66_inb k0_t1 arg6_r0 arg7_r0 arg8_r0 arg9_r0 arg10_r0 arg11_r0 arg12_r0 arg13_r0 arg14_r0 arg15_r0 k0_hw1 k0_h12)).WholeWords (EltTy.packing .bf16) := fun k0_t1 arg6_r0 arg7_r0 arg8_r0 arg9_r0 arg10_r0 arg11_r0 arg12_r0 arg13_r0 arg14_r0 arg15_r0 k0_hw1 k0_h12 => k0_hw1.2.2.2.2.2.2.2.2.2.2.2.2.2.2.2.2.2.2.2.2.2.2.2.2.2.2.1 k0_h12 (k0_off66_inb k0_t1 arg6_r0 arg7_r0 arg8_r0 arg9_r0 arg10_r0 arg11_r0 arg12_r0 arg13_r0 arg14_r0 arg15_r0 k0_hw1 k0_h12)
theorem k0_off68_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h16 : k0_cond16 k0_t1 arg14_r0 arg15_r0 = 1#1), ∀ a, (k0_off68 arg13_r0) a + S1.size a ≤ S2.size a := fun k0_t1 arg6_r0 arg7_r0 arg8_r0 arg9_r0 arg10_r0 arg11_r0 arg12_r0 arg13_r0 arg14_r0 arg15_r0 k0_hw1 k0_h16 => k0_hw1.2.2.2.2.2.2.2.2.2.2.2.2.2.2.2.2.2.2.2.2.2.2.2.2.2.2.2.1 k0_h16
theorem k0_off69_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h16 : k0_cond16 k0_t1 arg14_r0 arg15_r0 = 1#1), ∀ a, (k0_off69 arg14_r0 arg15_r0) a + S1x32x32x2x1024.size a ≤ S4x128x32x2x1024.size a := fun k0_t1 arg6_r0 arg7_r0 arg8_r0 arg9_r0 arg10_r0 arg11_r0 arg12_r0 arg13_r0 arg14_r0 arg15_r0 k0_hw1 k0_h16 => k0_hw1.2.2.2.2.2.2.2.2.2.2.2.2.2.2.2.2.2.2.2.2.2.2.2.2.2.2.2.2.1 k0_h16
theorem k0_off70_inb : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h16 : k0_cond16 k0_t1 arg14_r0 arg15_r0 = 1#1), ∀ a, (k0_off70 arg13_r0) a + S1x1x32x32x2x1024.size a ≤ S2x1x32x32x2x1024.size a := fun k0_t1 arg6_r0 arg7_r0 arg8_r0 arg9_r0 arg10_r0 arg11_r0 arg12_r0 arg13_r0 arg14_r0 arg15_r0 k0_hw1 k0_h16 => k0_hw1.2.2.2.2.2.2.2.2.2.2.2.2.2.2.2.2.2.2.2.2.2.2.2.2.2.2.2.2.2.1 k0_h16
theorem k0_off70_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h16 : k0_cond16 k0_t1 arg14_r0 arg15_r0 = 1#1), (Rect.unit (s := S2x1x32x32x2x1024) (k0_off70 arg13_r0) S1x1x32x32x2x1024.size (k0_off70_inb k0_t1 arg6_r0 arg7_r0 arg8_r0 arg9_r0 arg10_r0 arg11_r0 arg12_r0 arg13_r0 arg14_r0 arg15_r0 k0_hw1 k0_h16)).WholeWords (EltTy.packing .bf16) := fun k0_t1 arg6_r0 arg7_r0 arg8_r0 arg9_r0 arg10_r0 arg11_r0 arg12_r0 arg13_r0 arg14_r0 arg15_r0 k0_hw1 k0_h16 => k0_hw1.2.2.2.2.2.2.2.2.2.2.2.2.2.2.2.2.2.2.2.2.2.2.2.2.2.2.2.2.2.2.1 k0_h16 (k0_off70_inb k0_t1 arg6_r0 arg7_r0 arg8_r0 arg9_r0 arg10_r0 arg11_r0 arg12_r0 arg13_r0 arg14_r0 arg15_r0 k0_hw1 k0_h16)
theorem k0_off69_wordsbf16 : ∀ (k0_t1 : Fin k0_t1_loop.trips) (arg6_r0 : BitVec 32) (arg7_r0 : BitVec 32) (arg8_r0 : BitVec 32) (arg9_r0 : BitVec 32) (arg10_r0 : BitVec 32) (arg11_r0 : BitVec 32) (arg12_r0 : BitVec 32) (arg13_r0 : BitVec 32) (arg14_r0 : BitVec 32) (arg15_r0 : BitVec 32) (k0_hw1 : k0_chk1 k0_t1 arg6_r0 arg7_r0 arg8_r0 arg9_r0 arg10_r0 arg11_r0 arg12_r0 arg13_r0 arg14_r0 arg15_r0), ∀ (k0_h16 : k0_cond16 k0_t1 arg14_r0 arg15_r0 = 1#1), (Rect.unit (s := S4x128x32x2x1024) (k0_off69 arg14_r0 arg15_r0) S1x32x32x2x1024.size (k0_off69_inb k0_t1 arg6_r0 arg7_r0 arg8_r0 arg9_r0 arg10_r0 arg11_r0 arg12_r0 arg13_r0 arg14_r0 arg15_r0 k0_hw1 k0_h16)).WholeWords (EltTy.packing .bf16) := fun k0_t1 arg6_r0 arg7_r0 arg8_r0 arg9_r0 arg10_r0 arg11_r0 arg12_r0 arg13_r0 arg14_r0 arg15_r0 k0_hw1 k0_h16 => k0_hw1.2.2.2.2.2.2.2.2.2.2.2.2.2.2.2.2.2.2.2.2.2.2.2.2.2.2.2.2.2.2.2 k0_h16 (k0_off69_inb k0_t1 arg6_r0 arg7_r0 arg8_r0 arg9_r0 arg10_r0 arg11_r0 arg12_r0 arg13_r0 arg14_r0 arg15_r0 k0_hw1 k0_h16)

def k0_off71 (v71_7_r0 : BitVec 32) : Fin 1 → Nat :=
  let c2_i32_131_r0 : BitVec 32 := 2#32
  let v122_r0 : BitVec 32 := Scalar.remui v71_7_r0 c2_i32_131_r0
  ![v122_r0.toNat]

def k0_off72 (v71_9_r0 : BitVec 32) (v71_8_r0 : BitVec 32) : Fin 5 → Nat :=
  let c1_i32_132_r0 : BitVec 32 := 1#32
  let true_87_r0 : BitVec 1 := 1#1
  let c1_i32_86_r0 : BitVec 32 := 1#32
  let v72_r0 : BitVec 32 := Scalar.subi v71_9_r0 c1_i32_86_r0
  let v73_r0 : BitVec 32 := Scalar.select true_87_r0 v72_r0 v71_9_r0
  let c_m1_i32_88_r0 : BitVec 32 := 4294967295#32
  let v74_r0 : BitVec 1 := Scalar.cmpi .eq v73_r0 c_m1_i32_88_r0
  let c1_i32_90_r0 : BitVec 32 := 1#32
  let v76_r0 : BitVec 32 := Scalar.subi v71_8_r0 c1_i32_90_r0
  let v77_r0 : BitVec 32 := Scalar.select v74_r0 v76_r0 v71_8_r0
  let c_m1_i32_91_r0 : BitVec 32 := 4294967295#32
  let v78_r0 : BitVec 1 := Scalar.cmpi .eq v77_r0 c_m1_i32_91_r0
  let c3_i32_92_r0 : BitVec 32 := 3#32
  let v79_r0 : BitVec 32 := Scalar.select v78_r0 c3_i32_92_r0 v77_r0
  let c0_i32_93_r0 : BitVec 32 := 0#32
  let v80_r0 : BitVec 32 := Scalar.addi v79_r0 c0_i32_93_r0
  let v123_r0 : BitVec 32 := Scalar.muli c1_i32_132_r0 v80_r0
  let c32_i32_r0 : BitVec 32 := 32#32
  let c3_i32_89_r0 : BitVec 32 := 3#32
  let v75_r0 : BitVec 32 := Scalar.select v74_r0 c3_i32_89_r0 v73_r0
  let c0_i32_94_r0 : BitVec 32 := 0#32
  let v81_r0 : BitVec 32 := Scalar.addi v75_r0 c0_i32_94_r0
  let v124_r0 : BitVec 32 := Scalar.muli c32_i32_r0 v81_r0
  let c0_i32_133_r0 : BitVec 32 := 0#32
  let c0_i32_134_r0 : BitVec 32 := 0#32
  let c0_i32_135_r0 : BitVec 32 := 0#32
  ![v123_r0.toNat, v124_r0.toNat, 0, 0, 0]

def k0_off73 (v71_7_r0 : BitVec 32) : Fin 6 → Nat :=
  let c2_i32_131_r0 : BitVec 32 := 2#32
  let v122_r0 : BitVec 32 := Scalar.remui v71_7_r0 c2_i32_131_r0
  let c0_i32_136_r0 : BitVec 32 := 0#32
  let c0_i32_137_r0 : BitVec 32 := 0#32
  let c0_i32_138_r0 : BitVec 32 := 0#32
  let c0_i32_139_r0 : BitVec 32 := 0#32
  let c0_i32_140_r0 : BitVec 32 := 0#32
  ![v122_r0.toNat, 0, 0, 0, 0, 0]

def k0_chk6 (v71_7_r0 : BitVec 32) : Prop :=
  (∀ a, (k0_off71 v71_7_r0) a + S1.size a ≤ S2.size a) ∧
  (∀ a, (k0_off73 v71_7_r0) a + S1x1x32x32x2x1024.size a ≤ S2x1x32x32x2x1024.size a) ∧
  (∀ (hinb : ∀ a, (k0_off73 v71_7_r0) a + S1x1x32x32x2x1024.size a ≤ S2x1x32x32x2x1024.size a), (Rect.unit (s := S2x1x32x32x2x1024) (k0_off73 v71_7_r0) S1x1x32x32x2x1024.size hinb).WholeWords (EltTy.packing .bf16))
theorem k0_off71_inb : ∀ (v71_7_r0 : BitVec 32) (k0_hw6 : k0_chk6 v71_7_r0), ∀ a, (k0_off71 v71_7_r0) a + S1.size a ≤ S2.size a := fun v71_7_r0 k0_hw6 => k0_hw6.1
theorem k0_off73_inb : ∀ (v71_7_r0 : BitVec 32) (k0_hw6 : k0_chk6 v71_7_r0), ∀ a, (k0_off73 v71_7_r0) a + S1x1x32x32x2x1024.size a ≤ S2x1x32x32x2x1024.size a := fun v71_7_r0 k0_hw6 => k0_hw6.2.1
theorem k0_off73_wordsbf16 : ∀ (v71_7_r0 : BitVec 32) (k0_hw6 : k0_chk6 v71_7_r0), (Rect.unit (s := S2x1x32x32x2x1024) (k0_off73 v71_7_r0) S1x1x32x32x2x1024.size (k0_off73_inb v71_7_r0 k0_hw6)).WholeWords (EltTy.packing .bf16) := fun v71_7_r0 k0_hw6 => k0_hw6.2.2 (k0_off73_inb v71_7_r0 k0_hw6)

def k0_chk7 (v71_9_r0 : BitVec 32) (v71_8_r0 : BitVec 32) : Prop :=
  (∀ a, (k0_off72 v71_9_r0 v71_8_r0) a + S1x32x32x2x1024.size a ≤ S4x128x32x2x1024.size a) ∧
  (∀ (hinb : ∀ a, (k0_off72 v71_9_r0 v71_8_r0) a + S1x32x32x2x1024.size a ≤ S4x128x32x2x1024.size a), (Rect.unit (s := S4x128x32x2x1024) (k0_off72 v71_9_r0 v71_8_r0) S1x32x32x2x1024.size hinb).WholeWords (EltTy.packing .bf16))
theorem k0_off72_inb : ∀ (v71_9_r0 : BitVec 32) (v71_8_r0 : BitVec 32) (k0_hw7 : k0_chk7 v71_9_r0 v71_8_r0), ∀ a, (k0_off72 v71_9_r0 v71_8_r0) a + S1x32x32x2x1024.size a ≤ S4x128x32x2x1024.size a := fun v71_9_r0 v71_8_r0 k0_hw7 => k0_hw7.1
theorem k0_off72_wordsbf16 : ∀ (v71_9_r0 : BitVec 32) (v71_8_r0 : BitVec 32) (k0_hw7 : k0_chk7 v71_9_r0 v71_8_r0), (Rect.unit (s := S4x128x32x2x1024) (k0_off72 v71_9_r0 v71_8_r0) S1x32x32x2x1024.size (k0_off72_inb v71_9_r0 v71_8_r0 k0_hw7)).WholeWords (EltTy.packing .bf16) := fun v71_9_r0 v71_8_r0 k0_hw7 => k0_hw7.2 (k0_off72_inb v71_9_r0 v71_8_r0 k0_hw7)

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev grid1 : Pipeline.Grid := .none

def k1_off1 : Fin 1 → Nat :=
  let c0_i32_34_r0 : BitVec 32 := 0#32
  let c3_i32_35_r0 : BitVec 32 := 3#32
  let v38_r0 : BitVec 32 := Scalar.remui c0_i32_34_r0 c3_i32_35_r0
  ![v38_r0.toNat]
def k1_off2 : Fin 6 → Nat :=
  let c0_i32_34_r0 : BitVec 32 := 0#32
  let c3_i32_35_r0 : BitVec 32 := 3#32
  let v38_r0 : BitVec 32 := Scalar.remui c0_i32_34_r0 c3_i32_35_r0
  let c0_i32_36_r0 : BitVec 32 := 0#32
  let c0_i32_37_r0 : BitVec 32 := 0#32
  let c0_i32_38_r0 : BitVec 32 := 0#32
  let c0_i32_39_r0 : BitVec 32 := 0#32
  let c0_i32_40_r0 : BitVec 32 := 0#32
  ![v38_r0.toNat, 0, 0, 0, 0, 0]
def k1_cond1 : BitVec 1 :=
  let true_50_r0 : BitVec 1 := 1#1
  let true_7_r0 : BitVec 1 := 1#1
  let c1_i32_9_r0 : BitVec 32 := 1#32
  let c0_i32_8_r0 : BitVec 32 := 0#32
  let v10_r0 : BitVec 32 := Scalar.select true_7_r0 c1_i32_9_r0 c0_i32_8_r0
  let c2_i32_r0 : BitVec 32 := 2#32
  let v11_r0 : BitVec 1 := Scalar.cmpi .eq v10_r0 c2_i32_r0
  let c1_i32_12_r0 : BitVec 32 := 1#32
  let c0_i32_11_r0 : BitVec 32 := 0#32
  let v13_r0 : BitVec 32 := Scalar.select v11_r0 c1_i32_12_r0 c0_i32_11_r0
  let c4_i32_r0 : BitVec 32 := 4#32
  let v14_r0 : BitVec 1 := Scalar.cmpi .eq v13_r0 c4_i32_r0
  let c0_i32_13_r0 : BitVec 32 := 0#32
  let v15_r0 : BitVec 32 := Scalar.select v14_r0 c0_i32_13_r0 v13_r0
  let c0_i32_14_r0 : BitVec 32 := 0#32
  let v16_r0 : BitVec 32 := Scalar.addi v15_r0 c0_i32_14_r0
  let c0_i32_48_r0 : BitVec 32 := 0#32
  let v45_r0 : BitVec 1 := Scalar.cmpi .ne v16_r0 c0_i32_48_r0
  let c0_i32_10_r0 : BitVec 32 := 0#32
  let v12_r0 : BitVec 32 := Scalar.select v11_r0 c0_i32_10_r0 v10_r0
  let c0_i32_15_r0 : BitVec 32 := 0#32
  let v17_r0 : BitVec 32 := Scalar.addi v12_r0 c0_i32_15_r0
  let c0_i32_49_r0 : BitVec 32 := 0#32
  let v46_r0 : BitVec 1 := Scalar.cmpi .ne v17_r0 c0_i32_49_r0
  let v47_r0 : BitVec 1 := Scalar.ori v45_r0 v46_r0
  let v48_r0 : BitVec 1 := Scalar.andi true_50_r0 v47_r0
  let true_51_r0 : BitVec 1 := 1#1
  let v49_r0 : BitVec 1 := Scalar.andi v48_r0 true_51_r0
  let v50_r0 : BitVec 32 := Scalar.extui v49_r0
  let c0_i32_52_r0 : BitVec 32 := 0#32
  let v51_r0 : BitVec 1 := Scalar.cmpi .ne v50_r0 c0_i32_52_r0
  v51_r0

def k1_off3 : Fin 1 → Nat :=
  let c0_i32_46_r0 : BitVec 32 := 0#32
  let c1_i32_47_r0 : BitVec 32 := 1#32
  let v44_r0 : BitVec 32 := Scalar.addi c0_i32_46_r0 c1_i32_47_r0
  let c3_i32_115_r0 : BitVec 32 := 3#32
  let v114_r0 : BitVec 32 := Scalar.remui v44_r0 c3_i32_115_r0
  ![v114_r0.toNat]
def k1_off4 : Fin 6 → Nat :=
  let c0_i32_46_r0 : BitVec 32 := 0#32
  let c1_i32_47_r0 : BitVec 32 := 1#32
  let v44_r0 : BitVec 32 := Scalar.addi c0_i32_46_r0 c1_i32_47_r0
  let c3_i32_115_r0 : BitVec 32 := 3#32
  let v114_r0 : BitVec 32 := Scalar.remui v44_r0 c3_i32_115_r0
  let c0_i32_117_r0 : BitVec 32 := 0#32
  let c0_i32_118_r0 : BitVec 32 := 0#32
  let c0_i32_119_r0 : BitVec 32 := 0#32
  let c0_i32_120_r0 : BitVec 32 := 0#32
  let c0_i32_121_r0 : BitVec 32 := 0#32
  ![v114_r0.toNat, 0, 0, 0, 0, 0]
def k1_off5 : Fin 5 → Nat :=
  let c1_i32_116_r0 : BitVec 32 := 1#32
  let true_7_r0 : BitVec 1 := 1#1
  let c1_i32_9_r0 : BitVec 32 := 1#32
  let c0_i32_8_r0 : BitVec 32 := 0#32
  let v10_r0 : BitVec 32 := Scalar.select true_7_r0 c1_i32_9_r0 c0_i32_8_r0
  let c2_i32_r0 : BitVec 32 := 2#32
  let v11_r0 : BitVec 1 := Scalar.cmpi .eq v10_r0 c2_i32_r0
  let c1_i32_12_r0 : BitVec 32 := 1#32
  let c0_i32_11_r0 : BitVec 32 := 0#32
  let v13_r0 : BitVec 32 := Scalar.select v11_r0 c1_i32_12_r0 c0_i32_11_r0
  let c4_i32_r0 : BitVec 32 := 4#32
  let v14_r0 : BitVec 1 := Scalar.cmpi .eq v13_r0 c4_i32_r0
  let c0_i32_13_r0 : BitVec 32 := 0#32
  let v15_r0 : BitVec 32 := Scalar.select v14_r0 c0_i32_13_r0 v13_r0
  let c0_i32_14_r0 : BitVec 32 := 0#32
  let v16_r0 : BitVec 32 := Scalar.addi v15_r0 c0_i32_14_r0
  let v115_r0 : BitVec 32 := Scalar.muli c1_i32_116_r0 v16_r0
  let c0_i32_122_r0 : BitVec 32 := 0#32
  let c16_i32_r0 : BitVec 32 := 16#32
  let c0_i32_10_r0 : BitVec 32 := 0#32
  let v12_r0 : BitVec 32 := Scalar.select v11_r0 c0_i32_10_r0 v10_r0
  let c0_i32_15_r0 : BitVec 32 := 0#32
  let v17_r0 : BitVec 32 := Scalar.addi v12_r0 c0_i32_15_r0
  let v116_r0 : BitVec 32 := Scalar.muli c16_i32_r0 v17_r0
  let c0_i32_123_r0 : BitVec 32 := 0#32
  let c0_i32_124_r0 : BitVec 32 := 0#32
  ![v115_r0.toNat, 0, v116_r0.toNat, 0, 0]
@[reducible] def k1_t1_loop : Scf.Loop 32 :=
  let c0_i32_59_r0 : BitVec 32 := 0#32
  let c8_i32_r0 : BitVec 32 := 8#32
  let v54_r0 : BitVec 32 := Scalar.addi c0_i32_59_r0 c8_i32_r0
  let c1_i32_60_r0 : BitVec 32 := 1#32
  ⟨c0_i32_59_r0, v54_r0, c1_i32_60_r0⟩
def k1_off6 (arg4_r0 : BitVec 32) : Fin 1 → Nat :=
  let c3_i32_763_r0 : BitVec 32 := 3#32
  let v724_r0 : BitVec 32 := Scalar.remui arg4_r0 c3_i32_763_r0
  ![v724_r0.toNat]
def k1_cond2 (k1_t1 : Fin k1_t1_loop.trips) (arg8_r0 : BitVec 32) (arg9_r0 : BitVec 32) : BitVec 1 :=
  let true_128_r0 : BitVec 1 := 1#1
  let c1_i32_127_r0 : BitVec 32 := 1#32
  let v128_r0 : BitVec 32 := Scalar.addi arg9_r0 c1_i32_127_r0
  let v129_r0 : BitVec 32 := Scalar.select true_128_r0 v128_r0 arg9_r0
  let c2_i32_129_r0 : BitVec 32 := 2#32
  let v130_r0 : BitVec 1 := Scalar.cmpi .eq v129_r0 c2_i32_129_r0
  let c1_i32_131_r0 : BitVec 32 := 1#32
  let v132_r0 : BitVec 32 := Scalar.addi arg8_r0 c1_i32_131_r0
  let v133_r0 : BitVec 32 := Scalar.select v130_r0 v132_r0 arg8_r0
  let c4_i32_132_r0 : BitVec 32 := 4#32
  let v134_r0 : BitVec 1 := Scalar.cmpi .eq v133_r0 c4_i32_132_r0
  let c0_i32_133_r0 : BitVec 32 := 0#32
  let v135_r0 : BitVec 32 := Scalar.select v134_r0 c0_i32_133_r0 v133_r0
  let c0_i32_134_r0 : BitVec 32 := 0#32
  let v136_r0 : BitVec 32 := Scalar.addi v135_r0 c0_i32_134_r0
  let true_137_r0 : BitVec 1 := 1#1
  let c0_i32_130_r0 : BitVec 32 := 0#32
  let v131_r0 : BitVec 32 := Scalar.select v130_r0 c0_i32_130_r0 v129_r0
  let c1_i32_136_r0 : BitVec 32 := 1#32
  let v138_r0 : BitVec 32 := Scalar.addi v131_r0 c1_i32_136_r0
  let v139_r0 : BitVec 32 := Scalar.select true_137_r0 v138_r0 v131_r0
  let c2_i32_138_r0 : BitVec 32 := 2#32
  let v140_r0 : BitVec 1 := Scalar.cmpi .eq v139_r0 c2_i32_138_r0
  let c1_i32_140_r0 : BitVec 32 := 1#32
  let v142_r0 : BitVec 32 := Scalar.addi v135_r0 c1_i32_140_r0
  let v143_r0 : BitVec 32 := Scalar.select v140_r0 v142_r0 v135_r0
  let c4_i32_141_r0 : BitVec 32 := 4#32
  let v144_r0 : BitVec 1 := Scalar.cmpi .eq v143_r0 c4_i32_141_r0
  let c0_i32_142_r0 : BitVec 32 := 0#32
  let v145_r0 : BitVec 32 := Scalar.select v144_r0 c0_i32_142_r0 v143_r0
  let c0_i32_143_r0 : BitVec 32 := 0#32
  let v146_r0 : BitVec 32 := Scalar.addi v145_r0 c0_i32_143_r0
  let v158_r0 : BitVec 1 := Scalar.cmpi .ne v136_r0 v146_r0
  let c0_i32_135_r0 : BitVec 32 := 0#32
  let v137_r0 : BitVec 32 := Scalar.addi v131_r0 c0_i32_135_r0
  let c0_i32_139_r0 : BitVec 32 := 0#32
  let v141_r0 : BitVec 32 := Scalar.select v140_r0 c0_i32_139_r0 v139_r0
  let c0_i32_144_r0 : BitVec 32 := 0#32
  let v147_r0 : BitVec 32 := Scalar.addi v141_r0 c0_i32_144_r0
  let v159_r0 : BitVec 1 := Scalar.cmpi .ne v137_r0 v147_r0
  let v160_r0 : BitVec 1 := Scalar.ori v158_r0 v159_r0
  let c0_i32_59_r0 : BitVec 32 := 0#32
  let c1_i32_60_r0 : BitVec 32 := 1#32
  let arg3_r0 : BitVec 32 := Scf.iv c0_i32_59_r0 c1_i32_60_r0 k1_t1
  let c6_i32_r0 : BitVec 32 := 6#32
  let v161_r0 : BitVec 1 := Scalar.cmpi .sge arg3_r0 c6_i32_r0
  let true_154_r0 : BitVec 1 := 1#1
  let v162_r0 : BitVec 1 := Scalar.xori v161_r0 true_154_r0
  let v163_r0 : BitVec 1 := Scalar.andi v160_r0 v162_r0
  let true_155_r0 : BitVec 1 := 1#1
  let v164_r0 : BitVec 1 := Scalar.andi v163_r0 true_155_r0
  let v165_r0 : BitVec 32 := Scalar.extui v164_r0
  let c0_i32_156_r0 : BitVec 32 := 0#32
  let v166_r0 : BitVec 1 := Scalar.cmpi .ne v165_r0 c0_i32_156_r0
  v166_r0

def k1_off7 (arg4_r0 : BitVec 32) : Fin 6 → Nat :=
  let c3_i32_763_r0 : BitVec 32 := 3#32
  let v724_r0 : BitVec 32 := Scalar.remui arg4_r0 c3_i32_763_r0
  let c0_i32_765_r0 : BitVec 32 := 0#32
  let c0_i32_766_r0 : BitVec 32 := 0#32
  let c0_i32_767_r0 : BitVec 32 := 0#32
  let c0_i32_768_r0 : BitVec 32 := 0#32
  let c0_i32_769_r0 : BitVec 32 := 0#32
  ![v724_r0.toNat, 0, 0, 0, 0, 0]
def k1_off8 (arg8_r0 : BitVec 32) (arg9_r0 : BitVec 32) : Fin 5 → Nat :=
  let c1_i32_764_r0 : BitVec 32 := 1#32
  let true_137_r0 : BitVec 1 := 1#1
  let true_128_r0 : BitVec 1 := 1#1
  let c1_i32_127_r0 : BitVec 32 := 1#32
  let v128_r0 : BitVec 32 := Scalar.addi arg9_r0 c1_i32_127_r0
  let v129_r0 : BitVec 32 := Scalar.select true_128_r0 v128_r0 arg9_r0
  let c2_i32_129_r0 : BitVec 32 := 2#32
  let v130_r0 : BitVec 1 := Scalar.cmpi .eq v129_r0 c2_i32_129_r0
  let c0_i32_130_r0 : BitVec 32 := 0#32
  let v131_r0 : BitVec 32 := Scalar.select v130_r0 c0_i32_130_r0 v129_r0
  let c1_i32_136_r0 : BitVec 32 := 1#32
  let v138_r0 : BitVec 32 := Scalar.addi v131_r0 c1_i32_136_r0
  let v139_r0 : BitVec 32 := Scalar.select true_137_r0 v138_r0 v131_r0
  let c2_i32_138_r0 : BitVec 32 := 2#32
  let v140_r0 : BitVec 1 := Scalar.cmpi .eq v139_r0 c2_i32_138_r0
  let c1_i32_131_r0 : BitVec 32 := 1#32
  let v132_r0 : BitVec 32 := Scalar.addi arg8_r0 c1_i32_131_r0
  let v133_r0 : BitVec 32 := Scalar.select v130_r0 v132_r0 arg8_r0
  let c4_i32_132_r0 : BitVec 32 := 4#32
  let v134_r0 : BitVec 1 := Scalar.cmpi .eq v133_r0 c4_i32_132_r0
  let c0_i32_133_r0 : BitVec 32 := 0#32
  let v135_r0 : BitVec 32 := Scalar.select v134_r0 c0_i32_133_r0 v133_r0
  let c1_i32_140_r0 : BitVec 32 := 1#32
  let v142_r0 : BitVec 32 := Scalar.addi v135_r0 c1_i32_140_r0
  let v143_r0 : BitVec 32 := Scalar.select v140_r0 v142_r0 v135_r0
  let c4_i32_141_r0 : BitVec 32 := 4#32
  let v144_r0 : BitVec 1 := Scalar.cmpi .eq v143_r0 c4_i32_141_r0
  let c0_i32_142_r0 : BitVec 32 := 0#32
  let v145_r0 : BitVec 32 := Scalar.select v144_r0 c0_i32_142_r0 v143_r0
  let c0_i32_143_r0 : BitVec 32 := 0#32
  let v146_r0 : BitVec 32 := Scalar.addi v145_r0 c0_i32_143_r0
  let v725_r0 : BitVec 32 := Scalar.muli c1_i32_764_r0 v146_r0
  let c0_i32_770_r0 : BitVec 32 := 0#32
  let c16_i32_r0 : BitVec 32 := 16#32
  let c0_i32_139_r0 : BitVec 32 := 0#32
  let v141_r0 : BitVec 32 := Scalar.select v140_r0 c0_i32_139_r0 v139_r0
  let c0_i32_144_r0 : BitVec 32 := 0#32
  let v147_r0 : BitVec 32 := Scalar.addi v141_r0 c0_i32_144_r0
  let v726_r0 : BitVec 32 := Scalar.muli c16_i32_r0 v147_r0
  let c0_i32_771_r0 : BitVec 32 := 0#32
  let c0_i32_772_r0 : BitVec 32 := 0#32
  ![v725_r0.toNat, 0, v726_r0.toNat, 0, 0]
def k1_off9 (arg5_r0 : BitVec 32) : Fin 1 → Nat :=
  let c3_i32_764_r0 : BitVec 32 := 3#32
  let v726_r0 : BitVec 32 := Scalar.remui arg5_r0 c3_i32_764_r0
  ![v726_r0.toNat]
def k1_cond3 (k1_t1 : Fin k1_t1_loop.trips) (arg8_r0 : BitVec 32) (arg9_r0 : BitVec 32) : BitVec 1 :=
  let c0_i32_116_r0 : BitVec 32 := 0#32
  let v116_r0 : BitVec 32 := Scalar.addi arg8_r0 c0_i32_116_r0
  let true_119_r0 : BitVec 1 := 1#1
  let c1_i32_118_r0 : BitVec 32 := 1#32
  let v118_r0 : BitVec 32 := Scalar.subi arg9_r0 c1_i32_118_r0
  let v119_r0 : BitVec 32 := Scalar.select true_119_r0 v118_r0 arg9_r0
  let c_m1_i32_120_r0 : BitVec 32 := 4294967295#32
  let v120_r0 : BitVec 1 := Scalar.cmpi .eq v119_r0 c_m1_i32_120_r0
  let c1_i32_122_r0 : BitVec 32 := 1#32
  let v122_r0 : BitVec 32 := Scalar.subi arg8_r0 c1_i32_122_r0
  let v123_r0 : BitVec 32 := Scalar.select v120_r0 v122_r0 arg8_r0
  let c_m1_i32_123_r0 : BitVec 32 := 4294967295#32
  let v124_r0 : BitVec 1 := Scalar.cmpi .eq v123_r0 c_m1_i32_123_r0
  let c3_i32_124_r0 : BitVec 32 := 3#32
  let v125_r0 : BitVec 32 := Scalar.select v124_r0 c3_i32_124_r0 v123_r0
  let c0_i32_125_r0 : BitVec 32 := 0#32
  let v126_r0 : BitVec 32 := Scalar.addi v125_r0 c0_i32_125_r0
  let v176_r0 : BitVec 1 := Scalar.cmpi .ne v116_r0 v126_r0
  let c0_i32_117_r0 : BitVec 32 := 0#32
  let v117_r0 : BitVec 32 := Scalar.addi arg9_r0 c0_i32_117_r0
  let c1_i32_121_r0 : BitVec 32 := 1#32
  let v121_r0 : BitVec 32 := Scalar.select v120_r0 c1_i32_121_r0 v119_r0
  let c0_i32_126_r0 : BitVec 32 := 0#32
  let v127_r0 : BitVec 32 := Scalar.addi v121_r0 c0_i32_126_r0
  let v177_r0 : BitVec 1 := Scalar.cmpi .ne v117_r0 v127_r0
  let v178_r0 : BitVec 1 := Scalar.ori v176_r0 v177_r0
  let c0_i32_59_r0 : BitVec 32 := 0#32
  let c1_i32_60_r0 : BitVec 32 := 1#32
  let arg3_r0 : BitVec 32 := Scf.iv c0_i32_59_r0 c1_i32_60_r0 k1_t1
  let c0_i32_115_r0 : BitVec 32 := 0#32
  let v114_r0 : BitVec 1 := Scalar.cmpi .eq arg3_r0 c0_i32_115_r0
  let v179_r0 : BitVec 1 := Scalar.ori v178_r0 v114_r0
  let c0_i32_161_r0 : BitVec 32 := 0#32
  let v180_r0 : BitVec 1 := Scalar.cmpi .sge arg3_r0 c0_i32_161_r0
  let v181_r0 : BitVec 1 := Scalar.andi v179_r0 v180_r0
  let v182_r0 : BitVec 32 := Scalar.extui v181_r0
  let c0_i32_162_r0 : BitVec 32 := 0#32
  let v183_r0 : BitVec 1 := Scalar.cmpi .ne v182_r0 c0_i32_162_r0
  v183_r0

def k1_off10 (arg5_r0 : BitVec 32) : Fin 6 → Nat :=
  let c3_i32_764_r0 : BitVec 32 := 3#32
  let v726_r0 : BitVec 32 := Scalar.remui arg5_r0 c3_i32_764_r0
  let c0_i32_765_r0 : BitVec 32 := 0#32
  let c0_i32_766_r0 : BitVec 32 := 0#32
  let c0_i32_767_r0 : BitVec 32 := 0#32
  let c0_i32_768_r0 : BitVec 32 := 0#32
  let c0_i32_769_r0 : BitVec 32 := 0#32
  ![v726_r0.toNat, 0, 0, 0, 0, 0]
def k1_off11 (arg8_r0 : BitVec 32) (arg9_r0 : BitVec 32) : Fin 5 → Nat :=
  let c1_i32_763_r0 : BitVec 32 := 1#32
  let c0_i32_116_r0 : BitVec 32 := 0#32
  let v116_r0 : BitVec 32 := Scalar.addi arg8_r0 c0_i32_116_r0
  let v724_r0 : BitVec 32 := Scalar.muli c1_i32_763_r0 v116_r0
  let c0_i32_770_r0 : BitVec 32 := 0#32
  let c16_i32_r0 : BitVec 32 := 16#32
  let c0_i32_117_r0 : BitVec 32 := 0#32
  let v117_r0 : BitVec 32 := Scalar.addi arg9_r0 c0_i32_117_r0
  let v725_r0 : BitVec 32 := Scalar.muli c16_i32_r0 v117_r0
  let c0_i32_771_r0 : BitVec 32 := 0#32
  let c0_i32_772_r0 : BitVec 32 := 0#32
  ![v724_r0.toNat, 0, v725_r0.toNat, 0, 0]
def k1_off12 (arg5_r0 : BitVec 32) : Fin 6 → Nat :=
  let c3_i32_165_r0 : BitVec 32 := 3#32
  let v192_r0 : BitVec 32 := Scalar.remui arg5_r0 c3_i32_165_r0
  let c0_i32_168_r0 : BitVec 32 := 0#32
  let c0_i32_169_r0 : BitVec 32 := 0#32
  let c0_i32_170_r0 : BitVec 32 := 0#32
  let c0_i32_171_r0 : BitVec 32 := 0#32
  let c0_i32_172_r0 : BitVec 32 := 0#32
  ![v192_r0.toNat, 0, 0, 0, 0, 0]

def k1_off13 (arg6_r0 : BitVec 32) : Fin 5 → Nat :=
  let c2_i32_166_r0 : BitVec 32 := 2#32
  let v193_r0 : BitVec 32 := Scalar.remui arg6_r0 c2_i32_166_r0
  let c0_i32_183_r0 : BitVec 32 := 0#32
  let c0_i32_184_r0 : BitVec 32 := 0#32
  let c0_i32_185_r0 : BitVec 32 := 0#32
  let c0_i32_186_r0 : BitVec 32 := 0#32
  ![v193_r0.toNat, 0, 0, 0, 0]

def k1_chk3 (arg6_r0 : BitVec 32) : Prop :=
  (∀ a, (k1_off13 arg6_r0) a + S1x1x32x128x512.size a ≤ S2x1x32x128x512.size a)
theorem k1_off13_inb : ∀ (arg6_r0 : BitVec 32) (k1_hw3 : k1_chk3 arg6_r0), ∀ a, (k1_off13 arg6_r0) a + S1x1x32x128x512.size a ≤ S2x1x32x128x512.size a := fun arg6_r0 k1_hw3 => k1_hw3

def k1_off14 (arg5_r0 : BitVec 32) : Fin 6 → Nat :=
  let c3_i32_165_r0 : BitVec 32 := 3#32
  let v192_r0 : BitVec 32 := Scalar.remui arg5_r0 c3_i32_165_r0
  let c0_i32_204_r0 : BitVec 32 := 0#32
  let c0_i32_205_r0 : BitVec 32 := 0#32
  let c0_i32_206_r0 : BitVec 32 := 0#32
  let c0_i32_207_r0 : BitVec 32 := 0#32
  let c0_i32_208_r0 : BitVec 32 := 0#32
  ![v192_r0.toNat, 0, 0, 0, 0, 0]

def k1_chk2 (arg5_r0 : BitVec 32) : Prop :=
  (∀ a, (k1_off12 arg5_r0) a + S1x1x128x16x2x1024.size a ≤ S3x1x128x16x2x1024.size a) ∧
  (∀ a, (k1_off14 arg5_r0) a + S1x1x128x16x2x1024.size a ≤ S3x1x128x16x2x1024.size a)
theorem k1_off12_inb : ∀ (arg5_r0 : BitVec 32) (k1_hw2 : k1_chk2 arg5_r0), ∀ a, (k1_off12 arg5_r0) a + S1x1x128x16x2x1024.size a ≤ S3x1x128x16x2x1024.size a := fun arg5_r0 k1_hw2 => k1_hw2.1
theorem k1_off14_inb : ∀ (arg5_r0 : BitVec 32) (k1_hw2 : k1_chk2 arg5_r0), ∀ a, (k1_off14 arg5_r0) a + S1x1x128x16x2x1024.size a ≤ S3x1x128x16x2x1024.size a := fun arg5_r0 k1_hw2 => k1_hw2.2

def k1_off15 (arg6_r0 : BitVec 32) : Fin 1 → Nat :=
  let c2_i32_763_r0 : BitVec 32 := 2#32
  let v724_r0 : BitVec 32 := Scalar.remui arg6_r0 c2_i32_763_r0
  ![v724_r0.toNat]
def k1_cond6 (k1_t1 : Fin k1_t1_loop.trips) (arg8_r0 : BitVec 32) (arg9_r0 : BitVec 32) : BitVec 1 :=
  let c0_i32_116_r0 : BitVec 32 := 0#32
  let v116_r0 : BitVec 32 := Scalar.addi arg8_r0 c0_i32_116_r0
  let true_128_r0 : BitVec 1 := 1#1
  let c1_i32_127_r0 : BitVec 32 := 1#32
  let v128_r0 : BitVec 32 := Scalar.addi arg9_r0 c1_i32_127_r0
  let v129_r0 : BitVec 32 := Scalar.select true_128_r0 v128_r0 arg9_r0
  let c2_i32_129_r0 : BitVec 32 := 2#32
  let v130_r0 : BitVec 1 := Scalar.cmpi .eq v129_r0 c2_i32_129_r0
  let c1_i32_131_r0 : BitVec 32 := 1#32
  let v132_r0 : BitVec 32 := Scalar.addi arg8_r0 c1_i32_131_r0
  let v133_r0 : BitVec 32 := Scalar.select v130_r0 v132_r0 arg8_r0
  let c4_i32_132_r0 : BitVec 32 := 4#32
  let v134_r0 : BitVec 1 := Scalar.cmpi .eq v133_r0 c4_i32_132_r0
  let c0_i32_133_r0 : BitVec 32 := 0#32
  let v135_r0 : BitVec 32 := Scalar.select v134_r0 c0_i32_133_r0 v133_r0
  let c0_i32_134_r0 : BitVec 32 := 0#32
  let v136_r0 : BitVec 32 := Scalar.addi v135_r0 c0_i32_134_r0
  let v683_r0 : BitVec 1 := Scalar.cmpi .ne v116_r0 v136_r0
  let c0_i32_117_r0 : BitVec 32 := 0#32
  let v117_r0 : BitVec 32 := Scalar.addi arg9_r0 c0_i32_117_r0
  let c0_i32_130_r0 : BitVec 32 := 0#32
  let v131_r0 : BitVec 32 := Scalar.select v130_r0 c0_i32_130_r0 v129_r0
  let c0_i32_135_r0 : BitVec 32 := 0#32
  let v137_r0 : BitVec 32 := Scalar.addi v131_r0 c0_i32_135_r0
  let v684_r0 : BitVec 1 := Scalar.cmpi .ne v117_r0 v137_r0
  let v685_r0 : BitVec 1 := Scalar.ori v683_r0 v684_r0
  let c0_i32_59_r0 : BitVec 32 := 0#32
  let c1_i32_60_r0 : BitVec 32 := 1#32
  let arg3_r0 : BitVec 32 := Scf.iv c0_i32_59_r0 c1_i32_60_r0 k1_t1
  let c7_i32_r0 : BitVec 32 := 7#32
  let v115_r0 : BitVec 1 := Scalar.cmpi .eq arg3_r0 c7_i32_r0
  let v686_r0 : BitVec 1 := Scalar.ori v685_r0 v115_r0
  let v687_r0 : BitVec 32 := Scalar.extui v686_r0
  let c0_i32_745_r0 : BitVec 32 := 0#32
  let v688_r0 : BitVec 1 := Scalar.cmpi .ne v687_r0 c0_i32_745_r0
  v688_r0

def k1_off16 (arg8_r0 : BitVec 32) (arg9_r0 : BitVec 32) : Fin 4 → Nat :=
  let c1_i32_764_r0 : BitVec 32 := 1#32
  let c0_i32_116_r0 : BitVec 32 := 0#32
  let v116_r0 : BitVec 32 := Scalar.addi arg8_r0 c0_i32_116_r0
  let v725_r0 : BitVec 32 := Scalar.muli c1_i32_764_r0 v116_r0
  let c32_i32_765_r0 : BitVec 32 := 32#32
  let c0_i32_117_r0 : BitVec 32 := 0#32
  let v117_r0 : BitVec 32 := Scalar.addi arg9_r0 c0_i32_117_r0
  let v726_r0 : BitVec 32 := Scalar.muli c32_i32_765_r0 v117_r0
  let c0_i32_766_r0 : BitVec 32 := 0#32
  let c0_i32_767_r0 : BitVec 32 := 0#32
  ![v725_r0.toNat, v726_r0.toNat, 0, 0]
def k1_off17 (arg6_r0 : BitVec 32) : Fin 5 → Nat :=
  let c2_i32_763_r0 : BitVec 32 := 2#32
  let v724_r0 : BitVec 32 := Scalar.remui arg6_r0 c2_i32_763_r0
  let c0_i32_768_r0 : BitVec 32 := 0#32
  let c0_i32_769_r0 : BitVec 32 := 0#32
  let c0_i32_770_r0 : BitVec 32 := 0#32
  let c0_i32_771_r0 : BitVec 32 := 0#32
  ![v724_r0.toNat, 0, 0, 0, 0]
def k1_off18 (arg7_r0 : BitVec 32) : Fin 1 → Nat :=
  let c2_i32_763_r0 : BitVec 32 := 2#32
  let v724_r0 : BitVec 32 := Scalar.remui arg7_r0 c2_i32_763_r0
  ![v724_r0.toNat]
def k1_cond8 (k1_t1 : Fin k1_t1_loop.trips) (arg8_r0 : BitVec 32) (arg9_r0 : BitVec 32) : BitVec 1 :=
  let c0_i32_116_r0 : BitVec 32 := 0#32
  let v116_r0 : BitVec 32 := Scalar.addi arg8_r0 c0_i32_116_r0
  let true_119_r0 : BitVec 1 := 1#1
  let c1_i32_118_r0 : BitVec 32 := 1#32
  let v118_r0 : BitVec 32 := Scalar.subi arg9_r0 c1_i32_118_r0
  let v119_r0 : BitVec 32 := Scalar.select true_119_r0 v118_r0 arg9_r0
  let c_m1_i32_120_r0 : BitVec 32 := 4294967295#32
  let v120_r0 : BitVec 1 := Scalar.cmpi .eq v119_r0 c_m1_i32_120_r0
  let c1_i32_122_r0 : BitVec 32 := 1#32
  let v122_r0 : BitVec 32 := Scalar.subi arg8_r0 c1_i32_122_r0
  let v123_r0 : BitVec 32 := Scalar.select v120_r0 v122_r0 arg8_r0
  let c_m1_i32_123_r0 : BitVec 32 := 4294967295#32
  let v124_r0 : BitVec 1 := Scalar.cmpi .eq v123_r0 c_m1_i32_123_r0
  let c3_i32_124_r0 : BitVec 32 := 3#32
  let v125_r0 : BitVec 32 := Scalar.select v124_r0 c3_i32_124_r0 v123_r0
  let c0_i32_125_r0 : BitVec 32 := 0#32
  let v126_r0 : BitVec 32 := Scalar.addi v125_r0 c0_i32_125_r0
  let v700_r0 : BitVec 1 := Scalar.cmpi .ne v116_r0 v126_r0
  let c0_i32_117_r0 : BitVec 32 := 0#32
  let v117_r0 : BitVec 32 := Scalar.addi arg9_r0 c0_i32_117_r0
  let c1_i32_121_r0 : BitVec 32 := 1#32
  let v121_r0 : BitVec 32 := Scalar.select v120_r0 c1_i32_121_r0 v119_r0
  let c0_i32_126_r0 : BitVec 32 := 0#32
  let v127_r0 : BitVec 32 := Scalar.addi v121_r0 c0_i32_126_r0
  let v701_r0 : BitVec 1 := Scalar.cmpi .ne v117_r0 v127_r0
  let v702_r0 : BitVec 1 := Scalar.ori v700_r0 v701_r0
  let c0_i32_59_r0 : BitVec 32 := 0#32
  let c1_i32_60_r0 : BitVec 32 := 1#32
  let arg3_r0 : BitVec 32 := Scf.iv c0_i32_59_r0 c1_i32_60_r0 k1_t1
  let c0_i32_115_r0 : BitVec 32 := 0#32
  let v114_r0 : BitVec 1 := Scalar.cmpi .eq arg3_r0 c0_i32_115_r0
  let true_751_r0 : BitVec 1 := 1#1
  let v703_r0 : BitVec 1 := Scalar.xori v114_r0 true_751_r0
  let v704_r0 : BitVec 1 := Scalar.andi v702_r0 v703_r0
  let v705_r0 : BitVec 32 := Scalar.extui v704_r0
  let c0_i32_752_r0 : BitVec 32 := 0#32
  let v706_r0 : BitVec 1 := Scalar.cmpi .ne v705_r0 c0_i32_752_r0
  v706_r0

def k1_off19 (arg8_r0 : BitVec 32) (arg9_r0 : BitVec 32) : Fin 4 → Nat :=
  let c1_i32_764_r0 : BitVec 32 := 1#32
  let true_119_r0 : BitVec 1 := 1#1
  let c1_i32_118_r0 : BitVec 32 := 1#32
  let v118_r0 : BitVec 32 := Scalar.subi arg9_r0 c1_i32_118_r0
  let v119_r0 : BitVec 32 := Scalar.select true_119_r0 v118_r0 arg9_r0
  let c_m1_i32_120_r0 : BitVec 32 := 4294967295#32
  let v120_r0 : BitVec 1 := Scalar.cmpi .eq v119_r0 c_m1_i32_120_r0
  let c1_i32_122_r0 : BitVec 32 := 1#32
  let v122_r0 : BitVec 32 := Scalar.subi arg8_r0 c1_i32_122_r0
  let v123_r0 : BitVec 32 := Scalar.select v120_r0 v122_r0 arg8_r0
  let c_m1_i32_123_r0 : BitVec 32 := 4294967295#32
  let v124_r0 : BitVec 1 := Scalar.cmpi .eq v123_r0 c_m1_i32_123_r0
  let c3_i32_124_r0 : BitVec 32 := 3#32
  let v125_r0 : BitVec 32 := Scalar.select v124_r0 c3_i32_124_r0 v123_r0
  let c0_i32_125_r0 : BitVec 32 := 0#32
  let v126_r0 : BitVec 32 := Scalar.addi v125_r0 c0_i32_125_r0
  let v725_r0 : BitVec 32 := Scalar.muli c1_i32_764_r0 v126_r0
  let c32_i32_765_r0 : BitVec 32 := 32#32
  let c1_i32_121_r0 : BitVec 32 := 1#32
  let v121_r0 : BitVec 32 := Scalar.select v120_r0 c1_i32_121_r0 v119_r0
  let c0_i32_126_r0 : BitVec 32 := 0#32
  let v127_r0 : BitVec 32 := Scalar.addi v121_r0 c0_i32_126_r0
  let v726_r0 : BitVec 32 := Scalar.muli c32_i32_765_r0 v127_r0
  let c0_i32_766_r0 : BitVec 32 := 0#32
  let c0_i32_767_r0 : BitVec 32 := 0#32
  ![v725_r0.toNat, v726_r0.toNat, 0, 0]
def k1_off20 (arg7_r0 : BitVec 32) : Fin 5 → Nat :=
  let c2_i32_763_r0 : BitVec 32 := 2#32
  let v724_r0 : BitVec 32 := Scalar.remui arg7_r0 c2_i32_763_r0
  let c0_i32_768_r0 : BitVec 32 := 0#32
  let c0_i32_769_r0 : BitVec 32 := 0#32
  let c0_i32_770_r0 : BitVec 32 := 0#32
  let c0_i32_771_r0 : BitVec 32 := 0#32
  ![v724_r0.toNat, 0, 0, 0, 0]

def k1_chk1 (k1_t1 : Fin k1_t1_loop.trips) (arg4_r0 : BitVec 32) (arg5_r0 : BitVec 32) (arg6_r0 : BitVec 32) (arg7_r0 : BitVec 32) (arg8_r0 : BitVec 32) (arg9_r0 : BitVec 32) : Prop :=
  (∀ (k1_h2 : k1_cond2 k1_t1 arg8_r0 arg9_r0 = 1#1), ∀ a, (k1_off6 arg4_r0) a + S1.size a ≤ S3.size a) ∧
  (∀ (k1_h2 : k1_cond2 k1_t1 arg8_r0 arg9_r0 = 1#1), ∀ a, (k1_off7 arg4_r0) a + S1x1x128x16x2x1024.size a ≤ S3x1x128x16x2x1024.size a) ∧
  (∀ (k1_h2 : k1_cond2 k1_t1 arg8_r0 arg9_r0 = 1#1), ∀ a, (k1_off8 arg8_r0 arg9_r0) a + S1x128x16x2x1024.size a ≤ S4x128x32x2x1024.size a) ∧
  (∀ (k1_h2 : k1_cond2 k1_t1 arg8_r0 arg9_r0 = 1#1), ∀ (hinb : ∀ a, (k1_off8 arg8_r0 arg9_r0) a + S1x128x16x2x1024.size a ≤ S4x128x32x2x1024.size a), (Rect.unit (s := S4x128x32x2x1024) (k1_off8 arg8_r0 arg9_r0) S1x128x16x2x1024.size hinb).WholeWords (EltTy.packing .bf16)) ∧
  (∀ (k1_h2 : k1_cond2 k1_t1 arg8_r0 arg9_r0 = 1#1), ∀ (hinb : ∀ a, (k1_off7 arg4_r0) a + S1x1x128x16x2x1024.size a ≤ S3x1x128x16x2x1024.size a), (Rect.unit (s := S3x1x128x16x2x1024) (k1_off7 arg4_r0) S1x1x128x16x2x1024.size hinb).WholeWords (EltTy.packing .bf16)) ∧
  (∀ (k1_h3 : k1_cond3 k1_t1 arg8_r0 arg9_r0 = 1#1), ∀ a, (k1_off9 arg5_r0) a + S1.size a ≤ S3.size a) ∧
  (∀ (k1_h3 : k1_cond3 k1_t1 arg8_r0 arg9_r0 = 1#1), ∀ a, (k1_off10 arg5_r0) a + S1x1x128x16x2x1024.size a ≤ S3x1x128x16x2x1024.size a) ∧
  (∀ (k1_h3 : k1_cond3 k1_t1 arg8_r0 arg9_r0 = 1#1), ∀ a, (k1_off11 arg8_r0 arg9_r0) a + S1x128x16x2x1024.size a ≤ S4x128x32x2x1024.size a) ∧
  (∀ (k1_h3 : k1_cond3 k1_t1 arg8_r0 arg9_r0 = 1#1), ∀ (hinb : ∀ a, (k1_off11 arg8_r0 arg9_r0) a + S1x128x16x2x1024.size a ≤ S4x128x32x2x1024.size a), (Rect.unit (s := S4x128x32x2x1024) (k1_off11 arg8_r0 arg9_r0) S1x128x16x2x1024.size hinb).WholeWords (EltTy.packing .bf16)) ∧
  (∀ (k1_h3 : k1_cond3 k1_t1 arg8_r0 arg9_r0 = 1#1), ∀ (hinb : ∀ a, (k1_off10 arg5_r0) a + S1x1x128x16x2x1024.size a ≤ S3x1x128x16x2x1024.size a), (Rect.unit (s := S3x1x128x16x2x1024) (k1_off10 arg5_r0) S1x1x128x16x2x1024.size hinb).WholeWords (EltTy.packing .bf16)) ∧
  (∀ (k1_h6 : k1_cond6 k1_t1 arg8_r0 arg9_r0 = 1#1), ∀ a, (k1_off15 arg6_r0) a + S1.size a ≤ S2.size a) ∧
  (∀ (k1_h6 : k1_cond6 k1_t1 arg8_r0 arg9_r0 = 1#1), ∀ a, (k1_off16 arg8_r0 arg9_r0) a + S1x32x128x512.size a ≤ S4x64x128x512.size a) ∧
  (∀ (k1_h6 : k1_cond6 k1_t1 arg8_r0 arg9_r0 = 1#1), ∀ a, (k1_off17 arg6_r0) a + S1x1x32x128x512.size a ≤ S2x1x32x128x512.size a) ∧
  (∀ (k1_h8 : k1_cond8 k1_t1 arg8_r0 arg9_r0 = 1#1), ∀ a, (k1_off18 arg7_r0) a + S1.size a ≤ S2.size a) ∧
  (∀ (k1_h8 : k1_cond8 k1_t1 arg8_r0 arg9_r0 = 1#1), ∀ a, (k1_off19 arg8_r0 arg9_r0) a + S1x32x128x512.size a ≤ S4x64x128x512.size a) ∧
  (∀ (k1_h8 : k1_cond8 k1_t1 arg8_r0 arg9_r0 = 1#1), ∀ a, (k1_off20 arg7_r0) a + S1x1x32x128x512.size a ≤ S2x1x32x128x512.size a)
theorem k1_off6_inb : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h2 : k1_cond2 k1_t1 arg8_r0 arg9_r0 = 1#1), ∀ a, (k1_off6 arg4_r0) a + S1.size a ≤ S3.size a := fun k1_t1 arg4_r0 arg5_r0 arg6_r0 arg7_r0 arg8_r0 arg9_r0 k1_hw1 k1_h2 => k1_hw1.1 k1_h2
theorem k1_off7_inb : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h2 : k1_cond2 k1_t1 arg8_r0 arg9_r0 = 1#1), ∀ a, (k1_off7 arg4_r0) a + S1x1x128x16x2x1024.size a ≤ S3x1x128x16x2x1024.size a := fun k1_t1 arg4_r0 arg5_r0 arg6_r0 arg7_r0 arg8_r0 arg9_r0 k1_hw1 k1_h2 => k1_hw1.2.1 k1_h2
theorem k1_off8_inb : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h2 : k1_cond2 k1_t1 arg8_r0 arg9_r0 = 1#1), ∀ a, (k1_off8 arg8_r0 arg9_r0) a + S1x128x16x2x1024.size a ≤ S4x128x32x2x1024.size a := fun k1_t1 arg4_r0 arg5_r0 arg6_r0 arg7_r0 arg8_r0 arg9_r0 k1_hw1 k1_h2 => k1_hw1.2.2.1 k1_h2
theorem k1_off8_wordsbf16 : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h2 : k1_cond2 k1_t1 arg8_r0 arg9_r0 = 1#1), (Rect.unit (s := S4x128x32x2x1024) (k1_off8 arg8_r0 arg9_r0) S1x128x16x2x1024.size (k1_off8_inb k1_t1 arg4_r0 arg5_r0 arg6_r0 arg7_r0 arg8_r0 arg9_r0 k1_hw1 k1_h2)).WholeWords (EltTy.packing .bf16) := fun k1_t1 arg4_r0 arg5_r0 arg6_r0 arg7_r0 arg8_r0 arg9_r0 k1_hw1 k1_h2 => k1_hw1.2.2.2.1 k1_h2 (k1_off8_inb k1_t1 arg4_r0 arg5_r0 arg6_r0 arg7_r0 arg8_r0 arg9_r0 k1_hw1 k1_h2)
theorem k1_off7_wordsbf16 : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h2 : k1_cond2 k1_t1 arg8_r0 arg9_r0 = 1#1), (Rect.unit (s := S3x1x128x16x2x1024) (k1_off7 arg4_r0) S1x1x128x16x2x1024.size (k1_off7_inb k1_t1 arg4_r0 arg5_r0 arg6_r0 arg7_r0 arg8_r0 arg9_r0 k1_hw1 k1_h2)).WholeWords (EltTy.packing .bf16) := fun k1_t1 arg4_r0 arg5_r0 arg6_r0 arg7_r0 arg8_r0 arg9_r0 k1_hw1 k1_h2 => k1_hw1.2.2.2.2.1 k1_h2 (k1_off7_inb k1_t1 arg4_r0 arg5_r0 arg6_r0 arg7_r0 arg8_r0 arg9_r0 k1_hw1 k1_h2)
theorem k1_off9_inb : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h3 : k1_cond3 k1_t1 arg8_r0 arg9_r0 = 1#1), ∀ a, (k1_off9 arg5_r0) a + S1.size a ≤ S3.size a := fun k1_t1 arg4_r0 arg5_r0 arg6_r0 arg7_r0 arg8_r0 arg9_r0 k1_hw1 k1_h3 => k1_hw1.2.2.2.2.2.1 k1_h3
theorem k1_off10_inb : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h3 : k1_cond3 k1_t1 arg8_r0 arg9_r0 = 1#1), ∀ a, (k1_off10 arg5_r0) a + S1x1x128x16x2x1024.size a ≤ S3x1x128x16x2x1024.size a := fun k1_t1 arg4_r0 arg5_r0 arg6_r0 arg7_r0 arg8_r0 arg9_r0 k1_hw1 k1_h3 => k1_hw1.2.2.2.2.2.2.1 k1_h3
theorem k1_off11_inb : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h3 : k1_cond3 k1_t1 arg8_r0 arg9_r0 = 1#1), ∀ a, (k1_off11 arg8_r0 arg9_r0) a + S1x128x16x2x1024.size a ≤ S4x128x32x2x1024.size a := fun k1_t1 arg4_r0 arg5_r0 arg6_r0 arg7_r0 arg8_r0 arg9_r0 k1_hw1 k1_h3 => k1_hw1.2.2.2.2.2.2.2.1 k1_h3
theorem k1_off11_wordsbf16 : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h3 : k1_cond3 k1_t1 arg8_r0 arg9_r0 = 1#1), (Rect.unit (s := S4x128x32x2x1024) (k1_off11 arg8_r0 arg9_r0) S1x128x16x2x1024.size (k1_off11_inb k1_t1 arg4_r0 arg5_r0 arg6_r0 arg7_r0 arg8_r0 arg9_r0 k1_hw1 k1_h3)).WholeWords (EltTy.packing .bf16) := fun k1_t1 arg4_r0 arg5_r0 arg6_r0 arg7_r0 arg8_r0 arg9_r0 k1_hw1 k1_h3 => k1_hw1.2.2.2.2.2.2.2.2.1 k1_h3 (k1_off11_inb k1_t1 arg4_r0 arg5_r0 arg6_r0 arg7_r0 arg8_r0 arg9_r0 k1_hw1 k1_h3)
theorem k1_off10_wordsbf16 : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h3 : k1_cond3 k1_t1 arg8_r0 arg9_r0 = 1#1), (Rect.unit (s := S3x1x128x16x2x1024) (k1_off10 arg5_r0) S1x1x128x16x2x1024.size (k1_off10_inb k1_t1 arg4_r0 arg5_r0 arg6_r0 arg7_r0 arg8_r0 arg9_r0 k1_hw1 k1_h3)).WholeWords (EltTy.packing .bf16) := fun k1_t1 arg4_r0 arg5_r0 arg6_r0 arg7_r0 arg8_r0 arg9_r0 k1_hw1 k1_h3 => k1_hw1.2.2.2.2.2.2.2.2.2.1 k1_h3 (k1_off10_inb k1_t1 arg4_r0 arg5_r0 arg6_r0 arg7_r0 arg8_r0 arg9_r0 k1_hw1 k1_h3)
theorem k1_off15_inb : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h6 : k1_cond6 k1_t1 arg8_r0 arg9_r0 = 1#1), ∀ a, (k1_off15 arg6_r0) a + S1.size a ≤ S2.size a := fun k1_t1 arg4_r0 arg5_r0 arg6_r0 arg7_r0 arg8_r0 arg9_r0 k1_hw1 k1_h6 => k1_hw1.2.2.2.2.2.2.2.2.2.2.1 k1_h6
theorem k1_off16_inb : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h6 : k1_cond6 k1_t1 arg8_r0 arg9_r0 = 1#1), ∀ a, (k1_off16 arg8_r0 arg9_r0) a + S1x32x128x512.size a ≤ S4x64x128x512.size a := fun k1_t1 arg4_r0 arg5_r0 arg6_r0 arg7_r0 arg8_r0 arg9_r0 k1_hw1 k1_h6 => k1_hw1.2.2.2.2.2.2.2.2.2.2.2.1 k1_h6
theorem k1_off17_inb : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h6 : k1_cond6 k1_t1 arg8_r0 arg9_r0 = 1#1), ∀ a, (k1_off17 arg6_r0) a + S1x1x32x128x512.size a ≤ S2x1x32x128x512.size a := fun k1_t1 arg4_r0 arg5_r0 arg6_r0 arg7_r0 arg8_r0 arg9_r0 k1_hw1 k1_h6 => k1_hw1.2.2.2.2.2.2.2.2.2.2.2.2.1 k1_h6
theorem k1_off18_inb : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h8 : k1_cond8 k1_t1 arg8_r0 arg9_r0 = 1#1), ∀ a, (k1_off18 arg7_r0) a + S1.size a ≤ S2.size a := fun k1_t1 arg4_r0 arg5_r0 arg6_r0 arg7_r0 arg8_r0 arg9_r0 k1_hw1 k1_h8 => k1_hw1.2.2.2.2.2.2.2.2.2.2.2.2.2.1 k1_h8
theorem k1_off19_inb : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h8 : k1_cond8 k1_t1 arg8_r0 arg9_r0 = 1#1), ∀ a, (k1_off19 arg8_r0 arg9_r0) a + S1x32x128x512.size a ≤ S4x64x128x512.size a := fun k1_t1 arg4_r0 arg5_r0 arg6_r0 arg7_r0 arg8_r0 arg9_r0 k1_hw1 k1_h8 => k1_hw1.2.2.2.2.2.2.2.2.2.2.2.2.2.2.1 k1_h8
theorem k1_off20_inb : ∀ (k1_t1 : Fin k1_t1_loop.trips) (arg4_r0 : BitVec 32) (arg5_r0 : BitVec 32) (arg6_r0 : BitVec 32) (arg7_r0 : BitVec 32) (arg8_r0 : BitVec 32) (arg9_r0 : BitVec 32) (k1_hw1 : k1_chk1 k1_t1 arg4_r0 arg5_r0 arg6_r0 arg7_r0 arg8_r0 arg9_r0), ∀ (k1_h8 : k1_cond8 k1_t1 arg8_r0 arg9_r0 = 1#1), ∀ a, (k1_off20 arg7_r0) a + S1x1x32x128x512.size a ≤ S2x1x32x128x512.size a := fun k1_t1 arg4_r0 arg5_r0 arg6_r0 arg7_r0 arg8_r0 arg9_r0 k1_hw1 k1_h8 => k1_hw1.2.2.2.2.2.2.2.2.2.2.2.2.2.2.2 k1_h8

def k1_off21 (v55_3_r0 : BitVec 32) : Fin 1 → Nat :=
  let c2_i32_107_r0 : BitVec 32 := 2#32
  let v106_r0 : BitVec 32 := Scalar.remui v55_3_r0 c2_i32_107_r0
  ![v106_r0.toNat]

def k1_off22 (v55_5_r0 : BitVec 32) (v55_4_r0 : BitVec 32) : Fin 4 → Nat :=
  let c1_i32_108_r0 : BitVec 32 := 1#32
  let true_63_r0 : BitVec 1 := 1#1
  let c1_i32_62_r0 : BitVec 32 := 1#32
  let v56_r0 : BitVec 32 := Scalar.subi v55_5_r0 c1_i32_62_r0
  let v57_r0 : BitVec 32 := Scalar.select true_63_r0 v56_r0 v55_5_r0
  let c_m1_i32_64_r0 : BitVec 32 := 4294967295#32
  let v58_r0 : BitVec 1 := Scalar.cmpi .eq v57_r0 c_m1_i32_64_r0
  let c1_i32_66_r0 : BitVec 32 := 1#32
  let v60_r0 : BitVec 32 := Scalar.subi v55_4_r0 c1_i32_66_r0
  let v61_r0 : BitVec 32 := Scalar.select v58_r0 v60_r0 v55_4_r0
  let c_m1_i32_67_r0 : BitVec 32 := 4294967295#32
  let v62_r0 : BitVec 1 := Scalar.cmpi .eq v61_r0 c_m1_i32_67_r0
  let c3_i32_68_r0 : BitVec 32 := 3#32
  let v63_r0 : BitVec 32 := Scalar.select v62_r0 c3_i32_68_r0 v61_r0
  let c0_i32_69_r0 : BitVec 32 := 0#32
  let v64_r0 : BitVec 32 := Scalar.addi v63_r0 c0_i32_69_r0
  let v107_r0 : BitVec 32 := Scalar.muli c1_i32_108_r0 v64_r0
  let c32_i32_r0 : BitVec 32 := 32#32
  let c1_i32_65_r0 : BitVec 32 := 1#32
  let v59_r0 : BitVec 32 := Scalar.select v58_r0 c1_i32_65_r0 v57_r0
  let c0_i32_70_r0 : BitVec 32 := 0#32
  let v65_r0 : BitVec 32 := Scalar.addi v59_r0 c0_i32_70_r0
  let v108_r0 : BitVec 32 := Scalar.muli c32_i32_r0 v65_r0
  let c0_i32_109_r0 : BitVec 32 := 0#32
  let c0_i32_110_r0 : BitVec 32 := 0#32
  ![v107_r0.toNat, v108_r0.toNat, 0, 0]

def k1_chk5 (v55_5_r0 : BitVec 32) (v55_4_r0 : BitVec 32) : Prop :=
  (∀ a, (k1_off22 v55_5_r0 v55_4_r0) a + S1x32x128x512.size a ≤ S4x64x128x512.size a)
theorem k1_off22_inb : ∀ (v55_5_r0 : BitVec 32) (v55_4_r0 : BitVec 32) (k1_hw5 : k1_chk5 v55_5_r0 v55_4_r0), ∀ a, (k1_off22 v55_5_r0 v55_4_r0) a + S1x32x128x512.size a ≤ S4x64x128x512.size a := fun v55_5_r0 v55_4_r0 k1_hw5 => k1_hw5

def k1_off23 (v55_3_r0 : BitVec 32) : Fin 5 → Nat :=
  let c2_i32_107_r0 : BitVec 32 := 2#32
  let v106_r0 : BitVec 32 := Scalar.remui v55_3_r0 c2_i32_107_r0
  let c0_i32_111_r0 : BitVec 32 := 0#32
  let c0_i32_112_r0 : BitVec 32 := 0#32
  let c0_i32_113_r0 : BitVec 32 := 0#32
  let c0_i32_114_r0 : BitVec 32 := 0#32
  ![v106_r0.toNat, 0, 0, 0, 0]

def k1_chk4 (v55_3_r0 : BitVec 32) : Prop :=
  (∀ a, (k1_off21 v55_3_r0) a + S1.size a ≤ S2.size a) ∧
  (∀ a, (k1_off23 v55_3_r0) a + S1x1x32x128x512.size a ≤ S2x1x32x128x512.size a)
theorem k1_off21_inb : ∀ (v55_3_r0 : BitVec 32) (k1_hw4 : k1_chk4 v55_3_r0), ∀ a, (k1_off21 v55_3_r0) a + S1.size a ≤ S2.size a := fun v55_3_r0 k1_hw4 => k1_hw4.1
theorem k1_off23_inb : ∀ (v55_3_r0 : BitVec 32) (k1_hw4 : k1_chk4 v55_3_r0), ∀ a, (k1_off23 v55_3_r0) a + S1x1x32x128x512.size a ≤ S2x1x32x128x512.size a := fun v55_3_r0 k1_hw4 => k1_hw4.2

abbrev stage1_0 : Fin 1 → Memref sig .tc .vmem S256x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== ReferenceIdeal.lean ====
abbrev S32768x1024 : Shape := ⟨2, ![32768, 1024]⟩
abbrev S8192x8192 : Shape := ⟨2, ![8192, 8192]⟩
abbrev S_ : Shape := ⟨0, ![]⟩
abbrev S4x8192x1024 : Shape := ⟨3, ![4, 8192, 1024]⟩
abbrev S4x8192x512 : Shape := ⟨3, ![4, 8192, 512]⟩
abbrev S4x512x8192 : Shape := ⟨3, ![4, 512, 8192]⟩
abbrev S4x128x64x512 : Shape := ⟨4, ![4, 128, 64, 512]⟩
abbrev S4x64x128x512 : Shape := ⟨4, ![4, 64, 128, 512]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S8192x8192, .i32⟩
  | .hbm, ⟨2, _⟩ => ⟨S8192x8192, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x8192, .i32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S32768x1024, .f32⟩
  | .hbm, ⟨15, _⟩ => ⟨S4x8192x1024, .f32⟩
  | .hbm, ⟨16, _⟩ => ⟨S4x8192x512, .f32⟩
  | .hbm, ⟨17, _⟩ => ⟨S4x8192x512, .f32⟩
  | .hbm, ⟨18, _⟩ => ⟨S8192x8192, .f32⟩
  | .hbm, ⟨19, _⟩ => ⟨S4x512x8192, .f32⟩
  | .hbm, ⟨20, _⟩ => ⟨S4x8192x512, .f32⟩
  | .hbm, ⟨21, _⟩ => ⟨S8192x8192, .f32⟩
  | .hbm, ⟨22, _⟩ => ⟨S4x512x8192, .f32⟩
  | .hbm, ⟨23, _⟩ => ⟨S4x8192x512, .f32⟩
  | .hbm, ⟨24, _⟩ => ⟨S4x8192x512, .f32⟩
  | .hbm, ⟨25, _⟩ => ⟨S_, .f32⟩
  | .hbm, ⟨26, _⟩ => ⟨S4x8192x512, .f32⟩
  | .hbm, ⟨27, _⟩ => ⟨S4x8192x512, .f32⟩
  | .hbm, ⟨28, _⟩ => ⟨S4x128x64x512, .f32⟩
  | .hbm, ⟨29, _⟩ => ⟨S4x64x128x512, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x9216 : Shape := ⟨2, ![4, 9216]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S4x9x1024 : Shape := ⟨3, ![4, 9, 1024]⟩
abbrev S1x1024 : Shape := ⟨2, ![1, 1024]⟩
abbrev S512x1024 : Shape := ⟨2, ![512, 1024]⟩
abbrev S1x9x1024 : Shape := ⟨3, ![1, 9, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x9216, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S4x9x1024, .f32⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .f32⟩
  | .local _ .vmem, ⟨6, _⟩ => ⟨S1024x2816, .f32⟩
  | .local _ .vmem, ⟨7, _⟩ => ⟨S2816x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x8192x1024 : Shape := ⟨3, ![4, 8192, 1024]⟩
abbrev S4x9216 : Shape := ⟨2, ![4, 9216]⟩
abbrev S1024 : Shape := ⟨1, ![1024]⟩
abbrev S1024x2816 : Shape := ⟨2, ![1024, 2816]⟩
abbrev S2816x1024 : Shape := ⟨2, ![2816, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x2816 : Shape := ⟨3, ![4, 8192, 2816]⟩
abbrev S32768x1024 : Shape := ⟨2, ![32768, 1024]⟩

abbrev nBuf : Space → Nat
  | .hbm => 62
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x9216, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x8192x1024, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S1x1x1024, .f32⟩
  | .hbm, ⟨30, _⟩ => ⟨S4x8192x1024, .f32⟩
  | .hbm, ⟨31, _⟩ => ⟨S4x8192x1024, .f32⟩
  | .hbm, ⟨32, _⟩ => ⟨S4x1x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x8192x1024, .f32⟩
  | .hbm, ⟨37, _⟩ => ⟨S4x8192x1024, .f32⟩
  | .hbm, ⟨38, _⟩ => ⟨S4x1x1024, .f32⟩
  | .hbm, ⟨39, _⟩ => ⟨S4x8192x1024, .f32⟩
  | .hbm, ⟨40, _⟩ => ⟨S4x8192x1024, .f32⟩
  | .hbm, ⟨41, _⟩ => ⟨S4x1x1024, .f32⟩
  | .hbm, ⟨42, _⟩ => ⟨S_, .f32⟩
  | .hbm, ⟨43, _⟩ => ⟨S4x1x1024, .f32⟩
  | .hbm, ⟨44, _⟩ => ⟨S4x1x1024, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S_, .f32⟩
  | .hbm, ⟨49, _⟩ => ⟨S4x8192x2816, .f32⟩
  | .hbm, ⟨50, _⟩ => ⟨S4x8192x2816, .f32⟩
  | .hbm, ⟨51, _⟩ => ⟨S_, .f32⟩
  | .hbm, ⟨52, _⟩ => ⟨S4x8192x2816, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S4x8192x2816, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x9216 : Shape := ⟨2, ![4, 9216]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S4x9x1024 : Shape := ⟨3, ![4, 9, 1024]⟩
abbrev S1x1024 : Shape := ⟨2, ![1, 1024]⟩
abbrev S512x1024 : Shape := ⟨2, ![512, 1024]⟩
abbrev S1x9x1024 : Shape := ⟨3, ![1, 9, 1024]⟩
abbrev S1x1x1024 : Shape := ⟨3, ![1, 1, 1024]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x9216, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S4x9x1024, .f32⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1024x2816, .f32⟩
  | .local _ .vmem, ⟨6, _⟩ => ⟨S1024x2816, .f32⟩
  | .local _ .vmem, ⟨7, _⟩ => ⟨S2816x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S4x8192x1024 : Shape := ⟨3, ![4, 8192, 1024]⟩
abbrev S4x9216 : Shape := ⟨2, ![4, 9216]⟩
abbrev S1024 : Shape := ⟨1, ![1024]⟩
abbrev S1024x2816 : Shape := ⟨2, ![1024, 2816]⟩
abbrev S2816x1024 : Shape := ⟨2, ![2816, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x2816 : Shape := ⟨3, ![4, 8192, 2816]⟩
abbrev S32768x1024 : Shape := ⟨2, ![32768, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x9216, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x8192x1024, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x1, .f32⟩
  | .hbm, ⟨27, _⟩ => ⟨S4x8192x1024, .f32⟩
  | .hbm, ⟨28, _⟩ => ⟨S4x8192x1024, .f32⟩
  | .hbm, ⟨29, _⟩ => ⟨S1x1x1024, .f32⟩
  | .hbm, ⟨30, _⟩ => ⟨S4x8192x1024, .f32⟩
  | .hbm, ⟨31, _⟩ => ⟨S4x8192x1024, .f32⟩
  | .hbm, ⟨32, _⟩ => ⟨S4x1x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x8192x1024, .f32⟩
  | .hbm, ⟨37, _⟩ => ⟨S4x8192x1024, .f32⟩
  | .hbm, ⟨38, _⟩ => ⟨S4x1x1024, .f32⟩
  | .hbm, ⟨39, _⟩ => ⟨S4x8192x1024, .f32⟩
  | .hbm, ⟨40, _⟩ => ⟨S4x8192x1024, .f32⟩
  | .hbm, ⟨41, _⟩ => ⟨S4x1x1024, .f32⟩
  | .hbm, ⟨42, _⟩ => ⟨S_, .f32⟩
  | .hbm, ⟨43, _⟩ => ⟨S4x1x1024, .f32⟩
  | .hbm, ⟨44, _⟩ => ⟨S4x1x1024, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S_, .f32⟩
  | .hbm, ⟨49, _⟩ => ⟨S4x8192x2816, .f32⟩
  | .hbm, ⟨50, _⟩ => ⟨S4x8192x2816, .f32⟩
  | .hbm, ⟨51, _⟩ => ⟨S_, .f32⟩
  | .hbm, ⟨52, _⟩ => ⟨S4x8192x2816, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S4x8192x2816, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S_, .f32⟩
  | .hbm, ⟨63, _⟩ => ⟨S4x8192, .f32⟩
  | .hbm, ⟨64, _⟩ => ⟨S4x8192x1, .f32⟩
  | .hbm, ⟨65, _⟩ => ⟨S_, .f32⟩
  | .hbm, ⟨66, _⟩ => ⟨S4x8192x1, .f32⟩
  | .hbm, ⟨67, _⟩ => ⟨S4x8192x1, .f32⟩
  | .hbm, ⟨68, _⟩ => ⟨S_, .f32⟩
  | .hbm, ⟨69, _⟩ => ⟨S4x8192x1, .f32⟩
  | .hbm, ⟨70, _⟩ => ⟨S4x8192x1, .f32⟩
  | .hbm, ⟨71, _⟩ => ⟨S4x8192x1, .f32⟩
  | .hbm, ⟨72, _⟩ => ⟨S4x8192x1024, .f32⟩
  | .hbm, ⟨73, _⟩ => ⟨S4x8192x1024, .f32⟩
  | .hbm, ⟨74, _⟩ => ⟨S1x1x1024, .f32⟩
  | .hbm, ⟨75, _⟩ => ⟨S4x8192x1024, .f32⟩
  | .hbm, ⟨76, _⟩ => ⟨S4x8192x1024, .f32⟩
  | .hbm, ⟨77, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x9216 : Shape := ⟨2, ![4, 9216]⟩
abbrev S1024 : Shape := ⟨1, ![1024]⟩
abbrev S4x64x128x512 : Shape := ⟨4, ![4, 64, 128, 512]⟩
abbrev S4x8x16x64x512 : Shape := ⟨5, ![4, 8, 16, 64, 512]⟩
abbrev S1024x3232 : Shape := ⟨2, ![1024, 3232]⟩
abbrev S512x1024 : Shape := ⟨2, ![512, 1024]⟩
abbrev S1024x1024 : Shape := ⟨2, ![1024, 1024]⟩
abbrev S3232x1024 : Shape := ⟨2, ![3232, 1024]⟩
abbrev S32768x1024 : Shape := ⟨2, ![32768, 1024]⟩
abbrev S4x9x1024 : Shape := ⟨3, ![4, 9, 1024]⟩
abbrev S1x1024 : Shape := ⟨2, ![1, 1024]⟩
abbrev S1x9x1024 : Shape := ⟨3, ![1, 9, 1024]⟩
abbrev S1x64x8x512 : Shape := ⟨4, ![1, 64, 8, 512]⟩
abbrev S1x8x1x64x512 : Shape := ⟨5, ![1, 8, 1, 64, 512]⟩
abbrev S1x1x1024 : Shape := ⟨3, ![1, 1, 1024]⟩
abbrev S512 : Shape := ⟨1, ![512]⟩
abbrev S512x1 : Shape := ⟨2, ![512, 1]⟩
abbrev S2048x1024 : Shape := ⟨2, ![2048, 1024]⟩
abbrev S512x2048 : Shape := ⟨2, ![512, 2048]⟩
abbrev S1x64x1x512 : Shape := ⟨4, ![1, 64, 1, 512]⟩
abbrev S64x512 : Shape := ⟨2, ![64, 512]⟩
abbrev S512x512 : Shape := ⟨2, ![512, 512]⟩
abbrev S8x64x512 : Shape := ⟨3, ![8, 64, 512]⟩

abbrev nBuf : Space → Nat
  | .hbm => 15
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x9216, .f32⟩
  | .hbm, ⟨2, _⟩ => ⟨S1024, .f32⟩
  | .hbm, ⟨3, _⟩ => ⟨S4x64x128x512, .f32⟩
  | .hbm, ⟨4, _⟩ => ⟨S4x8x16x64x512, .bf16⟩
  | .hbm, ⟨5, _⟩ => ⟨S1024x3232, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S3232x1024, .f32⟩
  | .hbm, ⟨10, _⟩ => ⟨S32768x1024, .f32⟩
  | .hbm, ⟨11, _⟩ => ⟨S4x9x1024, .f32⟩
  | .hbm, ⟨12, _⟩ => ⟨S512x1024, .bf16⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x64x8x512, .f32⟩
  | .local _ .vmem, ⟨6, _⟩ => ⟨S1x64x8x512, .f32⟩
  | .local _ .vmem, ⟨7, _⟩ => ⟨S1x8x1x64x512, .bf16⟩
  | .local _ .vmem, ⟨8, _⟩ => ⟨S1x8x1x64x512, .bf16⟩
  | .local _ .vmem, ⟨9, _⟩ => ⟨S3232x1024, .f32⟩
  | .local _ .vmem, ⟨10, _⟩ => ⟨S512x1024, .f32⟩
  | .local _ .vmem, ⟨11, _⟩ => ⟨S512x1024, .bf16⟩
  | .local _ .vmem, ⟨12, _⟩ => ⟨S1024x1024, .f32⟩
  | .local _ .vmem, ⟨13, _⟩ => ⟨S512x1024, .f32⟩
  | .local _ .vmem, ⟨14, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 5 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3232x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x8192x1024 : Shape := ⟨3, ![4, 8192, 1024]⟩
abbrev S4x9216 : Shape := ⟨2, ![4, 9216]⟩
abbrev S1024 : Shape := ⟨1, ![1024]⟩
abbrev S4x64x128x512 : Shape := ⟨4, ![4, 64, 128, 512]⟩
abbrev S4x8x16x64x512 : Shape := ⟨5, ![4, 8, 16, 64, 512]⟩
abbrev S1024x3232 : Shape := ⟨2, ![1024, 3232]⟩
abbrev S512x1024 : Shape := ⟨2, ![512, 1024]⟩
abbrev S1024x1024 : Shape := ⟨2, ![1024, 1024]⟩
abbrev S4x1024 : Shape := ⟨2, ![4, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x3232 : Shape := ⟨3, ![4, 8192, 3232]⟩
abbrev S4x8192x2048 : Shape := ⟨3, ![4, 8192, 2048]⟩
abbrev S4x128x64x512 : Shape := ⟨4, ![4, 128, 64, 512]⟩
abbrev S4x8192x512 : Shape := ⟨3, ![4, 8192, 512]⟩
abbrev S4x16x512x8x64 : Shape := ⟨5, ![4, 16, 512, 8, 64]⟩
abbrev S32768x1024 : Shape := ⟨2, ![32768, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x9216, .f32⟩
  | .hbm, ⟨2, _⟩ => ⟨S1024, .f32⟩
  | .hbm, ⟨3, _⟩ => ⟨S4x64x128x512, .f32⟩
  | .hbm, ⟨4, _⟩ => ⟨S4x8x16x64x512, .bf16⟩
  | .hbm, ⟨5, _⟩ => ⟨S1024x3232, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x8192x1024, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S4x8192x1024, .f32⟩
  | .hbm, ⟨30, _⟩ => ⟨S4x8192x1024, .f32⟩
  | .hbm, ⟨31, _⟩ => ⟨S1x1x1024, .f32⟩
  | .hbm, ⟨32, _⟩ => ⟨S4x8192x1024, .f32⟩
  | .hbm, ⟨33, _⟩ => ⟨S4x8192x1024, .f32⟩
  | .hbm, ⟨34, _⟩ => ⟨S4x1x1024, .f32⟩
  | .hbm, ⟨35, _⟩ => ⟨S_, .f32⟩
  | .hbm, ⟨36, _⟩ => ⟨S4x1x1024, .f32⟩
  | .hbm, ⟨37, _⟩ => ⟨S4x1x1024, .f32⟩
  | .hbm, ⟨38, _⟩ => ⟨S4x8192x1024, .f32⟩
  | .hbm, ⟨39, _⟩ => ⟨S4x8192x1024, .f32⟩
  | .hbm, ⟨40, _⟩ => ⟨S4x1x1024, .f32⟩
  | .hbm, ⟨41, _⟩ => ⟨S4x8192x1024, .f32⟩
  | .hbm, ⟨42, _⟩ => ⟨S4x8192x1024, .f32⟩
  | .hbm, ⟨43, _⟩ => ⟨S4x8192x3232, .f32⟩
  | .hbm, ⟨44, _⟩ => ⟨S4x8192x2048, .f32⟩
  | .hbm, ⟨45, _⟩ => ⟨S4x128x64x512, .f32⟩
  | .hbm, ⟨46, _⟩ => ⟨S4x8192x512, .f32⟩
  | .hbm, ⟨47, _⟩ => ⟨S4x8x16x64x512, .f32⟩
  | .hbm, ⟨48, _⟩ => ⟨S4x16x512x8x64, .f32⟩
  | .hbm, ⟨49, _⟩ => ⟨S4x8192x512, .f32⟩
  | .hbm, ⟨50, _⟩ => ⟨S4x8192x1024, .f32⟩
  | .hbm, ⟨51, _⟩ => ⟨S4x8192x1024, .f32⟩
  | .hbm, ⟨52, _⟩ => ⟨S4x8192x2048, .f32⟩
  | .hbm, ⟨53, _⟩ => ⟨S4x8192x2048, .f32⟩
  | .hbm, ⟨54, _⟩ => ⟨S_, .f32⟩
  | .hbm, ⟨55, _⟩ => ⟨S4x8192x2048, .f32⟩
  | .hbm, ⟨56, _⟩ => ⟨S4x8192x2048, .f32⟩
  | .hbm, ⟨57, _⟩ => ⟨S_, .f32⟩
  | .hbm, ⟨58, _⟩ => ⟨S4x8192x2048, .f32⟩
  | .hbm, ⟨59, _⟩ => ⟨S4x8192x2048, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S4x1x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Proof.FftB.lean ====
/- The second stage of the sequence transform: a ring of three read slots filled two blocks ahead, and a ring of two
   result slots emptied one block behind, over eight trips. -/
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Ring.Trips
public import Idealize.ShloMosaic.Lib.Ring.WriteBehind
public import Idealize.ShloMosaic.Lib.Affine
public import Idealize.ShloMosaic.Lib.Tactic

@[expose] public section

noncomputable section

namespace Cert.Proof.FftB

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## The buffers, their blocks and their slots -/

abbrev xM : Memref sig .tc .hbm S4x128x32x2x1024 .bf16 := Memref.whole main_v69
abbrev oM : Memref sig .tc .hbm S4x64x128x512 .f32 := Memref.whole main_v70
abbrev xB : Memref sig .tc .vmem S3x1x128x16x2x1024 .bf16 := Memref.whole cc1_scoped0
abbrev oB : Memref sig .tc .vmem S2x1x32x128x512 .f32 := Memref.whole cc1_scoped2

abbrev xOff (b : Fin 8) : Fin 5 → Nat := ![b.val / 2, 0, 16 * (b.val % 2), 0, 0]
theorem xOff_inb : ∀ (b : Fin 8) a, xOff b a + S1x128x16x2x1024.size a ≤ S4x128x32x2x1024.size a := by decide
abbrev oOff (b : Fin 8) : Fin 4 → Nat := ![b.val / 2, 32 * (b.val % 2), 0, 0]
theorem oOff_inb : ∀ (b : Fin 8) a, oOff b a + S1x32x128x512.size a ≤ S4x64x128x512.size a := by decide
abbrev xsOff (s : Fin 3) : Fin 6 → Nat := ![s.val, 0, 0, 0, 0, 0]
theorem xsOff_inb : ∀ (s : Fin 3) a, xsOff s a + S1x1x128x16x2x1024.size a ≤ S3x1x128x16x2x1024.size a := by decide
abbrev osOff (s : Fin 2) : Fin 5 → Nat := ![s.val, 0, 0, 0, 0]
theorem osOff_inb : ∀ (s : Fin 2) a, osOff s a + S1x1x32x128x512.size a ≤ S2x1x32x128x512.size a := by decide
abbrev semOff {n : Nat} (s : Fin n) : Fin 1 → Nat := ![s.val]
theorem xsemOff_inb : ∀ (s : Fin 3) a, semOff s a + S1.size a ≤ S3.size a := by decide
theorem osemOff_inb : ∀ (s : Fin 2) a, semOff s a + S1.size a ≤ S2.size a := by decide

/-- Block `b` of the words read. -/
def xblk (b : Fin 8) : Memref sig .tc .hbm S1x128x16x2x1024 .bf16 :=
  xM.slice (Rect.unit (s := S4x128x32x2x1024) (xOff b) S1x128x16x2x1024.size (xOff_inb b)) (fun _ => rfl)
/-- Block `b` of the result. -/
def oblk (b : Fin 8) : Memref sig .tc .hbm S1x32x128x512 .f32 :=
  oM.slice (Rect.unit (s := S4x64x128x512) (oOff b) S1x32x128x512.size (oOff_inb b)) (fun _ => rfl)
/-- Read slot `s`. -/
def xslot (s : Fin 3) : Memref sig .tc .vmem S1x128x16x2x1024 .bf16 :=
  (xB.slice (Rect.unit (s := S3x1x128x16x2x1024) (xsOff s) S1x1x128x16x2x1024.size (xsOff_inb s)) (fun _ => rfl)).squeeze S1x128x16x2x1024 squeezes_S1x1x128x16x2x1024_S1x128x16x2x1024
/-- Result slot `s`. -/
def oslot (s : Fin 2) : Memref sig .tc .vmem S1x32x128x512 .f32 :=
  (oB.slice (Rect.unit (s := S2x1x32x128x512) (osOff s) S1x1x32x128x512.size (osOff_inb s)) (fun _ => rfl)).squeeze S1x32x128x512 squeezes_S1x1x32x128x512_S1x32x128x512
/-- Read slot `s` and result slot `s` as the computation names them, without the leading unit axis. -/
def xcv (s : Fin 3) : Memref sig .tc .vmem S128x16x2x1024 .bf16 :=
  ((xslot s).slice (Rect.unit (s := S1x128x16x2x1024) ![0, 0, 0, 0, 0] S1x128x16x2x1024.size inb_S1x128x16x2x1024_S1x128x16x2x1024_0_0_0_0_0) (fun _ => rfl)).squeeze S128x16x2x1024 squeezes_S1x128x16x2x1024_S128x16x2x1024
def ocv (s : Fin 2) : Memref sig .tc .vmem S32x128x512 .f32 :=
  ((oslot s).slice (Rect.unit (s := S1x32x128x512) ![0, 0, 0, 0] S1x32x128x512.size inb_S1x32x128x512_S1x32x128x512_0_0_0_0) (fun _ => rfl)).squeeze S32x128x512 squeezes_S1x32x128x512_S32x128x512
/-- The read slots' semaphores, and the result slots'. -/
def xsem (s : Fin 3) : DmaSems sig S_ := (cc1_scoped1.slice (Rect.unit (s := S3) (semOff s) S1.size (xsemOff_inb s))).squeeze S_ squeezes_S1_S_
def osem (s : Fin 2) : DmaSems sig S_ := (cc1_scoped3.slice (Rect.unit (s := S2) (semOff s) S1.size (osemOff_inb s))).squeeze S_ squeezes_S1_S_

instance (b : Fin 8) : ClosedOff (xOff b) := ⟨xOff b, rfl⟩
instance (b : Fin 8) : ClosedOff (oOff b) := ⟨oOff b, rfl⟩
instance (b : Fin 3) : ClosedOff (xsOff b) := ⟨xsOff b, rfl⟩
instance (b : Fin 2) : ClosedOff (osOff b) := ⟨osOff b, rfl⟩

/-! ## The carried counters before trip `k` -/

theorem trips_eq : k1_t1_loop.trips = 8 := by decide +kernel

@[irreducible] def a4 (k : ℕ) : BitVec 32 := BitVec.ofNat 32 (min (k + 2) 8)
@[irreducible] def a5 (k : ℕ) : BitVec 32 := BitVec.ofNat 32 k
@[irreducible] def a6 (k : ℕ) : BitVec 32 := BitVec.ofNat 32 k
@[irreducible] def a7 (k : ℕ) : BitVec 32 := BitVec.ofNat 32 (k - 1)
@[irreducible] def a8 (k : ℕ) : BitVec 32 := BitVec.ofNat 32 (k / 2 % 4)
@[irreducible] def a9 (k : ℕ) : BitVec 32 := BitVec.ofNat 32 (k % 2)

section Facts
variable (k : Fin k1_t1_loop.trips)

theorem chk1 : k1_chk1 k (a4 k) (a5 k) (a6 k) (a7 k) (a8 k) (a9 k) := by revert k; unfold a4 a5 a6 a7 a8 a9; decide +kernel
theorem chk2 : k1_chk2 (a5 k) := by revert k; unfold a5; decide +kernel
theorem chk3 : k1_chk3 (a6 k) := by revert k; unfold a6; decide +kernel
theorem cond2_t : k.val + 2 < 8 → k1_cond2 k (a8 k) (a9 k) = 1#1 := by revert k; unfold a8 a9; decide +kernel
theorem cond2_f : ¬ k.val + 2 < 8 → ¬ k1_cond2 k (a8 k) (a9 k) = 1#1 := by revert k; unfold a8 a9; decide +kernel
theorem cond3_t : k1_cond3 k (a8 k) (a9 k) = 1#1 := by revert k; unfold a8 a9; decide +kernel
theorem cond6_t : k1_cond6 k (a8 k) (a9 k) = 1#1 := by revert k; unfold a8 a9; decide +kernel
theorem cond8_t : 1 ≤ k.val → k1_cond8 k (a8 k) (a9 k) = 1#1 := by revert k; unfold a8 a9; decide +kernel
theorem cond8_f : ¬ 1 ≤ k.val → ¬ k1_cond8 k (a8 k) (a9 k) = 1#1 := by revert k; unfold a8 a9; decide +kernel
theorem off6_eq : k.val + 2 < 8 → k1_off6 (a4 k) = semOff (Ring.sl 3 (k.val + 2)) := by revert k; unfold a4; decide +kernel
theorem off7_eq : k.val + 2 < 8 → k1_off7 (a4 k) = xsOff (Ring.sl 3 (k.val + 2)) := by revert k; unfold a4; decide +kernel
theorem off8_eq : k.val + 2 < 8 → k1_off8 (a8 k) (a9 k) = xOff (Ring.bk 8 (k.val + 2)) := by revert k; unfold a8 a9; decide +kernel
theorem off9_eq : k1_off9 (a5 k) = semOff (Ring.sl 3 k.val) := by revert k; unfold a5; decide +kernel
theorem off10_eq : k1_off10 (a5 k) = xsOff (Ring.sl 3 k.val) := by revert k; unfold a5; decide +kernel
theorem off11_eq : k1_off11 (a8 k) (a9 k) = xOff (Ring.bk 8 k.val) := by revert k; unfold a8 a9; decide +kernel
theorem off12_eq : k1_off12 (a5 k) = xsOff (Ring.sl 3 k.val) := by revert k; unfold a5; decide +kernel
theorem off13_eq : k1_off13 (a6 k) = osOff (Ring.sl 2 k.val) := by revert k; unfold a6; decide +kernel
theorem off14_eq : k1_off14 (a5 k) = xsOff (Ring.sl 3 k.val) := by revert k; unfold a5; decide +kernel
theorem off15_eq : k1_off15 (a6 k) = semOff (Ring.sl 2 k.val) := by revert k; unfold a6; decide +kernel
theorem off16_eq : k1_off16 (a8 k) (a9 k) = oOff (Ring.bk 8 k.val) := by revert k; unfold a8 a9; decide +kernel
theorem off17_eq : k1_off17 (a6 k) = osOff (Ring.sl 2 k.val) := by revert k; unfold a6; decide +kernel
theorem off18_eq : 1 ≤ k.val → k1_off18 (a7 k) = semOff (Ring.sl 2 (k.val - 1)) := by revert k; unfold a7; decide +kernel
theorem off19_eq : 1 ≤ k.val → k1_off19 (a8 k) (a9 k) = oOff (Ring.bk 8 (k.val - 1)) := by revert k; unfold a8 a9; decide +kernel
theorem off20_eq : 1 ≤ k.val → k1_off20 (a7 k) = osOff (Ring.sl 2 (k.val - 1)) := by revert k; unfold a7; decide +kernel

end Facts

theorem chk4 : k1_chk4 (a7 8) := by unfold a7; decide +kernel
theorem chk5 : k1_chk5 (a9 8) (a8 8) := by unfold a9 a8; decide +kernel
theorem off21_eq : k1_off21 (a7 8) = semOff (1 : Fin 2) := by unfold a7; decide +kernel
theorem off22_eq : k1_off22 (a9 8) (a8 8) = oOff 7 := by unfold a9 a8; decide +kernel
theorem off23_eq : k1_off23 (a7 8) = osOff 1 := by unfold a7; decide +kernel

/-! ## The kernel's slices are the blocks, the slots and the semaphores -/

theorem xsem_congr {off : Fin 1 → Nat} {s : Fin 3} (e : off = semOff s) (hh) :
    (cc1_scoped1.slice (Rect.unit (s := S3) off S1.size hh)).squeeze S_ squeezes_S1_S_ = xsem s :=
  congrArg (fun A : DmaSems sig S1 => A.squeeze S_ squeezes_S1_S_) (SemArray.slice_unit_congr _ e _ _)
theorem osem_congr {off : Fin 1 → Nat} {s : Fin 2} (e : off = semOff s) (hh) :
    (cc1_scoped3.slice (Rect.unit (s := S2) off S1.size hh)).squeeze S_ squeezes_S1_S_ = osem s :=
  congrArg (fun A : DmaSems sig S1 => A.squeeze S_ squeezes_S1_S_) (SemArray.slice_unit_congr _ e _ _)
theorem xslot_congr {off : Fin 6 → Nat} {s : Fin 3} (e : off = xsOff s) (hh hs) :
    (xB.slice (Rect.unit (s := S3x1x128x16x2x1024) off S1x1x128x16x2x1024.size hh) hs).squeeze S1x128x16x2x1024 squeezes_S1x1x128x16x2x1024_S1x128x16x2x1024 = xslot s :=
  congrArg (fun M : Memref sig .tc .vmem S1x1x128x16x2x1024 .bf16 => M.squeeze S1x128x16x2x1024 squeezes_S1x1x128x16x2x1024_S1x128x16x2x1024) (Memref.slice_unit_congr _ e _ _ _ _)
theorem oslot_congr {off : Fin 5 → Nat} {s : Fin 2} (e : off = osOff s) (hh hs) :
    (oB.slice (Rect.unit (s := S2x1x32x128x512) off S1x1x32x128x512.size hh) hs).squeeze S1x32x128x512 squeezes_S1x1x32x128x512_S1x32x128x512 = oslot s :=
  congrArg (fun M : Memref sig .tc .vmem S1x1x32x128x512 .f32 => M.squeeze S1x32x128x512 squeezes_S1x1x32x128x512_S1x32x128x512) (Memref.slice_unit_congr _ e _ _ _ _)
theorem xblk_congr {off : Fin 5 → Nat} {b : Fin 8} (e : off = xOff b) (hh hs) :
    xM.slice (Rect.unit (s := S4x128x32x2x1024) off S1x128x16x2x1024.size hh) hs = xblk b := Memref.slice_unit_congr _ e _ _ hs (fun _ => rfl)
theorem oblk_congr {off : Fin 4 → Nat} {b : Fin 8} (e : off = oOff b) (hh hs) :
    oM.slice (Rect.unit (s := S4x64x128x512) off S1x32x128x512.size hh) hs = oblk b := Memref.slice_unit_congr _ e _ _ hs (fun _ => rfl)

@[sl_canon] theorem xcv_eq (s : Fin 3) (hh hs) :
    ((xslot s).slice (Rect.unit (s := S1x128x16x2x1024) ![0, 0, 0, 0, 0] S1x128x16x2x1024.size hh) hs).squeeze S128x16x2x1024 squeezes_S1x128x16x2x1024_S128x16x2x1024 = xcv s := of_eq_true (eq_self _)
@[sl_canon] theorem ocv_eq (s : Fin 2) (hh hs) :
    ((oslot s).slice (Rect.unit (s := S1x32x128x512) ![0, 0, 0, 0] S1x32x128x512.size hh) hs).squeeze S32x128x512 squeezes_S1x32x128x512_S32x128x512 = ocv s := of_eq_true (eq_self _)

@[sl_canon] theorem xcv_eq' (s : Fin 3) (hh hs) :
    ((xslot s).slice (Rect.unit (s := S1x128x16x2x1024) ![0, 0, 0, 0, 0] ![1, 128, 16, 2, 1024] hh) hs).squeeze S128x16x2x1024 squeezes_S1x128x16x2x1024_S128x16x2x1024 = xcv s := of_eq_true (eq_self _)
@[sl_canon] theorem ocv_eq' (s : Fin 2) (hh hs) :
    ((oslot s).slice (Rect.unit (s := S1x32x128x512) ![0, 0, 0, 0] ![1, 32, 128, 512] hh) hs).squeeze S32x128x512 squeezes_S1x32x128x512_S32x128x512 = ocv s := of_eq_true (eq_self _)

section Canon
variable (k : Fin k1_t1_loop.trips)

@[sl_canon] theorem c6 (hk : k.val + 2 < 8) (hh) : (cc1_scoped1.slice (Rect.unit (s := S3) (k1_off6 (a4 k)) S1.size hh)).squeeze S_ squeezes_S1_S_ = xsem (Ring.sl 3 (k.val + 2)) := xsem_congr (off6_eq k hk) _
@[sl_canon] theorem c7 (hk : k.val + 2 < 8) (hh hs) : (xB.slice (Rect.unit (s := S3x1x128x16x2x1024) (k1_off7 (a4 k)) S1x1x128x16x2x1024.size hh) hs).squeeze S1x128x16x2x1024 squeezes_S1x1x128x16x2x1024_S1x128x16x2x1024 = xslot (Ring.sl 3 (k.val + 2)) := xslot_congr (off7_eq k hk) _ _
@[sl_canon] theorem c8 (hk : k.val + 2 < 8) (hh hs) : xM.slice (Rect.unit (s := S4x128x32x2x1024) (k1_off8 (a8 k) (a9 k)) S1x128x16x2x1024.size hh) hs = xblk (Ring.bk 8 (k.val + 2)) := xblk_congr (off8_eq k hk) _ _
@[sl_canon] theorem c9 (hh) : (cc1_scoped1.slice (Rect.unit (s := S3) (k1_off9 (a5 k)) S1.size hh)).squeeze S_ squeezes_S1_S_ = xsem (Ring.sl 3 k.val) := xsem_congr (off9_eq k) _
@[sl_canon] theorem c10 (hh hs) : (xB.slice (Rect.unit (s := S3x1x128x16x2x1024) (k1_off10 (a5 k)) S1x1x128x16x2x1024.size hh) hs).squeeze S1x128x16x2x1024 squeezes_S1x1x128x16x2x1024_S1x128x16x2x1024 = xslot (Ring.sl 3 k.val) := xslot_congr (off10_eq k) _ _
@[sl_canon] theorem c11 (hh hs) : xM.slice (Rect.unit (s := S4x128x32x2x1024) (k1_off11 (a8 k) (a9 k)) S1x128x16x2x1024.size hh) hs = xblk (Ring.bk 8 k.val) := xblk_congr (off11_eq k) _ _
@[sl_canon] theorem c12 (hh hs) : (xB.slice (Rect.unit (s := S3x1x128x16x2x1024) (k1_off12 (a5 k)) S1x1x128x16x2x1024.size hh) hs).squeeze S1x128x16x2x1024 squeezes_S1x1x128x16x2x1024_S1x128x16x2x1024 = xslot (Ring.sl 3 k.val) := xslot_congr (off12_eq k) _ _
@[sl_canon] theorem c13 (hh hs) : (oB.slice (Rect.unit (s := S2x1x32x128x512) (k1_off13 (a6 k)) S1x1x32x128x512.size hh) hs).squeeze S1x32x128x512 squeezes_S1x1x32x128x512_S1x32x128x512 = oslot (Ring.sl 2 k.val) := oslot_congr (off13_eq k) _ _
@[sl_canon] theorem c14 (hh hs) : (xB.slice (Rect.unit (s := S3x1x128x16x2x1024) (k1_off14 (a5 k)) S1x1x128x16x2x1024.size hh) hs).squeeze S1x128x16x2x1024 squeezes_S1x1x128x16x2x1024_S1x128x16x2x1024 = xslot (Ring.sl 3 k.val) := xslot_congr (off14_eq k) _ _
@[sl_canon] theorem c15 (hh) : (cc1_scoped3.slice (Rect.unit (s := S2) (k1_off15 (a6 k)) S1.size hh)).squeeze S_ squeezes_S1_S_ = osem (Ring.sl 2 k.val) := osem_congr (off15_eq k) _
@[sl_canon] theorem c16 (hh hs) : oM.slice (Rect.unit (s := S4x64x128x512) (k1_off16 (a8 k) (a9 k)) S1x32x128x512.size hh) hs = oblk (Ring.bk 8 k.val) := oblk_congr (off16_eq k) _ _
@[sl_canon] theorem c17 (hh hs) : (oB.slice (Rect.unit (s := S2x1x32x128x512) (k1_off17 (a6 k)) S1x1x32x128x512.size hh) hs).squeeze S1x32x128x512 squeezes_S1x1x32x128x512_S1x32x128x512 = oslot (Ring.sl 2 k.val) := oslot_congr (off17_eq k) _ _
@[sl_canon] theorem c18 (hk : 1 ≤ k.val) (hh) : (cc1_scoped3.slice (Rect.unit (s := S2) (k1_off18 (a7 k)) S1.size hh)).squeeze S_ squeezes_S1_S_ = osem (Ring.sl 2 (k.val - 1)) := osem_congr (off18_eq k hk) _
@[sl_canon] theorem c19 (hk : 1 ≤ k.val) (hh hs) : oM.slice (Rect.unit (s := S4x64x128x512) (k1_off19 (a8 k) (a9 k)) S1x32x128x512.size hh) hs = oblk (Ring.bk 8 (k.val - 1)) := oblk_congr (off19_eq k hk) _ _
@[sl_canon] theorem c20 (hk : 1 ≤ k.val) (hh hs) : (oB.slice (Rect.unit (s := S2x1x32x128x512) (k1_off20 (a7 k)) S1x1x32x128x512.size hh) hs).squeeze S1x32x128x512 squeezes_S1x1x32x128x512_S1x32x128x512 = oslot (Ring.sl 2 (k.val - 1)) := oslot_congr (off20_eq k hk) _ _

@[sl_canon] theorem c12' (hh hs) : (xB.slice (Rect.unit (s := S3x1x128x16x2x1024) (k1_off12 (a5 k)) ![1, 1, 128, 16, 2, 1024] hh) hs).squeeze S1x128x16x2x1024 squeezes_S1x1x128x16x2x1024_S1x128x16x2x1024 = xslot (Ring.sl 3 k.val) := xslot_congr (off12_eq k) _ _
@[sl_canon] theorem c13' (hh hs) : (oB.slice (Rect.unit (s := S2x1x32x128x512) (k1_off13 (a6 k)) ![1, 1, 32, 128, 512] hh) hs).squeeze S1x32x128x512 squeezes_S1x1x32x128x512_S1x32x128x512 = oslot (Ring.sl 2 k.val) := oslot_congr (off13_eq k) _ _
@[sl_canon] theorem c14' (hh hs) : (xB.slice (Rect.unit (s := S3x1x128x16x2x1024) (k1_off14 (a5 k)) ![1, 1, 128, 16, 2, 1024] hh) hs).squeeze S1x128x16x2x1024 squeezes_S1x1x128x16x2x1024_S1x128x16x2x1024 = xslot (Ring.sl 3 k.val) := xslot_congr (off14_eq k) _ _

end Canon

/-! ## What is held -/

section Pieces
variable (c : Dev nD) (XA : Buf (Elt F) (xM.view.loc (c : Thread nD τ)))

abbrev xcell (s : Fin 3) : sProp 𝕄 := semVal ((c : Thread nD τ), SemLoc.dma (xsem s).sem) 0
abbrev ocell (s : Fin 2) : sProp 𝕄 := semVal ((c : Thread nD τ), SemLoc.dma (osem s).sem) 0
abbrev xslotP (s : Fin 3) (f : Buf (Elt F) ((xslot s).view.loc (c : Thread nD τ))) : sProp 𝕄 :=
  (xslot s).view.loc (c : Thread nD τ) ↦[(xslot s).view.set]{fullShare} f
abbrev oslotP (s : Fin 2) (f : Buf (Elt F) ((oslot s).view.loc (c : Thread nD τ))) : sProp 𝕄 :=
  (oslot s).view.loc (c : Thread nD τ) ↦[(oslot s).view.set]{fullShare} f
abbrev xhome (b : Fin 8) : sProp 𝕄 := (xblk b).view.loc (c : Thread nD τ) ↦[(xblk b).view.set]{fullShare} XA
abbrev ohome (b : Fin 8) (f : Buf (Elt F) ((oblk b).view.loc (c : Thread nD τ))) : sProp 𝕄 :=
  (oblk b).view.loc (c : Thread nD τ) ↦[(oblk b).view.set]{fullShare} f
abbrev xlanded (s : Fin 3) (b : Fin 8) (f : Buf (Elt F) ((xslot s).view.loc (c : Thread nD τ))) : Buf (Elt F) ((xslot s).view.loc (c : Thread nD τ)) :=
  (xslot s).view.writes (Elt F) f [⟨Rect.whole S1x128x16x2x1024, ReadAs.same.apply ((xblk b).view.read (Elt F) XA)⟩]
abbrev xflight (s : Fin 3) (b : Fin 8) (f : Buf (Elt F) ((xslot s).view.loc (c : Thread nD τ))) : sProp 𝕄 :=
  Transfers.Flight countersEmb (c : Thread nD τ) (SemLoc.dma (xsem s).sem) () 262144 iprop(xslotP c s (xlanded c XA s b f) ∗ xhome c XA b)
abbrev olanded (b : Fin 8) (s : Fin 2) (f : Buf (Elt F) ((oblk b).view.loc (c : Thread nD τ))) (g : Buf (Elt F) ((oslot s).view.loc (c : Thread nD τ))) : Buf (Elt F) ((oblk b).view.loc (c : Thread nD τ)) :=
  (oblk b).view.writes (Elt F) f [⟨Rect.whole S1x32x128x512, ReadAs.same.apply ((oslot s).view.read (Elt F) g)⟩]
abbrev oflight (s : Fin 2) (b : Fin 8) (f : Buf (Elt F) ((oblk b).view.loc (c : Thread nD τ))) (g : Buf (Elt F) ((oslot s).view.loc (c : Thread nD τ))) : sProp 𝕄 :=
  Transfers.Flight countersEmb (c : Thread nD τ) (SemLoc.dma (osem s).sem) () 262144 iprop(ohome c b (olanded c b s f g) ∗ oslotP c s g)

end Pieces

theorem whole_slice {S : Shape} {κ sp t} (M : Memref sig κ sp S t) {off : Fin S.rank → ℕ} (ho : off = fun _ => 0) (hh hs) :
    (M.slice (Rect.unit (s := S) off S.size hh) hs).view.set = M.view.set := by
  subst ho
  refine (View.set_slice _ _).trans ?_
  rw [show (Rect.unit (s := S) (fun _ => 0) S.size hh).set = Finset.univ from by
    ext i; rw [Rect.mem_set_unit]; simp only [Finset.mem_univ, iff_true]; intro a
    exact ⟨Nat.zero_le _, by rw [Nat.zero_add]; exact (i a).isLt⟩]
  rfl
theorem xcv_set (s : Fin 3) : (xcv s).view.set = (xslot s).view.set :=
  (View.set_reshape _ _).trans (whole_slice _ (by funext a; fin_cases a <;> rfl) _ _)
theorem ocv_set (s : Fin 2) : (ocv s).view.set = (oslot s).view.set :=
  (View.set_reshape _ _).trans (whole_slice _ (by funext a; fin_cases a <;> rfl) _ _)

section Restate
variable (c : Dev nD)
abbrev xcvP (s : Fin 3) (f : Buf (Elt F) ((xcv s).view.loc (c : Thread nD τ))) : sProp 𝕄 :=
  (xcv s).view.loc (c : Thread nD τ) ↦[(xcv s).view.set]{fullShare} f
abbrev ocvP (s : Fin 2) (f : Buf (Elt F) ((ocv s).view.loc (c : Thread nD τ))) : sProp 𝕄 :=
  (ocv s).view.loc (c : Thread nD τ) ↦[(ocv s).view.set]{fullShare} f
omit [FloatOps F] in
theorem xcvP_eq (s : Fin 3) (f : Buf (Elt F) ((xslot s).view.loc (c : Thread nD τ))) : (xslotP c s f : sProp 𝕄) = xcvP c s f := by
  show ((xslot s).view.loc (c : Thread nD τ) ↦[(xslot s).view.set]{fullShare} f : sProp 𝕄) = ((xslot s).view.loc (c : Thread nD τ) ↦[(xcv s).view.set]{fullShare} f)
  rw [xcv_set]
omit [FloatOps F] in
theorem ocvP_eq (s : Fin 2) (f : Buf (Elt F) ((oslot s).view.loc (c : Thread nD τ))) : (oslotP c s f : sProp 𝕄) = ocvP c s f := by
  show ((oslot s).view.loc (c : Thread nD τ) ↦[(oslot s).view.set]{fullShare} f : sProp 𝕄) = ((oslot s).view.loc (c : Thread nD τ) ↦[(ocv s).view.set]{fullShare} f)
  rw [ocv_set]
end Restate

end Cert.Proof.FftB
end
end
-- ==== Proof.FftA.lean ====
/- The first stage of the sequence transform: a ring of three read slots filled two blocks ahead, two rings of table slots
   filled one block ahead, and a ring of two result slots emptied one block behind, over sixteen trips. -/
module

public import proofs.«01_k».proof.Defs
public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.FftB
public import Idealize.ShloMosaic.Lib.Pipeline.KitQuiescent
public import Idealize.ShloMosaic.Lib.Ring
public import Idealize.ShloMosaic.Lib.Ring.Trips
public import Idealize.ShloMosaic.Lib.Ring.WriteBehind
public import Idealize.ShloMosaic.Lib.Affine
public import Idealize.ShloMosaic.Lib.Tactic

@[expose] public section

noncomputable section

namespace Cert.Proof.FftA

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Proof.FftB (UU EP 𝒱₀ semOff whole_slice)
local notation "𝕄" => MT nD τ sig Unit (Elt F) ℕ (UU nD τ) ℕ

/-! ## The buffers, their blocks and their slots -/

abbrev xM : Memref sig .tc .hbm S4x64x64x2x1024 .bf16 := Memref.whole main_v68
abbrev cM : Memref sig .tc .hbm S128x64x128 .f32 := Memref.whole main_v62
abbrev dM : Memref sig .tc .hbm S128x64x128 .f32 := Memref.whole main_v65
abbrev oM : Memref sig .tc .hbm S4x128x32x2x1024 .bf16 := Memref.whole main_v69
abbrev xB : Memref sig .tc .vmem S3x1x64x16x2x1024 .bf16 := Memref.whole cc0_scoped0
abbrev cB : Memref sig .tc .vmem S2x32x64x128 .f32 := Memref.whole cc0_scoped2
abbrev dB : Memref sig .tc .vmem S2x32x64x128 .f32 := Memref.whole cc0_scoped4
abbrev oB : Memref sig .tc .vmem S2x1x32x32x2x1024 .bf16 := Memref.whole cc0_scoped6

abbrev xOff (b : Fin 16) : Fin 5 → Nat := ![b.val / 4, 0, 16 * (b.val % 4), 0, 0]
theorem xOff_inb : ∀ (b : Fin 16) a, xOff b a + S1x64x16x2x1024.size a ≤ S4x64x64x2x1024.size a := by decide
abbrev tOff (b : Fin 4) : Fin 3 → Nat := ![32 * b.val, 0, 0]
theorem tOff_inb : ∀ (b : Fin 4) a, tOff b a + S32x64x128.size a ≤ S128x64x128.size a := by decide
abbrev oOff (b : Fin 16) : Fin 5 → Nat := ![b.val / 4, 32 * (b.val % 4), 0, 0, 0]
theorem oOff_inb : ∀ (b : Fin 16) a, oOff b a + S1x32x32x2x1024.size a ≤ S4x128x32x2x1024.size a := by decide
abbrev xsOff (s : Fin 3) : Fin 6 → Nat := ![s.val, 0, 0, 0, 0, 0]
theorem xsOff_inb : ∀ (s : Fin 3) a, xsOff s a + S1x1x64x16x2x1024.size a ≤ S3x1x64x16x2x1024.size a := by decide
abbrev tsOff (s : Fin 2) : Fin 4 → Nat := ![s.val, 0, 0, 0]
theorem tsOff_inb : ∀ (s : Fin 2) a, tsOff s a + S1x32x64x128.size a ≤ S2x32x64x128.size a := by decide
abbrev osOff (s : Fin 2) : Fin 6 → Nat := ![s.val, 0, 0, 0, 0, 0]
theorem osOff_inb : ∀ (s : Fin 2) a, osOff s a + S1x1x32x32x2x1024.size a ≤ S2x1x32x32x2x1024.size a := by decide
abbrev orOff (s : Fin 2) (r : ℕ) : Fin 6 → Nat := ![s.val, 0, r, 0, 0, 0]
theorem xsemOff_inb : ∀ (s : Fin 3) a, semOff s a + S1.size a ≤ S3.size a := by decide
theorem osemOff_inb : ∀ (s : Fin 2) a, semOff s a + S1.size a ≤ S2.size a := by decide

/-- Block `b` of the words read. -/
def xblk (b : Fin 16) : Memref sig .tc .hbm S1x64x16x2x1024 .bf16 :=
  xM.slice (Rect.unit (s := S4x64x64x2x1024) (xOff b) S1x64x16x2x1024.size (xOff_inb b)) (fun _ => rfl)
/-- Block `b` of a table of twiddle factors. -/
def cblk (b : Fin 4) : Memref sig .tc .hbm S32x64x128 .f32 :=
  cM.slice (Rect.unit (s := S128x64x128) (tOff b) S32x64x128.size (tOff_inb b)) (fun _ => rfl)
def dblk (b : Fin 4) : Memref sig .tc .hbm S32x64x128 .f32 :=
  dM.slice (Rect.unit (s := S128x64x128) (tOff b) S32x64x128.size (tOff_inb b)) (fun _ => rfl)
/-- Block `b` of the result. -/
def oblk (b : Fin 16) : Memref sig .tc .hbm S1x32x32x2x1024 .bf16 :=
  oM.slice (Rect.unit (s := S4x128x32x2x1024) (oOff b) S1x32x32x2x1024.size (oOff_inb b)) (fun _ => rfl)
/-- Read slot `s`. -/
def xslot (s : Fin 3) : Memref sig .tc .vmem S1x64x16x2x1024 .bf16 :=
  (xB.slice (Rect.unit (s := S3x1x64x16x2x1024) (xsOff s) S1x1x64x16x2x1024.size (xsOff_inb s)) (fun _ => rfl)).squeeze S1x64x16x2x1024 squeezes_S1x1x64x16x2x1024_S1x64x16x2x1024
/-- Table slot `s`. -/
def cslot (s : Fin 2) : Memref sig .tc .vmem S32x64x128 .f32 :=
  (cB.slice (Rect.unit (s := S2x32x64x128) (tsOff s) S1x32x64x128.size (tsOff_inb s)) (fun _ => rfl)).squeeze S32x64x128 squeezes_S1x32x64x128_S32x64x128
def dslot (s : Fin 2) : Memref sig .tc .vmem S32x64x128 .f32 :=
  (dB.slice (Rect.unit (s := S2x32x64x128) (tsOff s) S1x32x64x128.size (tsOff_inb s)) (fun _ => rfl)).squeeze S32x64x128 squeezes_S1x32x64x128_S32x64x128
/-- Result slot `s`. -/
def oslot (s : Fin 2) : Memref sig .tc .vmem S1x32x32x2x1024 .bf16 :=
  (oB.slice (Rect.unit (s := S2x1x32x32x2x1024) (osOff s) S1x1x32x32x2x1024.size (osOff_inb s)) (fun _ => rfl)).squeeze S1x32x32x2x1024 squeezes_S1x1x32x32x2x1024_S1x32x32x2x1024
/-- Read slot `s` as the computation names it, without the leading unit axis. -/
def xcv (s : Fin 3) : Memref sig .tc .vmem S64x16x2x1024 .bf16 :=
  ((xslot s).slice (Rect.unit (s := S1x64x16x2x1024) ![0, 0, 0, 0, 0] S1x64x16x2x1024.size inb_S1x64x16x2x1024_S1x64x16x2x1024_0_0_0_0_0) (fun _ => rfl)).squeeze S64x16x2x1024 squeezes_S1x64x16x2x1024_S64x16x2x1024
/-- The read slots' semaphores, the table slots' and the result slots'. -/
def xsem (s : Fin 3) : DmaSems sig S_ := (cc0_scoped1.slice (Rect.unit (s := S3) (semOff s) S1.size (xsemOff_inb s))).squeeze S_ squeezes_S1_S_
def csem (s : Fin 2) : DmaSems sig S_ := (cc0_scoped3.slice (Rect.unit (s := S2) (semOff s) S1.size (osemOff_inb s))).squeeze S_ squeezes_S1_S_
def dsem (s : Fin 2) : DmaSems sig S_ := (cc0_scoped5.slice (Rect.unit (s := S2) (semOff s) S1.size (osemOff_inb s))).squeeze S_ squeezes_S1_S_
def osem (s : Fin 2) : DmaSems sig S_ := (cc0_scoped7.slice (Rect.unit (s := S2) (semOff s) S1.size (osemOff_inb s))).squeeze S_ squeezes_S1_S_

instance (b : Fin 16) : ClosedOff (xOff b) := ⟨xOff b, rfl⟩
instance (b : Fin 16) : ClosedOff (oOff b) := ⟨oOff b, rfl⟩
instance (b : Fin 4) : ClosedOff (tOff b) := ⟨tOff b, rfl⟩
instance (b : Fin 3) : ClosedOff (xsOff b) := ⟨xsOff b, rfl⟩
instance (b : Fin 2) : ClosedOff (tsOff b) := ⟨tsOff b, rfl⟩
instance (b : Fin 2) : ClosedOff (osOff b) := ⟨osOff b, rfl⟩

/-! ## The carried counters before trip `k` -/

theorem trips_eq : k0_t1_loop.trips = 16 := by decide +kernel

@[irreducible] def a6 (k : ℕ) : BitVec 32 := BitVec.ofNat 32 (min (k + 2) 16)
@[irreducible] def a7 (k : ℕ) : BitVec 32 := BitVec.ofNat 32 (k)
@[irreducible] def a8 (k : ℕ) : BitVec 32 := BitVec.ofNat 32 (min (k + 1) 16)
@[irreducible] def a9 (k : ℕ) : BitVec 32 := BitVec.ofNat 32 (k)
@[irreducible] def a10 (k : ℕ) : BitVec 32 := BitVec.ofNat 32 (min (k + 1) 16)
@[irreducible] def a11 (k : ℕ) : BitVec 32 := BitVec.ofNat 32 (k)
@[irreducible] def a12 (k : ℕ) : BitVec 32 := BitVec.ofNat 32 (k)
@[irreducible] def a13 (k : ℕ) : BitVec 32 := BitVec.ofNat 32 (k - 1)
@[irreducible] def a14 (k : ℕ) : BitVec 32 := BitVec.ofNat 32 (k / 4 % 4)
@[irreducible] def a15 (k : ℕ) : BitVec 32 := BitVec.ofNat 32 (k % 4)

section Facts
variable (k : Fin k0_t1_loop.trips)

theorem chk1 : k0_chk1 k (a6 k) (a7 k) (a8 k) (a9 k) (a10 k) (a11 k) (a12 k) (a13 k) (a14 k) (a15 k) := by revert k; unfold a6 a7 a8 a9 a10 a11 a12 a13 a14 a15; decide +kernel
theorem chk2 : k0_chk2 (a7 k) := by revert k; unfold a7; decide +kernel
theorem chk3 : k0_chk3 (a9 k) := by revert k; unfold a9; decide +kernel
theorem chk4 : k0_chk4 (a11 k) := by revert k; unfold a11; decide +kernel
theorem chk5 : k0_chk5 (a12 k) := by revert k; unfold a12; decide +kernel
theorem cond2_t : k.val + 2 < 16 → k0_cond2 k (a14 k) (a15 k) = 1#1 := by revert k; unfold a14 a15; decide +kernel
theorem cond2_f : ¬ k.val + 2 < 16 → ¬ k0_cond2 k (a14 k) (a15 k) = 1#1 := by revert k; unfold a14 a15; decide +kernel
theorem cond3_t : k.val + 1 < 16 → k0_cond3 k (a15 k) = 1#1 := by revert k; unfold a15; decide +kernel
theorem cond3_f : ¬ k.val + 1 < 16 → ¬ k0_cond3 k (a15 k) = 1#1 := by revert k; unfold a15; decide +kernel
theorem cond4_t : k.val + 1 < 16 → k0_cond4 k (a15 k) = 1#1 := by revert k; unfold a15; decide +kernel
theorem cond4_f : ¬ k.val + 1 < 16 → ¬ k0_cond4 k (a15 k) = 1#1 := by revert k; unfold a15; decide +kernel
theorem cond5_t : k0_cond5 k (a14 k) (a15 k) = 1#1 := by revert k; unfold a14 a15; decide +kernel
theorem cond6_t : k0_cond6 k (a15 k) = 1#1 := by revert k; unfold a15; decide +kernel
theorem cond7_t : k0_cond7 k (a15 k) = 1#1 := by revert k; unfold a15; decide +kernel
theorem cond12_t : k0_cond12 k (a14 k) (a15 k) = 1#1 := by revert k; unfold a14 a15; decide +kernel
theorem cond16_t : 1 ≤ k.val → k0_cond16 k (a14 k) (a15 k) = 1#1 := by revert k; unfold a14 a15; decide +kernel
theorem cond16_f : ¬ 1 ≤ k.val → ¬ k0_cond16 k (a14 k) (a15 k) = 1#1 := by revert k; unfold a14 a15; decide +kernel
theorem off8_eq : k.val + 2 < 16 → k0_off8 (a6 k) = semOff (Ring.sl 3 (k.val + 2)) := by revert k; unfold a6; decide +kernel
theorem off9_eq : k.val + 2 < 16 → k0_off9 (a6 k) = xsOff (Ring.sl 3 (k.val + 2)) := by revert k; unfold a6; decide +kernel
theorem off10_eq : k.val + 2 < 16 → k0_off10 (a14 k) (a15 k) = xOff (Ring.bk 16 (k.val + 2)) := by revert k; unfold a14 a15; decide +kernel
theorem off11_eq : k.val + 1 < 16 → k0_off11 (a8 k) = semOff (Ring.sl 2 (k.val + 1)) := by revert k; unfold a8; decide +kernel
theorem off12_eq : k.val + 1 < 16 → k0_off12 (a8 k) = tsOff (Ring.sl 2 (k.val + 1)) := by revert k; unfold a8; decide +kernel
theorem off13_eq : k.val + 1 < 16 → k0_off13 (a15 k) = tOff (Ring.bk 4 (k.val + 1)) := by revert k; unfold a15; decide +kernel
theorem off14_eq : k.val + 1 < 16 → k0_off14 (a10 k) = semOff (Ring.sl 2 (k.val + 1)) := by revert k; unfold a10; decide +kernel
theorem off15_eq : k.val + 1 < 16 → k0_off15 (a10 k) = tsOff (Ring.sl 2 (k.val + 1)) := by revert k; unfold a10; decide +kernel
theorem off16_eq : k.val + 1 < 16 → k0_off16 (a15 k) = tOff (Ring.bk 4 (k.val + 1)) := by revert k; unfold a15; decide +kernel
theorem off17_eq : k0_off17 (a7 k) = semOff (Ring.sl 3 k.val) := by revert k; unfold a7; decide +kernel
theorem off18_eq : k0_off18 (a7 k) = xsOff (Ring.sl 3 k.val) := by revert k; unfold a7; decide +kernel
theorem off19_eq : k0_off19 (a14 k) (a15 k) = xOff (Ring.bk 16 k.val) := by revert k; unfold a14 a15; decide +kernel
theorem off20_eq : k0_off20 (a9 k) = semOff (Ring.sl 2 k.val) := by revert k; unfold a9; decide +kernel
theorem off21_eq : k0_off21 (a9 k) = tsOff (Ring.sl 2 k.val) := by revert k; unfold a9; decide +kernel
theorem off22_eq : k0_off22 (a15 k) = tOff (Ring.bk 4 k.val) := by revert k; unfold a15; decide +kernel
theorem off23_eq : k0_off23 (a11 k) = semOff (Ring.sl 2 k.val) := by revert k; unfold a11; decide +kernel
theorem off24_eq : k0_off24 (a11 k) = tsOff (Ring.sl 2 k.val) := by revert k; unfold a11; decide +kernel
theorem off25_eq : k0_off25 (a15 k) = tOff (Ring.bk 4 k.val) := by revert k; unfold a15; decide +kernel
theorem off26_eq : k0_off26 (a7 k) = xsOff (Ring.sl 3 k.val) := by revert k; unfold a7; decide +kernel
theorem off34_eq : k0_off34 (a7 k) = xsOff (Ring.sl 3 k.val) := by revert k; unfold a7; decide +kernel
theorem off27_eq : k0_off27 (a9 k) = tsOff (Ring.sl 2 k.val) := by revert k; unfold a9; decide +kernel
theorem off31_eq : k0_off31 (a9 k) = tsOff (Ring.sl 2 k.val) := by revert k; unfold a9; decide +kernel
theorem off28_eq : k0_off28 (a11 k) = tsOff (Ring.sl 2 k.val) := by revert k; unfold a11; decide +kernel
theorem off32_eq : k0_off32 (a11 k) = tsOff (Ring.sl 2 k.val) := by revert k; unfold a11; decide +kernel
theorem off65_eq : k0_off65 (a12 k) = semOff (Ring.sl 2 k.val) := by revert k; unfold a12; decide +kernel
theorem off66_eq : k0_off66 (a14 k) (a15 k) = oOff (Ring.bk 16 k.val) := by revert k; unfold a14 a15; decide +kernel
theorem off67_eq : k0_off67 (a12 k) = osOff (Ring.sl 2 k.val) := by revert k; unfold a12; decide +kernel
theorem off68_eq : 1 ≤ k.val → k0_off68 (a13 k) = semOff (Ring.sl 2 (k.val - 1)) := by revert k; unfold a13; decide +kernel
theorem off69_eq : 1 ≤ k.val → k0_off69 (a14 k) (a15 k) = oOff (Ring.bk 16 (k.val - 1)) := by revert k; unfold a14 a15; decide +kernel
theorem off70_eq : 1 ≤ k.val → k0_off70 (a13 k) = osOff (Ring.sl 2 (k.val - 1)) := by revert k; unfold a13; decide +kernel
theorem off30_eq : k0_off30 (a12 k) = orOff (Ring.sl 2 k.val) 0 := by revert k; unfold a12; decide +kernel
theorem off33_eq : k0_off33 (a12 k) = orOff (Ring.sl 2 k.val) 1 := by revert k; unfold a12; decide +kernel
theorem off35_eq : k0_off35 (a12 k) = orOff (Ring.sl 2 k.val) 2 := by revert k; unfold a12; decide +kernel
theorem off36_eq : k0_off36 (a12 k) = orOff (Ring.sl 2 k.val) 3 := by revert k; unfold a12; decide +kernel
theorem off37_eq : k0_off37 (a12 k) = orOff (Ring.sl 2 k.val) 4 := by revert k; unfold a12; decide +kernel
theorem off38_eq : k0_off38 (a12 k) = orOff (Ring.sl 2 k.val) 5 := by revert k; unfold a12; decide +kernel
theorem off39_eq : k0_off39 (a12 k) = orOff (Ring.sl 2 k.val) 6 := by revert k; unfold a12; decide +kernel
theorem off40_eq : k0_off40 (a12 k) = orOff (Ring.sl 2 k.val) 7 := by revert k; unfold a12; decide +kernel
theorem off41_eq : k0_off41 (a12 k) = orOff (Ring.sl 2 k.val) 8 := by revert k; unfold a12; decide +kernel
theorem off42_eq : k0_off42 (a12 k) = orOff (Ring.sl 2 k.val) 9 := by revert k; unfold a12; decide +kernel
theorem off43_eq : k0_off43 (a12 k) = orOff (Ring.sl 2 k.val) 10 := by revert k; unfold a12; decide +kernel
theorem off44_eq : k0_off44 (a12 k) = orOff (Ring.sl 2 k.val) 11 := by revert k; unfold a12; decide +kernel
theorem off45_eq : k0_off45 (a12 k) = orOff (Ring.sl 2 k.val) 12 := by revert k; unfold a12; decide +kernel
theorem off46_eq : k0_off46 (a12 k) = orOff (Ring.sl 2 k.val) 13 := by revert k; unfold a12; decide +kernel
theorem off47_eq : k0_off47 (a12 k) = orOff (Ring.sl 2 k.val) 14 := by revert k; unfold a12; decide +kernel
theorem off48_eq : k0_off48 (a12 k) = orOff (Ring.sl 2 k.val) 15 := by revert k; unfold a12; decide +kernel
theorem off49_eq : k0_off49 (a12 k) = orOff (Ring.sl 2 k.val) 16 := by revert k; unfold a12; decide +kernel
theorem off50_eq : k0_off50 (a12 k) = orOff (Ring.sl 2 k.val) 17 := by revert k; unfold a12; decide +kernel
theorem off51_eq : k0_off51 (a12 k) = orOff (Ring.sl 2 k.val) 18 := by revert k; unfold a12; decide +kernel
theorem off52_eq : k0_off52 (a12 k) = orOff (Ring.sl 2 k.val) 19 := by revert k; unfold a12; decide +kernel
theorem off53_eq : k0_off53 (a12 k) = orOff (Ring.sl 2 k.val) 20 := by revert k; unfold a12; decide +kernel
theorem off54_eq : k0_off54 (a12 k) = orOff (Ring.sl 2 k.val) 21 := by revert k; unfold a12; decide +kernel
theorem off55_eq : k0_off55 (a12 k) = orOff (Ring.sl 2 k.val) 22 := by revert k; unfold a12; decide +kernel
theorem off56_eq : k0_off56 (a12 k) = orOff (Ring.sl 2 k.val) 23 := by revert k; unfold a12; decide +kernel
theorem off57_eq : k0_off57 (a12 k) = orOff (Ring.sl 2 k.val) 24 := by revert k; unfold a12; decide +kernel
theorem off58_eq : k0_off58 (a12 k) = orOff (Ring.sl 2 k.val) 25 := by revert k; unfold a12; decide +kernel
theorem off59_eq : k0_off59 (a12 k) = orOff (Ring.sl 2 k.val) 26 := by revert k; unfold a12; decide +kernel
theorem off60_eq : k0_off60 (a12 k) = orOff (Ring.sl 2 k.val) 27 := by revert k; unfold a12; decide +kernel
theorem off61_eq : k0_off61 (a12 k) = orOff (Ring.sl 2 k.val) 28 := by revert k; unfold a12; decide +kernel
theorem off62_eq : k0_off62 (a12 k) = orOff (Ring.sl 2 k.val) 29 := by revert k; unfold a12; decide +kernel
theorem off63_eq : k0_off63 (a12 k) = orOff (Ring.sl 2 k.val) 30 := by revert k; unfold a12; decide +kernel
theorem off64_eq : k0_off64 (a12 k) = orOff (Ring.sl 2 k.val) 31 := by revert k; unfold a12; decide +kernel
theorem off29_eq : k0_off29 (a12 k) = osOff (Ring.sl 2 k.val) := by revert k; unfold a12; decide +kernel
instance : ClosedOff (k0_off29 (a12 k)) := ⟨_, off29_eq k⟩
instance : ClosedOff (k0_off30 (a12 k)) := ⟨_, off30_eq k⟩
instance : ClosedOff (k0_off33 (a12 k)) := ⟨_, off33_eq k⟩
instance : ClosedOff (k0_off35 (a12 k)) := ⟨_, off35_eq k⟩
instance : ClosedOff (k0_off36 (a12 k)) := ⟨_, off36_eq k⟩
instance : ClosedOff (k0_off37 (a12 k)) := ⟨_, off37_eq k⟩
instance : ClosedOff (k0_off38 (a12 k)) := ⟨_, off38_eq k⟩
instance : ClosedOff (k0_off39 (a12 k)) := ⟨_, off39_eq k⟩
instance : ClosedOff (k0_off40 (a12 k)) := ⟨_, off40_eq k⟩
instance : ClosedOff (k0_off41 (a12 k)) := ⟨_, off41_eq k⟩
instance : ClosedOff (k0_off42 (a12 k)) := ⟨_, off42_eq k⟩
instance : ClosedOff (k0_off43 (a12 k)) := ⟨_, off43_eq k⟩
instance : ClosedOff (k0_off44 (a12 k)) := ⟨_, off44_eq k⟩
instance : ClosedOff (k0_off45 (a12 k)) := ⟨_, off45_eq k⟩
instance : ClosedOff (k0_off46 (a12 k)) := ⟨_, off46_eq k⟩
instance : ClosedOff (k0_off47 (a12 k)) := ⟨_, off47_eq k⟩
instance : ClosedOff (k0_off48 (a12 k)) := ⟨_, off48_eq k⟩
instance : ClosedOff (k0_off49 (a12 k)) := ⟨_, off49_eq k⟩
instance : ClosedOff (k0_off50 (a12 k)) := ⟨_, off50_eq k⟩
instance : ClosedOff (k0_off51 (a12 k)) := ⟨_, off51_eq k⟩
instance : ClosedOff (k0_off52 (a12 k)) := ⟨_, off52_eq k⟩
instance : ClosedOff (k0_off53 (a12 k)) := ⟨_, off53_eq k⟩
instance : ClosedOff (k0_off54 (a12 k)) := ⟨_, off54_eq k⟩
instance : ClosedOff (k0_off55 (a12 k)) := ⟨_, off55_eq k⟩
instance : ClosedOff (k0_off56 (a12 k)) := ⟨_, off56_eq k⟩
instance : ClosedOff (k0_off57 (a12 k)) := ⟨_, off57_eq k⟩
instance : ClosedOff (k0_off58 (a12 k)) := ⟨_, off58_eq k⟩
instance : ClosedOff (k0_off59 (a12 k)) := ⟨_, off59_eq k⟩
instance : ClosedOff (k0_off60 (a12 k)) := ⟨_, off60_eq k⟩
instance : ClosedOff (k0_off61 (a12 k)) := ⟨_, off61_eq k⟩
instance : ClosedOff (k0_off62 (a12 k)) := ⟨_, off62_eq k⟩
instance : ClosedOff (k0_off63 (a12 k)) := ⟨_, off63_eq k⟩
instance : ClosedOff (k0_off64 (a12 k)) := ⟨_, off64_eq k⟩

end Facts

theorem chk6 : k0_chk6 (a13 16) := by unfold a13; decide +kernel
theorem chk7 : k0_chk7 (a15 16) (a14 16) := by unfold a14 a15; decide +kernel
theorem off71_eq : k0_off71 (a13 16) = semOff (1 : Fin 2) := by unfold a13; decide +kernel
theorem off72_eq : k0_off72 (a15 16) (a14 16) = oOff 15 := by unfold a14 a15; decide +kernel
theorem off73_eq : k0_off73 (a13 16) = osOff 1 := by unfold a13; decide +kernel

/-! ## The kernel's slices are the blocks, the slots and the semaphores -/

theorem xsem_congr {off : Fin 1 → Nat} {s : Fin 3} (e : off = semOff s) (hh) :
    (cc0_scoped1.slice (Rect.unit (s := S3) off S1.size hh)).squeeze S_ squeezes_S1_S_ = xsem s :=
  congrArg (fun A : DmaSems sig S1 => A.squeeze S_ squeezes_S1_S_) (SemArray.slice_unit_congr _ e _ _)
theorem csem_congr {off : Fin 1 → Nat} {s : Fin 2} (e : off = semOff s) (hh) :
    (cc0_scoped3.slice (Rect.unit (s := S2) off S1.size hh)).squeeze S_ squeezes_S1_S_ = csem s :=
  congrArg (fun A : DmaSems sig S1 => A.squeeze S_ squeezes_S1_S_) (SemArray.slice_unit_congr _ e _ _)
theorem dsem_congr {off : Fin 1 → Nat} {s : Fin 2} (e : off = semOff s) (hh) :
    (cc0_scoped5.slice (Rect.unit (s := S2) off S1.size hh)).squeeze S_ squeezes_S1_S_ = dsem s :=
  congrArg (fun A : DmaSems sig S1 => A.squeeze S_ squeezes_S1_S_) (SemArray.slice_unit_congr _ e _ _)
theorem osem_congr {off : Fin 1 → Nat} {s : Fin 2} (e : off = semOff s) (hh) :
    (cc0_scoped7.slice (Rect.unit (s := S2) off S1.size hh)).squeeze S_ squeezes_S1_S_ = osem s :=
  congrArg (fun A : DmaSems sig S1 => A.squeeze S_ squeezes_S1_S_) (SemArray.slice_unit_congr _ e _ _)
theorem xslot_congr {off : Fin 6 → Nat} {s : Fin 3} (e : off = xsOff s) (hh hs) :
    (xB.slice (Rect.unit (s := S3x1x64x16x2x1024) off S1x1x64x16x2x1024.size hh) hs).squeeze S1x64x16x2x1024 squeezes_S1x1x64x16x2x1024_S1x64x16x2x1024 = xslot s :=
  congrArg (fun M : Memref sig .tc .vmem S1x1x64x16x2x1024 .bf16 => M.squeeze S1x64x16x2x1024 squeezes_S1x1x64x16x2x1024_S1x64x16x2x1024) (Memref.slice_unit_congr _ e _ _ _ _)
theorem cslot_congr {off : Fin 4 → Nat} {s : Fin 2} (e : off = tsOff s) (hh hs) :
    (cB.slice (Rect.unit (s := S2x32x64x128) off S1x32x64x128.size hh) hs).squeeze S32x64x128 squeezes_S1x32x64x128_S32x64x128 = cslot s :=
  congrArg (fun M : Memref sig .tc .vmem S1x32x64x128 .f32 => M.squeeze S32x64x128 squeezes_S1x32x64x128_S32x64x128) (Memref.slice_unit_congr _ e _ _ _ _)
theorem dslot_congr {off : Fin 4 → Nat} {s : Fin 2} (e : off = tsOff s) (hh hs) :
    (dB.slice (Rect.unit (s := S2x32x64x128) off S1x32x64x128.size hh) hs).squeeze S32x64x128 squeezes_S1x32x64x128_S32x64x128 = dslot s :=
  congrArg (fun M : Memref sig .tc .vmem S1x32x64x128 .f32 => M.squeeze S32x64x128 squeezes_S1x32x64x128_S32x64x128) (Memref.slice_unit_congr _ e _ _ _ _)
theorem oslot_congr {off : Fin 6 → Nat} {s : Fin 2} (e : off = osOff s) (hh hs) :
    (oB.slice (Rect.unit (s := S2x1x32x32x2x1024) off S1x1x32x32x2x1024.size hh) hs).squeeze S1x32x32x2x1024 squeezes_S1x1x32x32x2x1024_S1x32x32x2x1024 = oslot s :=
  congrArg (fun M : Memref sig .tc .vmem S1x1x32x32x2x1024 .bf16 => M.squeeze S1x32x32x2x1024 squeezes_S1x1x32x32x2x1024_S1x32x32x2x1024) (Memref.slice_unit_congr _ e _ _ _ _)
theorem xblk_congr {off : Fin 5 → Nat} {b : Fin 16} (e : off = xOff b) (hh hs) :
    xM.slice (Rect.unit (s := S4x64x64x2x1024) off S1x64x16x2x1024.size hh) hs = xblk b := Memref.slice_unit_congr _ e _ _ hs (fun _ => rfl)
theorem cblk_congr {off : Fin 3 → Nat} {b : Fin 4} (e : off = tOff b) (hh hs) :
    cM.slice (Rect.unit (s := S128x64x128) off S32x64x128.size hh) hs = cblk b := Memref.slice_unit_congr _ e _ _ hs (fun _ => rfl)
theorem dblk_congr {off : Fin 3 → Nat} {b : Fin 4} (e : off = tOff b) (hh hs) :
    dM.slice (Rect.unit (s := S128x64x128) off S32x64x128.size hh) hs = dblk b := Memref.slice_unit_congr _ e _ _ hs (fun _ => rfl)
theorem oblk_congr {off : Fin 5 → Nat} {b : Fin 16} (e : off = oOff b) (hh hs) :
    oM.slice (Rect.unit (s := S4x128x32x2x1024) off S1x32x32x2x1024.size hh) hs = oblk b := Memref.slice_unit_congr _ e _ _ hs (fun _ => rfl)
@[sl_canon] theorem xcv_eq (s : Fin 3) (hh hs) :
    ((xslot s).slice (Rect.unit (s := S1x64x16x2x1024) ![0, 0, 0, 0, 0] S1x64x16x2x1024.size hh) hs).squeeze S64x16x2x1024 squeezes_S1x64x16x2x1024_S64x16x2x1024 = xcv s := of_eq_true (eq_self _)
@[sl_canon] theorem xcv_eq' (s : Fin 3) (hh hs) :
    ((xslot s).slice (Rect.unit (s := S1x64x16x2x1024) ![0, 0, 0, 0, 0] ![1, 64, 16, 2, 1024] hh) hs).squeeze S64x16x2x1024 squeezes_S1x64x16x2x1024_S64x16x2x1024 = xcv s := of_eq_true (eq_self _)

section Canon
variable (k : Fin k0_t1_loop.trips)

@[sl_canon] theorem c8 (hk : k.val + 2 < 16) (hh) : (cc0_scoped1.slice (Rect.unit (s := S3) (k0_off8 (a6 k)) S1.size hh)).squeeze S_ squeezes_S1_S_ = xsem (Ring.sl 3 (k.val + 2)) := xsem_congr (off8_eq k hk) _
@[sl_canon] theorem c9 (hk : k.val + 2 < 16) (hh hs) : (xB.slice (Rect.unit (s := S3x1x64x16x2x1024) (k0_off9 (a6 k)) S1x1x64x16x2x1024.size hh) hs).squeeze S1x64x16x2x1024 squeezes_S1x1x64x16x2x1024_S1x64x16x2x1024 = xslot (Ring.sl 3 (k.val + 2)) := xslot_congr (off9_eq k hk) _ _
@[sl_canon] theorem c10 (hk : k.val + 2 < 16) (hh hs) : xM.slice (Rect.unit (s := S4x64x64x2x1024) (k0_off10 (a14 k) (a15 k)) S1x64x16x2x1024.size hh) hs = xblk (Ring.bk 16 (k.val + 2)) := xblk_congr (off10_eq k hk) _ _
@[sl_canon] theorem c11 (hk : k.val + 1 < 16) (hh) : (cc0_scoped3.slice (Rect.unit (s := S2) (k0_off11 (a8 k)) S1.size hh)).squeeze S_ squeezes_S1_S_ = csem (Ring.sl 2 (k.val + 1)) := csem_congr (off11_eq k hk) _
@[sl_canon] theorem c12 (hk : k.val + 1 < 16) (hh hs) : (cB.slice (Rect.unit (s := S2x32x64x128) (k0_off12 (a8 k)) S1x32x64x128.size hh) hs).squeeze S32x64x128 squeezes_S1x32x64x128_S32x64x128 = cslot (Ring.sl 2 (k.val + 1)) := cslot_congr (off12_eq k hk) _ _
@[sl_canon] theorem c13 (hk : k.val + 1 < 16) (hh hs) : cM.slice (Rect.unit (s := S128x64x128) (k0_off13 (a15 k)) S32x64x128.size hh) hs = cblk (Ring.bk 4 (k.val + 1)) := cblk_congr (off13_eq k hk) _ _
@[sl_canon] theorem c14 (hk : k.val + 1 < 16) (hh) : (cc0_scoped5.slice (Rect.unit (s := S2) (k0_off14 (a10 k)) S1.size hh)).squeeze S_ squeezes_S1_S_ = dsem (Ring.sl 2 (k.val + 1)) := dsem_congr (off14_eq k hk) _
@[sl_canon] theorem c15 (hk : k.val + 1 < 16) (hh hs) : (dB.slice (Rect.unit (s := S2x32x64x128) (k0_off15 (a10 k)) S1x32x64x128.size hh) hs).squeeze S32x64x128 squeezes_S1x32x64x128_S32x64x128 = dslot (Ring.sl 2 (k.val + 1)) := dslot_congr (off15_eq k hk) _ _
@[sl_canon] theorem c16 (hk : k.val + 1 < 16) (hh hs) : dM.slice (Rect.unit (s := S128x64x128) (k0_off16 (a15 k)) S32x64x128.size hh) hs = dblk (Ring.bk 4 (k.val + 1)) := dblk_congr (off16_eq k hk) _ _
@[sl_canon] theorem c17 (hh) : (cc0_scoped1.slice (Rect.unit (s := S3) (k0_off17 (a7 k)) S1.size hh)).squeeze S_ squeezes_S1_S_ = xsem (Ring.sl 3 k.val) := xsem_congr (off17_eq k) _
@[sl_canon] theorem c18 (hh hs) : (xB.slice (Rect.unit (s := S3x1x64x16x2x1024) (k0_off18 (a7 k)) S1x1x64x16x2x1024.size hh) hs).squeeze S1x64x16x2x1024 squeezes_S1x1x64x16x2x1024_S1x64x16x2x1024 = xslot (Ring.sl 3 k.val) := xslot_congr (off18_eq k) _ _
@[sl_canon] theorem c19 (hh hs) : xM.slice (Rect.unit (s := S4x64x64x2x1024) (k0_off19 (a14 k) (a15 k)) S1x64x16x2x1024.size hh) hs = xblk (Ring.bk 16 k.val) := xblk_congr (off19_eq k) _ _
@[sl_canon] theorem c20 (hh) : (cc0_scoped3.slice (Rect.unit (s := S2) (k0_off20 (a9 k)) S1.size hh)).squeeze S_ squeezes_S1_S_ = csem (Ring.sl 2 k.val) := csem_congr (off20_eq k) _
@[sl_canon] theorem c21 (hh hs) : (cB.slice (Rect.unit (s := S2x32x64x128) (k0_off21 (a9 k)) S1x32x64x128.size hh) hs).squeeze S32x64x128 squeezes_S1x32x64x128_S32x64x128 = cslot (Ring.sl 2 k.val) := cslot_congr (off21_eq k) _ _
@[sl_canon] theorem c22 (hh hs) : cM.slice (Rect.unit (s := S128x64x128) (k0_off22 (a15 k)) S32x64x128.size hh) hs = cblk (Ring.bk 4 k.val) := cblk_congr (off22_eq k) _ _
@[sl_canon] theorem c23 (hh) : (cc0_scoped5.slice (Rect.unit (s := S2) (k0_off23 (a11 k)) S1.size hh)).squeeze S_ squeezes_S1_S_ = dsem (Ring.sl 2 k.val) := dsem_congr (off23_eq k) _
@[sl_canon] theorem c24 (hh hs) : (dB.slice (Rect.unit (s := S2x32x64x128) (k0_off24 (a11 k)) S1x32x64x128.size hh) hs).squeeze S32x64x128 squeezes_S1x32x64x128_S32x64x128 = dslot (Ring.sl 2 k.val) := dslot_congr (off24_eq k) _ _
@[sl_canon] theorem c25 (hh hs) : dM.slice (Rect.unit (s := S128x64x128) (k0_off25 (a15 k)) S32x64x128.size hh) hs = dblk (Ring.bk 4 k.val) := dblk_congr (off25_eq k) _ _
@[sl_canon] theorem c26 (hh hs) : (xB.slice (Rect.unit (s := S3x1x64x16x2x1024) (k0_off26 (a7 k)) S1x1x64x16x2x1024.size hh) hs).squeeze S1x64x16x2x1024 squeezes_S1x1x64x16x2x1024_S1x64x16x2x1024 = xslot (Ring.sl 3 k.val) := xslot_congr (off26_eq k) _ _
@[sl_canon] theorem c26' (hh hs) : (xB.slice (Rect.unit (s := S3x1x64x16x2x1024) (k0_off26 (a7 k)) ![1, 1, 64, 16, 2, 1024] hh) hs).squeeze S1x64x16x2x1024 squeezes_S1x1x64x16x2x1024_S1x64x16x2x1024 = xslot (Ring.sl 3 k.val) := xslot_congr (off26_eq k) _ _
@[sl_canon] theorem c34 (hh hs) : (xB.slice (Rect.unit (s := S3x1x64x16x2x1024) (k0_off34 (a7 k)) S1x1x64x16x2x1024.size hh) hs).squeeze S1x64x16x2x1024 squeezes_S1x1x64x16x2x1024_S1x64x16x2x1024 = xslot (Ring.sl 3 k.val) := xslot_congr (off34_eq k) _ _
@[sl_canon] theorem c34' (hh hs) : (xB.slice (Rect.unit (s := S3x1x64x16x2x1024) (k0_off34 (a7 k)) ![1, 1, 64, 16, 2, 1024] hh) hs).squeeze S1x64x16x2x1024 squeezes_S1x1x64x16x2x1024_S1x64x16x2x1024 = xslot (Ring.sl 3 k.val) := xslot_congr (off34_eq k) _ _
@[sl_canon] theorem c27 (hh hs) : (cB.slice (Rect.unit (s := S2x32x64x128) (k0_off27 (a9 k)) S1x32x64x128.size hh) hs).squeeze S32x64x128 squeezes_S1x32x64x128_S32x64x128 = cslot (Ring.sl 2 k.val) := cslot_congr (off27_eq k) _ _
@[sl_canon] theorem c27' (hh hs) : (cB.slice (Rect.unit (s := S2x32x64x128) (k0_off27 (a9 k)) ![1, 32, 64, 128] hh) hs).squeeze S32x64x128 squeezes_S1x32x64x128_S32x64x128 = cslot (Ring.sl 2 k.val) := cslot_congr (off27_eq k) _ _
@[sl_canon] theorem c31 (hh hs) : (cB.slice (Rect.unit (s := S2x32x64x128) (k0_off31 (a9 k)) S1x32x64x128.size hh) hs).squeeze S32x64x128 squeezes_S1x32x64x128_S32x64x128 = cslot (Ring.sl 2 k.val) := cslot_congr (off31_eq k) _ _
@[sl_canon] theorem c31' (hh hs) : (cB.slice (Rect.unit (s := S2x32x64x128) (k0_off31 (a9 k)) ![1, 32, 64, 128] hh) hs).squeeze S32x64x128 squeezes_S1x32x64x128_S32x64x128 = cslot (Ring.sl 2 k.val) := cslot_congr (off31_eq k) _ _
@[sl_canon] theorem c28 (hh hs) : (dB.slice (Rect.unit (s := S2x32x64x128) (k0_off28 (a11 k)) S1x32x64x128.size hh) hs).squeeze S32x64x128 squeezes_S1x32x64x128_S32x64x128 = dslot (Ring.sl 2 k.val) := dslot_congr (off28_eq k) _ _
@[sl_canon] theorem c28' (hh hs) : (dB.slice (Rect.unit (s := S2x32x64x128) (k0_off28 (a11 k)) ![1, 32, 64, 128] hh) hs).squeeze S32x64x128 squeezes_S1x32x64x128_S32x64x128 = dslot (Ring.sl 2 k.val) := dslot_congr (off28_eq k) _ _
@[sl_canon] theorem c32 (hh hs) : (dB.slice (Rect.unit (s := S2x32x64x128) (k0_off32 (a11 k)) S1x32x64x128.size hh) hs).squeeze S32x64x128 squeezes_S1x32x64x128_S32x64x128 = dslot (Ring.sl 2 k.val) := dslot_congr (off32_eq k) _ _
@[sl_canon] theorem c32' (hh hs) : (dB.slice (Rect.unit (s := S2x32x64x128) (k0_off32 (a11 k)) ![1, 32, 64, 128] hh) hs).squeeze S32x64x128 squeezes_S1x32x64x128_S32x64x128 = dslot (Ring.sl 2 k.val) := dslot_congr (off32_eq k) _ _
@[sl_canon] theorem c65 (hh) : (cc0_scoped7.slice (Rect.unit (s := S2) (k0_off65 (a12 k)) S1.size hh)).squeeze S_ squeezes_S1_S_ = osem (Ring.sl 2 k.val) := osem_congr (off65_eq k) _
@[sl_canon] theorem c66 (hh hs) : oM.slice (Rect.unit (s := S4x128x32x2x1024) (k0_off66 (a14 k) (a15 k)) S1x32x32x2x1024.size hh) hs = oblk (Ring.bk 16 k.val) := oblk_congr (off66_eq k) _ _
@[sl_canon] theorem c67 (hh hs) : (oB.slice (Rect.unit (s := S2x1x32x32x2x1024) (k0_off67 (a12 k)) S1x1x32x32x2x1024.size hh) hs).squeeze S1x32x32x2x1024 squeezes_S1x1x32x32x2x1024_S1x32x32x2x1024 = oslot (Ring.sl 2 k.val) := oslot_congr (off67_eq k) _ _
@[sl_canon] theorem c68 (hk : 1 ≤ k.val) (hh) : (cc0_scoped7.slice (Rect.unit (s := S2) (k0_off68 (a13 k)) S1.size hh)).squeeze S_ squeezes_S1_S_ = osem (Ring.sl 2 (k.val - 1)) := osem_congr (off68_eq k hk) _
@[sl_canon] theorem c69 (hk : 1 ≤ k.val) (hh hs) : oM.slice (Rect.unit (s := S4x128x32x2x1024) (k0_off69 (a14 k) (a15 k)) S1x32x32x2x1024.size hh) hs = oblk (Ring.bk 16 (k.val - 1)) := oblk_congr (off69_eq k hk) _ _
@[sl_canon] theorem c70 (hk : 1 ≤ k.val) (hh hs) : (oB.slice (Rect.unit (s := S2x1x32x32x2x1024) (k0_off70 (a13 k)) S1x1x32x32x2x1024.size hh) hs).squeeze S1x32x32x2x1024 squeezes_S1x1x32x32x2x1024_S1x32x32x2x1024 = oslot (Ring.sl 2 (k.val - 1)) := oslot_congr (off70_eq k hk) _ _

end Canon

/-! ## What is held -/

section Pieces
variable (c : Dev nD) (XA : Buf (Elt F) (xM.view.loc (c : Thread nD τ))) (CA : Buf (Elt F) (cM.view.loc (c : Thread nD τ)))
  (DA : Buf (Elt F) (dM.view.loc (c : Thread nD τ)))

abbrev xcell (s : Fin 3) : sProp 𝕄 := semVal ((c : Thread nD τ), SemLoc.dma (xsem s).sem) 0
abbrev xslotP (s : Fin 3) (f : Buf (Elt F) ((xslot s).view.loc (c : Thread nD τ))) : sProp 𝕄 :=
  (xslot s).view.loc (c : Thread nD τ) ↦[(xslot s).view.set]{fullShare} f
abbrev ccell (s : Fin 2) : sProp 𝕄 := semVal ((c : Thread nD τ), SemLoc.dma (csem s).sem) 0
abbrev cslotP (s : Fin 2) (f : Buf (Elt F) ((cslot s).view.loc (c : Thread nD τ))) : sProp 𝕄 :=
  (cslot s).view.loc (c : Thread nD τ) ↦[(cslot s).view.set]{fullShare} f
abbrev dcell (s : Fin 2) : sProp 𝕄 := semVal ((c : Thread nD τ), SemLoc.dma (dsem s).sem) 0
abbrev dslotP (s : Fin 2) (f : Buf (Elt F) ((dslot s).view.loc (c : Thread nD τ))) : sProp 𝕄 :=
  (dslot s).view.loc (c : Thread nD τ) ↦[(dslot s).view.set]{fullShare} f
abbrev ocell (s : Fin 2) : sProp 𝕄 := semVal ((c : Thread nD τ), SemLoc.dma (osem s).sem) 0
abbrev oslotP (s : Fin 2) (f : Buf (Elt F) ((oslot s).view.loc (c : Thread nD τ))) : sProp 𝕄 :=
  (oslot s).view.loc (c : Thread nD τ) ↦[(oslot s).view.set]{fullShare} f
abbrev xhome (b : Fin 16) : sProp 𝕄 := (xblk b).view.loc (c : Thread nD τ) ↦[(xblk b).view.set]{fullShare} XA
abbrev xlanded (s : Fin 3) (b : Fin 16) (f : Buf (Elt F) ((xslot s).view.loc (c : Thread nD τ))) : Buf (Elt F) ((xslot s).view.loc (c : Thread nD τ)) :=
  (xslot s).view.writes (Elt F) f [⟨Rect.whole S1x64x16x2x1024, ReadAs.same.apply ((xblk b).view.read (Elt F) XA)⟩]
abbrev xflight (s : Fin 3) (b : Fin 16) (f : Buf (Elt F) ((xslot s).view.loc (c : Thread nD τ))) : sProp 𝕄 :=
  Transfers.Flight countersEmb (c : Thread nD τ) (SemLoc.dma (xsem s).sem) () 131072 iprop(xslotP c s (xlanded c XA s b f) ∗ xhome c XA b)
abbrev chome (b : Fin 4) : sProp 𝕄 := (cblk b).view.loc (c : Thread nD τ) ↦[(cblk b).view.set]{fullShare} CA
abbrev clanded (s : Fin 2) (b : Fin 4) (f : Buf (Elt F) ((cslot s).view.loc (c : Thread nD τ))) : Buf (Elt F) ((cslot s).view.loc (c : Thread nD τ)) :=
  (cslot s).view.writes (Elt F) f [⟨Rect.whole S32x64x128, ReadAs.same.apply ((cblk b).view.read (Elt F) CA)⟩]
abbrev cflight (s : Fin 2) (b : Fin 4) (f : Buf (Elt F) ((cslot s).view.loc (c : Thread nD τ))) : sProp 𝕄 :=
  Transfers.Flight countersEmb (c : Thread nD τ) (SemLoc.dma (csem s).sem) () 32768 iprop(cslotP c s (clanded c CA s b f) ∗ chome c CA b)
abbrev dhome (b : Fin 4) : sProp 𝕄 := (dblk b).view.loc (c : Thread nD τ) ↦[(dblk b).view.set]{fullShare} DA
abbrev dlanded (s : Fin 2) (b : Fin 4) (f : Buf (Elt F) ((dslot s).view.loc (c : Thread nD τ))) : Buf (Elt F) ((dslot s).view.loc (c : Thread nD τ)) :=
  (dslot s).view.writes (Elt F) f [⟨Rect.whole S32x64x128, ReadAs.same.apply ((dblk b).view.read (Elt F) DA)⟩]
abbrev dflight (s : Fin 2) (b : Fin 4) (f : Buf (Elt F) ((dslot s).view.loc (c : Thread nD τ))) : sProp 𝕄 :=
  Transfers.Flight countersEmb (c : Thread nD τ) (SemLoc.dma (dsem s).sem) () 32768 iprop(dslotP c s (dlanded c DA s b f) ∗ dhome c DA b)
abbrev ohome (b : Fin 16) (f : Buf (Elt F) ((oblk b).view.loc (c : Thread nD τ))) : sProp 𝕄 :=
  (oblk b).view.loc (c : Thread nD τ) ↦[(oblk b).view.set]{fullShare} f
abbrev olanded (b : Fin 16) (s : Fin 2) (f : Buf (Elt F) ((oblk b).view.loc (c : Thread nD τ))) (g : Buf (Elt F) ((oslot s).view.loc (c : Thread nD τ))) : Buf (Elt F) ((oblk b).view.loc (c : Thread nD τ)) :=
  (oblk b).view.writes (Elt F) f [⟨Rect.whole S1x32x32x2x1024, ReadAs.same.apply ((oslot s).view.read (Elt F) g)⟩]
abbrev oflight (s : Fin 2) (b : Fin 16) (f : Buf (Elt F) ((oblk b).view.loc (c : Thread nD τ))) (g : Buf (Elt F) ((oslot s).view.loc (c : Thread nD τ))) : sProp 𝕄 :=
  Transfers.Flight countersEmb (c : Thread nD τ) (SemLoc.dma (osem s).sem) () 131072 iprop(ohome c b (olanded c b s f g) ∗ oslotP c s g)

end Pieces

theorem xcv_set (s : Fin 3) : (xcv s).view.set = (xslot s).view.set :=
  (View.set_reshape _ _).trans (whole_slice _ (by funext a; fin_cases a <;> rfl) _ _)
/-- The rectangle of result slot `s` in the slots' buffer. -/
abbrev osRect (s : Fin 2) : Rect S2x1x32x32x2x1024 := Rect.unit (s := S2x1x32x32x2x1024) (osOff s) S1x1x32x32x2x1024.size (osOff_inb s)
theorem oslot_set (s : Fin 2) : (oslot s).view.set = oB.view.setOn (osRect s).set := (View.set_reshape _ _).trans (View.set_slice _ _)

section Restate
variable (c : Dev nD)
abbrev xcvP (s : Fin 3) (f : Buf (Elt F) ((xcv s).view.loc (c : Thread nD τ))) : sProp 𝕄 :=
  (xcv s).view.loc (c : Thread nD τ) ↦[(xcv s).view.set]{fullShare} f
abbrev orectP (s : Fin 2) (f : Buf (Elt F) (oB.view.loc (c : Thread nD τ))) : sProp 𝕄 :=
  oB.view.loc (c : Thread nD τ) ↦[oB.view.setOn (osRect s).set]{fullShare} f
omit [FloatOps F] in
theorem xcvP_eq (s : Fin 3) (f : Buf (Elt F) ((xslot s).view.loc (c : Thread nD τ))) : (xslotP c s f : sProp 𝕄) = xcvP c s f := by
  show ((xslot s).view.loc (c : Thread nD τ) ↦[(xslot s).view.set]{fullShare} f : sProp 𝕄) = ((xslot s).view.loc (c : Thread nD τ) ↦[(xcv s).view.set]{fullShare} f)
  rw [xcv_set]
omit [FloatOps F] in
theorem orectP_eq (s : Fin 2) (f : Buf (Elt F) ((oslot s).view.loc (c : Thread nD τ))) : (oslotP c s f : sProp 𝕄) = orectP c s f := by
  show ((oslot s).view.loc (c : Thread nD τ) ↦[(oslot s).view.set]{fullShare} f : sProp 𝕄) = ((oslot s).view.loc (c : Thread nD τ) ↦[oB.view.setOn (osRect s).set]{fullShare} f)
  rw [oslot_set]
end Restate

end Cert.Proof.FftA
end
end
-- ==== Proof.FftBVal.lean ====
/- What one trip of the second stage leaves in its result slot: row `2 j + h` of the block is half `h` of the product of
   the table with pair `j` of the words. -/
module

public import proofs.«01_k».proof.Proof.FftB
public import Idealize.ShloMosaic.Lib.ValueIdxCore
public import Idealize.ShloMosaic.Lib.ValueLayout
public import Idealize.ShloMosaic.Lib.Pipeline.Value

@[expose] public section

noncomputable section

namespace Cert.Proof.FftB

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ
open Idealize.ShloMosaic.ValueIdx

/-! ## The block a trip computes -/

/-- Pair `j` of a block of words. -/
def slabB (X : S128x16x2x1024.Idx → Elt F .bf16) (j : Fin 16) : Vec F S128x1x2x1024 .bf16 :=
  fun i => X (ix4 (n0 := 128) (n1 := 16) (n2 := 2) (n3 := 1024) (i 0) j (i 2) (i 3))

/-- The block's rows: half `h` of pair `j`'s product is row `2 j + h`. -/
def blkB (W : Vec F S256x512 .bf16) (X : S128x16x2x1024.Idx → Elt F .bf16) : S32x128x512.Idx → Elt F .f32 := fun y =>
  k1_pay2 W (slabB X ⟨(y 0).val / 2, by have : (y 0).val < 32 := (y 0).isLt; omega⟩)
    (ix2 (n0 := 256) (n1 := 512) ⟨128 * ((y 0).val % 2) + (y 1).val, by have : (y 1).val < 128 := (y 1).isLt; omega⟩ (y 2))

theorem blkB_apply (W : Vec F S256x512 .bf16) (X : S128x16x2x1024.Idx → Elt F .bf16) (y : S32x128x512.Idx) (j : Fin 16) (z : S256x512.Idx)
    (hj : (y 0).val / 2 = j.val) (h0 : (z 0).val = 128 * ((y 0).val % 2) + (y 1).val) (h1 : (z 1).val = (y 2).val) :
    blkB W X y = k1_pay2 W (slabB X j) z := by
  unfold blkB
  refine congr (congrArg (fun q => k1_pay2 W (slabB X q)) (Fin.ext hj)) ?_
  · funext a; match a with
    | ⟨0, _⟩ => exact Fin.ext h0.symm
    | ⟨1, _⟩ => exact Fin.ext h1.symm

/-- Half `h` of a product, as a row. -/
def rowB (h : Fin 2) (P : FVec F S256x512 .f32) (x : S1x128x512.Idx) : Elt F .f32 :=
  P (ix2 (n0 := 256) (n1 := 512) ⟨128 * h.val + (x 1).val, by have : (x 1).val < 128 := (x 1).isLt; omega⟩ (x 2))

theorem half0 (P : FVec F S256x512 .f32) (x : S1x128x512.Idx) :
    shapeCast S1x128x512 (extractStridedSlice S128x512 ![0, 0] P slices_S256x512_o0_0_S128x512) shapeCasts_S128x512_S1x128x512 x = rowB 0 P x := by
  rw [shapeCast_apply _ _ x (ix2 (n0 := 128) (n1 := 512) (x 1) (x 2)) (by
    have e : (x 0).val = 0 := by have : (x 0).val < 1 := (x 0).isLt; omega
    rw [Shape.rowMajor_val_two, Shape.rowMajor_val_three, e]; simp [S128x512, S1x128x512])]
  rw [extractStridedSlice_apply _ _ _ _ (ix2 (n0 := 256) (n1 := 512) ⟨128 * (0 : Fin 2).val + (x 1).val, by have : (x 1).val < 128 := (x 1).isLt; simp; omega⟩ (x 2)) (by
    intro a; match a with
    | ⟨0, _⟩ => simp
    | ⟨1, _⟩ => simp)]
  rfl
theorem half1 (P : FVec F S256x512 .f32) (x : S1x128x512.Idx) :
    shapeCast S1x128x512 (extractStridedSlice S128x512 ![128, 0] P slices_S256x512_o128_0_S128x512) shapeCasts_S128x512_S1x128x512 x = rowB 1 P x := by
  rw [shapeCast_apply _ _ x (ix2 (n0 := 128) (n1 := 512) (x 1) (x 2)) (by
    have e : (x 0).val = 0 := by have : (x 0).val < 1 := (x 0).isLt; omega
    rw [Shape.rowMajor_val_two, Shape.rowMajor_val_three, e]; simp [S128x512, S1x128x512])]
  rw [extractStridedSlice_apply _ _ _ _ (ix2 (n0 := 256) (n1 := 512) ⟨128 * (1 : Fin 2).val + (x 1).val, by have : (x 1).val < 128 := (x 1).isLt; simp; omega⟩ (x 2)) (by
    intro a; match a with
    | ⟨0, _⟩ => simp
    | ⟨1, _⟩ => simp)]
  rfl

/-- The piece that row `2 j + h` writes agrees with the block. -/
theorem row_blkB (j : Fin 16) (h : Fin 2) (r : ℕ) (hr : r = 2 * j.val + h.val) (W : Vec F S256x512 .bf16) (X : S128x16x2x1024.Idx → Elt F .bf16) (inb)
    (x : S1x128x512.Idx) :
    rowB h (k1_pay2 W (slabB X j)) x = blkB W X ((Rect.unit (s := S32x128x512) ![r, 0, 0] S1x128x512.size inb).emb x) := by
  have hx0 : (x 0).val = 0 := by have : (x 0).val < 1 := (x 0).isLt; omega
  have hh := h.isLt
  have e0 : (((Rect.unit (s := S32x128x512) ![r, 0, 0] S1x128x512.size inb).emb x) 0).val = r := by
    show r + 1 * (x 0).val = r; omega
  have e1 : (((Rect.unit (s := S32x128x512) ![r, 0, 0] S1x128x512.size inb).emb x) 1).val = (x 1).val := by
    show 0 + 1 * (x 1).val = _; omega
  have e2 : (((Rect.unit (s := S32x128x512) ![r, 0, 0] S1x128x512.size inb).emb x) 2).val = (x 2).val := by
    show 0 + 1 * (x 2).val = _; omega
  refine (blkB_apply W X _ j _ ?_ ?_ ?_).symm
  · rw [e0]; omega
  · rw [e0, e1]; show 128 * h.val + (x 1).val = _; congr 2; omega
  · rw [e2]

/-- The load of pair `j` through a view of a block of words. -/
theorem slab_read {κ sp} (v : View sig κ sp S128x16x2x1024 .bf16) (g : v.ty.Contents (Elt F)) (j : Fin 16) (n : ℕ) (hn : n = j.val) (inb) :
    v.readAt (Elt F) (Rect.unit (s := S128x16x2x1024) ![0, n, 0, 0] S128x1x2x1024.size inb).toLoadRect g = slabB (v.read (Elt F) g) j := by
  subst hn
  funext i
  rw [View.readAt_apply]
  unfold slabB
  congr 1
  funext a
  have h1 : (i 1).val = 0 := by have : (i 1).val < 1 := (i 1).isLt; omega
  match a with
  | ⟨0, _⟩ => exact Fin.ext (by show 0 + 1 * (i 0).val = (i 0).val; omega)
  | ⟨1, _⟩ => exact Fin.ext (by show j.val + 1 * (i 1).val = j.val; omega)
  | ⟨2, _⟩ => exact Fin.ext (by show 0 + 1 * (i 2).val = (i 2).val; omega)
  | ⟨3, _⟩ => exact Fin.ext (by show 0 + 1 * (i 3).val = (i 3).val; omega)

/-- The piece stored at an even row, and at an odd one, agree with the block. -/
theorem piece_even {κ sp} (v : View sig κ sp S128x16x2x1024 .bf16) (g : v.ty.Contents (Elt F)) (W : Vec F S256x512 .bf16) (j : Fin 16) (r n : ℕ)
    (hr : r = 2 * j.val) (hn : n = j.val) (inb inb') (p : S1x128x512.Idx → Elt F .f32)
    (hp : p = shapeCast S1x128x512 (extractStridedSlice S128x512 ![0, 0]
      (k1_pay2 W (v.readAt (Elt F) (Rect.unit (s := S128x16x2x1024) ![0, n, 0, 0] S128x1x2x1024.size inb').toLoadRect g)) slices_S256x512_o0_0_S128x512) shapeCasts_S128x512_S1x128x512) :
    ∀ x, p x = blkB W (v.read (Elt F) g) ((Rect.unit (s := S32x128x512) ![r, 0, 0] S1x128x512.size inb).emb x) := fun x => by
  rw [hp, half0, slab_read v g j n hn]; exact row_blkB j 0 r (by rw [hr]; rfl) W _ inb x
theorem piece_odd {κ sp} (v : View sig κ sp S128x16x2x1024 .bf16) (g : v.ty.Contents (Elt F)) (W : Vec F S256x512 .bf16) (j : Fin 16) (r n : ℕ)
    (hr : r = 2 * j.val + 1) (hn : n = j.val) (inb inb') (p : S1x128x512.Idx → Elt F .f32)
    (hp : p = shapeCast S1x128x512 (extractStridedSlice S128x512 ![128, 0]
      (k1_pay2 W (v.readAt (Elt F) (Rect.unit (s := S128x16x2x1024) ![0, n, 0, 0] S128x1x2x1024.size inb').toLoadRect g)) slices_S256x512_o128_0_S128x512) shapeCasts_S128x512_S1x128x512) :
    ∀ x, p x = blkB W (v.read (Elt F) g) ((Rect.unit (s := S32x128x512) ![r, 0, 0] S1x128x512.size inb).emb x) := fun x => by
  rw [hp, half1, slab_read v g j n hn]; exact row_blkB j 1 r (by rw [hr]; rfl) W _ inb x

/-! ## A landed block, and a finished slot, under the computation's names -/

section Slots
variable (c : Dev nD) (XA : Buf (Elt F) (xM.view.loc (c : Thread nD τ)))

/-- Block `b` of the words, as the computation reads it. -/
def xval (b : Fin 8) : S128x16x2x1024.Idx → Elt F .bf16 := fun y =>
  (xblk b).view.read (Elt F) XA (ix5 (n0 := 1) (n1 := 128) (n2 := 16) (n3 := 2) (n4 := 1024) 0 (y 0) (y 1) (y 2) (y 3))

theorem read_reshape' {κ sp} {S S' : Shape} {e : EltTy} (v : View sig κ sp S e) (h : S'.numel = S.numel) (f : v.ty.Contents (Elt F)) (y : S'.Idx) :
    (v.reshape S' h).read (Elt F) f y = v.read (Elt F) f (Shape.reshapeEquiv h y) := rfl
theorem read_slice' {κ sp} {S : Shape} {e : EltTy} (v : View sig κ sp S e) (r : Rect S) (f : v.ty.Contents (Elt F)) (y : r.shape.Idx) :
    (v.slice r).read (Elt F) f y = v.read (Elt F) f (r.emb y) := rfl
theorem read_xcv (s : Fin 3) (g : Buf (Elt F) ((xslot s).view.loc (c : Thread nD τ))) (y : S128x16x2x1024.Idx) :
    (xcv s).view.read (Elt F) g y = (xslot s).view.read (Elt F) g (ix5 (n0 := 1) (n1 := 128) (n2 := 16) (n3 := 2) (n4 := 1024) 0 (y 0) (y 1) (y 2) (y 3)) := by
  refine (read_reshape' _ _ _ _).trans ((read_slice' _ _ _ _).trans ?_)
  refine congrArg ((xslot s).view.read (Elt F) g) ?_
  rw [Shape.reshapeEquiv_cons_one (n := 4) (d := ![128, 16, 2, 1024])]
  funext a
  match a with
  | ⟨0, _⟩ => rfl
  | ⟨1, _⟩ => exact Fin.ext (by show 0 + 1 * (y 0).val = (y 0).val; omega)
  | ⟨2, _⟩ => exact Fin.ext (by show 0 + 1 * (y 1).val = (y 1).val; omega)
  | ⟨3, _⟩ => exact Fin.ext (by show 0 + 1 * (y 2).val = (y 2).val; omega)
  | ⟨4, _⟩ => exact Fin.ext (by show 0 + 1 * (y 3).val = (y 3).val; omega)

theorem landed_in (s : Fin 3) (b : Fin 8) (f) :
    (xslotP c s (xlanded c XA s b f) : sProp 𝕄) ⊢ iprop(∃ g, xcvP c s g ∗ ⌜(xcv s).view.read (Elt F) g = xval c XA b⌝) := by
  iintro H
  iexists (xlanded c XA s b f)
  isplitl [H]
  · iapply (Entails.of_eq (xcvP_eq c s _)); iexact H
  · ipureintro
    funext y
    rw [read_xcv, View.read_writes_whole]
    rfl

theorem landed_out (s : Fin 3) (g : Buf (Elt F) ((xcv s).view.loc (c : Thread nD τ))) :
    (xcvP c s g : sProp 𝕄) ⊢ iprop(∃ f, xslotP c s f) := by
  iintro H
  iexists g
  iapply (Entails.of_eq (xcvP_eq c s g).symm); iexact H

theorem done_out (s : Fin 2) (g : Buf (Elt F) ((ocv s).view.loc (c : Thread nD τ))) (G) (h : (ocv s).view.read (Elt F) g = G) :
    (ocvP c s g : sProp 𝕄) ⊢ iprop(∃ f, oslotP c s f ∗ ⌜(ocv s).view.read (Elt F) f = G⌝) := by
  iintro H
  iexists g
  isplitl [H]
  · iapply (Entails.of_eq (ocvP_eq c s g).symm); iexact H
  · ipureintro; exact h

end Slots

end Cert.Proof.FftB
end
end
-- ==== Proof.FftAVal.lean ====
/- What one trip of the first stage leaves in its result slot: row `2 j + h` of the block is half `h` of the product of the
   table with pair `j` of the words, turned by the row's twiddle factors. -/
module

public import proofs.«01_k».proof.Proof.FftA
public import proofs.«01_k».proof.Proof.FftBVal

@[expose] public section

noncomputable section

namespace Cert.Proof.FftA

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Cert.Proof.FftB (UU EP 𝒱₀ semOff whole_slice)
local notation "𝕄" => MT nD τ sig Unit (Elt F) ℕ (UU nD τ) ℕ
open Idealize.ShloMosaic.ValueIdx
open Cert.Proof.FftB (read_reshape' read_slice')

/-! ## The block a trip computes -/

/-- Pair `j` of a block of words, and row `r` of a block of a table. -/
def slabA (X : S64x16x2x1024.Idx → Elt F .bf16) (j : Fin 16) : Vec F S64x1x2x1024 .bf16 :=
  fun i => X (ix4 (n0 := 64) (n1 := 16) (n2 := 2) (n3 := 1024) (i 0) j (i 2) (i 3))
def trow (C : S32x64x128.Idx → Elt F .f32) (r : Fin 32) : Vec F S1x64x128 .f32 :=
  fun i => C (ix3 (n0 := 32) (n1 := 64) (n2 := 128) r (i 1) (i 2))

/-- Half `h` of a product, turned. -/
def rowA0 (P : FVec F S256x512 .f32) (t u : Vec F S1x64x128 .f32) : Vec F S1x1x1x32x2x1024 .bf16 :=
  k0_pay5 (extractStridedSlice S64x512 ![0, 0] P slices_S256x512_o0_0_S64x512) (extractStridedSlice S64x512 ![64, 0] P slices_S256x512_o64_0_S64x512) t u
def rowA1 (P : FVec F S256x512 .f32) (t u : Vec F S1x64x128 .f32) : Vec F S1x1x1x32x2x1024 .bf16 :=
  k0_pay5 (extractStridedSlice S64x512 ![128, 0] P slices_S256x512_o128_0_S64x512) (extractStridedSlice S64x512 ![192, 0] P slices_S256x512_o192_0_S64x512) t u
def rowA (h : ℕ) (P : FVec F S256x512 .f32) (t u : Vec F S1x64x128 .f32) : Vec F S1x1x1x32x2x1024 .bf16 := if h = 0 then rowA0 P t u else rowA1 P t u

/-- An index into a row of the result. -/
def ixRow (y1 : Fin 32) (y2 : Fin 2) (y3 : Fin 1024) : S1x1x1x32x2x1024.Idx := fun a => match a with
  | ⟨0, _⟩ => (0 : Fin 1) | ⟨1, _⟩ => (0 : Fin 1) | ⟨2, _⟩ => (0 : Fin 1) | ⟨3, _⟩ => y1 | ⟨4, _⟩ => y2 | ⟨5, _⟩ => y3
/-- An index into the slots. -/
def ixSlot (s : Fin 2) (y0 y1 : Fin 32) (y2 : Fin 2) (y3 : Fin 1024) : S2x1x32x32x2x1024.Idx := fun a => match a with
  | ⟨0, _⟩ => s | ⟨1, _⟩ => (0 : Fin 1) | ⟨2, _⟩ => y0 | ⟨3, _⟩ => y1 | ⟨4, _⟩ => y2 | ⟨5, _⟩ => y3

/-- The block's rows: row `2 j + h` is half `h` of pair `j`'s product, turned by row `2 j + h` of the tables. -/
def blkA (W : Vec F S256x256 .bf16) (X : S64x16x2x1024.Idx → Elt F .bf16) (C D : S32x64x128.Idx → Elt F .f32) (y0 y1 : Fin 32) (y2 : Fin 2) (y3 : Fin 1024) : Elt F .bf16 :=
  rowA (y0.val % 2) (k0_pay2 W (slabA X ⟨y0.val / 2, by omega⟩)) (trow C y0) (trow D y0) (ixRow y1 y2 y3)

/-- The block as contents of the slots' buffer. -/
def slotA (W : Vec F S256x256 .bf16) (X : S64x16x2x1024.Idx → Elt F .bf16) (C D : S32x64x128.Idx → Elt F .f32) : S2x1x32x32x2x1024.Idx → Elt F .bf16 :=
  fun z => blkA W X C D (z 2) (z 3) (z 4) (z 5)

/-- The load of pair `j` through a view of a block of words. -/
theorem slab_read {κ sp} (v : View sig κ sp S64x16x2x1024 .bf16) (g : v.ty.Contents (Elt F)) (j : Fin 16) (n : ℕ) (hn : n = j.val) (inb) :
    v.readAt (Elt F) (Rect.unit (s := S64x16x2x1024) ![0, n, 0, 0] S64x1x2x1024.size inb).toLoadRect g = slabA (v.read (Elt F) g) j := by
  subst hn
  funext i
  rw [View.readAt_apply]
  unfold slabA
  congr 1
  funext a
  have h1 : (i 1).val = 0 := by have : (i 1).val < 1 := (i 1).isLt; omega
  match a with
  | ⟨0, _⟩ => exact Fin.ext (by show 0 + 1 * (i 0).val = (i 0).val; omega)
  | ⟨1, _⟩ => exact Fin.ext (by show j.val + 1 * (i 1).val = j.val; omega)
  | ⟨2, _⟩ => exact Fin.ext (by show 0 + 1 * (i 2).val = (i 2).val; omega)
  | ⟨3, _⟩ => exact Fin.ext (by show 0 + 1 * (i 3).val = (i 3).val; omega)
/-- The load of row `r` of a block of a table. -/
theorem trow_read {κ sp} (v : View sig κ sp S32x64x128 .f32) (g : v.ty.Contents (Elt F)) (r : Fin 32) (n : ℕ) (hn : n = r.val) (inb) :
    v.readAt (Elt F) (Rect.unit (s := S32x64x128) ![n, 0, 0] S1x64x128.size inb).toLoadRect g = trow (v.read (Elt F) g) r := by
  subst hn
  funext i
  rw [View.readAt_apply]
  unfold trow
  congr 1
  funext a
  have h1 : (i 0).val = 0 := by have : (i 0).val < 1 := (i 0).isLt; omega
  match a with
  | ⟨0, _⟩ => exact Fin.ext (by show r.val + 1 * (i 0).val = r.val; omega)
  | ⟨1, _⟩ => exact Fin.ext (by show 0 + 1 * (i 1).val = (i 1).val; omega)
  | ⟨2, _⟩ => exact Fin.ext (by show 0 + 1 * (i 2).val = (i 2).val; omega)

/-- What the piece stored in row `r` writes is the block's. -/
theorem row_slotA (s : Fin 2) (r : Fin 32) (j : Fin 16) (hj : r.val / 2 = j.val) (h : ℕ) (hh : r.val % 2 = h) (W : Vec F S256x256 .bf16) (X : S64x16x2x1024.Idx → Elt F .bf16)
    (C D : S32x64x128.Idx → Elt F .f32) (off : Fin 6 → ℕ) (ho : off = orOff s r.val) (inb) (x : S1x1x1x32x2x1024.Idx) :
    rowA h (k0_pay2 W (slabA X j)) (trow C r) (trow D r) x = slotA W X C D ((Rect.unit (s := S2x1x32x32x2x1024) off S1x1x1x32x2x1024.size inb).emb x) := by
  subst ho
  have hx0 : (x 0).val = 0 := by have : (x 0).val < 1 := (x 0).isLt; omega
  have hx1 : (x 1).val = 0 := by have : (x 1).val < 1 := (x 1).isLt; omega
  have hx2 : (x 2).val = 0 := by have : (x 2).val < 1 := (x 2).isLt; omega
  have e2 : ((Rect.unit (s := S2x1x32x32x2x1024) (orOff s r.val) S1x1x1x32x2x1024.size inb).emb x) 2 = r := Fin.ext (by show r.val + 1 * (x 2).val = r.val; omega)
  have e3 : ((Rect.unit (s := S2x1x32x32x2x1024) (orOff s r.val) S1x1x1x32x2x1024.size inb).emb x) 3 = x 3 := Fin.ext (by show 0 + 1 * (x 3).val = _; omega)
  have e4 : ((Rect.unit (s := S2x1x32x32x2x1024) (orOff s r.val) S1x1x1x32x2x1024.size inb).emb x) 4 = x 4 := Fin.ext (by show 0 + 1 * (x 4).val = _; omega)
  have e5 : ((Rect.unit (s := S2x1x32x32x2x1024) (orOff s r.val) S1x1x1x32x2x1024.size inb).emb x) 5 = x 5 := Fin.ext (by show 0 + 1 * (x 5).val = _; omega)
  unfold slotA
  rw [e2, e3, e4, e5]
  unfold blkA
  subst hh
  rw [show (⟨r.val / 2, by omega⟩ : Fin 16) = j from Fin.ext hj]
  congr 1
  funext a
  match a with
  | ⟨0, _⟩ => exact Fin.ext hx0
  | ⟨1, _⟩ => exact Fin.ext hx1
  | ⟨2, _⟩ => exact Fin.ext hx2
  | ⟨3, _⟩ => rfl
  | ⟨4, _⟩ => rfl
  | ⟨5, _⟩ => rfl

section Piece
variable {κ sp κ' sp' κ'' sp''} (v : View sig κ sp S64x16x2x1024 .bf16) (g : v.ty.Contents (Elt F)) (vc : View sig κ' sp' S32x64x128 .f32) (gc : vc.ty.Contents (Elt F))
  (vd : View sig κ'' sp'' S32x64x128 .f32) (gd : vd.ty.Contents (Elt F)) (W : Vec F S256x256 .bf16)
theorem piece_even (s : Fin 2) (j : Fin 16) (r : Fin 32) (n m : ℕ) (hr : r.val = 2 * j.val) (hn : n = j.val) (hm : m = r.val) (off) (ho : off = orOff s r.val) (inb i1 i2 i3)
    (p : S1x1x1x32x2x1024.Idx → Elt F .bf16)
    (hp : p = rowA0 (k0_pay2 W (v.readAt (Elt F) (Rect.unit (s := S64x16x2x1024) ![0, n, 0, 0] S64x1x2x1024.size i1).toLoadRect g))
      (vc.readAt (Elt F) (Rect.unit (s := S32x64x128) ![m, 0, 0] S1x64x128.size i2).toLoadRect gc)
      (vd.readAt (Elt F) (Rect.unit (s := S32x64x128) ![m, 0, 0] S1x64x128.size i3).toLoadRect gd)) :
    ∀ x, p x = slotA W (v.read (Elt F) g) (vc.read (Elt F) gc) (vd.read (Elt F) gd) ((Rect.unit (s := S2x1x32x32x2x1024) off S1x1x1x32x2x1024.size inb).emb x) := fun x => by
  rw [hp, slab_read v g j n hn, trow_read vc gc r m hm, trow_read vd gd r m hm]
  exact row_slotA s r j (by omega) 0 (by omega) W _ _ _ off ho inb x
theorem piece_odd (s : Fin 2) (j : Fin 16) (r : Fin 32) (n m : ℕ) (hr : r.val = 2 * j.val + 1) (hn : n = j.val) (hm : m = r.val) (off) (ho : off = orOff s r.val) (inb i1 i2 i3)
    (p : S1x1x1x32x2x1024.Idx → Elt F .bf16)
    (hp : p = rowA1 (k0_pay2 W (v.readAt (Elt F) (Rect.unit (s := S64x16x2x1024) ![0, n, 0, 0] S64x1x2x1024.size i1).toLoadRect g))
      (vc.readAt (Elt F) (Rect.unit (s := S32x64x128) ![m, 0, 0] S1x64x128.size i2).toLoadRect gc)
      (vd.readAt (Elt F) (Rect.unit (s := S32x64x128) ![m, 0, 0] S1x64x128.size i3).toLoadRect gd)) :
    ∀ x, p x = slotA W (v.read (Elt F) g) (vc.read (Elt F) gc) (vd.read (Elt F) gd) ((Rect.unit (s := S2x1x32x32x2x1024) off S1x1x1x32x2x1024.size inb).emb x) := fun x => by
  rw [hp, slab_read v g j n hn, trow_read vc gc r m hm, trow_read vd gd r m hm]
  exact row_slotA s r j (by omega) 1 (by omega) W _ _ _ off ho inb x
end Piece

/-- The rows below `n` of slot `s` are among the pieces. -/
def Cov (s : Fin 2) (n : ℕ) (L : List (View.Piece (Elt F) S2x1x32x32x2x1024 .bf16)) : Prop :=
  ∀ y0 y1 : Fin 32, ∀ (y2 : Fin 2) (y3 : Fin 1024), y0.val < n → ∃ p ∈ L, ixSlot s y0 y1 y2 y3 ∈ p.1.set
theorem cov_zero (s : Fin 2) (L : List (View.Piece (Elt F) S2x1x32x32x2x1024 .bf16)) : Cov s 0 L := fun _ _ _ _ h => absurd h (Nat.not_lt_zero _)
theorem cov_succ (s : Fin 2) (n : ℕ) (L : List (View.Piece (Elt F) S2x1x32x32x2x1024 .bf16)) (off) (ho : off = orOff s n) (inb) (p)
    (h : Cov s n L) : Cov s (n + 1) (⟨Rect.unit (s := S2x1x32x32x2x1024) off S1x1x1x32x2x1024.size inb, p⟩ :: L) := fun y0 y1 y2 y3 hy => by
  by_cases e : y0.val = n
  · refine ⟨_, List.mem_cons_self, ?_⟩
    subst ho
    show ixSlot s y0 y1 y2 y3 ∈ (Rect.unit (s := S2x1x32x32x2x1024) (orOff s n) S1x1x1x32x2x1024.size inb).set
    rw [Rect.mem_set_unit]
    intro a
    match a with
    | ⟨0, _⟩ => exact ⟨le_refl _, Nat.lt_succ_self _⟩
    | ⟨1, _⟩ => exact ⟨le_refl _, Nat.lt_succ_self _⟩
    | ⟨2, _⟩ => exact ⟨(show n ≤ y0.val by omega), (show y0.val < n + 1 by omega)⟩
    | ⟨3, _⟩ => exact ⟨Nat.zero_le _, lt_of_lt_of_eq y1.isLt (Nat.zero_add _).symm⟩
    | ⟨4, _⟩ => exact ⟨Nat.zero_le _, lt_of_lt_of_eq y2.isLt (Nat.zero_add _).symm⟩
    | ⟨5, _⟩ => exact ⟨Nat.zero_le _, lt_of_lt_of_eq y3.isLt (Nat.zero_add _).symm⟩
  · obtain ⟨q, hq, hm⟩ := h y0 y1 y2 y3 (by omega)
    exact ⟨q, List.mem_cons_of_mem _ hq, hm⟩

/-! ## A landed block, and a finished slot, under the computation's names -/

section Slots
variable (c : Dev nD) (XA : Buf (Elt F) (xM.view.loc (c : Thread nD τ))) (CA : Buf (Elt F) (cM.view.loc (c : Thread nD τ)))
  (DA : Buf (Elt F) (dM.view.loc (c : Thread nD τ)))

/-- Block `b` of the words, and of each table, as the computation reads it. -/
def xval (b : Fin 16) : S64x16x2x1024.Idx → Elt F .bf16 := fun y =>
  (xblk b).view.read (Elt F) XA (ix5 (n0 := 1) (n1 := 64) (n2 := 16) (n3 := 2) (n4 := 1024) 0 (y 0) (y 1) (y 2) (y 3))
def cval (b : Fin 4) : S32x64x128.Idx → Elt F .f32 := (cblk b).view.read (Elt F) CA
def dval (b : Fin 4) : S32x64x128.Idx → Elt F .f32 := (dblk b).view.read (Elt F) DA

theorem read_xcv (s : Fin 3) (g : Buf (Elt F) ((xslot s).view.loc (c : Thread nD τ))) (y : S64x16x2x1024.Idx) :
    (xcv s).view.read (Elt F) g y = (xslot s).view.read (Elt F) g (ix5 (n0 := 1) (n1 := 64) (n2 := 16) (n3 := 2) (n4 := 1024) 0 (y 0) (y 1) (y 2) (y 3)) := by
  refine (read_reshape' _ _ _ _).trans ((read_slice' _ _ _ _).trans ?_)
  refine congrArg ((xslot s).view.read (Elt F) g) ?_
  rw [Shape.reshapeEquiv_cons_one (n := 4) (d := ![64, 16, 2, 1024])]
  funext a
  match a with
  | ⟨0, _⟩ => rfl
  | ⟨1, _⟩ => exact Fin.ext (by show 0 + 1 * (y 0).val = (y 0).val; omega)
  | ⟨2, _⟩ => exact Fin.ext (by show 0 + 1 * (y 1).val = (y 1).val; omega)
  | ⟨3, _⟩ => exact Fin.ext (by show 0 + 1 * (y 2).val = (y 2).val; omega)
  | ⟨4, _⟩ => exact Fin.ext (by show 0 + 1 * (y 3).val = (y 3).val; omega)

theorem read_oslot (s : Fin 2) (g : Buf (Elt F) (oB.view.loc (c : Thread nD τ))) (y0 y1 : Fin 32) (y2 : Fin 2) (y3 : Fin 1024) :
    (oslot s).view.read (Elt F) g (ix5 (n0 := 1) (n1 := 32) (n2 := 32) (n3 := 2) (n4 := 1024) 0 y0 y1 y2 y3) = oB.view.read (Elt F) g (ixSlot s y0 y1 y2 y3) := by
  refine (read_reshape' _ _ _ _).trans ((read_slice' _ _ _ _).trans ?_)
  refine congrArg (oB.view.read (Elt F) g) ?_
  rw [Shape.reshapeEquiv_cons_one (n := 5) (d := ![1, 32, 32, 2, 1024])]
  funext a
  match a with
  | ⟨0, _⟩ => exact Fin.ext (by show s.val + 1 * 0 = s.val; omega)
  | ⟨1, _⟩ => rfl
  | ⟨2, _⟩ => exact Fin.ext (by show 0 + 1 * y0.val = y0.val; omega)
  | ⟨3, _⟩ => exact Fin.ext (by show 0 + 1 * y1.val = y1.val; omega)
  | ⟨4, _⟩ => exact Fin.ext (by show 0 + 1 * y2.val = y2.val; omega)
  | ⟨5, _⟩ => exact Fin.ext (by show 0 + 1 * y3.val = y3.val; omega)

theorem landed_in (s : Fin 3) (b : Fin 16) (f) :
    (xslotP c s (xlanded c XA s b f) : sProp 𝕄) ⊢ iprop(∃ g, xcvP c s g ∗ ⌜(xcv s).view.read (Elt F) g = xval c XA b⌝) := by
  iintro H
  iexists (xlanded c XA s b f)
  isplitl [H]
  · iapply (Entails.of_eq (xcvP_eq c s _)); iexact H
  · ipureintro
    funext y
    rw [read_xcv, View.read_writes_whole]
    rfl
theorem landed_out (s : Fin 3) (g : Buf (Elt F) ((xcv s).view.loc (c : Thread nD τ))) :
    (xcvP c s g : sProp 𝕄) ⊢ iprop(∃ f, xslotP c s f) := by
  iintro H
  iexists g
  iapply (Entails.of_eq (xcvP_eq c s g).symm); iexact H
theorem clanded_in (s : Fin 2) (b : Fin 4) (f) :
    (cslotP c s (clanded c CA s b f) : sProp 𝕄) ⊢ iprop(∃ g, cslotP c s g ∗ ⌜(cslot s).view.read (Elt F) g = cval c CA b⌝) := by
  iintro H
  iexists (clanded c CA s b f)
  isplitl [H]; · iexact H
  ipureintro; rw [View.read_writes_whole]; rfl
theorem dlanded_in (s : Fin 2) (b : Fin 4) (f) :
    (dslotP c s (dlanded c DA s b f) : sProp 𝕄) ⊢ iprop(∃ g, dslotP c s g ∗ ⌜(dslot s).view.read (Elt F) g = dval c DA b⌝) := by
  iintro H
  iexists (dlanded c DA s b f)
  isplitl [H]; · iexact H
  ipureintro; rw [View.read_writes_whole]; rfl

/-- A result slot holding the block computed. -/
def Holds (s : Fin 2) (g : Buf (Elt F) ((oslot s).view.loc (c : Thread nD τ))) (G : Fin 32 → Fin 32 → Fin 2 → Fin 1024 → Elt F .bf16) : Prop :=
  ∀ y0 y1 y2 y3, (oslot s).view.read (Elt F) g (ix5 (n0 := 1) (n1 := 32) (n2 := 32) (n3 := 2) (n4 := 1024) 0 y0 y1 y2 y3) = G y0 y1 y2 y3

theorem done_out (s : Fin 2) (Y : Buf (Elt F) (oB.view.loc (c : Thread nD τ))) (W : Vec F S256x256 .bf16) (X : S64x16x2x1024.Idx → Elt F .bf16)
    (C D : S32x64x128.Idx → Elt F .f32)
    (h : ∃ f L, Y = oB.view.writes (Elt F) f L ∧ Cov s 32 L ∧ ∀ p ∈ L, ∀ x : p.1.shape.Idx, p.2 x = slotA W X C D (p.1.emb x)) :
    (orectP c s Y : sProp 𝕄) ⊢ iprop(∃ f, oslotP c s f ∗ ⌜Holds c s f (blkA W X C D)⌝) := by
  obtain ⟨f, L, rfl, hc, hL⟩ := h
  iintro H
  iexists (oB.view.writes (Elt F) f L)
  isplitl [H]
  · iapply (Entails.of_eq (orectP_eq c s _).symm); iexact H
  · ipureintro
    intro y0 y1 y2 y3
    rw [read_oslot c, View.read_writes_apply_of_pieces _ _ (slotA W X C D) L hL _ (hc y0 y1 y2 y3 y0.isLt)]
    rfl

end Slots

end Cert.Proof.FftA
end
end
-- ==== Proof.FftATrip.lean ====
/- One trip of the first stage, in each of its four roles. -/
module

public import proofs.«01_k».proof.Proof.FftAVal

@[expose] public section

noncomputable section

namespace Cert.Proof.FftA

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Cert.Proof.FftB (UU EP 𝒱₀ semOff whole_slice)
local notation "𝕄" => MT nD τ sig Unit (Elt F) ℕ (UU nD τ) ℕ
open Idealize.ShloMosaic.ValueIdx

section Trip
variable (c : Dev nD) (XA : Buf (Elt F) (xM.view.loc (c : Thread nD τ))) (CA : Buf (Elt F) (cM.view.loc (c : Thread nD τ)))
  (DA : Buf (Elt F) (dM.view.loc (c : Thread nD τ)))
  (arg1 : Memref sig .tc .vmem S256x256 .bf16) (harg1 : arg1.IsWhole)
  (v18 v19 v46 v53 : BitVec 32)

abbrev tripG (k : Fin k0_t1_loop.trips) (acc : BitVec 32 × BitVec 32 × BitVec 32 × BitVec 32 × BitVec 32 × BitVec 32 × BitVec 32 × BitVec 32 × BitVec 32 × BitVec 32) :=
  k0_t1_body (F := F) xM (Memref.isWhole_whole _) arg1 harg1 cM (Memref.isWhole_whole _) dM (Memref.isWhole_whole _) oM (Memref.isWhole_whole _)
    xB (Memref.isWhole_whole _) cc0_scoped1 cB (Memref.isWhole_whole _) cc0_scoped3 dB (Memref.isWhole_whole _) cc0_scoped5 oB (Memref.isWhole_whole _) cc0_scoped7 v18 v19 v46 v53 k acc

/-- The carried counters before trip `k`. -/
abbrev accAt (k : ℕ) : BitVec 32 × BitVec 32 × BitVec 32 × BitVec 32 × BitVec 32 × BitVec 32 × BitVec 32 × BitVec 32 × BitVec 32 × BitVec 32 :=
  (a6 k, a7 k, a8 k, a9 k, a10 k, a11 k, a12 k, a13 k, a14 k, a15 k)
/-- The table held in its staging buffer. -/
abbrev tabP (W : Buf (Elt F) (arg1.view.loc (c : Thread nD τ))) : sProp 𝕄 := arg1.view.loc (c : Thread nD τ) ↦[arg1.view.set]{fullShare} W
/-- The table as the trip loads it. -/
abbrev tabV (W : Buf (Elt F) (arg1.view.loc (c : Thread nD τ))) : Vec F S256x256 .bf16 :=
  arg1.view.readAt (Elt F) (Rect.unit (s := S256x256) ![0, 0] S256x256.size inb_S256x256_S256x256_0_0).toLoadRect W
/-- Block `k` as trip `k` computes it. -/
abbrev blkV (W : Buf (Elt F) (arg1.view.loc (c : Thread nD τ))) (b : Fin 16) : Fin 32 → Fin 32 → Fin 2 → Fin 1024 → Elt F .bf16 :=
  blkA (tabV c arg1 W) (xval c XA b) (cval c CA (Ring.bk 4 b.val)) (dval c DA (Ring.bk 4 b.val))
/-- Block `b` of the result on its way out of slot `s`, the slot holding the block computed. -/
abbrev oDone (W : Buf (Elt F) (arg1.view.loc (c : Thread nD τ))) (s : Fin 2) (b : Fin 16) : sProp 𝕄 :=
  iprop(∃ f g, oflight c s b f g ∗ ⌜Holds c s g (blkV c XA CA DA arg1 W b)⌝)
/-- Block `b` of the result back home. -/
abbrev oBack (W : Buf (Elt F) (arg1.view.loc (c : Thread nD τ))) (b : Fin 16) : sProp 𝕄 :=
  iprop(∃ s f g, ohome c b (olanded c b s f g) ∗ ⌜Holds c s g (blkV c XA CA DA arg1 W b)⌝)

variable (W : Buf (Elt F) (arg1.view.loc (c : Thread nD τ)))
/-- A block of each table on its way in, an idle slot with the block it is to take, and a block back home. -/
abbrev tabsIn (s : Fin 2) (b : Fin 4) : sProp 𝕄 := iprop((∃ f, cflight c CA s b f) ∗ (∃ f, dflight c DA s b f))
abbrev tabsNext (s : Fin 2) (b : Fin 4) : sProp 𝕄 := iprop((chome c CA b ∗ ccell c s ∗ ∃ f, cslotP c s f) ∗ (dhome c DA b ∗ dcell c s ∗ ∃ f, dslotP c s f))
abbrev tabsBack (s : Fin 2) (b : Fin 4) : sProp 𝕄 := tabsNext c CA DA s b

/-- What the tables' rings give a trip and take back from it: with a block read ahead, and at the last trip without. -/
abbrev T1 (k : ℕ) : sProp 𝕄 := iprop(tabP c arg1 W ∗ tabsIn c CA DA (Ring.sl 2 k) (Ring.bk 4 k) ∗ tabsNext c CA DA (Ring.sl 2 (k + 1)) (Ring.bk 4 (k + 1)))
abbrev T1' (k : ℕ) : sProp 𝕄 := iprop(tabP c arg1 W ∗ tabsBack c CA DA (Ring.sl 2 k) (Ring.bk 4 k) ∗ tabsIn c CA DA (Ring.sl 2 (k + 1)) (Ring.bk 4 (k + 1)))
abbrev T0 (k : ℕ) : sProp 𝕄 := iprop(tabP c arg1 W ∗ tabsIn c CA DA (Ring.sl 2 k) (Ring.bk 4 k))
abbrev T0' (k : ℕ) : sProp 𝕄 := iprop(tabP c arg1 W ∗ tabsBack c CA DA (Ring.sl 2 k) (Ring.bk 4 k))

/-- What every trip starts from and ends in, apart from the reads ahead and the write behind. -/
abbrev base (T : sProp 𝕄) (k : ℕ) : sProp 𝕄 :=
  iprop((∃ f, xflight c XA (Ring.sl 3 k) (Ring.bk 16 k) f) ∗ T ∗ (∃ f, oslotP c (Ring.sl 2 k) f) ∗ ocell c (Ring.sl 2 k) ∗ (∃ f, ohome c (Ring.bk 16 k) f) ∗ (∃ Wt, owes (c : Thread nD τ) 0 Wt))
abbrev done (T : sProp 𝕄) (k : ℕ) : sProp 𝕄 :=
  iprop(xhome c XA (Ring.bk 16 k) ∗ (∃ f, xslotP c (Ring.sl 3 k) f) ∗ xcell c (Ring.sl 3 k) ∗ T ∗ oDone c XA CA DA arg1 W (Ring.sl 2 k) (Ring.bk 16 k) ∗ (∃ Wt, owes (c : Thread nD τ) 0 Wt))
/-- The read ahead: what issuing it takes, and what it leaves. -/
abbrev readIn (k : ℕ) : sProp 𝕄 := iprop(xhome c XA (Ring.bk 16 (k + 2)) ∗ xcell c (Ring.sl 3 (k + 2)) ∗ ∃ f, xslotP c (Ring.sl 3 (k + 2)) f)
abbrev readOut (k : ℕ) : sProp 𝕄 := iprop(∃ f, xflight c XA (Ring.sl 3 (k + 2)) (Ring.bk 16 (k + 2)) f)
/-- The write behind: what waiting for it takes, and what it gives back. -/
abbrev writeIn (k : ℕ) : sProp 𝕄 := oDone c XA CA DA arg1 W (Ring.sl 2 (k - 1)) (Ring.bk 16 (k - 1))
abbrev writeOut (k : ℕ) : sProp 𝕄 :=
  iprop(oBack c XA CA DA arg1 W (Ring.bk 16 (k - 1)) ∗ (∃ f, oslotP c (Ring.sl 2 (k - 1)) f) ∗ ocell c (Ring.sl 2 (k - 1)))

theorem inbOf {s : Fin 2} {r : ℕ} {off : Fin S2x1x32x32x2x1024.rank → ℕ} (ho : off = orOff s r) (hr : r < 32) :
    ∀ a : Fin S2x1x32x32x2x1024.rank, off a + S1x1x1x32x2x1024.size a ≤ S2x1x32x32x2x1024.size a := by
  subst ho
  intro a
  have hs := s.isLt
  match a with
  | ⟨0, _⟩ => show s.val + 1 ≤ 2; omega
  | ⟨1, _⟩ => show 0 + 1 ≤ 1; omega
  | ⟨2, _⟩ => show r + 1 ≤ 32; omega
  | ⟨3, _⟩ => show 0 + 32 ≤ 32; omega
  | ⟨4, _⟩ => show 0 + 2 ≤ 2; omega
  | ⟨5, _⟩ => show 0 + 1024 ≤ 1024; omega
instance decFive : DecidableEq (BitVec 32 × BitVec 32 × BitVec 32 × BitVec 32 × BitVec 32) := inferInstance
instance decTen : DecidableEq (BitVec 32 × BitVec 32 × BitVec 32 × BitVec 32 × BitVec 32 × BitVec 32 × BitVec 32 × BitVec 32 × BitVec 32 × BitVec 32) :=
  @instDecidableEqProd _ _ inferInstance (@instDecidableEqProd _ _ inferInstance (@instDecidableEqProd _ _ inferInstance
    (@instDecidableEqProd _ _ inferInstance (@instDecidableEqProd _ _ inferInstance decFive))))
theorem all_eq {α : Type} [DecidableEq α] {n : ℕ} (f g : Fin n → α) (h : decide (∀ k, f k = g k) = true) : ∀ k, f k = g k := of_decide_eq_true h
theorem bk4_eq (k : ℕ) (hk : k < 16) : Ring.bk 4 (Ring.bk 16 k).val = Ring.bk 4 k := by
  rw [Ring.bk_val hk]

set_option maxHeartbeats 8000000 in
set_option sl_exec.respelt true in
/-- A trip that reads ahead and waits for the write behind. -/
theorem trip_mid (k : Fin k0_t1_loop.trips) (h1 : 1 ≤ k.val) (h2 : k.val + 2 < 16) :
    iprop(base c XA (T1 c CA DA arg1 W k) k ∗ readIn c XA k ∗ writeIn c XA CA DA arg1 W k)
      ⊢ (wp frame (wpE (defs₀ (F := F)) 𝒱₀ (c : Thread nD τ) none) Set.univ (tripG arg1 harg1 v18 v19 v46 v53 k (accAt k.val))
        (fun acc => iprop(⌜acc = accAt (k.val + 1)⌝ ∗ done c XA CA DA arg1 W (T1' c CA DA arg1 W k) k ∗ readOut c XA k ∗ writeOut c XA CA DA arg1 W k)) : sProp 𝕄) := by
  have hc1 := chk1 k; have hc2 := chk2 k; have hc3 := chk3 k; have hc4 := chk4 k; have hc5 := chk5 k
  have hd5 := cond5_t k; have hd6 := cond6_t k; have hd7 := cond7_t k; have hd12 := cond12_t k
  have h3 : k.val + 1 < 16 := by omega
  have hd2 := cond2_t k h2; have hd3 := cond3_t k h3; have hd4 := cond4_t k h3; have hd16 := cond16_t k h1
  iintro ⟨⟨⟨%fx, HFx⟩, ⟨HW, ⟨⟨%fc, HFc⟩, ⟨%fd, HFd⟩⟩, ⟨HCh, HCc, ⟨%fcn, HSc⟩⟩, ⟨HDh, HCd, ⟨%fdn, HSd⟩⟩⟩, ⟨%fo, HSo⟩, HCo, ⟨%f, HO⟩, ⟨%Wt, HOw⟩⟩, ⟨HX, HCx, ⟨%fn, HSx⟩⟩, ⟨%fp, %gp, HFo, %hgp⟩⟩
  dsimp only [tripG]
  sl_unfold [k0_t1_body]
  sl_exec
  ihave HXL := (landed_in c XA (Ring.sl 3 k.val) (Ring.bk 16 k.val) _) $$ HFx_dst
  icases HXL with ⟨%gx, HXS, %hgx⟩
  ihave HCL := (clanded_in c CA (Ring.sl 2 k.val) (Ring.bk 4 k.val) _) $$ HFc_dst
  icases HCL with ⟨%gc, HCS, %hgc⟩
  ihave HDL := (dlanded_in c DA (Ring.sl 2 k.val) (Ring.bk 4 k.val) _) $$ HFd_dst
  icases HDL with ⟨%gd, HDS, %hgd⟩
  ihave HOS := (Entails.of_eq (orectP_eq c (Ring.sl 2 k.val) _)) $$ HSo
  sl_exec
  ihave HXO := (landed_out c (Ring.sl 3 k.val) _) $$ HXS
  ihave HOD := (done_out c (Ring.sl 2 k.val) _ (tabV c arg1 W) ((xcv (Ring.sl 3 k.val)).view.read (Elt F) gx)
    ((cslot (Ring.sl 2 k.val)).view.read (Elt F) gc) ((dslot (Ring.sl 2 k.val)).view.read (Elt F) gd) ?val) $$ HOS
  case val =>
    refine ⟨_, _, rfl, ?_, ?_⟩ <;> sl_unfold_run_names
    · refine cov_succ _ 31 _ _ (off64_eq k) _ _ ?_
      refine cov_succ _ 30 _ _ (off63_eq k) _ _ ?_
      refine cov_succ _ 29 _ _ (off62_eq k) _ _ ?_
      refine cov_succ _ 28 _ _ (off61_eq k) _ _ ?_
      refine cov_succ _ 27 _ _ (off60_eq k) _ _ ?_
      refine cov_succ _ 26 _ _ (off59_eq k) _ _ ?_
      refine cov_succ _ 25 _ _ (off58_eq k) _ _ ?_
      refine cov_succ _ 24 _ _ (off57_eq k) _ _ ?_
      refine cov_succ _ 23 _ _ (off56_eq k) _ _ ?_
      refine cov_succ _ 22 _ _ (off55_eq k) _ _ ?_
      refine cov_succ _ 21 _ _ (off54_eq k) _ _ ?_
      refine cov_succ _ 20 _ _ (off53_eq k) _ _ ?_
      refine cov_succ _ 19 _ _ (off52_eq k) _ _ ?_
      refine cov_succ _ 18 _ _ (off51_eq k) _ _ ?_
      refine cov_succ _ 17 _ _ (off50_eq k) _ _ ?_
      refine cov_succ _ 16 _ _ (off49_eq k) _ _ ?_
      refine cov_succ _ 15 _ _ (off48_eq k) _ _ ?_
      refine cov_succ _ 14 _ _ (off47_eq k) _ _ ?_
      refine cov_succ _ 13 _ _ (off46_eq k) _ _ ?_
      refine cov_succ _ 12 _ _ (off45_eq k) _ _ ?_
      refine cov_succ _ 11 _ _ (off44_eq k) _ _ ?_
      refine cov_succ _ 10 _ _ (off43_eq k) _ _ ?_
      refine cov_succ _ 9 _ _ (off42_eq k) _ _ ?_
      refine cov_succ _ 8 _ _ (off41_eq k) _ _ ?_
      refine cov_succ _ 7 _ _ (off40_eq k) _ _ ?_
      refine cov_succ _ 6 _ _ (off39_eq k) _ _ ?_
      refine cov_succ _ 5 _ _ (off38_eq k) _ _ ?_
      refine cov_succ _ 4 _ _ (off37_eq k) _ _ ?_
      refine cov_succ _ 3 _ _ (off36_eq k) _ _ ?_
      refine cov_succ _ 2 _ _ (off35_eq k) _ _ ?_
      refine cov_succ _ 1 _ _ (off33_eq k) _ _ ?_
      refine cov_succ _ 0 _ _ (off30_eq k) _ _ ?_
      exact cov_zero _ _
    · refine List.forall_mem_cons.2 ⟨piece_odd (xcv (Ring.sl 3 k.val)).view gx (cslot (Ring.sl 2 k.val)).view gc (dslot (Ring.sl 2 k.val)).view gd (tabV c arg1 W) (Ring.sl 2 k.val) 15 31 15 31 rfl rfl rfl _ (off64_eq k) (inbOf (off64_eq k) (by decide)) inb_S64x16x2x1024_S64x1x2x1024_0_15_0_0 inb_S32x64x128_S1x64x128_31_0_0 inb_S32x64x128_S1x64x128_31_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 15 30 15 30 rfl rfl rfl _ (off63_eq k) (inbOf (off63_eq k) (by decide)) inb_S64x16x2x1024_S64x1x2x1024_0_15_0_0 inb_S32x64x128_S1x64x128_30_0_0 inb_S32x64x128_S1x64x128_30_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 14 29 14 29 rfl rfl rfl _ (off62_eq k) (inbOf (off62_eq k) (by decide)) inb_S64x16x2x1024_S64x1x2x1024_0_14_0_0 inb_S32x64x128_S1x64x128_29_0_0 inb_S32x64x128_S1x64x128_29_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 14 28 14 28 rfl rfl rfl _ (off61_eq k) (inbOf (off61_eq k) (by decide)) inb_S64x16x2x1024_S64x1x2x1024_0_14_0_0 inb_S32x64x128_S1x64x128_28_0_0 inb_S32x64x128_S1x64x128_28_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 13 27 13 27 rfl rfl rfl _ (off60_eq k) (inbOf (off60_eq k) (by decide)) inb_S64x16x2x1024_S64x1x2x1024_0_13_0_0 inb_S32x64x128_S1x64x128_27_0_0 inb_S32x64x128_S1x64x128_27_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 13 26 13 26 rfl rfl rfl _ (off59_eq k) (inbOf (off59_eq k) (by decide)) inb_S64x16x2x1024_S64x1x2x1024_0_13_0_0 inb_S32x64x128_S1x64x128_26_0_0 inb_S32x64x128_S1x64x128_26_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 12 25 12 25 rfl rfl rfl _ (off58_eq k) (inbOf (off58_eq k) (by decide)) inb_S64x16x2x1024_S64x1x2x1024_0_12_0_0 inb_S32x64x128_S1x64x128_25_0_0 inb_S32x64x128_S1x64x128_25_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 12 24 12 24 rfl rfl rfl _ (off57_eq k) (inbOf (off57_eq k) (by decide)) inb_S64x16x2x1024_S64x1x2x1024_0_12_0_0 inb_S32x64x128_S1x64x128_24_0_0 inb_S32x64x128_S1x64x128_24_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 11 23 11 23 rfl rfl rfl _ (off56_eq k) (inbOf (off56_eq k) (by decide)) inb_S64x16x2x1024_S64x1x2x1024_0_11_0_0 inb_S32x64x128_S1x64x128_23_0_0 inb_S32x64x128_S1x64x128_23_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 11 22 11 22 rfl rfl rfl _ (off55_eq k) (inbOf (off55_eq k) (by decide)) inb_S64x16x2x1024_S64x1x2x1024_0_11_0_0 inb_S32x64x128_S1x64x128_22_0_0 inb_S32x64x128_S1x64x128_22_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 10 21 10 21 rfl rfl rfl _ (off54_eq k) (inbOf (off54_eq k) (by decide)) inb_S64x16x2x1024_S64x1x2x1024_0_10_0_0 inb_S32x64x128_S1x64x128_21_0_0 inb_S32x64x128_S1x64x128_21_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 10 20 10 20 rfl rfl rfl _ (off53_eq k) (inbOf (off53_eq k) (by decide)) inb_S64x16x2x1024_S64x1x2x1024_0_10_0_0 inb_S32x64x128_S1x64x128_20_0_0 inb_S32x64x128_S1x64x128_20_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 9 19 9 19 rfl rfl rfl _ (off52_eq k) (inbOf (off52_eq k) (by decide)) inb_S64x16x2x1024_S64x1x2x1024_0_9_0_0 inb_S32x64x128_S1x64x128_19_0_0 inb_S32x64x128_S1x64x128_19_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 9 18 9 18 rfl rfl rfl _ (off51_eq k) (inbOf (off51_eq k) (by decide)) inb_S64x16x2x1024_S64x1x2x1024_0_9_0_0 inb_S32x64x128_S1x64x128_18_0_0 inb_S32x64x128_S1x64x128_18_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 8 17 8 17 rfl rfl rfl _ (off50_eq k) (inbOf (off50_eq k) (by decide)) inb_S64x16x2x1024_S64x1x2x1024_0_8_0_0 inb_S32x64x128_S1x64x128_17_0_0 inb_S32x64x128_S1x64x128_17_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 8 16 8 16 rfl rfl rfl _ (off49_eq k) (inbOf (off49_eq k) (by decide)) inb_S64x16x2x1024_S64x1x2x1024_0_8_0_0 inb_S32x64x128_S1x64x128_16_0_0 inb_S32x64x128_S1x64x128_16_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 7 15 7 15 rfl rfl rfl _ (off48_eq k) (inbOf (off48_eq k) (by decide)) inb_S64x16x2x1024_S64x1x2x1024_0_7_0_0 inb_S32x64x128_S1x64x128_15_0_0 inb_S32x64x128_S1x64x128_15_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 7 14 7 14 rfl rfl rfl _ (off47_eq k) (inbOf (off47_eq k) (by decide)) inb_S64x16x2x1024_S64x1x2x1024_0_7_0_0 inb_S32x64x128_S1x64x128_14_0_0 inb_S32x64x128_S1x64x128_14_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 6 13 6 13 rfl rfl rfl _ (off46_eq k) (inbOf (off46_eq k) (by decide)) inb_S64x16x2x1024_S64x1x2x1024_0_6_0_0 inb_S32x64x128_S1x64x128_13_0_0 inb_S32x64x128_S1x64x128_13_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 6 12 6 12 rfl rfl rfl _ (off45_eq k) (inbOf (off45_eq k) (by decide)) inb_S64x16x2x1024_S64x1x2x1024_0_6_0_0 inb_S32x64x128_S1x64x128_12_0_0 inb_S32x64x128_S1x64x128_12_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 5 11 5 11 rfl rfl rfl _ (off44_eq k) (inbOf (off44_eq k) (by decide)) inb_S64x16x2x1024_S64x1x2x1024_0_5_0_0 inb_S32x64x128_S1x64x128_11_0_0 inb_S32x64x128_S1x64x128_11_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 5 10 5 10 rfl rfl rfl _ (off43_eq k) (inbOf (off43_eq k) (by decide)) inb_S64x16x2x1024_S64x1x2x1024_0_5_0_0 inb_S32x64x128_S1x64x128_10_0_0 inb_S32x64x128_S1x64x128_10_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 4 9 4 9 rfl rfl rfl _ (off42_eq k) (inbOf (off42_eq k) (by decide)) inb_S64x16x2x1024_S64x1x2x1024_0_4_0_0 inb_S32x64x128_S1x64x128_9_0_0 inb_S32x64x128_S1x64x128_9_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 4 8 4 8 rfl rfl rfl _ (off41_eq k) (inbOf (off41_eq k) (by decide)) inb_S64x16x2x1024_S64x1x2x1024_0_4_0_0 inb_S32x64x128_S1x64x128_8_0_0 inb_S32x64x128_S1x64x128_8_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 3 7 3 7 rfl rfl rfl _ (off40_eq k) (inbOf (off40_eq k) (by decide)) inb_S64x16x2x1024_S64x1x2x1024_0_3_0_0 inb_S32x64x128_S1x64x128_7_0_0 inb_S32x64x128_S1x64x128_7_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 3 6 3 6 rfl rfl rfl _ (off39_eq k) (inbOf (off39_eq k) (by decide)) inb_S64x16x2x1024_S64x1x2x1024_0_3_0_0 inb_S32x64x128_S1x64x128_6_0_0 inb_S32x64x128_S1x64x128_6_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 2 5 2 5 rfl rfl rfl _ (off38_eq k) (inbOf (off38_eq k) (by decide)) inb_S64x16x2x1024_S64x1x2x1024_0_2_0_0 inb_S32x64x128_S1x64x128_5_0_0 inb_S32x64x128_S1x64x128_5_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 2 4 2 4 rfl rfl rfl _ (off37_eq k) (inbOf (off37_eq k) (by decide)) inb_S64x16x2x1024_S64x1x2x1024_0_2_0_0 inb_S32x64x128_S1x64x128_4_0_0 inb_S32x64x128_S1x64x128_4_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 1 3 1 3 rfl rfl rfl _ (off36_eq k) (inbOf (off36_eq k) (by decide)) inb_S64x16x2x1024_S64x1x2x1024_0_1_0_0 inb_S32x64x128_S1x64x128_3_0_0 inb_S32x64x128_S1x64x128_3_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 1 2 1 2 rfl rfl rfl _ (off35_eq k) (inbOf (off35_eq k) (by decide)) inb_S64x16x2x1024_S64x1x2x1024_0_1_0_0 inb_S32x64x128_S1x64x128_2_0_0 inb_S32x64x128_S1x64x128_2_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 0 1 0 1 rfl rfl rfl _ (off33_eq k) (inbOf (off33_eq k) (by decide)) inb_S64x16x2x1024_S64x1x2x1024_0_0_0_0 inb_S32x64x128_S1x64x128_1_0_0 inb_S32x64x128_S1x64x128_1_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 0 0 0 0 rfl rfl rfl _ (off30_eq k) (inbOf (off30_eq k) (by decide)) inb_S64x16x2x1024_S64x1x2x1024_0_0_0_0 inb_S32x64x128_S1x64x128_0_0_0 inb_S32x64x128_S1x64x128_0_0_0 _ rfl, ?_⟩
      exact fun _ h => absurd h List.not_mem_nil
  icases HOD with ⟨%go, HSo2, %hgo⟩
  rw [hgx, hgc, hgd] at hgo
  sl_exec
  sl_step
  isplitr
  · ipureintro
    sl_unfold_run_names
    clear * - k
    revert k
    unfold accAt a6 a7 a8 a9 a10 a11 a12 a13 a14 a15
    exact all_eq _ _ (by decide +kernel)
  isplitl [HFx_src HXO HFx HW HCo HOw HFc_src HCS HFc HFd_src HDS HFd HCc HCd]
  · isplitl [HFx_src]; · iexact HFx_src
    isplitl [HXO]; · iexact HXO
    isplitl [HFx]; · iexact HFx
    isplitl [HW HFc_src HCS HFc HFd_src HDS HFd HCc HCd]
    · isplitl [HW]; · iexact HW
      isplitl [HFc_src HCS HFc HFd_src HDS HFd]
      · isplitl [HFc_src HCS HFc]
        · isplitl [HFc_src]; · iexact HFc_src
          isplitl [HFc]; · iexact HFc
          iexists gc; iexact HCS
        isplitl [HFd_src]; · iexact HFd_src
        isplitl [HFd]; · iexact HFd
        iexists gd; iexact HDS
      isplitl [HCc]
      · iexists fcn; iexact HCc
      iexists fdn; iexact HCd
    isplitl [HCo]
    · iexists f; iexists go
      isplitl [HCo]; · iexact HCo
      ipureintro
      rw [show blkV c XA CA DA arg1 W (Ring.bk 16 k.val) = blkA (tabV c arg1 W) (xval c XA (Ring.bk 16 k.val)) (cval c CA (Ring.bk 4 k.val)) (dval c DA (Ring.bk 4 k.val)) from by
        unfold blkV; rw [bk4_eq k.val (lt_of_lt_of_eq k.isLt trips_eq)]]
      exact hgo
    iexists _; iexact HOw
  isplitl [HCx]
  · iexists fn; iexact HCx
  isplitl [HFo_dst]
  · iexists _; iexists fp; iexists gp
    isplitl [HFo_dst]; · iexact HFo_dst
    ipureintro; exact hgp
  isplitl [HFo_src]
  · iexists gp; iexact HFo_src
  iexact HFo

set_option maxHeartbeats 8000000 in
set_option sl_exec.respelt true in
/-- The first trip: it reads ahead, with no write behind to wait for. -/
theorem trip_first (k : Fin k0_t1_loop.trips) (h0 : k.val = 0) :
    iprop(base c XA (T1 c CA DA arg1 W k) k ∗ readIn c XA k)
      ⊢ (wp frame (wpE (defs₀ (F := F)) 𝒱₀ (c : Thread nD τ) none) Set.univ (tripG arg1 harg1 v18 v19 v46 v53 k (accAt k.val))
        (fun acc => iprop(⌜acc = accAt (k.val + 1)⌝ ∗ done c XA CA DA arg1 W (T1' c CA DA arg1 W k) k ∗ readOut c XA k)) : sProp 𝕄) := by
  have hc1 := chk1 k; have hc2 := chk2 k; have hc3 := chk3 k; have hc4 := chk4 k; have hc5 := chk5 k
  have hd5 := cond5_t k; have hd6 := cond6_t k; have hd7 := cond7_t k; have hd12 := cond12_t k
  have h2 : k.val + 2 < 16 := by omega
  have h3 : k.val + 1 < 16 := by omega
  have hd2 := cond2_t k h2; have hd3 := cond3_t k h3; have hd4 := cond4_t k h3; have hd16 := cond16_f k (by omega)
  iintro ⟨⟨⟨%fx, HFx⟩, ⟨HW, ⟨⟨%fc, HFc⟩, ⟨%fd, HFd⟩⟩, ⟨HCh, HCc, ⟨%fcn, HSc⟩⟩, ⟨HDh, HCd, ⟨%fdn, HSd⟩⟩⟩, ⟨%fo, HSo⟩, HCo, ⟨%f, HO⟩, ⟨%Wt, HOw⟩⟩, HX, HCx, ⟨%fn, HSx⟩⟩
  dsimp only [tripG]
  sl_unfold [k0_t1_body]
  sl_exec
  ihave HXL := (landed_in c XA (Ring.sl 3 k.val) (Ring.bk 16 k.val) _) $$ HFx_dst
  icases HXL with ⟨%gx, HXS, %hgx⟩
  ihave HCL := (clanded_in c CA (Ring.sl 2 k.val) (Ring.bk 4 k.val) _) $$ HFc_dst
  icases HCL with ⟨%gc, HCS, %hgc⟩
  ihave HDL := (dlanded_in c DA (Ring.sl 2 k.val) (Ring.bk 4 k.val) _) $$ HFd_dst
  icases HDL with ⟨%gd, HDS, %hgd⟩
  ihave HOS := (Entails.of_eq (orectP_eq c (Ring.sl 2 k.val) _)) $$ HSo
  sl_exec
  ihave HXO := (landed_out c (Ring.sl 3 k.val) _) $$ HXS
  ihave HOD := (done_out c (Ring.sl 2 k.val) _ (tabV c arg1 W) ((xcv (Ring.sl 3 k.val)).view.read (Elt F) gx)
    ((cslot (Ring.sl 2 k.val)).view.read (Elt F) gc) ((dslot (Ring.sl 2 k.val)).view.read (Elt F) gd) ?val) $$ HOS
  case val =>
    refine ⟨_, _, rfl, ?_, ?_⟩ <;> sl_unfold_run_names
    · refine cov_succ _ 31 _ _ (off64_eq k) _ _ ?_
      refine cov_succ _ 30 _ _ (off63_eq k) _ _ ?_
      refine cov_succ _ 29 _ _ (off62_eq k) _ _ ?_
      refine cov_succ _ 28 _ _ (off61_eq k) _ _ ?_
      refine cov_succ _ 27 _ _ (off60_eq k) _ _ ?_
      refine cov_succ _ 26 _ _ (off59_eq k) _ _ ?_
      refine cov_succ _ 25 _ _ (off58_eq k) _ _ ?_
      refine cov_succ _ 24 _ _ (off57_eq k) _ _ ?_
      refine cov_succ _ 23 _ _ (off56_eq k) _ _ ?_
      refine cov_succ _ 22 _ _ (off55_eq k) _ _ ?_
      refine cov_succ _ 21 _ _ (off54_eq k) _ _ ?_
      refine cov_succ _ 20 _ _ (off53_eq k) _ _ ?_
      refine cov_succ _ 19 _ _ (off52_eq k) _ _ ?_
      refine cov_succ _ 18 _ _ (off51_eq k) _ _ ?_
      refine cov_succ _ 17 _ _ (off50_eq k) _ _ ?_
      refine cov_succ _ 16 _ _ (off49_eq k) _ _ ?_
      refine cov_succ _ 15 _ _ (off48_eq k) _ _ ?_
      refine cov_succ _ 14 _ _ (off47_eq k) _ _ ?_
      refine cov_succ _ 13 _ _ (off46_eq k) _ _ ?_
      refine cov_succ _ 12 _ _ (off45_eq k) _ _ ?_
      refine cov_succ _ 11 _ _ (off44_eq k) _ _ ?_
      refine cov_succ _ 10 _ _ (off43_eq k) _ _ ?_
      refine cov_succ _ 9 _ _ (off42_eq k) _ _ ?_
      refine cov_succ _ 8 _ _ (off41_eq k) _ _ ?_
      refine cov_succ _ 7 _ _ (off40_eq k) _ _ ?_
      refine cov_succ _ 6 _ _ (off39_eq k) _ _ ?_
      refine cov_succ _ 5 _ _ (off38_eq k) _ _ ?_
      refine cov_succ _ 4 _ _ (off37_eq k) _ _ ?_
      refine cov_succ _ 3 _ _ (off36_eq k) _ _ ?_
      refine cov_succ _ 2 _ _ (off35_eq k) _ _ ?_
      refine cov_succ _ 1 _ _ (off33_eq k) _ _ ?_
      refine cov_succ _ 0 _ _ (off30_eq k) _ _ ?_
      exact cov_zero _ _
    · refine List.forall_mem_cons.2 ⟨piece_odd (xcv (Ring.sl 3 k.val)).view gx (cslot (Ring.sl 2 k.val)).view gc (dslot (Ring.sl 2 k.val)).view gd (tabV c arg1 W) (Ring.sl 2 k.val) 15 31 15 31 rfl rfl rfl _ (off64_eq k) (inbOf (off64_eq k) (by decide)) inb_S64x16x2x1024_S64x1x2x1024_0_15_0_0 inb_S32x64x128_S1x64x128_31_0_0 inb_S32x64x128_S1x64x128_31_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 15 30 15 30 rfl rfl rfl _ (off63_eq k) (inbOf (off63_eq k) (by decide)) inb_S64x16x2x1024_S64x1x2x1024_0_15_0_0 inb_S32x64x128_S1x64x128_30_0_0 inb_S32x64x128_S1x64x128_30_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 14 29 14 29 rfl rfl rfl _ (off62_eq k) (inbOf (off62_eq k) (by decide)) inb_S64x16x2x1024_S64x1x2x1024_0_14_0_0 inb_S32x64x128_S1x64x128_29_0_0 inb_S32x64x128_S1x64x128_29_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 14 28 14 28 rfl rfl rfl _ (off61_eq k) (inbOf (off61_eq k) (by decide)) inb_S64x16x2x1024_S64x1x2x1024_0_14_0_0 inb_S32x64x128_S1x64x128_28_0_0 inb_S32x64x128_S1x64x128_28_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 13 27 13 27 rfl rfl rfl _ (off60_eq k) (inbOf (off60_eq k) (by decide)) inb_S64x16x2x1024_S64x1x2x1024_0_13_0_0 inb_S32x64x128_S1x64x128_27_0_0 inb_S32x64x128_S1x64x128_27_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 13 26 13 26 rfl rfl rfl _ (off59_eq k) (inbOf (off59_eq k) (by decide)) inb_S64x16x2x1024_S64x1x2x1024_0_13_0_0 inb_S32x64x128_S1x64x128_26_0_0 inb_S32x64x128_S1x64x128_26_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 12 25 12 25 rfl rfl rfl _ (off58_eq k) (inbOf (off58_eq k) (by decide)) inb_S64x16x2x1024_S64x1x2x1024_0_12_0_0 inb_S32x64x128_S1x64x128_25_0_0 inb_S32x64x128_S1x64x128_25_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 12 24 12 24 rfl rfl rfl _ (off57_eq k) (inbOf (off57_eq k) (by decide)) inb_S64x16x2x1024_S64x1x2x1024_0_12_0_0 inb_S32x64x128_S1x64x128_24_0_0 inb_S32x64x128_S1x64x128_24_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 11 23 11 23 rfl rfl rfl _ (off56_eq k) (inbOf (off56_eq k) (by decide)) inb_S64x16x2x1024_S64x1x2x1024_0_11_0_0 inb_S32x64x128_S1x64x128_23_0_0 inb_S32x64x128_S1x64x128_23_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 11 22 11 22 rfl rfl rfl _ (off55_eq k) (inbOf (off55_eq k) (by decide)) inb_S64x16x2x1024_S64x1x2x1024_0_11_0_0 inb_S32x64x128_S1x64x128_22_0_0 inb_S32x64x128_S1x64x128_22_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 10 21 10 21 rfl rfl rfl _ (off54_eq k) (inbOf (off54_eq k) (by decide)) inb_S64x16x2x1024_S64x1x2x1024_0_10_0_0 inb_S32x64x128_S1x64x128_21_0_0 inb_S32x64x128_S1x64x128_21_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 10 20 10 20 rfl rfl rfl _ (off53_eq k) (inbOf (off53_eq k) (by decide)) inb_S64x16x2x1024_S64x1x2x1024_0_10_0_0 inb_S32x64x128_S1x64x128_20_0_0 inb_S32x64x128_S1x64x128_20_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 9 19 9 19 rfl rfl rfl _ (off52_eq k) (inbOf (off52_eq k) (by decide)) inb_S64x16x2x1024_S64x1x2x1024_0_9_0_0 inb_S32x64x128_S1x64x128_19_0_0 inb_S32x64x128_S1x64x128_19_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 9 18 9 18 rfl rfl rfl _ (off51_eq k) (inbOf (off51_eq k) (by decide)) inb_S64x16x2x1024_S64x1x2x1024_0_9_0_0 inb_S32x64x128_S1x64x128_18_0_0 inb_S32x64x128_S1x64x128_18_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 8 17 8 17 rfl rfl rfl _ (off50_eq k) (inbOf (off50_eq k) (by decide)) inb_S64x16x2x1024_S64x1x2x1024_0_8_0_0 inb_S32x64x128_S1x64x128_17_0_0 inb_S32x64x128_S1x64x128_17_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 8 16 8 16 rfl rfl rfl _ (off49_eq k) (inbOf (off49_eq k) (by decide)) inb_S64x16x2x1024_S64x1x2x1024_0_8_0_0 inb_S32x64x128_S1x64x128_16_0_0 inb_S32x64x128_S1x64x128_16_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 7 15 7 15 rfl rfl rfl _ (off48_eq k) (inbOf (off48_eq k) (by decide)) inb_S64x16x2x1024_S64x1x2x1024_0_7_0_0 inb_S32x64x128_S1x64x128_15_0_0 inb_S32x64x128_S1x64x128_15_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 7 14 7 14 rfl rfl rfl _ (off47_eq k) (inbOf (off47_eq k) (by decide)) inb_S64x16x2x1024_S64x1x2x1024_0_7_0_0 inb_S32x64x128_S1x64x128_14_0_0 inb_S32x64x128_S1x64x128_14_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 6 13 6 13 rfl rfl rfl _ (off46_eq k) (inbOf (off46_eq k) (by decide)) inb_S64x16x2x1024_S64x1x2x1024_0_6_0_0 inb_S32x64x128_S1x64x128_13_0_0 inb_S32x64x128_S1x64x128_13_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 6 12 6 12 rfl rfl rfl _ (off45_eq k) (inbOf (off45_eq k) (by decide)) inb_S64x16x2x1024_S64x1x2x1024_0_6_0_0 inb_S32x64x128_S1x64x128_12_0_0 inb_S32x64x128_S1x64x128_12_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 5 11 5 11 rfl rfl rfl _ (off44_eq k) (inbOf (off44_eq k) (by decide)) inb_S64x16x2x1024_S64x1x2x1024_0_5_0_0 inb_S32x64x128_S1x64x128_11_0_0 inb_S32x64x128_S1x64x128_11_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 5 10 5 10 rfl rfl rfl _ (off43_eq k) (inbOf (off43_eq k) (by decide)) inb_S64x16x2x1024_S64x1x2x1024_0_5_0_0 inb_S32x64x128_S1x64x128_10_0_0 inb_S32x64x128_S1x64x128_10_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 4 9 4 9 rfl rfl rfl _ (off42_eq k) (inbOf (off42_eq k) (by decide)) inb_S64x16x2x1024_S64x1x2x1024_0_4_0_0 inb_S32x64x128_S1x64x128_9_0_0 inb_S32x64x128_S1x64x128_9_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 4 8 4 8 rfl rfl rfl _ (off41_eq k) (inbOf (off41_eq k) (by decide)) inb_S64x16x2x1024_S64x1x2x1024_0_4_0_0 inb_S32x64x128_S1x64x128_8_0_0 inb_S32x64x128_S1x64x128_8_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 3 7 3 7 rfl rfl rfl _ (off40_eq k) (inbOf (off40_eq k) (by decide)) inb_S64x16x2x1024_S64x1x2x1024_0_3_0_0 inb_S32x64x128_S1x64x128_7_0_0 inb_S32x64x128_S1x64x128_7_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 3 6 3 6 rfl rfl rfl _ (off39_eq k) (inbOf (off39_eq k) (by decide)) inb_S64x16x2x1024_S64x1x2x1024_0_3_0_0 inb_S32x64x128_S1x64x128_6_0_0 inb_S32x64x128_S1x64x128_6_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 2 5 2 5 rfl rfl rfl _ (off38_eq k) (inbOf (off38_eq k) (by decide)) inb_S64x16x2x1024_S64x1x2x1024_0_2_0_0 inb_S32x64x128_S1x64x128_5_0_0 inb_S32x64x128_S1x64x128_5_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 2 4 2 4 rfl rfl rfl _ (off37_eq k) (inbOf (off37_eq k) (by decide)) inb_S64x16x2x1024_S64x1x2x1024_0_2_0_0 inb_S32x64x128_S1x64x128_4_0_0 inb_S32x64x128_S1x64x128_4_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 1 3 1 3 rfl rfl rfl _ (off36_eq k) (inbOf (off36_eq k) (by decide)) inb_S64x16x2x1024_S64x1x2x1024_0_1_0_0 inb_S32x64x128_S1x64x128_3_0_0 inb_S32x64x128_S1x64x128_3_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 1 2 1 2 rfl rfl rfl _ (off35_eq k) (inbOf (off35_eq k) (by decide)) inb_S64x16x2x1024_S64x1x2x1024_0_1_0_0 inb_S32x64x128_S1x64x128_2_0_0 inb_S32x64x128_S1x64x128_2_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 0 1 0 1 rfl rfl rfl _ (off33_eq k) (inbOf (off33_eq k) (by decide)) inb_S64x16x2x1024_S64x1x2x1024_0_0_0_0 inb_S32x64x128_S1x64x128_1_0_0 inb_S32x64x128_S1x64x128_1_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 0 0 0 0 rfl rfl rfl _ (off30_eq k) (inbOf (off30_eq k) (by decide)) inb_S64x16x2x1024_S64x1x2x1024_0_0_0_0 inb_S32x64x128_S1x64x128_0_0_0 inb_S32x64x128_S1x64x128_0_0_0 _ rfl, ?_⟩
      exact fun _ h => absurd h List.not_mem_nil
  icases HOD with ⟨%go, HSo2, %hgo⟩
  rw [hgx, hgc, hgd] at hgo
  sl_exec
  sl_step
  isplitr
  · ipureintro
    sl_unfold_run_names
    clear * - k
    revert k
    unfold accAt a6 a7 a8 a9 a10 a11 a12 a13 a14 a15
    exact all_eq _ _ (by decide +kernel)
  isplitl [HFx_src HXO HFx HW HCo HOw HFc_src HCS HFc HFd_src HDS HFd HCc HCd]
  · isplitl [HFx_src]; · iexact HFx_src
    isplitl [HXO]; · iexact HXO
    isplitl [HFx]; · iexact HFx
    isplitl [HW HFc_src HCS HFc HFd_src HDS HFd HCc HCd]
    · isplitl [HW]; · iexact HW
      isplitl [HFc_src HCS HFc HFd_src HDS HFd]
      · isplitl [HFc_src HCS HFc]
        · isplitl [HFc_src]; · iexact HFc_src
          isplitl [HFc]; · iexact HFc
          iexists gc; iexact HCS
        isplitl [HFd_src]; · iexact HFd_src
        isplitl [HFd]; · iexact HFd
        iexists gd; iexact HDS
      isplitl [HCc]
      · iexists fcn; iexact HCc
      iexists fdn; iexact HCd
    isplitl [HCo]
    · iexists f; iexists go
      isplitl [HCo]; · iexact HCo
      ipureintro
      rw [show blkV c XA CA DA arg1 W (Ring.bk 16 k.val) = blkA (tabV c arg1 W) (xval c XA (Ring.bk 16 k.val)) (cval c CA (Ring.bk 4 k.val)) (dval c DA (Ring.bk 4 k.val)) from by
        unfold blkV; rw [bk4_eq k.val (lt_of_lt_of_eq k.isLt trips_eq)]]
      exact hgo
    iexists _; iexact HOw
  iexists fn; iexact HCx

set_option maxHeartbeats 8000000 in
set_option sl_exec.respelt true in
/-- The trip before the last: the tables' last blocks are read ahead, no block of words is left. -/
theorem trip_late (k : Fin k0_t1_loop.trips) (h2 : ¬ k.val + 2 < 16) (h3 : k.val + 1 < 16) :
    iprop(base c XA (T1 c CA DA arg1 W k) k ∗ writeIn c XA CA DA arg1 W k)
      ⊢ (wp frame (wpE (defs₀ (F := F)) 𝒱₀ (c : Thread nD τ) none) Set.univ (tripG arg1 harg1 v18 v19 v46 v53 k (accAt k.val))
        (fun acc => iprop(⌜acc = accAt (k.val + 1)⌝ ∗ done c XA CA DA arg1 W (T1' c CA DA arg1 W k) k ∗ writeOut c XA CA DA arg1 W k)) : sProp 𝕄) := by
  have hc1 := chk1 k; have hc2 := chk2 k; have hc3 := chk3 k; have hc4 := chk4 k; have hc5 := chk5 k
  have hd5 := cond5_t k; have hd6 := cond6_t k; have hd7 := cond7_t k; have hd12 := cond12_t k
  have h1 : 1 ≤ k.val := by omega
  have hd2 := cond2_f k h2; have hd3 := cond3_t k h3; have hd4 := cond4_t k h3; have hd16 := cond16_t k h1
  iintro ⟨⟨⟨%fx, HFx⟩, ⟨HW, ⟨⟨%fc, HFc⟩, ⟨%fd, HFd⟩⟩, ⟨HCh, HCc, ⟨%fcn, HSc⟩⟩, ⟨HDh, HCd, ⟨%fdn, HSd⟩⟩⟩, ⟨%fo, HSo⟩, HCo, ⟨%f, HO⟩, ⟨%Wt, HOw⟩⟩, ⟨%fp, %gp, HFo, %hgp⟩⟩
  dsimp only [tripG]
  sl_unfold [k0_t1_body]
  sl_exec
  ihave HXL := (landed_in c XA (Ring.sl 3 k.val) (Ring.bk 16 k.val) _) $$ HFx_dst
  icases HXL with ⟨%gx, HXS, %hgx⟩
  ihave HCL := (clanded_in c CA (Ring.sl 2 k.val) (Ring.bk 4 k.val) _) $$ HFc_dst
  icases HCL with ⟨%gc, HCS, %hgc⟩
  ihave HDL := (dlanded_in c DA (Ring.sl 2 k.val) (Ring.bk 4 k.val) _) $$ HFd_dst
  icases HDL with ⟨%gd, HDS, %hgd⟩
  ihave HOS := (Entails.of_eq (orectP_eq c (Ring.sl 2 k.val) _)) $$ HSo
  sl_exec
  ihave HXO := (landed_out c (Ring.sl 3 k.val) _) $$ HXS
  ihave HOD := (done_out c (Ring.sl 2 k.val) _ (tabV c arg1 W) ((xcv (Ring.sl 3 k.val)).view.read (Elt F) gx)
    ((cslot (Ring.sl 2 k.val)).view.read (Elt F) gc) ((dslot (Ring.sl 2 k.val)).view.read (Elt F) gd) ?val) $$ HOS
  case val =>
    refine ⟨_, _, rfl, ?_, ?_⟩ <;> sl_unfold_run_names
    · refine cov_succ _ 31 _ _ (off64_eq k) _ _ ?_
      refine cov_succ _ 30 _ _ (off63_eq k) _ _ ?_
      refine cov_succ _ 29 _ _ (off62_eq k) _ _ ?_
      refine cov_succ _ 28 _ _ (off61_eq k) _ _ ?_
      refine cov_succ _ 27 _ _ (off60_eq k) _ _ ?_
      refine cov_succ _ 26 _ _ (off59_eq k) _ _ ?_
      refine cov_succ _ 25 _ _ (off58_eq k) _ _ ?_
      refine cov_succ _ 24 _ _ (off57_eq k) _ _ ?_
      refine cov_succ _ 23 _ _ (off56_eq k) _ _ ?_
      refine cov_succ _ 22 _ _ (off55_eq k) _ _ ?_
      refine cov_succ _ 21 _ _ (off54_eq k) _ _ ?_
      refine cov_succ _ 20 _ _ (off53_eq k) _ _ ?_
      refine cov_succ _ 19 _ _ (off52_eq k) _ _ ?_
      refine cov_succ _ 18 _ _ (off51_eq k) _ _ ?_
      refine cov_succ _ 17 _ _ (off50_eq k) _ _ ?_
      refine cov_succ _ 16 _ _ (off49_eq k) _ _ ?_
      refine cov_succ _ 15 _ _ (off48_eq k) _ _ ?_
      refine cov_succ _ 14 _ _ (off47_eq k) _ _ ?_
      refine cov_succ _ 13 _ _ (off46_eq k) _ _ ?_
      refine cov_succ _ 12 _ _ (off45_eq k) _ _ ?_
      refine cov_succ _ 11 _ _ (off44_eq k) _ _ ?_
      refine cov_succ _ 10 _ _ (off43_eq k) _ _ ?_
      refine cov_succ _ 9 _ _ (off42_eq k) _ _ ?_
      refine cov_succ _ 8 _ _ (off41_eq k) _ _ ?_
      refine cov_succ _ 7 _ _ (off40_eq k) _ _ ?_
      refine cov_succ _ 6 _ _ (off39_eq k) _ _ ?_
      refine cov_succ _ 5 _ _ (off38_eq k) _ _ ?_
      refine cov_succ _ 4 _ _ (off37_eq k) _ _ ?_
      refine cov_succ _ 3 _ _ (off36_eq k) _ _ ?_
      refine cov_succ _ 2 _ _ (off35_eq k) _ _ ?_
      refine cov_succ _ 1 _ _ (off33_eq k) _ _ ?_
      refine cov_succ _ 0 _ _ (off30_eq k) _ _ ?_
      exact cov_zero _ _
    · refine List.forall_mem_cons.2 ⟨piece_odd (xcv (Ring.sl 3 k.val)).view gx (cslot (Ring.sl 2 k.val)).view gc (dslot (Ring.sl 2 k.val)).view gd (tabV c arg1 W) (Ring.sl 2 k.val) 15 31 15 31 rfl rfl rfl _ (off64_eq k) (inbOf (off64_eq k) (by decide)) inb_S64x16x2x1024_S64x1x2x1024_0_15_0_0 inb_S32x64x128_S1x64x128_31_0_0 inb_S32x64x128_S1x64x128_31_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 15 30 15 30 rfl rfl rfl _ (off63_eq k) (inbOf (off63_eq k) (by decide)) inb_S64x16x2x1024_S64x1x2x1024_0_15_0_0 inb_S32x64x128_S1x64x128_30_0_0 inb_S32x64x128_S1x64x128_30_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 14 29 14 29 rfl rfl rfl _ (off62_eq k) (inbOf (off62_eq k) (by decide)) inb_S64x16x2x1024_S64x1x2x1024_0_14_0_0 inb_S32x64x128_S1x64x128_29_0_0 inb_S32x64x128_S1x64x128_29_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 14 28 14 28 rfl rfl rfl _ (off61_eq k) (inbOf (off61_eq k) (by decide)) inb_S64x16x2x1024_S64x1x2x1024_0_14_0_0 inb_S32x64x128_S1x64x128_28_0_0 inb_S32x64x128_S1x64x128_28_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 13 27 13 27 rfl rfl rfl _ (off60_eq k) (inbOf (off60_eq k) (by decide)) inb_S64x16x2x1024_S64x1x2x1024_0_13_0_0 inb_S32x64x128_S1x64x128_27_0_0 inb_S32x64x128_S1x64x128_27_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 13 26 13 26 rfl rfl rfl _ (off59_eq k) (inbOf (off59_eq k) (by decide)) inb_S64x16x2x1024_S64x1x2x1024_0_13_0_0 inb_S32x64x128_S1x64x128_26_0_0 inb_S32x64x128_S1x64x128_26_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 12 25 12 25 rfl rfl rfl _ (off58_eq k) (inbOf (off58_eq k) (by decide)) inb_S64x16x2x1024_S64x1x2x1024_0_12_0_0 inb_S32x64x128_S1x64x128_25_0_0 inb_S32x64x128_S1x64x128_25_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 12 24 12 24 rfl rfl rfl _ (off57_eq k) (inbOf (off57_eq k) (by decide)) inb_S64x16x2x1024_S64x1x2x1024_0_12_0_0 inb_S32x64x128_S1x64x128_24_0_0 inb_S32x64x128_S1x64x128_24_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 11 23 11 23 rfl rfl rfl _ (off56_eq k) (inbOf (off56_eq k) (by decide)) inb_S64x16x2x1024_S64x1x2x1024_0_11_0_0 inb_S32x64x128_S1x64x128_23_0_0 inb_S32x64x128_S1x64x128_23_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 11 22 11 22 rfl rfl rfl _ (off55_eq k) (inbOf (off55_eq k) (by decide)) inb_S64x16x2x1024_S64x1x2x1024_0_11_0_0 inb_S32x64x128_S1x64x128_22_0_0 inb_S32x64x128_S1x64x128_22_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 10 21 10 21 rfl rfl rfl _ (off54_eq k) (inbOf (off54_eq k) (by decide)) inb_S64x16x2x1024_S64x1x2x1024_0_10_0_0 inb_S32x64x128_S1x64x128_21_0_0 inb_S32x64x128_S1x64x128_21_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 10 20 10 20 rfl rfl rfl _ (off53_eq k) (inbOf (off53_eq k) (by decide)) inb_S64x16x2x1024_S64x1x2x1024_0_10_0_0 inb_S32x64x128_S1x64x128_20_0_0 inb_S32x64x128_S1x64x128_20_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 9 19 9 19 rfl rfl rfl _ (off52_eq k) (inbOf (off52_eq k) (by decide)) inb_S64x16x2x1024_S64x1x2x1024_0_9_0_0 inb_S32x64x128_S1x64x128_19_0_0 inb_S32x64x128_S1x64x128_19_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 9 18 9 18 rfl rfl rfl _ (off51_eq k) (inbOf (off51_eq k) (by decide)) inb_S64x16x2x1024_S64x1x2x1024_0_9_0_0 inb_S32x64x128_S1x64x128_18_0_0 inb_S32x64x128_S1x64x128_18_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 8 17 8 17 rfl rfl rfl _ (off50_eq k) (inbOf (off50_eq k) (by decide)) inb_S64x16x2x1024_S64x1x2x1024_0_8_0_0 inb_S32x64x128_S1x64x128_17_0_0 inb_S32x64x128_S1x64x128_17_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 8 16 8 16 rfl rfl rfl _ (off49_eq k) (inbOf (off49_eq k) (by decide)) inb_S64x16x2x1024_S64x1x2x1024_0_8_0_0 inb_S32x64x128_S1x64x128_16_0_0 inb_S32x64x128_S1x64x128_16_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 7 15 7 15 rfl rfl rfl _ (off48_eq k) (inbOf (off48_eq k) (by decide)) inb_S64x16x2x1024_S64x1x2x1024_0_7_0_0 inb_S32x64x128_S1x64x128_15_0_0 inb_S32x64x128_S1x64x128_15_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 7 14 7 14 rfl rfl rfl _ (off47_eq k) (inbOf (off47_eq k) (by decide)) inb_S64x16x2x1024_S64x1x2x1024_0_7_0_0 inb_S32x64x128_S1x64x128_14_0_0 inb_S32x64x128_S1x64x128_14_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 6 13 6 13 rfl rfl rfl _ (off46_eq k) (inbOf (off46_eq k) (by decide)) inb_S64x16x2x1024_S64x1x2x1024_0_6_0_0 inb_S32x64x128_S1x64x128_13_0_0 inb_S32x64x128_S1x64x128_13_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 6 12 6 12 rfl rfl rfl _ (off45_eq k) (inbOf (off45_eq k) (by decide)) inb_S64x16x2x1024_S64x1x2x1024_0_6_0_0 inb_S32x64x128_S1x64x128_12_0_0 inb_S32x64x128_S1x64x128_12_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 5 11 5 11 rfl rfl rfl _ (off44_eq k) (inbOf (off44_eq k) (by decide)) inb_S64x16x2x1024_S64x1x2x1024_0_5_0_0 inb_S32x64x128_S1x64x128_11_0_0 inb_S32x64x128_S1x64x128_11_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 5 10 5 10 rfl rfl rfl _ (off43_eq k) (inbOf (off43_eq k) (by decide)) inb_S64x16x2x1024_S64x1x2x1024_0_5_0_0 inb_S32x64x128_S1x64x128_10_0_0 inb_S32x64x128_S1x64x128_10_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 4 9 4 9 rfl rfl rfl _ (off42_eq k) (inbOf (off42_eq k) (by decide)) inb_S64x16x2x1024_S64x1x2x1024_0_4_0_0 inb_S32x64x128_S1x64x128_9_0_0 inb_S32x64x128_S1x64x128_9_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 4 8 4 8 rfl rfl rfl _ (off41_eq k) (inbOf (off41_eq k) (by decide)) inb_S64x16x2x1024_S64x1x2x1024_0_4_0_0 inb_S32x64x128_S1x64x128_8_0_0 inb_S32x64x128_S1x64x128_8_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 3 7 3 7 rfl rfl rfl _ (off40_eq k) (inbOf (off40_eq k) (by decide)) inb_S64x16x2x1024_S64x1x2x1024_0_3_0_0 inb_S32x64x128_S1x64x128_7_0_0 inb_S32x64x128_S1x64x128_7_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 3 6 3 6 rfl rfl rfl _ (off39_eq k) (inbOf (off39_eq k) (by decide)) inb_S64x16x2x1024_S64x1x2x1024_0_3_0_0 inb_S32x64x128_S1x64x128_6_0_0 inb_S32x64x128_S1x64x128_6_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 2 5 2 5 rfl rfl rfl _ (off38_eq k) (inbOf (off38_eq k) (by decide)) inb_S64x16x2x1024_S64x1x2x1024_0_2_0_0 inb_S32x64x128_S1x64x128_5_0_0 inb_S32x64x128_S1x64x128_5_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 2 4 2 4 rfl rfl rfl _ (off37_eq k) (inbOf (off37_eq k) (by decide)) inb_S64x16x2x1024_S64x1x2x1024_0_2_0_0 inb_S32x64x128_S1x64x128_4_0_0 inb_S32x64x128_S1x64x128_4_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 1 3 1 3 rfl rfl rfl _ (off36_eq k) (inbOf (off36_eq k) (by decide)) inb_S64x16x2x1024_S64x1x2x1024_0_1_0_0 inb_S32x64x128_S1x64x128_3_0_0 inb_S32x64x128_S1x64x128_3_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 1 2 1 2 rfl rfl rfl _ (off35_eq k) (inbOf (off35_eq k) (by decide)) inb_S64x16x2x1024_S64x1x2x1024_0_1_0_0 inb_S32x64x128_S1x64x128_2_0_0 inb_S32x64x128_S1x64x128_2_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 0 1 0 1 rfl rfl rfl _ (off33_eq k) (inbOf (off33_eq k) (by decide)) inb_S64x16x2x1024_S64x1x2x1024_0_0_0_0 inb_S32x64x128_S1x64x128_1_0_0 inb_S32x64x128_S1x64x128_1_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 0 0 0 0 rfl rfl rfl _ (off30_eq k) (inbOf (off30_eq k) (by decide)) inb_S64x16x2x1024_S64x1x2x1024_0_0_0_0 inb_S32x64x128_S1x64x128_0_0_0 inb_S32x64x128_S1x64x128_0_0_0 _ rfl, ?_⟩
      exact fun _ h => absurd h List.not_mem_nil
  icases HOD with ⟨%go, HSo2, %hgo⟩
  rw [hgx, hgc, hgd] at hgo
  sl_exec
  sl_step
  isplitr
  · ipureintro
    sl_unfold_run_names
    clear * - k
    revert k
    unfold accAt a6 a7 a8 a9 a10 a11 a12 a13 a14 a15
    exact all_eq _ _ (by decide +kernel)
  isplitl [HFx_src HXO HFx HW HCo HOw HFc_src HCS HFc HFd_src HDS HFd HCc HCd]
  · isplitl [HFx_src]; · iexact HFx_src
    isplitl [HXO]; · iexact HXO
    isplitl [HFx]; · iexact HFx
    isplitl [HW HFc_src HCS HFc HFd_src HDS HFd HCc HCd]
    · isplitl [HW]; · iexact HW
      isplitl [HFc_src HCS HFc HFd_src HDS HFd]
      · isplitl [HFc_src HCS HFc]
        · isplitl [HFc_src]; · iexact HFc_src
          isplitl [HFc]; · iexact HFc
          iexists gc; iexact HCS
        isplitl [HFd_src]; · iexact HFd_src
        isplitl [HFd]; · iexact HFd
        iexists gd; iexact HDS
      isplitl [HCc]
      · iexists fcn; iexact HCc
      iexists fdn; iexact HCd
    isplitl [HCo]
    · iexists f; iexists go
      isplitl [HCo]; · iexact HCo
      ipureintro
      rw [show blkV c XA CA DA arg1 W (Ring.bk 16 k.val) = blkA (tabV c arg1 W) (xval c XA (Ring.bk 16 k.val)) (cval c CA (Ring.bk 4 k.val)) (dval c DA (Ring.bk 4 k.val)) from by
        unfold blkV; rw [bk4_eq k.val (lt_of_lt_of_eq k.isLt trips_eq)]]
      exact hgo
    iexists _; iexact HOw
  isplitl [HFo_dst]
  · iexists _; iexists fp; iexists gp
    isplitl [HFo_dst]; · iexact HFo_dst
    ipureintro; exact hgp
  isplitl [HFo_src]
  · iexists gp; iexact HFo_src
  iexact HFo

set_option maxHeartbeats 8000000 in
set_option sl_exec.respelt true in
/-- The last trip: nothing is left to read ahead. -/
theorem trip_last (k : Fin k0_t1_loop.trips) (h3 : ¬ k.val + 1 < 16) :
    iprop(base c XA (T0 c CA DA arg1 W k) k ∗ writeIn c XA CA DA arg1 W k)
      ⊢ (wp frame (wpE (defs₀ (F := F)) 𝒱₀ (c : Thread nD τ) none) Set.univ (tripG arg1 harg1 v18 v19 v46 v53 k (accAt k.val))
        (fun acc => iprop(⌜acc = accAt (k.val + 1)⌝ ∗ done c XA CA DA arg1 W (T0' c CA DA arg1 W k) k ∗ writeOut c XA CA DA arg1 W k)) : sProp 𝕄) := by
  have hc1 := chk1 k; have hc2 := chk2 k; have hc3 := chk3 k; have hc4 := chk4 k; have hc5 := chk5 k
  have hd5 := cond5_t k; have hd6 := cond6_t k; have hd7 := cond7_t k; have hd12 := cond12_t k
  have h1 : 1 ≤ k.val := by omega
  have h2 : ¬ k.val + 2 < 16 := by omega
  have hd2 := cond2_f k h2; have hd3 := cond3_f k h3; have hd4 := cond4_f k h3; have hd16 := cond16_t k h1
  iintro ⟨⟨⟨%fx, HFx⟩, ⟨HW, ⟨⟨%fc, HFc⟩, ⟨%fd, HFd⟩⟩⟩, ⟨%fo, HSo⟩, HCo, ⟨%f, HO⟩, ⟨%Wt, HOw⟩⟩, ⟨%fp, %gp, HFo, %hgp⟩⟩
  dsimp only [tripG]
  sl_unfold [k0_t1_body]
  sl_exec
  ihave HXL := (landed_in c XA (Ring.sl 3 k.val) (Ring.bk 16 k.val) _) $$ HFx_dst
  icases HXL with ⟨%gx, HXS, %hgx⟩
  ihave HCL := (clanded_in c CA (Ring.sl 2 k.val) (Ring.bk 4 k.val) _) $$ HFc_dst
  icases HCL with ⟨%gc, HCS, %hgc⟩
  ihave HDL := (dlanded_in c DA (Ring.sl 2 k.val) (Ring.bk 4 k.val) _) $$ HFd_dst
  icases HDL with ⟨%gd, HDS, %hgd⟩
  ihave HOS := (Entails.of_eq (orectP_eq c (Ring.sl 2 k.val) _)) $$ HSo
  sl_exec
  ihave HXO := (landed_out c (Ring.sl 3 k.val) _) $$ HXS
  ihave HOD := (done_out c (Ring.sl 2 k.val) _ (tabV c arg1 W) ((xcv (Ring.sl 3 k.val)).view.read (Elt F) gx)
    ((cslot (Ring.sl 2 k.val)).view.read (Elt F) gc) ((dslot (Ring.sl 2 k.val)).view.read (Elt F) gd) ?val) $$ HOS
  case val =>
    refine ⟨_, _, rfl, ?_, ?_⟩ <;> sl_unfold_run_names
    · refine cov_succ _ 31 _ _ (off64_eq k) _ _ ?_
      refine cov_succ _ 30 _ _ (off63_eq k) _ _ ?_
      refine cov_succ _ 29 _ _ (off62_eq k) _ _ ?_
      refine cov_succ _ 28 _ _ (off61_eq k) _ _ ?_
      refine cov_succ _ 27 _ _ (off60_eq k) _ _ ?_
      refine cov_succ _ 26 _ _ (off59_eq k) _ _ ?_
      refine cov_succ _ 25 _ _ (off58_eq k) _ _ ?_
      refine cov_succ _ 24 _ _ (off57_eq k) _ _ ?_
      refine cov_succ _ 23 _ _ (off56_eq k) _ _ ?_
      refine cov_succ _ 22 _ _ (off55_eq k) _ _ ?_
      refine cov_succ _ 21 _ _ (off54_eq k) _ _ ?_
      refine cov_succ _ 20 _ _ (off53_eq k) _ _ ?_
      refine cov_succ _ 19 _ _ (off52_eq k) _ _ ?_
      refine cov_succ _ 18 _ _ (off51_eq k) _ _ ?_
      refine cov_succ _ 17 _ _ (off50_eq k) _ _ ?_
      refine cov_succ _ 16 _ _ (off49_eq k) _ _ ?_
      refine cov_succ _ 15 _ _ (off48_eq k) _ _ ?_
      refine cov_succ _ 14 _ _ (off47_eq k) _ _ ?_
      refine cov_succ _ 13 _ _ (off46_eq k) _ _ ?_
      refine cov_succ _ 12 _ _ (off45_eq k) _ _ ?_
      refine cov_succ _ 11 _ _ (off44_eq k) _ _ ?_
      refine cov_succ _ 10 _ _ (off43_eq k) _ _ ?_
      refine cov_succ _ 9 _ _ (off42_eq k) _ _ ?_
      refine cov_succ _ 8 _ _ (off41_eq k) _ _ ?_
      refine cov_succ _ 7 _ _ (off40_eq k) _ _ ?_
      refine cov_succ _ 6 _ _ (off39_eq k) _ _ ?_
      refine cov_succ _ 5 _ _ (off38_eq k) _ _ ?_
      refine cov_succ _ 4 _ _ (off37_eq k) _ _ ?_
      refine cov_succ _ 3 _ _ (off36_eq k) _ _ ?_
      refine cov_succ _ 2 _ _ (off35_eq k) _ _ ?_
      refine cov_succ _ 1 _ _ (off33_eq k) _ _ ?_
      refine cov_succ _ 0 _ _ (off30_eq k) _ _ ?_
      exact cov_zero _ _
    · refine List.forall_mem_cons.2 ⟨piece_odd (xcv (Ring.sl 3 k.val)).view gx (cslot (Ring.sl 2 k.val)).view gc (dslot (Ring.sl 2 k.val)).view gd (tabV c arg1 W) (Ring.sl 2 k.val) 15 31 15 31 rfl rfl rfl _ (off64_eq k) (inbOf (off64_eq k) (by decide)) inb_S64x16x2x1024_S64x1x2x1024_0_15_0_0 inb_S32x64x128_S1x64x128_31_0_0 inb_S32x64x128_S1x64x128_31_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 15 30 15 30 rfl rfl rfl _ (off63_eq k) (inbOf (off63_eq k) (by decide)) inb_S64x16x2x1024_S64x1x2x1024_0_15_0_0 inb_S32x64x128_S1x64x128_30_0_0 inb_S32x64x128_S1x64x128_30_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 14 29 14 29 rfl rfl rfl _ (off62_eq k) (inbOf (off62_eq k) (by decide)) inb_S64x16x2x1024_S64x1x2x1024_0_14_0_0 inb_S32x64x128_S1x64x128_29_0_0 inb_S32x64x128_S1x64x128_29_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 14 28 14 28 rfl rfl rfl _ (off61_eq k) (inbOf (off61_eq k) (by decide)) inb_S64x16x2x1024_S64x1x2x1024_0_14_0_0 inb_S32x64x128_S1x64x128_28_0_0 inb_S32x64x128_S1x64x128_28_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 13 27 13 27 rfl rfl rfl _ (off60_eq k) (inbOf (off60_eq k) (by decide)) inb_S64x16x2x1024_S64x1x2x1024_0_13_0_0 inb_S32x64x128_S1x64x128_27_0_0 inb_S32x64x128_S1x64x128_27_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 13 26 13 26 rfl rfl rfl _ (off59_eq k) (inbOf (off59_eq k) (by decide)) inb_S64x16x2x1024_S64x1x2x1024_0_13_0_0 inb_S32x64x128_S1x64x128_26_0_0 inb_S32x64x128_S1x64x128_26_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 12 25 12 25 rfl rfl rfl _ (off58_eq k) (inbOf (off58_eq k) (by decide)) inb_S64x16x2x1024_S64x1x2x1024_0_12_0_0 inb_S32x64x128_S1x64x128_25_0_0 inb_S32x64x128_S1x64x128_25_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 12 24 12 24 rfl rfl rfl _ (off57_eq k) (inbOf (off57_eq k) (by decide)) inb_S64x16x2x1024_S64x1x2x1024_0_12_0_0 inb_S32x64x128_S1x64x128_24_0_0 inb_S32x64x128_S1x64x128_24_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 11 23 11 23 rfl rfl rfl _ (off56_eq k) (inbOf (off56_eq k) (by decide)) inb_S64x16x2x1024_S64x1x2x1024_0_11_0_0 inb_S32x64x128_S1x64x128_23_0_0 inb_S32x64x128_S1x64x128_23_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 11 22 11 22 rfl rfl rfl _ (off55_eq k) (inbOf (off55_eq k) (by decide)) inb_S64x16x2x1024_S64x1x2x1024_0_11_0_0 inb_S32x64x128_S1x64x128_22_0_0 inb_S32x64x128_S1x64x128_22_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 10 21 10 21 rfl rfl rfl _ (off54_eq k) (inbOf (off54_eq k) (by decide)) inb_S64x16x2x1024_S64x1x2x1024_0_10_0_0 inb_S32x64x128_S1x64x128_21_0_0 inb_S32x64x128_S1x64x128_21_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 10 20 10 20 rfl rfl rfl _ (off53_eq k) (inbOf (off53_eq k) (by decide)) inb_S64x16x2x1024_S64x1x2x1024_0_10_0_0 inb_S32x64x128_S1x64x128_20_0_0 inb_S32x64x128_S1x64x128_20_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 9 19 9 19 rfl rfl rfl _ (off52_eq k) (inbOf (off52_eq k) (by decide)) inb_S64x16x2x1024_S64x1x2x1024_0_9_0_0 inb_S32x64x128_S1x64x128_19_0_0 inb_S32x64x128_S1x64x128_19_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 9 18 9 18 rfl rfl rfl _ (off51_eq k) (inbOf (off51_eq k) (by decide)) inb_S64x16x2x1024_S64x1x2x1024_0_9_0_0 inb_S32x64x128_S1x64x128_18_0_0 inb_S32x64x128_S1x64x128_18_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 8 17 8 17 rfl rfl rfl _ (off50_eq k) (inbOf (off50_eq k) (by decide)) inb_S64x16x2x1024_S64x1x2x1024_0_8_0_0 inb_S32x64x128_S1x64x128_17_0_0 inb_S32x64x128_S1x64x128_17_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 8 16 8 16 rfl rfl rfl _ (off49_eq k) (inbOf (off49_eq k) (by decide)) inb_S64x16x2x1024_S64x1x2x1024_0_8_0_0 inb_S32x64x128_S1x64x128_16_0_0 inb_S32x64x128_S1x64x128_16_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 7 15 7 15 rfl rfl rfl _ (off48_eq k) (inbOf (off48_eq k) (by decide)) inb_S64x16x2x1024_S64x1x2x1024_0_7_0_0 inb_S32x64x128_S1x64x128_15_0_0 inb_S32x64x128_S1x64x128_15_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 7 14 7 14 rfl rfl rfl _ (off47_eq k) (inbOf (off47_eq k) (by decide)) inb_S64x16x2x1024_S64x1x2x1024_0_7_0_0 inb_S32x64x128_S1x64x128_14_0_0 inb_S32x64x128_S1x64x128_14_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 6 13 6 13 rfl rfl rfl _ (off46_eq k) (inbOf (off46_eq k) (by decide)) inb_S64x16x2x1024_S64x1x2x1024_0_6_0_0 inb_S32x64x128_S1x64x128_13_0_0 inb_S32x64x128_S1x64x128_13_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 6 12 6 12 rfl rfl rfl _ (off45_eq k) (inbOf (off45_eq k) (by decide)) inb_S64x16x2x1024_S64x1x2x1024_0_6_0_0 inb_S32x64x128_S1x64x128_12_0_0 inb_S32x64x128_S1x64x128_12_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 5 11 5 11 rfl rfl rfl _ (off44_eq k) (inbOf (off44_eq k) (by decide)) inb_S64x16x2x1024_S64x1x2x1024_0_5_0_0 inb_S32x64x128_S1x64x128_11_0_0 inb_S32x64x128_S1x64x128_11_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 5 10 5 10 rfl rfl rfl _ (off43_eq k) (inbOf (off43_eq k) (by decide)) inb_S64x16x2x1024_S64x1x2x1024_0_5_0_0 inb_S32x64x128_S1x64x128_10_0_0 inb_S32x64x128_S1x64x128_10_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 4 9 4 9 rfl rfl rfl _ (off42_eq k) (inbOf (off42_eq k) (by decide)) inb_S64x16x2x1024_S64x1x2x1024_0_4_0_0 inb_S32x64x128_S1x64x128_9_0_0 inb_S32x64x128_S1x64x128_9_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 4 8 4 8 rfl rfl rfl _ (off41_eq k) (inbOf (off41_eq k) (by decide)) inb_S64x16x2x1024_S64x1x2x1024_0_4_0_0 inb_S32x64x128_S1x64x128_8_0_0 inb_S32x64x128_S1x64x128_8_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 3 7 3 7 rfl rfl rfl _ (off40_eq k) (inbOf (off40_eq k) (by decide)) inb_S64x16x2x1024_S64x1x2x1024_0_3_0_0 inb_S32x64x128_S1x64x128_7_0_0 inb_S32x64x128_S1x64x128_7_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 3 6 3 6 rfl rfl rfl _ (off39_eq k) (inbOf (off39_eq k) (by decide)) inb_S64x16x2x1024_S64x1x2x1024_0_3_0_0 inb_S32x64x128_S1x64x128_6_0_0 inb_S32x64x128_S1x64x128_6_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 2 5 2 5 rfl rfl rfl _ (off38_eq k) (inbOf (off38_eq k) (by decide)) inb_S64x16x2x1024_S64x1x2x1024_0_2_0_0 inb_S32x64x128_S1x64x128_5_0_0 inb_S32x64x128_S1x64x128_5_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 2 4 2 4 rfl rfl rfl _ (off37_eq k) (inbOf (off37_eq k) (by decide)) inb_S64x16x2x1024_S64x1x2x1024_0_2_0_0 inb_S32x64x128_S1x64x128_4_0_0 inb_S32x64x128_S1x64x128_4_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 1 3 1 3 rfl rfl rfl _ (off36_eq k) (inbOf (off36_eq k) (by decide)) inb_S64x16x2x1024_S64x1x2x1024_0_1_0_0 inb_S32x64x128_S1x64x128_3_0_0 inb_S32x64x128_S1x64x128_3_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 1 2 1 2 rfl rfl rfl _ (off35_eq k) (inbOf (off35_eq k) (by decide)) inb_S64x16x2x1024_S64x1x2x1024_0_1_0_0 inb_S32x64x128_S1x64x128_2_0_0 inb_S32x64x128_S1x64x128_2_0_0 _ rfl, ?_⟩
      refine List.forall_mem_cons.2 ⟨piece_odd (xcv (Ring.sl 3 k.val)).view gx (cslot (Ring.sl 2 k.val)).view gc (dslot (Ring.sl 2 k.val)).view gd (tabV c arg1 W) (Ring.sl 2 k.val) 0 1 0 1 rfl rfl rfl _ (off33_eq k) (inbOf (off33_eq k) (by decide)) inb_S64x16x2x1024_S64x1x2x1024_0_0_0_0 inb_S32x64x128_S1x64x128_1_0_0 inb_S32x64x128_S1x64x128_1_0_0 _ rfl, ?_⟩
      refine List.forall_mem_cons.2 ⟨piece_even (xcv (Ring.sl 3 k.val)).view gx (cslot (Ring.sl 2 k.val)).view gc (dslot (Ring.sl 2 k.val)).view gd (tabV c arg1 W) (Ring.sl 2 k.val) 0 0 0 0 rfl rfl rfl _ (off30_eq k) (inbOf (off30_eq k) (by decide)) inb_S64x16x2x1024_S64x1x2x1024_0_0_0_0 inb_S32x64x128_S1x64x128_0_0_0 inb_S32x64x128_S1x64x128_0_0_0 _ rfl, ?_⟩
      exact fun _ h => absurd h List.not_mem_nil
  icases HOD with ⟨%go, HSo2, %hgo⟩
  rw [hgx, hgc, hgd] at hgo
  sl_exec
  sl_step
  isplitr
  · ipureintro
    sl_unfold_run_names
    clear * - k
    revert k
    unfold accAt a6 a7 a8 a9 a10 a11 a12 a13 a14 a15
    exact all_eq _ _ (by decide +kernel)
  isplitl [HFx_src HXO HFx HW HCo HOw HFc_src HCS HFc HFd_src HDS HFd]
  · isplitl [HFx_src]; · iexact HFx_src
    isplitl [HXO]; · iexact HXO
    isplitl [HFx]; · iexact HFx
    isplitl [HW HFc_src HCS HFc HFd_src HDS HFd]
    · isplitl [HW]; · iexact HW
      isplitl [HFc_src HCS HFc]
      · isplitl [HFc_src]; · iexact HFc_src
        isplitl [HFc]; · iexact HFc
        iexists gc; iexact HCS
      isplitl [HFd_src]; · iexact HFd_src
      isplitl [HFd]; · iexact HFd
      iexists gd; iexact HDS
    isplitl [HCo]
    · iexists f; iexists go
      isplitl [HCo]; · iexact HCo
      ipureintro
      rw [show blkV c XA CA DA arg1 W (Ring.bk 16 k.val) = blkA (tabV c arg1 W) (xval c XA (Ring.bk 16 k.val)) (cval c CA (Ring.bk 4 k.val)) (dval c DA (Ring.bk 4 k.val)) from by
        unfold blkV; rw [bk4_eq k.val (lt_of_lt_of_eq k.isLt trips_eq)]]
      exact hgo
    iexists _; iexact HOw
  isplitl [HFo_dst]
  · iexists _; iexists fp; iexists gp
    isplitl [HFo_dst]; · iexact HFo_dst
    ipureintro; exact hgp
  isplitl [HFo_src]
  · iexists gp; iexact HFo_src
  iexact HFo

end Trip

end Cert.Proof.FftA
end
end
-- ==== Proof.Rings.lean ====
/- The two rings of a pipelined loop, over families left abstract: the blocks read ahead into three slots, and the blocks
   written behind from two slots. -/
module

public import Idealize.ShloMosaic.Lib.Ring
public import Idealize.ShloMosaic.Lib.Ring.WriteBehind

@[expose] public section

noncomputable section

namespace Cert.Proof.Rings

open Idealize.ShloMosaic
open Idealize.SL
open Idealize.SL.BI (sProp bigSep bigSep_insert bigSep_empty)
open scoped Idealize.SL.BI
open Idealize.SL.BI.BIBase Idealize.SL.BI.Laws Idealize.SL.Sem Idealize.SL.ProofMode
open Idealize.SL.RA
open Idealize.ShloMosaic.Ring

variable {M : Type _} [URA M] {NB : ℕ} [NeZero NB]

section Read
variable (home : Fin NB → sProp M) (infl : Fin 3 → Fin NB → sProp M) (idle : Fin 3 → sProp M)

/-- Slot `i`: block `i` on its way in, or nothing once the blocks are over. -/
def rdAt (i : ℕ) : sProp M := if i < NB then infl (sl 3 i) (bk NB i) else idle (sl 3 i)
theorem rdAt_in (i : ℕ) (h : i < NB) : rdAt infl idle i = infl (sl 3 i) (bk NB i) := if_pos h
theorem rdAt_out (i : ℕ) (h : ¬ i < NB) : rdAt infl idle i = idle (sl 3 i) := if_neg h

/-- The read ring before trip `k`: two blocks ahead. -/
def reads (k : ℕ) : sProp M :=
  iprop(bigSep (homeSet 2 k) home ∗ rdAt infl idle k ∗ rdAt infl idle (k + 1) ∗ idle (sl 3 (k + 2)))

theorem reads_start (h : 1 < NB) :
    iprop(bigSep (homeSet 2 0) home ∗ infl (sl 3 0) (bk NB 0) ∗ infl (sl 3 1) (bk NB 1) ∗ idle (sl 3 2)) ⊢ reads home infl idle 0 := by
  unfold reads; rw [rdAt_in infl idle 0 (by omega), rdAt_in infl idle (0 + 1) (by omega)]

theorem reads_mid (k : ℕ) (h : k + 2 < NB) :
    reads home infl idle k ⊢ iprop(infl (sl 3 k) (bk NB k) ∗ (home (bk NB (k + 2)) ∗ idle (sl 3 (k + 2)))
      ∗ ((home (bk NB k) ∗ idle (sl 3 k) ∗ infl (sl 3 (k + 2)) (bk NB (k + 2))) -∗ reads home infl idle (k + 1))) := by
  unfold reads
  have e : bk NB (k + 2) ∈ homeSet (NB := NB) 2 k := by rw [mem_homeSet, bk_val h]; omega
  rw [rdAt_in infl idle k (by omega), rdAt_in infl idle (k + 1 + 1) (by omega), bigSep_take e,
    homeSet_succ 2 k h, bigSep_put (bk_not_mem_erase 2 k (by omega) (by omega)),
    show sl 3 (k + 1 + 2) = sl 3 k from sl_add 3 k]
  iintro ⟨⟨H1, H2⟩, H3, H4, H5⟩
  isplitl [H3]; · iexact H3
  isplitl [H1 H5]
  · isplitl [H1]; · iexact H1
    iexact H5
  iintro ⟨G1, G2, G3⟩
  isplitl [G1 H2]
  · isplitl [G1]; · iexact G1
    iexact H2
  isplitl [H4]; · iexact H4
  isplitl [G3]; · iexact G3
  iexact G2

theorem reads_tail (k : ℕ) (hk : k < NB) (h : ¬ k + 2 < NB) :
    reads home infl idle k ⊢ iprop(infl (sl 3 k) (bk NB k)
      ∗ ((home (bk NB k) ∗ idle (sl 3 k)) -∗ reads home infl idle (k + 1))) := by
  unfold reads
  rw [rdAt_in infl idle k hk, rdAt_out infl idle (k + 1 + 1) (by omega), homeSet_succ_tail 2 k (by omega) hk,
    bigSep_put (bk_not_mem_homeSet 2 k hk (by omega)), show sl 3 (k + 1 + 2) = sl 3 k from sl_add 3 k]
  iintro ⟨H1, H3, H4, H5⟩
  isplitl [H3]; · iexact H3
  iintro ⟨G1, G2⟩
  isplitl [G1 H1]
  · isplitl [G1]; · iexact G1
    iexact H1
  isplitl [H4]; · iexact H4
  isplitl [H5]; · iexact H5
  iexact G2

theorem reads_end (k : ℕ) (hk : NB ≤ k) :
    reads home infl idle k ⊢ iprop(bigSep Finset.univ home ∗ idle (sl 3 k) ∗ idle (sl 3 (k + 1)) ∗ idle (sl 3 (k + 2))) := by
  unfold reads
  rw [rdAt_out infl idle k (by omega), rdAt_out infl idle (k + 1) (by omega), homeSet_last 2 k hk]
end Read

section Write
variable (ahead behind : Fin NB → sProp M) (infl : Fin 2 → Fin NB → sProp M) (idle : Fin 2 → sProp M)

/-- The slot that is not trip `k`'s: the last block on its way out, before the first trip nothing. -/
def wrAt (k : ℕ) : sProp M := if k = 0 then idle (sl 2 1) else infl (sl 2 (k - 1)) (bk NB (k - 1))

/-- The write ring before trip `k`: one block behind. -/
def writes (k : ℕ) : sProp M :=
  iprop(bigSep (aheadSet k) ahead ∗ bigSep (behindSet 1 k) behind ∗ idle (sl 2 k) ∗ wrAt infl idle k)

theorem writes_start : iprop(bigSep Finset.univ ahead ∗ idle (sl 2 0) ∗ idle (sl 2 1)) ⊢ writes ahead behind infl idle 0 := by
  unfold writes wrAt; rw [if_pos rfl, aheadSet_zero, behindSet_boot 1 0 (by omega), bigSep_empty]
  iintro ⟨H1, H2, H3⟩
  isplitl [H1]; · iexact H1
  isplitr; · iempintro
  isplitl [H2]; · iexact H2
  iexact H3

theorem writes_first (k : ℕ) (hk : k = 0) :
    writes ahead behind infl idle k ⊢ iprop((ahead (bk NB k) ∗ idle (sl 2 k))
      ∗ (infl (sl 2 k) (bk NB k) -∗ writes ahead behind infl idle (k + 1))) := by
  subst hk
  unfold writes wrAt
  have hN : 0 < NB := Nat.pos_of_ne_zero (NeZero.ne NB)
  rw [if_pos rfl, if_neg (by omega), aheadSet_open 0 hN, bigSep_put (bk_not_mem_aheadSet_succ 0 hN), behindSet_boot 1 0 (by omega),
    behindSet_boot 1 (0 + 1) (by omega)]
  iintro ⟨⟨H1, H2⟩, HB, H3, H4⟩
  isplitl [H1 H3]
  · isplitl [H1]; · iexact H1
    iexact H3
  iintro G
  isplitl [H2]; · iexact H2
  isplitl [HB]; · iexact HB
  isplitl [H4]; · iexact H4
  iexact G

theorem writes_mid (k : ℕ) (h1 : 1 ≤ k) (hk : k < NB) :
    writes ahead behind infl idle k ⊢ iprop((ahead (bk NB k) ∗ idle (sl 2 k)) ∗ infl (sl 2 (k - 1)) (bk NB (k - 1))
      ∗ ((infl (sl 2 k) (bk NB k) ∗ behind (bk NB (k - 1)) ∗ idle (sl 2 (k - 1))) -∗ writes ahead behind infl idle (k + 1))) := by
  unfold writes wrAt
  rw [if_neg (by omega), if_neg (by omega), aheadSet_open k hk, bigSep_put (bk_not_mem_aheadSet_succ k hk),
    behindSet_close 1 k h1 hk, bigSep_put (bk_not_mem_behindSet 1 k h1 hk), sl2_succ_eq_pred k h1, Nat.add_sub_cancel]
  iintro ⟨⟨H1, H2⟩, HB, H3, H4⟩
  isplitl [H1 H3]
  · isplitl [H1]; · iexact H1
    iexact H3
  isplitl [H4]; · iexact H4
  iintro ⟨G, GB, GI⟩
  isplitl [H2]; · iexact H2
  isplitl [HB GB]
  · isplitl [GB]; · iexact GB
    iexact HB
  isplitl [GI]; · iexact GI
  iexact G

theorem writes_end (k : ℕ) (h1 : 1 ≤ k) (hk : NB = k) :
    writes ahead behind infl idle k ⊢ iprop(infl (sl 2 (k - 1)) (bk NB (k - 1))
      ∗ ((behind (bk NB (k - 1)) ∗ idle (sl 2 (k - 1))) -∗ (bigSep Finset.univ behind ∗ idle (sl 2 k) ∗ idle (sl 2 (k - 1))))) := by
  unfold writes wrAt
  have e : (Finset.univ : Finset (Fin NB)) = insert (bk NB (k - 1)) (behindSet 1 k) := by
    ext b; rw [Finset.mem_insert, mem_behindSet, Fin.ext_iff, bk_val (by omega)]; have := b.isLt; simp; omega
  have e' : bk NB (k - 1) ∉ behindSet (NB := NB) 1 k := by rw [mem_behindSet, bk_val (by omega)]; omega
  rw [if_neg (by omega), aheadSet_end k (by omega), bigSep_empty, e, bigSep_put e']
  iintro ⟨H1, HB, H3, H4⟩
  isplitl [H4]; · iexact H4
  iintro ⟨GB, GI⟩
  isplitl [HB GB]
  · isplitl [GB]; · iexact GB
    iexact HB
  isplitl [H3]; · iexact H3
  iexact GI
end Write

section Step
variable {α : Type} (wp : (α → sProp M) → sProp M) (hw : ∀ Φ Ψ : α → sProp M, iprop(wp Φ ∗ ∀ a, Φ a -∗ Ψ a) ⊢ wp Ψ)
variable (home : Fin NB → sProp M) (infl : Fin 3 → Fin NB → sProp M) (xc xs : Fin 3 → sProp M)
variable (ahead behind : Fin NB → sProp M) (oinfl : Fin 2 → Fin NB → sProp M) (oc os : Fin 2 → sProp M)
variable (T T' O : sProp M) (ok : α → Prop)

abbrev baseR (k : ℕ) : sProp M := iprop(infl (sl 3 k) (bk NB k) ∗ T ∗ os (sl 2 k) ∗ oc (sl 2 k) ∗ ahead (bk NB k) ∗ O)
abbrev doneR (k : ℕ) : sProp M := iprop(home (bk NB k) ∗ xs (sl 3 k) ∗ xc (sl 3 k) ∗ T' ∗ oinfl (sl 2 k) (bk NB k) ∗ O)
abbrev readInR (k : ℕ) : sProp M := iprop(home (bk NB (k + 2)) ∗ xc (sl 3 (k + 2)) ∗ xs (sl 3 (k + 2)))
abbrev writeOutR (k : ℕ) : sProp M := iprop(behind (bk NB (k - 1)) ∗ os (sl 2 (k - 1)) ∗ oc (sl 2 (k - 1)))

abbrev invR (T : sProp M) (ok : α → Prop) (k : ℕ) (a : α) : sProp M :=
  iprop(⌜ok a⌝ ∗ T ∗ O ∗ reads home infl (fun s => iprop(xc s ∗ xs s)) k ∗ writes ahead behind oinfl (fun s => iprop(oc s ∗ os s)) k)

include hw in
/-- One trip of a loop over both rings, from its roles. -/
theorem loop_step (k : ℕ) (hk : k < NB) (h2N : 2 < NB)
    (first : k = 0 → iprop(baseR infl ahead oc os T O k ∗ readInR home xc xs k) ⊢ wp fun a => iprop(⌜ok a⌝ ∗ doneR home xc xs oinfl T' O k ∗ infl (sl 3 (k + 2)) (bk NB (k + 2))))
    (mid : 1 ≤ k → k + 2 < NB → iprop(baseR infl ahead oc os T O k ∗ readInR home xc xs k ∗ oinfl (sl 2 (k - 1)) (bk NB (k - 1)))
      ⊢ wp fun a => iprop(⌜ok a⌝ ∗ doneR home xc xs oinfl T' O k ∗ infl (sl 3 (k + 2)) (bk NB (k + 2)) ∗ writeOutR behind oc os k))
    (last : ¬ k + 2 < NB → iprop(baseR infl ahead oc os T O k ∗ oinfl (sl 2 (k - 1)) (bk NB (k - 1)))
      ⊢ wp fun a => iprop(⌜ok a⌝ ∗ doneR home xc xs oinfl T' O k ∗ writeOutR behind oc os k)) :
    iprop(T ∗ O ∗ reads home infl (fun s => iprop(xc s ∗ xs s)) k ∗ writes ahead behind oinfl (fun s => iprop(oc s ∗ os s)) k)
      ⊢ wp (invR home infl xc xs ahead behind oinfl oc os O T' ok (k + 1)) := by
  iintro ⟨HW, HOw, HR, HO⟩
  rcases Nat.lt_or_ge 0 k with h1 | h0
  · ihave HO' := (writes_mid _ _ _ _ k h1 hk) $$ HO
    icases HO' with ⟨⟨HOa, HCo, HSo⟩, HFo, HOk⟩
    by_cases h2 : k + 2 < NB
    · ihave HR' := (reads_mid _ _ _ k h2) $$ HR
      icases HR' with ⟨HFx, ⟨HX, HCx, HSx⟩, HRk⟩
      iapply (hw _ _)
      isplitl [HW HOw HFx HX HCx HSx HOa HCo HSo HFo]
      · iapply (mid h1 h2)
        isplitl [HW HOw HFx HOa HCo HSo]
        · isplitl [HFx]; · iexact HFx
          isplitl [HW]; · iexact HW
          isplitl [HSo]; · iexact HSo
          isplitl [HCo]; · iexact HCo
          isplitl [HOa]; · iexact HOa
          iexact HOw
        isplitl [HX HCx HSx]
        · isplitl [HX]; · iexact HX
          isplitl [HCx]; · iexact HCx
          iexact HSx
        iexact HFo
      iintro %acc' ⟨%ha, ⟨GX, GS, GC, GW, GD, GOw⟩, GR, ⟨GB, GBs, GBc⟩⟩
      isplitr; · ipureintro; exact ha
      isplitl [GW]; · iexact GW
      isplitl [GOw]; · iexact GOw
      isplitl [HRk GX GS GC GR]
      · iapply HRk
        isplitl [GX]; · iexact GX
        isplitl [GS GC]
        · isplitl [GC]; · iexact GC
          iexact GS
        iexact GR
      iapply HOk
      isplitl [GD]; · iexact GD
      isplitl [GB]; · iexact GB
      isplitl [GBc]; · iexact GBc
      iexact GBs
    · ihave HR' := (reads_tail _ _ _ k hk h2) $$ HR
      icases HR' with ⟨HFx, HRk⟩
      iapply (hw _ _)
      isplitl [HW HOw HFx HOa HCo HSo HFo]
      · iapply (last h2)
        isplitl [HW HOw HFx HOa HCo HSo]
        · isplitl [HFx]; · iexact HFx
          isplitl [HW]; · iexact HW
          isplitl [HSo]; · iexact HSo
          isplitl [HCo]; · iexact HCo
          isplitl [HOa]; · iexact HOa
          iexact HOw
        iexact HFo
      iintro %acc' ⟨%ha, ⟨GX, GS, GC, GW, GD, GOw⟩, ⟨GB, GBs, GBc⟩⟩
      isplitr; · ipureintro; exact ha
      isplitl [GW]; · iexact GW
      isplitl [GOw]; · iexact GOw
      isplitl [HRk GX GS GC]
      · iapply HRk
        isplitl [GX]; · iexact GX
        isplitl [GC]; · iexact GC
        iexact GS
      iapply HOk
      isplitl [GD]; · iexact GD
      isplitl [GB]; · iexact GB
      isplitl [GBc]; · iexact GBc
      iexact GBs
  · have h0 : k = 0 := by omega
    ihave HO' := (writes_first _ _ _ _ k h0) $$ HO
    icases HO' with ⟨⟨HOa, HCo, HSo⟩, HOk⟩
    ihave HR' := (reads_mid _ _ _ k (by omega)) $$ HR
    icases HR' with ⟨HFx, ⟨HX, HCx, HSx⟩, HRk⟩
    iapply (hw _ _)
    isplitl [HW HOw HFx HX HCx HSx HOa HCo HSo]
    · iapply (first h0)
      isplitl [HW HOw HFx HOa HCo HSo]
      · isplitl [HFx]; · iexact HFx
        isplitl [HW]; · iexact HW
        isplitl [HSo]; · iexact HSo
        isplitl [HCo]; · iexact HCo
        isplitl [HOa]; · iexact HOa
        iexact HOw
      isplitl [HX]; · iexact HX
      isplitl [HCx]; · iexact HCx
      iexact HSx
    iintro %acc' ⟨%ha, ⟨GX, GS, GC, GW, GD, GOw⟩, GR⟩
    isplitr; · ipureintro; exact ha
    isplitl [GW]; · iexact GW
    isplitl [GOw]; · iexact GOw
    isplitl [HRk GX GS GC GR]
    · iapply HRk
      isplitl [GX]; · iexact GX
      isplitl [GS GC]
      · isplitl [GC]; · iexact GC
        iexact GS
      iexact GR
    iapply HOk
    iexact GD
end Step

end Cert.Proof.Rings
end
end
-- ==== Proof.TabRing.lean ====
/- The ring of a table read one block ahead into two slots, its blocks taken round and round. -/
module

public import proofs.«01_k».proof.Proof.Rings

@[expose] public section

noncomputable section

namespace Cert.Proof.Rings

open Idealize.ShloMosaic
open Idealize.SL
open Idealize.SL.BI (sProp bigSep bigSep_insert bigSep_empty)
open scoped Idealize.SL.BI
open Idealize.SL.BI.BIBase Idealize.SL.BI.Laws Idealize.SL.Sem Idealize.SL.ProofMode
open Idealize.SL.RA
open Idealize.ShloMosaic.Ring

variable {M : Type _} [URA M]
variable (home : Fin 4 → sProp M) (infl : Fin 2 → Fin 4 → sProp M) (idle : Fin 2 → sProp M)

/-- Before trip `k` of 16: the trip's block on its way in, all the others home; after the last trip every block home. -/
def around (k : ℕ) : sProp M :=
  if k < 16 then iprop(bigSep (Finset.univ.erase (bk 4 k)) home ∗ infl (sl 2 k) (bk 4 k) ∗ idle (sl 2 (k + 1)))
  else iprop(bigSep Finset.univ home ∗ idle (sl 2 k) ∗ idle (sl 2 (k + 1)))

theorem bk4_succ_ne : ∀ k : Fin 16, bk 4 (k.val + 1) ≠ bk 4 k.val := by decide
theorem sl2_two : ∀ k : Fin 16, sl 2 (k.val + 1 + 1) = sl 2 k.val := by decide

theorem around_start : iprop(bigSep (Finset.univ.erase (bk 4 0)) home ∗ infl (sl 2 0) (bk 4 0) ∗ idle (sl 2 1)) ⊢ around home infl idle 0 := by
  unfold around; rw [if_pos (by omega)]

theorem around_end : around home infl idle 16 ⊢ iprop(bigSep Finset.univ home ∗ idle (sl 2 0) ∗ idle (sl 2 1)) := by
  unfold around; rw [if_neg (by omega)]
  exact Entails.of_eq rfl

theorem around_mid (k : ℕ) (h : k + 1 < 16) :
    around home infl idle k ⊢ iprop(infl (sl 2 k) (bk 4 k) ∗ (home (bk 4 (k + 1)) ∗ idle (sl 2 (k + 1)))
      ∗ (((home (bk 4 k) ∗ idle (sl 2 k)) ∗ infl (sl 2 (k + 1)) (bk 4 (k + 1))) -∗ around home infl idle (k + 1))) := by
  have e1 : bk 4 (k + 1) ∈ Finset.univ.erase (bk 4 k) := Finset.mem_erase.2 ⟨bk4_succ_ne ⟨k, by omega⟩, Finset.mem_univ _⟩
  have e2 : Finset.univ.erase (bk 4 (k + 1)) = insert (bk 4 k) ((Finset.univ.erase (bk 4 k)).erase (bk 4 (k + 1))) := by
    have := bk4_succ_ne ⟨k, by omega⟩
    ext b; simp only [Finset.mem_erase, Finset.mem_univ, Finset.mem_insert, and_true]
    constructor
    · intro hb; by_cases hc : b = bk 4 k; · exact Or.inl hc
      exact Or.inr ⟨hb, hc⟩
    · rintro (rfl | ⟨hb, _⟩)
      · exact fun he => this he.symm
      · exact hb
  have e3 : bk 4 k ∉ (Finset.univ.erase (bk 4 k)).erase (bk 4 (k + 1)) := by simp
  have e4 := sl2_two ⟨k, by omega⟩
  unfold around
  rw [if_pos (by omega), if_pos h, bigSep_take e1, e2, bigSep_put e3]
  dsimp only at e4
  rw [e4]
  iintro ⟨⟨H1, H2⟩, H3, H4⟩
  isplitl [H3]; · iexact H3
  isplitl [H1 H4]
  · isplitl [H1]; · iexact H1
    iexact H4
  iintro ⟨⟨G1, G2⟩, G3⟩
  isplitl [G1 H2]
  · isplitl [G1]; · iexact G1
    iexact H2
  isplitl [G3]; · iexact G3
  iexact G2

theorem around_last (k : ℕ) (hk : k < 16) (h : ¬ k + 1 < 16) :
    around home infl idle k ⊢ iprop(infl (sl 2 k) (bk 4 k) ∗ ((home (bk 4 k) ∗ idle (sl 2 k)) -∗ around home infl idle (k + 1))) := by
  have e2 : (Finset.univ : Finset (Fin 4)) = insert (bk 4 k) (Finset.univ.erase (bk 4 k)) := (Finset.insert_erase (Finset.mem_univ _)).symm
  have e4 := sl2_two ⟨k, hk⟩
  unfold around
  rw [if_pos hk, if_neg h]
  dsimp only at e4
  rw [e4]
  iintro ⟨H2, H3, H4⟩
  isplitl [H3]; · iexact H3
  iintro ⟨G1, G2⟩
  isplitl [G1 H2]
  · rw [e2, bigSep_put (Finset.notMem_erase _ _), ← e2]
    isplitl [G1]; · iexact G1
    iexact H2
  isplitl [H4]; · iexact H4
  iexact G2

end Cert.Proof.Rings
end
end
-- ==== Proof.FftABody.lean ====
/- The first stage's loop: the rings' invariant, the reads issued before it and the write waited for after it. -/
module

public import proofs.«01_k».proof.Proof.FftATrip
public import proofs.«01_k».proof.Proof.TabRing

@[expose] public section

noncomputable section

namespace Cert.Proof.FftA

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Cert.Proof.FftB (UU EP 𝒱₀ semOff whole_slice)
local notation "𝕄" => MT nD τ sig Unit (Elt F) ℕ (UU nD τ) ℕ
open Idealize.ShloMosaic.ValueIdx

section Body
variable (c : Dev nD) (XA : Buf (Elt F) (xM.view.loc (c : Thread nD τ))) (CA : Buf (Elt F) (cM.view.loc (c : Thread nD τ)))
  (DA : Buf (Elt F) (dM.view.loc (c : Thread nD τ)))
  (arg1 : Memref sig .tc .vmem S256x256 .bf16) (harg1 : arg1.IsWhole)

/-- A slot idle, and a block on its way into it. -/
abbrev xidle (s : Fin 3) : sProp 𝕄 := iprop(xcell c s ∗ ∃ f, xslotP c s f)
abbrev cidle (s : Fin 2) : sProp 𝕄 := iprop(ccell c s ∗ ∃ f, cslotP c s f)
abbrev didle (s : Fin 2) : sProp 𝕄 := iprop(dcell c s ∗ ∃ f, dslotP c s f)
abbrev oidle (s : Fin 2) : sProp 𝕄 := iprop(ocell c s ∗ ∃ f, oslotP c s f)
abbrev xfl (s : Fin 3) (b : Fin 16) : sProp 𝕄 := iprop(∃ f, xflight c XA s b f)
abbrev cfl (s : Fin 2) (b : Fin 4) : sProp 𝕄 := iprop(∃ f, cflight c CA s b f)
abbrev dfl (s : Fin 2) (b : Fin 4) : sProp 𝕄 := iprop(∃ f, dflight c DA s b f)

variable (W : Buf (Elt F) (arg1.view.loc (c : Thread nD τ)))
abbrev readsA (k : ℕ) : sProp 𝕄 := Rings.reads (xhome c XA) (xfl c XA) (xidle c) k
abbrev writesA (k : ℕ) : sProp 𝕄 := Rings.writes (fun b => iprop(∃ f, ohome c b f)) (oBack c XA CA DA arg1 W) (oDone c XA CA DA arg1 W) (oidle c) k
/-- The matrix and the two tables' rings before trip `k`. -/
abbrev tabsAt (k : ℕ) : sProp 𝕄 :=
  iprop(tabP c arg1 W ∗ Rings.around (chome c CA) (cfl c CA) (cidle c) k ∗ Rings.around (dhome c DA) (dfl c DA) (didle c) k)

abbrev invA (k : ℕ) : BitVec 32 × BitVec 32 × BitVec 32 × BitVec 32 × BitVec 32 × BitVec 32 × BitVec 32 × BitVec 32 × BitVec 32 × BitVec 32 → sProp 𝕄 :=
  Rings.invR (xhome c XA) (xfl c XA) (xcell c) (fun s => iprop(∃ f, xslotP c s f)) (fun b => iprop(∃ f, ohome c b f)) (oBack c XA CA DA arg1 W) (oDone c XA CA DA arg1 W)
    (ocell c) (fun s => iprop(∃ f, oslotP c s f)) iprop(∃ Wt, owes (c : Thread nD τ) 0 Wt) (tabsAt c CA DA arg1 W k) (fun acc => acc = accAt k) k

theorem tabs_mid (k : ℕ) (h : k + 1 < 16) :
    tabsAt c CA DA arg1 W k ⊢ iprop(T1 c CA DA arg1 W k ∗ (T1' c CA DA arg1 W k -∗ tabsAt c CA DA arg1 W (k + 1))) := by
  iintro ⟨HW, HC, HD⟩
  ihave HC' := (Rings.around_mid _ _ _ k h) $$ HC
  icases HC' with ⟨HC1, ⟨HC2, HC3, HC4⟩, HCk⟩
  ihave HD' := (Rings.around_mid _ _ _ k h) $$ HD
  icases HD' with ⟨HD1, ⟨HD2, HD3, HD4⟩, HDk⟩
  isplitl [HW HC1 HC2 HC3 HC4 HD1 HD2 HD3 HD4]
  · isplitl [HW]; · iexact HW
    isplitl [HC1 HD1]
    · isplitl [HC1]; · iexact HC1
      iexact HD1
    isplitl [HC2 HC3 HC4]
    · isplitl [HC2]; · iexact HC2
      isplitl [HC3]; · iexact HC3
      iexact HC4
    isplitl [HD2]; · iexact HD2
    isplitl [HD3]; · iexact HD3
    iexact HD4
  iintro ⟨HW, ⟨⟨HC2, HC3, HC4⟩, HD2, HD3, HD4⟩, HC1, HD1⟩
  isplitl [HW]; · iexact HW
  isplitl [HC1 HC2 HC3 HC4 HCk]
  · iapply HCk
    isplitl [HC2 HC3 HC4]
    · isplitl [HC2]; · iexact HC2
      isplitl [HC3]; · iexact HC3
      iexact HC4
    iexact HC1
  iapply HDk
  isplitl [HD2 HD3 HD4]
  · isplitl [HD2]; · iexact HD2
    isplitl [HD3]; · iexact HD3
    iexact HD4
  iexact HD1

theorem tabs_last (k : ℕ) (hk : k < 16) (h : ¬ k + 1 < 16) :
    tabsAt c CA DA arg1 W k ⊢ iprop(T0 c CA DA arg1 W k ∗ (T0' c CA DA arg1 W k -∗ tabsAt c CA DA arg1 W (k + 1))) := by
  iintro ⟨HW, HC, HD⟩
  ihave HC' := (Rings.around_last _ _ _ k hk h) $$ HC
  icases HC' with ⟨HC1, HCk⟩
  ihave HD' := (Rings.around_last _ _ _ k hk h) $$ HD
  icases HD' with ⟨HD1, HDk⟩
  isplitl [HW HC1 HD1]
  · isplitl [HW]; · iexact HW
    isplitl [HC1]; · iexact HC1
    iexact HD1
  iintro ⟨HW, ⟨HC2, HC3, HC4⟩, HD2, HD3, HD4⟩
  isplitl [HW]; · iexact HW
  isplitl [HC2 HC3 HC4 HCk]
  · iapply HCk
    isplitl [HC2]; · iexact HC2
    isplitl [HC3]; · iexact HC3
    iexact HC4
  iapply HDk
  isplitl [HD2]; · iexact HD2
  isplitl [HD3]; · iexact HD3
  iexact HD4

/-- What the rings' part of a trip leaves, with the tables' rings as the trip left them. -/
abbrev invT (T : sProp 𝕄) (k : ℕ) : BitVec 32 × BitVec 32 × BitVec 32 × BitVec 32 × BitVec 32 × BitVec 32 × BitVec 32 × BitVec 32 × BitVec 32 × BitVec 32 → sProp 𝕄 :=
  Rings.invR (xhome c XA) (xfl c XA) (xcell c) (fun s => iprop(∃ f, xslotP c s f)) (fun b => iprop(∃ f, ohome c b f)) (oBack c XA CA DA arg1 W) (oDone c XA CA DA arg1 W)
    (ocell c) (fun s => iprop(∃ f, oslotP c s f)) iprop(∃ Wt, owes (c : Thread nD τ) 0 Wt) T (fun acc => acc = accAt k) k

theorem invT_tabs (T : sProp 𝕄) (k : ℕ) (acc) :
    iprop((T -∗ tabsAt c CA DA arg1 W k) ∗ invT c XA CA DA arg1 W T k acc) ⊢ invA c XA CA DA arg1 W k acc := by
  iintro ⟨HK, ⟨%ha, HT, HO, HR, HW⟩⟩
  isplitr; · ipureintro; exact ha
  isplitl [HK HT]
  · iapply HK; iexact HT
  isplitl [HO]; · iexact HO
  isplitl [HR]; · iexact HR
  iexact HW

set_option maxHeartbeats 4000000 in
theorem stepA (v18 v19 v46 v53 : BitVec 32) (k : Fin k0_t1_loop.trips) (acc) :
    invA c XA CA DA arg1 W k.val acc ⊢ (wp frame (wpE (defs₀ (F := F)) 𝒱₀ (c : Thread nD τ) none) Set.univ (tripG arg1 harg1 v18 v19 v46 v53 k acc)
      (invA c XA CA DA arg1 W (k.val + 1)) : sProp 𝕄) := by
  have hk : k.val < 16 := lt_of_lt_of_eq k.isLt trips_eq
  iintro ⟨%ha, HT, HO, HR, HWr⟩
  subst ha
  by_cases h3 : k.val + 1 < 16
  · ihave HT' := (tabs_mid c CA DA arg1 W k.val h3) $$ HT
    icases HT' with ⟨HT, HK⟩
    iapply (wp_wand_r Idealize.ShloMosaic.frame (wpE (defs₀ (F := F)) 𝒱₀ (c : Thread nD τ) none) Set.univ)
    isplitl [HT HO HR HWr]
    · iapply (Rings.loop_step (fun Φ => wp frame (wpE (defs₀ (F := F)) 𝒱₀ (c : Thread nD τ) none) Set.univ (tripG arg1 harg1 v18 v19 v46 v53 k (accAt k.val)) Φ)
        (fun Φ Ψ => wp_wand_r Idealize.ShloMosaic.frame (wpE (defs₀ (F := F)) 𝒱₀ (c : Thread nD τ) none) Set.univ)
        (xhome c XA) (xfl c XA) (xcell c) (fun s => iprop(∃ f, xslotP c s f)) (fun b => iprop(∃ f, ohome c b f)) (oBack c XA CA DA arg1 W) (oDone c XA CA DA arg1 W)
    (ocell c) (fun s => iprop(∃ f, oslotP c s f)) (T1 c CA DA arg1 W k.val) (T1' c CA DA arg1 W k.val) iprop(∃ Wt, owes (c : Thread nD τ) 0 Wt) (fun acc => acc = accAt (k.val + 1)) k.val hk (by omega)
        (fun h => trip_first c XA CA DA arg1 harg1 v18 v19 v46 v53 W k h) (fun h h' => trip_mid c XA CA DA arg1 harg1 v18 v19 v46 v53 W k h h')
        (fun h => trip_late c XA CA DA arg1 harg1 v18 v19 v46 v53 W k h h3))
      isplitl [HT]; · iexact HT
      isplitl [HO]; · iexact HO
      isplitl [HR]; · iexact HR
      iexact HWr
    iintro %acc' HI
    iapply (invT_tabs c XA CA DA arg1 W (T1' c CA DA arg1 W k.val) (k.val + 1) acc')
    isplitl [HK]; · iexact HK
    iexact HI
  · ihave HT' := (tabs_last c CA DA arg1 W k.val hk h3) $$ HT
    icases HT' with ⟨HT, HK⟩
    iapply (wp_wand_r Idealize.ShloMosaic.frame (wpE (defs₀ (F := F)) 𝒱₀ (c : Thread nD τ) none) Set.univ)
    isplitl [HT HO HR HWr]
    · iapply (Rings.loop_step (fun Φ => wp frame (wpE (defs₀ (F := F)) 𝒱₀ (c : Thread nD τ) none) Set.univ (tripG arg1 harg1 v18 v19 v46 v53 k (accAt k.val)) Φ)
        (fun Φ Ψ => wp_wand_r Idealize.ShloMosaic.frame (wpE (defs₀ (F := F)) 𝒱₀ (c : Thread nD τ) none) Set.univ)
        (xhome c XA) (xfl c XA) (xcell c) (fun s => iprop(∃ f, xslotP c s f)) (fun b => iprop(∃ f, ohome c b f)) (oBack c XA CA DA arg1 W) (oDone c XA CA DA arg1 W)
    (ocell c) (fun s => iprop(∃ f, oslotP c s f)) (T0 c CA DA arg1 W k.val) (T0' c CA DA arg1 W k.val) iprop(∃ Wt, owes (c : Thread nD τ) 0 Wt) (fun acc => acc = accAt (k.val + 1)) k.val hk (by omega)
        (fun h => absurd h (by omega)) (fun _ h' => absurd h' (by omega))
        (fun _ => trip_last c XA CA DA arg1 harg1 v18 v19 v46 v53 W k h3))
      isplitl [HT]; · iexact HT
      isplitl [HO]; · iexact HO
      isplitl [HR]; · iexact HR
      iexact HWr
    iintro %acc' HI
    iapply (invT_tabs c XA CA DA arg1 W (T0' c CA DA arg1 W k.val) (k.val + 1) acc')
    isplitl [HK]; · iexact HK
    iexact HI

/-! ## The body -/

abbrev bodyG : Prog (TpuEff nD τ sig (Elt F) Λ₀ .tc) PUnit :=
  cc0_fft_a (F := F) xM (Memref.isWhole_whole _) arg1 harg1 cM (Memref.isWhole_whole _) dM (Memref.isWhole_whole _) oM (Memref.isWhole_whole _)
    xB (Memref.isWhole_whole _) cc0_scoped1 cB (Memref.isWhole_whole _) cc0_scoped3 dB (Memref.isWhole_whole _) cc0_scoped5 oB (Memref.isWhole_whole _) cc0_scoped7

theorem cond1_t : k0_cond1 = 1#1 := by decide +kernel
@[sl_canon] theorem b1 (hh) : (cc0_scoped1.slice (Rect.unit (s := S3) k0_off1 S1.size hh)).squeeze S_ squeezes_S1_S_ = xsem (Ring.sl 3 0) := xsem_congr (by decide +kernel) _
@[sl_canon] theorem b3c (hh) : (cc0_scoped3.slice (Rect.unit (s := S2) k0_off3 S1.size hh)).squeeze S_ squeezes_S1_S_ = csem (Ring.sl 2 0) := csem_congr (by decide +kernel) _
@[sl_canon] theorem b3d (hh) : (cc0_scoped5.slice (Rect.unit (s := S2) k0_off3 S1.size hh)).squeeze S_ squeezes_S1_S_ = dsem (Ring.sl 2 0) := dsem_congr (by decide +kernel) _
@[sl_canon] theorem b5 (hh) : (cc0_scoped1.slice (Rect.unit (s := S3) k0_off5 S1.size hh)).squeeze S_ squeezes_S1_S_ = xsem (Ring.sl 3 1) := xsem_congr (by decide +kernel) _
@[sl_canon] theorem b71 (hh) : (cc0_scoped7.slice (Rect.unit (s := S2) (k0_off71 (a13 16)) S1.size hh)).squeeze S_ squeezes_S1_S_ = osem (Ring.sl 2 (16 - 1)) := osem_congr (s := Ring.sl 2 (16 - 1)) (off71_eq.trans (by decide +kernel)) _
@[sl_canon] theorem b2 (hh hs) : (xB.slice (Rect.unit (s := S3x1x64x16x2x1024) k0_off2 S1x1x64x16x2x1024.size hh) hs).squeeze S1x64x16x2x1024 squeezes_S1x1x64x16x2x1024_S1x64x16x2x1024 = xslot (Ring.sl 3 0) := xslot_congr (by decide +kernel) _ _
@[sl_canon] theorem b2m (hh hs) : xM.slice (Rect.unit (s := S4x64x64x2x1024) ![0, 0, 0, 0, 0] S1x64x16x2x1024.size hh) hs = xblk (Ring.bk 16 0) := xblk_congr (by decide +kernel) _ _
@[sl_canon] theorem b4c (hh hs) : (cB.slice (Rect.unit (s := S2x32x64x128) k0_off4 S1x32x64x128.size hh) hs).squeeze S32x64x128 squeezes_S1x32x64x128_S32x64x128 = cslot (Ring.sl 2 0) := cslot_congr (by decide +kernel) _ _
@[sl_canon] theorem b4d (hh hs) : (dB.slice (Rect.unit (s := S2x32x64x128) k0_off4 S1x32x64x128.size hh) hs).squeeze S32x64x128 squeezes_S1x32x64x128_S32x64x128 = dslot (Ring.sl 2 0) := dslot_congr (by decide +kernel) _ _
@[sl_canon] theorem b4cm (hh hs) : cM.slice (Rect.unit (s := S128x64x128) ![0, 0, 0] S32x64x128.size hh) hs = cblk (Ring.bk 4 0) := cblk_congr (by decide +kernel) _ _
@[sl_canon] theorem b4dm (hh hs) : dM.slice (Rect.unit (s := S128x64x128) ![0, 0, 0] S32x64x128.size hh) hs = dblk (Ring.bk 4 0) := dblk_congr (by decide +kernel) _ _
@[sl_canon] theorem b6 (hh hs) : (xB.slice (Rect.unit (s := S3x1x64x16x2x1024) k0_off6 S1x1x64x16x2x1024.size hh) hs).squeeze S1x64x16x2x1024 squeezes_S1x1x64x16x2x1024_S1x64x16x2x1024 = xslot (Ring.sl 3 1) := xslot_congr (by decide +kernel) _ _
@[sl_canon] theorem b7 (hh hs) : xM.slice (Rect.unit (s := S4x64x64x2x1024) k0_off7 S1x64x16x2x1024.size hh) hs = xblk (Ring.bk 16 1) := xblk_congr (by decide +kernel) _ _
@[sl_canon] theorem b72 (hh hs) : oM.slice (Rect.unit (s := S4x128x32x2x1024) (k0_off72 (a15 16) (a14 16)) S1x32x32x2x1024.size hh) hs = oblk (Ring.bk 16 (16 - 1)) := oblk_congr (b := Ring.bk 16 (16 - 1)) (off72_eq.trans (by decide +kernel)) _ _
@[sl_canon] theorem b73 (hh hs) : (oB.slice (Rect.unit (s := S2x1x32x32x2x1024) (k0_off73 (a13 16)) S1x1x32x32x2x1024.size hh) hs).squeeze S1x32x32x2x1024 squeezes_S1x1x32x32x2x1024_S1x32x32x2x1024 = oslot (Ring.sl 2 (16 - 1)) := oslot_congr (s := Ring.sl 2 (16 - 1)) (off73_eq.trans (by decide +kernel)) _ _
abbrev preA : sProp 𝕄 :=
  iprop(tabP c arg1 W ∗ (bigSep Finset.univ (xhome c XA) ∗ bigSep Finset.univ (chome c CA) ∗ bigSep Finset.univ (dhome c DA)) ∗ bigSep Finset.univ (fun b : Fin 16 => iprop(∃ f, ohome c b f))
    ∗ (xidle c (Ring.sl 3 0) ∗ xidle c (Ring.sl 3 1) ∗ xidle c (Ring.sl 3 2))
    ∗ (cidle c (Ring.sl 2 0) ∗ cidle c (Ring.sl 2 1)) ∗ (didle c (Ring.sl 2 0) ∗ didle c (Ring.sl 2 1))
    ∗ (oidle c (Ring.sl 2 0) ∗ oidle c (Ring.sl 2 1)) ∗ (∃ Wt, owes (c : Thread nD τ) 0 Wt))
abbrev postA : sProp 𝕄 :=
  iprop(tabP c arg1 W ∗ (bigSep Finset.univ (xhome c XA) ∗ bigSep Finset.univ (chome c CA) ∗ bigSep Finset.univ (dhome c DA)) ∗ bigSep Finset.univ (oBack c XA CA DA arg1 W)
    ∗ (xidle c (Ring.sl 3 0) ∗ xidle c (Ring.sl 3 1) ∗ xidle c (Ring.sl 3 2))
    ∗ (cidle c (Ring.sl 2 0) ∗ cidle c (Ring.sl 2 1)) ∗ (didle c (Ring.sl 2 0) ∗ didle c (Ring.sl 2 1))
    ∗ (oidle c (Ring.sl 2 0) ∗ oidle c (Ring.sl 2 1)) ∗ (∃ Wt, owes (c : Thread nD τ) 0 Wt))

theorem homes_zero : bigSep Finset.univ (xhome c XA) = iprop(xhome c XA (Ring.bk 16 0) ∗ xhome c XA (Ring.bk 16 1) ∗ bigSep (Ring.homeSet 2 0) (xhome c XA)) := by
  have e : (Finset.univ : Finset (Fin 16)) = insert (Ring.bk 16 0) (insert (Ring.bk 16 1) (Ring.homeSet (NB := 16) 2 0)) := by decide
  rw [e, bigSep_insert (by decide), bigSep_insert (by decide)]; rfl
theorem tabs_zero (P : Fin 4 → sProp 𝕄) : bigSep Finset.univ P = iprop(P (Ring.bk 4 0) ∗ bigSep (Finset.univ.erase (Ring.bk 4 0)) P) :=
  Ring.bigSep_take (Finset.mem_univ _) P

set_option maxHeartbeats 4000000 in
set_option sl_exec.respelt true in
theorem bodyRun (Q : PUnit → sProp 𝕄) :
    iprop(preA c XA CA DA arg1 W ∗ (postA c XA CA DA arg1 W -∗ Q ⟨⟩))
      ⊢ wp frame (wpE (defs₀ (F := F)) 𝒱₀ (c : Thread nD τ) none) Set.univ (bodyG arg1 harg1) Q := by
  have hd1 := cond1_t; have hc6 := chk6; have hc7 := chk7
  iintro ⟨⟨HW, ⟨HX, HC, HD⟩, HO, ⟨⟨HC0, %f0, HS0⟩, ⟨HC1, %f1, HS1⟩, HI2⟩, ⟨⟨HCc, %fc, HSc⟩, HIc⟩, ⟨⟨HCd, %fd, HSd⟩, HId⟩, ⟨HJ0, HJ1⟩, %Wt, HOw⟩, Hk⟩
  ihave HX' := (Entails.of_eq (homes_zero c XA)) $$ HX
  icases HX' with ⟨HX0, HX1, HX⟩
  ihave HC' := (Entails.of_eq (tabs_zero (chome c CA))) $$ HC
  icases HC' with ⟨HCh, HC⟩
  ihave HD' := (Entails.of_eq (tabs_zero (dhome c DA))) $$ HD
  icases HD' with ⟨HDh, HD⟩
  dsimp only [bodyG]
  sl_exec
  sl_for (invA c XA CA DA arg1 W) $$ [HW HOw HC0 HC1 HX HI2 HJ0 HJ1 HO HC HCc HIc HD HCd HId]
  · intro k acc
    exact stepA c XA CA DA arg1 harg1 W _ _ _ _ k acc
  · isplitr; · ipureintro; unfold accAt a6 a7 a8 a9 a10 a11 a12 a13 a14 a15; decide +kernel
    isplitl [HW HC HCc HIc HD HCd HId]
    · isplitl [HW]; · iexact HW
      isplitl [HC HCc HIc]
      · iapply (Rings.around_start (chome c CA) (cfl c CA) (cidle c))
        isplitl [HC]; · iexact HC
        isplitl [HCc]; · iexists fc; iexact HCc
        iexact HIc
      iapply (Rings.around_start (dhome c DA) (dfl c DA) (didle c))
      isplitl [HD]; · iexact HD
      isplitl [HCd]; · iexists fd; iexact HCd
      iexact HId
    isplitl [HOw]; · iexists _; iexact HOw
    isplitl [HC0 HC1 HX HI2]
    · iapply (Rings.reads_start (xhome c XA) (xfl c XA) (xidle c) (by omega))
      isplitl [HX]; · iexact HX
      isplitl [HC0]; · iexists f0; iexact HC0
      isplitl [HC1]; · iexists f1; iexact HC1
      iexact HI2
    iapply (Rings.writes_start (fun b => iprop(∃ f, ohome c b f)) (oBack c XA CA DA arg1 W) (oDone c XA CA DA arg1 W) (oidle c))
    isplitl [HO]; · iexact HO
    isplitl [HJ0]; · iexact HJ0
    iexact HJ1
  iintro %acc HI
  icases HI with ⟨%ha, ⟨HW, HC, HD⟩, ⟨%Wt', HOw⟩, HR, HO⟩
  subst ha
  rw [show Scf.trips k0_t1_loop.lb k0_t1_loop.ub k0_t1_loop.st = 16 from trips_eq]
  ihave HR' := (Rings.reads_end (xhome c XA) (xfl c XA) (xidle c) 16 (le_refl _)) $$ HR
  icases HR' with ⟨HX, HI0, HI1, HI2⟩
  ihave HC' := (Rings.around_end (chome c CA) (cfl c CA) (cidle c)) $$ HC
  icases HC' with ⟨HC, HCI0, HCI1⟩
  ihave HD' := (Rings.around_end (dhome c DA) (dfl c DA) (didle c)) $$ HD
  icases HD' with ⟨HD, HDI0, HDI1⟩
  ihave HO' := (Rings.writes_end (fun b => iprop(∃ f, ohome c b f)) (oBack c XA CA DA arg1 W) (oDone c XA CA DA arg1 W) (oidle c) 16 (by omega) rfl) $$ HO
  icases HO' with ⟨⟨%fp, %gp, HFo, %hgp⟩, HOk⟩
  sl_exec
  sl_step
  ihave HOe := HOk $$ [HFo_dst HFo_src HFo]
  · isplitl [HFo_dst]
    · iexists _; iexists fp; iexists gp
      isplitl [HFo_dst]; · iexact HFo_dst
      ipureintro; exact hgp
    isplitl [HFo]; · iexact HFo
    iexists gp; iexact HFo_src
  icases HOe with ⟨HO, HJ0, HJ1⟩
  iapply Hk
  isplitl [HW]; · iexact HW
  isplitl [HX HC HD]
  · isplitl [HX]; · iexact HX
    isplitl [HC]; · iexact HC
    iexact HD
  isplitl [HO]; · iexact HO
  isplitl [HI0 HI1 HI2]
  · isplitl [HI2]; · iexact HI2
    isplitl [HI0]; · iexact HI0
    iexact HI1
  isplitl [HCI0 HCI1]
  · isplitl [HCI0]; · iexact HCI0
    iexact HCI1
  isplitl [HDI0 HDI1]
  · isplitl [HDI0]; · iexact HDI0
    iexact HDI1
  isplitl [HJ0 HJ1]
  · isplitl [HJ0]; · iexact HJ0
    iexact HJ1
  iexists _; iexact HOw
end Body

end Cert.Proof.FftA
end
end
-- ==== Proof.Blocks.lean ====
/-
  Buffers held block by block: a buffer whose blocks are told apart by a key read off the index is held whole exactly
  when every block is; a ring's slots held at something are the ring's buffer held at something.
-/
module

public import proofs.«01_k».proof.Proof.FftB

@[expose] public section

noncomputable section

namespace Cert.Proof.Blocks

open Cert.Proof.FftB (UU)
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Key
variable {B I : Type} [Fintype B] [DecidableEq B] [Fintype I] [DecidableEq I]

theorem key_disjoint (S : B → Finset I) (key : I → B) (h : ∀ b i, i ∈ S b ↔ key i = b) (b b' : B) (hb : b ≠ b') : Disjoint (S b) (S b') :=
  Finset.disjoint_left.mpr fun i hi hi' => hb (((h b i).mp hi).symm.trans ((h b' i).mp hi'))
theorem key_cover (S : B → Finset I) (key : I → B) (h : ∀ b i, i ∈ S b ↔ key i = b) : Finset.univ.biUnion S = Finset.univ := by
  ext i
  simp only [Finset.mem_biUnion, Finset.mem_univ, true_and, iff_true]
  exact ⟨key i, (h _ i).mpr rfl⟩
end Key

theorem mem_reshape {κ sp} {S S' : Shape} {e : EltTy} (v : View sig κ sp S e) (h : S'.numel = S.numel) (i : v.ty.shape.Idx) :
    i ∈ (v.reshape S' h).set ↔ i ∈ v.set := by rw [View.set_reshape]
theorem mem_slice_whole {κ} (b : Ref sig κ) (r : Rect b.ty.shape) (i : b.ty.shape.Idx) {p : Prop} (h : i ∈ r.set ↔ p) :
    i ∈ ((View.whole b).slice r).set ↔ p := by rw [View.set_slice_whole]; exact h

/-- A view written whole holds, at each of its elements, the value written there. -/
theorem writes_at {κ sp} {S : Shape} {e : EltTy} (v : View sig κ sp S e) (f : v.ty.Contents (Elt F)) (x : S.Idx → Elt F e) (G : v.ty.Contents (Elt F))
    (h : ∀ y, x y = v.read (Elt F) G y) (i : v.ty.shape.Idx) (hi : i ∈ v.set) : v.writes (Elt F) f [⟨Rect.whole S, x⟩] i = G i := by
  have hx : x = v.read (Elt F) G := funext h
  obtain ⟨y, -, rfl⟩ := Finset.mem_map.1 hi
  have e := congrFun (View.read_writes_whole v f x) y
  rw [hx] at e
  have e2 : v.read (Elt F) (v.writes (Elt F) f [⟨Rect.whole S, v.read (Elt F) G⟩]) y = v.read (Elt F) G y := e
  rw [hx]
  unfold View.read at e2
  exact (cast_bijective _).1 e2

section Held
variable {B : Type} [Fintype B] [DecidableEq B] {ℓ : Loc nD τ sig} (S : B → Finset (Idx ℓ)) (key : Idx ℓ → B) (h : ∀ b i, i ∈ S b ↔ key i = b)

omit [FloatOps F] in
include h in
/-- A buffer whole is its blocks. -/
theorem whole_eq (f : Buf (Elt F) ℓ) : (ℓ ↦{fullShare} f : sProp 𝕄) = bigSep Finset.univ fun b => ℓ ↦[S b]{fullShare} f :=
  Ring.pointsTo_blocks S (key_disjoint S key h) (key_cover S key h) f

omit [FloatOps F] in
include h in
/-- Blocks each giving the one contents are the buffer whole at it. -/
theorem join (P : B → sProp 𝕄) (G : Buf (Elt F) ℓ) (hP : ∀ b, P b ⊢ ℓ ↦[S b]{fullShare} G) :
    bigSep Finset.univ P ⊢ (ℓ ↦{fullShare} G : sProp 𝕄) :=
  (bigSep_mono fun b _ => hP b).trans (Entails.of_eq (whole_eq S key h G).symm)

omit [FloatOps F] in
include h in
/-- A buffer whole at anything gives every block at anything. -/
theorem split (P : B → sProp 𝕄) (f : Buf (Elt F) ℓ) (hP : ∀ b, (ℓ ↦[S b]{fullShare} f : sProp 𝕄) ⊢ P b) :
    (ℓ ↦{fullShare} f : sProp 𝕄) ⊢ bigSep Finset.univ P :=
  (Entails.of_eq (whole_eq S key h f)).trans (bigSep_mono fun b _ => hP b)

omit [FloatOps F] in
include h in
theorem join_any (f₀ : Buf (Elt F) ℓ) (P : B → sProp 𝕄) (hP : ∀ b, P b ⊢ iprop(∃ f, ℓ ↦[S b]{fullShare} f)) :
    bigSep Finset.univ P ⊢ (iprop(∃ f, ℓ ↦{fullShare} f) : sProp 𝕄) :=
  (bigSep_mono fun b _ => hP b).trans (Ring.pointsTo_blocks_join_exists S (key_disjoint S key h) (key_cover S key h) f₀)
end Held

omit [FloatOps F] in
theorem two (Φ : Fin 2 → sProp 𝕄) : bigSep Finset.univ Φ = iprop(Φ 0 ∗ Φ 1) :=
  bigSep_univ_eq_bigSepL [(0 : Fin 2), 1] (by decide) (by decide) Φ
omit [FloatOps F] in
theorem three (Φ : Fin 3 → sProp 𝕄) : bigSep Finset.univ Φ = iprop(Φ 0 ∗ Φ 1 ∗ Φ 2) :=
  bigSep_univ_eq_bigSepL [(0 : Fin 3), 1, 2] (by decide) (by decide) Φ

end Cert.Proof.Blocks
end
end
-- ==== Proof.FftAReg.lean ====
/-
  The first stage as a region of the program: its blocks and slots against the buffers they cut, what it leaves in the
  intermediate words as one function of the input, the table and the twiddles, its proof data, and its body against the
  pipeline's obligation.
-/
module

public import proofs.«01_k».proof.Proof.FftABody
public import proofs.«01_k».proof.Proof.Blocks

@[expose] public section

noncomputable section

namespace Cert.Proof.FftA

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Cert.Proof.FftB (UU EP 𝒱₀ semOff whole_slice)
local notation "𝕄" => MT nD τ sig Unit (Elt F) ℕ (UU nD τ) ℕ
open Idealize.ShloMosaic.ValueIdx

/-! ## Blocks and slots against their buffers -/

/-- The block of the input, of a table and of the result an index lies in. -/
def xbOf (i : S4x64x64x2x1024.Idx) : Fin 16 := ⟨4 * (i 0).val + (i 2).val / 16, by have : (i 0).val < 4 := (i 0).isLt; have : (i 2).val < 64 := (i 2).isLt; omega⟩
def tbOf (i : S128x64x128.Idx) : Fin 4 := ⟨(i 0).val / 32, by have : (i 0).val < 128 := (i 0).isLt; omega⟩
def obOf (i : S4x128x32x2x1024.Idx) : Fin 16 := ⟨4 * (i 0).val + (i 1).val / 32, by have : (i 0).val < 4 := (i 0).isLt; have : (i 1).val < 128 := (i 1).isLt; omega⟩
theorem mem_xblk (b : Fin 16) (i : S4x64x64x2x1024.Idx) : i ∈ (xblk b).view.set ↔ xbOf i = b := by
  refine Iff.trans (Blocks.mem_slice_whole _ _ _ Rect.mem_set_unit) ?_
  have h0 : (i 0).val < 4 := (i 0).isLt
  have h1 : (i 1).val < 64 := (i 1).isLt
  have h2 : (i 2).val < 64 := (i 2).isLt
  have h3 : (i 3).val < 2 := (i 3).isLt
  have h4 : (i 4).val < 1024 := (i 4).isLt
  have hb := b.isLt
  constructor
  · intro h
    have a0 := h 0
    change b.val / 4 ≤ (i 0).val ∧ (i 0).val < b.val / 4 + 1 at a0
    have a2 := h 2
    change 16 * (b.val % 4) ≤ (i 2).val ∧ (i 2).val < 16 * (b.val % 4) + 16 at a2
    apply Fin.ext; show 4 * (i 0).val + (i 2).val / 16 = b.val; omega
  · intro h
    have e : 4 * (i 0).val + (i 2).val / 16 = b.val := congrArg Fin.val h
    intro a
    match a with
    | ⟨0, _⟩ => show b.val / 4 ≤ (i 0).val ∧ (i 0).val < b.val / 4 + 1; omega
    | ⟨1, _⟩ => show 0 ≤ (i 1).val ∧ (i 1).val < 0 + 64; omega
    | ⟨2, _⟩ => show 16 * (b.val % 4) ≤ (i 2).val ∧ (i 2).val < 16 * (b.val % 4) + 16; omega
    | ⟨3, _⟩ => show 0 ≤ (i 3).val ∧ (i 3).val < 0 + 2; omega
    | ⟨4, _⟩ => show 0 ≤ (i 4).val ∧ (i 4).val < 0 + 1024; omega

theorem mem_cblk (b : Fin 4) (i : S128x64x128.Idx) : i ∈ (cblk b).view.set ↔ tbOf i = b := by
  refine Iff.trans (Blocks.mem_slice_whole _ _ _ Rect.mem_set_unit) ?_
  have h0 : (i 0).val < 128 := (i 0).isLt
  have h1 : (i 1).val < 64 := (i 1).isLt
  have h2 : (i 2).val < 128 := (i 2).isLt
  have hb := b.isLt
  constructor
  · intro h
    have a0 := h 0
    change 32 * b.val ≤ (i 0).val ∧ (i 0).val < 32 * b.val + 32 at a0
    apply Fin.ext; show (i 0).val / 32 = b.val; omega
  · intro h
    have e : (i 0).val / 32 = b.val := congrArg Fin.val h
    intro a
    match a with
    | ⟨0, _⟩ => show 32 * b.val ≤ (i 0).val ∧ (i 0).val < 32 * b.val + 32; omega
    | ⟨1, _⟩ => show 0 ≤ (i 1).val ∧ (i 1).val < 0 + 64; omega
    | ⟨2, _⟩ => show 0 ≤ (i 2).val ∧ (i 2).val < 0 + 128; omega

theorem mem_dblk (b : Fin 4) (i : S128x64x128.Idx) : i ∈ (dblk b).view.set ↔ tbOf i = b := by
  refine Iff.trans (Blocks.mem_slice_whole _ _ _ Rect.mem_set_unit) ?_
  have h0 : (i 0).val < 128 := (i 0).isLt
  have h1 : (i 1).val < 64 := (i 1).isLt
  have h2 : (i 2).val < 128 := (i 2).isLt
  have hb := b.isLt
  constructor
  · intro h
    have a0 := h 0
    change 32 * b.val ≤ (i 0).val ∧ (i 0).val < 32 * b.val + 32 at a0
    apply Fin.ext; show (i 0).val / 32 = b.val; omega
  · intro h
    have e : (i 0).val / 32 = b.val := congrArg Fin.val h
    intro a
    match a with
    | ⟨0, _⟩ => show 32 * b.val ≤ (i 0).val ∧ (i 0).val < 32 * b.val + 32; omega
    | ⟨1, _⟩ => show 0 ≤ (i 1).val ∧ (i 1).val < 0 + 64; omega
    | ⟨2, _⟩ => show 0 ≤ (i 2).val ∧ (i 2).val < 0 + 128; omega

theorem mem_oblk (b : Fin 16) (i : S4x128x32x2x1024.Idx) : i ∈ (oblk b).view.set ↔ obOf i = b := by
  refine Iff.trans (Blocks.mem_slice_whole _ _ _ Rect.mem_set_unit) ?_
  have h0 : (i 0).val < 4 := (i 0).isLt
  have h1 : (i 1).val < 128 := (i 1).isLt
  have h2 : (i 2).val < 32 := (i 2).isLt
  have h3 : (i 3).val < 2 := (i 3).isLt
  have h4 : (i 4).val < 1024 := (i 4).isLt
  have hb := b.isLt
  constructor
  · intro h
    have a0 := h 0
    change b.val / 4 ≤ (i 0).val ∧ (i 0).val < b.val / 4 + 1 at a0
    have a1 := h 1
    change 32 * (b.val % 4) ≤ (i 1).val ∧ (i 1).val < 32 * (b.val % 4) + 32 at a1
    apply Fin.ext; show 4 * (i 0).val + (i 1).val / 32 = b.val; omega
  · intro h
    have e : 4 * (i 0).val + (i 1).val / 32 = b.val := congrArg Fin.val h
    intro a
    match a with
    | ⟨0, _⟩ => show b.val / 4 ≤ (i 0).val ∧ (i 0).val < b.val / 4 + 1; omega
    | ⟨1, _⟩ => show 32 * (b.val % 4) ≤ (i 1).val ∧ (i 1).val < 32 * (b.val % 4) + 32; omega
    | ⟨2, _⟩ => show 0 ≤ (i 2).val ∧ (i 2).val < 0 + 32; omega
    | ⟨3, _⟩ => show 0 ≤ (i 3).val ∧ (i 3).val < 0 + 2; omega
    | ⟨4, _⟩ => show 0 ≤ (i 4).val ∧ (i 4).val < 0 + 1024; omega

theorem mem_xslot (b : Fin 3) (i : S3x1x64x16x2x1024.Idx) : i ∈ (xslot b).view.set ↔ (i 0 : Fin 3) = b := by
  refine Iff.trans ((Blocks.mem_reshape _ _ _).trans (Blocks.mem_slice_whole _ _ _ Rect.mem_set_unit)) ?_
  have h0 : (i 0).val < 3 := (i 0).isLt
  have h1 : (i 1).val < 1 := (i 1).isLt
  have h2 : (i 2).val < 64 := (i 2).isLt
  have h3 : (i 3).val < 16 := (i 3).isLt
  have h4 : (i 4).val < 2 := (i 4).isLt
  have h5 : (i 5).val < 1024 := (i 5).isLt
  have hb := b.isLt
  constructor
  · intro h
    have a0 := h 0
    change b.val ≤ (i 0).val ∧ (i 0).val < b.val + 1 at a0
    apply Fin.ext; show (i 0).val = b.val; omega
  · intro h
    have e : (i 0).val = b.val := congrArg Fin.val h
    intro a
    match a with
    | ⟨0, _⟩ => show b.val ≤ (i 0).val ∧ (i 0).val < b.val + 1; omega
    | ⟨1, _⟩ => show 0 ≤ (i 1).val ∧ (i 1).val < 0 + 1; omega
    | ⟨2, _⟩ => show 0 ≤ (i 2).val ∧ (i 2).val < 0 + 64; omega
    | ⟨3, _⟩ => show 0 ≤ (i 3).val ∧ (i 3).val < 0 + 16; omega
    | ⟨4, _⟩ => show 0 ≤ (i 4).val ∧ (i 4).val < 0 + 2; omega
    | ⟨5, _⟩ => show 0 ≤ (i 5).val ∧ (i 5).val < 0 + 1024; omega

theorem mem_cslot (b : Fin 2) (i : S2x32x64x128.Idx) : i ∈ (cslot b).view.set ↔ (i 0 : Fin 2) = b := by
  refine Iff.trans ((Blocks.mem_reshape _ _ _).trans (Blocks.mem_slice_whole _ _ _ Rect.mem_set_unit)) ?_
  have h0 : (i 0).val < 2 := (i 0).isLt
  have h1 : (i 1).val < 32 := (i 1).isLt
  have h2 : (i 2).val < 64 := (i 2).isLt
  have h3 : (i 3).val < 128 := (i 3).isLt
  have hb := b.isLt
  constructor
  · intro h
    have a0 := h 0
    change b.val ≤ (i 0).val ∧ (i 0).val < b.val + 1 at a0
    apply Fin.ext; show (i 0).val = b.val; omega
  · intro h
    have e : (i 0).val = b.val := congrArg Fin.val h
    intro a
    match a with
    | ⟨0, _⟩ => show b.val ≤ (i 0).val ∧ (i 0).val < b.val + 1; omega
    | ⟨1, _⟩ => show 0 ≤ (i 1).val ∧ (i 1).val < 0 + 32; omega
    | ⟨2, _⟩ => show 0 ≤ (i 2).val ∧ (i 2).val < 0 + 64; omega
    | ⟨3, _⟩ => show 0 ≤ (i 3).val ∧ (i 3).val < 0 + 128; omega

theorem mem_dslot (b : Fin 2) (i : S2x32x64x128.Idx) : i ∈ (dslot b).view.set ↔ (i 0 : Fin 2) = b := by
  refine Iff.trans ((Blocks.mem_reshape _ _ _).trans (Blocks.mem_slice_whole _ _ _ Rect.mem_set_unit)) ?_
  have h0 : (i 0).val < 2 := (i 0).isLt
  have h1 : (i 1).val < 32 := (i 1).isLt
  have h2 : (i 2).val < 64 := (i 2).isLt
  have h3 : (i 3).val < 128 := (i 3).isLt
  have hb := b.isLt
  constructor
  · intro h
    have a0 := h 0
    change b.val ≤ (i 0).val ∧ (i 0).val < b.val + 1 at a0
    apply Fin.ext; show (i 0).val = b.val; omega
  · intro h
    have e : (i 0).val = b.val := congrArg Fin.val h
    intro a
    match a with
    | ⟨0, _⟩ => show b.val ≤ (i 0).val ∧ (i 0).val < b.val + 1; omega
    | ⟨1, _⟩ => show 0 ≤ (i 1).val ∧ (i 1).val < 0 + 32; omega
    | ⟨2, _⟩ => show 0 ≤ (i 2).val ∧ (i 2).val < 0 + 64; omega
    | ⟨3, _⟩ => show 0 ≤ (i 3).val ∧ (i 3).val < 0 + 128; omega

theorem mem_oslot (b : Fin 2) (i : S2x1x32x32x2x1024.Idx) : i ∈ (oslot b).view.set ↔ (i 0 : Fin 2) = b := by
  refine Iff.trans ((Blocks.mem_reshape _ _ _).trans (Blocks.mem_slice_whole _ _ _ Rect.mem_set_unit)) ?_
  have h0 : (i 0).val < 2 := (i 0).isLt
  have h1 : (i 1).val < 1 := (i 1).isLt
  have h2 : (i 2).val < 32 := (i 2).isLt
  have h3 : (i 3).val < 32 := (i 3).isLt
  have h4 : (i 4).val < 2 := (i 4).isLt
  have h5 : (i 5).val < 1024 := (i 5).isLt
  have hb := b.isLt
  constructor
  · intro h
    have a0 := h 0
    change b.val ≤ (i 0).val ∧ (i 0).val < b.val + 1 at a0
    apply Fin.ext; show (i 0).val = b.val; omega
  · intro h
    have e : (i 0).val = b.val := congrArg Fin.val h
    intro a
    match a with
    | ⟨0, _⟩ => show b.val ≤ (i 0).val ∧ (i 0).val < b.val + 1; omega
    | ⟨1, _⟩ => show 0 ≤ (i 1).val ∧ (i 1).val < 0 + 1; omega
    | ⟨2, _⟩ => show 0 ≤ (i 2).val ∧ (i 2).val < 0 + 32; omega
    | ⟨3, _⟩ => show 0 ≤ (i 3).val ∧ (i 3).val < 0 + 32; omega
    | ⟨4, _⟩ => show 0 ≤ (i 4).val ∧ (i 4).val < 0 + 2; omega
    | ⟨5, _⟩ => show 0 ≤ (i 5).val ∧ (i 5).val < 0 + 1024; omega

section Whole
variable (c : Dev nD)

/-- The input, the twiddles, the result and the rings whole. -/
abbrev xPt (f : Buf (Elt F) (xM.view.loc (c : Thread nD τ))) : sProp 𝕄 := xM.view.loc (c : Thread nD τ) ↦{fullShare} f
abbrev cPt (f : Buf (Elt F) (cM.view.loc (c : Thread nD τ))) : sProp 𝕄 := cM.view.loc (c : Thread nD τ) ↦{fullShare} f
abbrev dPt (f : Buf (Elt F) (dM.view.loc (c : Thread nD τ))) : sProp 𝕄 := dM.view.loc (c : Thread nD τ) ↦{fullShare} f
abbrev oPt (f : Buf (Elt F) (oM.view.loc (c : Thread nD τ))) : sProp 𝕄 := oM.view.loc (c : Thread nD τ) ↦{fullShare} f
abbrev xRing : sProp 𝕄 := iprop(∃ f, xB.view.loc (c : Thread nD τ) ↦{fullShare} f)
abbrev cRing : sProp 𝕄 := iprop(∃ f, cB.view.loc (c : Thread nD τ) ↦{fullShare} f)
abbrev dRing : sProp 𝕄 := iprop(∃ f, dB.view.loc (c : Thread nD τ) ↦{fullShare} f)
abbrev oRing : sProp 𝕄 := iprop(∃ f, oB.view.loc (c : Thread nD τ) ↦{fullShare} f)

omit [FloatOps F] in
theorem x_whole (XA : Buf (Elt F) (xM.view.loc (c : Thread nD τ))) : (xPt c XA : sProp 𝕄) = bigSep Finset.univ (xhome c XA) :=
  Blocks.whole_eq (ℓ := xM.view.loc (c : Thread nD τ)) (fun b => (xblk b).view.set) _ mem_xblk XA
omit [FloatOps F] in
theorem c_whole (CA : Buf (Elt F) (cM.view.loc (c : Thread nD τ))) : (cPt c CA : sProp 𝕄) = bigSep Finset.univ (chome c CA) :=
  Blocks.whole_eq (ℓ := cM.view.loc (c : Thread nD τ)) (fun b => (cblk b).view.set) _ mem_cblk CA
omit [FloatOps F] in
theorem d_whole (DA : Buf (Elt F) (dM.view.loc (c : Thread nD τ))) : (dPt c DA : sProp 𝕄) = bigSep Finset.univ (dhome c DA) :=
  Blocks.whole_eq (ℓ := dM.view.loc (c : Thread nD τ)) (fun b => (dblk b).view.set) _ mem_dblk DA
omit [FloatOps F] in
theorem o_split (f : Buf (Elt F) (oM.view.loc (c : Thread nD τ))) : (oPt c f : sProp 𝕄) ⊢ bigSep Finset.univ fun b : Fin 16 => iprop(∃ f, ohome c b f) :=
  Blocks.split (ℓ := oM.view.loc (c : Thread nD τ)) (fun b => (oblk b).view.set) _ mem_oblk _ f fun b => by
    iintro H; iexists f; iexact H
omit [FloatOps F] in
theorem xRing_split : (xRing c : sProp 𝕄) ⊢ iprop((∃ f, xslotP c (Ring.sl 3 0) f) ∗ (∃ f, xslotP c (Ring.sl 3 1) f) ∗ (∃ f, xslotP c (Ring.sl 3 2) f)) := by
  iintro ⟨%f, H⟩
  iapply (Entails.of_eq (Blocks.three fun s => iprop(∃ f, xslotP c s f)))
  iapply (Blocks.split (ℓ := xB.view.loc (c : Thread nD τ)) (fun s => (xslot s).view.set) _ mem_xslot (fun s => iprop(∃ f, xslotP c s f)) f
    (fun s => by iintro H; iexists f; iexact H))
  iexact H
theorem xRing_join : iprop((∃ f, xslotP c (Ring.sl 3 0) f) ∗ (∃ f, xslotP c (Ring.sl 3 1) f) ∗ (∃ f, xslotP c (Ring.sl 3 2) f)) ⊢ (xRing c : sProp 𝕄) := by
  refine BI.Entails.trans (Entails.of_eq (Blocks.three fun s => iprop(∃ f, xslotP c s f)).symm) ?_
  exact Blocks.join_any (ℓ := xB.view.loc (c : Thread nD τ)) (fun s => (xslot s).view.set) _ mem_xslot (fun _ => Classical.arbitrary _) (fun s => iprop(∃ f, xslotP c s f))
    (fun s => .rfl)
omit [FloatOps F] in
theorem cRing_split : (cRing c : sProp 𝕄) ⊢ iprop((∃ f, cslotP c (Ring.sl 2 0) f) ∗ (∃ f, cslotP c (Ring.sl 2 1) f)) := by
  iintro ⟨%f, H⟩
  iapply (Entails.of_eq (Blocks.two fun s => iprop(∃ f, cslotP c s f)))
  iapply (Blocks.split (ℓ := cB.view.loc (c : Thread nD τ)) (fun s => (cslot s).view.set) _ mem_cslot (fun s => iprop(∃ f, cslotP c s f)) f
    (fun s => by iintro H; iexists f; iexact H))
  iexact H
theorem cRing_join : iprop((∃ f, cslotP c (Ring.sl 2 0) f) ∗ (∃ f, cslotP c (Ring.sl 2 1) f)) ⊢ (cRing c : sProp 𝕄) := by
  refine BI.Entails.trans (Entails.of_eq (Blocks.two fun s => iprop(∃ f, cslotP c s f)).symm) ?_
  exact Blocks.join_any (ℓ := cB.view.loc (c : Thread nD τ)) (fun s => (cslot s).view.set) _ mem_cslot (fun _ => Classical.arbitrary _) (fun s => iprop(∃ f, cslotP c s f))
    (fun s => .rfl)
omit [FloatOps F] in
theorem dRing_split : (dRing c : sProp 𝕄) ⊢ iprop((∃ f, dslotP c (Ring.sl 2 0) f) ∗ (∃ f, dslotP c (Ring.sl 2 1) f)) := by
  iintro ⟨%f, H⟩
  iapply (Entails.of_eq (Blocks.two fun s => iprop(∃ f, dslotP c s f)))
  iapply (Blocks.split (ℓ := dB.view.loc (c : Thread nD τ)) (fun s => (dslot s).view.set) _ mem_dslot (fun s => iprop(∃ f, dslotP c s f)) f
    (fun s => by iintro H; iexists f; iexact H))
  iexact H
theorem dRing_join : iprop((∃ f, dslotP c (Ring.sl 2 0) f) ∗ (∃ f, dslotP c (Ring.sl 2 1) f)) ⊢ (dRing c : sProp 𝕄) := by
  refine BI.Entails.trans (Entails.of_eq (Blocks.two fun s => iprop(∃ f, dslotP c s f)).symm) ?_
  exact Blocks.join_any (ℓ := dB.view.loc (c : Thread nD τ)) (fun s => (dslot s).view.set) _ mem_dslot (fun _ => Classical.arbitrary _) (fun s => iprop(∃ f, dslotP c s f))
    (fun s => .rfl)
omit [FloatOps F] in
theorem oRing_split : (oRing c : sProp 𝕄) ⊢ iprop((∃ f, oslotP c (Ring.sl 2 0) f) ∗ (∃ f, oslotP c (Ring.sl 2 1) f)) := by
  iintro ⟨%f, H⟩
  iapply (Entails.of_eq (Blocks.two fun s => iprop(∃ f, oslotP c s f)))
  iapply (Blocks.split (ℓ := oB.view.loc (c : Thread nD τ)) (fun s => (oslot s).view.set) _ mem_oslot (fun s => iprop(∃ f, oslotP c s f)) f
    (fun s => by iintro H; iexists f; iexact H))
  iexact H
theorem oRing_join : iprop((∃ f, oslotP c (Ring.sl 2 0) f) ∗ (∃ f, oslotP c (Ring.sl 2 1) f)) ⊢ (oRing c : sProp 𝕄) := by
  refine BI.Entails.trans (Entails.of_eq (Blocks.two fun s => iprop(∃ f, oslotP c s f)).symm) ?_
  exact Blocks.join_any (ℓ := oB.view.loc (c : Thread nD τ)) (fun s => (oslot s).view.set) _ mem_oslot (fun _ => Classical.arbitrary _) (fun s => iprop(∃ f, oslotP c s f))
    (fun s => .rfl)

/-! ## What the stage leaves in the result -/

section Out
variable (XA : Buf (Elt F) (xM.view.loc (c : Thread nD τ))) (CA : Buf (Elt F) (cM.view.loc (c : Thread nD τ)))
  (DA : Buf (Elt F) (dM.view.loc (c : Thread nD τ)))

/-- The result, from the input, the twiddles and the table: row `i 1` of batch `i 0` is row `i 1 % 32` of the block it lies in. -/
def outA (T : Vec F S256x256 .bf16) : Buf (Elt F) (oM.view.loc (c : Thread nD τ)) := fun i =>
  blkA T (xval c XA (obOf i)) (cval c CA (Ring.bk 4 (obOf i).val)) (dval c DA (Ring.bk 4 (obOf i).val)) ⟨(i 1).val % 32, Nat.mod_lt _ (by decide)⟩ (i 2) (i 3) (i 4)

theorem outA_at (T : Vec F S256x256 .bf16) (i : S4x128x32x2x1024.Idx) (b : Fin 16) (h : obOf i = b)
    (y1 y2 : Fin 32) (y3 : Fin 2) (y4 : Fin 1024) (h1 : (i 1).val % 32 = y1.val) (h2 : (i 2).val = y2.val) (h3 : (i 3).val = y3.val) (h4 : (i 4).val = y4.val) :
    outA c XA CA DA T i = blkA T (xval c XA b) (cval c CA (Ring.bk 4 b.val)) (dval c DA (Ring.bk 4 b.val)) y1 y2 y3 y4 := by
  unfold outA
  rw [h]
  rw [show (⟨(i 1).val % 32, Nat.mod_lt _ (by decide)⟩ : Fin 32) = y1 from Fin.ext h1, show (i 2 : Fin 32) = y2 from Fin.ext h2,
    show (i 3 : Fin 2) = y3 from Fin.ext h3, show (i 4 : Fin 1024) = y4 from Fin.ext h4]

theorem oblk_val (b : Fin 16) (y : S1x32x32x2x1024.Idx) (a : Fin 5) : ((oblk b).view.emb y a).val = oOff b a + 1 * (y a).val := rfl

theorem landed_out_apply (T : Vec F S256x256 .bf16) (b : Fin 16) (s : Fin 2) (f) (g)
    (h : Holds c s g (blkA T (xval c XA b) (cval c CA (Ring.bk 4 b.val)) (dval c DA (Ring.bk 4 b.val)))) (i) (hi : i ∈ (oblk b).view.set) :
    olanded c b s f g i = outA c XA CA DA T i := by
  refine Blocks.writes_at (oblk b).view f _ (outA c XA CA DA T) (fun y => ?_) i hi
  have hy0 : (y 0).val < 1 := (y 0).isLt
  have hy1 : (y 1).val < 32 := (y 1).isLt
  have hm : (oblk b).view.emb y ∈ (oblk b).view.set := Finset.mem_map_of_mem _ (Finset.mem_univ _)
  refine Eq.trans ?_ (outA_at c XA CA DA T ((oblk b).view.emb y) b ((mem_oblk b _).mp hm) (y 1) (y 2) (y 3) (y 4)
    ((congrArg (· % 32) (oblk_val b y 1)).trans (by show (32 * (b.val % 4) + 1 * (y 1).val) % 32 = (y 1).val; omega))
    ((oblk_val b y 2).trans (by show 0 + 1 * (y 2).val = (y 2).val; omega))
    ((oblk_val b y 3).trans (by show 0 + 1 * (y 3).val = (y 3).val; omega))
    ((oblk_val b y 4).trans (by show 0 + 1 * (y 4).val = (y 4).val; omega))).symm
  refine Eq.trans ?_ (h (y 1) (y 2) (y 3) (y 4))
  show (oslot s).view.read (Elt F) g y = _
  refine congrArg ((oslot s).view.read (Elt F) g) ?_
  funext a
  match a with
  | ⟨0, _⟩ => exact Fin.ext (by show (y 0).val = 0; omega)
  | ⟨1, _⟩ => rfl
  | ⟨2, _⟩ => rfl
  | ⟨3, _⟩ => rfl
  | ⟨4, _⟩ => rfl

theorem landed_out_at (T : Vec F S256x256 .bf16) (b : Fin 16) (s : Fin 2) (f) (g)
    (h : Holds c s g (blkA T (xval c XA b) (cval c CA (Ring.bk 4 b.val)) (dval c DA (Ring.bk 4 b.val)))) :
    (ohome c b (olanded c b s f g) : sProp 𝕄) = (oM.view.loc (c : Thread nD τ) ↦[(oblk b).view.set]{fullShare} outA c XA CA DA T) :=
  pointsTo_congr (ℓ := oM.view.loc (c : Thread nD τ)) fun i hi => landed_out_apply c XA CA DA T b s f g h i hi

theorem oBack_at (arg1 : Memref sig .tc .vmem S256x256 .bf16) (W : Buf (Elt F) (arg1.view.loc (c : Thread nD τ))) (b : Fin 16) :
    oBack c XA CA DA arg1 W b ⊢ (oM.view.loc (c : Thread nD τ) ↦[(oblk b).view.set]{fullShare} outA c XA CA DA (tabV c arg1 W) : sProp 𝕄) := by
  iintro ⟨%s, %f, %g, H, %h⟩
  ihave H' := (Entails.of_eq (landed_out_at c XA CA DA (tabV c arg1 W) b s f g h)) $$ H
  iexact H'

theorem o_join (arg1 : Memref sig .tc .vmem S256x256 .bf16) (W : Buf (Elt F) (arg1.view.loc (c : Thread nD τ))) :
    bigSep Finset.univ (oBack c XA CA DA arg1 W) ⊢ (oPt c (outA c XA CA DA (tabV c arg1 W)) : sProp 𝕄) :=
  Blocks.join (ℓ := oM.view.loc (c : Thread nD τ)) (fun b => (oblk b).view.set) _ mem_oblk (oBack c XA CA DA arg1 W) _ (oBack_at c XA CA DA arg1 W)
end Out

theorem tabV_eq (arg1 : Memref sig .tc .vmem S256x256 .bf16) (W : Buf (Elt F) (arg1.view.loc (c : Thread nD τ))) :
    tabV c arg1 W = arg1.view.read (Elt F) W := by
  funext y
  show arg1.view.read (Elt F) W _ = _
  refine congrArg (arg1.view.read (Elt F) W) ?_
  funext a
  match a with
  | ⟨0, _⟩ => exact Fin.ext (by show 0 + 1 * (y 0).val = (y 0).val; omega)
  | ⟨1, _⟩ => exact Fin.ext (by show 0 + 1 * (y 1).val = (y 1).val; omega)
end Whole

/-! ## The proof data -/

section Data
variable (V : (c : Dev nD) → (b : Ref sig .tc) → Buf (Elt F) ((c : Thread nD τ).loc b))

/-- The table as the pipeline stages it. -/
abbrev stg (c : Dev nD) : (cfg0.win 0).block.Idx → Elt F (cfg0.win 0).elt := ((cfg0.win 0).blk t0_0).view.read (Elt F) (V c main_v66)

/-- The semaphores of the four rings. -/
def rsem : Fin 9 → SemLoc sig
  | 0 => .dma (xsem (Ring.sl 3 0)).sem | 1 => .dma (xsem (Ring.sl 3 1)).sem | 2 => .dma (xsem (Ring.sl 3 2)).sem
  | 3 => .dma (csem (Ring.sl 2 0)).sem | 4 => .dma (csem (Ring.sl 2 1)).sem
  | 5 => .dma (dsem (Ring.sl 2 0)).sem | 6 => .dma (dsem (Ring.sl 2 1)).sem
  | 7 => .dma (osem (Ring.sl 2 0)).sem | 8 => .dma (osem (Ring.sl 2 1)).sem
theorem rsemFacts : Pipeline.OwnSemFacts spec0 rsem := by decide

/-- The cells idle, and the scoped rest at something. -/
abbrev cells (c : Dev nD) : sProp 𝕄 :=
  iprop(xcell c (Ring.sl 3 0) ∗ xcell c (Ring.sl 3 1) ∗ xcell c (Ring.sl 3 2) ∗ ccell c (Ring.sl 2 0) ∗ ccell c (Ring.sl 2 1)
    ∗ dcell c (Ring.sl 2 0) ∗ dcell c (Ring.sl 2 1) ∗ ocell c (Ring.sl 2 0) ∗ ocell c (Ring.sl 2 1))
abbrev rest0 (c : Dev nD) : sProp 𝕄 := Pipeline.scopedRest (Ix := Unit) (Name := ℕ) (U := UU nD τ) (Lvl := ℕ) (Val := Elt F) spec0 c
/-- The invariant with the result at `f`. -/
abbrev inv (c : Dev nD) (f : Buf (Elt F) (oM.view.loc (c : Thread nD τ))) : sProp 𝕄 :=
  iprop((xPt c (V c main_v68) ∗ cPt c (V c main_v62) ∗ dPt c (V c main_v65)) ∗ oPt c f ∗ cells c ∗ rest0 c)
/-- The result after the stage. -/
abbrev res (c : Dev nD) : Buf (Elt F) (oM.view.loc (c : Thread nD τ)) := outA c (V c main_v68) (V c main_v62) (V c main_v65) (stg V c)

def dat (c : Dev nD) : Dat τ (Elt F) Unit ℕ (UU nD τ) ℕ cfg0 c where
  A w := V c (Pipeline.arrRef spec0 w)
  after w _ := match w with
    | ⟨0, _⟩ => stg V c
  Φ t := if t.val = 0 then inv V c (V c main_v69) else inv V c (res V c)
  q _ := fullShare
  owed _ := 0

theorem inv_start (c : Dev nD) (t : Fin (cfg0.N + 1)) (h : t.val = 0) : (dat V c).Φ t = inv V c (V c main_v69) := if_pos h
theorem inv_end (c : Dev nD) (t : Fin (cfg0.N + 1)) (h : ¬ t.val = 0) : (dat V c).Φ t = inv V c (res V c) := if_neg h

theorem before_w0 (c : Dev nD) (d : (cfg0.win 0).block.Idx → Elt F (cfg0.win 0).elt) : (dat V c).before 0 t0_0 d = stg V c := by
  unfold Dat.before; rw [if_pos (by decide)]; rfl

theorem rest0_split (c : Dev nD) : (rest0 c : sProp 𝕄) = iprop((xRing c ∗ cRing c ∗ dRing c ∗ oRing c)
    ∗ Pipeline.scopedRestBut (Ix := Unit) (Name := ℕ) (U := UU nD τ) (Lvl := ℕ) (Val := Elt F) spec0 c [cc0_scoped0, cc0_scoped2, cc0_scoped4, cc0_scoped6]) :=
  Pipeline.scopedRest_split_of_list spec0 c [cc0_scoped0, cc0_scoped2, cc0_scoped4, cc0_scoped6] (by decide) (by decide)

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0_0 t) (hstage0_0 0) :=
  (congrFun defs_tc _).trans rfl

set_option maxHeartbeats 1000000 in
set_option backward.isDefEq.respectTransparency.types false in
theorem body_obligation (c : Dev nD) : BodyObligation (dat V c) (defs₀ (F := F)) 𝒱₀ () Set.univ := fun t => by
  obtain rfl := fin_N0 t
  rw [bigSep_W0, bigSep_W0]
  dsimp only
  rw [inv_start V c t0_0.castSucc rfl, inv_end V c t0_0.succ (Nat.succ_ne_zero _)]
  unfold Dat.owesAt Pipeline.owesWithin
  rw [show (dat V c).owed t0_0.castSucc = 0 from rfl, show (dat V c).owed t0_0.succ = 0 from rfl]
  unfold owns
  iintro ⟨⟨⟨HX, HC, HD⟩, HO, ⟨HX0, HX1, HX2, HC0, HC1, HD0, HD1, HO0, HO1⟩, HR⟩, ⟨%Wt, -, HW⟩, ⟨%d0, %g0, %hg0, HT⟩⟩
  rw [before_w0] at hg0
  ihave HX' := (Entails.of_eq (x_whole c (V c main_v68))) $$ HX
  ihave HC' := (Entails.of_eq (c_whole c (V c main_v62))) $$ HC
  ihave HD' := (Entails.of_eq (d_whole c (V c main_v65))) $$ HD
  ihave HO' := (o_split c (V c main_v69)) $$ HO
  ihave HR' := (Entails.of_eq (rest0_split c)) $$ HR
  icases HR' with ⟨⟨HRx, HRc, HRd, HRo⟩, HR⟩
  ihave HRx' := (xRing_split c) $$ HRx
  icases HRx' with ⟨HS0, HS1, HS2⟩
  ihave HRc' := (cRing_split c) $$ HRc
  icases HRc' with ⟨HSc0, HSc1⟩
  ihave HRd' := (dRing_split c) $$ HRd
  icases HRd' with ⟨HSd0, HSd1⟩
  ihave HRo' := (oRing_split c) $$ HRo
  icases HRo' with ⟨HP0, HP1⟩
  sl_rw [prog_eq t0_0]
  iapply (bodyRun c (V c main_v68) (V c main_v62) (V c main_v65) (st0_0 t0_0) (hstage0_0 0) g0 _)
  isplitr [HR]
  · isplitl [HT]; · iexact HT
    isplitl [HX' HC' HD']
    · isplitl [HX']; · iexact HX'
      isplitl [HC'] <;> iassumption
    isplitl [HO']; · iexact HO'
    isplitl [HX0 HS0 HX1 HS1 HX2 HS2]
    · isplitl [HX0 HS0]; · isplitl [HX0] <;> iassumption
      isplitl [HX1 HS1]; · isplitl [HX1] <;> iassumption
      isplitl [HX2] <;> iassumption
    isplitl [HC0 HSc0 HC1 HSc1]
    · isplitl [HC0 HSc0]; · isplitl [HC0] <;> iassumption
      isplitl [HC1] <;> iassumption
    isplitl [HD0 HSd0 HD1 HSd1]
    · isplitl [HD0 HSd0]; · isplitl [HD0] <;> iassumption
      isplitl [HD1] <;> iassumption
    isplitl [HO0 HP0 HO1 HP1]
    · isplitl [HO0 HP0]; · isplitl [HO0] <;> iassumption
      isplitl [HO1] <;> iassumption
    iexists Wt; iexact HW
  · iintro ⟨HT, ⟨HX, HC, HD⟩, HO, ⟨⟨HX0, HS0⟩, ⟨HX1, HS1⟩, ⟨HX2, HS2⟩⟩, ⟨⟨HC0, HSc0⟩, ⟨HC1, HSc1⟩⟩, ⟨⟨HD0, HSd0⟩, ⟨HD1, HSd1⟩⟩, ⟨⟨HO0, HP0⟩, ⟨HO1, HP1⟩⟩, ⟨%W', HW⟩⟩
    isplitr [HW HT]
    · isplitl [HX HC HD]
      · isplitl [HX]; · iapply (Entails.of_eq (x_whole c (V c main_v68)).symm); iexact HX
        isplitl [HC]; · iapply (Entails.of_eq (c_whole c (V c main_v62)).symm); iexact HC
        iapply (Entails.of_eq (d_whole c (V c main_v65)).symm); iexact HD
      isplitl [HO]
      · ihave HO' := (o_join c (V c main_v68) (V c main_v62) (V c main_v65) (st0_0 t0_0) g0) $$ HO
        rw [tabV_eq, hg0]
        iexact HO'
      isplitl [HX0 HX1 HX2 HC0 HC1 HD0 HD1 HO0 HO1]
      · isplitl [HX0]; · iexact HX0
        isplitl [HX1]; · iexact HX1
        isplitl [HX2]; · iexact HX2
        isplitl [HC0]; · iexact HC0
        isplitl [HC1]; · iexact HC1
        isplitl [HD0]; · iexact HD0
        isplitl [HD1]; · iexact HD1
        isplitl [HO0]; · iexact HO0
        iexact HO1
      iapply (Entails.of_eq (rest0_split c).symm)
      isplitr [HR]; swap; · iexact HR
      isplitl [HS0 HS1 HS2]
      · iapply (xRing_join c)
        isplitl [HS0]; · iexact HS0
        isplitl [HS1] <;> iassumption
      isplitl [HSc0 HSc1]
      · iapply (cRing_join c)
        isplitl [HSc0] <;> iassumption
      isplitl [HSd0 HSd1]
      · iapply (dRing_join c)
        isplitl [HSd0] <;> iassumption
      · iapply (oRing_join c)
        isplitl [HP0] <;> iassumption
    isplitl [HW]
    · iexists W'; isplitr; · ipureintro; exact fun _ _ => Or.inl trivial
      iexact HW
    iexists g0
    isplitr; swap; · iexact HT
    ipureintro; exact hg0

end Data

end Cert.Proof.FftA
end
end
-- ==== Proof.FftBTrip.lean ====
/- One trip of the second stage, in each of its three roles. -/
module

public import proofs.«01_k».proof.Proof.FftBVal

@[expose] public section

noncomputable section

namespace Cert.Proof.FftB

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ
open Idealize.ShloMosaic.ValueIdx

section Trip
variable (c : Dev nD) (XA : Buf (Elt F) (xM.view.loc (c : Thread nD τ)))
  (arg1 : Memref sig .tc .vmem S256x512 .bf16) (harg1 : arg1.IsWhole)
  (v53 : BitVec 32)

abbrev tripG (k : Fin k1_t1_loop.trips) (acc : BitVec 32 × BitVec 32 × BitVec 32 × BitVec 32 × BitVec 32 × BitVec 32) :=
  k1_t1_body (F := F) xM (Memref.isWhole_whole _) arg1 harg1 oM (Memref.isWhole_whole _) xB (Memref.isWhole_whole _) cc1_scoped1 oB (Memref.isWhole_whole _) cc1_scoped3 v53 0#32 0#32 0#32 0#32 0#32 0#32 k acc

/-- The table held in its staging buffer. -/
abbrev tabP (W : Buf (Elt F) (arg1.view.loc (c : Thread nD τ))) : sProp 𝕄 := arg1.view.loc (c : Thread nD τ) ↦[arg1.view.set]{fullShare} W
/-- The table as the trip loads it. -/
abbrev tabV (W : Buf (Elt F) (arg1.view.loc (c : Thread nD τ))) : Vec F S256x512 .bf16 :=
  arg1.view.readAt (Elt F) (Rect.unit (s := S256x512) ![0, 0] S256x512.size inb_S256x512_S256x512_0_0).toLoadRect W
/-- Block `b` of the result on its way out of slot `s`, the slot holding the block computed. -/
abbrev oDone (W : Buf (Elt F) (arg1.view.loc (c : Thread nD τ))) (s : Fin 2) (b : Fin 8) : sProp 𝕄 :=
  iprop(∃ f g, oflight c s b f g ∗ ⌜(ocv s).view.read (Elt F) g = blkB (tabV c arg1 W) (xval c XA b)⌝)
/-- Block `b` of the result back home. -/
abbrev oBack (W : Buf (Elt F) (arg1.view.loc (c : Thread nD τ))) (b : Fin 8) : sProp 𝕄 :=
  iprop(∃ s f g, ohome c b (olanded c b s f g) ∗ ⌜(ocv s).view.read (Elt F) g = blkB (tabV c arg1 W) (xval c XA b)⌝)

/-- What every trip starts from and ends in, apart from the reads ahead and the write behind. -/
abbrev base (k : ℕ) (W : Buf (Elt F) (arg1.view.loc (c : Thread nD τ))) : sProp 𝕄 :=
  iprop((∃ f, xflight c XA (Ring.sl 3 k) (Ring.bk 8 k) f) ∗ tabP c arg1 W ∗ (∃ f, oslotP c (Ring.sl 2 k) f) ∗ ocell c (Ring.sl 2 k) ∗ (∃ f, ohome c (Ring.bk 8 k) f) ∗ (∃ Wt, owes (c : Thread nD τ) 0 Wt))
abbrev done (k : ℕ) (W : Buf (Elt F) (arg1.view.loc (c : Thread nD τ))) : sProp 𝕄 :=
  iprop(xhome c XA (Ring.bk 8 k) ∗ (∃ f, xslotP c (Ring.sl 3 k) f) ∗ xcell c (Ring.sl 3 k) ∗ tabP c arg1 W ∗ oDone c XA arg1 W (Ring.sl 2 k) (Ring.bk 8 k) ∗ (∃ Wt, owes (c : Thread nD τ) 0 Wt))
/-- The read ahead: what issuing it takes, and what it leaves. -/
abbrev readIn (k : ℕ) : sProp 𝕄 := iprop(xhome c XA (Ring.bk 8 (k + 2)) ∗ xcell c (Ring.sl 3 (k + 2)) ∗ ∃ f, xslotP c (Ring.sl 3 (k + 2)) f)
abbrev readOut (k : ℕ) : sProp 𝕄 := iprop(∃ f, xflight c XA (Ring.sl 3 (k + 2)) (Ring.bk 8 (k + 2)) f)
/-- The write behind: what waiting for it takes, and what it gives back. -/
abbrev writeIn (k : ℕ) (W : Buf (Elt F) (arg1.view.loc (c : Thread nD τ))) : sProp 𝕄 := oDone c XA arg1 W (Ring.sl 2 (k - 1)) (Ring.bk 8 (k - 1))
abbrev writeOut (k : ℕ) (W : Buf (Elt F) (arg1.view.loc (c : Thread nD τ))) : sProp 𝕄 :=
  iprop(oBack c XA arg1 W (Ring.bk 8 (k - 1)) ∗ (∃ f, oslotP c (Ring.sl 2 (k - 1)) f) ∗ ocell c (Ring.sl 2 (k - 1)))
/-- The carried counters before trip `k`. -/
abbrev accAt (k : ℕ) : BitVec 32 × BitVec 32 × BitVec 32 × BitVec 32 × BitVec 32 × BitVec 32 := (a4 k, a5 k, a6 k, a7 k, a8 k, a9 k)

set_option maxHeartbeats 4000000 in
set_option sl_exec.respelt true in
/-- A trip that reads ahead and waits for the write behind. -/
theorem trip_mid (k : Fin k1_t1_loop.trips) (h1 : 1 ≤ k.val) (h2 : k.val + 2 < 8) (W : Buf (Elt F) (arg1.view.loc (c : Thread nD τ))) :
    iprop(base c XA arg1 k W ∗ readIn c XA k ∗ writeIn c XA arg1 k W)
      ⊢ (wp frame (wpE (defs₀ (F := F)) 𝒱₀ (c : Thread nD τ) none) Set.univ (tripG arg1 harg1 v53 k (accAt k.val))
        (fun acc => iprop(⌜acc = accAt (k.val + 1)⌝ ∗ done c XA arg1 k W ∗ readOut c XA k ∗ writeOut c XA arg1 k W)) : sProp 𝕄) := by
  have hc1 := chk1 k; have hc2 := chk2 k; have hc3 := chk3 k
  have hd3 := cond3_t k; have hd6 := cond6_t k
  have hd2 := cond2_t k h2; have hd8 := cond8_t k h1
  iintro ⟨⟨⟨%fx, HFx⟩, HW, ⟨%fo, HSo⟩, HCo, ⟨%f, HO⟩, ⟨%Wt, HOw⟩⟩, ⟨HX, HCx, ⟨%fn, HSx⟩⟩, ⟨%fp, %gp, HFo, %hgp⟩⟩
  dsimp only [tripG]
  sl_unfold [k1_t1_body]
  sl_exec
  ihave HXL := (landed_in c XA (Ring.sl 3 k.val) (Ring.bk 8 k.val) _) $$ HFx_dst
  icases HXL with ⟨%gx, HXS, %hgx⟩
  ihave HOS := (Entails.of_eq (ocvP_eq c (Ring.sl 2 k.val) _)) $$ HSo
  sl_exec
  ihave HXO := (landed_out c (Ring.sl 3 k.val) _) $$ HXS
  ihave HOD := (done_out c (Ring.sl 2 k.val) _ (blkB (tabV c arg1 W) (xval c XA (Ring.bk 8 k.val))) ?val) $$ HOS
  case val =>
    rw [← hgx]
    sl_unfold_run_names
    funext y
    refine View.read_writes_apply_of_pieces _ _ _ _ ?_ y (View.cover_of_tiled (s := S32x128x512) _ S1x128x512.size (by sl_kernel_rfl) y)
    refine List.forall_mem_cons.2 ⟨piece_odd (xcv (Ring.sl 3 k.val)).view gx (tabV c arg1 W) 15 31 15 rfl rfl inb_S32x128x512_S1x128x512_31_0_0 inb_S128x16x2x1024_S128x1x2x1024_0_15_0_0 _ rfl, ?_⟩
    refine List.forall_mem_cons.2 ⟨piece_even (xcv (Ring.sl 3 k.val)).view gx (tabV c arg1 W) 15 30 15 rfl rfl inb_S32x128x512_S1x128x512_30_0_0 inb_S128x16x2x1024_S128x1x2x1024_0_15_0_0 _ rfl, ?_⟩
    refine List.forall_mem_cons.2 ⟨piece_odd (xcv (Ring.sl 3 k.val)).view gx (tabV c arg1 W) 14 29 14 rfl rfl inb_S32x128x512_S1x128x512_29_0_0 inb_S128x16x2x1024_S128x1x2x1024_0_14_0_0 _ rfl, ?_⟩
    refine List.forall_mem_cons.2 ⟨piece_even (xcv (Ring.sl 3 k.val)).view gx (tabV c arg1 W) 14 28 14 rfl rfl inb_S32x128x512_S1x128x512_28_0_0 inb_S128x16x2x1024_S128x1x2x1024_0_14_0_0 _ rfl, ?_⟩
    refine List.forall_mem_cons.2 ⟨piece_odd (xcv (Ring.sl 3 k.val)).view gx (tabV c arg1 W) 13 27 13 rfl rfl inb_S32x128x512_S1x128x512_27_0_0 inb_S128x16x2x1024_S128x1x2x1024_0_13_0_0 _ rfl, ?_⟩
    refine List.forall_mem_cons.2 ⟨piece_even (xcv (Ring.sl 3 k.val)).view gx (tabV c arg1 W) 13 26 13 rfl rfl inb_S32x128x512_S1x128x512_26_0_0 inb_S128x16x2x1024_S128x1x2x1024_0_13_0_0 _ rfl, ?_⟩
    refine List.forall_mem_cons.2 ⟨piece_odd (xcv (Ring.sl 3 k.val)).view gx (tabV c arg1 W) 12 25 12 rfl rfl inb_S32x128x512_S1x128x512_25_0_0 inb_S128x16x2x1024_S128x1x2x1024_0_12_0_0 _ rfl, ?_⟩
    refine List.forall_mem_cons.2 ⟨piece_even (xcv (Ring.sl 3 k.val)).view gx (tabV c arg1 W) 12 24 12 rfl rfl inb_S32x128x512_S1x128x512_24_0_0 inb_S128x16x2x1024_S128x1x2x1024_0_12_0_0 _ rfl, ?_⟩
    refine List.forall_mem_cons.2 ⟨piece_odd (xcv (Ring.sl 3 k.val)).view gx (tabV c arg1 W) 11 23 11 rfl rfl inb_S32x128x512_S1x128x512_23_0_0 inb_S128x16x2x1024_S128x1x2x1024_0_11_0_0 _ rfl, ?_⟩
    refine List.forall_mem_cons.2 ⟨piece_even (xcv (Ring.sl 3 k.val)).view gx (tabV c arg1 W) 11 22 11 rfl rfl inb_S32x128x512_S1x128x512_22_0_0 inb_S128x16x2x1024_S128x1x2x1024_0_11_0_0 _ rfl, ?_⟩
    refine List.forall_mem_cons.2 ⟨piece_odd (xcv (Ring.sl 3 k.val)).view gx (tabV c arg1 W) 10 21 10 rfl rfl inb_S32x128x512_S1x128x512_21_0_0 inb_S128x16x2x1024_S128x1x2x1024_0_10_0_0 _ rfl, ?_⟩
    refine List.forall_mem_cons.2 ⟨piece_even (xcv (Ring.sl 3 k.val)).view gx (tabV c arg1 W) 10 20 10 rfl rfl inb_S32x128x512_S1x128x512_20_0_0 inb_S128x16x2x1024_S128x1x2x1024_0_10_0_0 _ rfl, ?_⟩
    refine List.forall_mem_cons.2 ⟨piece_odd (xcv (Ring.sl 3 k.val)).view gx (tabV c arg1 W) 9 19 9 rfl rfl inb_S32x128x512_S1x128x512_19_0_0 inb_S128x16x2x1024_S128x1x2x1024_0_9_0_0 _ rfl, ?_⟩
    refine List.forall_mem_cons.2 ⟨piece_even (xcv (Ring.sl 3 k.val)).view gx (tabV c arg1 W) 9 18 9 rfl rfl inb_S32x128x512_S1x128x512_18_0_0 inb_S128x16x2x1024_S128x1x2x1024_0_9_0_0 _ rfl, ?_⟩
    refine List.forall_mem_cons.2 ⟨piece_odd (xcv (Ring.sl 3 k.val)).view gx (tabV c arg1 W) 8 17 8 rfl rfl inb_S32x128x512_S1x128x512_17_0_0 inb_S128x16x2x1024_S128x1x2x1024_0_8_0_0 _ rfl, ?_⟩
    refine List.forall_mem_cons.2 ⟨piece_even (xcv (Ring.sl 3 k.val)).view gx (tabV c arg1 W) 8 16 8 rfl rfl inb_S32x128x512_S1x128x512_16_0_0 inb_S128x16x2x1024_S128x1x2x1024_0_8_0_0 _ rfl, ?_⟩
    refine List.forall_mem_cons.2 ⟨piece_odd (xcv (Ring.sl 3 k.val)).view gx (tabV c arg1 W) 7 15 7 rfl rfl inb_S32x128x512_S1x128x512_15_0_0 inb_S128x16x2x1024_S128x1x2x1024_0_7_0_0 _ rfl, ?_⟩
    refine List.forall_mem_cons.2 ⟨piece_even (xcv (Ring.sl 3 k.val)).view gx (tabV c arg1 W) 7 14 7 rfl rfl inb_S32x128x512_S1x128x512_14_0_0 inb_S128x16x2x1024_S128x1x2x1024_0_7_0_0 _ rfl, ?_⟩
    refine List.forall_mem_cons.2 ⟨piece_odd (xcv (Ring.sl 3 k.val)).view gx (tabV c arg1 W) 6 13 6 rfl rfl inb_S32x128x512_S1x128x512_13_0_0 inb_S128x16x2x1024_S128x1x2x1024_0_6_0_0 _ rfl, ?_⟩
    refine List.forall_mem_cons.2 ⟨piece_even (xcv (Ring.sl 3 k.val)).view gx (tabV c arg1 W) 6 12 6 rfl rfl inb_S32x128x512_S1x128x512_12_0_0 inb_S128x16x2x1024_S128x1x2x1024_0_6_0_0 _ rfl, ?_⟩
    refine List.forall_mem_cons.2 ⟨piece_odd (xcv (Ring.sl 3 k.val)).view gx (tabV c arg1 W) 5 11 5 rfl rfl inb_S32x128x512_S1x128x512_11_0_0 inb_S128x16x2x1024_S128x1x2x1024_0_5_0_0 _ rfl, ?_⟩
    refine List.forall_mem_cons.2 ⟨piece_even (xcv (Ring.sl 3 k.val)).view gx (tabV c arg1 W) 5 10 5 rfl rfl inb_S32x128x512_S1x128x512_10_0_0 inb_S128x16x2x1024_S128x1x2x1024_0_5_0_0 _ rfl, ?_⟩
    refine List.forall_mem_cons.2 ⟨piece_odd (xcv (Ring.sl 3 k.val)).view gx (tabV c arg1 W) 4 9 4 rfl rfl inb_S32x128x512_S1x128x512_9_0_0 inb_S128x16x2x1024_S128x1x2x1024_0_4_0_0 _ rfl, ?_⟩
    refine List.forall_mem_cons.2 ⟨piece_even (xcv (Ring.sl 3 k.val)).view gx (tabV c arg1 W) 4 8 4 rfl rfl inb_S32x128x512_S1x128x512_8_0_0 inb_S128x16x2x1024_S128x1x2x1024_0_4_0_0 _ rfl, ?_⟩
    refine List.forall_mem_cons.2 ⟨piece_odd (xcv (Ring.sl 3 k.val)).view gx (tabV c arg1 W) 3 7 3 rfl rfl inb_S32x128x512_S1x128x512_7_0_0 inb_S128x16x2x1024_S128x1x2x1024_0_3_0_0 _ rfl, ?_⟩
    refine List.forall_mem_cons.2 ⟨piece_even (xcv (Ring.sl 3 k.val)).view gx (tabV c arg1 W) 3 6 3 rfl rfl inb_S32x128x512_S1x128x512_6_0_0 inb_S128x16x2x1024_S128x1x2x1024_0_3_0_0 _ rfl, ?_⟩
    refine List.forall_mem_cons.2 ⟨piece_odd (xcv (Ring.sl 3 k.val)).view gx (tabV c arg1 W) 2 5 2 rfl rfl inb_S32x128x512_S1x128x512_5_0_0 inb_S128x16x2x1024_S128x1x2x1024_0_2_0_0 _ rfl, ?_⟩
    refine List.forall_mem_cons.2 ⟨piece_even (xcv (Ring.sl 3 k.val)).view gx (tabV c arg1 W) 2 4 2 rfl rfl inb_S32x128x512_S1x128x512_4_0_0 inb_S128x16x2x1024_S128x1x2x1024_0_2_0_0 _ rfl, ?_⟩
    refine List.forall_mem_cons.2 ⟨piece_odd (xcv (Ring.sl 3 k.val)).view gx (tabV c arg1 W) 1 3 1 rfl rfl inb_S32x128x512_S1x128x512_3_0_0 inb_S128x16x2x1024_S128x1x2x1024_0_1_0_0 _ rfl, ?_⟩
    refine List.forall_mem_cons.2 ⟨piece_even (xcv (Ring.sl 3 k.val)).view gx (tabV c arg1 W) 1 2 1 rfl rfl inb_S32x128x512_S1x128x512_2_0_0 inb_S128x16x2x1024_S128x1x2x1024_0_1_0_0 _ rfl, ?_⟩
    refine List.forall_mem_cons.2 ⟨piece_odd (xcv (Ring.sl 3 k.val)).view gx (tabV c arg1 W) 0 1 0 rfl rfl inb_S32x128x512_S1x128x512_1_0_0 inb_S128x16x2x1024_S128x1x2x1024_0_0_0_0 _ rfl, ?_⟩
    refine List.forall_mem_cons.2 ⟨piece_even (xcv (Ring.sl 3 k.val)).view gx (tabV c arg1 W) 0 0 0 rfl rfl inb_S32x128x512_S1x128x512_0_0_0 inb_S128x16x2x1024_S128x1x2x1024_0_0_0_0 _ rfl, ?_⟩
    exact fun _ h => absurd h List.not_mem_nil
  icases HOD with ⟨%go, HSo2, %hgo⟩
  sl_exec
  sl_step
  isplitr
  · ipureintro
    sl_unfold_run_names
    clear * - k
    revert k
    unfold accAt a4 a5 a6 a7 a8 a9
    decide +kernel
  isplitl [HFx_src HXO HFx HW HCo HOw]
  · isplitl [HFx_src]; · iexact HFx_src
    isplitl [HXO]; · iexact HXO
    isplitl [HFx]; · iexact HFx
    isplitl [HW]; · iexact HW
    isplitl [HCo]
    · iexists f; iexists go
      isplitl [HCo]; · iexact HCo
      ipureintro; exact hgo
    iexists _; iexact HOw
  isplitl [HCx]
  · iexists fn; iexact HCx
  isplitl [HFo_dst]
  · iexists _; iexists fp; iexists gp
    isplitl [HFo_dst]; · iexact HFo_dst
    ipureintro; exact hgp
  isplitl [HFo_src]
  · iexists gp; iexact HFo_src
  iexact HFo

set_option maxHeartbeats 4000000 in
set_option sl_exec.respelt true in
/-- The first trip: it reads ahead, with no write behind to wait for. -/
theorem trip_first (k : Fin k1_t1_loop.trips) (h0 : k.val = 0) (W : Buf (Elt F) (arg1.view.loc (c : Thread nD τ))) :
    iprop(base c XA arg1 k W ∗ readIn c XA k)
      ⊢ (wp frame (wpE (defs₀ (F := F)) 𝒱₀ (c : Thread nD τ) none) Set.univ (tripG arg1 harg1 v53 k (accAt k.val))
        (fun acc => iprop(⌜acc = accAt (k.val + 1)⌝ ∗ done c XA arg1 k W ∗ readOut c XA k)) : sProp 𝕄) := by
  have hc1 := chk1 k; have hc2 := chk2 k; have hc3 := chk3 k
  have hd3 := cond3_t k; have hd6 := cond6_t k
  have h2 : k.val + 2 < 8 := by omega
  have hd2 := cond2_t k h2; have hd8 := cond8_f k (by omega)
  iintro ⟨⟨⟨%fx, HFx⟩, HW, ⟨%fo, HSo⟩, HCo, ⟨%f, HO⟩, ⟨%Wt, HOw⟩⟩, HX, HCx, ⟨%fn, HSx⟩⟩
  dsimp only [tripG]
  sl_unfold [k1_t1_body]
  sl_exec
  ihave HXL := (landed_in c XA (Ring.sl 3 k.val) (Ring.bk 8 k.val) _) $$ HFx_dst
  icases HXL with ⟨%gx, HXS, %hgx⟩
  ihave HOS := (Entails.of_eq (ocvP_eq c (Ring.sl 2 k.val) _)) $$ HSo
  sl_exec
  ihave HXO := (landed_out c (Ring.sl 3 k.val) _) $$ HXS
  ihave HOD := (done_out c (Ring.sl 2 k.val) _ (blkB (tabV c arg1 W) (xval c XA (Ring.bk 8 k.val))) ?val) $$ HOS
  case val =>
    rw [← hgx]
    sl_unfold_run_names
    funext y
    refine View.read_writes_apply_of_pieces _ _ _ _ ?_ y (View.cover_of_tiled (s := S32x128x512) _ S1x128x512.size (by sl_kernel_rfl) y)
    refine List.forall_mem_cons.2 ⟨piece_odd (xcv (Ring.sl 3 k.val)).view gx (tabV c arg1 W) 15 31 15 rfl rfl inb_S32x128x512_S1x128x512_31_0_0 inb_S128x16x2x1024_S128x1x2x1024_0_15_0_0 _ rfl, ?_⟩
    refine List.forall_mem_cons.2 ⟨piece_even (xcv (Ring.sl 3 k.val)).view gx (tabV c arg1 W) 15 30 15 rfl rfl inb_S32x128x512_S1x128x512_30_0_0 inb_S128x16x2x1024_S128x1x2x1024_0_15_0_0 _ rfl, ?_⟩
    refine List.forall_mem_cons.2 ⟨piece_odd (xcv (Ring.sl 3 k.val)).view gx (tabV c arg1 W) 14 29 14 rfl rfl inb_S32x128x512_S1x128x512_29_0_0 inb_S128x16x2x1024_S128x1x2x1024_0_14_0_0 _ rfl, ?_⟩
    refine List.forall_mem_cons.2 ⟨piece_even (xcv (Ring.sl 3 k.val)).view gx (tabV c arg1 W) 14 28 14 rfl rfl inb_S32x128x512_S1x128x512_28_0_0 inb_S128x16x2x1024_S128x1x2x1024_0_14_0_0 _ rfl, ?_⟩
    refine List.forall_mem_cons.2 ⟨piece_odd (xcv (Ring.sl 3 k.val)).view gx (tabV c arg1 W) 13 27 13 rfl rfl inb_S32x128x512_S1x128x512_27_0_0 inb_S128x16x2x1024_S128x1x2x1024_0_13_0_0 _ rfl, ?_⟩
    refine List.forall_mem_cons.2 ⟨piece_even (xcv (Ring.sl 3 k.val)).view gx (tabV c arg1 W) 13 26 13 rfl rfl inb_S32x128x512_S1x128x512_26_0_0 inb_S128x16x2x1024_S128x1x2x1024_0_13_0_0 _ rfl, ?_⟩
    refine List.forall_mem_cons.2 ⟨piece_odd (xcv (Ring.sl 3 k.val)).view gx (tabV c arg1 W) 12 25 12 rfl rfl inb_S32x128x512_S1x128x512_25_0_0 inb_S128x16x2x1024_S128x1x2x1024_0_12_0_0 _ rfl, ?_⟩
    refine List.forall_mem_cons.2 ⟨piece_even (xcv (Ring.sl 3 k.val)).view gx (tabV c arg1 W) 12 24 12 rfl rfl inb_S32x128x512_S1x128x512_24_0_0 inb_S128x16x2x1024_S128x1x2x1024_0_12_0_0 _ rfl, ?_⟩
    refine List.forall_mem_cons.2 ⟨piece_odd (xcv (Ring.sl 3 k.val)).view gx (tabV c arg1 W) 11 23 11 rfl rfl inb_S32x128x512_S1x128x512_23_0_0 inb_S128x16x2x1024_S128x1x2x1024_0_11_0_0 _ rfl, ?_⟩
    refine List.forall_mem_cons.2 ⟨piece_even (xcv (Ring.sl 3 k.val)).view gx (tabV c arg1 W) 11 22 11 rfl rfl inb_S32x128x512_S1x128x512_22_0_0 inb_S128x16x2x1024_S128x1x2x1024_0_11_0_0 _ rfl, ?_⟩
    refine List.forall_mem_cons.2 ⟨piece_odd (xcv (Ring.sl 3 k.val)).view gx (tabV c arg1 W) 10 21 10 rfl rfl inb_S32x128x512_S1x128x512_21_0_0 inb_S128x16x2x1024_S128x1x2x1024_0_10_0_0 _ rfl, ?_⟩
    refine List.forall_mem_cons.2 ⟨piece_even (xcv (Ring.sl 3 k.val)).view gx (tabV c arg1 W) 10 20 10 rfl rfl inb_S32x128x512_S1x128x512_20_0_0 inb_S128x16x2x1024_S128x1x2x1024_0_10_0_0 _ rfl, ?_⟩
    refine List.forall_mem_cons.2 ⟨piece_odd (xcv (Ring.sl 3 k.val)).view gx (tabV c arg1 W) 9 19 9 rfl rfl inb_S32x128x512_S1x128x512_19_0_0 inb_S128x16x2x1024_S128x1x2x1024_0_9_0_0 _ rfl, ?_⟩
    refine List.forall_mem_cons.2 ⟨piece_even (xcv (Ring.sl 3 k.val)).view gx (tabV c arg1 W) 9 18 9 rfl rfl inb_S32x128x512_S1x128x512_18_0_0 inb_S128x16x2x1024_S128x1x2x1024_0_9_0_0 _ rfl, ?_⟩
    refine List.forall_mem_cons.2 ⟨piece_odd (xcv (Ring.sl 3 k.val)).view gx (tabV c arg1 W) 8 17 8 rfl rfl inb_S32x128x512_S1x128x512_17_0_0 inb_S128x16x2x1024_S128x1x2x1024_0_8_0_0 _ rfl, ?_⟩
    refine List.forall_mem_cons.2 ⟨piece_even (xcv (Ring.sl 3 k.val)).view gx (tabV c arg1 W) 8 16 8 rfl rfl inb_S32x128x512_S1x128x512_16_0_0 inb_S128x16x2x1024_S128x1x2x1024_0_8_0_0 _ rfl, ?_⟩
    refine List.forall_mem_cons.2 ⟨piece_odd (xcv (Ring.sl 3 k.val)).view gx (tabV c arg1 W) 7 15 7 rfl rfl inb_S32x128x512_S1x128x512_15_0_0 inb_S128x16x2x1024_S128x1x2x1024_0_7_0_0 _ rfl, ?_⟩
    refine List.forall_mem_cons.2 ⟨piece_even (xcv (Ring.sl 3 k.val)).view gx (tabV c arg1 W) 7 14 7 rfl rfl inb_S32x128x512_S1x128x512_14_0_0 inb_S128x16x2x1024_S128x1x2x1024_0_7_0_0 _ rfl, ?_⟩
    refine List.forall_mem_cons.2 ⟨piece_odd (xcv (Ring.sl 3 k.val)).view gx (tabV c arg1 W) 6 13 6 rfl rfl inb_S32x128x512_S1x128x512_13_0_0 inb_S128x16x2x1024_S128x1x2x1024_0_6_0_0 _ rfl, ?_⟩
    refine List.forall_mem_cons.2 ⟨piece_even (xcv (Ring.sl 3 k.val)).view gx (tabV c arg1 W) 6 12 6 rfl rfl inb_S32x128x512_S1x128x512_12_0_0 inb_S128x16x2x1024_S128x1x2x1024_0_6_0_0 _ rfl, ?_⟩
    refine List.forall_mem_cons.2 ⟨piece_odd (xcv (Ring.sl 3 k.val)).view gx (tabV c arg1 W) 5 11 5 rfl rfl inb_S32x128x512_S1x128x512_11_0_0 inb_S128x16x2x1024_S128x1x2x1024_0_5_0_0 _ rfl, ?_⟩
    refine List.forall_mem_cons.2 ⟨piece_even (xcv (Ring.sl 3 k.val)).view gx (tabV c arg1 W) 5 10 5 rfl rfl inb_S32x128x512_S1x128x512_10_0_0 inb_S128x16x2x1024_S128x1x2x1024_0_5_0_0 _ rfl, ?_⟩
    refine List.forall_mem_cons.2 ⟨piece_odd (xcv (Ring.sl 3 k.val)).view gx (tabV c arg1 W) 4 9 4 rfl rfl inb_S32x128x512_S1x128x512_9_0_0 inb_S128x16x2x1024_S128x1x2x1024_0_4_0_0 _ rfl, ?_⟩
    refine List.forall_mem_cons.2 ⟨piece_even (xcv (Ring.sl 3 k.val)).view gx (tabV c arg1 W) 4 8 4 rfl rfl inb_S32x128x512_S1x128x512_8_0_0 inb_S128x16x2x1024_S128x1x2x1024_0_4_0_0 _ rfl, ?_⟩
    refine List.forall_mem_cons.2 ⟨piece_odd (xcv (Ring.sl 3 k.val)).view gx (tabV c arg1 W) 3 7 3 rfl rfl inb_S32x128x512_S1x128x512_7_0_0 inb_S128x16x2x1024_S128x1x2x1024_0_3_0_0 _ rfl, ?_⟩
    refine List.forall_mem_cons.2 ⟨piece_even (xcv (Ring.sl 3 k.val)).view gx (tabV c arg1 W) 3 6 3 rfl rfl inb_S32x128x512_S1x128x512_6_0_0 inb_S128x16x2x1024_S128x1x2x1024_0_3_0_0 _ rfl, ?_⟩
    refine List.forall_mem_cons.2 ⟨piece_odd (xcv (Ring.sl 3 k.val)).view gx (tabV c arg1 W) 2 5 2 rfl rfl inb_S32x128x512_S1x128x512_5_0_0 inb_S128x16x2x1024_S128x1x2x1024_0_2_0_0 _ rfl, ?_⟩
    refine List.forall_mem_cons.2 ⟨piece_even (xcv (Ring.sl 3 k.val)).view gx (tabV c arg1 W) 2 4 2 rfl rfl inb_S32x128x512_S1x128x512_4_0_0 inb_S128x16x2x1024_S128x1x2x1024_0_2_0_0 _ rfl, ?_⟩
    refine List.forall_mem_cons.2 ⟨piece_odd (xcv (Ring.sl 3 k.val)).view gx (tabV c arg1 W) 1 3 1 rfl rfl inb_S32x128x512_S1x128x512_3_0_0 inb_S128x16x2x1024_S128x1x2x1024_0_1_0_0 _ rfl, ?_⟩
    refine List.forall_mem_cons.2 ⟨piece_even (xcv (Ring.sl 3 k.val)).view gx (tabV c arg1 W) 1 2 1 rfl rfl inb_S32x128x512_S1x128x512_2_0_0 inb_S128x16x2x1024_S128x1x2x1024_0_1_0_0 _ rfl, ?_⟩
    refine List.forall_mem_cons.2 ⟨piece_odd (xcv (Ring.sl 3 k.val)).view gx (tabV c arg1 W) 0 1 0 rfl rfl inb_S32x128x512_S1x128x512_1_0_0 inb_S128x16x2x1024_S128x1x2x1024_0_0_0_0 _ rfl, ?_⟩
    refine List.forall_mem_cons.2 ⟨piece_even (xcv (Ring.sl 3 k.val)).view gx (tabV c arg1 W) 0 0 0 rfl rfl inb_S32x128x512_S1x128x512_0_0_0 inb_S128x16x2x1024_S128x1x2x1024_0_0_0_0 _ rfl, ?_⟩
    exact fun _ h => absurd h List.not_mem_nil
  icases HOD with ⟨%go, HSo2, %hgo⟩
  sl_exec
  sl_step
  isplitr
  · ipureintro
    sl_unfold_run_names
    clear * - k
    revert k
    unfold accAt a4 a5 a6 a7 a8 a9
    decide +kernel
  isplitl [HFx_src HXO HFx HW HCo HOw]
  · isplitl [HFx_src]; · iexact HFx_src
    isplitl [HXO]; · iexact HXO
    isplitl [HFx]; · iexact HFx
    isplitl [HW]; · iexact HW
    isplitl [HCo]
    · iexists f; iexists go
      isplitl [HCo]; · iexact HCo
      ipureintro; exact hgo
    iexists _; iexact HOw
  iexists fn; iexact HCx

set_option maxHeartbeats 4000000 in
set_option sl_exec.respelt true in
/-- One of the last two trips: no block is left to read ahead. -/
theorem trip_last (k : Fin k1_t1_loop.trips) (h2 : ¬ k.val + 2 < 8) (W : Buf (Elt F) (arg1.view.loc (c : Thread nD τ))) :
    iprop(base c XA arg1 k W ∗ writeIn c XA arg1 k W)
      ⊢ (wp frame (wpE (defs₀ (F := F)) 𝒱₀ (c : Thread nD τ) none) Set.univ (tripG arg1 harg1 v53 k (accAt k.val))
        (fun acc => iprop(⌜acc = accAt (k.val + 1)⌝ ∗ done c XA arg1 k W ∗ writeOut c XA arg1 k W)) : sProp 𝕄) := by
  have hc1 := chk1 k; have hc2 := chk2 k; have hc3 := chk3 k
  have hd3 := cond3_t k; have hd6 := cond6_t k
  have h1 : 1 ≤ k.val := by omega
  have hd2 := cond2_f k h2; have hd8 := cond8_t k h1
  iintro ⟨⟨⟨%fx, HFx⟩, HW, ⟨%fo, HSo⟩, HCo, ⟨%f, HO⟩, ⟨%Wt, HOw⟩⟩, ⟨%fp, %gp, HFo, %hgp⟩⟩
  dsimp only [tripG]
  sl_unfold [k1_t1_body]
  sl_exec
  ihave HXL := (landed_in c XA (Ring.sl 3 k.val) (Ring.bk 8 k.val) _) $$ HFx_dst
  icases HXL with ⟨%gx, HXS, %hgx⟩
  ihave HOS := (Entails.of_eq (ocvP_eq c (Ring.sl 2 k.val) _)) $$ HSo
  sl_exec
  ihave HXO := (landed_out c (Ring.sl 3 k.val) _) $$ HXS
  ihave HOD := (done_out c (Ring.sl 2 k.val) _ (blkB (tabV c arg1 W) (xval c XA (Ring.bk 8 k.val))) ?val) $$ HOS
  case val =>
    rw [← hgx]
    sl_unfold_run_names
    funext y
    refine View.read_writes_apply_of_pieces _ _ _ _ ?_ y (View.cover_of_tiled (s := S32x128x512) _ S1x128x512.size (by sl_kernel_rfl) y)
    refine List.forall_mem_cons.2 ⟨piece_odd (xcv (Ring.sl 3 k.val)).view gx (tabV c arg1 W) 15 31 15 rfl rfl inb_S32x128x512_S1x128x512_31_0_0 inb_S128x16x2x1024_S128x1x2x1024_0_15_0_0 _ rfl, ?_⟩
    refine List.forall_mem_cons.2 ⟨piece_even (xcv (Ring.sl 3 k.val)).view gx (tabV c arg1 W) 15 30 15 rfl rfl inb_S32x128x512_S1x128x512_30_0_0 inb_S128x16x2x1024_S128x1x2x1024_0_15_0_0 _ rfl, ?_⟩
    refine List.forall_mem_cons.2 ⟨piece_odd (xcv (Ring.sl 3 k.val)).view gx (tabV c arg1 W) 14 29 14 rfl rfl inb_S32x128x512_S1x128x512_29_0_0 inb_S128x16x2x1024_S128x1x2x1024_0_14_0_0 _ rfl, ?_⟩
    refine List.forall_mem_cons.2 ⟨piece_even (xcv (Ring.sl 3 k.val)).view gx (tabV c arg1 W) 14 28 14 rfl rfl inb_S32x128x512_S1x128x512_28_0_0 inb_S128x16x2x1024_S128x1x2x1024_0_14_0_0 _ rfl, ?_⟩
    refine List.forall_mem_cons.2 ⟨piece_odd (xcv (Ring.sl 3 k.val)).view gx (tabV c arg1 W) 13 27 13 rfl rfl inb_S32x128x512_S1x128x512_27_0_0 inb_S128x16x2x1024_S128x1x2x1024_0_13_0_0 _ rfl, ?_⟩
    refine List.forall_mem_cons.2 ⟨piece_even (xcv (Ring.sl 3 k.val)).view gx (tabV c arg1 W) 13 26 13 rfl rfl inb_S32x128x512_S1x128x512_26_0_0 inb_S128x16x2x1024_S128x1x2x1024_0_13_0_0 _ rfl, ?_⟩
    refine List.forall_mem_cons.2 ⟨piece_odd (xcv (Ring.sl 3 k.val)).view gx (tabV c arg1 W) 12 25 12 rfl rfl inb_S32x128x512_S1x128x512_25_0_0 inb_S128x16x2x1024_S128x1x2x1024_0_12_0_0 _ rfl, ?_⟩
    refine List.forall_mem_cons.2 ⟨piece_even (xcv (Ring.sl 3 k.val)).view gx (tabV c arg1 W) 12 24 12 rfl rfl inb_S32x128x512_S1x128x512_24_0_0 inb_S128x16x2x1024_S128x1x2x1024_0_12_0_0 _ rfl, ?_⟩
    refine List.forall_mem_cons.2 ⟨piece_odd (xcv (Ring.sl 3 k.val)).view gx (tabV c arg1 W) 11 23 11 rfl rfl inb_S32x128x512_S1x128x512_23_0_0 inb_S128x16x2x1024_S128x1x2x1024_0_11_0_0 _ rfl, ?_⟩
    refine List.forall_mem_cons.2 ⟨piece_even (xcv (Ring.sl 3 k.val)).view gx (tabV c arg1 W) 11 22 11 rfl rfl inb_S32x128x512_S1x128x512_22_0_0 inb_S128x16x2x1024_S128x1x2x1024_0_11_0_0 _ rfl, ?_⟩
    refine List.forall_mem_cons.2 ⟨piece_odd (xcv (Ring.sl 3 k.val)).view gx (tabV c arg1 W) 10 21 10 rfl rfl inb_S32x128x512_S1x128x512_21_0_0 inb_S128x16x2x1024_S128x1x2x1024_0_10_0_0 _ rfl, ?_⟩
    refine List.forall_mem_cons.2 ⟨piece_even (xcv (Ring.sl 3 k.val)).view gx (tabV c arg1 W) 10 20 10 rfl rfl inb_S32x128x512_S1x128x512_20_0_0 inb_S128x16x2x1024_S128x1x2x1024_0_10_0_0 _ rfl, ?_⟩
    refine List.forall_mem_cons.2 ⟨piece_odd (xcv (Ring.sl 3 k.val)).view gx (tabV c arg1 W) 9 19 9 rfl rfl inb_S32x128x512_S1x128x512_19_0_0 inb_S128x16x2x1024_S128x1x2x1024_0_9_0_0 _ rfl, ?_⟩
    refine List.forall_mem_cons.2 ⟨piece_even (xcv (Ring.sl 3 k.val)).view gx (tabV c arg1 W) 9 18 9 rfl rfl inb_S32x128x512_S1x128x512_18_0_0 inb_S128x16x2x1024_S128x1x2x1024_0_9_0_0 _ rfl, ?_⟩
    refine List.forall_mem_cons.2 ⟨piece_odd (xcv (Ring.sl 3 k.val)).view gx (tabV c arg1 W) 8 17 8 rfl rfl inb_S32x128x512_S1x128x512_17_0_0 inb_S128x16x2x1024_S128x1x2x1024_0_8_0_0 _ rfl, ?_⟩
    refine List.forall_mem_cons.2 ⟨piece_even (xcv (Ring.sl 3 k.val)).view gx (tabV c arg1 W) 8 16 8 rfl rfl inb_S32x128x512_S1x128x512_16_0_0 inb_S128x16x2x1024_S128x1x2x1024_0_8_0_0 _ rfl, ?_⟩
    refine List.forall_mem_cons.2 ⟨piece_odd (xcv (Ring.sl 3 k.val)).view gx (tabV c arg1 W) 7 15 7 rfl rfl inb_S32x128x512_S1x128x512_15_0_0 inb_S128x16x2x1024_S128x1x2x1024_0_7_0_0 _ rfl, ?_⟩
    refine List.forall_mem_cons.2 ⟨piece_even (xcv (Ring.sl 3 k.val)).view gx (tabV c arg1 W) 7 14 7 rfl rfl inb_S32x128x512_S1x128x512_14_0_0 inb_S128x16x2x1024_S128x1x2x1024_0_7_0_0 _ rfl, ?_⟩
    refine List.forall_mem_cons.2 ⟨piece_odd (xcv (Ring.sl 3 k.val)).view gx (tabV c arg1 W) 6 13 6 rfl rfl inb_S32x128x512_S1x128x512_13_0_0 inb_S128x16x2x1024_S128x1x2x1024_0_6_0_0 _ rfl, ?_⟩
    refine List.forall_mem_cons.2 ⟨piece_even (xcv (Ring.sl 3 k.val)).view gx (tabV c arg1 W) 6 12 6 rfl rfl inb_S32x128x512_S1x128x512_12_0_0 inb_S128x16x2x1024_S128x1x2x1024_0_6_0_0 _ rfl, ?_⟩
    refine List.forall_mem_cons.2 ⟨piece_odd (xcv (Ring.sl 3 k.val)).view gx (tabV c arg1 W) 5 11 5 rfl rfl inb_S32x128x512_S1x128x512_11_0_0 inb_S128x16x2x1024_S128x1x2x1024_0_5_0_0 _ rfl, ?_⟩
    refine List.forall_mem_cons.2 ⟨piece_even (xcv (Ring.sl 3 k.val)).view gx (tabV c arg1 W) 5 10 5 rfl rfl inb_S32x128x512_S1x128x512_10_0_0 inb_S128x16x2x1024_S128x1x2x1024_0_5_0_0 _ rfl, ?_⟩
    refine List.forall_mem_cons.2 ⟨piece_odd (xcv (Ring.sl 3 k.val)).view gx (tabV c arg1 W) 4 9 4 rfl rfl inb_S32x128x512_S1x128x512_9_0_0 inb_S128x16x2x1024_S128x1x2x1024_0_4_0_0 _ rfl, ?_⟩
    refine List.forall_mem_cons.2 ⟨piece_even (xcv (Ring.sl 3 k.val)).view gx (tabV c arg1 W) 4 8 4 rfl rfl inb_S32x128x512_S1x128x512_8_0_0 inb_S128x16x2x1024_S128x1x2x1024_0_4_0_0 _ rfl, ?_⟩
    refine List.forall_mem_cons.2 ⟨piece_odd (xcv (Ring.sl 3 k.val)).view gx (tabV c arg1 W) 3 7 3 rfl rfl inb_S32x128x512_S1x128x512_7_0_0 inb_S128x16x2x1024_S128x1x2x1024_0_3_0_0 _ rfl, ?_⟩
    refine List.forall_mem_cons.2 ⟨piece_even (xcv (Ring.sl 3 k.val)).view gx (tabV c arg1 W) 3 6 3 rfl rfl inb_S32x128x512_S1x128x512_6_0_0 inb_S128x16x2x1024_S128x1x2x1024_0_3_0_0 _ rfl, ?_⟩
    refine List.forall_mem_cons.2 ⟨piece_odd (xcv (Ring.sl 3 k.val)).view gx (tabV c arg1 W) 2 5 2 rfl rfl inb_S32x128x512_S1x128x512_5_0_0 inb_S128x16x2x1024_S128x1x2x1024_0_2_0_0 _ rfl, ?_⟩
    refine List.forall_mem_cons.2 ⟨piece_even (xcv (Ring.sl 3 k.val)).view gx (tabV c arg1 W) 2 4 2 rfl rfl inb_S32x128x512_S1x128x512_4_0_0 inb_S128x16x2x1024_S128x1x2x1024_0_2_0_0 _ rfl, ?_⟩
    refine List.forall_mem_cons.2 ⟨piece_odd (xcv (Ring.sl 3 k.val)).view gx (tabV c arg1 W) 1 3 1 rfl rfl inb_S32x128x512_S1x128x512_3_0_0 inb_S128x16x2x1024_S128x1x2x1024_0_1_0_0 _ rfl, ?_⟩
    refine List.forall_mem_cons.2 ⟨piece_even (xcv (Ring.sl 3 k.val)).view gx (tabV c arg1 W) 1 2 1 rfl rfl inb_S32x128x512_S1x128x512_2_0_0 inb_S128x16x2x1024_S128x1x2x1024_0_1_0_0 _ rfl, ?_⟩
    refine List.forall_mem_cons.2 ⟨piece_odd (xcv (Ring.sl 3 k.val)).view gx (tabV c arg1 W) 0 1 0 rfl rfl inb_S32x128x512_S1x128x512_1_0_0 inb_S128x16x2x1024_S128x1x2x1024_0_0_0_0 _ rfl, ?_⟩
    refine List.forall_mem_cons.2 ⟨piece_even (xcv (Ring.sl 3 k.val)).view gx (tabV c arg1 W) 0 0 0 rfl rfl inb_S32x128x512_S1x128x512_0_0_0 inb_S128x16x2x1024_S128x1x2x1024_0_0_0_0 _ rfl, ?_⟩
    exact fun _ h => absurd h List.not_mem_nil
  icases HOD with ⟨%go, HSo2, %hgo⟩
  sl_exec
  sl_step
  isplitr
  · ipureintro
    sl_unfold_run_names
    clear * - k
    revert k
    unfold accAt a4 a5 a6 a7 a8 a9
    decide +kernel
  isplitl [HFx_src HXO HFx HW HCo HOw]
  · isplitl [HFx_src]; · iexact HFx_src
    isplitl [HXO]; · iexact HXO
    isplitl [HFx]; · iexact HFx
    isplitl [HW]; · iexact HW
    isplitl [HCo]
    · iexists f; iexists go
      isplitl [HCo]; · iexact HCo
      ipureintro; exact hgo
    iexists _; iexact HOw
  isplitl [HFo_dst]
  · iexists _; iexists fp; iexists gp
    isplitl [HFo_dst]; · iexact HFo_dst
    ipureintro; exact hgp
  isplitl [HFo_src]
  · iexists gp; iexact HFo_src
  iexact HFo

end Trip

end Cert.Proof.FftB
end
end
-- ==== Proof.FftBBody.lean ====
/- The second stage's loop: the rings' invariant, the reads issued before it and the write waited for after it. -/
module

public import proofs.«01_k».proof.Proof.FftBTrip
public import proofs.«01_k».proof.Proof.Rings

@[expose] public section

noncomputable section

namespace Cert.Proof.FftB

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ
open Idealize.ShloMosaic.ValueIdx

section Body
variable (c : Dev nD) (XA : Buf (Elt F) (xM.view.loc (c : Thread nD τ)))
  (arg1 : Memref sig .tc .vmem S256x512 .bf16) (harg1 : arg1.IsWhole)

/-- A read slot idle, and a result slot. -/
abbrev xidle (s : Fin 3) : sProp 𝕄 := iprop(xcell c s ∗ ∃ f, xslotP c s f)
abbrev oidle (s : Fin 2) : sProp 𝕄 := iprop(ocell c s ∗ ∃ f, oslotP c s f)
abbrev xfl (s : Fin 3) (b : Fin 8) : sProp 𝕄 := iprop(∃ f, xflight c XA s b f)

variable (W : Buf (Elt F) (arg1.view.loc (c : Thread nD τ)))
abbrev readsB (k : ℕ) : sProp 𝕄 := Rings.reads (xhome c XA) (xfl c XA) (xidle c) k
abbrev writesB (k : ℕ) : sProp 𝕄 := Rings.writes (fun b => iprop(∃ f, ohome c b f)) (oBack c XA arg1 W) (oDone c XA arg1 W) (oidle c) k

abbrev invB (k : ℕ) : BitVec 32 × BitVec 32 × BitVec 32 × BitVec 32 × BitVec 32 × BitVec 32 → sProp 𝕄 :=
  Rings.invR (xhome c XA) (xfl c XA) (xcell c) (fun s => iprop(∃ f, xslotP c s f)) (fun b => iprop(∃ f, ohome c b f)) (oBack c XA arg1 W) (oDone c XA arg1 W)
    (ocell c) (fun s => iprop(∃ f, oslotP c s f)) iprop(∃ Wt, owes (c : Thread nD τ) 0 Wt) (tabP c arg1 W) (fun acc => acc = accAt k) k

theorem stepB (v53 : BitVec 32) (k : Fin k1_t1_loop.trips) (acc) :
    invB c XA arg1 W k.val acc ⊢ (wp frame (wpE (defs₀ (F := F)) 𝒱₀ (c : Thread nD τ) none) Set.univ (tripG arg1 harg1 v53 k acc)
      (invB c XA arg1 W (k.val + 1)) : sProp 𝕄) := by
  have hk : k.val < 8 := lt_of_lt_of_eq k.isLt trips_eq
  iintro ⟨%ha, H⟩
  subst ha
  iapply (Rings.loop_step (fun Φ => wp frame (wpE (defs₀ (F := F)) 𝒱₀ (c : Thread nD τ) none) Set.univ (tripG arg1 harg1 v53 k (accAt k.val)) Φ)
    (fun Φ Ψ => wp_wand_r Idealize.ShloMosaic.frame (wpE (defs₀ (F := F)) 𝒱₀ (c : Thread nD τ) none) Set.univ)
    (xhome c XA) (xfl c XA) (xcell c) (fun s => iprop(∃ f, xslotP c s f)) (fun b => iprop(∃ f, ohome c b f)) (oBack c XA arg1 W) (oDone c XA arg1 W)
    (ocell c) (fun s => iprop(∃ f, oslotP c s f)) (tabP c arg1 W) (tabP c arg1 W) iprop(∃ Wt, owes (c : Thread nD τ) 0 Wt) (fun acc => acc = accAt (k.val + 1)) k.val hk (by omega)
    (fun h => trip_first c XA arg1 harg1 v53 k h W) (fun h h' => trip_mid c XA arg1 harg1 v53 k h h' W) (fun h => trip_last c XA arg1 harg1 v53 k h W))
  iexact H

/-! ## The body -/

abbrev bodyG : Prog (TpuEff nD τ sig (Elt F) Λ₀ .tc) PUnit :=
  cc1_fft_b (F := F) xM (Memref.isWhole_whole _) arg1 harg1 oM (Memref.isWhole_whole _) xB (Memref.isWhole_whole _) cc1_scoped1 oB (Memref.isWhole_whole _) cc1_scoped3

theorem cond1_t : k1_cond1 = 1#1 := by decide +kernel
@[sl_canon] theorem c1 (hh) : (cc1_scoped1.slice (Rect.unit (s := S3) k1_off1 S1.size hh)).squeeze S_ squeezes_S1_S_ = xsem (Ring.sl 3 0) := xsem_congr (by decide +kernel) _
@[sl_canon] theorem c2 (hh hs) : (xB.slice (Rect.unit (s := S3x1x128x16x2x1024) k1_off2 S1x1x128x16x2x1024.size hh) hs).squeeze S1x128x16x2x1024 squeezes_S1x1x128x16x2x1024_S1x128x16x2x1024 = xslot (Ring.sl 3 0) := xslot_congr (by decide +kernel) _ _
@[sl_canon] theorem c2b (hh hs) : xM.slice (Rect.unit (s := S4x128x32x2x1024) ![0, 0, 0, 0, 0] S1x128x16x2x1024.size hh) hs = xblk (Ring.bk 8 0) := xblk_congr (by decide +kernel) _ _
@[sl_canon] theorem c3 (hh) : (cc1_scoped1.slice (Rect.unit (s := S3) k1_off3 S1.size hh)).squeeze S_ squeezes_S1_S_ = xsem (Ring.sl 3 1) := xsem_congr (by decide +kernel) _
@[sl_canon] theorem c4 (hh hs) : (xB.slice (Rect.unit (s := S3x1x128x16x2x1024) k1_off4 S1x1x128x16x2x1024.size hh) hs).squeeze S1x128x16x2x1024 squeezes_S1x1x128x16x2x1024_S1x128x16x2x1024 = xslot (Ring.sl 3 1) := xslot_congr (by decide +kernel) _ _
@[sl_canon] theorem c5 (hh hs) : xM.slice (Rect.unit (s := S4x128x32x2x1024) k1_off5 S1x128x16x2x1024.size hh) hs = xblk (Ring.bk 8 1) := xblk_congr (by decide +kernel) _ _
@[sl_canon] theorem c21 (hh) : (cc1_scoped3.slice (Rect.unit (s := S2) (k1_off21 (a7 8)) S1.size hh)).squeeze S_ squeezes_S1_S_ = osem (Ring.sl 2 (8 - 1)) := osem_congr (s := Ring.sl 2 (8 - 1)) (off21_eq.trans (by decide +kernel)) _
@[sl_canon] theorem c22 (hh hs) : oM.slice (Rect.unit (s := S4x64x128x512) (k1_off22 (a9 8) (a8 8)) S1x32x128x512.size hh) hs = oblk (Ring.bk 8 (8 - 1)) := oblk_congr (b := Ring.bk 8 (8 - 1)) (off22_eq.trans (by decide +kernel)) _ _
@[sl_canon] theorem c23 (hh hs) : (oB.slice (Rect.unit (s := S2x1x32x128x512) (k1_off23 (a7 8)) S1x1x32x128x512.size hh) hs).squeeze S1x32x128x512 squeezes_S1x1x32x128x512_S1x32x128x512 = oslot (Ring.sl 2 (8 - 1)) := oslot_congr (s := Ring.sl 2 (8 - 1)) (off23_eq.trans (by decide +kernel)) _ _

abbrev preB : sProp 𝕄 :=
  iprop(tabP c arg1 W ∗ bigSep Finset.univ (xhome c XA) ∗ bigSep Finset.univ (fun b : Fin 8 => iprop(∃ f, ohome c b f)) ∗ xidle c (Ring.sl 3 0) ∗ xidle c (Ring.sl 3 1) ∗ xidle c (Ring.sl 3 2)
    ∗ oidle c (Ring.sl 2 0) ∗ oidle c (Ring.sl 2 1) ∗ (∃ Wt, owes (c : Thread nD τ) 0 Wt))
abbrev postB : sProp 𝕄 :=
  iprop(tabP c arg1 W ∗ bigSep Finset.univ (xhome c XA) ∗ bigSep Finset.univ (oBack c XA arg1 W) ∗ xidle c (Ring.sl 3 0) ∗ xidle c (Ring.sl 3 1) ∗ xidle c (Ring.sl 3 2)
    ∗ oidle c (Ring.sl 2 0) ∗ oidle c (Ring.sl 2 1) ∗ (∃ Wt, owes (c : Thread nD τ) 0 Wt))

theorem homes_zero : bigSep Finset.univ (xhome c XA) = iprop(xhome c XA (Ring.bk 8 0) ∗ xhome c XA (Ring.bk 8 1) ∗ bigSep (Ring.homeSet 2 0) (xhome c XA)) := by
  have e : (Finset.univ : Finset (Fin 8)) = insert (Ring.bk 8 0) (insert (Ring.bk 8 1) (Ring.homeSet (NB := 8) 2 0)) := by decide
  rw [e, bigSep_insert (by decide), bigSep_insert (by decide)]; rfl

set_option maxHeartbeats 4000000 in
set_option sl_exec.respelt true in
theorem bodyRun (Q : PUnit → sProp 𝕄) :
    iprop(preB c XA arg1 W ∗ (postB c XA arg1 W -∗ Q ⟨⟩))
      ⊢ wp frame (wpE (defs₀ (F := F)) 𝒱₀ (c : Thread nD τ) none) Set.univ (bodyG arg1 harg1) Q := by
  have hd1 := cond1_t; have hc4 := chk4; have hc5 := chk5
  iintro ⟨⟨HW, HX, HO, ⟨HC0, %f0, HS0⟩, ⟨HC1, %f1, HS1⟩, HI2, HJ0, HJ1, %Wt, HOw⟩, Hk⟩
  ihave HX' := (Entails.of_eq (homes_zero c XA)) $$ HX
  icases HX' with ⟨HX0, HX1, HX⟩
  dsimp only [bodyG]
  sl_exec
  sl_for (invB c XA arg1 W) $$ [HW HOw HC0 HC1 HX HI2 HJ0 HJ1 HO]
  · intro k acc
    exact stepB c XA arg1 harg1 W _ k acc
  · isplitr; · ipureintro; unfold accAt a4 a5 a6 a7 a8 a9; decide +kernel
    isplitl [HW]; · iexact HW
    isplitl [HOw]; · iexists _; iexact HOw
    isplitl [HC0 HC1 HX HI2]
    · iapply (Rings.reads_start (xhome c XA) (xfl c XA) (xidle c) (by omega))
      isplitl [HX]; · iexact HX
      isplitl [HC0]; · iexists f0; iexact HC0
      isplitl [HC1]; · iexists f1; iexact HC1
      iexact HI2
    iapply (Rings.writes_start (fun b => iprop(∃ f, ohome c b f)) (oBack c XA arg1 W) (oDone c XA arg1 W) (oidle c))
    isplitl [HO]; · iexact HO
    isplitl [HJ0]; · iexact HJ0
    iexact HJ1
  iintro %acc HI
  icases HI with ⟨%ha, HW, ⟨%Wt', HOw⟩, HR, HO⟩
  subst ha
  rw [show Scf.trips k1_t1_loop.lb k1_t1_loop.ub k1_t1_loop.st = 8 from trips_eq]
  ihave HR' := (Rings.reads_end (xhome c XA) (xfl c XA) (xidle c) 8 (le_refl _)) $$ HR
  icases HR' with ⟨HX, HI0, HI1, HI2⟩
  ihave HO' := (Rings.writes_end (fun b => iprop(∃ f, ohome c b f)) (oBack c XA arg1 W) (oDone c XA arg1 W) (oidle c) 8 (by omega) rfl) $$ HO
  icases HO' with ⟨⟨%fp, %gp, HFo, %hgp⟩, HOk⟩
  sl_exec
  sl_step
  ihave HOe := HOk $$ [HFo_dst HFo_src HFo]
  · isplitl [HFo_dst]
    · iexists _; iexists fp; iexists gp
      isplitl [HFo_dst]; · iexact HFo_dst
      ipureintro; exact hgp
    isplitl [HFo]; · iexact HFo
    iexists gp; iexact HFo_src
  icases HOe with ⟨HO, HJ0, HJ1⟩
  iapply Hk
  isplitl [HW]; · iexact HW
  isplitl [HX]; · iexact HX
  isplitl [HO]; · iexact HO
  isplitl [HI1]; · iexact HI1
  isplitl [HI2]; · iexact HI2
  isplitl [HI0]; · iexact HI0
  isplitl [HJ0]; · iexact HJ0
  isplitl [HJ1]; · iexact HJ1
  iexists _; iexact HOw
end Body

end Cert.Proof.FftB
end
end
-- ==== Proof.FftBReg.lean ====
/-
  The second stage as a region of the program: its blocks and slots against the buffers they cut, what it leaves in the
  result as one function of the words and the table, its proof data, and its body against the pipeline's obligation.
-/
module

public import proofs.«01_k».proof.Proof.FftBBody
public import proofs.«01_k».proof.Proof.Blocks

@[expose] public section

noncomputable section

namespace Cert.Proof.FftB

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ
open Idealize.ShloMosaic.ValueIdx

/-! ## Blocks and slots against their buffers -/

theorem mem_xblk (b : Fin 8) (i : S4x128x32x2x1024.Idx) : i ∈ (xblk b).view.set ↔
    (⟨2 * (i 0).val + (i 2).val / 16, by have : (i 0).val < 4 := (i 0).isLt; have : (i 2).val < 32 := (i 2).isLt; omega⟩ : Fin 8) = b := by
  refine Iff.trans (Blocks.mem_slice_whole _ _ _ Rect.mem_set_unit) ?_
  have h0 : (i 0).val < 4 := (i 0).isLt
  have h1 : (i 1).val < 128 := (i 1).isLt
  have h2 : (i 2).val < 32 := (i 2).isLt
  have h3 : (i 3).val < 2 := (i 3).isLt
  have h4 : (i 4).val < 1024 := (i 4).isLt
  have hb := b.isLt
  constructor
  · intro h
    have a0 := h 0; have a2 := h 2
    change b.val / 2 ≤ (i 0).val ∧ (i 0).val < b.val / 2 + 1 at a0
    change 16 * (b.val % 2) ≤ (i 2).val ∧ (i 2).val < 16 * (b.val % 2) + 16 at a2
    apply Fin.ext; dsimp only; omega
  · intro h
    have e : 2 * (i 0).val + (i 2).val / 16 = b.val := congrArg Fin.val h
    intro a
    match a with
    | ⟨0, _⟩ => show b.val / 2 ≤ (i 0).val ∧ (i 0).val < b.val / 2 + 1; omega
    | ⟨1, _⟩ => show 0 ≤ (i 1).val ∧ (i 1).val < 0 + 128; omega
    | ⟨2, _⟩ => show 16 * (b.val % 2) ≤ (i 2).val ∧ (i 2).val < 16 * (b.val % 2) + 16; omega
    | ⟨3, _⟩ => show 0 ≤ (i 3).val ∧ (i 3).val < 0 + 2; omega
    | ⟨4, _⟩ => show 0 ≤ (i 4).val ∧ (i 4).val < 0 + 1024; omega

/-- The block of the result an index lies in. -/
def obOf (i : S4x64x128x512.Idx) : Fin 8 := ⟨2 * (i 0).val + (i 1).val / 32, by have : (i 0).val < 4 := (i 0).isLt; have : (i 1).val < 64 := (i 1).isLt; omega⟩
theorem mem_oblk (b : Fin 8) (i : S4x64x128x512.Idx) : i ∈ (oblk b).view.set ↔ obOf i = b := by
  refine Iff.trans (Blocks.mem_slice_whole _ _ _ Rect.mem_set_unit) ?_
  have h0 : (i 0).val < 4 := (i 0).isLt
  have h1 : (i 1).val < 64 := (i 1).isLt
  have h2 : (i 2).val < 128 := (i 2).isLt
  have h3 : (i 3).val < 512 := (i 3).isLt
  have hb := b.isLt
  constructor
  · intro h
    have a0 := h 0; have a1 := h 1
    change b.val / 2 ≤ (i 0).val ∧ (i 0).val < b.val / 2 + 1 at a0
    change 32 * (b.val % 2) ≤ (i 1).val ∧ (i 1).val < 32 * (b.val % 2) + 32 at a1
    apply Fin.ext; show 2 * (i 0).val + (i 1).val / 32 = b.val; omega
  · intro h
    have e : 2 * (i 0).val + (i 1).val / 32 = b.val := congrArg Fin.val h
    intro a
    match a with
    | ⟨0, _⟩ => show b.val / 2 ≤ (i 0).val ∧ (i 0).val < b.val / 2 + 1; omega
    | ⟨1, _⟩ => show 32 * (b.val % 2) ≤ (i 1).val ∧ (i 1).val < 32 * (b.val % 2) + 32; omega
    | ⟨2, _⟩ => show 0 ≤ (i 2).val ∧ (i 2).val < 0 + 128; omega
    | ⟨3, _⟩ => show 0 ≤ (i 3).val ∧ (i 3).val < 0 + 512; omega

theorem mem_xslot (s : Fin 3) (i : S3x1x128x16x2x1024.Idx) : i ∈ (xslot s).view.set ↔ (i 0 : Fin 3) = s := by
  refine Iff.trans ((Blocks.mem_reshape _ _ _).trans (Blocks.mem_slice_whole _ _ _ Rect.mem_set_unit)) ?_
  constructor
  · intro h
    have a0 := h 0
    change s.val ≤ (i 0).val ∧ (i 0).val < s.val + 1 at a0
    apply Fin.ext; omega
  · intro h
    have e : (i 0).val = s.val := congrArg Fin.val h
    intro a
    match a with
    | ⟨0, _⟩ => show s.val ≤ (i 0).val ∧ (i 0).val < s.val + 1; omega
    | ⟨1, _⟩ => exact ⟨Nat.zero_le _, by have := (i 1).isLt; show (i 1).val < 0 + 1; change (i 1).val < 1 at this; omega⟩
    | ⟨2, _⟩ => exact ⟨Nat.zero_le _, by have := (i 2).isLt; show (i 2).val < 0 + 128; change (i 2).val < 128 at this; omega⟩
    | ⟨3, _⟩ => exact ⟨Nat.zero_le _, by have := (i 3).isLt; show (i 3).val < 0 + 16; change (i 3).val < 16 at this; omega⟩
    | ⟨4, _⟩ => exact ⟨Nat.zero_le _, by have := (i 4).isLt; show (i 4).val < 0 + 2; change (i 4).val < 2 at this; omega⟩
    | ⟨5, _⟩ => exact ⟨Nat.zero_le _, by have := (i 5).isLt; show (i 5).val < 0 + 1024; change (i 5).val < 1024 at this; omega⟩

theorem mem_oslot (s : Fin 2) (i : S2x1x32x128x512.Idx) : i ∈ (oslot s).view.set ↔ (i 0 : Fin 2) = s := by
  refine Iff.trans ((Blocks.mem_reshape _ _ _).trans (Blocks.mem_slice_whole _ _ _ Rect.mem_set_unit)) ?_
  constructor
  · intro h
    have a0 := h 0
    change s.val ≤ (i 0).val ∧ (i 0).val < s.val + 1 at a0
    apply Fin.ext; omega
  · intro h
    have e : (i 0).val = s.val := congrArg Fin.val h
    intro a
    match a with
    | ⟨0, _⟩ => show s.val ≤ (i 0).val ∧ (i 0).val < s.val + 1; omega
    | ⟨1, _⟩ => exact ⟨Nat.zero_le _, by have := (i 1).isLt; show (i 1).val < 0 + 1; change (i 1).val < 1 at this; omega⟩
    | ⟨2, _⟩ => exact ⟨Nat.zero_le _, by have := (i 2).isLt; show (i 2).val < 0 + 32; change (i 2).val < 32 at this; omega⟩
    | ⟨3, _⟩ => exact ⟨Nat.zero_le _, by have := (i 3).isLt; show (i 3).val < 0 + 128; change (i 3).val < 128 at this; omega⟩
    | ⟨4, _⟩ => exact ⟨Nat.zero_le _, by have := (i 4).isLt; show (i 4).val < 0 + 512; change (i 4).val < 512 at this; omega⟩

section Whole
variable (c : Dev nD)

/-- The words, the result and the two rings whole. -/
abbrev xPt (f : Buf (Elt F) (xM.view.loc (c : Thread nD τ))) : sProp 𝕄 := xM.view.loc (c : Thread nD τ) ↦{fullShare} f
abbrev oPt (f : Buf (Elt F) (oM.view.loc (c : Thread nD τ))) : sProp 𝕄 := oM.view.loc (c : Thread nD τ) ↦{fullShare} f
abbrev xRing : sProp 𝕄 := iprop(∃ f, xB.view.loc (c : Thread nD τ) ↦{fullShare} f)
abbrev oRing : sProp 𝕄 := iprop(∃ f, oB.view.loc (c : Thread nD τ) ↦{fullShare} f)

omit [FloatOps F] in
theorem x_whole (XA : Buf (Elt F) (xM.view.loc (c : Thread nD τ))) : (xPt c XA : sProp 𝕄) = bigSep Finset.univ (xhome c XA) :=
  Blocks.whole_eq (ℓ := xM.view.loc (c : Thread nD τ)) (fun b => (xblk b).view.set) _ mem_xblk XA
omit [FloatOps F] in
theorem o_split (f : Buf (Elt F) (oM.view.loc (c : Thread nD τ))) : (oPt c f : sProp 𝕄) ⊢ bigSep Finset.univ fun b : Fin 8 => iprop(∃ f, ohome c b f) :=
  Blocks.split (ℓ := oM.view.loc (c : Thread nD τ)) (fun b => (oblk b).view.set) _ mem_oblk _ f fun b => by
    iintro H; iexists f; iexact H
omit [FloatOps F] in
theorem xRing_split : (xRing c : sProp 𝕄) ⊢ iprop((∃ f, xslotP c (Ring.sl 3 0) f) ∗ (∃ f, xslotP c (Ring.sl 3 1) f) ∗ (∃ f, xslotP c (Ring.sl 3 2) f)) := by
  iintro ⟨%f, H⟩
  iapply (Entails.of_eq (Blocks.three fun s => iprop(∃ f, xslotP c s f)))
  iapply (Blocks.split (ℓ := xB.view.loc (c : Thread nD τ)) (fun s => (xslot s).view.set) _ mem_xslot (fun s => iprop(∃ f, xslotP c s f)) f
    (fun s => by iintro H; iexists f; iexact H))
  iexact H
theorem xRing_join : iprop((∃ f, xslotP c (Ring.sl 3 0) f) ∗ (∃ f, xslotP c (Ring.sl 3 1) f) ∗ (∃ f, xslotP c (Ring.sl 3 2) f)) ⊢ (xRing c : sProp 𝕄) := by
  refine BI.Entails.trans (Entails.of_eq (Blocks.three fun s => iprop(∃ f, xslotP c s f)).symm) ?_
  exact Blocks.join_any (ℓ := xB.view.loc (c : Thread nD τ)) (fun s => (xslot s).view.set) _ mem_xslot (fun _ => Classical.arbitrary _) (fun s => iprop(∃ f, xslotP c s f))
    (fun s => .rfl)
omit [FloatOps F] in
theorem oRing_split : (oRing c : sProp 𝕄) ⊢ iprop((∃ f, oslotP c (Ring.sl 2 0) f) ∗ (∃ f, oslotP c (Ring.sl 2 1) f)) := by
  iintro ⟨%f, H⟩
  iapply (Entails.of_eq (Blocks.two fun s => iprop(∃ f, oslotP c s f)))
  iapply (Blocks.split (ℓ := oB.view.loc (c : Thread nD τ)) (fun s => (oslot s).view.set) _ mem_oslot (fun s => iprop(∃ f, oslotP c s f)) f
    (fun s => by iintro H; iexists f; iexact H))
  iexact H
theorem oRing_join : iprop((∃ f, oslotP c (Ring.sl 2 0) f) ∗ (∃ f, oslotP c (Ring.sl 2 1) f)) ⊢ (oRing c : sProp 𝕄) := by
  refine BI.Entails.trans (Entails.of_eq (Blocks.two fun s => iprop(∃ f, oslotP c s f)).symm) ?_
  exact Blocks.join_any (ℓ := oB.view.loc (c : Thread nD τ)) (fun s => (oslot s).view.set) _ mem_oslot (fun _ => Classical.arbitrary _) (fun s => iprop(∃ f, oslotP c s f))
    (fun s => .rfl)

/-! ## What the stage leaves in the result -/

/-- The result, from the table and the words: row `i 1` of batch `i 0` is row `i 1 % 32` of the block it lies in. -/
def outB (XA : Buf (Elt F) (xM.view.loc (c : Thread nD τ))) (T : Vec F S256x512 .bf16) : Buf (Elt F) (oM.view.loc (c : Thread nD τ)) := fun i =>
  blkB T (xval c XA (obOf i)) (ix3 (n0 := 32) (n1 := 128) (n2 := 512) ⟨(i 1).val % 32, Nat.mod_lt _ (by decide)⟩ (i 2) (i 3))

theorem read_ocv (s : Fin 2) (g : Buf (Elt F) ((oslot s).view.loc (c : Thread nD τ))) (y : S32x128x512.Idx) :
    (ocv s).view.read (Elt F) g y = (oslot s).view.read (Elt F) g (ix4 (n0 := 1) (n1 := 32) (n2 := 128) (n3 := 512) 0 (y 0) (y 1) (y 2)) := by
  refine (read_reshape' _ _ _ _).trans ((read_slice' _ _ _ _).trans ?_)
  refine congrArg ((oslot s).view.read (Elt F) g) ?_
  rw [Shape.reshapeEquiv_cons_one (n := 3) (d := ![32, 128, 512])]
  funext a
  match a with
  | ⟨0, _⟩ => rfl
  | ⟨1, _⟩ => exact Fin.ext (by show 0 + 1 * (y 0).val = (y 0).val; omega)
  | ⟨2, _⟩ => exact Fin.ext (by show 0 + 1 * (y 1).val = (y 1).val; omega)
  | ⟨3, _⟩ => exact Fin.ext (by show 0 + 1 * (y 2).val = (y 2).val; omega)

theorem outB_at (XA : Buf (Elt F) (xM.view.loc (c : Thread nD τ))) (T : Vec F S256x512 .bf16) (i : S4x64x128x512.Idx) (b : Fin 8) (h : obOf i = b)
    (y1 : Fin 32) (y2 : Fin 128) (y3 : Fin 512) (h1 : (i 1).val % 32 = y1.val) (h2 : (i 2).val = y2.val) (h3 : (i 3).val = y3.val) :
    outB c XA T i = blkB T (xval c XA b) (ix3 (n0 := 32) (n1 := 128) (n2 := 512) y1 y2 y3) := by
  unfold outB
  rw [h]
  refine congrArg _ ?_
  funext a
  match a with
  | ⟨0, _⟩ => exact Fin.ext h1
  | ⟨1, _⟩ => exact Fin.ext h2
  | ⟨2, _⟩ => exact Fin.ext h3

theorem oblk_val (b : Fin 8) (y : S1x32x128x512.Idx) (a : Fin 4) : ((oblk b).view.emb y a).val = oOff b a + 1 * (y a).val := rfl

theorem landed_out_apply (XA : Buf (Elt F) (xM.view.loc (c : Thread nD τ))) (T : Vec F S256x512 .bf16) (b : Fin 8) (s : Fin 2) (f) (g)
    (h : (ocv s).view.read (Elt F) g = blkB T (xval c XA b)) (i) (hi : i ∈ (oblk b).view.set) : olanded c b s f g i = outB c XA T i := by
  refine Blocks.writes_at (oblk b).view f _ (outB c XA T) (fun y => ?_) i hi
  have hy0 : (y 0).val < 1 := (y 0).isLt
  have hy1 : (y 1).val < 32 := (y 1).isLt
  have hm : (oblk b).view.emb y ∈ (oblk b).view.set := Finset.mem_map_of_mem _ (Finset.mem_univ _)
  refine Eq.trans ?_ (outB_at c XA T ((oblk b).view.emb y) b ((mem_oblk b _).mp hm) (y 1) (y 2) (y 3)
    ((congrArg (· % 32) (oblk_val b y 1)).trans (by show (32 * (b.val % 2) + 1 * (y 1).val) % 32 = (y 1).val; omega))
    ((oblk_val b y 2).trans (by show 0 + 1 * (y 2).val = (y 2).val; omega))
    ((oblk_val b y 3).trans (by show 0 + 1 * (y 3).val = (y 3).val; omega))).symm
  rw [← h]
  refine Eq.trans ?_ (read_ocv c s g _).symm
  show (oslot s).view.read (Elt F) g y = _
  refine congrArg ((oslot s).view.read (Elt F) g) ?_
  funext a
  match a with
  | ⟨0, _⟩ => exact Fin.ext (by show (y 0).val = 0; omega)
  | ⟨1, _⟩ => rfl
  | ⟨2, _⟩ => rfl
  | ⟨3, _⟩ => rfl

theorem landed_out_at (XA : Buf (Elt F) (xM.view.loc (c : Thread nD τ))) (T : Vec F S256x512 .bf16) (b : Fin 8) (s : Fin 2) (f) (g)
    (h : (ocv s).view.read (Elt F) g = blkB T (xval c XA b)) :
    (ohome c b (olanded c b s f g) : sProp 𝕄) = (oM.view.loc (c : Thread nD τ) ↦[(oblk b).view.set]{fullShare} outB c XA T) :=
  pointsTo_congr (ℓ := oM.view.loc (c : Thread nD τ)) fun i hi => landed_out_apply c XA T b s f g h i hi

theorem oBack_at (XA : Buf (Elt F) (xM.view.loc (c : Thread nD τ))) (arg1 : Memref sig .tc .vmem S256x512 .bf16) (W : Buf (Elt F) (arg1.view.loc (c : Thread nD τ))) (b : Fin 8) :
    oBack c XA arg1 W b ⊢ (oM.view.loc (c : Thread nD τ) ↦[(oblk b).view.set]{fullShare} outB c XA (tabV c arg1 W) : sProp 𝕄) := by
  iintro ⟨%s, %f, %g, H, %h⟩
  ihave H' := (Entails.of_eq (landed_out_at c XA (tabV c arg1 W) b s f g h)) $$ H
  iexact H'

theorem o_join (XA : Buf (Elt F) (xM.view.loc (c : Thread nD τ))) (arg1 : Memref sig .tc .vmem S256x512 .bf16) (W : Buf (Elt F) (arg1.view.loc (c : Thread nD τ))) :
    bigSep Finset.univ (oBack c XA arg1 W) ⊢ (oPt c (outB c XA (tabV c arg1 W)) : sProp 𝕄) :=
  Blocks.join (ℓ := oM.view.loc (c : Thread nD τ)) (fun b => (oblk b).view.set) _ mem_oblk (oBack c XA arg1 W) _ (oBack_at c XA arg1 W)

theorem tabV_eq (arg1 : Memref sig .tc .vmem S256x512 .bf16) (W : Buf (Elt F) (arg1.view.loc (c : Thread nD τ))) :
    tabV c arg1 W = arg1.view.read (Elt F) W := by
  funext y
  show arg1.view.read (Elt F) W _ = _
  refine congrArg (arg1.view.read (Elt F) W) ?_
  funext a
  match a with
  | ⟨0, _⟩ => exact Fin.ext (by show 0 + 1 * (y 0).val = (y 0).val; omega)
  | ⟨1, _⟩ => exact Fin.ext (by show 0 + 1 * (y 1).val = (y 1).val; omega)
end Whole

/-! ## The proof data -/

section Data
variable (V : (c : Dev nD) → (b : Ref sig .tc) → Buf (Elt F) ((c : Thread nD τ).loc b))

/-- The table as the pipeline stages it. -/
abbrev stg (c : Dev nD) : (cfg1.win 0).block.Idx → Elt F (cfg1.win 0).elt := ((cfg1.win 0).blk t1_0).view.read (Elt F) (V c main_v67)

/-- The semaphores of the two rings. -/
def rsem : Fin 5 → SemLoc sig
  | 0 => .dma (xsem (Ring.sl 3 0)).sem | 1 => .dma (xsem (Ring.sl 3 1)).sem | 2 => .dma (xsem (Ring.sl 3 2)).sem
  | 3 => .dma (osem (Ring.sl 2 0)).sem | 4 => .dma (osem (Ring.sl 2 1)).sem
theorem rsemFacts : Pipeline.OwnSemFacts spec1 rsem := by decide

/-- The cells idle, and the rings and the scoped rest at something. -/
abbrev cells (c : Dev nD) : sProp 𝕄 :=
  iprop(xcell c (Ring.sl 3 0) ∗ xcell c (Ring.sl 3 1) ∗ xcell c (Ring.sl 3 2) ∗ ocell c (Ring.sl 2 0) ∗ ocell c (Ring.sl 2 1))
abbrev rest1 (c : Dev nD) : sProp 𝕄 := Pipeline.scopedRest (Ix := Unit) (Name := ℕ) (U := UU nD τ) (Lvl := ℕ) (Val := Elt F) spec1 c
/-- The invariant with the result at `f`. -/
abbrev inv (c : Dev nD) (f : Buf (Elt F) (oM.view.loc (c : Thread nD τ))) : sProp 𝕄 :=
  iprop(xPt c (V c main_v69) ∗ oPt c f ∗ cells c ∗ rest1 c)
/-- The result after the stage. -/
abbrev res (c : Dev nD) : Buf (Elt F) (oM.view.loc (c : Thread nD τ)) := outB c (V c main_v69) (stg V c)

def dat (c : Dev nD) : Dat τ (Elt F) Unit ℕ (UU nD τ) ℕ cfg1 c where
  A w := V c (Pipeline.arrRef spec1 w)
  after w _ := match w with
    | ⟨0, _⟩ => stg V c
  Φ t := if t.val = 0 then inv V c (V c main_v70) else inv V c (res V c)
  q _ := fullShare
  owed _ := 0

theorem inv_start (c : Dev nD) (t : Fin (cfg1.N + 1)) (h : t.val = 0) : (dat V c).Φ t = inv V c (V c main_v70) := if_pos h
theorem inv_end (c : Dev nD) (t : Fin (cfg1.N + 1)) (h : ¬ t.val = 0) : (dat V c).Φ t = inv V c (res V c) := if_neg h

theorem before_w0 (c : Dev nD) (d : (cfg1.win 0).block.Idx → Elt F (cfg1.win 0).elt) : (dat V c).before 0 t1_0 d = stg V c := by
  unfold Dat.before; rw [if_pos (by decide)]; rfl

theorem rest1_split (c : Dev nD) : (rest1 c : sProp 𝕄) = iprop((xRing c ∗ oRing c)
    ∗ Pipeline.scopedRestBut (Ix := Unit) (Name := ℕ) (U := UU nD τ) (Lvl := ℕ) (Val := Elt F) spec1 c [cc1_scoped0, cc1_scoped2]) :=
  Pipeline.scopedRest_split_of_list spec1 c [cc1_scoped0, cc1_scoped2] (by decide) (by decide)

theorem defs_tc : (defs₀ (F := F)) .tc cfg1.body = fun a => bodyG (win1_0.stage (a.2 0)) (hstage1_0 0) := rfl
theorem prog_eq (t : Fin cfg1.N) : (defs₀ (F := F)) .tc cfg1.body (cfg1.bodyArgs t (cfg1.slots t)) = bodyG (st1_0 t) (hstage1_0 0) :=
  (congrFun defs_tc _).trans rfl

set_option backward.isDefEq.respectTransparency.types false in
theorem body_obligation (c : Dev nD) : BodyObligation (dat V c) (defs₀ (F := F)) 𝒱₀ () Set.univ := fun t => by
  obtain rfl := fin_N1 t
  rw [bigSep_W1, bigSep_W1]
  dsimp only
  rw [inv_start V c t1_0.castSucc rfl, inv_end V c t1_0.succ (Nat.succ_ne_zero _)]
  unfold Dat.owesAt Pipeline.owesWithin
  rw [show (dat V c).owed t1_0.castSucc = 0 from rfl, show (dat V c).owed t1_0.succ = 0 from rfl]
  unfold owns
  iintro ⟨⟨HX, HO, ⟨HC0, HC1, HC2, HJ0, HJ1⟩, HR⟩, ⟨%Wt, -, HW⟩, ⟨%d0, %g0, %hg0, HT⟩⟩
  rw [before_w0] at hg0
  ihave HX' := (Entails.of_eq (x_whole c (V c main_v69))) $$ HX
  ihave HO' := (o_split c (V c main_v70)) $$ HO
  ihave HR' := (Entails.of_eq (rest1_split c)) $$ HR
  icases HR' with ⟨⟨HRx, HRo⟩, HR⟩
  ihave HRx' := (xRing_split c) $$ HRx
  icases HRx' with ⟨HS0, HS1, HS2⟩
  ihave HRo' := (oRing_split c) $$ HRo
  icases HRo' with ⟨HP0, HP1⟩
  sl_rw [prog_eq t1_0]
  iapply (bodyRun c (V c main_v69) (st1_0 t1_0) (hstage1_0 0) g0 _)
  isplitl [HT HX' HO' HC0 HC1 HC2 HJ0 HJ1 HS0 HS1 HS2 HP0 HP1 HW]
  · isplitl [HT]; · iexact HT
    isplitl [HX']; · iexact HX'
    isplitl [HO']; · iexact HO'
    isplitl [HC0 HS0]; · isplitl [HC0] <;> iassumption
    isplitl [HC1 HS1]; · isplitl [HC1] <;> iassumption
    isplitl [HC2 HS2]; · isplitl [HC2] <;> iassumption
    isplitl [HJ0 HP0]; · isplitl [HJ0] <;> iassumption
    isplitl [HJ1 HP1]; · isplitl [HJ1] <;> iassumption
    iexists Wt; iexact HW
  · iintro ⟨HT, HX, HO, ⟨HC0, HS0⟩, ⟨HC1, HS1⟩, ⟨HC2, HS2⟩, ⟨HJ0, HP0⟩, ⟨HJ1, HP1⟩, ⟨%W', HW⟩⟩
    isplitl [HX HO HC0 HC1 HC2 HJ0 HJ1 HS0 HS1 HS2 HP0 HP1 HR]
    · isplitl [HX]; · iapply (Entails.of_eq (x_whole c (V c main_v69)).symm); iexact HX
      isplitl [HO]
      · ihave HO' := (o_join c (V c main_v69) (st1_0 t1_0) g0) $$ HO
        rw [tabV_eq, hg0]
        iexact HO'
      isplitl [HC0 HC1 HC2 HJ0 HJ1]
      · isplitl [HC0]; · iexact HC0
        isplitl [HC1]; · iexact HC1
        isplitl [HC2]; · iexact HC2
        isplitl [HJ0]; · iexact HJ0
        iexact HJ1
      iapply (Entails.of_eq (rest1_split c).symm)
      isplitr [HR]; swap; · iexact HR
      isplitl [HS0 HS1 HS2]
      · iapply (xRing_join c)
        isplitl [HS0]; · iexact HS0
        isplitl [HS1] <;> iassumption
      · iapply (oRing_join c)
        isplitl [HP0] <;> iassumption
    isplitl [HW]
    · iexists W'; isplitr; · ipureintro; exact fun _ _ => Or.inl trivial
      iexact HW
    iexists g0
    isplitr; swap; · iexact HT
    ipureintro; exact hg0

end Data

end Cert.Proof.FftB
end
end
-- ==== Proof.Run.lean ====
/-
  The two stages as regions between the host's operations, and the program's run: from any memory every execution ends,
  with the argument as it was and the result holding what the two stages leave in it.
-/
module

public import proofs.«01_k».proof.Proof.FftAReg
public import proofs.«01_k».proof.Proof.FftBReg
public import proofs.«01_k».proof.Proof.Gen.KernelIdeal.Regions
public import Idealize.ShloMosaic.Lib.Pipeline.RegionsLoop

@[expose] public section

noncomputable section

namespace Cert.Proof.Run

open Cert.Proof.FftB (UU EP 𝒱₀)
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ
open Idealize.ShloMosaic.Pipeline (RegionSeg Seg HostSeg)

abbrev L : GSem nD τ sig → Finset Unit := fun _ => ∅
abbrev lv : GSem nD τ sig → Unit → ℕ := fun _ _ => 0

section States
variable (m : (ℓ : Loc nD τ sig) → Buf (Elt F) ℓ)

/-- The buffers the first stage is entered with, and what it leaves. -/
abbrev VA (c : Dev nD) (b : Ref sig .tc) : Buf (Elt F) ((c : Thread nD τ).loc b) := V5 m c b
abbrev W6 (c : Dev nD) : Valuation τ sig (Elt F) := Function.update (V5 m c) main_v69 (FftA.res (VA m) c)
/-- The buffers the second stage is entered with, and what it leaves. -/
abbrev VB (c : Dev nD) (b : Ref sig .tc) : Buf (Elt F) ((c : Thread nD τ).loc b) := W6 m c b
abbrev W7 (c : Dev nD) : Valuation τ sig (Elt F) := Function.update (W6 m c) main_v70 (FftB.res (VB m) c)
abbrev VC (c : Dev nD) (b : Ref sig .tc) : Buf (Elt F) ((c : Thread nD τ).loc b) := W7 m c b

theorem VB_of (c : Dev nD) (b : Ref sig .tc) (h : b ≠ main_v69) : VB m c b = VA m c b :=
  Function.update_of_ne (fun e => h (Proc.devRef_injective .tc e)) _ _
theorem VB_v69 (c : Dev nD) : VB m c main_v69 = FftA.res (VA m) c := Function.update_self _ _ _
theorem VC_of (c : Dev nD) (b : Ref sig .tc) (h : b ≠ main_v70) : VC m c b = VB m c b :=
  Function.update_of_ne (fun e => h (Proc.devRef_injective .tc e)) _ _
theorem VC_v70 (c : Dev nD) : VC m c main_v70 = FftB.res (VB m) c := Function.update_self _ _ _

def pdats : (p : Fin 2) → (c : Dev nD) → Dat τ (Elt F) Unit ℕ (UU nD τ) ℕ (cfgs p) c
  | ⟨0, _⟩ => fun c => FftA.dat (VA m) c
  | ⟨1, _⟩ => fun c => FftB.dat (VB m) c

/-- What rides along beside the buffers. -/
abbrev R (c : Dev nD) : sProp 𝕄 := iprop(∃ W, owes (c : Thread nD τ) (0 : CellTallies nD τ sig Unit) W)

abbrev U0 : Finset (Ref sig .tc) := (Finset.univ.filter fun b : Ref sig .tc => ¬ b.isScoped) \ Finset.univ.image (Pipeline.arrRef spec0)
abbrev U1 : Finset (Ref sig .tc) := (Finset.univ.filter fun b : Ref sig .tc => ¬ b.isScoped) \ Finset.univ.image (Pipeline.arrRef spec1)
abbrev H0 : Finset (Ref sig .tc) := {main_v68, main_v62, main_v65, main_v69}
abbrev H1 : Finset (Ref sig .tc) := {main_v69, main_v70}
theorem H0_sub : H0 ⊆ U0 := by decide +kernel
theorem H1_sub : H1 ⊆ U1 := by decide +kernel

omit [FloatOps F] in
/-- The buffers beside a stage's table: the ones its transfers touch, and the others. -/
theorem rest_split0 (c : Dev nD) (V : (b : Ref sig .tc) → Buf (Elt F) ((c : Thread nD τ).loc b)) :
    (Pipeline.unscopedRest (Ix := Unit) (Name := ℕ) (U := UU nD τ) (Lvl := ℕ) spec0 c V : sProp 𝕄)
      = iprop((FftA.xPt c (V main_v68) ∗ FftA.cPt c (V main_v62) ∗ FftA.dPt c (V main_v65) ∗ FftA.oPt c (V main_v69))
        ∗ bigSep (U0 \ H0) fun b => ((c : Thread nD τ).loc b) ↦{fullShare} V b) := by
  unfold Pipeline.unscopedRest
  rw [bigSep_sdiff_split H0_sub]
  rw [show H0 = insert main_v68 (insert main_v62 (insert main_v65 {main_v69})) from rfl, bigSep_insert (by decide), bigSep_insert (by decide), bigSep_insert (by decide), bigSep_singleton]
  rfl
omit [FloatOps F] in
theorem rest_split1 (c : Dev nD) (V : (b : Ref sig .tc) → Buf (Elt F) ((c : Thread nD τ).loc b)) :
    (Pipeline.unscopedRest (Ix := Unit) (Name := ℕ) (U := UU nD τ) (Lvl := ℕ) spec1 c V : sProp 𝕄)
      = iprop((FftB.xPt c (V main_v69) ∗ FftB.oPt c (V main_v70))
        ∗ bigSep (U1 \ H1) fun b => ((c : Thread nD τ).loc b) ↦{fullShare} V b) := by
  unfold Pipeline.unscopedRest
  rw [bigSep_sdiff_split H1_sub]
  rw [show H1 = insert main_v69 {main_v70} from rfl, bigSep_insert (by decide), bigSep_singleton]
  rfl

theorem cells0 (c : Dev nD) : (Pipeline.ownSems0 (Ix := Unit) (Name := ℕ) (U := UU nD τ) (Lvl := ℕ) (Val := Elt F) (τ := τ) FftA.rsem c : sProp 𝕄) = FftA.cells c :=
  Pipeline.ownSems0_eq_of_list c FftA.rsem [0, 1, 2, 3, 4, 5, 6, 7, 8] (by decide) (by decide)
theorem cells1 (c : Dev nD) : (Pipeline.ownSems0 (Ix := Unit) (Name := ℕ) (U := UU nD τ) (Lvl := ℕ) (Val := Elt F) (τ := τ) FftB.rsem c : sProp 𝕄) = FftB.cells c :=
  Pipeline.ownSems0_eq_of_list c FftB.rsem [0, 1, 2, 3, 4] (by decide) (by decide)

theorem rest_back0 (c : Dev nD) : (Pipeline.unscopedRest (Ix := Unit) (Name := ℕ) (U := UU nD τ) (Lvl := ℕ) spec0 c (VB m c) : sProp 𝕄)
      = iprop((FftA.xPt c (VA m c main_v68) ∗ FftA.cPt c (VA m c main_v62) ∗ FftA.dPt c (VA m c main_v65) ∗ FftA.oPt c (FftA.res (VA m) c))
        ∗ bigSep (U0 \ H0) fun b => ((c : Thread nD τ).loc b) ↦{fullShare} VA m c b) := by
  refine (rest_split0 c (VB m c)).trans ?_
  have hz : (bigSep (U0 \ H0) fun b => ((c : Thread nD τ).loc b) ↦{fullShare} VB m c b : sProp 𝕄) = bigSep (U0 \ H0) fun b => ((c : Thread nD τ).loc b) ↦{fullShare} VA m c b :=
    bigSep_congr fun b hb => congrArg (fun f => (((c : Thread nD τ).loc b) ↦{fullShare} f : sProp 𝕄))
      (VB_of m c b fun e => (Finset.mem_sdiff.mp hb).2 (by rw [e]; decide))
  have e1 : FftA.oPt c (VB m c main_v69) = (FftA.oPt c (FftA.res (VA m) c) : sProp 𝕄) := congrArg (FftA.oPt c) (VB_v69 m c)
  have e2 : FftA.xPt c (VB m c main_v68) = (FftA.xPt c (VA m c main_v68) : sProp 𝕄) := congrArg (FftA.xPt c) (VB_of m c main_v68 (by decide))
  have e3 : FftA.cPt c (VB m c main_v62) = (FftA.cPt c (VA m c main_v62) : sProp 𝕄) := congrArg (FftA.cPt c) (VB_of m c main_v62 (by decide))
  have e4 : FftA.dPt c (VB m c main_v65) = (FftA.dPt c (VA m c main_v65) : sProp 𝕄) := congrArg (FftA.dPt c) (VB_of m c main_v65 (by decide))
  rw [hz, e1, e2, e3, e4]
theorem rest_back1 (c : Dev nD) : (Pipeline.unscopedRest (Ix := Unit) (Name := ℕ) (U := UU nD τ) (Lvl := ℕ) spec1 c (VC m c) : sProp 𝕄)
      = iprop((FftB.xPt c (VB m c main_v69) ∗ FftB.oPt c (FftB.res (VB m) c))
        ∗ bigSep (U1 \ H1) fun b => ((c : Thread nD τ).loc b) ↦{fullShare} VB m c b) := by
  refine (rest_split1 c (VC m c)).trans ?_
  have hz : (bigSep (U1 \ H1) fun b => ((c : Thread nD τ).loc b) ↦{fullShare} VC m c b : sProp 𝕄) = bigSep (U1 \ H1) fun b => ((c : Thread nD τ).loc b) ↦{fullShare} VB m c b :=
    bigSep_congr fun b hb => congrArg (fun f => (((c : Thread nD τ).loc b) ↦{fullShare} f : sProp 𝕄))
      (VC_of m c b fun e => (Finset.mem_sdiff.mp hb).2 (by rw [e]; decide))
  have e1 : FftB.oPt c (VC m c main_v70) = (FftB.oPt c (FftB.res (VB m) c) : sProp 𝕄) := congrArg (FftB.oPt c) (VC_v70 m c)
  have e2 : FftB.xPt c (VC m c main_v69) = (FftB.xPt c (VB m c main_v69) : sProp 𝕄) := congrArg (FftB.xPt c) (VC_of m c main_v69 (by decide))
  rw [hz, e1, e2]

set_option backward.isDefEq.respectTransparency.types false in
/-- The first stage's region. -/
def reg0 : RegionSeg (pcfgs (F := F)) adm (pdats m) () defs₀ 𝒱₀ L lv 0 where
  win := launch0.win.to₀
  block_pos := launch0.block_pos
  stage_whole := launch0.stage_whole
  K := Fin 9
  osem := FftA.rsem
  ho := FftA.rsemFacts
  hbody c := (FftA.body_obligation (VA m) c).loose
  hwaits := Pipeline.hwaits_of_owed_zero _ _ _ _ L lv 0 fun _ _ => rfl
  pre c := iprop(unscopedBufs c (VA m c) ∗ R c)
  post c := iprop(unscopedBufs c (VB m c) ∗ R c)
  X c := iprop(((FftA.xPt c (VA m c main_v68) ∗ FftA.cPt c (VA m c main_v62) ∗ FftA.dPt c (VA m c main_v65) ∗ FftA.oPt c (VA m c main_v69))) ∗ FftA.cells c)
  Y c := iprop((FftA.xPt c (VA m c main_v68) ∗ FftA.cPt c (VA m c main_v62) ∗ FftA.dPt c (VA m c main_v65)) ∗ FftA.oPt c (FftA.res (VA m) c))
  Z c := bigSep (U0 \ H0) fun b => ((c : Thread nD τ).loc b) ↦{fullShare} VA m c b
  hentry c := by
    rw [cells0 c]
    have hsplit := Pipeline.arrays_of_unscopedBufs (p := 0) (pcfgs (F := F)) adm (pdats m) launch0.win launch0.arr_whole c
      ((pdats m 0 c).share_full fun _ => rfl) (VA m c) fun _ => rfl
    iintro ⟨⟨Hub, HO⟩, HS, -⟩
    ihave H := hsplit $$ Hub
    icases H with ⟨Ha, Hrest⟩
    ihave Hrest' := (Entails.of_eq (rest_split0 c (VA m c))) $$ Hrest
    icases Hrest' with ⟨HX, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HX HS]
    · isplitl [HX]; · iexact HX
      iexact HS
    iexact HZ
  hin c := by
    rw [show (pdats m 0 c).Φ 0 = FftA.inv (VA m) c (VA m c main_v69) from FftA.inv_start (VA m) c 0 rfl]
    iintro ⟨⟨⟨HX, HC, HD, HO⟩, HS⟩, -, Hr⟩
    isplitl [HX HC HD]
    · isplitl [HX]; · iexact HX
      isplitl [HC]; · iexact HC
      iexact HD
    isplitl [HO]; · iexact HO
    isplitl [HS]; · iexact HS
    iexact Hr
  hout c := by
    rw [cells0 c, show (pdats m 0 c).Φ (Fin.last _) = FftA.inv (VA m) c (FftA.res (VA m) c) from FftA.inv_end (VA m) c (Fin.last _) (by decide)]
    iintro ⟨HX, HO, HS, Hr⟩
    isplitl [HX HO]
    · isplitl [HX]; · iexact HX
      iexact HO
    isplitl [HS]; · iexact HS
    iexact Hr
  hexit c := by
    have hjoin := Pipeline.unscopedBufs_of_arrays (p := 0) (pcfgs (F := F)) adm (Ix := Unit) (Name := ℕ) (U := UU nD τ) (Lvl := ℕ) launch0.win launch0.arr_whole c
      (pdats m) ((pdats m 0 c).share_full fun _ => rfl) (VB m c) (VB m c) ((pdats m 0 c).arrAt · cfg0.N)
      (fun w => by
        fin_cases w
        exact ((pdats m 0 c).arrAt_in 0 rfl _).trans (VB_of m c main_v66 (by decide)).symm)
      (fun _ _ => rfl)
    iintro ⟨Ha, HO, ⟨⟨HX, HC, HD⟩, Hout⟩, HZ⟩
    imodintro
    isplitl [Ha HX HC HD Hout HZ]
    · iapply hjoin
      isplitl [Ha]; · iexact Ha
      iapply (Entails.of_eq (rest_back0 m c).symm)
      isplitr [HZ]; swap; · iexact HZ
      isplitl [HX]; · iexact HX
      isplitl [HC]; · iexact HC
      isplitl [HD]; · iexact HD
      iexact Hout
    unfold Pipeline.Dat.owesAt Pipeline.owesWithin
    icases HO with ⟨%W, -, HO⟩; iexists W; iexact HO

set_option backward.isDefEq.respectTransparency.types false in
/-- The second stage's region. -/
def reg1 : RegionSeg (pcfgs (F := F)) adm (pdats m) () defs₀ 𝒱₀ L lv 1 where
  win := launch1.win.to₀
  block_pos := launch1.block_pos
  stage_whole := launch1.stage_whole
  K := Fin 5
  osem := FftB.rsem
  ho := FftB.rsemFacts
  hbody c := (FftB.body_obligation (VB m) c).loose
  hwaits := Pipeline.hwaits_of_owed_zero _ _ _ _ L lv 1 fun _ _ => rfl
  pre c := iprop(unscopedBufs c (VB m c) ∗ R c)
  post c := iprop(unscopedBufs c (VC m c) ∗ R c)
  X c := iprop((FftB.xPt c (VB m c main_v69) ∗ FftB.oPt c (VB m c main_v70)) ∗ FftB.cells c)
  Y c := iprop(FftB.xPt c (VB m c main_v69) ∗ FftB.oPt c (FftB.res (VB m) c))
  Z c := bigSep (U1 \ H1) fun b => ((c : Thread nD τ).loc b) ↦{fullShare} VB m c b
  hentry c := by
    rw [cells1 c]
    have hsplit := Pipeline.arrays_of_unscopedBufs (p := 1) (pcfgs (F := F)) adm (pdats m) launch1.win launch1.arr_whole c
      ((pdats m 1 c).share_full fun _ => rfl) (VB m c) fun _ => rfl
    iintro ⟨⟨Hub, HO⟩, HS, -⟩
    ihave H := hsplit $$ Hub
    icases H with ⟨Ha, Hrest⟩
    ihave Hrest' := (Entails.of_eq (rest_split1 c (VB m c))) $$ Hrest
    icases Hrest' with ⟨HX, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HX HS]
    · isplitl [HX]; · iexact HX
      iexact HS
    iexact HZ
  hin c := by
    rw [show (pdats m 1 c).Φ 0 = FftB.inv (VB m) c (VB m c main_v70) from FftB.inv_start (VB m) c 0 rfl]
    iintro ⟨⟨⟨HX, HO⟩, HS⟩, -, Hr⟩
    isplitl [HX]; · iexact HX
    isplitl [HO]; · iexact HO
    isplitl [HS]; · iexact HS
    iexact Hr
  hout c := by
    rw [cells1 c, show (pdats m 1 c).Φ (Fin.last _) = FftB.inv (VB m) c (FftB.res (VB m) c) from FftB.inv_end (VB m) c (Fin.last _) (by decide)]
    iintro ⟨HX, HO, HS, Hr⟩
    isplitl [HX HO]
    · isplitl [HX]; · iexact HX
      iexact HO
    isplitl [HS]; · iexact HS
    iexact Hr
  hexit c := by
    have hjoin := Pipeline.unscopedBufs_of_arrays (p := 1) (pcfgs (F := F)) adm (Ix := Unit) (Name := ℕ) (U := UU nD τ) (Lvl := ℕ) launch1.win launch1.arr_whole c
      (pdats m) ((pdats m 1 c).share_full fun _ => rfl) (VC m c) (VC m c) ((pdats m 1 c).arrAt · cfg1.N)
      (fun w => by
        fin_cases w
        exact ((pdats m 1 c).arrAt_in 0 rfl _).trans (VC_of m c main_v67 (by decide)).symm)
      (fun _ _ => rfl)
    iintro ⟨Ha, HO, ⟨HX, Hout⟩, HZ⟩
    imodintro
    isplitl [Ha HX Hout HZ]
    · iapply hjoin
      isplitl [Ha]; · iexact Ha
      iapply (Entails.of_eq (rest_back1 m c).symm)
      isplitr [HZ]; swap; · iexact HZ
      isplitl [HX]; · iexact HX
      iexact Hout
    unfold Pipeline.Dat.owesAt Pipeline.owesWithin
    icases HO with ⟨%W, -, HO⟩; iexists W; iexact HO

end States

/-! ## The run -/

section Main
variable (m : (ℓ : Loc nD τ sig) → Buf (Elt F) ℓ) (ρ : Dev nD → PrngReg)

abbrev E : Fin 3 → Dev nD → sProp 𝕄 := fun _ c => R c

theorem W7_arg0 (c : Dev nD) : W7 m c main_arg0 = m ((c : Thread nD τ).loc main_arg0) :=
  (VC_of m c main_arg0 (by decide)).trans <| (VB_of m c main_arg0 (by decide)).trans <| (V5_of m c main_arg0 (by decide)).trans <|
    (V4_of m c main_arg0 (by decide)).trans <| (V3_of m c main_arg0 (by decide)).trans <| (V2_of m c main_arg0 (by decide)).trans <| (V1_of m c main_arg0 (by decide)).trans rfl

/-- What a run ends with. -/
abbrev Ends (c : Dev nD) (s : (ℓ : Loc nD τ sig) → Buf (Elt F) ℓ) : Prop :=
  s ((c.tc : Thread nD τ).loc main_arg0) = m ((c.tc : Thread nD τ).loc main_arg0) ∧ s ((c.tc : Thread nD τ).loc main_v70) = FftB.res (VB m) c

theorem launch_one (c : Dev nD) : iprop(unscopedBufs c (fun b => m ((c.tc : Thread nD τ).loc b)) ∗ unscopedSems0 c
    ∗ owes (c.tc : Thread nD τ) (0 : CellTallies nD τ sig Unit) ∅ ∗ Pipeline.launchCred (fun _ => 0) c ∗ prngReg c (ρ c) ∗ BI.emp)
      ⊢ (iprop(unscopedBufs c (fun b => V0 m c b) ∗ R c) : sProp 𝕄) := by
  iintro ⟨Hub, -, HO, -⟩
  isplitl [Hub]; · iexact Hub
  iexists ∅; iexact HO

set_option backward.isDefEq.respectTransparency.types false in
theorem run_main : θ_run defs (onTc (τ := τ) (main (F := F))) ⟨m, fun _ => 0, ρ⟩ (fun r => (∀ c : Dev nD, Ends m c r.2.mem) ∧ r.2.sem = fun _ => 0) := by
  refine Pipeline.θ_run_regions_kit_dev_sems (pcfgs (F := F)) adm (pdats m) () cellOf_inj EP defs₀ 𝒱₀ L lv m ρ main
    (segs m 𝒱₀ L lv E () (pdats m) (reg0 m) (reg1 m))
    (fun c Q => by
      rewrite [main_chain c, Seg.run_eq_chain,
        show (segs m 𝒱₀ L lv E () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun _ _ => rfl) (fun _ => iprop(emp))
    (initOf (Pipeline.cells cfgs cellOf_inj) (Pipeline.launchToks cfgs cellOf_inj), 1) ?hu
    (T₀ := fun c => iprop(StableHlo.held (c : Thread nD τ) (Pipeline.ucRefs τ sig) (V0 m c) ∗ R c))
    (Tₙ := fun c => StableHlo.held (c : Thread nD τ) (Pipeline.ucRefs τ sig) (W7 m c))
    (hch := fun c => ⟨.rfl, .rfl, .rfl, .rfl, .rfl, ?h0, ?h1, ?h2⟩)
    (hinit := ?hi) (QY := fun c s => Ends m c s.mem)
    (hfin := fun c s' => ?hf) (hQ := fun _ h hz => ⟨h, funext fun g => hz g (.inr (regions_no_unscoped g.2))⟩)
  case hu =>
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  case h0 =>
    show iprop(StableHlo.held (c : Thread nD τ) (Pipeline.ucRefs τ sig) (V5 m c) ∗ R c) ⊢ iprop(unscopedBufs c (VA m c) ∗ R c)
    rw [← Pipeline.unscopedBufs_held (Ix := Unit) (Name := ℕ) (U := UU nD τ) (Lvl := ℕ) c (V5 m c)]
  case h1 => exact .rfl
  case h2 =>
    show iprop(unscopedBufs c (VC m c) ∗ R c) ⊢ iprop(StableHlo.held (c : Thread nD τ) (Pipeline.ucRefs τ sig) (W7 m c) ∗ ∃ W, owes (c : Thread nD τ) (0 : CellTallies nD τ sig Unit) W)
    rw [← Pipeline.unscopedBufs_held (Ix := Unit) (Name := ℕ) (U := UU nD τ) (Lvl := ℕ) c (W7 m c)]
  case hi =>
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (BI.emp : sProp 𝕄)))
        ⊢ (bigSep Finset.univ fun c : Dev nD => iprop(StableHlo.held (c : Thread nD τ) (Pipeline.ucRefs τ sig) (V0 m c) ∗ R c) : sProp 𝕄) :=
      bigSep_mono fun c _ => by
        rw [← Pipeline.unscopedBufs_held (Ix := Unit) (Name := ℕ) (U := UU nD τ) (Lvl := ℕ) c (V0 m c)]
        exact launch_one m ρ c
    iintro ⟨H, -⟩
    imodintro
    iapply hsplit; iexact H
  case hf =>
    unfold StableHlo.held
    iintro ⟨Hh, HSI⟩
    ihave Hr := (pointsTo_read_all (Pipeline.ucRefs τ sig) (fun b => ((c : Thread nD τ).1, b)) (W7 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (W7_arg0 m c),
        (h (Proc.devRef .tc main_v70) (Finset.mem_filter.mpr ⟨StableHlo.devRef_mem_tcRefs main_v70, by decide⟩)).trans (VC_v70 m c)⟩
    · iexact HSI

end Main

end Cert.Proof.Run
end
end
-- ==== Proof.Same.lean ====
/- The program as printed and its reading at the ideal instance are one text: the same body table and the same @main, over any
   floats. A run proved of one is a run of the other. -/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

set_option maxHeartbeats 1000000 in
set_option backward.isDefEq.respectTransparency.types false in
/-- The two calls' bodies are the same. -/
theorem bodies_eq : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | ⟨0, _⟩, ⟨t, s⟩ => rfl
  | ⟨1, _⟩, ⟨t, s⟩ => rfl

set_option maxHeartbeats 1000000 in
set_option backward.isDefEq.respectTransparency.types false in
/-- So are the tables with the launches. -/
theorem defs_eq : Cert.Kernel.defs (F := F) = Cert.KernelIdeal.defs (F := F) := by
  unfold Cert.Kernel.defs Cert.KernelIdeal.defs
  rw [bodies_eq]; rfl

set_option maxHeartbeats 1000000 in
set_option backward.isDefEq.respectTransparency.types false in
/-- So is @main. -/
theorem main_eq : Cert.Kernel.main (F := F) = Cert.KernelIdeal.main (F := F) := by rfl

set_option backward.isDefEq.respectTransparency.types false in
/-- A run of the ideal reading's text, over any floats, is a run of the printed text. -/
theorem run_of (m : (ℓ : Loc Cert.KernelIdeal.nD Cert.KernelIdeal.τ Cert.KernelIdeal.sig) → Buf (Elt F) ℓ) (ρ : Dev Cert.KernelIdeal.nD → PrngReg)
    (Q : _ → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  rw [defs_eq, main_eq]; exact h

end Cert.Proof.Same

end
-- ==== Proof.Pay.lean ====
/- What the two bodies compute from a block, at the ideal instance and over real entries: each product as two sums of products, and
   the turn by the twiddle tables. -/
module

public import proofs.«01_k».proof.Proof.Gen.KernelIdeal.Skeleton
public import Idealize.ShloMosaic.Lib.Pointwise
public import Idealize.ShloMosaic.PureOps.Ideal

@[expose] public section

noncomputable section

namespace Cert.Proof.Pay

open Cert.KernelIdeal Cert.KernelIdeal.Gen
open Idealize.ShloMosaic

theorem coe_sum {ι : Type} (s : Finset ι) (f : ι → ℝ) : (((∑ i ∈ s, f i : ℝ)) : EReal) = ∑ i ∈ s, ((f i : ℝ) : EReal) := by
  classical
  induction s using Finset.induction_on with
  | empty => simp
  | insert a s h ih => rw [Finset.sum_insert h, Finset.sum_insert h, EReal.coe_add, ih]

/-- A sum over `2 n` rows, the rows taken in pairs. -/
theorem sum_pairs (n : ℕ) (f : ℕ → ℝ) : ∑ t : Fin (n * 2), f t.val = ∑ r : Fin n, (f (2 * r.val) + f (2 * r.val + 1)) := by
  have e : ∑ t : Fin (n * 2), f t.val = ∑ x : Fin n × Fin 2, f (2 * x.1.val + x.2.val) := by
    refine (Fintype.sum_equiv (finProdFinEquiv (m := n) (n := 2)) _ _ fun x => ?_).symm
    exact congrArg f (by show 2 * x.1.val + x.2.val = x.2.val + 2 * x.1.val; omega)
  rw [e, Fintype.sum_prod_type]
  exact Finset.sum_congr rfl fun r _ => by rw [Fin.sum_univ_two]; rfl

set_option maxRecDepth 16384 in
set_option maxHeartbeats 1000000 in
/-- The first stage's product. -/
theorem payA (W : Vec Ideal S256x256 .bf16) (S : Vec Ideal S64x1x2x1024 .bf16) (w : ℕ → ℕ → ℝ) (s : ℕ → ℕ → ℕ → ℝ)
    (hW : ∀ (i j : Fin 256), W (ix2 i j) = ((w i.val j.val : ℝ) : EReal))
    (hS : ∀ (r : Fin 64) (q : Fin 2) (c : Fin 1024), S (ix4 r 0 q c) = ((s r.val q.val c.val : ℝ) : EReal))
    (i : Fin 256) (c : Fin 512) :
    k0_pay2 W S (ix2 i c) = (((∑ t : Fin 128, w i.val t.val * s (t.val / 2) (t.val % 2) c.val)
      + ∑ t : Fin 128, w i.val (128 + t.val) * s (t.val / 2) (t.val % 2) (512 + c.val) : ℝ) : EReal) := by
  pointwise [k0_pay2, k0_pay1]
  simp only [hW, hS, EReal.coe_add, coe_sum, EReal.coe_mul]

set_option maxRecDepth 16384 in
set_option maxHeartbeats 1000000 in
/-- The second stage's product. -/
theorem payB (W : Vec Ideal S256x512 .bf16) (S : Vec Ideal S128x1x2x1024 .bf16) (w : ℕ → ℕ → ℝ) (s : ℕ → ℕ → ℕ → ℝ)
    (hW : ∀ (i : Fin 256) (j : Fin 512), W (ix2 i j) = ((w i.val j.val : ℝ) : EReal))
    (hS : ∀ (r : Fin 128) (q : Fin 2) (c : Fin 1024), S (ix4 r 0 q c) = ((s r.val q.val c.val : ℝ) : EReal))
    (i : Fin 256) (c : Fin 512) :
    k1_pay2 W S (ix2 i c) = (((∑ t : Fin 256, w i.val t.val * s (t.val / 2) (t.val % 2) c.val)
      + ∑ t : Fin 256, w i.val (256 + t.val) * s (t.val / 2) (t.val % 2) (512 + c.val) : ℝ) : EReal) := by
  pointwise [k1_pay2, k1_pay1]
  simp only [hW, hS, EReal.coe_add, coe_sum, EReal.coe_mul]

set_option maxRecDepth 16384 in
set_option maxHeartbeats 1000000 in
/-- The turn: the real part in the first 512 columns, the imaginary part in the last 512. -/
theorem payT (G H : FVec Ideal S64x512 .f32) (T U : Vec Ideal S1x64x128 .f32) (g h : ℕ → ℕ → ℝ) (t u : ℕ → ℝ)
    (hG : ∀ (r : Fin 64) (c : Fin 512), G (ix2 r c) = ((g r.val c.val : ℝ) : EReal))
    (hH : ∀ (r : Fin 64) (c : Fin 512), H (ix2 r c) = ((h r.val c.val : ℝ) : EReal))
    (hT : ∀ (r : Fin 64) (l : Fin 128), T (ix3 0 r l) = ((t r.val : ℝ) : EReal))
    (hU : ∀ (r : Fin 64) (l : Fin 128), U (ix3 0 r l) = ((u r.val : ℝ) : EReal))
    (i : Fin 32) (e : Fin 2) (c : Fin 1024) :
    k0_pay5 G H T U (ix6 0 0 0 i e c) = (((if c.val < 512 then
        g (2 * i.val + e.val) c.val * t (2 * i.val + e.val) - h (2 * i.val + e.val) c.val * u (2 * i.val + e.val)
      else h (2 * i.val + e.val) (c.val - 512) * t (2 * i.val + e.val) + g (2 * i.val + e.val) (c.val - 512) * u (2 * i.val + e.val) : ℝ)) : EReal) := by
  pointwise [k0_pay5]
  simp only [hG, hH, hT, hU, dite_eq_ite, ite_self, Nat.mul_comm i.val 2]
  split <;> simp only [EReal.coe_add, EReal.coe_sub, EReal.coe_mul]

/-! ## The tables' entries select -/

/-- The first stage's table: row `128 p + m`, column `128 h + 2 r + q`. -/
def wa (ca sa : ℕ → ℕ → ℝ) (i j : ℕ) : ℝ :=
  if i / 128 = j % 2 then
    (if j / 128 = 0 then (if i % 128 < 64 then ca (i % 128) (j % 128 / 2) else sa (i % 128 - 64) (j % 128 / 2))
      else (if i % 128 < 64 then -sa (i % 128) (j % 128 / 2) else ca (i % 128 - 64) (j % 128 / 2)))
  else 0
/-- The second stage's: row `128 p + m`, column `256 h + 2 r + q`. -/
def wb (cb sb : ℕ → ℕ → ℝ) (i j : ℕ) : ℝ :=
  if i / 128 = j % 2 then (if j / 256 = 0 then cb (i % 128) (j % 256 / 2) else -sb (i % 128) (j % 256 / 2)) else 0

theorem sumA (ca sa : ℕ → ℕ → ℝ) (s : ℕ → ℕ → ℕ → ℝ) (p : Fin 2) (m : Fin 128) (c d : ℕ) :
    (∑ t : Fin 128, wa ca sa (128 * p.val + m.val) t.val * s (t.val / 2) (t.val % 2) c)
      + ∑ t : Fin 128, wa ca sa (128 * p.val + m.val) (128 + t.val) * s (t.val / 2) (t.val % 2) d
    = ∑ r : Fin 64, ((if m.val < 64 then ca m.val r.val else sa (m.val - 64) r.val) * s r.val p.val c
        + (if m.val < 64 then -sa m.val r.val else ca (m.val - 64) r.val) * s r.val p.val d) := by
  rw [sum_pairs 64 (fun t => wa ca sa (128 * p.val + m.val) t * s (t / 2) (t % 2) c),
    sum_pairs 64 (fun t => wa ca sa (128 * p.val + m.val) (128 + t) * s (t / 2) (t % 2) d), ← Finset.sum_add_distrib]
  refine Finset.sum_congr rfl fun r _ => ?_
  have hm := m.isLt
  have hr := r.isLt
  unfold wa
  rw [show (128 * p.val + m.val) / 128 = p.val by omega, show (128 * p.val + m.val) % 128 = m.val by omega,
    show 2 * r.val % 2 = 0 by omega, show (2 * r.val + 1) % 2 = 1 by omega, show (128 + 2 * r.val) % 2 = 0 by omega,
    show (128 + (2 * r.val + 1)) % 2 = 1 by omega, show 2 * r.val / 128 = 0 by omega, show (2 * r.val + 1) / 128 = 0 by omega,
    show (128 + 2 * r.val) / 128 = 1 by omega, show (128 + (2 * r.val + 1)) / 128 = 1 by omega,
    show 2 * r.val % 128 / 2 = r.val by omega, show (2 * r.val + 1) % 128 / 2 = r.val by omega,
    show (128 + 2 * r.val) % 128 / 2 = r.val by omega, show (128 + (2 * r.val + 1)) % 128 / 2 = r.val by omega,
    show 2 * r.val / 2 = r.val by omega, show (2 * r.val + 1) / 2 = r.val by omega]
  match p with
  | ⟨0, _⟩ => simp
  | ⟨1, _⟩ => simp

theorem sumB (cb sb : ℕ → ℕ → ℝ) (s : ℕ → ℕ → ℕ → ℝ) (p : Fin 2) (m : Fin 128) (c d : ℕ) :
    (∑ t : Fin 256, wb cb sb (128 * p.val + m.val) t.val * s (t.val / 2) (t.val % 2) c)
      + ∑ t : Fin 256, wb cb sb (128 * p.val + m.val) (256 + t.val) * s (t.val / 2) (t.val % 2) d
    = ∑ r : Fin 128, (cb m.val r.val * s r.val p.val c + (-sb m.val r.val) * s r.val p.val d) := by
  rw [sum_pairs 128 (fun t => wb cb sb (128 * p.val + m.val) t * s (t / 2) (t % 2) c),
    sum_pairs 128 (fun t => wb cb sb (128 * p.val + m.val) (256 + t) * s (t / 2) (t % 2) d), ← Finset.sum_add_distrib]
  refine Finset.sum_congr rfl fun r _ => ?_
  have hm := m.isLt
  have hr := r.isLt
  unfold wb
  rw [show (128 * p.val + m.val) / 128 = p.val by omega, show (128 * p.val + m.val) % 128 = m.val by omega,
    show 2 * r.val % 2 = 0 by omega, show (2 * r.val + 1) % 2 = 1 by omega, show (256 + 2 * r.val) % 2 = 0 by omega,
    show (256 + (2 * r.val + 1)) % 2 = 1 by omega, show 2 * r.val / 256 = 0 by omega, show (2 * r.val + 1) / 256 = 0 by omega,
    show (256 + 2 * r.val) / 256 = 1 by omega, show (256 + (2 * r.val + 1)) / 256 = 1 by omega,
    show 2 * r.val % 256 / 2 = r.val by omega, show (2 * r.val + 1) % 256 / 2 = r.val by omega,
    show (256 + 2 * r.val) % 256 / 2 = r.val by omega, show (256 + (2 * r.val + 1)) % 256 / 2 = r.val by omega,
    show 2 * r.val / 2 = r.val by omega, show (2 * r.val + 1) / 2 = r.val by omega]
  match p with
  | ⟨0, _⟩ => simp
  | ⟨1, _⟩ => simp

end Cert.Proof.Pay
end
end
-- ==== Proof.BlkVal.lean ====
/- A block of each stage at the ideal instance, over real words: the first stage's rows are the transform along the first factor of
   the positions, turned; the second stage's the transform along the second factor. -/
module

public import proofs.«01_k».proof.Proof.Pay
public import proofs.«01_k».proof.Proof.FftAVal

@[expose] public section

noncomputable section

namespace Cert.Proof.BlkVal

open Cert.KernelIdeal Cert.KernelIdeal.Gen
open Idealize.ShloMosaic
open Cert.Proof.Pay

/-- The real and the imaginary part of the first stage at position `q` of the second factor, frequency `v`, column `c`. -/
def gA (ca sa : ℕ → ℕ → ℝ) (s : ℕ → ℕ → ℕ → ℝ) (q v c : ℕ) : ℝ := ∑ r : Fin 64, (ca v r.val * s r.val q c + -sa v r.val * s r.val q (512 + c))
def hA (ca sa : ℕ → ℕ → ℝ) (s : ℕ → ℕ → ℕ → ℝ) (q v c : ℕ) : ℝ := ∑ r : Fin 64, (sa v r.val * s r.val q c + ca v r.val * s r.val q (512 + c))
/-- The first stage turned: the real part in the first 512 columns, the imaginary part in the last 512. -/
def stA (ca sa : ℕ → ℕ → ℝ) (s : ℕ → ℕ → ℕ → ℝ) (t u : ℕ → ℕ → ℝ) (q v c : ℕ) : ℝ :=
  if c < 512 then gA ca sa s q v c * t q v - hA ca sa s q v c * u q v
  else hA ca sa s q v (c - 512) * t q v + gA ca sa s q v (c - 512) * u q v
/-- The second stage at frequencies `v`, `k`, column `c`. -/
def stB (cb sb : ℕ → ℕ → ℝ) (s : ℕ → ℕ → ℕ → ℝ) (v k c : ℕ) : ℝ := ∑ r : Fin 128, (cb k r.val * s r.val v c + -sb k r.val * s r.val v (512 + c))

set_option maxRecDepth 16384

section A
variable (ca sa : ℕ → ℕ → ℝ) (s : ℕ → ℕ → ℕ → ℝ) (t u : ℕ → ℕ → ℝ)
variable (W : Vec Ideal S256x256 .bf16) (X : S64x16x2x1024.Idx → Elt Ideal .bf16) (C D : S32x64x128.Idx → Elt Ideal .f32)

/-- One entry of a pair's product. -/
theorem prodA (hW : ∀ (i j : Fin 256), W (ix2 i j) = ((wa ca sa i.val j.val : ℝ) : EReal))
    (hX : ∀ y : S64x16x2x1024.Idx, X y = ((s (y 0).val (2 * (y 1).val + (y 2).val) (y 3).val : ℝ) : EReal))
    (j : Fin 16) (p : Fin 2) (n : Fin 128) (c : Fin 512) (i : Fin 256) (hi : i.val = 128 * p.val + n.val) :
    k0_pay2 W (FftA.slabA X j) (ix2 i c) = ((if n.val < 64 then gA ca sa s (2 * j.val + p.val) n.val c.val else hA ca sa s (2 * j.val + p.val) (n.val - 64) c.val : ℝ) : EReal) := by
  rw [payA W (FftA.slabA X j) (wa ca sa) (fun r q c => s r (2 * j.val + q) c) hW (fun r q c => hX _) i c, hi,
    sumA ca sa (fun r q c => s r (2 * j.val + q) c) p n c.val (512 + c.val)]
  unfold gA hA
  split <;> rfl

theorem blkA_val (hW : ∀ (i j : Fin 256), W (ix2 i j) = ((wa ca sa i.val j.val : ℝ) : EReal))
    (hX : ∀ y : S64x16x2x1024.Idx, X y = ((s (y 0).val (2 * (y 1).val + (y 2).val) (y 3).val : ℝ) : EReal))
    (hC : ∀ y : S32x64x128.Idx, C y = ((t (y 0).val (y 1).val : ℝ) : EReal))
    (hD : ∀ y : S32x64x128.Idx, D y = ((u (y 0).val (y 1).val : ℝ) : EReal))
    (y0 y1 : Fin 32) (y2 : Fin 2) (y3 : Fin 1024) :
    FftA.blkA W X C D y0 y1 y2 y3 = ((stA ca sa s t u y0.val (2 * y1.val + y2.val) y3.val : ℝ) : EReal) := by
  have h0 := y0.isLt
  have eix : FftA.ixRow y1 y2 y3 = ix6 0 0 0 y1 y2 y3 := by
    funext a
    match a with
    | ⟨0, _⟩ => rfl
    | ⟨1, _⟩ => rfl
    | ⟨2, _⟩ => rfl
    | ⟨3, _⟩ => rfl
    | ⟨4, _⟩ => rfl
    | ⟨5, _⟩ => rfl
  unfold FftA.blkA
  rw [eix]
  have hP := prodA ca sa s W X hW hX ⟨y0.val / 2, by omega⟩
  generalize k0_pay2 W (FftA.slabA X ⟨y0.val / 2, by omega⟩) = P at hP ⊢
  unfold FftA.rowA
  by_cases hh : y0.val % 2 = 0
  · rw [if_pos hh]
    unfold FftA.rowA0
    rw [payT _ _ _ _ (fun v c => gA ca sa s y0.val v c) (fun v c => hA ca sa s y0.val v c) (fun v => t y0.val v) (fun v => u y0.val v) ?_ ?_ ?_ ?_ y1 y2 y3]
    · unfold stA; rfl
    · intro r c
      pointwise
      rw [hP 0 ⟨r.val, by omega⟩ c _ (by simp)]
      simp only [r.isLt, if_true]
      congr 2 <;> (simp; try omega)
    · intro r c
      pointwise
      rw [hP 0 ⟨64 + r.val, by omega⟩ c _ (by simp)]
      rw [if_neg (by simp)]
      congr 2 <;> (simp; try omega)
    · intro r l; exact hC _
    · intro r l; exact hD _
  · rw [if_neg hh]
    unfold FftA.rowA1
    rw [payT _ _ _ _ (fun v c => gA ca sa s y0.val v c) (fun v c => hA ca sa s y0.val v c) (fun v => t y0.val v) (fun v => u y0.val v) ?_ ?_ ?_ ?_ y1 y2 y3]
    · unfold stA; rfl
    · intro r c
      pointwise
      rw [hP 1 ⟨r.val, by omega⟩ c _ (by simp)]
      simp only [r.isLt, if_true]
      congr 2 <;> (simp; try omega)
    · intro r c
      pointwise
      rw [hP 1 ⟨64 + r.val, by omega⟩ c _ (by simp; try omega)]
      rw [if_neg (by simp)]
      congr 2 <;> (simp; try omega)
    · intro r l; exact hC _
    · intro r l; exact hD _
end A

theorem blkB_val (cb sb : ℕ → ℕ → ℝ) (s : ℕ → ℕ → ℕ → ℝ) (W : Vec Ideal S256x512 .bf16) (X : S128x16x2x1024.Idx → Elt Ideal .bf16)
    (hW : ∀ (i : Fin 256) (j : Fin 512), W (ix2 i j) = ((wb cb sb i.val j.val : ℝ) : EReal))
    (hX : ∀ y : S128x16x2x1024.Idx, X y = ((s (y 0).val (2 * (y 1).val + (y 2).val) (y 3).val : ℝ) : EReal))
    (y : S32x128x512.Idx) : FftB.blkB W X y = ((stB cb sb s (y 0).val (y 1).val (y 2).val : ℝ) : EReal) := by
  have h0 : (y 0).val < 32 := (y 0).isLt
  have h1 : (y 1).val < 128 := (y 1).isLt
  unfold FftB.blkB
  have e := payB W (FftB.slabB X ⟨(y 0).val / 2, by omega⟩) (wb cb sb) (fun r q c => s r (2 * ((y 0).val / 2) + q) c) hW (fun r q c => hX _)
    ⟨128 * ((y 0).val % 2) + (y 1).val, by omega⟩ (y 2)
  have e2 := sumB cb sb (fun r q c => s r (2 * ((y 0).val / 2) + q) c) ⟨(y 0).val % 2, by omega⟩ ⟨(y 1).val, h1⟩ (y 2).val (512 + (y 2).val)
  refine Eq.trans ?_ (e.trans ((congrArg (fun z : ℝ => (z : EReal)) e2).trans ?_))
  · congr 1
  · unfold stB
    dsimp only
    rw [show 2 * ((y 0).val / 2) + (y 0).val % 2 = (y 0).val by omega]

end Cert.Proof.BlkVal
end
end
-- ==== Proof.StageVal.lean ====
/- The two stages' results at the ideal instance, over real words. -/
module

public import proofs.«01_k».proof.Proof.BlkVal
public import proofs.«01_k».proof.Proof.FftBReg
public import proofs.«01_k».proof.Proof.FftAReg

@[expose] public section

noncomputable section

namespace Cert.Proof.StageVal

open Cert.KernelIdeal Cert.KernelIdeal.Gen
open Idealize.ShloMosaic Idealize.ShloMosaic.TcCoe
open Cert.Proof.Pay Cert.Proof.BlkVal

variable (c : Dev nD)

theorem xvalB (XA : Buf (Elt Ideal) (FftB.xM.view.loc (c : Thread nD τ))) (b : Fin 8) (y : S128x16x2x1024.Idx) :
    FftB.xval c XA b y = XA (ix5 (⟨b.val / 2, by omega⟩ : Fin 4) (y 0) (⟨16 * (b.val % 2) + (y 1).val, by have : (y 1).val < 16 := (y 1).isLt; omega⟩ : Fin 32) (y 2) (y 3)) := by
  show XA _ = XA _
  congr 1
  funext a
  match a with
  | ⟨0, _⟩ => exact Fin.ext (by show b.val / 2 + 1 * 0 = b.val / 2; omega)
  | ⟨1, _⟩ => exact Fin.ext (by show 0 + 1 * (y 0).val = (y 0).val; omega)
  | ⟨2, _⟩ => exact Fin.ext (by show 16 * (b.val % 2) + 1 * (y 1).val = 16 * (b.val % 2) + (y 1).val; omega)
  | ⟨3, _⟩ => exact Fin.ext (by show 0 + 1 * (y 2).val = (y 2).val; omega)
  | ⟨4, _⟩ => exact Fin.ext (by show 0 + 1 * (y 3).val = (y 3).val; omega)

theorem stgB (V : (c : Dev nD) → (b : Ref sig .tc) → Buf (Elt Ideal) ((c : Thread nD τ).loc b)) (i : Fin 256) (j : Fin 512) :
    (FftB.stg V c : Vec Ideal S256x512 .bf16) (ix2 i j) = (V c main_v67 : Vec Ideal S256x512 .bf16) (ix2 i j) := by
  show (V c main_v67 : Vec Ideal S256x512 .bf16) _ = _
  congr 1
  funext a
  match a with
  | ⟨0, _⟩ => exact Fin.ext (by show 0 + 1 * i.val = i.val; omega)
  | ⟨1, _⟩ => exact Fin.ext (by show 0 + 1 * j.val = j.val; omega)

/-- The second stage's result. -/
theorem outB_val (cb sb : ℕ → ℕ → ℝ) (x : ℕ → ℕ → ℕ → ℕ → ℝ) (XA : Buf (Elt Ideal) (FftB.xM.view.loc (c : Thread nD τ))) (T : Vec Ideal S256x512 .bf16)
    (hT : ∀ (i : Fin 256) (j : Fin 512), T (ix2 i j) = ((wb cb sb i.val j.val : ℝ) : EReal))
    (hX : ∀ i : S4x128x32x2x1024.Idx, XA i = ((x (i 0).val (i 1).val (2 * (i 2).val + (i 3).val) (i 4).val : ℝ) : EReal))
    (i : S4x64x128x512.Idx) :
    FftB.outB c XA T i = ((stB cb sb (x (i 0).val) (i 1).val (i 2).val (i 3).val : ℝ) : EReal) := by
  have h0 : (i 0).val < 4 := (i 0).isLt
  have h1 : (i 1).val < 64 := (i 1).isLt
  unfold FftB.outB
  rw [blkB_val cb sb (fun r v c => x (i 0).val r (32 * ((i 1).val / 32) + v) c) T _ hT ?_]
  · refine congrArg (fun z : ℝ => (z : EReal)) ?_
    show stB cb sb (fun r v c => x (i 0).val r (32 * ((i 1).val / 32) + v) c) ((i 1).val % 32) (i 2).val (i 3).val = _
    unfold stB
    dsimp only
    rw [show 32 * ((i 1).val / 32) + (i 1).val % 32 = (i 1).val by omega]
  · intro y
    rw [xvalB, hX]
    refine congrArg (fun z : ℝ => (z : EReal)) ?_
    show x ((2 * (i 0).val + (i 1).val / 32) / 2) (y 0).val (2 * (16 * ((2 * (i 0).val + (i 1).val / 32) % 2) + (y 1).val) + (y 2).val) (y 3).val = _
    congr 1 <;> omega

theorem xvalA (XA : Buf (Elt Ideal) (FftA.xM.view.loc (c : Thread nD τ))) (b : Fin 16) (y : S64x16x2x1024.Idx) :
    FftA.xval c XA b y = XA (ix5 (⟨b.val / 4, by omega⟩ : Fin 4) (y 0) (⟨16 * (b.val % 4) + (y 1).val, by have : (y 1).val < 16 := (y 1).isLt; omega⟩ : Fin 64) (y 2) (y 3)) := by
  show XA _ = XA _
  congr 1
  funext a
  match a with
  | ⟨0, _⟩ => exact Fin.ext (by show b.val / 4 + 1 * 0 = b.val / 4; omega)
  | ⟨1, _⟩ => exact Fin.ext (by show 0 + 1 * (y 0).val = (y 0).val; omega)
  | ⟨2, _⟩ => exact Fin.ext (by show 16 * (b.val % 4) + 1 * (y 1).val = 16 * (b.val % 4) + (y 1).val; omega)
  | ⟨3, _⟩ => exact Fin.ext (by show 0 + 1 * (y 2).val = (y 2).val; omega)
  | ⟨4, _⟩ => exact Fin.ext (by show 0 + 1 * (y 3).val = (y 3).val; omega)

theorem cvalA (CA : Buf (Elt Ideal) (FftA.cM.view.loc (c : Thread nD τ))) (b : Fin 4) (y : S32x64x128.Idx) :
    FftA.cval c CA b y = CA (ix3 (⟨32 * b.val + (y 0).val, by have : (y 0).val < 32 := (y 0).isLt; omega⟩ : Fin 128) (y 1) (y 2)) := by
  show CA _ = CA _
  congr 1
  funext a
  match a with
  | ⟨0, _⟩ => exact Fin.ext (by show 32 * b.val + 1 * (y 0).val = 32 * b.val + (y 0).val; omega)
  | ⟨1, _⟩ => exact Fin.ext (by show 0 + 1 * (y 1).val = (y 1).val; omega)
  | ⟨2, _⟩ => exact Fin.ext (by show 0 + 1 * (y 2).val = (y 2).val; omega)
theorem dvalA (CA : Buf (Elt Ideal) (FftA.dM.view.loc (c : Thread nD τ))) (b : Fin 4) (y : S32x64x128.Idx) :
    FftA.dval c CA b y = CA (ix3 (⟨32 * b.val + (y 0).val, by have : (y 0).val < 32 := (y 0).isLt; omega⟩ : Fin 128) (y 1) (y 2)) := by
  show CA _ = CA _
  congr 1
  funext a
  match a with
  | ⟨0, _⟩ => exact Fin.ext (by show 32 * b.val + 1 * (y 0).val = 32 * b.val + (y 0).val; omega)
  | ⟨1, _⟩ => exact Fin.ext (by show 0 + 1 * (y 1).val = (y 1).val; omega)
  | ⟨2, _⟩ => exact Fin.ext (by show 0 + 1 * (y 2).val = (y 2).val; omega)

theorem stgA (V : (c : Dev nD) → (b : Ref sig .tc) → Buf (Elt Ideal) ((c : Thread nD τ).loc b)) (i j : Fin 256) :
    (FftA.stg V c : Vec Ideal S256x256 .bf16) (ix2 i j) = (V c main_v66 : Vec Ideal S256x256 .bf16) (ix2 i j) := by
  show (V c main_v66 : Vec Ideal S256x256 .bf16) _ = _
  congr 1
  funext a
  match a with
  | ⟨0, _⟩ => exact Fin.ext (by show 0 + 1 * i.val = i.val; omega)
  | ⟨1, _⟩ => exact Fin.ext (by show 0 + 1 * j.val = j.val; omega)

/-- The first stage's result. -/
theorem outA_val (ca sa : ℕ → ℕ → ℝ) (x : ℕ → ℕ → ℕ → ℕ → ℝ) (t u : ℕ → ℕ → ℝ) (XA : Buf (Elt Ideal) (FftA.xM.view.loc (c : Thread nD τ)))
    (CA : Buf (Elt Ideal) (FftA.cM.view.loc (c : Thread nD τ))) (DA : Buf (Elt Ideal) (FftA.dM.view.loc (c : Thread nD τ))) (T : Vec Ideal S256x256 .bf16)
    (hT : ∀ (i j : Fin 256), T (ix2 i j) = ((wa ca sa i.val j.val : ℝ) : EReal))
    (hX : ∀ i : S4x64x64x2x1024.Idx, XA i = ((x (i 0).val (i 1).val (2 * (i 2).val + (i 3).val) (i 4).val : ℝ) : EReal))
    (hC : ∀ i : S128x64x128.Idx, CA i = ((t (i 0).val (i 1).val : ℝ) : EReal))
    (hD : ∀ i : S128x64x128.Idx, DA i = ((u (i 0).val (i 1).val : ℝ) : EReal))
    (i : S4x128x32x2x1024.Idx) :
    FftA.outA c XA CA DA T i = ((stA ca sa (x (i 0).val) t u (i 1).val (2 * (i 2).val + (i 3).val) (i 4).val : ℝ) : EReal) := by
  have h0 : (i 0).val < 4 := (i 0).isLt
  have h1 : (i 1).val < 128 := (i 1).isLt
  have hb : (Ring.bk 4 (FftA.obOf i).val).val = (i 1).val / 32 := by
    show (4 * (i 0).val + (i 1).val / 32) % 4 = _; omega
  unfold FftA.outA
  refine (blkA_val ca sa (fun r q c => x (i 0).val r (32 * ((i 1).val / 32) + q) c) (fun q v => t (32 * ((i 1).val / 32) + q) v)
    (fun q v => u (32 * ((i 1).val / 32) + q) v) T _ _ _ hT ?_ ?_ ?_ _ _ _ _).trans ?_
  rotate_left 3
  · refine congrArg (fun z : ℝ => (z : EReal)) ?_
    show stA ca sa (fun r q c => x (i 0).val r (32 * ((i 1).val / 32) + q) c) (fun q v => t (32 * ((i 1).val / 32) + q) v)
      (fun q v => u (32 * ((i 1).val / 32) + q) v) ((i 1).val % 32) (2 * (i 2).val + (i 3).val) (i 4).val = _
    unfold stA gA hA
    dsimp only
    rw [show 32 * ((i 1).val / 32) + (i 1).val % 32 = (i 1).val by omega]
  · intro y
    rw [xvalA, hX]
    refine congrArg (fun z : ℝ => (z : EReal)) ?_
    show x ((4 * (i 0).val + (i 1).val / 32) / 4) (y 0).val (2 * (16 * ((4 * (i 0).val + (i 1).val / 32) % 4) + (y 1).val) + (y 2).val) (y 3).val = _
    congr 1 <;> omega
  · intro y
    rw [cvalA, hC]
    refine congrArg (fun z : ℝ => (z : EReal)) ?_
    show t (32 * (Ring.bk 4 (FftA.obOf i).val).val + (y 0).val) (y 1).val = _
    rw [hb]
  · intro y
    rw [dvalA, hD]
    refine congrArg (fun z : ℝ => (z : EReal)) ?_
    show u (32 * (Ring.bk 4 (FftA.obOf i).val).val + (y 0).val) (y 1).val = _
    rw [hb]

end Cert.Proof.StageVal
end
end
-- ==== Proof.Tab.lean ====
/- The host tables: what the device buffers hold when the first kernel starts. -/
module

public import proofs.«01_k».proof.Proof.Gen.KernelIdeal.Regions
public import Idealize.ShloMosaic.Lib.StableHlo.Run

@[expose] public section

noncomputable section

namespace Cert.Proof.Tab

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- The host's angles: `2 arccos(-1) i j / n`. -/
def turn : FVec F S_ .f32 := mulf (constant S_ .f32 0x40000000#32) (Host.acos (constant S_ .f32 0xBF800000#32))
def angA : FVec F S64x64 .f32 :=
  Host.divf (mulf (broadcastInDim S64x64 ![] bcast_S_S64x64 (turn (F := F))) (sitofp .f32 (muli (iotaInDim S64x64 32 0) (iotaInDim S64x64 32 1))))
    (broadcastInDim S64x64 ![] bcast_S_S64x64 (constant S_ .f32 0x42800000#32))
def angT : FVec F S128x64 .f32 :=
  Host.divf (mulf (broadcastInDim S128x64 ![] bcast_S_S128x64 (turn (F := F))) (sitofp .f32 (muli (iotaInDim S128x64 32 0) (iotaInDim S128x64 32 1))))
    (broadcastInDim S128x64 ![] bcast_S_S128x64 (constant S_ .f32 0x46000000#32))
def angB : FVec F S128x128 .f32 :=
  Host.divf (mulf (broadcastInDim S128x128 ![] bcast_S_S128x128 (turn (F := F))) (sitofp .f32 (muli (iotaInDim S128x128 32 0) (iotaInDim S128x128 32 1))))
    (broadcastInDim S128x128 ![] bcast_S_S128x128 (constant S_ .f32 0x43000000#32))

/-- The stacked parts of the two spread tables, before they are spread. -/
def stackA : FVec F S128x2x64 .f32 :=
  concatenate S128x2x64 1 [
    ⟨S128x1x64, broadcastInDim S128x1x64 ![0, 2] bcast_S128x64_S128x1x64_0_2
      (concatenate S128x64 0 [⟨S64x64, Host.cos (angA (F := F))⟩, ⟨S64x64, Host.sin angA⟩] concatenates_S64x64_S64x64_S128x64_d0)⟩,
    ⟨S128x1x64, broadcastInDim S128x1x64 ![0, 2] bcast_S128x64_S128x1x64_0_2
      (concatenate S128x64 0 [⟨S64x64, Host.negf (Host.sin (angA (F := F)))⟩, ⟨S64x64, Host.cos angA⟩] concatenates_S64x64_S64x64_S128x64_d0)⟩]
    concatenates_S128x1x64_S128x1x64_S128x2x64_d1

theorem v1_v47 : V1 m c main_v47 = broadcastInDim S1x128x2x64x1 ![1, 2, 3] bcast_S128x2x64_S1x128x2x64x1_1_2_3 (stackA (F := F)) := by
  after_results <;> rfl
theorem v1_v46 : V1 m c main_v46 = cmpi .eq (iotaInDim S2x128x2x64x2 32 0) (iotaInDim S2x128x2x64x2 32 4) := by
  after_results <;> rfl
theorem v1_cst : V1 m c main_cst_10 = constant (F := F) S_ .f32 0x00000000#32 := by
  after_results <;> rfl
theorem v1_v21 : V1 m c main_v21 = angT (F := F) := by
  after_results <;> rfl
theorem v1_v34 : V1 m c main_v34 = mulf (Host.cos (angB (F := F))) (broadcastInDim S128x128 ![] bcast_S_S128x128 (constant S_ .f32 0x3A800000#32)) := by
  after_results <;> rfl
theorem v1_v37 : V1 m c main_v37 = mulf (Host.sin (angB (F := F))) (broadcastInDim S128x128 ![] bcast_S_S128x128 (constant S_ .f32 0x3A800000#32)) := by
  after_results <;> rfl
def stackB : FVec F S128x2x128 .f32 :=
  concatenate S128x2x128 1 [
    ⟨S128x1x128, broadcastInDim S128x1x128 ![0, 2] bcast_S128x128_S128x1x128_0_2
      (mulf (Host.cos (angB (F := F))) (broadcastInDim S128x128 ![] bcast_S_S128x128 (constant S_ .f32 0x3A800000#32)))⟩,
    ⟨S128x1x128, broadcastInDim S128x1x128 ![0, 2] bcast_S128x128_S128x1x128_0_2
      (Host.negf (mulf (Host.sin (angB (F := F))) (broadcastInDim S128x128 ![] bcast_S_S128x128 (constant S_ .f32 0x3A800000#32))))⟩]
    concatenates_S128x1x128_S128x1x128_S128x2x128_d1
def spreadA : FVec F S2x128x2x64x2 .f32 :=
  select (cmpi .eq (iotaInDim S2x128x2x64x2 32 0) (iotaInDim S2x128x2x64x2 32 4))
    (broadcastInDim S2x128x2x64x2 ![0, 1, 2, 3, 4] bcast_S1x128x2x64x1_S2x128x2x64x2_0_1_2_3_4 (broadcastInDim S1x128x2x64x1 ![1, 2, 3] bcast_S128x2x64_S1x128x2x64x1_1_2_3 (stackA (F := F))))
    (broadcastInDim S2x128x2x64x2 ![] bcast_S_S2x128x2x64x2 (constant S_ .f32 0x00000000#32))
def spreadB : FVec F S2x128x2x128x2 .f32 :=
  select (cmpi .eq (iotaInDim S2x128x2x128x2 32 0) (iotaInDim S2x128x2x128x2 32 4))
    (broadcastInDim S2x128x2x128x2 ![0, 1, 2, 3, 4] bcast_S1x128x2x128x1_S2x128x2x128x2_0_1_2_3_4 (broadcastInDim S1x128x2x128x1 ![1, 2, 3] bcast_S128x2x128_S1x128x2x128x1_1_2_3 (stackB (F := F))))
    (broadcastInDim S2x128x2x128x2 ![] bcast_S_S2x128x2x128x2 (constant S_ .f32 0x00000000#32))

theorem v2_v48 : V2 m c main_v48 = spreadA (F := F) := by
  have h : ∀ V : Valuation τ sig (Elt F), StableHlo.after (hostOps0_1 (F := F)) V (Proc.tc.devRef main_v48) = select (V main_v46)
      (broadcastInDim S2x128x2x64x2 ![0, 1, 2, 3, 4] bcast_S1x128x2x64x1_S2x128x2x64x2_0_1_2_3_4 (V main_v47))
      (broadcastInDim S2x128x2x64x2 ![] bcast_S_S2x128x2x64x2 (V main_cst_10)) := by
    intro V
    after_results <;> rfl
  refine (h (V1 m c)).trans ?_
  rw [v1_v46, v1_v47, v1_cst]
  rfl
theorem v3_v49 : V3 m c main_v49 = shapeCast S256x256 (spreadA (F := F)) shapeCasts_S2x128x2x64x2_S256x256 := by
  have h : ∀ V : Valuation τ sig (Elt F), StableHlo.after (hostOps0_2 (F := F)) V (Proc.tc.devRef main_v49) = shapeCast S256x256 (V main_v48) shapeCasts_S2x128x2x64x2_S256x256 := by
    intro V
    after_results <;> rfl
  refine (h (V2 m c)).trans ?_
  rw [v2_v48]
theorem v3_v57 : V3 m c main_v57 = broadcastInDim S1x128x2x128x1 ![1, 2, 3] bcast_S128x2x128_S1x128x2x128x1_1_2_3 (stackB (F := F)) := by
  have h : ∀ V : Valuation τ sig (Elt F), StableHlo.after (hostOps0_2 (F := F)) V (Proc.tc.devRef main_v57) = broadcastInDim S1x128x2x128x1 ![1, 2, 3] bcast_S128x2x128_S1x128x2x128x1_1_2_3
      (concatenate S128x2x128 1 [⟨S128x1x128, broadcastInDim S128x1x128 ![0, 2] bcast_S128x128_S128x1x128_0_2 (V main_v34)⟩,
        ⟨S128x1x128, broadcastInDim S128x1x128 ![0, 2] bcast_S128x128_S128x1x128_0_2 (Host.negf (φ := .f32) (V main_v37))⟩] concatenates_S128x1x128_S128x1x128_S128x2x128_d1) := by
    intro V
    after_results <;> rfl
  refine (h (V2 m c)).trans ?_
  rw [V2_of m c main_v34 (by decide), V2_of m c main_v37 (by decide), v1_v34, v1_v37]
  rfl
theorem v3_v56 : V3 m c main_v56 = cmpi .eq (iotaInDim S2x128x2x128x2 32 0) (iotaInDim S2x128x2x128x2 32 4) := by
  after_results <;> rfl
theorem v3_cst : V3 m c main_cst_11 = constant (F := F) S_ .f32 0x00000000#32 := by
  after_results <;> rfl
theorem v4_v58 : V4 m c main_v58 = spreadB (F := F) := by
  have h : ∀ V : Valuation τ sig (Elt F), StableHlo.after (hostOps0_3 (F := F)) V (Proc.tc.devRef main_v58) = select (V main_v56)
      (broadcastInDim S2x128x2x128x2 ![0, 1, 2, 3, 4] bcast_S1x128x2x128x1_S2x128x2x128x2_0_1_2_3_4 (V main_v57))
      (broadcastInDim S2x128x2x128x2 ![] bcast_S_S2x128x2x128x2 (V main_cst_11)) := by
    intro V
    after_results <;> rfl
  refine (h (V3 m c)).trans ?_
  rw [v3_v56, v3_v57, v3_cst]
  rfl

/-- The first stage's table. -/
theorem v5_v66 : V5 m c main_v66 = truncf .bf16 (shapeCast S256x256 (spreadA (F := F)) shapeCasts_S2x128x2x64x2_S256x256) bitsLt_bf16_f32 := by
  have h : ∀ V : Valuation τ sig (Elt F), StableHlo.after (hostOps0_4 (F := F)) V (Proc.tc.devRef main_v66) = truncf (φ := .f32) .bf16 (V main_v49) bitsLt_bf16_f32 := by
    intro V
    after_results <;> rfl
  refine (h (V4 m c)).trans ?_
  rw [V4_of m c main_v49 (by decide), v3_v49]
/-- The second stage's table. -/
theorem v5_v67 : V5 m c main_v67 = truncf .bf16 (shapeCast S256x512 (spreadB (F := F)) shapeCasts_S2x128x2x128x2_S256x512) bitsLt_bf16_f32 := by
  have h : ∀ V : Valuation τ sig (Elt F), StableHlo.after (hostOps0_4 (F := F)) V (Proc.tc.devRef main_v67) = truncf .bf16 (shapeCast (α := Elt F .f32) S256x512 (V main_v58) shapeCasts_S2x128x2x128x2_S256x512) bitsLt_bf16_f32 := by
    intro V
    after_results <;> rfl
  refine (h (V4 m c)).trans ?_
  rw [v4_v58]
theorem v4_v21 : V4 m c main_v21 = angT (F := F) := by
  rw [V4_of m c main_v21 (by decide), V3_of m c main_v21 (by decide), V2_of m c main_v21 (by decide), v1_v21]
/-- The twiddle tables. -/
theorem v5_v62 : V5 m c main_v62 = broadcastInDim S128x64x128 ![0, 1, 2] bcast_S128x64x1_S128x64x128_0_1_2
    (broadcastInDim S128x64x1 ![0, 1] bcast_S128x64_S128x64x1_0_1 (Host.cos (angT (F := F)))) := by
  have h : ∀ V : Valuation τ sig (Elt F), StableHlo.after (hostOps0_4 (F := F)) V (Proc.tc.devRef main_v62) = broadcastInDim S128x64x128 ![0, 1, 2] bcast_S128x64x1_S128x64x128_0_1_2
      (broadcastInDim S128x64x1 ![0, 1] bcast_S128x64_S128x64x1_0_1 (Host.cos (φ := .f32) (V main_v21))) := by
    intro V
    after_results <;> rfl
  refine (h (V4 m c)).trans ?_
  rw [v4_v21]
theorem v5_v65 : V5 m c main_v65 = broadcastInDim S128x64x128 ![0, 1, 2] bcast_S128x64x1_S128x64x128_0_1_2
    (broadcastInDim S128x64x1 ![0, 1] bcast_S128x64_S128x64x1_0_1 (Host.sin (angT (F := F)))) := by
  have h : ∀ V : Valuation τ sig (Elt F), StableHlo.after (hostOps0_4 (F := F)) V (Proc.tc.devRef main_v65) = broadcastInDim S128x64x128 ![0, 1, 2] bcast_S128x64x1_S128x64x128_0_1_2
      (broadcastInDim S128x64x1 ![0, 1] bcast_S128x64_S128x64x1_0_1 (Host.sin (φ := .f32) (V main_v21))) := by
    intro V
    after_results <;> rfl
  refine (h (V4 m c)).trans ?_
  rw [v4_v21]
/-- The argument, as the first stage reads it. -/
theorem v5_v68 : V5 m c main_v68 = shapeCast S4x64x64x2x1024 (m ((c : Thread nD τ).loc main_arg0)) shapeCasts_S32768x1024_S4x64x64x2x1024 := by
  have h : ∀ V : Valuation τ sig (Elt F), StableHlo.after (hostOps0_4 (F := F)) V (Proc.tc.devRef main_v68) = shapeCast (α := Elt F .bf16) S4x64x64x2x1024 (V main_arg0) shapeCasts_S32768x1024_S4x64x64x2x1024 := by
    intro V
    after_results <;> rfl
  refine (h (V4 m c)).trans ?_
  rw [V4_of m c main_arg0 (by decide), V3_of m c main_arg0 (by decide), V2_of m c main_arg0 (by decide), V1_of m c main_arg0 (by decide)]

end Cert.Proof.Tab
end
end
-- ==== Proof.Fourier.lean ====
/- The split discrete Fourier transform over the reals. A position is `128 p + q` (`p < 64`, `q < 128`), a frequency `64 u + v`
   (`u < 128`, `v < 64`). Transforming along `p`, turning by the twiddle angle of `(q, v)` and transforming along `q` is the
   transform along the positions. -/
module

public import Mathlib.Analysis.SpecialFunctions.Trigonometric.Basic
public import Mathlib.Logic.Equiv.Fin.Basic
public import Mathlib.Algebra.BigOperators.Fin

@[expose] public section

noncomputable section

namespace Cert.Proof.Fourier

open Real Finset

/-- The angle of `i j` steps of an `n`-th of a turn. -/
def ang (i j : ℕ) (n : ℝ) : ℝ := 2 * π * ((i * j : ℕ) : ℝ) / n

/-- Position `128 p + q`. -/
def pos (p : Fin 64) (q : Fin 128) : Fin 8192 := ⟨128 * p.val + q.val, by omega⟩
/-- Frequency `64 u + v`. -/
def freq (v : Fin 64) (u : Fin 128) : Fin 8192 := ⟨64 * u.val + v.val, by omega⟩

theorem sum_pos (f : Fin 8192 → ℝ) : ∑ s, f s = ∑ q : Fin 128, ∑ p : Fin 64, f (pos p q) := by
  rw [Finset.sum_comm, ← Fintype.sum_prod_type' (f := fun p q => f (pos p q))]
  refine (Fintype.sum_equiv (finProdFinEquiv (m := 64) (n := 128)) _ _ fun x => ?_).symm
  refine congrArg f (Fin.ext ?_)
  show 128 * x.1.val + x.2.val = x.2.val + 128 * x.1.val
  omega

theorem angles (p v : ℕ) (q u : ℕ) : ang v p 64 + ang q v 8192 + ang u q 128 = ang (128 * p + q) (64 * u + v) 8192 - ((u * p : ℕ) : ℝ) * (2 * π) := by
  unfold ang; push_cast; field_simp; ring

theorem cos_angles (p v q u : ℕ) : cos (ang (128 * p + q) (64 * u + v) 8192) = cos (ang v p 64 + ang q v 8192 + ang u q 128) := by
  rw [angles, Real.cos_sub_nat_mul_two_pi]
theorem sin_angles (p v q u : ℕ) : sin (ang (128 * p + q) (64 * u + v) 8192) = sin (ang v p 64 + ang q v 8192 + ang u q 128) := by
  rw [angles, Real.sin_sub_nat_mul_two_pi]

variable (a b : Fin 8192 → ℝ)

/-- The real and the imaginary part of the first stage. -/
def gr (v : Fin 64) (q : Fin 128) : ℝ := ∑ p : Fin 64, (cos (ang v p 64) * a (pos p q) - sin (ang v p 64) * b (pos p q))
def gi (v : Fin 64) (q : Fin 128) : ℝ := ∑ p : Fin 64, (sin (ang v p 64) * a (pos p q) + cos (ang v p 64) * b (pos p q))
/-- The first stage, turned. -/
def hr (v : Fin 64) (q : Fin 128) : ℝ := gr a b v q * cos (ang q v 8192) - gi a b v q * sin (ang q v 8192)
def hi (v : Fin 64) (q : Fin 128) : ℝ := gi a b v q * cos (ang q v 8192) + gr a b v q * sin (ang q v 8192)
/-- The second stage, scaled. -/
def two (v : Fin 64) (u : Fin 128) : ℝ :=
  ∑ q : Fin 128, ((cos (ang u q 128) * (1 / 1024)) * hr a b v q + (-(sin (ang u q 128) * (1 / 1024))) * hi a b v q)
/-- The transform along the positions, scaled. -/
def whole (k : Fin 8192) : ℝ := ((∑ s : Fin 8192, a s * cos (ang s k 8192)) - ∑ s : Fin 8192, b s * sin (ang s k 8192)) * (1 / 1024)

theorem two_eq_whole (v : Fin 64) (u : Fin 128) : two a b v u = whole a b (freq v u) := by
  unfold two whole
  rw [← Finset.sum_sub_distrib, sum_pos, Finset.sum_mul]
  refine Finset.sum_congr rfl fun q _ => ?_
  rw [Finset.sum_mul]
  unfold hr hi gr gi
  simp only [Finset.sum_mul, Finset.mul_sum, ← Finset.sum_sub_distrib, ← Finset.sum_add_distrib]
  refine Finset.sum_congr rfl fun p _ => ?_
  have hc := cos_angles p.val v.val q.val u.val
  have hs := sin_angles p.val v.val q.val u.val
  rw [Real.cos_add, Real.cos_add, Real.sin_add] at hc
  rw [Real.sin_add, Real.cos_add, Real.sin_add] at hs
  show _ = (a (pos p q) * cos (ang (128 * p.val + q.val) (64 * u.val + v.val) 8192) - b (pos p q) * sin (ang (128 * p.val + q.val) (64 * u.val + v.val) 8192)) * (1 / 1024)
  rw [hc, hs]
  ring

end Cert.Proof.Fourier

end
end
-- ==== Proof.TabVal.lean ====
/- The host tables at the ideal instance: cosines and sines of the angles of the transform. -/
module

public import proofs.«01_k».proof.Proof.Tab
public import proofs.«01_k».proof.Proof.Pay
public import proofs.«01_k».proof.Proof.Fourier
public import Idealize.ShloMosaic.Lib.Pointwise
public import Idealize.ShloMosaic.PureOps.Ideal
import Mathlib.Analysis.SpecialFunctions.Trigonometric.Inverse

@[expose] public section

noncomputable section

namespace Cert.Proof.TabVal

open Cert.KernelIdeal Cert.KernelIdeal.Gen
open Idealize.ShloMosaic Idealize.ShloMosaic.TcCoe
open Cert.Proof.Fourier (ang)

theorem bits_two : Ideal.ofBits .f32 1073741824#32 = ((2 : ℝ) : EReal) := by simp [Ideal.ofBits, Ideal.ieee, -EReal.coe_mul]; norm_num
theorem bits_neg : Ideal.ofBits .f32 3212836864#32 = ((-1 : ℝ) : EReal) := by simp [Ideal.ofBits, Ideal.ieee, -EReal.coe_mul]; norm_num
theorem bits_64 : Ideal.ofBits .f32 1115684864#32 = ((64 : ℝ) : EReal) := by simp [Ideal.ofBits, Ideal.ieee, -EReal.coe_mul]; norm_num
theorem bits_8192 : Ideal.ofBits .f32 0x46000000#32 = ((8192 : ℝ) : EReal) := by simp [Ideal.ofBits, Ideal.ieee, -EReal.coe_mul]; norm_num
theorem bits_128 : Ideal.ofBits .f32 0x43000000#32 = ((128 : ℝ) : EReal) := by simp [Ideal.ofBits, Ideal.ieee, -EReal.coe_mul]; norm_num
theorem bits_inv : Ideal.ofBits .f32 0x3A800000#32 = ((1 / 1024 : ℝ) : EReal) := by simp [Ideal.ofBits, Ideal.ieee, -EReal.coe_mul]; norm_num
theorem bits_1024 : Ideal.ofBits .f32 0x44800000#32 = ((1024 : ℝ) : EReal) := by simp [Ideal.ofBits, Ideal.ieee, -EReal.coe_mul]; norm_num

theorem index_val (i j : ℕ) (h : i * j < 2 ^ 31) :
    FloatOps.sitofp (F := Ideal) FTy.f32 (IntOp.muli (BitVec.ofNat 32 i) (BitVec.ofNat 32 j)) = (((i * j : ℕ) : ℝ) : EReal) := by
  have e : (IntOp.muli (BitVec.ofNat 32 i) (BitVec.ofNat 32 j)).toInt = ((i * j : ℕ) : ℤ) := by
    show (BitVec.ofNat 32 i * BitVec.ofNat 32 j).toInt = _
    rw [← BitVec.ofNat_mul, BitVec.toInt_eq_toNat_bmod, BitVec.toNat_ofNat, Nat.mod_eq_of_lt (by omega)]
    rw [Int.bmod_eq_of_le] <;> omega
  show ((((IntOp.muli (BitVec.ofNat 32 i) (BitVec.ofNat 32 j)).toInt : ℤ) : ℝ) : EReal) = _
  rw [e]; push_cast; rfl

/-- An angle as the host computes it. -/
theorem angle (i j : ℕ) (h : i * j < 2 ^ 31) (n : ℝ) (hn : n ≠ 0) :
    Ideal.div (Ideal.ofBits FTy.f32 1073741824#32 * Ideal.acos (Ideal.ofBits FTy.f32 3212836864#32) *
        FloatOps.sitofp (F := Ideal) FTy.f32 (IntOp.muli (BitVec.ofNat 32 i) (BitVec.ofNat 32 j))) (n : EReal)
      = ((ang i j n : ℝ) : EReal) := by
  rw [bits_two, bits_neg, Ideal.acos_coe, if_pos (by norm_num), Real.arccos_neg_one, index_val i j h, Ideal.div_coe hn,
    ← EReal.coe_mul, ← EReal.coe_mul, ← EReal.coe_mul]
  unfold ang
  congr 1
  ring

/-- Two small indices are the same word exactly when they are the same. -/
theorem pick (p q : Fin 2) (x y : EReal) :
    Scalar.select (IntOp.cmpi CmpIPredicate.eq (BitVec.ofNat 32 p.val) (BitVec.ofNat 32 q.val)) x y = if p.val = q.val then x else y := by
  match p, q with
  | ⟨0, _⟩, ⟨0, _⟩ => rfl
  | ⟨0, _⟩, ⟨1, _⟩ => rfl
  | ⟨1, _⟩, ⟨0, _⟩ => rfl
  | ⟨1, _⟩, ⟨1, _⟩ => rfl

set_option maxRecDepth 16384

theorem angA_at (i j : Fin 64) : Tab.angA (F := Ideal) (ix2 i j) = ((ang i j 64 : ℝ) : EReal) := by
  pointwise [Tab.angA, Tab.turn]
  rw [bits_64]
  exact angle i j (by have := i.isLt; have := j.isLt; nlinarith) 64 (by norm_num)
theorem angT_at (i : Fin 128) (j : Fin 64) : Tab.angT (F := Ideal) (ix2 i j) = ((ang i j 8192 : ℝ) : EReal) := by
  pointwise [Tab.angT, Tab.turn]
  rw [bits_8192]
  exact angle i j (by have := i.isLt; have := j.isLt; nlinarith) 8192 (by norm_num)
theorem angB_at (i j : Fin 128) : Tab.angB (F := Ideal) (ix2 i j) = ((ang i j 128 : ℝ) : EReal) := by
  pointwise [Tab.angB, Tab.turn]
  rw [bits_128]
  exact angle i j (by have := i.isLt; have := j.isLt; nlinarith) 128 (by norm_num)

def ca (i j : ℕ) : ℝ := Real.cos (ang i j 64)
def sa (i j : ℕ) : ℝ := Real.sin (ang i j 64)
def cb (i j : ℕ) : ℝ := Real.cos (ang i j 128) * (1 / 1024)
def sb (i j : ℕ) : ℝ := Real.sin (ang i j 128) * (1 / 1024)

theorem stackA_at (i : Fin 128) (h : Fin 2) (j : Fin 64) : Tab.stackA (F := Ideal) (ix3 i h j)
    = ((if h.val = 0 then (if i.val < 64 then ca i j else sa (i - 64) j) else (if i.val < 64 then -sa i j else ca (i - 64) j) : ℝ) : EReal) := by
  pointwise [Tab.stackA]
  simp only [angA_at, Ideal.cos_coe, Ideal.sin_coe]
  by_cases h1 : h.val < 1
  · have h0 : h.val = 0 := by omega
    by_cases h2 : i.val < 64 <;> simp [h0, h2, ca, sa]
  · have h0 : h.val ≠ 0 := by omega
    by_cases h2 : i.val < 64 <;> simp [h0, h2, ca, sa]
theorem stackB_at (i : Fin 128) (h : Fin 2) (j : Fin 128) : Tab.stackB (F := Ideal) (ix3 i h j)
    = ((if h.val = 0 then cb i j else -sb i j : ℝ) : EReal) := by
  pointwise [Tab.stackB]
  simp only [angB_at, Ideal.cos_coe, Ideal.sin_coe, bits_inv, ← EReal.coe_mul, ← EReal.coe_neg]
  by_cases h1 : h.val < 1
  · have h0 : h.val = 0 := by omega
    simp [h0, cb, -EReal.coe_mul]
  · have h0 : h.val ≠ 0 := by omega
    simp [h0, sb, -EReal.coe_mul]

theorem spreadA_at (p : Fin 2) (i : Fin 128) (h : Fin 2) (j : Fin 64) (q : Fin 2) : Tab.spreadA (F := Ideal) (ix5 p i h j q)
    = ((if p.val = q.val then (if h.val = 0 then (if i.val < 64 then ca i j else sa (i - 64) j) else (if i.val < 64 then -sa i j else ca (i - 64) j)) else 0 : ℝ) : EReal) := by
  pointwise [Tab.spreadA]
  rw [pick, stackA_at]
  split <;> rfl
theorem spreadB_at (p : Fin 2) (i : Fin 128) (h : Fin 2) (j : Fin 128) (q : Fin 2) : Tab.spreadB (F := Ideal) (ix5 p i h j q)
    = ((if p.val = q.val then (if h.val = 0 then cb i j else -sb i j) else 0 : ℝ) : EReal) := by
  pointwise [Tab.spreadB]
  rw [pick, stackB_at]
  split <;> rfl

variable (m : (ℓ : Loc nD τ sig) → Buf (Elt Ideal) ℓ) (c : Dev nD)

theorem v66 (i j : Fin 256) : (V5 m c main_v66 : Vec Ideal S256x256 .bf16) (ix2 i j) = ((Pay.wa ca sa i j : ℝ) : EReal) := by
  rw [Tab.v5_v66]
  pointwise
  rw [spreadA_at]
  have hi := i.isLt
  have hj := j.isLt
  show (((if i.val / 128 = j.val % 2 then (if j.val / 128 = 0 then (if i.val % 128 < 64 then ca (i.val % 128) (j.val / 2 % 64)
    else sa (i.val % 128 - 64) (j.val / 2 % 64)) else (if i.val % 128 < 64 then -sa (i.val % 128) (j.val / 2 % 64) else ca (i.val % 128 - 64) (j.val / 2 % 64))) else 0 : ℝ)) : EReal) = _
  rw [show j.val / 2 % 64 = j.val % 128 / 2 by omega]
  rfl
theorem v67 (i : Fin 256) (j : Fin 512) : (V5 m c main_v67 : Vec Ideal S256x512 .bf16) (ix2 i j) = ((Pay.wb cb sb i j : ℝ) : EReal) := by
  rw [Tab.v5_v67]
  pointwise
  rw [spreadB_at]
  have hi := i.isLt
  have hj := j.isLt
  show (((if i.val / 128 = j.val % 2 then (if j.val / 256 = 0 then cb (i.val % 128) (j.val / 2 % 128) else -sb (i.val % 128) (j.val / 2 % 128)) else 0 : ℝ)) : EReal) = _
  rw [show j.val / 2 % 128 = j.val % 256 / 2 by omega]
  rfl
theorem v62 (q : Fin 128) (v : Fin 64) (l : Fin 128) : (V5 m c main_v62 : Vec Ideal S128x64x128 .f32) (ix3 q v l) = ((Real.cos (ang q v 8192) : ℝ) : EReal) := by
  rw [Tab.v5_v62]
  pointwise
  rw [angT_at, Ideal.cos_coe]
theorem v65 (q : Fin 128) (v : Fin 64) (l : Fin 128) : (V5 m c main_v65 : Vec Ideal S128x64x128 .f32) (ix3 q v l) = ((Real.sin (ang q v 8192) : ℝ) : EReal) := by
  rw [Tab.v5_v65]
  pointwise
  rw [angT_at, Ideal.sin_coe]
theorem rows_at (X : Vec Ideal S32768x1024 .bf16) (b : Fin 4) (p j : Fin 64) (e : Fin 2) (l : Fin 1024) :
    shapeCast S4x64x64x2x1024 X shapeCasts_S32768x1024_S4x64x64x2x1024 (ix5 b p j e l)
      = X (ix2 ⟨8192 * b + 128 * p + 2 * j + e, by have := b.isLt; have := p.isLt; have := j.isLt; have := e.isLt; omega⟩ l) := by
  pointwise
  exact congrArg (fun z => X (ix2 z l)) (Fin.ext (by show b.val * 8192 + p.val * 128 + j.val * 2 + e.val = 8192 * b.val + 128 * p.val + 2 * j.val + e.val; omega))
theorem v68 (b : Fin 4) (p j : Fin 64) (e : Fin 2) (l : Fin 1024) : (V5 m c main_v68 : Vec Ideal S4x64x64x2x1024 .bf16) (ix5 b p j e l)
    = (m ((c.tc : Thread nD τ).loc main_arg0) : Vec Ideal S32768x1024 .bf16) (ix2 ⟨8192 * b + 128 * p + 2 * j + e, by have := b.isLt; have := p.isLt; have := j.isLt; have := e.isLt; omega⟩ l) := by
  rw [Tab.v5_v68]
  exact rows_at _ b p j e l

end Cert.Proof.TabVal
end
end
-- ==== Proof.RefVal.lean ====
/- The reference's result at the ideal instance, over real words: the transform along the positions. -/
module

public import proofs.«01_k».proof.Proof.TabVal
public import proofs.«01_k».proof.Proof.Gen.ReferenceIdeal.Run
public import proofs.«01_k».proof.Pre_finite
public import Idealize.ShloMosaic.Lib.ReduceAll

@[expose] public section

noncomputable section

namespace Cert.Proof.RefVal

open Cert.ReferenceIdeal Cert.ReferenceIdeal.Gen
open Idealize.ShloMosaic Idealize.ShloMosaic.TcCoe
open Cert.Proof.Fourier (ang)

/-- The reference's angles. -/
def angR : FVec Ideal S8192x8192 .f32 :=
  Host.divf (mulf (broadcastInDim S8192x8192 ![] bcast_S_S8192x8192 (mulf (constant S_ .f32 0x40000000#32) (Host.acos (constant S_ .f32 0xBF800000#32)))) (sitofp .f32 (muli (iotaInDim S8192x8192 32 0) (iotaInDim S8192x8192 32 1)))) (broadcastInDim S8192x8192 ![] bcast_S_S8192x8192 (constant S_ .f32 0x46000000#32))
/-- The reference's result. -/
def refV (X : Vec Ideal S32768x1024 .bf16) : FVec Ideal S4x64x128x512 .f32 :=
  transpose S4x64x128x512 [0, 2, 1, 3] (shapeCast _ (Host.divf (subf (transpose S4x8192x512 [0, 2, 1] (Host.dotGeneral dot_S4x8192x512_S8192x8192_S4x512x8192_1_1_02_0_n_n none (extractStridedSlice S4x8192x512 ![0, 0, 0] (shapeCast _ (extf .f32 X bitsLt_bf16_f32) shapeCasts_S32768x1024_S4x8192x1024) slices_S4x8192x1024_S4x8192x512_0_0_0) (Host.cos angR)) transposes_S4x512x8192_S4x8192x512_0_2_1) (transpose S4x8192x512 [0, 2, 1] (Host.dotGeneral dot_S4x8192x512_S8192x8192_S4x512x8192_1_1_02_0_n_n none (extractStridedSlice S4x8192x512 ![0, 0, 512] (shapeCast _ (extf .f32 X bitsLt_bf16_f32) shapeCasts_S32768x1024_S4x8192x1024) slices_S4x8192x1024_S4x8192x512_0_0_512) (Host.sin angR)) transposes_S4x512x8192_S4x8192x512_0_2_1)) (broadcastInDim S4x8192x512 ![] bcast_S_S4x8192x512 (constant S_ .f32 0x44800000#32))) shapeCasts_S4x8192x512_S4x128x64x512) transposes_S4x128x64x512_S4x64x128x512_0_2_1_3

set_option maxRecDepth 16384
theorem angR_at (i j : Fin 8192) : angR (ix2 i j) = ((ang i j 8192 : ℝ) : EReal) := by
  pointwise [angR]
  rw [TabVal.bits_8192]
  exact TabVal.angle i j (by have := i.isLt; have := j.isLt; nlinarith) 8192 (by norm_num)

theorem refV_at (X : Vec Ideal S32768x1024 .bf16) (x : ℕ → ℕ → ℝ) (hX : ∀ i : S32768x1024.Idx, X i = ((x (i 0).val (i 1).val : ℝ) : EReal))
    (b : Fin 4) (v : Fin 64) (u : Fin 128) (l : Fin 512) :
    refV X (ix4 b v u l) = ((Fourier.whole (fun s => x (8192 * b.val + s.val) l.val) (fun s => x (8192 * b.val + s.val) (512 + l.val)) (Fourier.freq v u) : ℝ) : EReal) := by
  pointwise [refV]
  simp only [hX, angR_at, Ideal.cos_coe, Ideal.sin_coe]
  rw [TabVal.bits_1024, Ideal.div_coe (by norm_num)]
  have e : ∀ s : Fin 8192, ang (u.val * 64 + v.val) s.val 8192 = ang s.val (Fourier.freq v u).val 8192 := fun s => by
    show ang (u.val * 64 + v.val) s.val 8192 = ang s.val (64 * u.val + v.val) 8192
    unfold Fourier.ang
    push_cast
    ring
  unfold Fourier.whole
  rw [EReal.coe_mul, EReal.coe_sub, Pay.coe_sum, Pay.coe_sum]
  refine congrArg₂ (fun a b : EReal => (a - b) * ((1 / 1024 : ℝ) : EReal)) (Finset.sum_congr rfl fun s _ => ?_) (Finset.sum_congr rfl fun s _ => ?_)
  · rw [e s, EReal.coe_mul]
    show ((x (b.val * 8192 + s.val) l.val : ℝ) : EReal) * _ = _
    rw [Nat.mul_comm b.val 8192]
  · rw [e s, EReal.coe_mul]
    show ((x (b.val * 8192 + s.val) (512 + l.val) : ℝ) : EReal) * _ = _
    rw [Nat.mul_comm b.val 8192]

instance pre_facts : Cert.Pre_finite.Facts := ⟨by decide, by decide, by decide, by decide⟩

/-- Entries that satisfy the precondition are real numbers. -/
theorem finite (X : Vec Ideal S32768x1024 .bf16) (h : Cert.Pre_finite.fn (F := Ideal) X = fun _ => 1#1) :
    ∀ i, ∃ r : ℝ, X i = (r : EReal) := by
  intro i
  have hi := congrFun h (fun a => a.elim0)
  dsimp only [Cert.Pre_finite.fn] at hi
  have hc := Host.reduce_andi_all _ _ _ _ _ hi i
  idx_vars i
  pointwise at hc
  have ht : Ideal.ofBits FTy.f32 2139095040#32 = ⊤ := by simp [Ideal.ofBits, Ideal.ieee]
  rw [ht] at hc
  generalize X (ix2 i0 i1) = z at hc ⊢
  induction z using EReal.rec with
  | bot => exact absurd hc (by simp [FloatOps.absf])
  | coe r => exact ⟨r, rfl⟩
  | top => exact absurd hc (by simp [FloatOps.absf])
end Cert.Proof.RefVal
end
end
-- ==== Proof.Value.lean ====
/- The kernel's result and the reference's are equal at the ideal instance, from finite words. -/
module

public import proofs.«01_k».proof.Proof.StageVal
public import proofs.«01_k».proof.Proof.TabVal
public import proofs.«01_k».proof.Proof.RefVal
public import proofs.«01_k».proof.Proof.Run

@[expose] public section

noncomputable section

namespace Cert.Proof.Value

open Cert.KernelIdeal Cert.KernelIdeal.Gen
open Idealize.ShloMosaic Idealize.ShloMosaic.TcCoe Idealize.SL.Sem
open Cert.Proof.BlkVal Cert.Proof.Pay
open Cert.Proof.TabVal (ca sa cb sb)
open Cert.Proof.Fourier (ang)

/-- The words of the argument as reals. -/
def words (X : Vec Ideal S32768x1024 .bf16) (i l : ℕ) : ℝ := if h : i < 32768 ∧ l < 1024 then (X (ix2 ⟨i, h.1⟩ ⟨l, h.2⟩)).toReal else 0
theorem words_at (X : Vec Ideal S32768x1024 .bf16) (h : ∀ i, ∃ r : ℝ, X i = (r : EReal)) (i : S32768x1024.Idx) :
    X i = ((words X (i 0).val (i 1).val : ℝ) : EReal) := by
  have h0 : (i 0).val < 32768 := (i 0).isLt
  have h1 : (i 1).val < 1024 := (i 1).isLt
  have e : ix2 (⟨(i 0).val, h0⟩ : Fin 32768) (⟨(i 1).val, h1⟩ : Fin 1024) = i := by
    funext a; match a with
    | ⟨0, _⟩ => rfl
    | ⟨1, _⟩ => rfl
  unfold words
  rw [dif_pos ⟨h0, h1⟩, e]
  obtain ⟨r, hr⟩ := h i
  rw [hr, EReal.toReal_coe]

/-- The words by batch, position and column; the twiddle factors. -/
def xs (x : ℕ → ℕ → ℝ) (b p q l : ℕ) : ℝ := x (8192 * b + 128 * p + q) l
def tc (q v : ℕ) : ℝ := Real.cos (ang q v 8192)
def ts (q v : ℕ) : ℝ := Real.sin (ang q v 8192)

section Stages
variable (m : (ℓ : Loc nD τ sig) → Buf (Elt Ideal) ℓ) (c : Dev nD) (x : ℕ → ℕ → ℝ)
variable (hx : ∀ i : S32768x1024.Idx, (m ((c.tc : Thread nD τ).loc main_arg0) : Vec Ideal S32768x1024 .bf16) i = ((x (i 0).val (i 1).val : ℝ) : EReal))
include hx

theorem first (i : S4x128x32x2x1024.Idx) :
    (FftA.res (Run.VA m) c : Vec Ideal S4x128x32x2x1024 .bf16) i
      = ((stA ca sa (xs x (i 0).val) tc ts (i 1).val (2 * (i 2).val + (i 3).val) (i 4).val : ℝ) : EReal) := by
  refine StageVal.outA_val c ca sa (xs x) tc ts _ _ _ _ (fun i j => ?_) (fun i => ?_) (fun i => ?_) (fun i => ?_) i
  · exact (StageVal.stgA c (Run.VA m) i j).trans (TabVal.v66 m c i j)
  · obtain ⟨b, p, j, e, l, rfl⟩ : ∃ b p j e l, i = ix5 b p j e l := ⟨i 0, i 1, i 2, i 3, i 4, by
      funext a; match a with
      | ⟨0, _⟩ => rfl
      | ⟨1, _⟩ => rfl
      | ⟨2, _⟩ => rfl
      | ⟨3, _⟩ => rfl
      | ⟨4, _⟩ => rfl⟩
    refine (TabVal.v68 m c b p j e l).trans ((hx _).trans (congrArg (fun z : ℝ => (z : EReal)) ?_))
    show x (8192 * b.val + 128 * p.val + 2 * j.val + e.val) l.val = x (8192 * b.val + 128 * p.val + (2 * j.val + e.val)) l.val
    rw [Nat.add_assoc]
  · obtain ⟨q, v, l, rfl⟩ : ∃ q v l, i = ix3 q v l := ⟨i 0, i 1, i 2, by
      funext a; match a with
      | ⟨0, _⟩ => rfl
      | ⟨1, _⟩ => rfl
      | ⟨2, _⟩ => rfl⟩
    exact TabVal.v62 m c q v l
  · obtain ⟨q, v, l, rfl⟩ : ∃ q v l, i = ix3 q v l := ⟨i 0, i 1, i 2, by
      funext a; match a with
      | ⟨0, _⟩ => rfl
      | ⟨1, _⟩ => rfl
      | ⟨2, _⟩ => rfl⟩
    exact TabVal.v65 m c q v l

theorem second (i : S4x64x128x512.Idx) :
    (FftB.res (Run.VB m) c : Vec Ideal S4x64x128x512 .f32) i
      = ((stB cb sb (stA ca sa (xs x (i 0).val) tc ts) (i 1).val (i 2).val (i 3).val : ℝ) : EReal) := by
  refine StageVal.outB_val c cb sb (fun b => stA ca sa (xs x b) tc ts) _ _ (fun i j => ?_) (fun i => ?_) i
  · refine (StageVal.stgB c (Run.VB m) i j).trans (Eq.trans ?_ (TabVal.v67 m c i j))
    exact congrFun (Run.VB_of m c main_v67 (by decide)) _
  · exact (congrFun (Run.VB_v69 m c) i).trans (first m c x hx i)
end Stages

/-- The two stages are the transform in two steps. -/
theorem stages_two (x : ℕ → ℕ → ℝ) (b : ℕ) (v : Fin 64) (u : Fin 128) (l : Fin 512) :
    stB cb sb (stA ca sa (xs x b) tc ts) v.val u.val l.val
      = Fourier.two (fun s => x (8192 * b + s.val) l.val) (fun s => x (8192 * b + s.val) (512 + l.val)) v u := by
  have hg : ∀ q : Fin 128, gA ca sa (xs x b) q.val v.val l.val = Fourier.gr (fun s => x (8192 * b + s.val) l.val) (fun s => x (8192 * b + s.val) (512 + l.val)) v q := fun q => by
    unfold gA Fourier.gr
    refine Finset.sum_congr rfl fun p _ => ?_
    show ca v.val p.val * x (8192 * b + 128 * p.val + q.val) l.val + -sa v.val p.val * x (8192 * b + 128 * p.val + q.val) (512 + l.val)
      = ca v.val p.val * x (8192 * b + (128 * p.val + q.val)) l.val - sa v.val p.val * x (8192 * b + (128 * p.val + q.val)) (512 + l.val)
    rw [Nat.add_assoc]; ring
  have hh : ∀ q : Fin 128, hA ca sa (xs x b) q.val v.val l.val = Fourier.gi (fun s => x (8192 * b + s.val) l.val) (fun s => x (8192 * b + s.val) (512 + l.val)) v q := fun q => by
    unfold hA Fourier.gi
    refine Finset.sum_congr rfl fun p _ => ?_
    show sa v.val p.val * x (8192 * b + 128 * p.val + q.val) l.val + ca v.val p.val * x (8192 * b + 128 * p.val + q.val) (512 + l.val)
      = sa v.val p.val * x (8192 * b + (128 * p.val + q.val)) l.val + ca v.val p.val * x (8192 * b + (128 * p.val + q.val)) (512 + l.val)
    rw [Nat.add_assoc]
  unfold stB Fourier.two
  refine Finset.sum_congr rfl fun q _ => ?_
  have hl := l.isLt
  unfold stA Fourier.hr Fourier.hi
  rw [if_pos hl, if_neg (by omega), show 512 + l.val - 512 = l.val by omega, hg, hh]
  rfl

/-- The results are equal. -/
theorem same (m : (ℓ : Loc nD τ sig) → Buf (Elt Ideal) ℓ) (c : Dev nD)
    (h : Cert.Pre_finite.fn (F := Ideal) (m ((c.tc : Thread nD τ).loc main_arg0)) = fun _ => 1#1) :
    RefVal.refV (m ((c.tc : Thread nD τ).loc main_arg0)) = (FftB.res (Run.VB m) c : Vec Ideal S4x64x128x512 .f32) := by
  have hx := words_at (m ((c.tc : Thread nD τ).loc main_arg0)) (RefVal.finite _ h)
  funext i
  obtain ⟨b, v, u, l, rfl⟩ : ∃ b v u l, i = ix4 b v u l := ⟨i 0, i 1, i 2, i 3, by
    funext a; match a with
    | ⟨0, _⟩ => rfl
    | ⟨1, _⟩ => rfl
    | ⟨2, _⟩ => rfl
    | ⟨3, _⟩ => rfl⟩
  rw [RefVal.refV_at _ _ hx b v u l, ← Fourier.two_eq_whole, ← stages_two]
  exact (second m c _ hx (ix4 b v u l)).symm

end Cert.Proof.Value
end
end
-- ==== Proof.Ffn.lean ====
/- One row of the feed-forward half-step at the ideal instance, as sums over the row. -/
module

public import Idealize.ShloMosaic.Lib.Pointwise
public import Idealize.ShloMosaic.PureOps.Ideal

@[expose] public section

noncomputable section

namespace Cert.Proof.Ffn

open Idealize.ShloMosaic

/-- The norm of a row `x` with the weights `g`: each entry over the root of the mean square. -/
def norm (x g : Fin 1024 → EReal) (d : Fin 1024) : EReal :=
  x d * Ideal.rsqrt (Ideal.div (∑ k, x k * x k) (Ideal.ofBits .f32 0x44800000#32) + Ideal.ofBits .f32 0x358637BD#32) * g d

/-- The norm of a row, scaled by `1 + c` and moved by `s`. -/
def modu (x g s c : Fin 1024 → EReal) (d : Fin 1024) : EReal :=
  norm x g d * (1 + c d) + s d

/-- The gated hidden row of a row `h`. -/
def gated (h : Fin 1024 → EReal) (wg wu : Fin 1024 → Fin 2816 → EReal) (j : Fin 2816) : EReal :=
  (∑ k, h k * wg k j) * Ideal.logistic (∑ k, h k * wg k j) * ∑ k, h k * wu k j

/-- The half-step: the row with half of `t` times the feed-forward result added. -/
def step (x g s c t : Fin 1024 → EReal) (wg wu : Fin 1024 → Fin 2816 → EReal) (wd : Fin 2816 → Fin 1024 → EReal) (d : Fin 1024) : EReal :=
  x d + Ideal.ofBits .f32 0x3F000000#32 * t d * ∑ j, gated (modu x g s c) wg wu j * wd j d

/-- Row `i` of an array of four batches. -/
def row (X : Fin 4 → Fin 8192 → Fin 1024 → EReal) (i : Fin 32768) : Fin 1024 → EReal :=
  X ⟨i.val / 8192, by omega⟩ ⟨i.val % 8192, by omega⟩

/-- The `n`-th of the nine vectors of the batch of row `i`. -/
def vec (M : Fin 4 → Fin 9216 → EReal) (n : Fin 9) (i : Fin 32768) (k : Fin 1024) : EReal :=
  M ⟨i.val / 8192, by omega⟩ ⟨1024 * n.val + k.val, by omega⟩

/-- Row `i` of the half-step whose vectors start at the `n`-th. -/
def half (X : Fin 4 → Fin 8192 → Fin 1024 → EReal) (M : Fin 4 → Fin 9216 → EReal) (g : Fin 1024 → EReal) (wg wu : Fin 1024 → Fin 2816 → EReal)
    (wd : Fin 2816 → Fin 1024 → EReal) (n : ℕ) (hn : n + 2 < 9) (i : Fin 32768) : Fin 1024 → EReal :=
  step (row X i) g (vec M ⟨n, by omega⟩ i) (vec M ⟨n + 1, by omega⟩ i) (vec M ⟨n + 2, hn⟩ i) wg wu wd

end Cert.Proof.Ffn
end
end
-- ==== Proof.Ffn2.lean ====
/- The first half-step's call at the ideal instance: its array after the run, entry by entry. -/
module

public import proofs.«01_k».proof.Proof.Ffn
public import proofs.«01_k».proof.Proof.Gen.Kernel2Ideal.Value

@[expose] public section

noncomputable section

namespace Cert.Proof.Ffn2

open Cert.Kernel2Ideal Cert.Kernel2Ideal.Gen
open Idealize.ShloMosaic Idealize.ShloMosaic.TcCoe

set_option maxRecDepth 16384
/-- The normed and moved block. -/
def hid (v0 v2 : Vec Ideal S1x1x1024 .f32) (v6 : Vec Ideal S512x1024 .f32) (v8 : Vec Ideal S1x1024 .f32) : FVec Ideal S512x1024 .f32 :=
  addf (mulf (mulf (mulf (k0_pay3 v6) (broadcastTo S512x1024 (rsqrt (addf (divf (shapeCast S512x1 (multiReduction .add [1] S512 (mulf (k0_pay3 v6) (k0_pay3 v6)) 0x00000000#32 reduces_S512x1024_S512 (.inl rfl) rfl) shapeCasts_S512_S512x1) (broadcast S512x1 (Scalar.ofBits .f32 0x44800000#32 : Ideal .f32))) (broadcast S512x1 (Scalar.ofBits .f32 0x358637BD#32 : Ideal .f32)))) broadcasts_S512x1_S512x1024)) (broadcastTo S512x1024 (shapeCast S1x1024 v8 shapeCasts_S1x1024_S1x1024) broadcasts_S1x1024_S512x1024)) (broadcastTo S512x1024 (addf (broadcast S1x1024 (Scalar.ofBits .f32 0x3F800000#32 : Ideal .f32)) (shapeCast S1x1024 v2 shapeCasts_S1x1x1024_S1x1024)) broadcasts_S1x1024_S512x1024)) (broadcastTo S512x1024 (shapeCast S1x1024 v0 shapeCasts_S1x1x1024_S1x1024) broadcasts_S1x1024_S512x1024)

theorem hid_at (v0 v2 : Vec Ideal S1x1x1024 .f32) (v6 : Vec Ideal S512x1024 .f32) (v8 : Vec Ideal S1x1024 .f32) (r : Fin 512) (d : Fin 1024) :
    hid v0 v2 v6 v8 (ix2 r d) = Ffn.modu (fun k => v6 (ix2 r k)) (fun k => v8 (ix2 0 k)) (fun k => v0 (ix3 0 0 k)) (fun k => v2 (ix3 0 0 k)) d := by
  pointwise [hid, k0_pay3]
  rfl

theorem pay4_at (v0 v2 : Vec Ideal S1x1x1024 .f32) (v6 : Vec Ideal S512x1024 .f32) (v8 : Vec Ideal S1x1024 .f32) (v28 v30 : Vec Ideal S1024x2816 .f32) (r : Fin 512) (j : Fin 2816) :
    k0_pay4 v0 v2 v6 v8 v28 v30 (ix2 r j) = Ffn.gated (Ffn.modu (fun k => v6 (ix2 r k)) (fun k => v8 (ix2 0 k)) (fun k => v0 (ix3 0 0 k)) (fun k => v2 (ix3 0 0 k))) (fun k j => v28 (ix2 k j)) (fun k j => v30 (ix2 k j)) j := by
  show mulf (mulf (matmul dot_S512x1024_S1024x2816_S512x2816_1_0_0_1_n_n none (hid v0 v2 v6 v8) v28 (constant S512x2816 .f32 0x00000000#32)) (logistic (matmul dot_S512x1024_S1024x2816_S512x2816_1_0_0_1_n_n none (hid v0 v2 v6 v8) v28 (constant S512x2816 .f32 0x00000000#32)))) (matmul dot_S512x1024_S1024x2816_S512x2816_1_0_0_1_n_n none (hid v0 v2 v6 v8) v30 (constant S512x2816 .f32 0x00000000#32)) (ix2 r j) = _
  pointwise
  simp only [hid_at]
  rfl

/-- The half-step's block. -/
def half (v5 : FVec Ideal S1x1024 .f32) (v7 : FVec Ideal S512x1024 .f32) (v34 : FVec Ideal S512x2816 .f32) (v37 : FVec Ideal S2816x1024 .f32) : FVec Ideal S512x1024 .f32 :=
  addf v7 (mulf (broadcastTo S512x1024 (mulf (broadcast S1x1024 (Scalar.ofBits .f32 0x3F000000#32 : Ideal .f32)) v5) broadcasts_S1x1024_S512x1024) (matmul dot_S512x2816_S2816x1024_S512x1024_1_0_0_1_n_n none v34 v37 (constant S512x1024 .f32 0x00000000#32)))

theorem half_at (v5 : FVec Ideal S1x1024 .f32) (v7 : FVec Ideal S512x1024 .f32) (v34 : FVec Ideal S512x2816 .f32) (v37 : FVec Ideal S2816x1024 .f32) (r : Fin 512) (d : Fin 1024) :
    half v5 v7 v34 v37 (ix2 r d) = v7 (ix2 r d) + Ideal.ofBits .f32 0x3F000000#32 * v5 (ix2 0 d) * ∑ j : Fin 2816, v34 (ix2 r j) * v37 (ix2 j d) := by
  pointwise [half]

theorem pay1_eq (v5 : FVec Ideal S1x1024 .f32) (v7 : FVec Ideal S512x1024 .f32) (v34 : FVec Ideal S512x2816 .f32) (v37 : FVec Ideal S2816x1024 .f32) :
    k0_pay1 v5 v7 v34 (Scalar.ofBits .f32 0x3F000000#32) v37 = half v5 v7 v34 v37 := rfl

variable (x0 : Vec Ideal S512x1024 .f32) (x1 : Vec Ideal S1x9x1024 .f32) (x2 : Vec Ideal S1x1024 .f32) (x3 x4 : Vec Ideal S1024x2816 .f32)
  (x5 : Vec Ideal S2816x1024 .f32) (x6 : Vec Ideal S1x1024 .f32)

theorem ld1_0 (k : Fin 1024) : View.ld x1 r0_0 (ix3 0 0 k) = x1 (ix3 0 0 k) := by
  show x1 _ = x1 _
  congr 1; funext a
  match a with
  | ⟨0, _⟩ => rfl
  | ⟨1, _⟩ => rfl
  | ⟨2, _⟩ => exact Fin.ext (by show 0 + 1 * k.val = k.val; omega)
theorem ld1_1 (k : Fin 1024) : View.ld x1 r0_1 (ix3 0 0 k) = x1 (ix3 0 1 k) := by
  show x1 _ = x1 _
  congr 1; funext a
  match a with
  | ⟨0, _⟩ => rfl
  | ⟨1, _⟩ => rfl
  | ⟨2, _⟩ => exact Fin.ext (by show 0 + 1 * k.val = k.val; omega)
theorem ld1_2 (k : Fin 1024) : View.ld x1 r0_2 (ix3 0 0 k) = x1 (ix3 0 2 k) := by
  show x1 _ = x1 _
  congr 1; funext a
  match a with
  | ⟨0, _⟩ => rfl
  | ⟨1, _⟩ => rfl
  | ⟨2, _⟩ => exact Fin.ext (by show 0 + 1 * k.val = k.val; omega)

theorem zero2 : (![0, 0] : Fin 2 → ℕ) = fun _ => 0 := funext fun a => by match a with | ⟨0, _⟩ => rfl | ⟨1, _⟩ => rfl

/-- The block a point leaves, from the blocks it reads. -/
theorem out_at (r : Fin 512) (d : Fin 1024) :
    out0_7 x0 x1 x2 x3 x4 x5 x6 (ix2 r d)
      = Ffn.step (fun k => x0 (ix2 r k)) (fun k => x2 (ix2 0 k)) (fun k => x1 (ix3 0 0 k)) (fun k => x1 (ix3 0 1 k)) (fun k => x1 (ix3 0 2 k))
          (fun k j => x3 (ix2 k j)) (fun k j => x4 (ix2 k j)) (fun j k => x5 (ix2 j k)) d := by
  have e0 : View.ld x0 r0_3 = x0 := View.ld_unit_zero zero2 _ x0
  have e2 : View.ld x2 r0_4 = x2 := View.ld_unit_zero zero2 _ x2
  have e3 : View.ld x3 r0_5 = x3 := View.ld_unit_zero zero2 _ x3
  have e4 : View.ld x4 r0_5 = x4 := View.ld_unit_zero zero2 _ x4
  have e5 : View.ld x5 r0_6 = x5 := View.ld_unit_zero zero2 _ x5
  unfold out0_7
  rw [View.canon_unit_zero zero2, e0, e2, e3, e4, e5, pay1_eq, half_at]
  simp only [pay4_at]
  unfold Ffn.step
  pointwise [k0_pay2, k0_pay3, ld1_0, ld1_1, ld1_2]

variable (m : (ℓ : Loc nD τ sig) → Buf (Elt Ideal) ℓ) (c : Dev nD)

theorem V_v0 : V m c main_v0 = shapeCast _ (m ((c : Thread nD τ).loc main_arg0)) shapeCasts_S4x8192x1024_S32768x1024 := by
  show StableHlo.after hostOps0 (fun b => m (c, b)) (Proc.tc.devRef main_v0) = _
  after_results <;> rfl
theorem V_v1 : V m c main_v1 = shapeCast _ (m ((c : Thread nD τ).loc main_arg1)) shapeCasts_S4x9216_S4x9x1024 := by
  show StableHlo.after hostOps0 (fun b => m (c, b)) (Proc.tc.devRef main_v1) = _
  after_results <;> rfl
theorem V_v2 : V m c main_v2 = shapeCast _ (m ((c : Thread nD τ).loc main_arg2)) shapeCasts_S1024_S1x1024 := by
  show StableHlo.after hostOps0 (fun b => m (c, b)) (Proc.tc.devRef main_v2) = _
  after_results <;> rfl

theorem cast0_at (A : Vec Ideal S4x8192x1024 .f32) (i : Fin 32768) (d : Fin 1024) :
    shapeCast S32768x1024 A shapeCasts_S4x8192x1024_S32768x1024 (ix2 i d) = A (ix3 ⟨i.val / 8192, by omega⟩ ⟨i.val % 8192, by omega⟩ d) := by
  pointwise
theorem cast1_at (A : Vec Ideal S4x9216 .f32) (b : Fin 4) (n : Fin 9) (d : Fin 1024) :
    shapeCast S4x9x1024 A shapeCasts_S4x9216_S4x9x1024 (ix3 b n d) = A (ix2 b ⟨1024 * n.val + d.val, by omega⟩) := by
  pointwise
  refine congrArg (fun q => A (ix2 b q)) (Fin.ext ?_)
  show n.val * 1024 + d.val = 1024 * n.val + d.val
  omega
theorem cast2_at (A : Vec Ideal S1024 .f32) (d : Fin 1024) :
    shapeCast S1x1024 A shapeCasts_S1024_S1x1024 (ix2 0 d) = A (ix1 d) := by
  pointwise

theorem map0 : ∀ t : Fin grid0.N, cc0_transform_0 (grid0.coords t) 0 = t.val := by decide +kernel
theorem map1 : ∀ t : Fin grid0.N, cc0_transform_1 (grid0.coords t) 0 = t.val / 16 := by decide +kernel
theorem map7 : ∀ t : Fin grid0.N, cc0_transform_7 (grid0.coords t) 0 = t.val := by decide +kernel

theorem blk0_at (t : Fin cfg0.N) (r : Fin 512) (d : Fin 1024) (i : Fin 32768) (hi : i.val = 512 * t.val + r.val) :
    (iblk m c 0 t : Vec Ideal S512x1024 .f32) (ix2 r d) = (V m c main_v0 : Vec Ideal S32768x1024 .f32) (ix2 i d) := by
  show (V m c main_v0 : Vec Ideal S32768x1024 .f32) _ = _
  congr 1; funext a
  match a with
  | ⟨0, _⟩ => exact Fin.ext (by show (cc0_transform_0 (grid0.coords t) 0) * 512 + 1 * r.val = i.val; rw [hi, map0]; omega)
  | ⟨1, _⟩ => exact Fin.ext (by show 0 + 1 * d.val = d.val; omega)
theorem blk1_at (t : Fin cfg0.N) (n : Fin 9) (d : Fin 1024) (b : Fin 4) (hb : b.val = t.val / 16) :
    (iblk m c 1 t : Vec Ideal S1x9x1024 .f32) (ix3 0 n d) = (V m c main_v1 : Vec Ideal S4x9x1024 .f32) (ix3 b n d) := by
  show (V m c main_v1 : Vec Ideal S4x9x1024 .f32) _ = _
  congr 1; funext a
  match a with
  | ⟨0, _⟩ => exact Fin.ext (by show (cc0_transform_1 (grid0.coords t) 0) * 1 + 1 * 0 = b.val; rw [hb, map1]; omega)
  | ⟨1, _⟩ => exact Fin.ext (by show 0 + 1 * n.val = n.val; omega)
  | ⟨2, _⟩ => exact Fin.ext (by show 0 + 1 * d.val = d.val; omega)
theorem blk2_at (t : Fin cfg0.N) (d : Fin 1024) :
    (iblk m c 2 t : Vec Ideal S1x1024 .f32) (ix2 0 d) = (V m c main_v2 : Vec Ideal S1x1024 .f32) (ix2 0 d) := by
  show (V m c main_v2 : Vec Ideal S1x1024 .f32) _ = _
  congr 1; funext a
  match a with
  | ⟨0, _⟩ => rfl
  | ⟨1, _⟩ => exact Fin.ext (by show 0 + 1 * d.val = d.val; omega)
theorem blk3_at (t : Fin cfg0.N) (k : Fin 1024) (j : Fin 2816) :
    (iblk m c 3 t : Vec Ideal S1024x2816 .f32) (ix2 k j) = (V m c main_arg3 : Vec Ideal S1024x2816 .f32) (ix2 k j) := by
  show (V m c main_arg3 : Vec Ideal S1024x2816 .f32) _ = _
  congr 1; funext a
  match a with
  | ⟨0, _⟩ => exact Fin.ext (by show 0 + 1 * k.val = k.val; omega)
  | ⟨1, _⟩ => exact Fin.ext (by show 0 + 1 * j.val = j.val; omega)
theorem blk4_at (t : Fin cfg0.N) (k : Fin 1024) (j : Fin 2816) :
    (iblk m c 4 t : Vec Ideal S1024x2816 .f32) (ix2 k j) = (V m c main_arg4 : Vec Ideal S1024x2816 .f32) (ix2 k j) := by
  show (V m c main_arg4 : Vec Ideal S1024x2816 .f32) _ = _
  congr 1; funext a
  match a with
  | ⟨0, _⟩ => exact Fin.ext (by show 0 + 1 * k.val = k.val; omega)
  | ⟨1, _⟩ => exact Fin.ext (by show 0 + 1 * j.val = j.val; omega)
theorem blk5_at (t : Fin cfg0.N) (j : Fin 2816) (k : Fin 1024) :
    (iblk m c 5 t : Vec Ideal S2816x1024 .f32) (ix2 j k) = (V m c main_arg5 : Vec Ideal S2816x1024 .f32) (ix2 j k) := by
  show (V m c main_arg5 : Vec Ideal S2816x1024 .f32) _ = _
  congr 1; funext a
  match a with
  | ⟨0, _⟩ => exact Fin.ext (by show 0 + 1 * j.val = j.val; omega)
  | ⟨1, _⟩ => exact Fin.ext (by show 0 + 1 * k.val = k.val; omega)

/-- An entry of the array after the run: row `i` is row `i % 512` of what point `i / 512` wrote. -/
theorem arr_at (i : Fin 32768) (d : Fin 1024) (t : Fin cfg0.N) (r : Fin 512) (hi : i.val = 512 * t.val + r.val) :
    ((dats m 0 c).arrAt 7 cfg0.N : Vec Ideal S32768x1024 .f32) (ix2 i d)
      = out0_7 (iblk m c 0 t) (iblk m c 1 t) (iblk m c 2 t) (iblk m c 3 t) (iblk m c 4 t) (iblk m c 5 t) (iblk m c 6 t) (ix2 r d) := by
  have h := congrFun ((Value.blocks7 m c t (flush0_7 t)).trans (Value.flushed7 m c t)) (ix2 r d)
  refine Eq.trans ?_ h
  show _ = ((dats m 0 c).arrAt 7 cfg0.N : Vec Ideal S32768x1024 .f32) _
  congr 1; funext a
  match a with
  | ⟨0, _⟩ => exact Fin.ext (by show i.val = (cc0_transform_7 (grid0.coords t) 0) * 512 + 1 * r.val; rw [hi, map7]; omega)
  | ⟨1, _⟩ => exact Fin.ext (by show d.val = 0 + 1 * d.val; omega)

/-- An entry of the array after the run, from the arguments. -/
theorem kernel_at (X : Vec Ideal S4x8192x1024 .f32) (M : Vec Ideal S4x9216 .f32) (g : Vec Ideal S1024 .f32) (wg wu : Vec Ideal S1024x2816 .f32)
    (wd : Vec Ideal S2816x1024 .f32)
    (h0 : m ((c : Thread nD τ).loc main_arg0) = X) (h1 : m ((c : Thread nD τ).loc main_arg1) = M) (h2 : m ((c : Thread nD τ).loc main_arg2) = g)
    (h3 : m ((c : Thread nD τ).loc main_arg3) = wg) (h4 : m ((c : Thread nD τ).loc main_arg4) = wu) (h5 : m ((c : Thread nD τ).loc main_arg5) = wd)
    (i : Fin 32768) (d : Fin 1024) :
    ((dats m 0 c).arrAt 7 cfg0.N : Vec Ideal S32768x1024 .f32) (ix2 i d)
      = Ffn.half (fun b s k => X (ix3 b s k)) (fun b k => M (ix2 b k)) (fun k => g (ix1 k)) (fun k j => wg (ix2 k j)) (fun k j => wu (ix2 k j))
          (fun j k => wd (ix2 j k)) 0 (by omega) i d := by
  have ht : i.val / 512 < 64 := by omega
  have hb : i.val / 8192 < 4 := by omega
  rw [arr_at m c i d ⟨i.val / 512, ht⟩ ⟨i.val % 512, Nat.mod_lt _ (by omega)⟩ (by show i.val = 512 * (i.val / 512) + i.val % 512; omega), out_at]
  have v0 : (V m c main_v0 : Vec Ideal S32768x1024 .f32) = _ := (V_v0 m c).trans (by rw [h0])
  have v1 : (V m c main_v1 : Vec Ideal S4x9x1024 .f32) = _ := (V_v1 m c).trans (by rw [h1])
  have v2 : (V m c main_v2 : Vec Ideal S1x1024 .f32) = _ := (V_v2 m c).trans (by rw [h2])
  have v4 : (V m c main_arg3 : Vec Ideal S1024x2816 .f32) = _ := (V_main_arg3 m c).trans h3
  have v5 : (V m c main_arg4 : Vec Ideal S1024x2816 .f32) = _ := (V_main_arg4 m c).trans h4
  have v6 : (V m c main_arg5 : Vec Ideal S2816x1024 .f32) = _ := (V_main_arg5 m c).trans h5
  have b0 : (fun k => (iblk m c 0 ⟨i.val / 512, ht⟩ : Vec Ideal S512x1024 .f32) (ix2 ⟨i.val % 512, Nat.mod_lt _ (by omega)⟩ k)) = Ffn.row (fun b s k => X (ix3 b s k)) i := by
    funext k
    rw [blk0_at m c _ _ k i (by show i.val = 512 * (i.val / 512) + i.val % 512; omega), v0]
    exact cast0_at X i k
  have b1 : ∀ n : Fin 9, (fun k => (iblk m c 1 ⟨i.val / 512, ht⟩ : Vec Ideal S1x9x1024 .f32) (ix3 0 n k)) = Ffn.vec (fun b k => M (ix2 b k)) n i := by
    intro n; funext k
    rw [blk1_at m c _ n k ⟨i.val / 8192, hb⟩ (by show i.val / 8192 = i.val / 512 / 16; omega), v1]
    exact cast1_at M _ n k
  have b2 : (fun k => (iblk m c 2 ⟨i.val / 512, ht⟩ : Vec Ideal S1x1024 .f32) (ix2 0 k)) = fun k => g (ix1 k) := by
    funext k; rw [blk2_at, v2]; exact cast2_at g k
  have b3 : (fun k j => (iblk m c 3 ⟨i.val / 512, ht⟩ : Vec Ideal S1024x2816 .f32) (ix2 k j)) = fun k j => wg (ix2 k j) := by
    funext k j; rw [blk3_at, v4]
  have b4 : (fun k j => (iblk m c 4 ⟨i.val / 512, ht⟩ : Vec Ideal S1024x2816 .f32) (ix2 k j)) = fun k j => wu (ix2 k j) := by
    funext k j; rw [blk4_at, v5]
  have b5 : (fun j k => (iblk m c 5 ⟨i.val / 512, ht⟩ : Vec Ideal S2816x1024 .f32) (ix2 j k)) = fun j k => wd (ix2 j k) := by
    funext j k; rw [blk5_at, v6]
  unfold Ffn.half
  rw [← b0, ← b2, ← b3, ← b4, ← b5, ← b1, ← b1, ← b1]
  rfl
end Cert.Proof.Ffn2
end
end
-- ==== Proof.Ffn2Ref.lean ====
/- The first half-step of the reference at the ideal instance, entry by entry. -/
module

public import proofs.«01_k».proof.Proof.Ffn
public import proofs.«01_k».proof.Proof.Gen.Reference2Ideal.Run

@[expose] public section

noncomputable section

namespace Cert.Proof.Ffn2Ref

open Cert.Reference2Ideal Cert.Reference2Ideal.Gen
open Idealize.ShloMosaic Idealize.ShloMosaic.TcCoe

set_option maxRecDepth 16384

/-- The normed and moved rows. -/
def hid (X : Vec Ideal S4x8192x1024 .f32) (M : Vec Ideal S4x9216 .f32) (g : Vec Ideal S1024 .f32) : FVec Ideal S4x8192x1024 .f32 :=
  addf (mulf (mulf (mulf X (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] M slices_S4x9216_S4x1024_0_1024))))) (broadcastInDim S4x8192x1024 ![0, 1, 2] bcast_S4x1x1024_S4x8192x1024_0_1_2 (broadcastInDim S4x1x1024 ![0, 2] bcast_S4x1024_S4x1x1024_0_2 (extractStridedSlice S4x1024 ![0, 0] M slices_S4x9216_S4x1024_0_0)))

theorem hid_at (X : Vec Ideal S4x8192x1024 .f32) (M : Vec Ideal S4x9216 .f32) (g : Vec Ideal S1024 .f32) (b : Fin 4) (s : Fin 8192) (d : Fin 1024) :
    hid X M g (ix3 b s d) = Ffn.modu (fun k => X (ix3 b s k)) (fun k => g (ix1 k)) (fun k => M (ix2 b ⟨0 + k.val, by omega⟩)) (fun k => M (ix2 b ⟨1024 + k.val, by omega⟩)) d := by
  pointwise [hid]
  unfold Ffn.modu Ffn.norm
  first | rfl | simp only [zero_add, Nat.zero_add]

/-- The gated hidden rows. -/
def gat (X : Vec Ideal S4x8192x1024 .f32) (M : Vec Ideal S4x9216 .f32) (g : Vec Ideal S1024 .f32) (wg wu : Vec Ideal S1024x2816 .f32) : FVec Ideal S4x8192x2816 .f32 :=
  mulf (mulf (Host.dotGeneral (φ₁ := .f32) (φ₂ := .f32) dot_S4x8192x1024_S1024x2816_S4x8192x2816_2_0_01_1_n_n none (hid X M g) wg) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (Host.dotGeneral (φ₁ := .f32) (φ₂ := .f32) dot_S4x8192x1024_S1024x2816_S4x8192x2816_2_0_01_1_n_n none (hid X M g) wg)))))) (Host.dotGeneral (φ₁ := .f32) (φ₂ := .f32) dot_S4x8192x1024_S1024x2816_S4x8192x2816_2_0_01_1_n_n none (hid X M g) wu)

theorem gat_at (X : Vec Ideal S4x8192x1024 .f32) (M : Vec Ideal S4x9216 .f32) (g : Vec Ideal S1024 .f32) (wg wu : Vec Ideal S1024x2816 .f32) (b : Fin 4) (s : Fin 8192) (j : Fin 2816) :
    gat X M g wg wu (ix3 b s j) = Ffn.gated (Ffn.modu (fun k => X (ix3 b s k)) (fun k => g (ix1 k)) (fun k => M (ix2 b ⟨0 + k.val, by omega⟩)) (fun k => M (ix2 b ⟨1024 + k.val, by omega⟩))) (fun k j => wg (ix2 k j)) (fun k j => wu (ix2 k j)) j := by
  pointwise [gat]
  simp only [hid_at]
  rfl

/-- The rows with the half-step added. -/
def half (X : Vec Ideal S4x8192x1024 .f32) (M : Vec Ideal S4x9216 .f32) (g : Vec Ideal S1024 .f32) (wg wu : Vec Ideal S1024x2816 .f32)
    (wd : Vec Ideal S2816x1024 .f32) : FVec Ideal S4x8192x1024 .f32 :=
  addf X (mulf (broadcastInDim S4x8192x1024 ![0, 1, 2] bcast_S4x1x1024_S4x8192x1024_0_1_2 (mulf (broadcastInDim S4x1x1024 ![] bcast_S_S4x1x1024 (constant S_ .f32 0x3F000000#32)) (broadcastInDim S4x1x1024 ![0, 2] bcast_S4x1024_S4x1x1024_0_2 (extractStridedSlice S4x1024 ![0, 2048] M slices_S4x9216_S4x1024_0_2048)))) (Host.dotGeneral (φ₁ := .f32) (φ₂ := .f32) dot_S4x8192x2816_S2816x1024_S4x8192x1024_2_0_01_1_n_n none (gat X M g wg wu) wd))

theorem half_at (X : Vec Ideal S4x8192x1024 .f32) (M : Vec Ideal S4x9216 .f32) (g : Vec Ideal S1024 .f32) (wg wu : Vec Ideal S1024x2816 .f32)
    (wd : Vec Ideal S2816x1024 .f32) (b : Fin 4) (s : Fin 8192) (d : Fin 1024) :
    half X M g wg wu wd (ix3 b s d) = Ffn.step (fun k => X (ix3 b s k)) (fun k => g (ix1 k)) (fun k => M (ix2 b ⟨0 + k.val, by omega⟩)) (fun k => M (ix2 b ⟨1024 + k.val, by omega⟩)) (fun k => M (ix2 b ⟨2048 + k.val, by omega⟩)) (fun k j => wg (ix2 k j)) (fun k j => wu (ix2 k j)) (fun j k => wd (ix2 j k)) d := by
  pointwise [half]
  simp only [gat_at]
  rfl

/-- The reference's result. -/
def res (X : Vec Ideal S4x8192x1024 .f32) (M : Vec Ideal S4x9216 .f32) (g : Vec Ideal S1024 .f32) (wg wu : Vec Ideal S1024x2816 .f32)
    (wd : Vec Ideal S2816x1024 .f32) : FVec Ideal S32768x1024 .f32 :=
  shapeCast _ (half X M g wg wu wd) shapeCasts_S4x8192x1024_S32768x1024

theorem res_at (X : Vec Ideal S4x8192x1024 .f32) (M : Vec Ideal S4x9216 .f32) (g : Vec Ideal S1024 .f32) (wg wu : Vec Ideal S1024x2816 .f32)
    (wd : Vec Ideal S2816x1024 .f32) (i : Fin 32768) (d : Fin 1024) :
    res X M g wg wu wd (ix2 i d)
      = Ffn.half (fun b s k => X (ix3 b s k)) (fun b k => M (ix2 b k)) (fun k => g (ix1 k)) (fun k j => wg (ix2 k j)) (fun k j => wu (ix2 k j))
          (fun j k => wd (ix2 j k)) 0 (by omega) i d := by
  pointwise [res]
  rw [half_at]
  rfl

theorem res_eq (m : (ℓ : Loc nD τ sig) → Buf (Elt Ideal) ℓ) (c : Dev nD) :
    Value.res_out0 m c = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

end Cert.Proof.Ffn2Ref
end
end
-- ==== Proof.Ffn3.lean ====
/- The second half-step's call at the ideal instance: its array after the run, entry by entry. -/
module

public import proofs.«01_k».proof.Proof.Ffn
public import proofs.«01_k».proof.Proof.Gen.Kernel3Ideal.Value

@[expose] public section

noncomputable section

namespace Cert.Proof.Ffn3

open Cert.Kernel3Ideal Cert.Kernel3Ideal.Gen
open Idealize.ShloMosaic Idealize.ShloMosaic.TcCoe

set_option maxRecDepth 16384
/-- The normed and moved block. -/
def hid (v0 v2 : Vec Ideal S1x1x1024 .f32) (v6 : Vec Ideal S512x1024 .f32) (v8 : Vec Ideal S1x1024 .f32) : FVec Ideal S512x1024 .f32 :=
  addf (mulf (mulf (mulf (k0_pay3 v6) (broadcastTo S512x1024 (rsqrt (addf (divf (shapeCast S512x1 (multiReduction .add [1] S512 (mulf (k0_pay3 v6) (k0_pay3 v6)) 0x00000000#32 reduces_S512x1024_S512 (.inl rfl) rfl) shapeCasts_S512_S512x1) (broadcast S512x1 (Scalar.ofBits .f32 0x44800000#32 : Ideal .f32))) (broadcast S512x1 (Scalar.ofBits .f32 0x358637BD#32 : Ideal .f32)))) broadcasts_S512x1_S512x1024)) (broadcastTo S512x1024 (shapeCast S1x1024 v8 shapeCasts_S1x1024_S1x1024) broadcasts_S1x1024_S512x1024)) (broadcastTo S512x1024 (addf (broadcast S1x1024 (Scalar.ofBits .f32 0x3F800000#32 : Ideal .f32)) (shapeCast S1x1024 v2 shapeCasts_S1x1x1024_S1x1024)) broadcasts_S1x1024_S512x1024)) (broadcastTo S512x1024 (shapeCast S1x1024 v0 shapeCasts_S1x1x1024_S1x1024) broadcasts_S1x1024_S512x1024)

theorem hid_at (v0 v2 : Vec Ideal S1x1x1024 .f32) (v6 : Vec Ideal S512x1024 .f32) (v8 : Vec Ideal S1x1024 .f32) (r : Fin 512) (d : Fin 1024) :
    hid v0 v2 v6 v8 (ix2 r d) = Ffn.modu (fun k => v6 (ix2 r k)) (fun k => v8 (ix2 0 k)) (fun k => v0 (ix3 0 0 k)) (fun k => v2 (ix3 0 0 k)) d := by
  pointwise [hid, k0_pay3]
  rfl

theorem pay4_at (v0 v2 : Vec Ideal S1x1x1024 .f32) (v6 : Vec Ideal S512x1024 .f32) (v8 : Vec Ideal S1x1024 .f32) (v28 v30 : Vec Ideal S1024x2816 .f32) (r : Fin 512) (j : Fin 2816) :
    k0_pay4 v0 v2 v6 v8 v28 v30 (ix2 r j) = Ffn.gated (Ffn.modu (fun k => v6 (ix2 r k)) (fun k => v8 (ix2 0 k)) (fun k => v0 (ix3 0 0 k)) (fun k => v2 (ix3 0 0 k))) (fun k j => v28 (ix2 k j)) (fun k j => v30 (ix2 k j)) j := by
  show mulf (mulf (matmul dot_S512x1024_S1024x2816_S512x2816_1_0_0_1_n_n none (hid v0 v2 v6 v8) v28 (constant S512x2816 .f32 0x00000000#32)) (logistic (matmul dot_S512x1024_S1024x2816_S512x2816_1_0_0_1_n_n none (hid v0 v2 v6 v8) v28 (constant S512x2816 .f32 0x00000000#32)))) (matmul dot_S512x1024_S1024x2816_S512x2816_1_0_0_1_n_n none (hid v0 v2 v6 v8) v30 (constant S512x2816 .f32 0x00000000#32)) (ix2 r j) = _
  pointwise
  simp only [hid_at]
  rfl

/-- The half-step's block before the last norm. -/
def half (v5 : FVec Ideal S1x1024 .f32) (v7 : FVec Ideal S512x1024 .f32) (v34 : FVec Ideal S512x2816 .f32) (v37 : FVec Ideal S2816x1024 .f32) : FVec Ideal S512x1024 .f32 :=
  addf v7 (mulf (broadcastTo S512x1024 (mulf (broadcast S1x1024 (Scalar.ofBits .f32 0x3F000000#32 : Ideal .f32)) v5) broadcasts_S1x1024_S512x1024) (matmul dot_S512x2816_S2816x1024_S512x1024_1_0_0_1_n_n none v34 v37 (constant S512x1024 .f32 0x00000000#32)))

theorem half_at (v5 : FVec Ideal S1x1024 .f32) (v7 : FVec Ideal S512x1024 .f32) (v34 : FVec Ideal S512x2816 .f32) (v37 : FVec Ideal S2816x1024 .f32) (r : Fin 512) (d : Fin 1024) :
    half v5 v7 v34 v37 (ix2 r d) = v7 (ix2 r d) + Ideal.ofBits .f32 0x3F000000#32 * v5 (ix2 0 d) * ∑ j : Fin 2816, v34 (ix2 r j) * v37 (ix2 j d) := by
  pointwise [half]

theorem pay1_at (v5 : FVec Ideal S1x1024 .f32) (v7 : FVec Ideal S512x1024 .f32) (v34 : FVec Ideal S512x2816 .f32) (v37 : FVec Ideal S2816x1024 .f32) (v42 : Vec Ideal S1x1024 .f32) (r : Fin 512) (d : Fin 1024) :
    k0_pay1 v5 v7 v34 (Scalar.ofBits .f32 0x3F000000#32) v37 v42 (ix2 r d) = Ffn.norm (fun k => half v5 v7 v34 v37 (ix2 r k)) (fun k => v42 (ix2 0 k)) d := by
  show mulf (mulf (half v5 v7 v34 v37) (broadcastTo S512x1024 (rsqrt (addf (divf (shapeCast S512x1 (multiReduction .add [1] S512 (mulf (half v5 v7 v34 v37) (half v5 v7 v34 v37)) 0x00000000#32 reduces_S512x1024_S512 (.inl rfl) rfl) shapeCasts_S512_S512x1) (broadcast S512x1 (Scalar.ofBits .f32 0x44800000#32 : Ideal .f32))) (broadcast S512x1 (Scalar.ofBits .f32 0x358637BD#32 : Ideal .f32)))) broadcasts_S512x1_S512x1024)) (broadcastTo S512x1024 (shapeCast S1x1024 v42 shapeCasts_S1x1024_S1x1024) broadcasts_S1x1024_S512x1024) (ix2 r d) = _
  pointwise
  rfl

variable (x0 : Vec Ideal S512x1024 .f32) (x1 : Vec Ideal S1x9x1024 .f32) (x2 : Vec Ideal S1x1024 .f32) (x3 x4 : Vec Ideal S1024x2816 .f32)
  (x5 : Vec Ideal S2816x1024 .f32) (x6 : Vec Ideal S1x1024 .f32)

theorem ld1_0 (k : Fin 1024) : View.ld x1 r0_0 (ix3 0 0 k) = x1 (ix3 0 6 k) := by
  show x1 _ = x1 _
  congr 1; funext a
  match a with
  | ⟨0, _⟩ => rfl
  | ⟨1, _⟩ => rfl
  | ⟨2, _⟩ => exact Fin.ext (by show 0 + 1 * k.val = k.val; omega)
theorem ld1_1 (k : Fin 1024) : View.ld x1 r0_1 (ix3 0 0 k) = x1 (ix3 0 7 k) := by
  show x1 _ = x1 _
  congr 1; funext a
  match a with
  | ⟨0, _⟩ => rfl
  | ⟨1, _⟩ => rfl
  | ⟨2, _⟩ => exact Fin.ext (by show 0 + 1 * k.val = k.val; omega)
theorem ld1_2 (k : Fin 1024) : View.ld x1 r0_2 (ix3 0 0 k) = x1 (ix3 0 8 k) := by
  show x1 _ = x1 _
  congr 1; funext a
  match a with
  | ⟨0, _⟩ => rfl
  | ⟨1, _⟩ => rfl
  | ⟨2, _⟩ => exact Fin.ext (by show 0 + 1 * k.val = k.val; omega)

theorem zero2 : (![0, 0] : Fin 2 → ℕ) = fun _ => 0 := funext fun a => by match a with | ⟨0, _⟩ => rfl | ⟨1, _⟩ => rfl

/-- The block a point leaves, from the blocks it reads. -/
theorem out_at (r : Fin 512) (d : Fin 1024) :
    out0_7 x0 x1 x2 x3 x4 x5 x6 (ix2 r d)
      = Ffn.norm (Ffn.step (fun k => x0 (ix2 r k)) (fun k => x2 (ix2 0 k)) (fun k => x1 (ix3 0 6 k)) (fun k => x1 (ix3 0 7 k)) (fun k => x1 (ix3 0 8 k))
          (fun k j => x3 (ix2 k j)) (fun k j => x4 (ix2 k j)) (fun j k => x5 (ix2 j k))) (fun k => x6 (ix2 0 k)) d := by
  have e0 : View.ld x0 r0_3 = x0 := View.ld_unit_zero zero2 _ x0
  have e2 : View.ld x2 r0_4 = x2 := View.ld_unit_zero zero2 _ x2
  have e3 : View.ld x3 r0_5 = x3 := View.ld_unit_zero zero2 _ x3
  have e4 : View.ld x4 r0_5 = x4 := View.ld_unit_zero zero2 _ x4
  have e5 : View.ld x5 r0_6 = x5 := View.ld_unit_zero zero2 _ x5
  have e6 : View.ld x6 r0_4 = x6 := View.ld_unit_zero zero2 _ x6
  unfold out0_7
  rw [View.canon_unit_zero zero2, e0, e2, e3, e4, e5, e6, pay1_at]
  refine congrArg (fun f => Ffn.norm f _ d) (funext fun k => ?_)
  rw [half_at]
  simp only [pay4_at]
  unfold Ffn.step
  pointwise [k0_pay2, k0_pay3, ld1_0, ld1_1, ld1_2]

variable (m : (ℓ : Loc nD τ sig) → Buf (Elt Ideal) ℓ) (c : Dev nD)

theorem V_v0 : V m c main_v0 = shapeCast _ (m ((c : Thread nD τ).loc main_arg0)) shapeCasts_S4x8192x1024_S32768x1024 := by
  show StableHlo.after hostOps0 (fun b => m (c, b)) (Proc.tc.devRef main_v0) = _
  after_results <;> rfl
theorem V_v1 : V m c main_v1 = shapeCast _ (m ((c : Thread nD τ).loc main_arg1)) shapeCasts_S4x9216_S4x9x1024 := by
  show StableHlo.after hostOps0 (fun b => m (c, b)) (Proc.tc.devRef main_v1) = _
  after_results <;> rfl
theorem V_v2 : V m c main_v2 = shapeCast _ (m ((c : Thread nD τ).loc main_arg2)) shapeCasts_S1024_S1x1024 := by
  show StableHlo.after hostOps0 (fun b => m (c, b)) (Proc.tc.devRef main_v2) = _
  after_results <;> rfl
theorem V_v3 : V m c main_v3 = shapeCast _ (m ((c : Thread nD τ).loc main_arg6)) shapeCasts_S1024_S1x1024 := by
  show StableHlo.after hostOps0 (fun b => m (c, b)) (Proc.tc.devRef main_v3) = _
  after_results <;> rfl

theorem cast0_at (A : Vec Ideal S4x8192x1024 .f32) (i : Fin 32768) (d : Fin 1024) :
    shapeCast S32768x1024 A shapeCasts_S4x8192x1024_S32768x1024 (ix2 i d) = A (ix3 ⟨i.val / 8192, by omega⟩ ⟨i.val % 8192, by omega⟩ d) := by
  pointwise
theorem cast1_at (A : Vec Ideal S4x9216 .f32) (b : Fin 4) (n : Fin 9) (d : Fin 1024) :
    shapeCast S4x9x1024 A shapeCasts_S4x9216_S4x9x1024 (ix3 b n d) = A (ix2 b ⟨1024 * n.val + d.val, by omega⟩) := by
  pointwise
  refine congrArg (fun q => A (ix2 b q)) (Fin.ext ?_)
  show n.val * 1024 + d.val = 1024 * n.val + d.val
  omega
theorem cast2_at (A : Vec Ideal S1024 .f32) (d : Fin 1024) :
    shapeCast S1x1024 A shapeCasts_S1024_S1x1024 (ix2 0 d) = A (ix1 d) := by
  pointwise

theorem map0 : ∀ t : Fin grid0.N, cc0_transform_0 (grid0.coords t) 0 = t.val := by decide +kernel
theorem map1 : ∀ t : Fin grid0.N, cc0_transform_1 (grid0.coords t) 0 = t.val / 16 := by decide +kernel
theorem map7 : ∀ t : Fin grid0.N, cc0_transform_7 (grid0.coords t) 0 = t.val := by decide +kernel

theorem blk0_at (t : Fin cfg0.N) (r : Fin 512) (d : Fin 1024) (i : Fin 32768) (hi : i.val = 512 * t.val + r.val) :
    (iblk m c 0 t : Vec Ideal S512x1024 .f32) (ix2 r d) = (V m c main_v0 : Vec Ideal S32768x1024 .f32) (ix2 i d) := by
  show (V m c main_v0 : Vec Ideal S32768x1024 .f32) _ = _
  congr 1; funext a
  match a with
  | ⟨0, _⟩ => exact Fin.ext (by show (cc0_transform_0 (grid0.coords t) 0) * 512 + 1 * r.val = i.val; rw [hi, map0]; omega)
  | ⟨1, _⟩ => exact Fin.ext (by show 0 + 1 * d.val = d.val; omega)
theorem blk1_at (t : Fin cfg0.N) (n : Fin 9) (d : Fin 1024) (b : Fin 4) (hb : b.val = t.val / 16) :
    (iblk m c 1 t : Vec Ideal S1x9x1024 .f32) (ix3 0 n d) = (V m c main_v1 : Vec Ideal S4x9x1024 .f32) (ix3 b n d) := by
  show (V m c main_v1 : Vec Ideal S4x9x1024 .f32) _ = _
  congr 1; funext a
  match a with
  | ⟨0, _⟩ => exact Fin.ext (by show (cc0_transform_1 (grid0.coords t) 0) * 1 + 1 * 0 = b.val; rw [hb, map1]; omega)
  | ⟨1, _⟩ => exact Fin.ext (by show 0 + 1 * n.val = n.val; omega)
  | ⟨2, _⟩ => exact Fin.ext (by show 0 + 1 * d.val = d.val; omega)
theorem blk2_at (t : Fin cfg0.N) (d : Fin 1024) :
    (iblk m c 2 t : Vec Ideal S1x1024 .f32) (ix2 0 d) = (V m c main_v2 : Vec Ideal S1x1024 .f32) (ix2 0 d) := by
  show (V m c main_v2 : Vec Ideal S1x1024 .f32) _ = _
  congr 1; funext a
  match a with
  | ⟨0, _⟩ => rfl
  | ⟨1, _⟩ => exact Fin.ext (by show 0 + 1 * d.val = d.val; omega)
theorem blk3_at (t : Fin cfg0.N) (k : Fin 1024) (j : Fin 2816) :
    (iblk m c 3 t : Vec Ideal S1024x2816 .f32) (ix2 k j) = (V m c main_arg3 : Vec Ideal S1024x2816 .f32) (ix2 k j) := by
  show (V m c main_arg3 : Vec Ideal S1024x2816 .f32) _ = _
  congr 1; funext a
  match a with
  | ⟨0, _⟩ => exact Fin.ext (by show 0 + 1 * k.val = k.val; omega)
  | ⟨1, _⟩ => exact Fin.ext (by show 0 + 1 * j.val = j.val; omega)
theorem blk4_at (t : Fin cfg0.N) (k : Fin 1024) (j : Fin 2816) :
    (iblk m c 4 t : Vec Ideal S1024x2816 .f32) (ix2 k j) = (V m c main_arg4 : Vec Ideal S1024x2816 .f32) (ix2 k j) := by
  show (V m c main_arg4 : Vec Ideal S1024x2816 .f32) _ = _
  congr 1; funext a
  match a with
  | ⟨0, _⟩ => exact Fin.ext (by show 0 + 1 * k.val = k.val; omega)
  | ⟨1, _⟩ => exact Fin.ext (by show 0 + 1 * j.val = j.val; omega)
theorem blk5_at (t : Fin cfg0.N) (j : Fin 2816) (k : Fin 1024) :
    (iblk m c 5 t : Vec Ideal S2816x1024 .f32) (ix2 j k) = (V m c main_arg5 : Vec Ideal S2816x1024 .f32) (ix2 j k) := by
  show (V m c main_arg5 : Vec Ideal S2816x1024 .f32) _ = _
  congr 1; funext a
  match a with
  | ⟨0, _⟩ => exact Fin.ext (by show 0 + 1 * j.val = j.val; omega)
  | ⟨1, _⟩ => exact Fin.ext (by show 0 + 1 * k.val = k.val; omega)
theorem blk6_at (t : Fin cfg0.N) (d : Fin 1024) :
    (iblk m c 6 t : Vec Ideal S1x1024 .f32) (ix2 0 d) = (V m c main_v3 : Vec Ideal S1x1024 .f32) (ix2 0 d) := by
  show (V m c main_v3 : Vec Ideal S1x1024 .f32) _ = _
  congr 1; funext a
  match a with
  | ⟨0, _⟩ => rfl
  | ⟨1, _⟩ => exact Fin.ext (by show 0 + 1 * d.val = d.val; omega)

/-- An entry of the array after the run: row `i` is row `i % 512` of what point `i / 512` wrote. -/
theorem arr_at (i : Fin 32768) (d : Fin 1024) (t : Fin cfg0.N) (r : Fin 512) (hi : i.val = 512 * t.val + r.val) :
    ((dats m 0 c).arrAt 7 cfg0.N : Vec Ideal S32768x1024 .f32) (ix2 i d)
      = out0_7 (iblk m c 0 t) (iblk m c 1 t) (iblk m c 2 t) (iblk m c 3 t) (iblk m c 4 t) (iblk m c 5 t) (iblk m c 6 t) (ix2 r d) := by
  have h := congrFun ((Value.blocks7 m c t (flush0_7 t)).trans (Value.flushed7 m c t)) (ix2 r d)
  refine Eq.trans ?_ h
  show _ = ((dats m 0 c).arrAt 7 cfg0.N : Vec Ideal S32768x1024 .f32) _
  congr 1; funext a
  match a with
  | ⟨0, _⟩ => exact Fin.ext (by show i.val = (cc0_transform_7 (grid0.coords t) 0) * 512 + 1 * r.val; rw [hi, map7]; omega)
  | ⟨1, _⟩ => exact Fin.ext (by show d.val = 0 + 1 * d.val; omega)

/-- An entry of the array after the run, from the arguments. -/
theorem kernel_at (X : Vec Ideal S4x8192x1024 .f32) (M : Vec Ideal S4x9216 .f32) (g : Vec Ideal S1024 .f32) (wg wu : Vec Ideal S1024x2816 .f32)
    (wd : Vec Ideal S2816x1024 .f32) (f : Vec Ideal S1024 .f32)
    (h0 : m ((c : Thread nD τ).loc main_arg0) = X) (h1 : m ((c : Thread nD τ).loc main_arg1) = M) (h2 : m ((c : Thread nD τ).loc main_arg2) = g)
    (h3 : m ((c : Thread nD τ).loc main_arg3) = wg) (h4 : m ((c : Thread nD τ).loc main_arg4) = wu) (h5 : m ((c : Thread nD τ).loc main_arg5) = wd)
    (h6 : m ((c : Thread nD τ).loc main_arg6) = f) (i : Fin 32768) (d : Fin 1024) :
    ((dats m 0 c).arrAt 7 cfg0.N : Vec Ideal S32768x1024 .f32) (ix2 i d)
      = Ffn.norm (Ffn.half (fun b s k => X (ix3 b s k)) (fun b k => M (ix2 b k)) (fun k => g (ix1 k)) (fun k j => wg (ix2 k j)) (fun k j => wu (ix2 k j))
          (fun j k => wd (ix2 j k)) 6 (by omega) i) (fun k => f (ix1 k)) d := by
  have ht : i.val / 512 < 64 := by omega
  have hb : i.val / 8192 < 4 := by omega
  rw [arr_at m c i d ⟨i.val / 512, ht⟩ ⟨i.val % 512, Nat.mod_lt _ (by omega)⟩ (by show i.val = 512 * (i.val / 512) + i.val % 512; omega), out_at]
  have v0 : (V m c main_v0 : Vec Ideal S32768x1024 .f32) = _ := (V_v0 m c).trans (by rw [h0])
  have v1 : (V m c main_v1 : Vec Ideal S4x9x1024 .f32) = _ := (V_v1 m c).trans (by rw [h1])
  have v2 : (V m c main_v2 : Vec Ideal S1x1024 .f32) = _ := (V_v2 m c).trans (by rw [h2])
  have v3 : (V m c main_v3 : Vec Ideal S1x1024 .f32) = _ := (V_v3 m c).trans (by rw [h6])
  have v4 : (V m c main_arg3 : Vec Ideal S1024x2816 .f32) = _ := (V_main_arg3 m c).trans h3
  have v5 : (V m c main_arg4 : Vec Ideal S1024x2816 .f32) = _ := (V_main_arg4 m c).trans h4
  have v6 : (V m c main_arg5 : Vec Ideal S2816x1024 .f32) = _ := (V_main_arg5 m c).trans h5
  have b0 : (fun k => (iblk m c 0 ⟨i.val / 512, ht⟩ : Vec Ideal S512x1024 .f32) (ix2 ⟨i.val % 512, Nat.mod_lt _ (by omega)⟩ k)) = Ffn.row (fun b s k => X (ix3 b s k)) i := by
    funext k
    rw [blk0_at m c _ _ k i (by show i.val = 512 * (i.val / 512) + i.val % 512; omega), v0]
    exact cast0_at X i k
  have b1 : ∀ n : Fin 9, (fun k => (iblk m c 1 ⟨i.val / 512, ht⟩ : Vec Ideal S1x9x1024 .f32) (ix3 0 n k)) = Ffn.vec (fun b k => M (ix2 b k)) n i := by
    intro n; funext k
    rw [blk1_at m c _ n k ⟨i.val / 8192, hb⟩ (by show i.val / 8192 = i.val / 512 / 16; omega), v1]
    exact cast1_at M _ n k
  have b2 : (fun k => (iblk m c 2 ⟨i.val / 512, ht⟩ : Vec Ideal S1x1024 .f32) (ix2 0 k)) = fun k => g (ix1 k) := by
    funext k; rw [blk2_at, v2]; exact cast2_at g k
  have b6 : (fun k => (iblk m c 6 ⟨i.val / 512, ht⟩ : Vec Ideal S1x1024 .f32) (ix2 0 k)) = fun k => f (ix1 k) := by
    funext k; rw [blk6_at, v3]; exact cast2_at f k
  have b3 : (fun k j => (iblk m c 3 ⟨i.val / 512, ht⟩ : Vec Ideal S1024x2816 .f32) (ix2 k j)) = fun k j => wg (ix2 k j) := by
    funext k j; rw [blk3_at, v4]
  have b4 : (fun k j => (iblk m c 4 ⟨i.val / 512, ht⟩ : Vec Ideal S1024x2816 .f32) (ix2 k j)) = fun k j => wu (ix2 k j) := by
    funext k j; rw [blk4_at, v5]
  have b5 : (fun j k => (iblk m c 5 ⟨i.val / 512, ht⟩ : Vec Ideal S2816x1024 .f32) (ix2 j k)) = fun j k => wd (ix2 j k) := by
    funext j k; rw [blk5_at, v6]
  unfold Ffn.half
  rw [← b0, ← b2, ← b6, ← b3, ← b4, ← b5, ← b1, ← b1, ← b1]
  rfl
end Cert.Proof.Ffn3
end
end
-- ==== Proof.Ffn3Ref.lean ====
/- The second half-step of the reference at the ideal instance, entry by entry. -/
module

public import proofs.«01_k».proof.Proof.Ffn
public import proofs.«01_k».proof.Proof.Gen.Reference3Ideal.Run

@[expose] public section

noncomputable section

namespace Cert.Proof.Ffn3Ref

open Cert.Reference3Ideal Cert.Reference3Ideal.Gen
open Idealize.ShloMosaic Idealize.ShloMosaic.TcCoe

set_option maxRecDepth 16384

/-- The normed and moved rows. -/
def hid (X : Vec Ideal S4x8192x1024 .f32) (M : Vec Ideal S4x9216 .f32) (g : Vec Ideal S1024 .f32) : FVec Ideal S4x8192x1024 .f32 :=
  addf (mulf (mulf (mulf X (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 7168] M slices_S4x9216_S4x1024_0_7168))))) (broadcastInDim S4x8192x1024 ![0, 1, 2] bcast_S4x1x1024_S4x8192x1024_0_1_2 (broadcastInDim S4x1x1024 ![0, 2] bcast_S4x1024_S4x1x1024_0_2 (extractStridedSlice S4x1024 ![0, 6144] M slices_S4x9216_S4x1024_0_6144)))

theorem hid_at (X : Vec Ideal S4x8192x1024 .f32) (M : Vec Ideal S4x9216 .f32) (g : Vec Ideal S1024 .f32) (b : Fin 4) (s : Fin 8192) (d : Fin 1024) :
    hid X M g (ix3 b s d) = Ffn.modu (fun k => X (ix3 b s k)) (fun k => g (ix1 k)) (fun k => M (ix2 b ⟨6144 + k.val, by omega⟩)) (fun k => M (ix2 b ⟨7168 + k.val, by omega⟩)) d := by
  pointwise [hid]
  unfold Ffn.modu Ffn.norm
  first | rfl | simp only [zero_add, Nat.zero_add]

/-- The gated hidden rows. -/
def gat (X : Vec Ideal S4x8192x1024 .f32) (M : Vec Ideal S4x9216 .f32) (g : Vec Ideal S1024 .f32) (wg wu : Vec Ideal S1024x2816 .f32) : FVec Ideal S4x8192x2816 .f32 :=
  mulf (mulf (Host.dotGeneral (φ₁ := .f32) (φ₂ := .f32) dot_S4x8192x1024_S1024x2816_S4x8192x2816_2_0_01_1_n_n none (hid X M g) wg) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (Host.dotGeneral (φ₁ := .f32) (φ₂ := .f32) dot_S4x8192x1024_S1024x2816_S4x8192x2816_2_0_01_1_n_n none (hid X M g) wg)))))) (Host.dotGeneral (φ₁ := .f32) (φ₂ := .f32) dot_S4x8192x1024_S1024x2816_S4x8192x2816_2_0_01_1_n_n none (hid X M g) wu)

theorem gat_at (X : Vec Ideal S4x8192x1024 .f32) (M : Vec Ideal S4x9216 .f32) (g : Vec Ideal S1024 .f32) (wg wu : Vec Ideal S1024x2816 .f32) (b : Fin 4) (s : Fin 8192) (j : Fin 2816) :
    gat X M g wg wu (ix3 b s j) = Ffn.gated (Ffn.modu (fun k => X (ix3 b s k)) (fun k => g (ix1 k)) (fun k => M (ix2 b ⟨6144 + k.val, by omega⟩)) (fun k => M (ix2 b ⟨7168 + k.val, by omega⟩))) (fun k j => wg (ix2 k j)) (fun k j => wu (ix2 k j)) j := by
  pointwise [gat]
  simp only [hid_at]
  rfl

/-- The rows with the half-step added. -/
def half (X : Vec Ideal S4x8192x1024 .f32) (M : Vec Ideal S4x9216 .f32) (g : Vec Ideal S1024 .f32) (wg wu : Vec Ideal S1024x2816 .f32)
    (wd : Vec Ideal S2816x1024 .f32) : FVec Ideal S4x8192x1024 .f32 :=
  addf X (mulf (broadcastInDim S4x8192x1024 ![0, 1, 2] bcast_S4x1x1024_S4x8192x1024_0_1_2 (mulf (broadcastInDim S4x1x1024 ![] bcast_S_S4x1x1024 (constant S_ .f32 0x3F000000#32)) (broadcastInDim S4x1x1024 ![0, 2] bcast_S4x1024_S4x1x1024_0_2 (extractStridedSlice S4x1024 ![0, 8192] M slices_S4x9216_S4x1024_0_8192)))) (Host.dotGeneral (φ₁ := .f32) (φ₂ := .f32) dot_S4x8192x2816_S2816x1024_S4x8192x1024_2_0_01_1_n_n none (gat X M g wg wu) wd))

theorem half_at (X : Vec Ideal S4x8192x1024 .f32) (M : Vec Ideal S4x9216 .f32) (g : Vec Ideal S1024 .f32) (wg wu : Vec Ideal S1024x2816 .f32)
    (wd : Vec Ideal S2816x1024 .f32) (b : Fin 4) (s : Fin 8192) (d : Fin 1024) :
    half X M g wg wu wd (ix3 b s d) = Ffn.step (fun k => X (ix3 b s k)) (fun k => g (ix1 k)) (fun k => M (ix2 b ⟨6144 + k.val, by omega⟩)) (fun k => M (ix2 b ⟨7168 + k.val, by omega⟩)) (fun k => M (ix2 b ⟨8192 + k.val, by omega⟩)) (fun k j => wg (ix2 k j)) (fun k j => wu (ix2 k j)) (fun j k => wd (ix2 j k)) d := by
  pointwise [half]
  simp only [gat_at]
  rfl

/-- The rows after the last norm. -/
def last (X : Vec Ideal S4x8192x1024 .f32) (M : Vec Ideal S4x9216 .f32) (g : Vec Ideal S1024 .f32) (wg wu : Vec Ideal S1024x2816 .f32)
    (wd : Vec Ideal S2816x1024 .f32) (f : Vec Ideal S1024 .f32) : FVec Ideal S4x8192x1024 .f32 :=
  mulf (mulf (half X M g wg wu wd) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (half X M g wg wu wd) (half X M g wg wu wd)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 f))

theorem last_at (X : Vec Ideal S4x8192x1024 .f32) (M : Vec Ideal S4x9216 .f32) (g : Vec Ideal S1024 .f32) (wg wu : Vec Ideal S1024x2816 .f32)
    (wd : Vec Ideal S2816x1024 .f32) (f : Vec Ideal S1024 .f32) (b : Fin 4) (s : Fin 8192) (d : Fin 1024) :
    last X M g wg wu wd f (ix3 b s d) = Ffn.norm (fun k => half X M g wg wu wd (ix3 b s k)) (fun k => f (ix1 k)) d := by
  pointwise [last]
  rfl

/-- The reference's result. -/
def res (X : Vec Ideal S4x8192x1024 .f32) (M : Vec Ideal S4x9216 .f32) (g : Vec Ideal S1024 .f32) (wg wu : Vec Ideal S1024x2816 .f32)
    (wd : Vec Ideal S2816x1024 .f32) (f : Vec Ideal S1024 .f32) : FVec Ideal S32768x1024 .f32 :=
  shapeCast _ (last X M g wg wu wd f) shapeCasts_S4x8192x1024_S32768x1024

theorem res_at (X : Vec Ideal S4x8192x1024 .f32) (M : Vec Ideal S4x9216 .f32) (g : Vec Ideal S1024 .f32) (wg wu : Vec Ideal S1024x2816 .f32)
    (wd : Vec Ideal S2816x1024 .f32) (f : Vec Ideal S1024 .f32) (i : Fin 32768) (d : Fin 1024) :
    res X M g wg wu wd f (ix2 i d)
      = Ffn.norm (Ffn.half (fun b s k => X (ix3 b s k)) (fun b k => M (ix2 b k)) (fun k => g (ix1 k)) (fun k j => wg (ix2 k j)) (fun k j => wu (ix2 k j))
          (fun j k => wd (ix2 j k)) 6 (by omega) i) (fun k => f (ix1 k)) d := by
  pointwise [res]
  rw [last_at]
  simp only [half_at]
  rfl

theorem res_eq (m : (ℓ : Loc nD τ sig) → Buf (Elt Ideal) ℓ) (c : Dev nD) :
    Value.res_out0 m c = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.Proof.Ffn3Ref
end
end
-- ==== Proof.Merge.lean ====
/- One row of the merge of the two mixers at the ideal instance, as sums over the row. -/
module

public import proofs.«01_k».proof.Proof.Ffn

@[expose] public section

noncomputable section

namespace Cert.Proof.Merge

open Idealize.ShloMosaic

/-- The gate of a row `h`: the sigmoid of its product with column `o + d` of the input projection. -/
def gate (h : Fin 1024 → EReal) (wi : Fin 1024 → Fin 3232 → EReal) (o : ℕ) (ho : o + 1024 ≤ 3232) (d : Fin 1024) : EReal :=
  Ideal.logistic (∑ k, h k * wi k ⟨o + d.val, by omega⟩)

/-- The gated sum of the branches' rows `f` and `p`, each after its output matrix. -/
def both (h : Fin 1024 → EReal) (wi : Fin 1024 → Fin 3232 → EReal) (f p : Fin 512 → EReal) (wf wm : Fin 512 → Fin 1024 → EReal) (d : Fin 1024) : EReal :=
  gate h wi 1184 (by omega) d * (∑ k, f k * wf k d) + gate h wi 2208 (by omega) d * ∑ k, p k * wm k d

/-- The row with `t` times the output product of the gated sum added. -/
def step (x g s c t : Fin 1024 → EReal) (wi : Fin 1024 → Fin 3232 → EReal) (f p : Fin 512 → EReal) (wf wm : Fin 512 → Fin 1024 → EReal)
    (wo : Fin 1024 → Fin 1024 → EReal) (d : Fin 1024) : EReal :=
  x d + t d * ∑ k, both (Ffn.modu x g s c) wi f p wf wm k * wo k d

/-- Row `i` of the transform, which lies with its position `64 u + v` of a batch at `(v, u)`. -/
def frow (f : Fin 4 → Fin 64 → Fin 128 → Fin 512 → EReal) (i : Fin 32768) (k : Fin 512) : EReal :=
  f ⟨i.val / 8192, by omega⟩ ⟨i.val % 64, by omega⟩ ⟨i.val % 8192 / 64, by omega⟩ k

/-- Row `i` of the attention: entry `k` is entry `k % 64` of head `k / 64`, at place `i % 512` of its block of 512 positions. -/
def prow (p : Fin 4 → Fin 8 → Fin 16 → Fin 64 → Fin 512 → EReal) (i : Fin 32768) (k : Fin 512) : EReal :=
  p ⟨i.val / 8192, by omega⟩ ⟨k.val / 64, by omega⟩ ⟨i.val % 8192 / 512, by omega⟩ ⟨k.val % 64, by omega⟩ ⟨i.val % 512, by omega⟩

/-- Row `i` of the merge. -/
def out (X : Fin 4 → Fin 8192 → Fin 1024 → EReal) (M : Fin 4 → Fin 9216 → EReal) (g : Fin 1024 → EReal)
    (f : Fin 4 → Fin 64 → Fin 128 → Fin 512 → EReal) (p : Fin 4 → Fin 8 → Fin 16 → Fin 64 → Fin 512 → EReal) (wi : Fin 1024 → Fin 3232 → EReal)
    (wf wm : Fin 512 → Fin 1024 → EReal) (wo : Fin 1024 → Fin 1024 → EReal) (i : Fin 32768) : Fin 1024 → EReal :=
  step (Ffn.row X i) g (Ffn.vec M 3 i) (Ffn.vec M 4 i) (Ffn.vec M 5 i) wi (frow f i) (prow p i) wf wm wo

end Cert.Proof.Merge
end
end
-- ==== Proof.MergeKernel.lean ====
/- The merge call at the ideal instance: its array after the run, entry by entry. -/
module

public import proofs.«01_k».proof.Proof.Merge
public import proofs.«01_k».proof.Proof.Gen.Kernel4Ideal.Value

@[expose] public section

noncomputable section

namespace Cert.Proof.MergeKernel

open Cert.Kernel4Ideal Cert.Kernel4Ideal.Gen
open Idealize.ShloMosaic Idealize.ShloMosaic.TcCoe

set_option maxRecDepth 16384

/-- The normed and moved block. -/
def hid (v0 : Vec Ideal S512x1024 .f32) (v2 : Vec Ideal S1x1024 .f32) (v4 v6 : Vec Ideal S1x1x1024 .f32) : FVec Ideal S512x1024 .f32 :=
  addf (mulf (mulf (mulf (k0_pay2 v0) (broadcastTo S512x1024 (rsqrt (addf (divf (shapeCast S512x1 (multiReduction .add [1] S512 (mulf (k0_pay2 v0) (k0_pay2 v0)) 0x00000000#32 reduces_S512x1024_S512 (.inl rfl) rfl) shapeCasts_S512_S512x1) (broadcast S512x1 (Scalar.ofBits .f32 0x44800000#32 : Ideal .f32))) (broadcast S512x1 (Scalar.ofBits .f32 0x358637BD#32 : Ideal .f32)))) broadcasts_S512x1_S512x1024)) (broadcastTo S512x1024 (shapeCast S1x1024 v2 shapeCasts_S1x1024_S1x1024) broadcasts_S1x1024_S512x1024)) (broadcastTo S512x1024 (addf (broadcast S1x1024 (Scalar.ofBits .f32 0x3F800000#32 : Ideal .f32)) (shapeCast S1x1024 v6 shapeCasts_S1x1x1024_S1x1024)) broadcasts_S1x1024_S512x1024)) (broadcastTo S512x1024 (shapeCast S1x1024 v4 shapeCasts_S1x1x1024_S1x1024) broadcasts_S1x1024_S512x1024)

theorem hid_at (v0 : Vec Ideal S512x1024 .f32) (v2 : Vec Ideal S1x1024 .f32) (v4 v6 : Vec Ideal S1x1x1024 .f32) (r : Fin 512) (d : Fin 1024) :
    hid v0 v2 v4 v6 (ix2 r d) = Ffn.modu (fun k => v0 (ix2 r k)) (fun k => v2 (ix2 0 k)) (fun k => v4 (ix3 0 0 k)) (fun k => v6 (ix3 0 0 k)) d := by
  pointwise [hid, k0_pay2]
  rfl

theorem pay3_at (v0 : Vec Ideal S512x1024 .f32) (v2 : Vec Ideal S1x1024 .f32) (v4 v6 : Vec Ideal S1x1x1024 .f32) (v26 : Vec Ideal S2048x1024 .f32) (r : Fin 512) (j : Fin 2048) :
    k0_pay3 v0 v2 v4 v6 v26 (ix2 r j)
      = ∑ k, Ffn.modu (fun k => v0 (ix2 r k)) (fun k => v2 (ix2 0 k)) (fun k => v4 (ix3 0 0 k)) (fun k => v6 (ix3 0 0 k)) k * v26 (ix2 j k) := by
  show matmul dot_S512x1024_S2048x1024_S512x2048_1_1_0_0_n_n none (hid v0 v2 v4 v6) (shapeCast S2048x1024 v26 shapeCasts_S2048x1024_S2048x1024 : FVec Ideal S2048x1024 .f32) (constant S512x2048 .f32 0x00000000#32) (ix2 r j) = _
  pointwise
  simp only [hid_at]

/-- Eight blocks of 64 rows, one below the other. -/
def cat (p : Fin 8 → Vec Ideal S1x64x1x512 .f32) : FVec Ideal S512x512 .f32 :=
  concatenate S512x512 0 (List.ofFn fun n : Fin 8 => (⟨S64x512, shapeCast S64x512 (p n) shapeCasts_S1x64x1x512_S64x512⟩ : (s : Shape) × (s.Idx → Elt Ideal .f32))) concatenates_S64x512_S64x512_S64x512_S64x512_S64x512_S64x512_S64x512_S64x512_S512x512_d0

theorem cat_at (p : Fin 8 → Vec Ideal S1x64x1x512 .f32) (r : Fin 512) (k : Fin 512) :
    cat p (ix2 r k) = p ⟨r.val / 64, by omega⟩ (ix4 0 ⟨r.val % 64, by omega⟩ 0 k) := by
  refine (concatenate_ofFn_apply (t := S512x512) (s₁ := S64x512) 0 (fun n : Fin 8 => shapeCast S64x512 (p n) shapeCasts_S1x64x1x512_S64x512) _ rfl 64 rfl (ix2 r k)
    ⟨r.val / 64, by omega⟩ rfl (ix2 ⟨r.val % 64, by omega⟩ k) rfl ?_).trans ?_
  · intro b hb
    match b with
    | ⟨0, _⟩ => exact absurd rfl hb
    | ⟨1, _⟩ => rfl
  · pointwise

theorem pay6_at (v48 : Vec Ideal S1x8x1x64x512 .bf16) (v51 : Vec Ideal S512x1024 .bf16) (r : Fin 512) (d : Fin 1024) :
    k0_pay6 v48 v51 (ix2 r d) = ∑ k : Fin 512, v48 (ix5 0 ⟨k.val / 64, by omega⟩ 0 ⟨k.val % 64, by omega⟩ r) * v51 (ix2 k d) := by
  pointwise [k0_pay6]

theorem pay7_eq (v28 : FVec Ideal S512x2048 .f32) (p : Fin 8 → Vec Ideal S1x64x1x512 .f32) (v46 : Vec Ideal S512x1024 .f32) :
    k0_pay7 v28 (k0_pay4 (p 0)) (k0_pay5 (p 1)) (p 2) (p 3) (p 4) (p 5) (p 6) (p 7) v46
      = mulf (logistic (extractStridedSlice S512x1024 ![0, 0] v28 slices_S512x2048_o0_0_S512x1024)) (matmul dot_S512x512_S512x1024_S512x1024_1_0_0_1_n_n none (cat p) (show FVec Ideal S512x1024 .f32 from v46) (constant S512x1024 .f32 0x00000000#32)) := rfl

theorem pay7_at (v28 : FVec Ideal S512x2048 .f32) (p : Fin 8 → Vec Ideal S1x64x1x512 .f32) (v46 : Vec Ideal S512x1024 .f32) (r : Fin 512) (d : Fin 1024) :
    k0_pay7 v28 (k0_pay4 (p 0)) (k0_pay5 (p 1)) (p 2) (p 3) (p 4) (p 5) (p 6) (p 7) v46 (ix2 r d)
      = Ideal.logistic (v28 (ix2 r ⟨0 + d.val, by omega⟩)) * ∑ k : Fin 512, p ⟨r.val / 64, by omega⟩ (ix4 0 ⟨r.val % 64, by omega⟩ 0 k) * v46 (ix2 k d) := by
  rw [pay7_eq]
  pointwise
  simp only [cat_at]
  try simp only [Nat.zero_add]
  try rfl

theorem pay8_at (v28 : FVec Ideal S512x2048 .f32) (r : Fin 512) (d : Fin 1024) :
    k0_pay8 v28 (ix2 r d) = Ideal.logistic (v28 (ix2 r ⟨1024 + d.val, by omega⟩)) := by
  pointwise [k0_pay8]

theorem pay1_at (v1 v53 v56 v58 : FVec Ideal S512x1024 .f32) (v61 : Vec Ideal S1x1x1024 .f32) (v63 : Vec Ideal S1024x1024 .f32) (r : Fin 512) (d : Fin 1024) :
    k0_pay1 v1 v53 v56 v58 v61 v63 (ix2 r d)
      = v1 (ix2 r d) + v61 (ix3 0 0 d) * ∑ k : Fin 1024, (v56 (ix2 r k) + v58 (ix2 r k) * v53 (ix2 r k)) * v63 (ix2 k d) := by
  pointwise [k0_pay1]

theorem ld1 (x1 : Vec Ideal S1x9x1024 .f32) (n : Fin 9) (h : ∀ a, (![0, n.val, 0] : Fin 3 → Nat) a + S1x1x1024.size a ≤ S1x9x1024.size a) (k : Fin 1024) :
    View.ld x1 (Rect.unit (s := S1x9x1024) ![0, n.val, 0] S1x1x1024.size h) (ix3 0 0 k) = x1 (ix3 0 n k) := by
  show x1 _ = x1 _
  congr 1; funext a
  match a with
  | ⟨0, _⟩ => rfl
  | ⟨1, _⟩ => exact Fin.ext (by show n.val + 1 * 0 = n.val; omega)
  | ⟨2, _⟩ => exact Fin.ext (by show 0 + 1 * k.val = k.val; omega)

theorem ldf (x3 : Vec Ideal S1x64x8x512 .f32) (n : Fin 8) (h : ∀ a, (![0, 0, n.val, 0] : Fin 4 → Nat) a + S1x64x1x512.size a ≤ S1x64x8x512.size a) (v : Fin 64) (k : Fin 512) :
    View.ld x3 (Rect.unit (s := S1x64x8x512) ![0, 0, n.val, 0] S1x64x1x512.size h) (ix4 0 v 0 k) = x3 (ix4 0 v n k) := by
  show x3 _ = x3 _
  congr 1; funext a
  match a with
  | ⟨0, _⟩ => rfl
  | ⟨1, _⟩ => exact Fin.ext (by show 0 + 1 * v.val = v.val; omega)
  | ⟨2, _⟩ => exact Fin.ext (by show n.val + 1 * 0 = n.val; omega)
  | ⟨3, _⟩ => exact Fin.ext (by show 0 + 1 * k.val = k.val; omega)

theorem ldw (x5 : Vec Ideal S3232x1024 .f32) (j : Fin 2048) (k : Fin 1024) : View.ld x5 r0_4 (ix2 j k) = x5 (ix2 ⟨1184 + j.val, by omega⟩ k) := by
  show x5 _ = x5 _
  congr 1; funext a
  match a with
  | ⟨0, _⟩ => exact Fin.ext (by show 1184 + 1 * j.val = 1184 + j.val; omega)
  | ⟨1, _⟩ => exact Fin.ext (by show 0 + 1 * k.val = k.val; omega)

theorem zero2 : (![0, 0] : Fin 2 → ℕ) = fun _ => 0 := funext fun a => by match a with | ⟨0, _⟩ => rfl | ⟨1, _⟩ => rfl
theorem zero5 : (![0, 0, 0, 0, 0] : Fin 5 → ℕ) = fun _ => 0 :=
  funext fun a => by match a with | ⟨0, _⟩ => rfl | ⟨1, _⟩ => rfl | ⟨2, _⟩ => rfl | ⟨3, _⟩ => rfl | ⟨4, _⟩ => rfl

/-- The eight blocks of 64 rows that the body reads of the transform's block. -/
def eight (x3 : Vec Ideal S1x64x8x512 .f32) : Fin 8 → Vec Ideal S1x64x1x512 .f32 :=
  ![View.ld x3 r0_5, View.ld x3 r0_6, View.ld x3 r0_7, View.ld x3 r0_8, View.ld x3 r0_9, View.ld x3 r0_10, View.ld x3 r0_11, View.ld x3 r0_12]

theorem eight_at (x3 : Vec Ideal S1x64x8x512 .f32) (n : Fin 8) (v : Fin 64) (k : Fin 512) : eight x3 n (ix4 0 v 0 k) = x3 (ix4 0 v n k) := by
  match n with
  | ⟨0, _⟩ => exact ldf x3 0 _ v k
  | ⟨1, _⟩ => exact ldf x3 1 _ v k
  | ⟨2, _⟩ => exact ldf x3 2 _ v k
  | ⟨3, _⟩ => exact ldf x3 3 _ v k
  | ⟨4, _⟩ => exact ldf x3 4 _ v k
  | ⟨5, _⟩ => exact ldf x3 5 _ v k
  | ⟨6, _⟩ => exact ldf x3 6 _ v k
  | ⟨7, _⟩ => exact ldf x3 7 _ v k

variable (x0 : Vec Ideal S512x1024 .f32) (x1 : Vec Ideal S1x9x1024 .f32) (x2 : Vec Ideal S1x1024 .f32) (x3 : Vec Ideal S1x64x8x512 .f32)
  (x4 : Vec Ideal S1x8x1x64x512 .bf16) (x5 : Vec Ideal S3232x1024 .f32) (x6 : Vec Ideal S512x1024 .f32) (x7 : Vec Ideal S512x1024 .bf16) (x8 : Vec Ideal S1024x1024 .f32)

/-- The gates' logits of a row of the block. -/
theorem pay9_at (r : Fin 512) (j : Fin 2048) :
    k0_pay9 x0 x1 x2 x3 x4 x5 x6 x7 x8 (ix2 r j)
      = ∑ k, Ffn.modu (fun k => x0 (ix2 r k)) (fun k => x2 (ix2 0 k)) (fun k => x1 (ix3 0 3 k)) (fun k => x1 (ix3 0 4 k)) k * x5 (ix2 ⟨1184 + j.val, by omega⟩ k) := by
  have e0 : View.ld x0 r0_0 = x0 := View.ld_unit_zero zero2 _ x0
  have e2 : View.ld x2 r0_1 = x2 := View.ld_unit_zero zero2 _ x2
  have s3 : (fun k : Fin 1024 => View.ld x1 r0_2 (ix3 0 0 k)) = fun k => x1 (ix3 0 3 k) := funext fun k => ld1 x1 3 _ k
  have s4 : (fun k : Fin 1024 => View.ld x1 r0_3 (ix3 0 0 k)) = fun k => x1 (ix3 0 4 k) := funext fun k => ld1 x1 4 _ k
  unfold k0_pay9
  rw [pay3_at, e0, e2, s3, s4]
  exact Finset.sum_congr rfl fun k _ => congrArg (_ * ·) (ldw x5 j k)

/-- The block a point leaves, from the blocks it reads. -/
theorem out_at (r : Fin 512) (d : Fin 1024) :
    out0_9 x0 x1 x2 x3 x4 x5 x6 x7 x8 (ix2 r d)
      = Merge.step (fun k => x0 (ix2 r k)) (fun k => x2 (ix2 0 k)) (fun k => x1 (ix3 0 3 k)) (fun k => x1 (ix3 0 4 k)) (fun k => x1 (ix3 0 5 k))
          (fun k j => x5 (ix2 j k)) (fun k => x3 (ix4 0 ⟨r.val % 64, by omega⟩ ⟨r.val / 64, by omega⟩ k))
          (fun k => x4 (ix5 0 ⟨k.val / 64, by omega⟩ 0 ⟨k.val % 64, by omega⟩ r)) (fun k j => x6 (ix2 k j)) (fun k j => x7 (ix2 k j)) (fun k j => x8 (ix2 k j)) d := by
  have e0 : View.ld x0 r0_0 = x0 := View.ld_unit_zero zero2 _ x0
  have e4 : View.ld x4 r0_13 = x4 := View.ld_unit_zero zero5 _ x4
  have e6 : View.ld x6 r0_0 = x6 := View.ld_unit_zero zero2 _ x6
  have e7 : View.ld x7 r0_0 = x7 := View.ld_unit_zero zero2 _ x7
  have e8 : View.ld x8 r0_15 = x8 := View.ld_unit_zero zero2 _ x8
  have s5 : View.ld x1 r0_14 (ix3 0 0 d) = x1 (ix3 0 5 d) := ld1 x1 5 _ d
  have e3 : ∀ v28 v46, k0_pay7 (F := Ideal) v28 (k0_pay4 (View.ld x3 r0_5)) (k0_pay5 (View.ld x3 r0_6)) (View.ld x3 r0_7) (View.ld x3 r0_8) (View.ld x3 r0_9) (View.ld x3 r0_10) (View.ld x3 r0_11) (View.ld x3 r0_12) v46
      = k0_pay7 v28 (k0_pay4 (eight x3 0)) (k0_pay5 (eight x3 1)) (eight x3 2) (eight x3 3) (eight x3 4) (eight x3 5) (eight x3 6) (eight x3 7) v46 := fun _ _ => rfl
  unfold out0_9
  rw [View.canon_unit_zero zero2, e0, e4, e6, e7, e8, e3, pay1_at, s5]
  simp only [pay7_at, pay8_at, pay6_at, pay9_at, eight_at]
  unfold Merge.step Merge.both Merge.gate
  have l0 : ∀ (k q : Fin 1024), x5 (ix2 ⟨1184 + (⟨0 + q.val, by omega⟩ : Fin 2048).val, by show 1184 + (0 + q.val) < 3232; omega⟩ k) = x5 (ix2 ⟨1184 + q.val, by omega⟩ k) :=
    fun k q => congrArg (fun p => x5 (ix2 p k)) (Fin.ext (by show 1184 + (0 + q.val) = 1184 + q.val; omega))
  have l1 : ∀ (k q : Fin 1024), x5 (ix2 ⟨1184 + (⟨1024 + q.val, by omega⟩ : Fin 2048).val, by show 1184 + (1024 + q.val) < 3232; omega⟩ k) = x5 (ix2 ⟨2208 + q.val, by omega⟩ k) :=
    fun k q => congrArg (fun p => x5 (ix2 p k)) (Fin.ext (by show 1184 + (1024 + q.val) = 2208 + q.val; omega))
  have p2 : k0_pay2 x0 (ix2 r d) = x0 (ix2 r d) := by pointwise [k0_pay2]
  simp only [l0, l1, p2]

variable (m : (ℓ : Loc nD τ sig) → Buf (Elt Ideal) ℓ) (c : Dev nD)

theorem map0 : ∀ t : Fin grid0.N, cc0_transform_0 (grid0.coords t) 0 = t.val := by decide +kernel
theorem map1 : ∀ t : Fin grid0.N, cc0_transform_1 (grid0.coords t) 0 = t.val / 16 := by decide +kernel
theorem map3 : ∀ t : Fin grid0.N, cc0_transform_3 (grid0.coords t) 0 = t.val / 16 ∧ cc0_transform_3 (grid0.coords t) 2 = t.val % 16 := by decide +kernel
theorem map4 : ∀ t : Fin grid0.N, cc0_transform_4 (grid0.coords t) 0 = t.val / 16 ∧ cc0_transform_4 (grid0.coords t) 2 = t.val % 16 := by decide +kernel
theorem map9 : ∀ t : Fin grid0.N, cc0_transform_9 (grid0.coords t) 0 = t.val := by decide +kernel

theorem V_v0 : V m c main_v0 = transpose S3232x1024 [1, 0] (m ((c : Thread nD τ).loc main_arg5)) transposes_S1024x3232_S3232x1024_1_0 := by
  show StableHlo.after hostOps0 (fun b => m (c, b)) (Proc.tc.devRef main_v0) = _
  after_results <;> rfl
theorem V_v1 : V m c main_v1 = shapeCast _ (m ((c : Thread nD τ).loc main_arg0)) shapeCasts_S4x8192x1024_S32768x1024 := by
  show StableHlo.after hostOps0 (fun b => m (c, b)) (Proc.tc.devRef main_v1) = _
  after_results <;> rfl
theorem V_v2 : V m c main_v2 = shapeCast _ (m ((c : Thread nD τ).loc main_arg1)) shapeCasts_S4x9216_S4x9x1024 := by
  show StableHlo.after hostOps0 (fun b => m (c, b)) (Proc.tc.devRef main_v2) = _
  after_results <;> rfl
theorem V_v3 : (V m c main_v3 : FVec Ideal S512x1024 .bf16) = truncf .bf16 (show FVec Ideal S512x1024 .f32 from m ((c : Thread nD τ).loc main_arg7)) bitsLt_bf16_f32 := by
  show StableHlo.after hostOps0 (fun b => m (c, b)) (Proc.tc.devRef main_v3) = _
  after_results <;> rfl
theorem V_v4 : V m c main_v4 = shapeCast _ (m ((c : Thread nD τ).loc main_arg2)) shapeCasts_S1024_S1x1024 := by
  show StableHlo.after hostOps0 (fun b => m (c, b)) (Proc.tc.devRef main_v4) = _
  after_results <;> rfl

theorem cast0_at (A : Vec Ideal S1024x3232 .f32) (j : Fin 3232) (k : Fin 1024) :
    transpose S3232x1024 [1, 0] A transposes_S1024x3232_S3232x1024_1_0 (ix2 j k) = A (ix2 k j) := by
  pointwise
theorem cast1_at (A : Vec Ideal S4x8192x1024 .f32) (i : Fin 32768) (d : Fin 1024) :
    shapeCast S32768x1024 A shapeCasts_S4x8192x1024_S32768x1024 (ix2 i d) = A (ix3 ⟨i.val / 8192, by omega⟩ ⟨i.val % 8192, by omega⟩ d) := by
  pointwise
theorem cast2_at (A : Vec Ideal S4x9216 .f32) (b : Fin 4) (n : Fin 9) (d : Fin 1024) :
    shapeCast S4x9x1024 A shapeCasts_S4x9216_S4x9x1024 (ix3 b n d) = A (ix2 b ⟨1024 * n.val + d.val, by omega⟩) := by
  pointwise
  refine congrArg (fun q => A (ix2 b q)) (Fin.ext ?_)
  show n.val * 1024 + d.val = 1024 * n.val + d.val
  omega
theorem cast3_at (A : FVec Ideal S512x1024 .f32) (k : Fin 512) (d : Fin 1024) :
    (truncf .bf16 A bitsLt_bf16_f32 : FVec Ideal S512x1024 .bf16) (ix2 k d) = A (ix2 k d) := by
  pointwise
theorem cast4_at (A : Vec Ideal S1024 .f32) (d : Fin 1024) :
    shapeCast S1x1024 A shapeCasts_S1024_S1x1024 (ix2 0 d) = A (ix1 d) := by
  pointwise

theorem blk0_at (t : Fin cfg0.N) (r : Fin 512) (d : Fin 1024) (i : Fin 32768) (hi : i.val = 512 * t.val + r.val) :
    (iblk m c 0 t : Vec Ideal S512x1024 .f32) (ix2 r d) = (V m c main_v1 : Vec Ideal S32768x1024 .f32) (ix2 i d) := by
  show (V m c main_v1 : Vec Ideal S32768x1024 .f32) _ = _
  congr 1; funext a
  match a with
  | ⟨0, _⟩ => exact Fin.ext (by show (cc0_transform_0 (grid0.coords t) 0) * 512 + 1 * r.val = i.val; rw [hi, map0]; omega)
  | ⟨1, _⟩ => exact Fin.ext (by show 0 + 1 * d.val = d.val; omega)
theorem blk1_at (t : Fin cfg0.N) (n : Fin 9) (d : Fin 1024) (b : Fin 4) (hb : b.val = t.val / 16) :
    (iblk m c 1 t : Vec Ideal S1x9x1024 .f32) (ix3 0 n d) = (V m c main_v2 : Vec Ideal S4x9x1024 .f32) (ix3 b n d) := by
  show (V m c main_v2 : Vec Ideal S4x9x1024 .f32) _ = _
  congr 1; funext a
  match a with
  | ⟨0, _⟩ => exact Fin.ext (by show (cc0_transform_1 (grid0.coords t) 0) * 1 + 1 * 0 = b.val; rw [hb, map1]; omega)
  | ⟨1, _⟩ => exact Fin.ext (by show 0 + 1 * n.val = n.val; omega)
  | ⟨2, _⟩ => exact Fin.ext (by show 0 + 1 * d.val = d.val; omega)
theorem blk2_at (t : Fin cfg0.N) (d : Fin 1024) :
    (iblk m c 2 t : Vec Ideal S1x1024 .f32) (ix2 0 d) = (V m c main_v4 : Vec Ideal S1x1024 .f32) (ix2 0 d) := by
  show (V m c main_v4 : Vec Ideal S1x1024 .f32) _ = _
  congr 1; funext a
  match a with
  | ⟨0, _⟩ => rfl
  | ⟨1, _⟩ => exact Fin.ext (by show 0 + 1 * d.val = d.val; omega)
theorem blk3_at (t : Fin cfg0.N) (v : Fin 64) (u : Fin 8) (k : Fin 512) (b : Fin 4) (hb : b.val = t.val / 16) (w : Fin 128) (hw : w.val = 8 * (t.val % 16) + u.val) :
    (iblk m c 3 t : Vec Ideal S1x64x8x512 .f32) (ix4 0 v u k) = (V m c main_arg3 : Vec Ideal S4x64x128x512 .f32) (ix4 b v w k) := by
  show (V m c main_arg3 : Vec Ideal S4x64x128x512 .f32) _ = _
  congr 1; funext a
  match a with
  | ⟨0, _⟩ => exact Fin.ext (by show (cc0_transform_3 (grid0.coords t) 0) * 1 + 1 * 0 = b.val; rw [hb, (map3 t).1]; omega)
  | ⟨1, _⟩ => exact Fin.ext (by show 0 + 1 * v.val = v.val; omega)
  | ⟨2, _⟩ => exact Fin.ext (by show (cc0_transform_3 (grid0.coords t) 2) * 8 + 1 * u.val = w.val; rw [hw, (map3 t).2]; omega)
  | ⟨3, _⟩ => exact Fin.ext (by show 0 + 1 * k.val = k.val; omega)
theorem blk4_at (t : Fin cfg0.N) (h : Fin 8) (v : Fin 64) (r : Fin 512) (b : Fin 4) (hb : b.val = t.val / 16) (w : Fin 16) (hw : w.val = t.val % 16) :
    (iblk m c 4 t : Vec Ideal S1x8x1x64x512 .bf16) (ix5 0 h 0 v r) = (V m c main_arg4 : Vec Ideal S4x8x16x64x512 .bf16) (ix5 b h w v r) := by
  show (V m c main_arg4 : Vec Ideal S4x8x16x64x512 .bf16) _ = _
  congr 1; funext a
  match a with
  | ⟨0, _⟩ => exact Fin.ext (by show (cc0_transform_4 (grid0.coords t) 0) * 1 + 1 * 0 = b.val; rw [hb, (map4 t).1]; omega)
  | ⟨1, _⟩ => exact Fin.ext (by show 0 + 1 * h.val = h.val; omega)
  | ⟨2, _⟩ => exact Fin.ext (by show (cc0_transform_4 (grid0.coords t) 2) * 1 + 1 * 0 = w.val; rw [hw, (map4 t).2]; omega)
  | ⟨3, _⟩ => exact Fin.ext (by show 0 + 1 * v.val = v.val; omega)
  | ⟨4, _⟩ => exact Fin.ext (by show 0 + 1 * r.val = r.val; omega)
theorem blk5_at (t : Fin cfg0.N) (j : Fin 3232) (k : Fin 1024) :
    (iblk m c 5 t : Vec Ideal S3232x1024 .f32) (ix2 j k) = (V m c main_v0 : Vec Ideal S3232x1024 .f32) (ix2 j k) := by
  show (V m c main_v0 : Vec Ideal S3232x1024 .f32) _ = _
  congr 1; funext a
  match a with
  | ⟨0, _⟩ => exact Fin.ext (by show 0 + 1 * j.val = j.val; omega)
  | ⟨1, _⟩ => exact Fin.ext (by show 0 + 1 * k.val = k.val; omega)
theorem blk6_at (t : Fin cfg0.N) (j : Fin 512) (k : Fin 1024) :
    (iblk m c 6 t : Vec Ideal S512x1024 .f32) (ix2 j k) = (V m c main_arg6 : Vec Ideal S512x1024 .f32) (ix2 j k) := by
  show (V m c main_arg6 : Vec Ideal S512x1024 .f32) _ = _
  congr 1; funext a
  match a with
  | ⟨0, _⟩ => exact Fin.ext (by show 0 + 1 * j.val = j.val; omega)
  | ⟨1, _⟩ => exact Fin.ext (by show 0 + 1 * k.val = k.val; omega)
theorem blk7_at (t : Fin cfg0.N) (j : Fin 512) (k : Fin 1024) :
    (iblk m c 7 t : Vec Ideal S512x1024 .bf16) (ix2 j k) = (V m c main_v3 : Vec Ideal S512x1024 .bf16) (ix2 j k) := by
  show (V m c main_v3 : Vec Ideal S512x1024 .bf16) _ = _
  congr 1; funext a
  match a with
  | ⟨0, _⟩ => exact Fin.ext (by show 0 + 1 * j.val = j.val; omega)
  | ⟨1, _⟩ => exact Fin.ext (by show 0 + 1 * k.val = k.val; omega)
theorem blk8_at (t : Fin cfg0.N) (j : Fin 1024) (k : Fin 1024) :
    (iblk m c 8 t : Vec Ideal S1024x1024 .f32) (ix2 j k) = (V m c main_arg8 : Vec Ideal S1024x1024 .f32) (ix2 j k) := by
  show (V m c main_arg8 : Vec Ideal S1024x1024 .f32) _ = _
  congr 1; funext a
  match a with
  | ⟨0, _⟩ => exact Fin.ext (by show 0 + 1 * j.val = j.val; omega)
  | ⟨1, _⟩ => exact Fin.ext (by show 0 + 1 * k.val = k.val; omega)

/-- An entry of the array after the run: row `i` is row `i % 512` of what point `i / 512` wrote. -/
theorem arr_at (i : Fin 32768) (d : Fin 1024) (t : Fin cfg0.N) (r : Fin 512) (hi : i.val = 512 * t.val + r.val) :
    ((dats m 0 c).arrAt 9 cfg0.N : Vec Ideal S32768x1024 .f32) (ix2 i d)
      = out0_9 (iblk m c 0 t) (iblk m c 1 t) (iblk m c 2 t) (iblk m c 3 t) (iblk m c 4 t) (iblk m c 5 t) (iblk m c 6 t) (iblk m c 7 t) (iblk m c 8 t) (ix2 r d) := by
  have h := congrFun ((Value.blocks9 m c t (flush0_9 t)).trans (Value.flushed9 m c t)) (ix2 r d)
  refine Eq.trans ?_ h
  show _ = ((dats m 0 c).arrAt 9 cfg0.N : Vec Ideal S32768x1024 .f32) _
  congr 1; funext a
  match a with
  | ⟨0, _⟩ => exact Fin.ext (by show i.val = (cc0_transform_9 (grid0.coords t) 0) * 512 + 1 * r.val; rw [hi, map9]; omega)
  | ⟨1, _⟩ => exact Fin.ext (by show d.val = 0 + 1 * d.val; omega)

/-- An entry of the array after the run, from the arguments. -/
theorem kernel_at (X : Vec Ideal S4x8192x1024 .f32) (M : Vec Ideal S4x9216 .f32) (g : Vec Ideal S1024 .f32) (f : Vec Ideal S4x64x128x512 .f32)
    (p : Vec Ideal S4x8x16x64x512 .bf16) (wi : Vec Ideal S1024x3232 .f32) (wf wm : Vec Ideal S512x1024 .f32) (wo : Vec Ideal S1024x1024 .f32)
    (h0 : m ((c : Thread nD τ).loc main_arg0) = X) (h1 : m ((c : Thread nD τ).loc main_arg1) = M) (h2 : m ((c : Thread nD τ).loc main_arg2) = g)
    (h3 : m ((c : Thread nD τ).loc main_arg3) = f) (h4 : m ((c : Thread nD τ).loc main_arg4) = p) (h5 : m ((c : Thread nD τ).loc main_arg5) = wi)
    (h6 : m ((c : Thread nD τ).loc main_arg6) = wf) (h7 : m ((c : Thread nD τ).loc main_arg7) = wm) (h8 : m ((c : Thread nD τ).loc main_arg8) = wo)
    (i : Fin 32768) (d : Fin 1024) :
    ((dats m 0 c).arrAt 9 cfg0.N : Vec Ideal S32768x1024 .f32) (ix2 i d)
      = Merge.out (fun b s k => X (ix3 b s k)) (fun b k => M (ix2 b k)) (fun k => g (ix1 k)) (fun b v u k => f (ix4 b v u k)) (fun b h t v q => p (ix5 b h t v q))
          (fun k j => wi (ix2 k j)) (fun k j => wf (ix2 k j)) (fun k j => wm (ix2 k j)) (fun k j => wo (ix2 k j)) i d := by
  have ht : i.val / 512 < 64 := by omega
  have hb : i.val / 8192 < 4 := by omega
  have hr : i.val % 512 < 512 := Nat.mod_lt _ (by omega)
  rw [arr_at m c i d ⟨i.val / 512, ht⟩ ⟨i.val % 512, hr⟩ (by show i.val = 512 * (i.val / 512) + i.val % 512; omega), out_at]
  have v0 : (V m c main_v0 : Vec Ideal S3232x1024 .f32) = _ := (V_v0 m c).trans (by rw [h5])
  have v1 : (V m c main_v1 : Vec Ideal S32768x1024 .f32) = _ := (V_v1 m c).trans (by rw [h0])
  have v2 : (V m c main_v2 : Vec Ideal S4x9x1024 .f32) = _ := (V_v2 m c).trans (by rw [h1])
  have v3 : (V m c main_v3 : FVec Ideal S512x1024 .bf16) = truncf .bf16 (show FVec Ideal S512x1024 .f32 from wm) bitsLt_bf16_f32 := by rw [V_v3, h7]
  have v4 : (V m c main_v4 : Vec Ideal S1x1024 .f32) = _ := (V_v4 m c).trans (by rw [h2])
  have vf : (V m c main_arg3 : Vec Ideal S4x64x128x512 .f32) = _ := (V_main_arg3 m c).trans h3
  have vp : (V m c main_arg4 : Vec Ideal S4x8x16x64x512 .bf16) = _ := (V_main_arg4 m c).trans h4
  have v6 : (V m c main_arg6 : Vec Ideal S512x1024 .f32) = _ := (V_main_arg6 m c).trans h6
  have v8 : (V m c main_arg8 : Vec Ideal S1024x1024 .f32) = _ := (V_main_arg8 m c).trans h8
  have b0 : (fun k => (iblk m c 0 ⟨i.val / 512, ht⟩ : Vec Ideal S512x1024 .f32) (ix2 ⟨i.val % 512, hr⟩ k)) = Ffn.row (fun b s k => X (ix3 b s k)) i := by
    funext k
    rw [blk0_at m c _ _ k i (by show i.val = 512 * (i.val / 512) + i.val % 512; omega), v1]
    exact cast1_at X i k
  have b1 : ∀ n : Fin 9, (fun k => (iblk m c 1 ⟨i.val / 512, ht⟩ : Vec Ideal S1x9x1024 .f32) (ix3 0 n k)) = Ffn.vec (fun b k => M (ix2 b k)) n i := by
    intro n; funext k
    rw [blk1_at m c _ n k ⟨i.val / 8192, hb⟩ (by show i.val / 8192 = i.val / 512 / 16; omega), v2]
    exact cast2_at M _ n k
  have b2 : (fun k => (iblk m c 2 ⟨i.val / 512, ht⟩ : Vec Ideal S1x1024 .f32) (ix2 0 k)) = fun k => g (ix1 k) := by
    funext k; rw [blk2_at, v4]; exact cast4_at g k
  have b3 : (fun k => (iblk m c 3 ⟨i.val / 512, ht⟩ : Vec Ideal S1x64x8x512 .f32) (ix4 0 ⟨i.val % 512 % 64, by omega⟩ ⟨i.val % 512 / 64, by omega⟩ k))
      = Merge.frow (fun b v u k => f (ix4 b v u k)) i := by
    funext k
    rw [blk3_at m c _ _ _ k ⟨i.val / 8192, hb⟩ (by show i.val / 8192 = i.val / 512 / 16; omega) ⟨i.val % 8192 / 64, by omega⟩
      (by show i.val % 8192 / 64 = 8 * (i.val / 512 % 16) + i.val % 512 / 64; omega), vf]
    exact congrArg (fun v => f (ix4 _ v _ k)) (Fin.ext (by show i.val % 512 % 64 = i.val % 64; omega))
  have b4 : (fun k : Fin 512 => (iblk m c 4 ⟨i.val / 512, ht⟩ : Vec Ideal S1x8x1x64x512 .bf16) (ix5 0 ⟨k.val / 64, by omega⟩ 0 ⟨k.val % 64, by omega⟩ ⟨i.val % 512, hr⟩))
      = Merge.prow (fun b h t v q => p (ix5 b h t v q)) i := by
    funext k
    rw [blk4_at m c _ _ _ _ ⟨i.val / 8192, hb⟩ (by show i.val / 8192 = i.val / 512 / 16; omega) ⟨i.val % 8192 / 512, by omega⟩
      (by show i.val % 8192 / 512 = i.val / 512 % 16; omega), vp]
    rfl
  have b5 : (fun k j => (iblk m c 5 ⟨i.val / 512, ht⟩ : Vec Ideal S3232x1024 .f32) (ix2 j k)) = fun k j => wi (ix2 k j) := by
    funext k j; rw [blk5_at, v0]; exact cast0_at wi j k
  have b6 : (fun k j => (iblk m c 6 ⟨i.val / 512, ht⟩ : Vec Ideal S512x1024 .f32) (ix2 k j)) = fun k j => wf (ix2 k j) := by
    funext k j; rw [blk6_at, v6]
  have b7 : (fun k j => (iblk m c 7 ⟨i.val / 512, ht⟩ : Vec Ideal S512x1024 .bf16) (ix2 k j)) = fun k j => wm (ix2 k j) := by
    funext k j; exact (blk7_at m c _ k j).trans ((congrFun v3 (ix2 k j)).trans (cast3_at wm k j))
  have b8 : (fun k j => (iblk m c 8 ⟨i.val / 512, ht⟩ : Vec Ideal S1024x1024 .f32) (ix2 k j)) = fun k j => wo (ix2 k j) := by
    funext k j; rw [blk8_at, v8]
  unfold Merge.out
  rw [← b0, ← b2, ← b3, ← b4, ← b5, ← b6, ← b7, ← b8, ← b1, ← b1, ← b1]

end Cert.Proof.MergeKernel
end
end
-- ==== Proof.MergeRef.lean ====
/- The merge of the reference at the ideal instance, entry by entry. -/
module

public import proofs.«01_k».proof.Proof.Merge
public import proofs.«01_k».proof.Proof.Gen.Reference4Ideal.Run

@[expose] public section

noncomputable section

namespace Cert.Proof.MergeRef

open Cert.Reference4Ideal Cert.Reference4Ideal.Gen
open Idealize.ShloMosaic Idealize.ShloMosaic.TcCoe

set_option maxRecDepth 16384

/-- The normed and moved rows. -/
def hid (X : Vec Ideal S4x8192x1024 .f32) (M : Vec Ideal S4x9216 .f32) (g : Vec Ideal S1024 .f32) : FVec Ideal S4x8192x1024 .f32 :=
  addf (mulf (mulf (mulf X (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 4096] M slices_S4x9216_S4x1024_0_4096))))) (broadcastInDim S4x8192x1024 ![0, 1, 2] bcast_S4x1x1024_S4x8192x1024_0_1_2 (broadcastInDim S4x1x1024 ![0, 2] bcast_S4x1024_S4x1x1024_0_2 (extractStridedSlice S4x1024 ![0, 3072] M slices_S4x9216_S4x1024_0_3072)))

theorem hid_at (X : Vec Ideal S4x8192x1024 .f32) (M : Vec Ideal S4x9216 .f32) (g : Vec Ideal S1024 .f32) (b : Fin 4) (s : Fin 8192) (d : Fin 1024) :
    hid X M g (ix3 b s d) = Ffn.modu (fun k => X (ix3 b s k)) (fun k => g (ix1 k)) (fun k => M (ix2 b ⟨3072 + k.val, by omega⟩)) (fun k => M (ix2 b ⟨4096 + k.val, by omega⟩)) d := by
  pointwise [hid]
  rfl

/-- Both gates, side by side. -/
def gates (X : Vec Ideal S4x8192x1024 .f32) (M : Vec Ideal S4x9216 .f32) (g : Vec Ideal S1024 .f32) (wi : Vec Ideal S1024x3232 .f32) : FVec Ideal S4x8192x2048 .f32 :=
  Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf (extractStridedSlice S4x8192x2048 ![0, 0, 1184] (Host.dotGeneral (φ₁ := .f32) (φ₂ := .f32) dot_S4x8192x1024_S1024x3232_S4x8192x3232_2_0_01_1_n_n none (hid X M g) wi) slices_S4x8192x3232_S4x8192x2048_0_0_1184))))

theorem gates_at (X : Vec Ideal S4x8192x1024 .f32) (M : Vec Ideal S4x9216 .f32) (g : Vec Ideal S1024 .f32) (wi : Vec Ideal S1024x3232 .f32) (b : Fin 4) (s : Fin 8192) (d : Fin 2048) :
    gates X M g wi (ix3 b s d) = Ideal.logistic (∑ k, Ffn.modu (fun k => X (ix3 b s k)) (fun k => g (ix1 k)) (fun k => M (ix2 b ⟨3072 + k.val, by omega⟩)) (fun k => M (ix2 b ⟨4096 + k.val, by omega⟩)) k * wi (ix2 k ⟨1184 + d.val, by omega⟩)) := by
  pointwise [gates]
  simp only [hid_at]
  rfl

/-- The transform's rows in order. -/
def fr (f : Vec Ideal S4x64x128x512 .f32) : FVec Ideal S4x8192x512 .f32 :=
  shapeCast _ (transpose S4x128x64x512 [0, 2, 1, 3] f transposes_S4x64x128x512_S4x128x64x512_0_2_1_3) shapeCasts_S4x128x64x512_S4x8192x512

theorem fr_at (f : Vec Ideal S4x64x128x512 .f32) (b : Fin 4) (s : Fin 8192) (k : Fin 512) :
    fr f (ix3 b s k) = f (ix4 b ⟨s.val % 64, by omega⟩ ⟨s.val / 64, by omega⟩ k) := by
  pointwise [fr]

/-- The attention's rows in order. -/
def pr (p : Vec Ideal S4x8x16x64x512 .bf16) : FVec Ideal S4x8192x512 .f32 :=
  shapeCast _ (transpose S4x16x512x8x64 [0, 2, 4, 1, 3] (extf .f32 (show FVec Ideal S4x8x16x64x512 .bf16 from p) bitsLt_bf16_f32) transposes_S4x8x16x64x512_S4x16x512x8x64_0_2_4_1_3) shapeCasts_S4x16x512x8x64_S4x8192x512

theorem pr_at (p : Vec Ideal S4x8x16x64x512 .bf16) (b : Fin 4) (s : Fin 8192) (k : Fin 512) :
    pr p (ix3 b s k) = p (ix5 b ⟨k.val / 64, by omega⟩ ⟨s.val / 512, by omega⟩ ⟨k.val % 64, by omega⟩ ⟨s.val % 512, by omega⟩) := by
  pointwise [pr]

/-- The gated sum of the branches. -/
def both (X : Vec Ideal S4x8192x1024 .f32) (M : Vec Ideal S4x9216 .f32) (g : Vec Ideal S1024 .f32) (f : Vec Ideal S4x64x128x512 .f32)
    (p : Vec Ideal S4x8x16x64x512 .bf16) (wi : Vec Ideal S1024x3232 .f32) (wf wm : Vec Ideal S512x1024 .f32) : FVec Ideal S4x8192x1024 .f32 :=
  addf (mulf (extractStridedSlice S4x8192x1024 ![0, 0, 0] (gates X M g wi) slices_S4x8192x2048_S4x8192x1024_0_0_0) (Host.dotGeneral (φ₁ := .f32) (φ₂ := .f32) dot_S4x8192x512_S512x1024_S4x8192x1024_2_0_01_1_n_n none (fr f) wf)) (mulf (extractStridedSlice S4x8192x1024 ![0, 0, 1024] (gates X M g wi) slices_S4x8192x2048_S4x8192x1024_0_0_1024) (Host.dotGeneral (φ₁ := .f32) (φ₂ := .f32) dot_S4x8192x512_S512x1024_S4x8192x1024_2_0_01_1_n_n none (pr p) wm))

theorem both_at (X : Vec Ideal S4x8192x1024 .f32) (M : Vec Ideal S4x9216 .f32) (g : Vec Ideal S1024 .f32) (f : Vec Ideal S4x64x128x512 .f32)
    (p : Vec Ideal S4x8x16x64x512 .bf16) (wi : Vec Ideal S1024x3232 .f32) (wf wm : Vec Ideal S512x1024 .f32) (b : Fin 4) (s : Fin 8192) (d : Fin 1024) :
    both X M g f p wi wf wm (ix3 b s d)
      = Merge.both (Ffn.modu (fun k => X (ix3 b s k)) (fun k => g (ix1 k)) (fun k => M (ix2 b ⟨3072 + k.val, by omega⟩)) (fun k => M (ix2 b ⟨4096 + k.val, by omega⟩)))
          (fun k j => wi (ix2 k j)) (fun k => f (ix4 b ⟨s.val % 64, by omega⟩ ⟨s.val / 64, by omega⟩ k))
          (fun k => p (ix5 b ⟨k.val / 64, by omega⟩ ⟨s.val / 512, by omega⟩ ⟨k.val % 64, by omega⟩ ⟨s.val % 512, by omega⟩))
          (fun k j => wf (ix2 k j)) (fun k j => wm (ix2 k j)) d := by
  pointwise [both]
  simp only [gates_at, fr_at, pr_at]
  unfold Merge.both Merge.gate
  have e0 : ∀ k : Fin 1024, wi (ix2 k ⟨1184 + (⟨d.val, by omega⟩ : Fin 2048).val, by show 1184 + d.val < 3232; omega⟩) = wi (ix2 k ⟨1184 + d.val, by omega⟩) := fun _ => rfl
  have e1 : ∀ k : Fin 1024, wi (ix2 k ⟨1184 + (⟨1024 + d.val, by omega⟩ : Fin 2048).val, by show 1184 + (1024 + d.val) < 3232; omega⟩) = wi (ix2 k ⟨2208 + d.val, by omega⟩) :=
    fun k => congrArg (fun q => wi (ix2 k q)) (Fin.ext (by show 1184 + (1024 + d.val) = 2208 + d.val; omega))
  simp only [e0, e1]

/-- The rows with the merge added. -/
def tot (X : Vec Ideal S4x8192x1024 .f32) (M : Vec Ideal S4x9216 .f32) (g : Vec Ideal S1024 .f32) (f : Vec Ideal S4x64x128x512 .f32)
    (p : Vec Ideal S4x8x16x64x512 .bf16) (wi : Vec Ideal S1024x3232 .f32) (wf wm : Vec Ideal S512x1024 .f32) (wo : Vec Ideal S1024x1024 .f32) : FVec Ideal S4x8192x1024 .f32 :=
  addf X (mulf (broadcastInDim S4x8192x1024 ![0, 1, 2] bcast_S4x1x1024_S4x8192x1024_0_1_2 (broadcastInDim S4x1x1024 ![0, 2] bcast_S4x1024_S4x1x1024_0_2 (extractStridedSlice S4x1024 ![0, 5120] M slices_S4x9216_S4x1024_0_5120))) (Host.dotGeneral (φ₁ := .f32) (φ₂ := .f32) dot_S4x8192x1024_S1024x1024_S4x8192x1024_2_0_01_1_n_n none (both X M g f p wi wf wm) wo))

theorem tot_at (X : Vec Ideal S4x8192x1024 .f32) (M : Vec Ideal S4x9216 .f32) (g : Vec Ideal S1024 .f32) (f : Vec Ideal S4x64x128x512 .f32)
    (p : Vec Ideal S4x8x16x64x512 .bf16) (wi : Vec Ideal S1024x3232 .f32) (wf wm : Vec Ideal S512x1024 .f32) (wo : Vec Ideal S1024x1024 .f32) (b : Fin 4) (s : Fin 8192) (d : Fin 1024) :
    tot X M g f p wi wf wm wo (ix3 b s d)
      = Merge.step (fun k => X (ix3 b s k)) (fun k => g (ix1 k)) (fun k => M (ix2 b ⟨3072 + k.val, by omega⟩)) (fun k => M (ix2 b ⟨4096 + k.val, by omega⟩)) (fun k => M (ix2 b ⟨5120 + k.val, by omega⟩))
          (fun k j => wi (ix2 k j)) (fun k => f (ix4 b ⟨s.val % 64, by omega⟩ ⟨s.val / 64, by omega⟩ k))
          (fun k => p (ix5 b ⟨k.val / 64, by omega⟩ ⟨s.val / 512, by omega⟩ ⟨k.val % 64, by omega⟩ ⟨s.val % 512, by omega⟩))
          (fun k j => wf (ix2 k j)) (fun k j => wm (ix2 k j)) (fun k j => wo (ix2 k j)) d := by
  pointwise [tot]
  simp only [both_at]
  rfl

/-- The reference's result. -/
def res (X : Vec Ideal S4x8192x1024 .f32) (M : Vec Ideal S4x9216 .f32) (g : Vec Ideal S1024 .f32) (f : Vec Ideal S4x64x128x512 .f32)
    (p : Vec Ideal S4x8x16x64x512 .bf16) (wi : Vec Ideal S1024x3232 .f32) (wf wm : Vec Ideal S512x1024 .f32) (wo : Vec Ideal S1024x1024 .f32) : FVec Ideal S32768x1024 .f32 :=
  shapeCast _ (tot X M g f p wi wf wm wo) shapeCasts_S4x8192x1024_S32768x1024

theorem res_at (X : Vec Ideal S4x8192x1024 .f32) (M : Vec Ideal S4x9216 .f32) (g : Vec Ideal S1024 .f32) (f : Vec Ideal S4x64x128x512 .f32)
    (p : Vec Ideal S4x8x16x64x512 .bf16) (wi : Vec Ideal S1024x3232 .f32) (wf wm : Vec Ideal S512x1024 .f32) (wo : Vec Ideal S1024x1024 .f32) (i : Fin 32768) (d : Fin 1024) :
    res X M g f p wi wf wm wo (ix2 i d)
      = Merge.out (fun b s k => X (ix3 b s k)) (fun b k => M (ix2 b k)) (fun k => g (ix1 k)) (fun b v u k => f (ix4 b v u k)) (fun b h t v q => p (ix5 b h t v q))
          (fun k j => wi (ix2 k j)) (fun k j => wf (ix2 k j)) (fun k j => wm (ix2 k j)) (fun k j => wo (ix2 k j)) i d := by
  pointwise [res]
  rw [tot_at]
  unfold Merge.out
  congr 1
  · funext k
    exact congrArg (fun v => f (ix4 _ v _ k)) (Fin.ext (by show i.val % 8192 % 64 = i.val % 64; omega))
  · funext k
    exact congrArg (fun v => p (ix5 _ _ _ _ v)) (Fin.ext (by show i.val % 8192 % 512 = i.val % 512; omega))

theorem res_eq (m : (ℓ : Loc nD τ sig) → Buf (Elt Ideal) ℓ) (c : Dev nD) :
    Value.res_out0 m c = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := rfl

end Cert.Proof.MergeRef
end
end
-- ==== Proof.lean ====
/- The proof of the claim: the two transform calls run to the end and leave their argument and every semaphore as they were, and at the
   ideal instance, from finite words, their result is the reference's; each feed-forward call and the merge leave their arguments and semaphores
   as they were, and at the ideal instance their results are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Run
public import proofs.«01_k».proof.Proof.Same
public import proofs.«01_k».proof.Proof.Value
public import proofs.«01_k».proof.Proof.Ffn2
public import proofs.«01_k».proof.Proof.Ffn2Ref
public import proofs.«01_k».proof.Proof.Ffn3
public import proofs.«01_k».proof.Proof.Ffn3Ref
public import proofs.«01_k».proof.Proof.MergeKernel
public import proofs.«01_k».proof.Proof.MergeRef
public import Idealize.ShloMosaic.Lib.Quiescent

@[expose] public section

noncomputable section

namespace Cert.Proof

open Idealize.ShloMosaic Idealize.SL.Sem

theorem frame_kernel : Cert.quiescent_Kernel := by
  intro m ρ _
  exact Same.run_of m ρ _ ((θ_run Cert.KernelIdeal.defs _ _).mono (fun _ h => ⟨fun c => (h.1 c).1, h.2⟩) (Run.run_main (F := Bits) m ρ))

theorem frame_ideal : Cert.quiescent_KernelIdeal := by
  intro m ρ _
  exact (θ_run Cert.KernelIdeal.defs _ _).mono (fun _ h => ⟨fun c => (h.1 c).1, h.2⟩) (Run.run_main (F := Ideal) m ρ)

theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

theorem equal : Cert.algebraic_KernelIdeal_ReferenceIdeal_pre_finite := by
  intro m ρ m' ρ' hpre hm
  refine ⟨fun c => FftB.res (Run.VB m) c, ?_, ?_⟩
  · exact (θ_run Cert.KernelIdeal.defs _ _).mono (fun _ h c => ⟨(h.1 c).2, (h.1 c).1⟩) (Run.run_main (F := Ideal) m ρ)
  · refine (θ_run Cert.ReferenceIdeal.defs _ _).mono (fun r h c => ⟨(h c).1.trans ?_, (h c).2⟩) (Cert.ReferenceIdeal.Value.run (F := Ideal) m' ρ')
    rw [hm c]
    exact Value.same m c (hpre c)

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_reference2 : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

theorem equal2 : Cert.algebraic_Kernel2Ideal_Reference2Ideal := by
  intro m ρ m' ρ' _ hm
  refine ⟨fun c => (Cert.Kernel2Ideal.Gen.dats m 0 c).arrAt 7 Cert.Kernel2Ideal.cfg0.N, Cert.Kernel2Ideal.Value.run_blocks (F := Ideal) m ρ, ?_⟩
  refine (θ_run Cert.Reference2Ideal.defs _ _).mono (fun r h c => ⟨(h c).1.trans ?_, (h c).2⟩) (Cert.Reference2Ideal.Value.run (F := Ideal) m' ρ')
  refine (Ffn2Ref.res_eq m' c).trans ?_
  obtain ⟨h0, h1, h2, h3, h4, h5, h6⟩ := hm c
  rw [h0, h1, h2, h3, h4, h5]
  funext y
  obtain ⟨i, d, rfl⟩ : ∃ (i : Fin 32768) (d : Fin 1024), y = ix2 i d := ⟨y 0, y 1, by
    funext a; match a with
    | ⟨0, _⟩ => rfl
    | ⟨1, _⟩ => rfl⟩
  exact (Ffn2Ref.res_at _ _ _ _ _ _ i d).trans (Ffn2.kernel_at m c _ _ _ _ _ _ rfl rfl rfl rfl rfl rfl i d).symm

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_reference3 : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

theorem equal3 : Cert.algebraic_Kernel3Ideal_Reference3Ideal := by
  intro m ρ m' ρ' _ hm
  refine ⟨fun c => (Cert.Kernel3Ideal.Gen.dats m 0 c).arrAt 7 Cert.Kernel3Ideal.cfg0.N, Cert.Kernel3Ideal.Value.run_blocks (F := Ideal) m ρ, ?_⟩
  refine (θ_run Cert.Reference3Ideal.defs _ _).mono (fun r h c => ⟨(h c).1.trans ?_, (h c).2⟩) (Cert.Reference3Ideal.Value.run (F := Ideal) m' ρ')
  refine (Ffn3Ref.res_eq m' c).trans ?_
  obtain ⟨h0, h1, h2, h3, h4, h5, h6⟩ := hm c
  rw [h0, h1, h2, h3, h4, h5, h6]
  funext y
  obtain ⟨i, d, rfl⟩ : ∃ (i : Fin 32768) (d : Fin 1024), y = ix2 i d := ⟨y 0, y 1, by
    funext a; match a with
    | ⟨0, _⟩ => rfl
    | ⟨1, _⟩ => rfl⟩
  exact (Ffn3Ref.res_at _ _ _ _ _ _ _ i d).trans (Ffn3.kernel_at m c _ _ _ _ _ _ _ rfl rfl rfl rfl rfl rfl rfl i d).symm

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run (F := Ideal) m ρ)

theorem equal4 : Cert.algebraic_Kernel4Ideal_Reference4Ideal := by
  intro m ρ m' ρ' _ hm
  refine ⟨fun c => (Cert.Kernel4Ideal.Gen.dats m 0 c).arrAt 9 Cert.Kernel4Ideal.cfg0.N, Cert.Kernel4Ideal.Value.run_blocks (F := Ideal) m ρ, ?_⟩
  refine (θ_run Cert.Reference4Ideal.defs _ _).mono (fun r h c => ⟨(h c).1.trans ?_, (h c).2⟩) (Cert.Reference4Ideal.Value.run (F := Ideal) m' ρ')
  refine (MergeRef.res_eq m' c).trans ?_
  obtain ⟨h0, h1, h2, h3, h4, h5, h6, h7, h8⟩ := hm c
  rw [h0, h1, h2, h3, h4, h5, h6, h7, h8]
  funext y
  obtain ⟨i, d, rfl⟩ : ∃ (i : Fin 32768) (d : Fin 1024), y = ix2 i d := ⟨y 0, y 1, by
    funext a; match a with
    | ⟨0, _⟩ => rfl
    | ⟨1, _⟩ => rfl⟩
  exact (MergeRef.res_at _ _ _ _ _ _ _ _ _ i d).trans (MergeKernel.kernel_at m c _ _ _ _ _ _ _ _ _ rfl rfl rfl rfl rfl rfl rfl rfl rfl i d).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, RefVal.pre_facts,
    frame_kernel, frame_ideal, fun m ρ _ => frame_ideal m ρ trivial, frame_reference, fun m ρ _ => frame_reference m ρ trivial,
    frame_kernel2, frame_ideal2, frame_reference2, frame_kernel3, frame_ideal3, frame_reference3,
    frame_kernel4, frame_ideal4, frame_reference4, trivial, equal, trivial, equal2, trivial, equal3, trivial, equal4⟩

end Cert.Proof

end
